-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5)
      ∧ r.2.mem ((c.tc : Thread Cert.Kernel18.nD Cert.Kernel18.τ).loc Cert.Kernel18.main_arg6) = m ((c.tc : Thread Cert.Kernel18.nD Cert.Kernel18.τ).loc Cert.Kernel18.main_arg6))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def preserves_Kernel_KernelIdeal : Prop :=
  IdealRules.named_const.Statement Cert.KernelIdeal.κ "gelu_a" .f32 0x3D372713#32 ((8943 / 200000 : ℝ) : EReal)
  ∧ IdealRules.named_const.Statement Cert.KernelIdeal.κ "gelu_3a" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_v102) = v1 c
          ∧ r.2.mem ((c.tc : Thread Cert.ReferenceIdeal.nD Cert.ReferenceIdeal.τ).loc Cert.ReferenceIdeal.main_v164) = v2 c
          ∧ r.2.mem ((c.tc : Thread Cert.ReferenceIdeal.nD Cert.ReferenceIdeal.τ).loc Cert.ReferenceIdeal.main_v165) = v3 c
          ∧ r.2.mem ((c.tc : Thread Cert.ReferenceIdeal.nD Cert.ReferenceIdeal.τ).loc Cert.ReferenceIdeal.main_v166) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_v12) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_v9) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v9) = v0 c
          ∧ r.2.mem ((c.tc : Thread Cert.Reference8Ideal.nD Cert.Reference8Ideal.τ).loc Cert.Reference8Ideal.main_v10) = v1 c
          ∧ r.2.mem ((c.tc : Thread Cert.Reference8Ideal.nD Cert.Reference8Ideal.τ).loc Cert.Reference8Ideal.main_v11) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v36) = v0 c
          ∧ r.2.mem ((c.tc : Thread Cert.Reference9Ideal.nD Cert.Reference9Ideal.τ).loc Cert.Reference9Ideal.main_v37) = v1 c
          ∧ r.2.mem ((c.tc : Thread Cert.Reference9Ideal.nD Cert.Reference9Ideal.τ).loc Cert.Reference9Ideal.main_v38) = v2 c
          ∧ r.2.mem ((c.tc : Thread Cert.Reference9Ideal.nD Cert.Reference9Ideal.τ).loc Cert.Reference9Ideal.main_v39) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v7) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v7) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v7) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v8) = v0 c
          ∧ r.2.mem ((c.tc : Thread Cert.Reference17Ideal.nD Cert.Reference17Ideal.τ).loc Cert.Reference17Ideal.main_v9) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)
      ∧ m' ((c.tc : Thread Cert.Reference18Ideal.nD Cert.Reference18Ideal.τ).loc Cert.Reference18Ideal.main_arg6) = m ((c.tc : Thread Cert.Kernel18Ideal.nD Cert.Kernel18Ideal.τ).loc Cert.Kernel18Ideal.main_arg6)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)) (v4 : (c : Dev Cert.Kernel18Ideal.nD) → Buf (Elt Ideal) ((c.tc : Thread Cert.Kernel18Ideal.nD Cert.Kernel18Ideal.τ).loc Cert.Kernel18Ideal.main_v0_4)) (v5 : (c : Dev Cert.Kernel18Ideal.nD) → Buf (Elt Ideal) ((c.tc : Thread Cert.Kernel18Ideal.nD Cert.Kernel18Ideal.τ).loc Cert.Kernel18Ideal.main_v0_5)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_v0_4) = v4 c
          ∧ r.2.mem ((c.tc : Thread Cert.Kernel18Ideal.nD Cert.Kernel18Ideal.τ).loc Cert.Kernel18Ideal.main_v0_5) = v5 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
          ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v50) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_v28) = v2 c
          ∧ r.2.mem ((c.tc : Thread Cert.Reference18Ideal.nD Cert.Reference18Ideal.τ).loc Cert.Reference18Ideal.main_v33) = v3 c
          ∧ r.2.mem ((c.tc : Thread Cert.Reference18Ideal.nD Cert.Reference18Ideal.τ).loc Cert.Reference18Ideal.main_v59) = v4 c
          ∧ r.2.mem ((c.tc : Thread Cert.Reference18Ideal.nD Cert.Reference18Ideal.τ).loc Cert.Reference18Ideal.main_v58) = v5 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5)
          ∧ r.2.mem ((c.tc : Thread Cert.Reference18Ideal.nD Cert.Reference18Ideal.τ).loc Cert.Reference18Ideal.main_arg6) = m' ((c.tc : Thread Cert.Reference18Ideal.nD Cert.Reference18Ideal.τ).loc Cert.Reference18Ideal.main_arg6))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v50) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_v28) = v2 c
          ∧ r.2.mem ((c.tc : Thread Cert.Reference19Ideal.nD Cert.Reference19Ideal.τ).loc Cert.Reference19Ideal.main_v33) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v1)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v45) = v0 c
          ∧ r.2.mem ((c.tc : Thread Cert.Reference20Ideal.nD Cert.Reference20Ideal.τ).loc Cert.Reference20Ideal.main_v46) = v1 c
          ∧ r.2.mem ((c.tc : Thread Cert.Reference20Ideal.nD Cert.Reference20Ideal.τ).loc Cert.Reference20Ideal.main_v47) = v2 c
          ∧ r.2.mem ((c.tc : Thread Cert.Reference20Ideal.nD Cert.Reference20Ideal.τ).loc Cert.Reference20Ideal.main_v48) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v6) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v19) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v4) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  IdealRules.named_const.Statement Cert.Kernel24Ideal.κ "gelu_a" .f32 0x3D372713#32 ((8943 / 200000 : ℝ) : EReal)

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)) →
    ∃ (v0 : (c : Dev Cert.Kernel24Ideal.nD) → Buf (Elt Ideal) ((c.tc : Thread Cert.Kernel24Ideal.nD Cert.Kernel24Ideal.τ).loc Cert.Kernel24Ideal.main_v3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v3) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v69) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v0) = v0 c
          ∧ r.2.mem ((c.tc : Thread Cert.Reference25Ideal.nD Cert.Reference25Ideal.τ).loc Cert.Reference25Ideal.main_v24) = v1 c
          ∧ r.2.mem ((c.tc : Thread Cert.Reference25Ideal.nD Cert.Reference25Ideal.τ).loc Cert.Reference25Ideal.main_v5) = v2 c
          ∧ r.2.mem ((c.tc : Thread Cert.Reference25Ideal.nD Cert.Reference25Ideal.τ).loc Cert.Reference25Ideal.main_v11) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v1) = v0 c
          ∧ r.2.mem ((c.tc : Thread Cert.Reference26Ideal.nD Cert.Reference26Ideal.τ).loc Cert.Reference26Ideal.main_v25) = v1 c
          ∧ r.2.mem ((c.tc : Thread Cert.Reference26Ideal.nD Cert.Reference26Ideal.τ).loc Cert.Reference26Ideal.main_v6) = v2 c
          ∧ r.2.mem ((c.tc : Thread Cert.Reference26Ideal.nD Cert.Reference26Ideal.τ).loc Cert.Reference26Ideal.main_v12) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
-- ==== Pre_finite.lean ====
abbrev S8192x6144 : Shape := ⟨2, ![8192, 6144]⟩
abbrev S8192x512 : Shape := ⟨2, ![8192, 512]⟩
abbrev S512 : Shape := ⟨1, ![512]⟩
abbrev S4x128x128 : Shape := ⟨3, ![4, 128, 128]⟩
abbrev S4x128 : Shape := ⟨2, ![4, 128]⟩
abbrev S8192x1024 : Shape := ⟨2, ![8192, 1024]⟩
abbrev S_ : Shape := ⟨0, ![]⟩

class Facts : Prop where
  slices_S8192x6144_S8192x1024_0_0 : S8192x6144.Slices ![0, 0] S8192x1024
  bcast_S_S8192x1024 : S_.BroadcastsInDim S8192x1024 (![] : Fin 0 → Fin S8192x1024.rank)
  bcast_S_S8192x512 : S_.BroadcastsInDim S8192x512 (![] : Fin 0 → Fin S8192x512.rank)
  bcast_S_S512 : S_.BroadcastsInDim S512 (![] : Fin 0 → Fin S512.rank)
  bcast_S_S4x128x128 : S_.BroadcastsInDim S4x128x128 (![] : Fin 0 → Fin S4x128x128.rank)
  bcast_S_S4x128 : S_.BroadcastsInDim S4x128 (![] : Fin 0 → Fin S4x128.rank)

variable [Facts]

def fn_part1 {F : FTy → Type} [FloatOps F] (main_v3 : IVec S8192x1024 1) (main_v6 : IVec S8192x512 1) (main_v9 : IVec S512 1) (main_v12 : IVec S512 1) (main_v15 : IVec S4x128x128 1) (main_v16 : FVec F S4x128 .f32) (main_v17 : FVec F S4x128 .f32) : IVec S8192x1024 1 × IVec S8192x512 1 × IVec S512 1 × IVec S512 1 × IVec S4x128x128 1 × IVec S4x128 1 :=
  let main_v18 : IVec S4x128 1 := cmpf .olt main_v16 main_v17
  (main_v3, main_v6, main_v9, main_v12, main_v15, main_v18)

def fn {F : FTy → Type} [FloatOps F] (main_arg0 : FVec F S8192x6144 .bf16) (main_arg1 : FVec F S8192x512 .bf16) (main_arg2 : FVec F S512 .f32) (main_arg3 : FVec F S512 .f32) (main_arg4 : FVec F S4x128x128 .f32) (main_arg5 : FVec F S4x128 .f32) (main_arg6 : FVec F S8192x6144 .bf16) : IVec S8192x1024 1 × IVec S8192x512 1 × IVec S512 1 × IVec S512 1 × IVec S4x128x128 1 × IVec S4x128 1 :=
  let main_v0 : FVec F S8192x1024 .bf16 := (extractStridedSlice S8192x1024 ![0, 0] · slices_S8192x6144_S8192x1024_0_0) main_arg0
  let main_v1 : FVec F S8192x1024 .bf16 := Host.absf main_v0
  let main_cst : FVec F S_ .bf16 := constant S_ .bf16 0x7F80#16
  let main_v2 : FVec F S8192x1024 .bf16 := broadcastInDim S8192x1024 ![] bcast_S_S8192x1024 main_cst
  let main_v3 : IVec S8192x1024 1 := cmpf .olt main_v1 main_v2
  let main_v4 : FVec F S8192x512 .bf16 := Host.absf main_arg1
  let main_cst_0 : FVec F S_ .bf16 := constant S_ .bf16 0x7F80#16
  let main_v5 : FVec F S8192x512 .bf16 := broadcastInDim S8192x512 ![] bcast_S_S8192x512 main_cst_0
  let main_v6 : IVec S8192x512 1 := cmpf .olt main_v4 main_v5
  let main_v7 : FVec F S512 .f32 := Host.absf main_arg2
  let main_cst_1 : FVec F S_ .f32 := constant S_ .f32 0x7F800000#32
  let main_v8 : FVec F S512 .f32 := broadcastInDim S512 ![] bcast_S_S512 main_cst_1
  let main_v9 : IVec S512 1 := cmpf .olt main_v7 main_v8
  let main_v10 : FVec F S512 .f32 := Host.absf main_arg3
  let main_cst_2 : FVec F S_ .f32 := constant S_ .f32 0x7F800000#32
  let main_v11 : FVec F S512 .f32 := broadcastInDim S512 ![] bcast_S_S512 main_cst_2
  let main_v12 : IVec S512 1 := cmpf .olt main_v10 main_v11
  let main_v13 : FVec F S4x128x128 .f32 := Host.absf main_arg4
  let main_cst_3 : FVec F S_ .f32 := constant S_ .f32 0x7F800000#32
  let main_v14 : FVec F S4x128x128 .f32 := broadcastInDim S4x128x128 ![] bcast_S_S4x128x128 main_cst_3
  let main_v15 : IVec S4x128x128 1 := cmpf .olt main_v13 main_v14
  let main_v16 : FVec F S4x128 .f32 := Host.absf main_arg5
  let main_cst_4 : FVec F S_ .f32 := constant S_ .f32 0x7F800000#32
  let main_v17 : FVec F S4x128 .f32 := broadcastInDim S4x128 ![] bcast_S_S4x128 main_cst_4
  fn_part1 (F := F) main_v3 main_v6 main_v9 main_v12 main_v15 main_v16 main_v17
-- ==== Pre_finite2.lean ====
abbrev S8192x1024 : Shape := ⟨2, ![8192, 1024]⟩
abbrev S3072x1024 : Shape := ⟨2, ![3072, 1024]⟩
abbrev S8192x3072 : Shape := ⟨2, ![8192, 3072]⟩
abbrev S_ : Shape := ⟨0, ![]⟩

class Facts : Prop where
  bcast_S_S8192x1024 : S_.BroadcastsInDim S8192x1024 (![] : Fin 0 → Fin S8192x1024.rank)
  bcast_S_S3072x1024 : S_.BroadcastsInDim S3072x1024 (![] : Fin 0 → Fin S3072x1024.rank)
  bcast_S_S8192x3072 : S_.BroadcastsInDim S8192x3072 (![] : Fin 0 → Fin S8192x3072.rank)

variable [Facts]

def fn {F : FTy → Type} [FloatOps F] (main_arg0 : FVec F S8192x1024 .bf16) (main_arg1 : FVec F S3072x1024 .bf16) (main_arg2 : FVec F S8192x3072 .bf16) (main_arg3 : FVec F S8192x3072 .bf16) : IVec S8192x1024 1 × IVec S3072x1024 1 × IVec S8192x3072 1 :=
  let main_v0 : FVec F S8192x1024 .bf16 := Host.absf main_arg0
  let main_cst : FVec F S_ .bf16 := constant S_ .bf16 0x7F80#16
  let main_v1 : FVec F S8192x1024 .bf16 := broadcastInDim S8192x1024 ![] bcast_S_S8192x1024 main_cst
  let main_v2 : IVec S8192x1024 1 := cmpf .olt main_v0 main_v1
  let main_v3 : FVec F S3072x1024 .bf16 := Host.absf main_arg1
  let main_cst_0 : FVec F S_ .bf16 := constant S_ .bf16 0x7F80#16
  let main_v4 : FVec F S3072x1024 .bf16 := broadcastInDim S3072x1024 ![] bcast_S_S3072x1024 main_cst_0
  let main_v5 : IVec S3072x1024 1 := cmpf .olt main_v3 main_v4
  let main_v6 : FVec F S8192x3072 .bf16 := Host.absf main_arg3
  let main_cst_1 : FVec F S_ .bf16 := constant S_ .bf16 0x7F80#16
  let main_v7 : FVec F S8192x3072 .bf16 := broadcastInDim S8192x3072 ![] bcast_S_S8192x3072 main_cst_1
  let main_v8 : IVec S8192x3072 1 := cmpf .olt main_v6 main_v7
  (main_v2, main_v5, main_v8)
-- ==== Kernel.lean ====
abbrev S8192x6144 : Shape := ⟨2, ![8192, 6144]⟩
abbrev S8192x512 : Shape := ⟨2, ![8192, 512]⟩
abbrev S512 : Shape := ⟨1, ![512]⟩
abbrev S4x128x128 : Shape := ⟨3, ![4, 128, 128]⟩
abbrev S4x128 : Shape := ⟨2, ![4, 128]⟩
abbrev S1x512 : Shape := ⟨2, ![1, 512]⟩
abbrev S128x4 : Shape := ⟨2, ![128, 4]⟩
abbrev S512x512 : Shape := ⟨2, ![512, 512]⟩
abbrev S512x1024 : Shape := ⟨2, ![512, 1024]⟩
abbrev S128x128 : Shape := ⟨2, ![128, 128]⟩
abbrev S1x128x128 : Shape := ⟨3, ![1, 128, 128]⟩
abbrev S128x512 : Shape := ⟨2, ![128, 512]⟩
abbrev S128 : Shape := ⟨1, ![128]⟩
abbrev S128x1 : Shape := ⟨2, ![128, 1]⟩

abbrev nBuf : Space → Nat
  | .hbm => 15
  | .vmem => 16
  | .smem => 0
  | _ => 0

abbrev bufTy : (tb : Table) → Fin (tcTables nBuf tb) → BufTy
  | .hbm, ⟨0, _⟩ => ⟨S8192x6144, .bf16⟩
  | .hbm, ⟨1, _⟩ => ⟨S8192x512, .bf16⟩
  | .hbm, ⟨2, _⟩ => ⟨S512, .f32⟩
  | .hbm, ⟨3, _⟩ => ⟨S512, .f32⟩
  | .hbm, ⟨4, _⟩ => ⟨S4x128x128, .f32⟩
  | .hbm, ⟨5, _⟩ => ⟨S4x128, .f32⟩
  | .hbm, ⟨6, _⟩ => ⟨S8192x6144, .bf16⟩
  | .hbm, ⟨7, _⟩ => ⟨S1x512, .f32⟩
  | .hbm, ⟨8, _⟩ => ⟨S1x512, .f32⟩
  | .hbm, ⟨9, _⟩ => ⟨S128x4, .f32⟩
  | .hbm, ⟨10, _⟩ => ⟨S8192x6144, .bf16⟩
  | .hbm, ⟨11, _⟩ => ⟨S4x128x128, .f32⟩
  | .hbm, ⟨12, _⟩ => ⟨S4x128x128, .f32⟩
  | .hbm, ⟨13, _⟩ => ⟨S1x512, .f32⟩
  | .hbm, ⟨14, _⟩ => ⟨S1x512, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x512, .f32⟩
  | .local _ .vmem, ⟨7, _⟩ => ⟨S1x512, .f32⟩
  | .local _ .vmem, ⟨8, _⟩ => ⟨S4x128x128, .f32⟩
  | .local _ .vmem, ⟨9, _⟩ => ⟨S128x4, .f32⟩
  | .local _ .vmem, ⟨10, _⟩ => ⟨S512x1024, .bf16⟩
  | .local _ .vmem, ⟨11, _⟩ => ⟨S512x1024, .bf16⟩
  | .local _ .vmem, ⟨12, _⟩ => ⟨S4x128x128, .f32⟩
  | .local _ .vmem, ⟨13, _⟩ => ⟨S4x128x128, .f32⟩
  | .local _ .vmem, ⟨14, _⟩ => ⟨S1x512, .f32⟩
  | .local _ .vmem, ⟨15, _⟩ => ⟨S1x512, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== KernelIdeal.lean ====
variable {F : FTy → Type} [FloatOps F] [Named F]
def κ : String → Option EReal := fun
  | "gelu_3a" => some ((26829 / 200000 : ℝ) : EReal)
  | "gelu_a" => some ((8943 / 200000 : ℝ) : EReal)
  | _ => none
-- ==== ReferenceIdeal.lean ====
abbrev S8192x6144 : Shape := ⟨2, ![8192, 6144]⟩
abbrev S8192x512 : Shape := ⟨2, ![8192, 512]⟩
abbrev S512 : Shape := ⟨1, ![512]⟩
abbrev S4x128x128 : Shape := ⟨3, ![4, 128, 128]⟩
abbrev S4x128 : Shape := ⟨2, ![4, 128]⟩
abbrev S4x2048x6144 : Shape := ⟨3, ![4, 2048, 6144]⟩
abbrev S4x2048x512 : Shape := ⟨3, ![4, 2048, 512]⟩
abbrev S_ : Shape := ⟨0, ![]⟩
abbrev S4x2048 : Shape := ⟨2, ![4, 2048]⟩
abbrev S4x2048x1 : Shape := ⟨3, ![4, 2048, 1]⟩
abbrev S1x1x512 : Shape := ⟨3, ![1, 1, 512]⟩
abbrev S4x16x128x4x128 : Shape := ⟨5, ![4, 16, 128, 4, 128]⟩
abbrev S128x128 : Shape := ⟨2, ![128, 128]⟩
abbrev S1x128x128 : Shape := ⟨3, ![1, 128, 128]⟩
abbrev S4x4x16x128x128 : Shape := ⟨5, ![4, 4, 16, 128, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S4x2048x1024 : Shape := ⟨3, ![4, 2048, 1024]⟩
abbrev S8192x1024 : Shape := ⟨2, ![8192, 1024]⟩
abbrev S4x128x1 : Shape := ⟨3, ![4, 128, 1]⟩
abbrev S1x512 : Shape := ⟨2, ![1, 512]⟩

abbrev nBuf : Space → Nat
  | .hbm => 232
  | .vmem => 0
  | .smem => 0
  | _ => 0

abbrev hbmTy0_0 (i : Nat) : BufTy := match i % 128 with
  | 0 => ⟨S8192x6144, .bf16⟩
  | 1 => ⟨S8192x512, .bf16⟩
  | 2 => ⟨S512, .f32⟩
  | 3 => ⟨S512, .f32⟩
  | 4 => ⟨S4x128x128, .f32⟩
  | 5 => ⟨S4x128, .f32⟩
  | 6 => ⟨S8192x6144, .bf16⟩
  | 7 => ⟨S8192x6144, .f32⟩
  | 8 => ⟨S4x2048x6144, .f32⟩
  | 9 => ⟨S8192x512, .f32⟩
  | 10 => ⟨S4x2048x512, .f32⟩
  | 11 => ⟨S4x2048x512, .f32⟩
  | 12 => ⟨S4x2048x512, .f32⟩
  | 13 => ⟨S_, .f32⟩
  | 14 => ⟨S_, .f32⟩
  | 15 => ⟨S_, .f32⟩
  | 16 => ⟨S4x2048x512, .f32⟩
  | 17 => ⟨S4x2048x512, .f32⟩
  | 18 => ⟨S4x2048x512, .f32⟩
  | 19 => ⟨S_, .f32⟩
  | 20 => ⟨S4x2048x512, .f32⟩
  | 21 => ⟨S4x2048x512, .f32⟩
  | 22 => ⟨S4x2048x512, .f32⟩
  | 23 => ⟨S4x2048x512, .f32⟩
  | 24 => ⟨S4x2048x512, .f32⟩
  | 25 => ⟨S_, .f32⟩
  | 26 => ⟨S4x2048x512, .f32⟩
  | 27 => ⟨S4x2048x512, .f32⟩
  | 28 => ⟨S4x2048x512, .f32⟩
  | 29 => ⟨S_, .f32⟩
  | 30 => ⟨S4x2048x512, .f32⟩
  | 31 => ⟨S4x2048x512, .f32⟩
  | 32 => ⟨S_, .f32⟩
  | 33 => ⟨S4x2048x512, .f32⟩
  | 34 => ⟨S4x2048x512, .f32⟩
  | 35 => ⟨S4x2048x512, .f32⟩
  | 36 => ⟨S_, .f32⟩
  | 37 => ⟨S4x2048x512, .f32⟩
  | 38 => ⟨S4x2048x512, .f32⟩
  | 39 => ⟨S_, .f32⟩
  | 40 => ⟨S4x2048x512, .f32⟩
  | 41 => ⟨S4x2048x512, .f32⟩
  | 42 => ⟨S4x2048x512, .f32⟩
  | 43 => ⟨S_, .f32⟩
  | 44 => ⟨S_, .f32⟩
  | 45 => ⟨S_, .f32⟩
  | 46 => ⟨S4x2048x512, .f32⟩
  | 47 => ⟨S4x2048x512, .f32⟩
  | 48 => ⟨S4x2048x512, .f32⟩
  | 49 => ⟨S_, .f32⟩
  | 50 => ⟨S4x2048x512, .f32⟩
  | 51 => ⟨S4x2048x512, .f32⟩
  | 52 => ⟨S4x2048x512, .f32⟩
  | 53 => ⟨S4x2048x512, .f32⟩
  | 54 => ⟨S4x2048x512, .f32⟩
  | 55 => ⟨S_, .f32⟩
  | 56 => ⟨S4x2048x512, .f32⟩
  | 57 => ⟨S4x2048x512, .f32⟩
  | 58 => ⟨S4x2048x512, .f32⟩
  | 59 => ⟨S_, .f32⟩
  | 60 => ⟨S4x2048x512, .f32⟩
  | 61 => ⟨S4x2048x512, .f32⟩
  | 62 => ⟨S_, .f32⟩
  | 63 => ⟨S4x2048x512, .f32⟩
  | 64 => ⟨S4x2048x512, .f32⟩
  | 65 => ⟨S4x2048x512, .f32⟩
  | 66 => ⟨S_, .f32⟩
  | 67 => ⟨S4x2048x512, .f32⟩
  | 68 => ⟨S4x2048x512, .f32⟩
  | 69 => ⟨S_, .f32⟩
  | 70 => ⟨S4x2048x512, .f32⟩
  | 71 => ⟨S4x2048x512, .f32⟩
  | 72 => ⟨S4x2048x512, .f32⟩
  | 73 => ⟨S_, .f32⟩
  | 74 => ⟨S4x2048, .f32⟩
  | 75 => ⟨S4x2048x1, .f32⟩
  | 76 => ⟨S_, .f32⟩
  | 77 => ⟨S4x2048x1, .f32⟩
  | 78 => ⟨S4x2048x1, .f32⟩
  | 79 => ⟨S4x2048x512, .f32⟩
  | 80 => ⟨S4x2048x512, .f32⟩
  | 81 => ⟨S4x2048x512, .f32⟩
  | 82 => ⟨S_, .f32⟩
  | 83 => ⟨S4x2048, .f32⟩
  | 84 => ⟨S4x2048x1, .f32⟩
  | 85 => ⟨S_, .f32⟩
  | 86 => ⟨S4x2048x1, .f32⟩
  | 87 => ⟨S4x2048x1, .f32⟩
  | 88 => ⟨S_, .f32⟩
  | 89 => ⟨S4x2048x1, .f32⟩
  | 90 => ⟨S4x2048x1, .f32⟩
  | 91 => ⟨S4x2048x1, .f32⟩
  | 92 => ⟨S4x2048x1, .f32⟩
  | 93 => ⟨S_, .f32⟩
  | 94 => ⟨S4x2048x1, .f32⟩
  | 95 => ⟨S4x2048x1, .f32⟩
  | 96 => ⟨S4x2048x512, .f32⟩
  | 97 => ⟨S4x2048x512, .f32⟩
  | 98 => ⟨S1x1x512, .f32⟩
  | 99 => ⟨S4x2048x512, .f32⟩
  | 100 => ⟨S4x2048x512, .f32⟩
  | 101 => ⟨S1x1x512, .f32⟩
  | 102 => ⟨S4x2048x512, .f32⟩
  | 103 => ⟨S4x2048x512, .f32⟩
  | 104 => ⟨S4x16x128x4x128, .f32⟩
  | 105 => ⟨S_, .i1⟩
  | 106 => ⟨S128x128, .i1⟩
  | 107 => ⟨S128x128, .i32⟩
  | 108 => ⟨S_, .i32⟩
  | 109 => ⟨S128x128, .i32⟩
  | 110 => ⟨S128x128, .i32⟩
  | 111 => ⟨S128x128, .i32⟩
  | 112 => ⟨S128x128, .i1⟩
  | 113 => ⟨S_, .i1⟩
  | 114 => ⟨S128x128, .i1⟩
  | 115 => ⟨S128x128, .i1⟩
  | 116 => ⟨S1x128x128, .i1⟩
  | 117 => ⟨S_, .f32⟩
  | 118 => ⟨S_, .f32⟩
  | 119 => ⟨S4x128x128, .i1⟩
  | 120 => ⟨S4x128x128, .f32⟩
  | 121 => ⟨S4x128x128, .f32⟩
  | 122 => ⟨S_, .f32⟩
  | 123 => ⟨S4x128x128, .f32⟩
  | 124 => ⟨S4x4x16x128x128, .f32⟩
  | 125 => ⟨S4x16x128x4x128, .f32⟩
  | 126 => ⟨S128x4, .f32⟩
  | 127 => ⟨S128x4x1, .f32⟩
  | _ => ⟨S8192x6144, .bf16⟩

abbrev hbmTy0_1 (i : Nat) : BufTy := match i % 128 with
  | 0 => ⟨S1x1x128x4x1, .f32⟩
  | 1 => ⟨S4x16x128x4x128, .f32⟩
  | 2 => ⟨S4x16x128x4x128, .f32⟩
  | 3 => ⟨S4x2048x512, .f32⟩
  | 4 => ⟨S4x2048x512, .f32⟩
  | 5 => ⟨S4x2048x512, .f32⟩
  | 6 => ⟨S4x2048x512, .f32⟩
  | 7 => ⟨S4x16x128x4x128, .f32⟩
  | 8 => ⟨S_, .f32⟩
  | 9 => ⟨S128x4, .f32⟩
  | 10 => ⟨S1x1x128x4x1, .f32⟩
  | 11 => ⟨S_, .f32⟩
  | 12 => ⟨S128x4, .f32⟩
  | 13 => ⟨S128x4x1, .f32⟩
  | 14 => ⟨S_, .f32⟩
  | 15 => ⟨S128x4, .f32⟩
  | 16 => ⟨S4x128, .f32⟩
  | 17 => ⟨S4x4x16x128x128, .f32⟩
  | 18 => ⟨S4x128x128, .f32⟩
  | 19 => ⟨S4x4x16x128x128, .f32⟩
  | 20 => ⟨S4x16x128x4x128, .f32⟩
  | 21 => ⟨S_, .f32⟩
  | 22 => ⟨S4x128x128, .f32⟩
  | 23 => ⟨S4x128x128, .f32⟩
  | 24 => ⟨S4x2048x512, .f32⟩
  | 25 => ⟨S_, .f32⟩
  | 26 => ⟨S512, .f32⟩
  | 27 => ⟨S1x1x512, .f32⟩
  | 28 => ⟨S_, .f32⟩
  | 29 => ⟨S512, .f32⟩
  | 30 => ⟨S4x2048x512, .f32⟩
  | 31 => ⟨S_, .f32⟩
  | 32 => ⟨S512, .f32⟩
  | 33 => ⟨S1x1x512, .f32⟩
  | 34 => ⟨S4x2048x512, .f32⟩
  | 35 => ⟨S4x2048x512, .f32⟩
  | 36 => ⟨S_, .f32⟩
  | 37 => ⟨S512, .f32⟩
  | 38 => ⟨S4x2048x512, .f32⟩
  | 39 => ⟨S_, .f32⟩
  | 40 => ⟨S4x2048, .f32⟩
  | 41 => ⟨S4x2048x1, .f32⟩
  | 42 => ⟨S4x2048x512, .f32⟩
  | 43 => ⟨S4x2048x512, .f32⟩
  | 44 => ⟨S4x2048x1, .f32⟩
  | 45 => ⟨S_, .f32⟩
  | 46 => ⟨S4x2048x1, .f32⟩
  | 47 => ⟨S4x2048x1, .f32⟩
  | 48 => ⟨S_, .f32⟩
  | 49 => ⟨S4x2048, .f32⟩
  | 50 => ⟨S4x2048x512, .f32⟩
  | 51 => ⟨S4x2048x512, .f32⟩
  | 52 => ⟨S4x2048x512, .f32⟩
  | 53 => ⟨S4x2048x512, .f32⟩
  | 54 => ⟨S4x2048x512, .f32⟩
  | 55 => ⟨S4x2048x512, .f32⟩
  | 56 => ⟨S_, .f32⟩
  | 57 => ⟨S4x2048, .f32⟩
  | 58 => ⟨S4x2048x1, .f32⟩
  | 59 => ⟨S_, .f32⟩
  | 60 => ⟨S4x2048x1, .f32⟩
  | 61 => ⟨S4x2048x1, .f32⟩
  | 62 => ⟨S_, .f32⟩
  | 63 => ⟨S4x2048, .f32⟩
  | 64 => ⟨S4x2048x512, .f32⟩
  | 65 => ⟨S4x2048x512, .f32⟩
  | 66 => ⟨S4x2048x512, .f32⟩
  | 67 => ⟨S4x2048x512, .f32⟩
  | 68 => ⟨S_, .f32⟩
  | 69 => ⟨S4x2048x512, .f32⟩
  | 70 => ⟨S4x2048x512, .f32⟩
  | 71 => ⟨S4x2048x512, .f32⟩
  | 72 => ⟨S_, .f32⟩
  | 73 => ⟨S4x2048x512, .f32⟩
  | 74 => ⟨S4x2048x512, .f32⟩
  | 75 => ⟨S4x2048x512, .f32⟩
  | 76 => ⟨S4x2048x512, .f32⟩
  | 77 => ⟨S4x2048x512, .f32⟩
  | 78 => ⟨S4x2048x512, .f32⟩
  | 79 => ⟨S4x2048x512, .f32⟩
  | 80 => ⟨S4x2048x512, .f32⟩
  | 81 => ⟨S4x2048x512, .f32⟩
  | 82 => ⟨S_, .f32⟩
  | 83 => ⟨S4x2048x512, .f32⟩
  | 84 => ⟨S4x2048x512, .f32⟩
  | 85 => ⟨S4x2048x512, .f32⟩
  | 86 => ⟨S_, .f32⟩
  | 87 => ⟨S4x2048x512, .f32⟩
  | 88 => ⟨S4x2048x512, .f32⟩
  | 89 => ⟨S4x2048x512, .f32⟩
  | 90 => ⟨S4x2048x512, .f32⟩
  | 91 => ⟨S4x2048x512, .f32⟩
  | 92 => ⟨S4x2048x512, .f32⟩
  | 93 => ⟨S4x2048x512, .f32⟩
  | 94 => ⟨S4x2048x1024, .f32⟩
  | 95 => ⟨S8192x1024, .f32⟩
  | 96 => ⟨S8192x1024, .bf16⟩
  | 97 => ⟨S_, .i32⟩
  | 98 => ⟨S_, .i32⟩
  | 99 => ⟨S8192x6144, .bf16⟩
  | 100 => ⟨S4x128x1, .f32⟩
  | 101 => ⟨S4x128x128, .f32⟩
  | 102 => ⟨S1x512, .f32⟩
  | 103 => ⟨S1x512, .f32⟩
  | _ => ⟨S8192x6144, .bf16⟩

abbrev hbmTy (i : Nat) : BufTy := match i / 128 with
  | 0 => hbmTy0_0 i
  | 1 => hbmTy0_1 i
  | _ => ⟨S8192x6144, .bf16⟩

abbrev bufTy : (tb : Table) → Fin (tcTables nBuf tb) → BufTy
  | .hbm, ⟨i, _⟩ => hbmTy i
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_cst_8 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_9 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_10 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_11 : Ref sig .tc := ⟨.hbm, 59, rfl⟩
abbrev main_v40 : Ref sig .tc := ⟨.hbm, 60, rfl⟩
abbrev main_v41 : Ref sig .tc := ⟨.hbm, 61, rfl⟩
abbrev main_cst_12 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_13 : Ref sig .tc := ⟨.hbm, 66, rfl⟩
abbrev main_v45 : Ref sig .tc := ⟨.hbm, 67, rfl⟩
abbrev main_v46 : Ref sig .tc := ⟨.hbm, 68, rfl⟩
abbrev main_cst_14 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_15 : Ref sig .tc := ⟨.hbm, 73, rfl⟩
abbrev main_v50 : Ref sig .tc := ⟨.hbm, 74, rfl⟩
abbrev main_v51 : Ref sig .tc := ⟨.hbm, 75, rfl⟩
abbrev main_cst_16 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_17 : Ref sig .tc := ⟨.hbm, 82, rfl⟩
abbrev main_v57 : Ref sig .tc := ⟨.hbm, 83, rfl⟩
abbrev main_v58 : Ref sig .tc := ⟨.hbm, 84, rfl⟩
abbrev main_cst_18 : Ref sig .tc := ⟨.hbm, 85, rfl⟩
abbrev main_v59 : Ref sig .tc := ⟨.hbm, 86, rfl⟩
abbrev main_v60 : Ref sig .tc := ⟨.hbm, 87, rfl⟩
abbrev main_cst_19 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_20 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_c : Ref sig .tc := ⟨.hbm, 105, rfl⟩
abbrev main_v76 : Ref sig .tc := ⟨.hbm, 106, rfl⟩
abbrev main_call0_v0 : Ref sig .tc := ⟨.hbm, 107, rfl⟩
abbrev main_call0_c : Ref sig .tc := ⟨.hbm, 108, rfl⟩
abbrev main_call0_v1 : Ref sig .tc := ⟨.hbm, 109, rfl⟩
abbrev main_call0_v2 : Ref sig .tc := ⟨.hbm, 110, rfl⟩
abbrev main_call0_v3 : Ref sig .tc := ⟨.hbm, 111, rfl⟩
abbrev main_call0_v4 : Ref sig .tc := ⟨.hbm, 112, rfl⟩
abbrev main_call0_c_0 : Ref sig .tc := ⟨.hbm, 113, rfl⟩
abbrev main_call0_v5 : Ref sig .tc := ⟨.hbm, 114, rfl⟩
abbrev main_v77 : Ref sig .tc := ⟨.hbm, 115, rfl⟩
abbrev main_v78 : Ref sig .tc := ⟨.hbm, 116, rfl⟩
abbrev main_cst_21 : Ref sig .tc := ⟨.hbm, 117, rfl⟩
abbrev main_call1_v0 : Ref sig .tc := ⟨.hbm, 118, rfl⟩
abbrev main_v79_1 : Ref sig .tc := ⟨.hbm, 119, rfl⟩
abbrev main_call1_v2 : Ref sig .tc := ⟨.hbm, 120, rfl⟩
abbrev main_v79_0 : Ref sig .tc := ⟨.hbm, 121, rfl⟩
abbrev main_call1_cst : Ref sig .tc := ⟨.hbm, 122, rfl⟩
abbrev main_v79_2 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_cst_22 : Ref sig .tc := ⟨.hbm, 136, rfl⟩
abbrev main_v92 : Ref sig .tc := ⟨.hbm, 137, rfl⟩
abbrev main_v93 : Ref sig .tc := ⟨.hbm, 138, rfl⟩
abbrev main_cst_23 : Ref sig .tc := ⟨.hbm, 139, rfl⟩
abbrev main_v94 : Ref sig .tc := ⟨.hbm, 140, rfl⟩
abbrev main_v95 : Ref sig .tc := ⟨.hbm, 141, rfl⟩
abbrev main_cst_24 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_call2_cst : Ref sig .tc := ⟨.hbm, 149, rfl⟩
abbrev main_call2_v0 : Ref sig .tc := ⟨.hbm, 150, rfl⟩
abbrev main_v102 : Ref sig .tc := ⟨.hbm, 151, rfl⟩
abbrev main_v103 : Ref sig .tc := ⟨.hbm, 152, rfl⟩
abbrev main_cst_25 : Ref sig .tc := ⟨.hbm, 153, rfl⟩
abbrev main_v104 : Ref sig .tc := ⟨.hbm, 154, rfl⟩
abbrev main_v105 : Ref sig .tc := ⟨.hbm, 155, rfl⟩
abbrev main_cst_26 : Ref sig .tc := ⟨.hbm, 156, rfl⟩
abbrev main_v106 : Ref sig .tc := ⟨.hbm, 157, rfl⟩
abbrev main_v107 : Ref sig .tc := ⟨.hbm, 158, rfl⟩
abbrev main_cst_27 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_cst_28 : Ref sig .tc := ⟨.hbm, 164, rfl⟩
abbrev main_v112 : Ref sig .tc := ⟨.hbm, 165, rfl⟩
abbrev main_v113 : Ref sig .tc := ⟨.hbm, 166, rfl⟩
abbrev main_cst_29 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_cst_30 : Ref sig .tc := ⟨.hbm, 173, rfl⟩
abbrev main_v119 : Ref sig .tc := ⟨.hbm, 174, rfl⟩
abbrev main_v120 : Ref sig .tc := ⟨.hbm, 175, rfl⟩
abbrev main_cst_31 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_cst_32 : Ref sig .tc := ⟨.hbm, 184, rfl⟩
abbrev main_v128 : Ref sig .tc := ⟨.hbm, 185, rfl⟩
abbrev main_v129 : Ref sig .tc := ⟨.hbm, 186, rfl⟩
abbrev main_cst_33 : Ref sig .tc := ⟨.hbm, 187, rfl⟩
abbrev main_v130 : Ref sig .tc := ⟨.hbm, 188, rfl⟩
abbrev main_v131 : Ref sig .tc := ⟨.hbm, 189, rfl⟩
abbrev main_cst_34 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_cst_35 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_cst_36 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_cst_37 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_cst_38 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_c_39 : Ref sig .tc := ⟨.hbm, 225, rfl⟩
abbrev main_c_40 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩

abbrev nD : Nat := 1
abbrev τ : Topo := Topo.v7x

variable {F : FTy → Type} [FloatOps F]
-- ==== Kernel2.lean ====
abbrev S8192x1024 : Shape := ⟨2, ![8192, 1024]⟩
abbrev S3072x1024 : Shape := ⟨2, ![3072, 1024]⟩
abbrev S8192x3072 : Shape := ⟨2, ![8192, 3072]⟩
abbrev S1024x1024 : Shape := ⟨2, ![1024, 1024]⟩
abbrev S768x1024 : Shape := ⟨2, ![768, 1024]⟩
abbrev S1024x768 : Shape := ⟨2, ![1024, 768]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S3072x1024, .bf16⟩
  | .hbm, ⟨2, _⟩ => ⟨S8192x3072, .bf16⟩
  | .hbm, ⟨3, _⟩ => ⟨S8192x3072, .bf16⟩
  | .hbm, ⟨4, _⟩ => ⟨S8192x3072, .bf16⟩
  | .hbm, ⟨5, _⟩ => ⟨S8192x3072, .bf16⟩
  | .local _ .vmem, ⟨0, _⟩ => ⟨S1024x1024, .bf16⟩
  | .local _ .vmem, ⟨1, _⟩ => ⟨S1024x1024, .bf16⟩
  | .local _ .vmem, ⟨2, _⟩ => ⟨S768x1024, .bf16⟩
  | .local _ .vmem, ⟨3, _⟩ => ⟨S768x1024, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .bf16⟩
  | .local _ .vmem, ⟨7, _⟩ => ⟨S1024x768, .bf16⟩
  | .local _ .vmem, ⟨8, _⟩ => ⟨S1024x768, .bf16⟩
  | .local _ .vmem, ⟨9, _⟩ => ⟨S1024x768, .bf16⟩
  | .local _ .vmem, ⟨10, _⟩ => ⟨S1024x768, .bf16⟩
  | .local _ .vmem, ⟨11, _⟩ => ⟨S1024x768, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8192x1024 : Shape := ⟨2, ![8192, 1024]⟩
abbrev S3072x1024 : Shape := ⟨2, ![3072, 1024]⟩
abbrev S8192x3072 : Shape := ⟨2, ![8192, 3072]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S3072x1024, .bf16⟩
  | .hbm, ⟨2, _⟩ => ⟨S8192x3072, .bf16⟩
  | .hbm, ⟨3, _⟩ => ⟨S8192x3072, .bf16⟩
  | .hbm, ⟨4, _⟩ => ⟨S3072x1024, .f32⟩
  | .hbm, ⟨5, _⟩ => ⟨S8192x3072, .f32⟩
  | .hbm, ⟨6, _⟩ => ⟨S8192x3072, .f32⟩
  | .hbm, ⟨7, _⟩ => ⟨S8192x3072, .f32⟩
  | .hbm, ⟨8, _⟩ => ⟨S8192x3072, .f32⟩
  | .hbm, ⟨9, _⟩ => ⟨S_, .f32⟩
  | .hbm, ⟨10, _⟩ => ⟨S8192x3072, .f32⟩
  | .hbm, ⟨11, _⟩ => ⟨S8192x3072, .f32⟩
  | .hbm, ⟨12, _⟩ => ⟨S_, .f32⟩
  | .hbm, ⟨13, _⟩ => ⟨S8192x3072, .f32⟩
  | .hbm, ⟨14, _⟩ => ⟨S8192x3072, .f32⟩
  | .hbm, ⟨15, _⟩ => ⟨S_, .f32⟩
  | .hbm, ⟨16, _⟩ => ⟨S8192x3072, .f32⟩
  | .hbm, ⟨17, _⟩ => ⟨S8192x3072, .f32⟩
  | .hbm, ⟨18, _⟩ => ⟨S8192x3072, .f32⟩
  | .hbm, ⟨19, _⟩ => ⟨S8192x3072, .f32⟩
  | .hbm, ⟨20, _⟩ => ⟨S8192x3072, .f32⟩
  | .hbm, ⟨21, _⟩ => ⟨S8192x1024, .f32⟩
  | .hbm, ⟨22, _⟩ => ⟨S8192x1024, .f32⟩
  | .hbm, ⟨23, _⟩ => ⟨S8192x3072, .f32⟩
  | .hbm, ⟨24, _⟩ => ⟨S8192x3072, .f32⟩
  | .hbm, ⟨25, _⟩ => ⟨S8192x3072, .f32⟩
  | .hbm, ⟨26, _⟩ => ⟨S8192x3072, .f32⟩
  | .hbm, ⟨27, _⟩ => ⟨S8192x3072, .f32⟩
  | .hbm, ⟨28, _⟩ => ⟨S8192x3072, .f32⟩
  | .hbm, ⟨29, _⟩ => ⟨S8192x3072, .f32⟩
  | .hbm, ⟨30, _⟩ => ⟨S8192x3072, .bf16⟩
  | .hbm, ⟨31, _⟩ => ⟨S8192x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Kernel3.lean ====
abbrev S8192x3072 : Shape := ⟨2, ![8192, 3072]⟩
abbrev S8x1024x768 : Shape := ⟨3, ![8, 1024, 768]⟩
abbrev S8192x1024 : Shape := ⟨2, ![8192, 1024]⟩
abbrev S2048x768 : Shape := ⟨2, ![2048, 768]⟩
abbrev S1x1024x768 : Shape := ⟨3, ![1, 1024, 768]⟩
abbrev S2048x1024 : Shape := ⟨2, ![2048, 1024]⟩
abbrev S1024x768 : Shape := ⟨2, ![1024, 768]⟩

abbrev nBuf : Space → Nat
  | .hbm => 4
  | .vmem => 9
  | .smem => 0
  | _ => 0

abbrev bufTy : (tb : Table) → Fin (tcTables nBuf tb) → BufTy
  | .hbm, ⟨0, _⟩ => ⟨S8192x3072, .bf16⟩
  | .hbm, ⟨1, _⟩ => ⟨S8192x3072, .bf16⟩
  | .hbm, ⟨2, _⟩ => ⟨S8x1024x768, .bf16⟩
  | .hbm, ⟨3, _⟩ => ⟨S8192x1024, .f32⟩
  | .local _ .vmem, ⟨0, _⟩ => ⟨S2048x768, .bf16⟩
  | .local _ .vmem, ⟨1, _⟩ => ⟨S2048x768, .bf16⟩
  | .local _ .vmem, ⟨2, _⟩ => ⟨S2048x768, .bf16⟩
  | .local _ .vmem, ⟨3, _⟩ => ⟨S2048x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S2048x1024, .f32⟩
  | .local _ .vmem, ⟨7, _⟩ => ⟨S2048x1024, .f32⟩
  | .local _ .vmem, ⟨8, _⟩ => ⟨S2048x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_cond4 (i : grid0.Coords) : BitVec 1 :=
  let arg1 : BitVec 32 := BitVec.ofNat 32 (i 1).val
  let c7_i32 : BitVec 32 := 7#32
  let v9 : BitVec 1 := Scalar.cmpi .eq arg1 c7_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  ![arg0.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference3Ideal.lean ====
abbrev S8192x3072 : Shape := ⟨2, ![8192, 3072]⟩
abbrev S8x1024x768 : Shape := ⟨3, ![8, 1024, 768]⟩
abbrev S1024x8x768 : Shape := ⟨3, ![1024, 8, 768]⟩
abbrev S1024x6144 : Shape := ⟨2, ![1024, 6144]⟩
abbrev S_ : Shape := ⟨0, ![]⟩
abbrev S8192x1024 : Shape := ⟨2, ![8192, 1024]⟩
abbrev S8192x6144 : Shape := ⟨2, ![8192, 6144]⟩

abbrev nBuf : Space → Nat
  | .hbm => 15
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x3072, .bf16⟩
  | .hbm, ⟨2, _⟩ => ⟨S8x1024x768, .bf16⟩
  | .hbm, ⟨3, _⟩ => ⟨S8x1024x768, .f32⟩
  | .hbm, ⟨4, _⟩ => ⟨S1024x8x768, .f32⟩
  | .hbm, ⟨5, _⟩ => ⟨S1024x6144, .f32⟩
  | .hbm, ⟨6, _⟩ => ⟨S_, .f32⟩
  | .hbm, ⟨7, _⟩ => ⟨S8192x1024, .f32⟩
  | .hbm, ⟨8, _⟩ => ⟨S8192x6144, .f32⟩
  | .hbm, ⟨9, _⟩ => ⟨S8192x3072, .f32⟩
  | .hbm, ⟨10, _⟩ => ⟨S8192x3072, .f32⟩
  | .hbm, ⟨11, _⟩ => ⟨S8192x3072, .f32⟩
  | .hbm, ⟨12, _⟩ => ⟨S8192x3072, .f32⟩
  | .hbm, ⟨13, _⟩ => ⟨S8192x6144, .f32⟩
  | .hbm, ⟨14, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel4.lean ====
abbrev S8192x1024 : Shape := ⟨2, ![8192, 1024]⟩
abbrev S8192x3072 : Shape := ⟨2, ![8192, 3072]⟩
abbrev S8x768x1024 : Shape := ⟨3, ![8, 768, 1024]⟩
abbrev S2048x1024 : Shape := ⟨2, ![2048, 1024]⟩
abbrev S2048x768 : Shape := ⟨2, ![2048, 768]⟩
abbrev S1x768x1024 : Shape := ⟨3, ![1, 768, 1024]⟩
abbrev S768x1024 : Shape := ⟨2, ![768, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S8192x3072, .bf16⟩
  | .hbm, ⟨3, _⟩ => ⟨S8x768x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S2048x768, .bf16⟩
  | .local _ .vmem, ⟨5, _⟩ => ⟨S2048x768, .bf16⟩
  | .local _ .vmem, ⟨6, _⟩ => ⟨S1x768x1024, .bf16⟩
  | .local _ .vmem, ⟨7, _⟩ => ⟨S1x768x1024, .bf16⟩
  | .local _ .vmem, ⟨8, _⟩ => ⟨S768x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond4 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c0_i32 : BitVec 32 := 0#32
  let v1 : BitVec 32 := Scalar.select v0 arg1 c0_i32
  let c3_i32 : BitVec 32 := 3#32
  let v2 : BitVec 32 := Scalar.minsi arg0 c3_i32
  let c0_i32_0 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c0_i32 : BitVec 32 := 0#32
  let v1 : BitVec 32 := Scalar.select v0 c0_i32 arg1
  let c4_i32_0 : BitVec 32 := 4#32
  let v2 : BitVec 32 := Scalar.subi arg0 c4_i32_0
  let c0_i32_1 : BitVec 32 := 0#32
  let v3 : BitVec 32 := Scalar.maxsi v2 c0_i32_1
  let c0_i32_2 : BitVec 32 := 0#32
  ![v1.toNat, v3.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x768x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference4Ideal.lean ====
abbrev S8192x1024 : Shape := ⟨2, ![8192, 1024]⟩
abbrev S8192x3072 : Shape := ⟨2, ![8192, 3072]⟩
abbrev S_ : Shape := ⟨0, ![]⟩
abbrev S1024x6144 : Shape := ⟨2, ![1024, 6144]⟩
abbrev S8192x6144 : Shape := ⟨2, ![8192, 6144]⟩
abbrev S6144x1024 : Shape := ⟨2, ![6144, 1024]⟩
abbrev S8x768x1024 : Shape := ⟨3, ![8, 768, 1024]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S8192x3072, .bf16⟩
  | .hbm, ⟨3, _⟩ => ⟨S8192x1024, .f32⟩
  | .hbm, ⟨4, _⟩ => ⟨S_, .f32⟩
  | .hbm, ⟨5, _⟩ => ⟨S1024x6144, .f32⟩
  | .hbm, ⟨6, _⟩ => ⟨S8192x6144, .f32⟩
  | .hbm, ⟨7, _⟩ => ⟨S8192x3072, .f32⟩
  | .hbm, ⟨8, _⟩ => ⟨S8192x3072, .f32⟩
  | .hbm, ⟨9, _⟩ => ⟨S8192x3072, .f32⟩
  | .hbm, ⟨10, _⟩ => ⟨S8192x3072, .f32⟩
  | .hbm, ⟨11, _⟩ => ⟨S8192x6144, .f32⟩
  | .hbm, ⟨12, _⟩ => ⟨S6144x1024, .f32⟩
  | .hbm, ⟨13, _⟩ => ⟨S1024x6144, .f32⟩
  | .hbm, ⟨14, _⟩ => ⟨S6144x1024, .f32⟩
  | .hbm, ⟨15, _⟩ => ⟨S8x768x1024, .f32⟩
  | .hbm, ⟨16, _⟩ => ⟨S8x768x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Kernel5.lean ====
abbrev S8192x3072 : Shape := ⟨2, ![8192, 3072]⟩
abbrev S3072x1024 : Shape := ⟨2, ![3072, 1024]⟩
abbrev S8192x1024 : Shape := ⟨2, ![8192, 1024]⟩
abbrev S4x1x1024 : Shape := ⟨3, ![4, 1, 1024]⟩
abbrev S1024x3072 : Shape := ⟨2, ![1024, 3072]⟩
abbrev S3072x512 : Shape := ⟨2, ![3072, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 6
  | .vmem => 12
  | .smem => 0
  | _ => 0

abbrev bufTy : (tb : Table) → Fin (tcTables nBuf tb) → BufTy
  | .hbm, ⟨0, _⟩ => ⟨S8192x3072, .bf16⟩
  | .hbm, ⟨1, _⟩ => ⟨S3072x1024, .bf16⟩
  | .hbm, ⟨2, _⟩ => ⟨S8192x1024, .f32⟩
  | .hbm, ⟨3, _⟩ => ⟨S4x1x1024, .f32⟩
  | .hbm, ⟨4, _⟩ => ⟨S8192x1024, .f32⟩
  | .hbm, ⟨5, _⟩ => ⟨S8192x1024, .bf16⟩
  | .local _ .vmem, ⟨0, _⟩ => ⟨S1024x3072, .bf16⟩
  | .local _ .vmem, ⟨1, _⟩ => ⟨S1024x3072, .bf16⟩
  | .local _ .vmem, ⟨2, _⟩ => ⟨S3072x512, .bf16⟩
  | .local _ .vmem, ⟨3, _⟩ => ⟨S3072x512, .bf16⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3072x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S8192x3072 : Shape := ⟨2, ![8192, 3072]⟩
abbrev S3072x1024 : Shape := ⟨2, ![3072, 1024]⟩
abbrev S8192x1024 : Shape := ⟨2, ![8192, 1024]⟩
abbrev S4x1x1024 : Shape := ⟨3, ![4, 1, 1024]⟩
abbrev S4x2048x1024 : Shape := ⟨3, ![4, 2048, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S3072x1024, .bf16⟩
  | .hbm, ⟨2, _⟩ => ⟨S8192x1024, .f32⟩
  | .hbm, ⟨3, _⟩ => ⟨S4x1x1024, .f32⟩
  | .hbm, ⟨4, _⟩ => ⟨S8192x3072, .f32⟩
  | .hbm, ⟨5, _⟩ => ⟨S3072x1024, .f32⟩
  | .hbm, ⟨6, _⟩ => ⟨S8192x1024, .f32⟩
  | .hbm, ⟨7, _⟩ => ⟨S4x2048x1024, .f32⟩
  | .hbm, ⟨8, _⟩ => ⟨S4x2048x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S8192x1024, .f32⟩
  | .hbm, ⟨13, _⟩ => ⟨S8192x1024, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel6.lean ====
abbrev S8192x1024 : Shape := ⟨2, ![8192, 1024]⟩
abbrev S8192x6144 : Shape := ⟨2, ![8192, 6144]⟩
abbrev S8x1024x768 : Shape := ⟨3, ![8, 1024, 768]⟩
abbrev S2048x1024 : Shape := ⟨2, ![2048, 1024]⟩
abbrev S2048x768 : Shape := ⟨2, ![2048, 768]⟩
abbrev S1x1024x768 : Shape := ⟨3, ![1, 1024, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x6144, .bf16⟩
  | .hbm, ⟨2, _⟩ => ⟨S8x1024x768, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference6Ideal.lean ====
abbrev S8192x1024 : Shape := ⟨2, ![8192, 1024]⟩
abbrev S8192x6144 : Shape := ⟨2, ![8192, 6144]⟩
abbrev S_ : Shape := ⟨0, ![]⟩
abbrev S1024x6144 : Shape := ⟨2, ![1024, 6144]⟩
abbrev S6144x1024 : Shape := ⟨2, ![6144, 1024]⟩
abbrev S1024x8x768 : Shape := ⟨3, ![1024, 8, 768]⟩
abbrev S8x1024x768 : Shape := ⟨3, ![8, 1024, 768]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x6144, .bf16⟩
  | .hbm, ⟨2, _⟩ => ⟨S8192x1024, .f32⟩
  | .hbm, ⟨3, _⟩ => ⟨S_, .f32⟩
  | .hbm, ⟨4, _⟩ => ⟨S1024x6144, .f32⟩
  | .hbm, ⟨5, _⟩ => ⟨S8192x6144, .f32⟩
  | .hbm, ⟨6, _⟩ => ⟨S8192x6144, .f32⟩
  | .hbm, ⟨7, _⟩ => ⟨S6144x1024, .f32⟩
  | .hbm, ⟨8, _⟩ => ⟨S1024x6144, .f32⟩
  | .hbm, ⟨9, _⟩ => ⟨S1024x8x768, .f32⟩
  | .hbm, ⟨10, _⟩ => ⟨S8x1024x768, .f32⟩
  | .hbm, ⟨11, _⟩ => ⟨S8x1024x768, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel7.lean ====
abbrev S8192x3072 : Shape := ⟨2, ![8192, 3072]⟩
abbrev S8192x1024 : Shape := ⟨2, ![8192, 1024]⟩
abbrev S3072x1024 : Shape := ⟨2, ![3072, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S3072x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x3072 : Shape := ⟨2, ![8192, 3072]⟩
abbrev S8192x1024 : Shape := ⟨2, ![8192, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 10
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S8192x3072, .f32⟩
  | .hbm, ⟨3, _⟩ => ⟨S_, .f32⟩
  | .hbm, ⟨4, _⟩ => ⟨S3072x1024, .f32⟩
  | .hbm, ⟨5, _⟩ => ⟨S8192x1024, .f32⟩
  | .hbm, ⟨6, _⟩ => ⟨S8192x1024, .f32⟩
  | .hbm, ⟨7, _⟩ => ⟨S1024x3072, .f32⟩
  | .hbm, ⟨8, _⟩ => ⟨S3072x1024, .f32⟩
  | .hbm, ⟨9, _⟩ => ⟨S3072x1024, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S8192x1024 : Shape := ⟨2, ![8192, 1024]⟩
abbrev S8x1024x768 : Shape := ⟨3, ![8, 1024, 768]⟩
abbrev S8192x3072 : Shape := ⟨2, ![8192, 3072]⟩
abbrev S1024x1024 : Shape := ⟨2, ![1024, 1024]⟩
abbrev S1x1024x768 : Shape := ⟨3, ![1, 1024, 768]⟩
abbrev S1024x768 : Shape := ⟨2, ![1024, 768]⟩

abbrev nBuf : Space → Nat
  | .hbm => 5
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S8x1024x768, .bf16⟩
  | .hbm, ⟨2, _⟩ => ⟨S8192x3072, .bf16⟩
  | .hbm, ⟨3, _⟩ => ⟨S8192x3072, .bf16⟩
  | .hbm, ⟨4, _⟩ => ⟨S8192x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x768, .bf16⟩
  | .local _ .vmem, ⟨3, _⟩ => ⟨S1x1024x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S1024x768, .bf16⟩
  | .local _ .vmem, ⟨7, _⟩ => ⟨S1024x768, .bf16⟩
  | .local _ .vmem, ⟨8, _⟩ => ⟨S1024x768, .bf16⟩
  | .local _ .vmem, ⟨9, _⟩ => ⟨S1024x768, .bf16⟩
  | .local _ .vmem, ⟨10, _⟩ => ⟨S1024x768, .bf16⟩
  | .local _ .vmem, ⟨11, _⟩ => ⟨S1024x768, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference8Ideal.lean ====
abbrev S8192x1024 : Shape := ⟨2, ![8192, 1024]⟩
abbrev S8x1024x768 : Shape := ⟨3, ![8, 1024, 768]⟩
abbrev S1024x8x768 : Shape := ⟨3, ![1024, 8, 768]⟩
abbrev S1024x6144 : Shape := ⟨2, ![1024, 6144]⟩
abbrev S8192x6144 : Shape := ⟨2, ![8192, 6144]⟩
abbrev S8192x3072 : Shape := ⟨2, ![8192, 3072]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8x1024x768, .bf16⟩
  | .hbm, ⟨2, _⟩ => ⟨S8x1024x768, .f32⟩
  | .hbm, ⟨3, _⟩ => ⟨S1024x8x768, .f32⟩
  | .hbm, ⟨4, _⟩ => ⟨S1024x6144, .f32⟩
  | .hbm, ⟨5, _⟩ => ⟨S8192x1024, .f32⟩
  | .hbm, ⟨6, _⟩ => ⟨S8192x6144, .f32⟩
  | .hbm, ⟨7, _⟩ => ⟨S8192x3072, .f32⟩
  | .hbm, ⟨8, _⟩ => ⟨S8192x3072, .f32⟩
  | .hbm, ⟨9, _⟩ => ⟨S8192x3072, .f32⟩
  | .hbm, ⟨10, _⟩ => ⟨S8192x3072, .f32⟩
  | .hbm, ⟨11, _⟩ => ⟨S_, .f32⟩
  | .hbm, ⟨12, _⟩ => ⟨S8192x3072, .f32⟩
  | .hbm, ⟨13, _⟩ => ⟨S8192x3072, .f32⟩
  | .hbm, ⟨14, _⟩ => ⟨S_, .f32⟩
  | .hbm, ⟨15, _⟩ => ⟨S8192x3072, .f32⟩
  | .hbm, ⟨16, _⟩ => ⟨S8192x3072, .f32⟩
  | .hbm, ⟨17, _⟩ => ⟨S8192x3072, .f32⟩
  | .hbm, ⟨18, _⟩ => ⟨S8192x3072, .f32⟩
  | .hbm, ⟨19, _⟩ => ⟨S8192x3072, .bf16⟩
  | .hbm, ⟨20, _⟩ => ⟨S8192x3072, .bf16⟩
  | .hbm, ⟨21, _⟩ => ⟨S8192x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Kernel9.lean ====
abbrev S8192x512 : Shape := ⟨2, ![8192, 512]⟩
abbrev S3x512x1024 : Shape := ⟨3, ![3, 512, 1024]⟩
abbrev S8192x6144 : Shape := ⟨2, ![8192, 6144]⟩
abbrev S8192x1024 : Shape := ⟨2, ![8192, 1024]⟩
abbrev S512x512 : Shape := ⟨2, ![512, 512]⟩
abbrev S3x512x512 : Shape := ⟨3, ![3, 512, 512]⟩
abbrev S1x512x512 : Shape := ⟨3, ![1, 512, 512]⟩

abbrev nBuf : Space → Nat
  | .hbm => 9
  | .vmem => 22
  | .smem => 0
  | _ => 0

abbrev bufTy : (tb : Table) → Fin (tcTables nBuf tb) → BufTy
  | .hbm, ⟨0, _⟩ => ⟨S8192x512, .bf16⟩
  | .hbm, ⟨1, _⟩ => ⟨S8192x512, .f32⟩
  | .hbm, ⟨2, _⟩ => ⟨S8192x512, .bf16⟩
  | .hbm, ⟨3, _⟩ => ⟨S3x512x1024, .bf16⟩
  | .hbm, ⟨4, _⟩ => ⟨S8192x6144, .bf16⟩
  | .hbm, ⟨5, _⟩ => ⟨S8192x1024, .bf16⟩
  | .hbm, ⟨6, _⟩ => ⟨S8192x1024, .bf16⟩
  | .hbm, ⟨7, _⟩ => ⟨S8192x1024, .bf16⟩
  | .hbm, ⟨8, _⟩ => ⟨S8192x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S3x512x512, .bf16⟩
  | .local _ .vmem, ⟨7, _⟩ => ⟨S3x512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference9Ideal.lean ====
abbrev S8192x512 : Shape := ⟨2, ![8192, 512]⟩
abbrev S3x512x1024 : Shape := ⟨3, ![3, 512, 1024]⟩
abbrev S8192x6144 : Shape := ⟨2, ![8192, 6144]⟩
abbrev S8192x3072 : Shape := ⟨2, ![8192, 3072]⟩
abbrev S8192x3x1024 : Shape := ⟨3, ![8192, 3, 1024]⟩
abbrev S_ : Shape := ⟨0, ![]⟩
abbrev S1x512x1024 : Shape := ⟨3, ![1, 512, 1024]⟩
abbrev S512x1024 : Shape := ⟨2, ![512, 1024]⟩
abbrev S8192x1024 : Shape := ⟨2, ![8192, 1024]⟩
abbrev S8192x1x1024 : Shape := ⟨3, ![8192, 1, 1024]⟩

abbrev nBuf : Space → Nat
  | .hbm => 48
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .f32⟩
  | .hbm, ⟨2, _⟩ => ⟨S8192x512, .bf16⟩
  | .hbm, ⟨3, _⟩ => ⟨S3x512x1024, .bf16⟩
  | .hbm, ⟨4, _⟩ => ⟨S8192x6144, .bf16⟩
  | .hbm, ⟨5, _⟩ => ⟨S8192x512, .f32⟩
  | .hbm, ⟨6, _⟩ => ⟨S8192x512, .f32⟩
  | .hbm, ⟨7, _⟩ => ⟨S8192x3072, .bf16⟩
  | .hbm, ⟨8, _⟩ => ⟨S8192x3072, .f32⟩
  | .hbm, ⟨9, _⟩ => ⟨S8192x3x1024, .f32⟩
  | .hbm, ⟨10, _⟩ => ⟨S8192x3x1024, .f32⟩
  | .hbm, ⟨11, _⟩ => ⟨S8192x3x1024, .f32⟩
  | .hbm, ⟨12, _⟩ => ⟨S_, .f32⟩
  | .hbm, ⟨13, _⟩ => ⟨S8192x3x1024, .f32⟩
  | .hbm, ⟨14, _⟩ => ⟨S8192x3x1024, .f32⟩
  | .hbm, ⟨15, _⟩ => ⟨S_, .f32⟩
  | .hbm, ⟨16, _⟩ => ⟨S8192x3x1024, .f32⟩
  | .hbm, ⟨17, _⟩ => ⟨S8192x3x1024, .f32⟩
  | .hbm, ⟨18, _⟩ => ⟨S1x512x1024, .bf16⟩
  | .hbm, ⟨19, _⟩ => ⟨S512x1024, .bf16⟩
  | .hbm, ⟨20, _⟩ => ⟨S512x1024, .f32⟩
  | .hbm, ⟨21, _⟩ => ⟨S8192x1024, .f32⟩
  | .hbm, ⟨22, _⟩ => ⟨S1x512x1024, .bf16⟩
  | .hbm, ⟨23, _⟩ => ⟨S512x1024, .bf16⟩
  | .hbm, ⟨24, _⟩ => ⟨S512x1024, .f32⟩
  | .hbm, ⟨25, _⟩ => ⟨S8192x1024, .f32⟩
  | .hbm, ⟨26, _⟩ => ⟨S1x512x1024, .bf16⟩
  | .hbm, ⟨27, _⟩ => ⟨S512x1024, .bf16⟩
  | .hbm, ⟨28, _⟩ => ⟨S512x1024, .f32⟩
  | .hbm, ⟨29, _⟩ => ⟨S8192x1024, .f32⟩
  | .hbm, ⟨30, _⟩ => ⟨S8192x1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .bf16⟩
  | .hbm, ⟨45, _⟩ => ⟨S8192x1024, .bf16⟩
  | .hbm, ⟨46, _⟩ => ⟨S8192x1024, .bf16⟩
  | .hbm, ⟨47, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_1 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩

abbrev nD : Nat := 1
abbrev τ : Topo := Topo.v7x

variable {F : FTy → Type} [FloatOps F]
-- ==== Kernel10.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Kernel12Ideal.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x512, .f32⟩
  | .hbm, ⟨3, _⟩ => ⟨S_, .f32⟩
  | .hbm, ⟨4, _⟩ => ⟨S512x1024, .f32⟩
  | .hbm, ⟨5, _⟩ => ⟨S8192x1024, .f32⟩
  | .hbm, ⟨6, _⟩ => ⟨S8192x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x1024, .bf16⟩
  | .hbm, ⟨2, _⟩ => ⟨S512x1024, .bf16⟩
  | .local _ .vmem, ⟨0, _⟩ => ⟨S2048x512, .f32⟩
  | .local _ .vmem, ⟨1, _⟩ => ⟨S2048x512, .f32⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .bf16⟩
  | .hbm, ⟨2, _⟩ => ⟨S_, .f32⟩
  | .hbm, ⟨3, _⟩ => ⟨S512x1024, .f32⟩
  | .hbm, ⟨4, _⟩ => ⟨S8192x1024, .f32⟩
  | .hbm, ⟨5, _⟩ => ⟨S8192x1024, .f32⟩
  | .hbm, ⟨6, _⟩ => ⟨S1024x512, .f32⟩
  | .hbm, ⟨7, _⟩ => ⟨S512x1024, .f32⟩
  | .hbm, ⟨8, _⟩ => ⟨S512x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S8192x1024 : Shape := ⟨2, ![8192, 1024]⟩
abbrev S3x512x1024 : Shape := ⟨3, ![3, 512, 1024]⟩
abbrev S8192x512 : Shape := ⟨2, ![8192, 512]⟩
abbrev S2048x1024 : Shape := ⟨2, ![2048, 1024]⟩
abbrev S1x512x1024 : Shape := ⟨3, ![1, 512, 1024]⟩
abbrev S2048x512 : Shape := ⟨2, ![2048, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S3x512x1024, .bf16⟩
  | .hbm, ⟨2, _⟩ => ⟨S8192x512, .bf16⟩
  | .local _ .vmem, ⟨0, _⟩ => ⟨S2048x1024, .bf16⟩
  | .local _ .vmem, ⟨1, _⟩ => ⟨S2048x1024, .bf16⟩
  | .local _ .vmem, ⟨2, _⟩ => ⟨S1x512x1024, .bf16⟩
  | .local _ .vmem, ⟨3, _⟩ => ⟨S2048x512, .bf16⟩
  | .local _ .vmem, ⟨4, _⟩ => ⟨S2048x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S3x512x1024 : Shape := ⟨3, ![3, 512, 1024]⟩
abbrev S1x512x1024 : Shape := ⟨3, ![1, 512, 1024]⟩
abbrev S512x1024 : Shape := ⟨2, ![512, 1024]⟩
abbrev S_ : Shape := ⟨0, ![]⟩
abbrev S8192x512 : Shape := ⟨2, ![8192, 512]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S3x512x1024, .bf16⟩
  | .hbm, ⟨2, _⟩ => ⟨S1x512x1024, .bf16⟩
  | .hbm, ⟨3, _⟩ => ⟨S512x1024, .bf16⟩
  | .hbm, ⟨4, _⟩ => ⟨S512x1024, .f32⟩
  | .hbm, ⟨5, _⟩ => ⟨S_, .f32⟩
  | .hbm, ⟨6, _⟩ => ⟨S8192x512, .f32⟩
  | .hbm, ⟨7, _⟩ => ⟨S8192x1024, .f32⟩
  | .hbm, ⟨8, _⟩ => ⟨S8192x1024, .f32⟩
  | .hbm, ⟨9, _⟩ => ⟨S8192x512, .f32⟩
  | .hbm, ⟨10, _⟩ => ⟨S8192x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel15.lean ====
abbrev S8192x1024 : Shape := ⟨2, ![8192, 1024]⟩
abbrev S3x512x1024 : Shape := ⟨3, ![3, 512, 1024]⟩
abbrev S8192x512 : Shape := ⟨2, ![8192, 512]⟩
abbrev S2048x1024 : Shape := ⟨2, ![2048, 1024]⟩
abbrev S1x512x1024 : Shape := ⟨3, ![1, 512, 1024]⟩
abbrev S2048x512 : Shape := ⟨2, ![2048, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S3x512x1024, .bf16⟩
  | .hbm, ⟨2, _⟩ => ⟨S8192x512, .bf16⟩
  | .local _ .vmem, ⟨0, _⟩ => ⟨S2048x1024, .bf16⟩
  | .local _ .vmem, ⟨1, _⟩ => ⟨S2048x1024, .bf16⟩
  | .local _ .vmem, ⟨2, _⟩ => ⟨S1x512x1024, .bf16⟩
  | .local _ .vmem, ⟨3, _⟩ => ⟨S2048x512, .bf16⟩
  | .local _ .vmem, ⟨4, _⟩ => ⟨S2048x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x1024 : Shape := ⟨2, ![8192, 1024]⟩
abbrev S3x512x1024 : Shape := ⟨3, ![3, 512, 1024]⟩
abbrev S1x512x1024 : Shape := ⟨3, ![1, 512, 1024]⟩
abbrev S512x1024 : Shape := ⟨2, ![512, 1024]⟩
abbrev S_ : Shape := ⟨0, ![]⟩
abbrev S8192x512 : Shape := ⟨2, ![8192, 512]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S3x512x1024, .bf16⟩
  | .hbm, ⟨2, _⟩ => ⟨S1x512x1024, .bf16⟩
  | .hbm, ⟨3, _⟩ => ⟨S512x1024, .bf16⟩
  | .hbm, ⟨4, _⟩ => ⟨S512x1024, .f32⟩
  | .hbm, ⟨5, _⟩ => ⟨S_, .f32⟩
  | .hbm, ⟨6, _⟩ => ⟨S8192x512, .f32⟩
  | .hbm, ⟨7, _⟩ => ⟨S8192x1024, .f32⟩
  | .hbm, ⟨8, _⟩ => ⟨S8192x1024, .f32⟩
  | .hbm, ⟨9, _⟩ => ⟨S8192x512, .f32⟩
  | .hbm, ⟨10, _⟩ => ⟨S8192x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel16.lean ====
abbrev S8192x1024 : Shape := ⟨2, ![8192, 1024]⟩
abbrev S3x512x1024 : Shape := ⟨3, ![3, 512, 1024]⟩
abbrev S8192x512 : Shape := ⟨2, ![8192, 512]⟩
abbrev S2048x1024 : Shape := ⟨2, ![2048, 1024]⟩
abbrev S1x512x1024 : Shape := ⟨3, ![1, 512, 1024]⟩
abbrev S2048x512 : Shape := ⟨2, ![2048, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S3x512x1024, .bf16⟩
  | .hbm, ⟨2, _⟩ => ⟨S8192x512, .bf16⟩
  | .local _ .vmem, ⟨0, _⟩ => ⟨S2048x1024, .bf16⟩
  | .local _ .vmem, ⟨1, _⟩ => ⟨S2048x1024, .bf16⟩
  | .local _ .vmem, ⟨2, _⟩ => ⟨S1x512x1024, .bf16⟩
  | .local _ .vmem, ⟨3, _⟩ => ⟨S2048x512, .bf16⟩
  | .local _ .vmem, ⟨4, _⟩ => ⟨S2048x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![c2_i32.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x1024 : Shape := ⟨2, ![8192, 1024]⟩
abbrev S3x512x1024 : Shape := ⟨3, ![3, 512, 1024]⟩
abbrev S1x512x1024 : Shape := ⟨3, ![1, 512, 1024]⟩
abbrev S512x1024 : Shape := ⟨2, ![512, 1024]⟩
abbrev S_ : Shape := ⟨0, ![]⟩
abbrev S8192x512 : Shape := ⟨2, ![8192, 512]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S3x512x1024, .bf16⟩
  | .hbm, ⟨2, _⟩ => ⟨S1x512x1024, .bf16⟩
  | .hbm, ⟨3, _⟩ => ⟨S512x1024, .bf16⟩
  | .hbm, ⟨4, _⟩ => ⟨S512x1024, .f32⟩
  | .hbm, ⟨5, _⟩ => ⟨S_, .f32⟩
  | .hbm, ⟨6, _⟩ => ⟨S8192x512, .f32⟩
  | .hbm, ⟨7, _⟩ => ⟨S8192x1024, .f32⟩
  | .hbm, ⟨8, _⟩ => ⟨S8192x1024, .f32⟩
  | .hbm, ⟨9, _⟩ => ⟨S8192x512, .f32⟩
  | .hbm, ⟨10, _⟩ => ⟨S8192x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel17.lean ====
abbrev S8192x1024 : Shape := ⟨2, ![8192, 1024]⟩
abbrev S1024x1024 : Shape := ⟨2, ![1024, 1024]⟩
abbrev S4x1x1024 : Shape := ⟨3, ![4, 1, 1024]⟩
abbrev S1x1x1024 : Shape := ⟨3, ![1, 1, 1024]⟩
abbrev S1x1024 : Shape := ⟨2, ![1, 1024]⟩

abbrev nBuf : Space → Nat
  | .hbm => 6
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S4x1x1024, .f32⟩
  | .hbm, ⟨4, _⟩ => ⟨S8192x1024, .f32⟩
  | .hbm, ⟨5, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference17Ideal.lean ====
abbrev S8192x1024 : Shape := ⟨2, ![8192, 1024]⟩
abbrev S1024x1024 : Shape := ⟨2, ![1024, 1024]⟩
abbrev S4x1x1024 : Shape := ⟨3, ![4, 1, 1024]⟩
abbrev S4x2048x1024 : Shape := ⟨3, ![4, 2048, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S4x1x1024, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S4x2048x1024, .f32⟩
  | .hbm, ⟨8, _⟩ => ⟨S4x2048x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S8192x1024, .f32⟩
  | .hbm, ⟨13, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel18.lean ====
abbrev S4x2048x1024 : Shape := ⟨3, ![4, 2048, 1024]⟩
abbrev S1x1024 : Shape := ⟨2, ![1, 1024]⟩
abbrev S4x1x1024 : Shape := ⟨3, ![4, 1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 13
  | .vmem => 25
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1x1024, .f32⟩
  | .hbm, ⟨4, _⟩ => ⟨S4x1x1024, .f32⟩
  | .hbm, ⟨5, _⟩ => ⟨S4x2048x1024, .bf16⟩
  | .hbm, ⟨6, _⟩ => ⟨S4x1x1024, .f32⟩
  | .hbm, ⟨7, _⟩ => ⟨S4x2048x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x2048x1024, .bf16⟩
  | .hbm, ⟨12, _⟩ => ⟨S4x1x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x512x1024, .bf16⟩
  | .local _ .vmem, ⟨10, _⟩ => ⟨S1x512x1024, .bf16⟩
  | .local _ .vmem, ⟨11, _⟩ => ⟨S1x1x1024, .f32⟩
  | .local _ .vmem, ⟨12, _⟩ => ⟨S1x1x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x512x1024, .bf16⟩
  | .local _ .vmem, ⟨22, _⟩ => ⟨S1x512x1024, .bf16⟩
  | .local _ .vmem, ⟨23, _⟩ => ⟨S1x1x1024, .f32⟩
  | .local _ .vmem, ⟨24, _⟩ => ⟨S1x1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Reference18Ideal.lean ====
abbrev S4x2048x1024 : Shape := ⟨3, ![4, 2048, 1024]⟩
abbrev S1x1024 : Shape := ⟨2, ![1, 1024]⟩
abbrev S4x1x1024 : Shape := ⟨3, ![4, 1, 1024]⟩
abbrev S_ : Shape := ⟨0, ![]⟩
abbrev S4x2048 : Shape := ⟨2, ![4, 2048]⟩
abbrev S4x2048x1 : Shape := ⟨3, ![4, 2048, 1]⟩
abbrev S4x1024 : Shape := ⟨2, ![4, 1024]⟩

abbrev nBuf : Space → Nat
  | .hbm => 80
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1x1024, .f32⟩
  | .hbm, ⟨4, _⟩ => ⟨S4x1x1024, .f32⟩
  | .hbm, ⟨5, _⟩ => ⟨S4x2048x1024, .bf16⟩
  | .hbm, ⟨6, _⟩ => ⟨S4x1x1024, .f32⟩
  | .hbm, ⟨7, _⟩ => ⟨S4x1x1024, .f32⟩
  | .hbm, ⟨8, _⟩ => ⟨S_, .f32⟩
  | .hbm, ⟨9, _⟩ => ⟨S4x1x1024, .f32⟩
  | .hbm, ⟨10, _⟩ => ⟨S4x2048x1024, .f32⟩
  | .hbm, ⟨11, _⟩ => ⟨S_, .f32⟩
  | .hbm, ⟨12, _⟩ => ⟨S4x2048, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S4x2048x1, .f32⟩
  | .hbm, ⟨21, _⟩ => ⟨S4x2048x1, .f32⟩
  | .hbm, ⟨22, _⟩ => ⟨S_, .f32⟩
  | .hbm, ⟨23, _⟩ => ⟨S4x2048x1, .f32⟩
  | .hbm, ⟨24, _⟩ => ⟨S4x2048x1, .f32⟩
  | .hbm, ⟨25, _⟩ => ⟨S4x2048x1024, .f32⟩
  | .hbm, ⟨26, _⟩ => ⟨S4x2048x1024, .f32⟩
  | .hbm, ⟨27, _⟩ => ⟨S4x2048x1024, .f32⟩
  | .hbm, ⟨28, _⟩ => ⟨S4x2048x1024, .f32⟩
  | .hbm, ⟨29, _⟩ => ⟨S_, .f32⟩
  | .hbm, ⟨30, _⟩ => ⟨S4x1x1024, .f32⟩
  | .hbm, ⟨31, _⟩ => ⟨S4x1x1024, .f32⟩
  | .hbm, ⟨32, _⟩ => ⟨S4x2048x1024, .f32⟩
  | .hbm, ⟨33, _⟩ => ⟨S4x2048x1024, .f32⟩
  | .hbm, ⟨34, _⟩ => ⟨S4x2048x1024, .f32⟩
  | .hbm, ⟨35, _⟩ => ⟨S4x2048x1024, .f32⟩
  | .hbm, ⟨36, _⟩ => ⟨S4x2048x1024, .f32⟩
  | .hbm, ⟨37, _⟩ => ⟨S_, .f32⟩
  | .hbm, ⟨38, _⟩ => ⟨S4x1024, .f32⟩
  | .hbm, ⟨39, _⟩ => ⟨S4x1x1024, .f32⟩
  | .hbm, ⟨40, _⟩ => ⟨S4x2048x1024, .f32⟩
  | .hbm, ⟨41, _⟩ => ⟨S_, .f32⟩
  | .hbm, ⟨42, _⟩ => ⟨S4x1024, .f32⟩
  | .hbm, ⟨43, _⟩ => ⟨S4x1x1024, .f32⟩
  | .hbm, ⟨44, _⟩ => ⟨S4x2048x1024, .f32⟩
  | .hbm, ⟨45, _⟩ => ⟨S4x2048x1024, .f32⟩
  | .hbm, ⟨46, _⟩ => ⟨S4x2048x1024, .f32⟩
  | .hbm, ⟨47, _⟩ => ⟨S_, .f32⟩
  | .hbm, ⟨48, _⟩ => ⟨S4x1024, .f32⟩
  | .hbm, ⟨49, _⟩ => ⟨S4x1x1024, .f32⟩
  | .hbm, ⟨50, _⟩ => ⟨S4x2048x1024, .f32⟩
  | .hbm, ⟨51, _⟩ => ⟨S4x2048x1024, .f32⟩
  | .hbm, ⟨52, _⟩ => ⟨S4x2048x1024, .f32⟩
  | .hbm, ⟨53, _⟩ => ⟨S_, .f32⟩
  | .hbm, ⟨54, _⟩ => ⟨S4x2048, .f32⟩
  | .hbm, ⟨55, _⟩ => ⟨S4x2048x1, .f32⟩
  | .hbm, ⟨56, _⟩ => ⟨S4x2048x1024, .f32⟩
  | .hbm, ⟨57, _⟩ => ⟨S4x2048x1024, .f32⟩
  | .hbm, ⟨58, _⟩ => ⟨S4x2048x1, .f32⟩
  | .hbm, ⟨59, _⟩ => ⟨S_, .f32⟩
  | .hbm, ⟨60, _⟩ => ⟨S4x2048x1, .f32⟩
  | .hbm, ⟨61, _⟩ => ⟨S4x2048x1, .f32⟩
  | .hbm, ⟨62, _⟩ => ⟨S_, .f32⟩
  | .hbm, ⟨63, _⟩ => ⟨S4x2048, .f32⟩
  | .hbm, ⟨64, _⟩ => ⟨S4x2048x1024, .f32⟩
  | .hbm, ⟨65, _⟩ => ⟨S4x2048x1024, .f32⟩
  | .hbm, ⟨66, _⟩ => ⟨S4x2048x1024, .f32⟩
  | .hbm, ⟨67, _⟩ => ⟨S4x2048x1024, .f32⟩
  | .hbm, ⟨68, _⟩ => ⟨S4x2048x1024, .f32⟩
  | .hbm, ⟨69, _⟩ => ⟨S4x2048x1024, .f32⟩
  | .hbm, ⟨70, _⟩ => ⟨S4x2048x1024, .f32⟩
  | .hbm, ⟨71, _⟩ => ⟨S4x2048x1024, .f32⟩
  | .hbm, ⟨72, _⟩ => ⟨S4x2048x1024, .f32⟩
  | .hbm, ⟨73, _⟩ => ⟨S4x2048x1024, .f32⟩
  | .hbm, ⟨74, _⟩ => ⟨S4x2048x1024, .f32⟩
  | .hbm, ⟨75, _⟩ => ⟨S4x2048x1024, .f32⟩
  | .hbm, ⟨76, _⟩ => ⟨S_, .f32⟩
  | .hbm, ⟨77, _⟩ => ⟨S4x1024, .f32⟩
  | .hbm, ⟨78, _⟩ => ⟨S4x1x1024, .f32⟩
  | .hbm, ⟨79, _⟩ => ⟨S4x2048x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_cst_10 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_11 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩

abbrev nD : Nat := 1
abbrev τ : Topo := Topo.v7x

variable {F : FTy → Type} [FloatOps F]
-- ==== Kernel19.lean ====
abbrev S4x2048x1024 : Shape := ⟨3, ![4, 2048, 1024]⟩
abbrev S1x1024 : Shape := ⟨2, ![1, 1024]⟩
abbrev S4x1x1024 : Shape := ⟨3, ![4, 1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 17
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1x1024, .f32⟩
  | .hbm, ⟨4, _⟩ => ⟨S4x1x1024, .f32⟩
  | .hbm, ⟨5, _⟩ => ⟨S4x2048x1024, .f32⟩
  | .hbm, ⟨6, _⟩ => ⟨S4x1x1024, .f32⟩
  | .hbm, ⟨7, _⟩ => ⟨S4x1x1024, .f32⟩
  | .hbm, ⟨8, _⟩ => ⟨S4x1x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference19Ideal.lean ====
abbrev S4x2048x1024 : Shape := ⟨3, ![4, 2048, 1024]⟩
abbrev S1x1024 : Shape := ⟨2, ![1, 1024]⟩
abbrev S4x1x1024 : Shape := ⟨3, ![4, 1, 1024]⟩
abbrev S_ : Shape := ⟨0, ![]⟩
abbrev S4x2048 : Shape := ⟨2, ![4, 2048]⟩
abbrev S4x2048x1 : Shape := ⟨3, ![4, 2048, 1]⟩
abbrev S4x1024 : Shape := ⟨2, ![4, 1024]⟩

abbrev nBuf : Space → Nat
  | .hbm => 68
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1x1024, .f32⟩
  | .hbm, ⟨4, _⟩ => ⟨S4x1x1024, .f32⟩
  | .hbm, ⟨5, _⟩ => ⟨S4x1x1024, .f32⟩
  | .hbm, ⟨6, _⟩ => ⟨S_, .f32⟩
  | .hbm, ⟨7, _⟩ => ⟨S4x1x1024, .f32⟩
  | .hbm, ⟨8, _⟩ => ⟨S4x2048x1024, .f32⟩
  | .hbm, ⟨9, _⟩ => ⟨S_, .f32⟩
  | .hbm, ⟨10, _⟩ => ⟨S4x2048, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x1, .f32⟩
  | .hbm, ⟨19, _⟩ => ⟨S4x2048x1, .f32⟩
  | .hbm, ⟨20, _⟩ => ⟨S_, .f32⟩
  | .hbm, ⟨21, _⟩ => ⟨S4x2048x1, .f32⟩
  | .hbm, ⟨22, _⟩ => ⟨S4x2048x1, .f32⟩
  | .hbm, ⟨23, _⟩ => ⟨S4x2048x1024, .f32⟩
  | .hbm, ⟨24, _⟩ => ⟨S4x2048x1024, .f32⟩
  | .hbm, ⟨25, _⟩ => ⟨S4x2048x1024, .f32⟩
  | .hbm, ⟨26, _⟩ => ⟨S4x2048x1024, .f32⟩
  | .hbm, ⟨27, _⟩ => ⟨S_, .f32⟩
  | .hbm, ⟨28, _⟩ => ⟨S4x1x1024, .f32⟩
  | .hbm, ⟨29, _⟩ => ⟨S4x1x1024, .f32⟩
  | .hbm, ⟨30, _⟩ => ⟨S4x2048x1024, .f32⟩
  | .hbm, ⟨31, _⟩ => ⟨S4x2048x1024, .f32⟩
  | .hbm, ⟨32, _⟩ => ⟨S4x2048x1024, .f32⟩
  | .hbm, ⟨33, _⟩ => ⟨S4x2048x1024, .f32⟩
  | .hbm, ⟨34, _⟩ => ⟨S4x2048x1024, .f32⟩
  | .hbm, ⟨35, _⟩ => ⟨S_, .f32⟩
  | .hbm, ⟨36, _⟩ => ⟨S4x1024, .f32⟩
  | .hbm, ⟨37, _⟩ => ⟨S4x1x1024, .f32⟩
  | .hbm, ⟨38, _⟩ => ⟨S4x2048x1024, .f32⟩
  | .hbm, ⟨39, _⟩ => ⟨S_, .f32⟩
  | .hbm, ⟨40, _⟩ => ⟨S4x1024, .f32⟩
  | .hbm, ⟨41, _⟩ => ⟨S4x1x1024, .f32⟩
  | .hbm, ⟨42, _⟩ => ⟨S4x2048x1024, .f32⟩
  | .hbm, ⟨43, _⟩ => ⟨S4x2048x1024, .f32⟩
  | .hbm, ⟨44, _⟩ => ⟨S4x2048x1024, .f32⟩
  | .hbm, ⟨45, _⟩ => ⟨S_, .f32⟩
  | .hbm, ⟨46, _⟩ => ⟨S4x1024, .f32⟩
  | .hbm, ⟨47, _⟩ => ⟨S4x1x1024, .f32⟩
  | .hbm, ⟨48, _⟩ => ⟨S4x2048x1024, .f32⟩
  | .hbm, ⟨49, _⟩ => ⟨S4x2048x1024, .f32⟩
  | .hbm, ⟨50, _⟩ => ⟨S4x2048x1024, .f32⟩
  | .hbm, ⟨51, _⟩ => ⟨S_, .f32⟩
  | .hbm, ⟨52, _⟩ => ⟨S4x2048, .f32⟩
  | .hbm, ⟨53, _⟩ => ⟨S4x2048x1, .f32⟩
  | .hbm, ⟨54, _⟩ => ⟨S4x2048x1024, .f32⟩
  | .hbm, ⟨55, _⟩ => ⟨S4x2048x1024, .f32⟩
  | .hbm, ⟨56, _⟩ => ⟨S4x2048x1, .f32⟩
  | .hbm, ⟨57, _⟩ => ⟨S_, .f32⟩
  | .hbm, ⟨58, _⟩ => ⟨S4x2048x1, .f32⟩
  | .hbm, ⟨59, _⟩ => ⟨S4x2048x1, .f32⟩
  | .hbm, ⟨60, _⟩ => ⟨S_, .f32⟩
  | .hbm, ⟨61, _⟩ => ⟨S4x2048, .f32⟩
  | .hbm, ⟨62, _⟩ => ⟨S4x2048x1024, .f32⟩
  | .hbm, ⟨63, _⟩ => ⟨S4x2048x1024, .f32⟩
  | .hbm, ⟨64, _⟩ => ⟨S4x2048x1024, .f32⟩
  | .hbm, ⟨65, _⟩ => ⟨S4x2048x1024, .f32⟩
  | .hbm, ⟨66, _⟩ => ⟨S4x2048x1024, .f32⟩
  | .hbm, ⟨67, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩

abbrev nD : Nat := 1
abbrev τ : Topo := Topo.v7x

variable {F : FTy → Type} [FloatOps F]
-- ==== Kernel20.lean ====
abbrev S8192x1024 : Shape := ⟨2, ![8192, 1024]⟩
abbrev S8192x6144 : Shape := ⟨2, ![8192, 6144]⟩
abbrev S512x1024 : Shape := ⟨2, ![512, 1024]⟩
abbrev S512x3072 : Shape := ⟨2, ![512, 3072]⟩
abbrev S8192x3072 : Shape := ⟨2, ![8192, 3072]⟩

abbrev nBuf : Space → Nat
  | .hbm => 10
  | .vmem => 18
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x6144, .bf16⟩
  | .hbm, ⟨5, _⟩ => ⟨S8192x6144, .bf16⟩
  | .hbm, ⟨6, _⟩ => ⟨S8192x1024, .bf16⟩
  | .hbm, ⟨7, _⟩ => ⟨S8192x1024, .bf16⟩
  | .hbm, ⟨8, _⟩ => ⟨S8192x1024, .bf16⟩
  | .hbm, ⟨9, _⟩ => ⟨S8192x3072, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x3072, .bf16⟩
  | .local _ .vmem, ⟨9, _⟩ => ⟨S512x3072, .bf16⟩
  | .local _ .vmem, ⟨10, _⟩ => ⟨S512x3072, .bf16⟩
  | .local _ .vmem, ⟨11, _⟩ => ⟨S512x3072, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference20Ideal.lean ====
abbrev S8192x1024 : Shape := ⟨2, ![8192, 1024]⟩
abbrev S8192x6144 : Shape := ⟨2, ![8192, 6144]⟩
abbrev S8192x3072 : Shape := ⟨2, ![8192, 3072]⟩
abbrev S8192x3x1024 : Shape := ⟨3, ![8192, 3, 1024]⟩
abbrev S_ : Shape := ⟨0, ![]⟩
abbrev S8192x1x1024 : Shape := ⟨3, ![8192, 1, 1024]⟩

abbrev nBuf : Space → Nat
  | .hbm => 61
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x6144, .bf16⟩
  | .hbm, ⟨5, _⟩ => ⟨S8192x3072, .bf16⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x3072, .f32⟩
  | .hbm, ⟨10, _⟩ => ⟨S8192x3x1024, .f32⟩
  | .hbm, ⟨11, _⟩ => ⟨S8192x3x1024, .f32⟩
  | .hbm, ⟨12, _⟩ => ⟨S8192x3x1024, .f32⟩
  | .hbm, ⟨13, _⟩ => ⟨S_, .f32⟩
  | .hbm, ⟨14, _⟩ => ⟨S8192x3x1024, .f32⟩
  | .hbm, ⟨15, _⟩ => ⟨S8192x3x1024, .f32⟩
  | .hbm, ⟨16, _⟩ => ⟨S_, .f32⟩
  | .hbm, ⟨17, _⟩ => ⟨S8192x3x1024, .f32⟩
  | .hbm, ⟨18, _⟩ => ⟨S8192x3x1024, .f32⟩
  | .hbm, ⟨19, _⟩ => ⟨S_, .f32⟩
  | .hbm, ⟨20, _⟩ => ⟨S8192x3x1024, .f32⟩
  | .hbm, ⟨21, _⟩ => ⟨S8192x3x1024, .f32⟩
  | .hbm, ⟨22, _⟩ => ⟨S8192x3x1024, .f32⟩
  | .hbm, ⟨23, _⟩ => ⟨S8192x1x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1x1024, .f32⟩
  | .hbm, ⟨41, _⟩ => ⟨S_, .f32⟩
  | .hbm, ⟨42, _⟩ => ⟨S8192x3x1024, .f32⟩
  | .hbm, ⟨43, _⟩ => ⟨S8192x1024, .f32⟩
  | .hbm, ⟨44, _⟩ => ⟨S8192x1024, .f32⟩
  | .hbm, ⟨45, _⟩ => ⟨S8192x1x1024, .f32⟩
  | .hbm, ⟨46, _⟩ => ⟨S_, .f32⟩
  | .hbm, ⟨47, _⟩ => ⟨S8192x3x1024, .f32⟩
  | .hbm, ⟨48, _⟩ => ⟨S8192x3x1024, .f32⟩
  | .hbm, ⟨49, _⟩ => ⟨S8192x1024, .f32⟩
  | .hbm, ⟨50, _⟩ => ⟨S8192x1024, .f32⟩
  | .hbm, ⟨51, _⟩ => ⟨S8192x1x1024, .f32⟩
  | .hbm, ⟨52, _⟩ => ⟨S_, .f32⟩
  | .hbm, ⟨53, _⟩ => ⟨S8192x3x1024, .f32⟩
  | .hbm, ⟨54, _⟩ => ⟨S8192x3x1024, .f32⟩
  | .hbm, ⟨55, _⟩ => ⟨S8192x3x1024, .f32⟩
  | .hbm, ⟨56, _⟩ => ⟨S8192x3072, .f32⟩
  | .hbm, ⟨57, _⟩ => ⟨S8192x3072, .bf16⟩
  | .hbm, ⟨58, _⟩ => ⟨S8192x1024, .bf16⟩
  | .hbm, ⟨59, _⟩ => ⟨S8192x1024, .bf16⟩
  | .hbm, ⟨60, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩

abbrev nD : Nat := 1
abbrev τ : Topo := Topo.v7x

variable {F : FTy → Type} [FloatOps F]
-- ==== Kernel21.lean ====
abbrev S32x1024 : Shape := ⟨2, ![32, 1024]⟩
abbrev S4x32x768 : Shape := ⟨3, ![4, 32, 768]⟩
abbrev S4x1024x768 : Shape := ⟨3, ![4, 1024, 768]⟩
abbrev S1x32x768 : Shape := ⟨3, ![1, 32, 768]⟩
abbrev S1x1024x768 : Shape := ⟨3, ![1, 1024, 768]⟩
abbrev S32x768 : Shape := ⟨2, ![32, 768]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S32x1024, .f32⟩
  | .hbm, ⟨1, _⟩ => ⟨S4x32x768, .f32⟩
  | .hbm, ⟨2, _⟩ => ⟨S4x1024x768, .f32⟩
  | .local _ .vmem, ⟨0, _⟩ => ⟨S32x1024, .f32⟩
  | .local _ .vmem, ⟨1, _⟩ => ⟨S1x32x768, .f32⟩
  | .local _ .vmem, ⟨2, _⟩ => ⟨S1x32x768, .f32⟩
  | .local _ .vmem, ⟨3, _⟩ => ⟨S1x1024x768, .f32⟩
  | .local _ .vmem, ⟨4, _⟩ => ⟨S1x1024x768, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x32x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference21Ideal.lean ====
abbrev S32x1024 : Shape := ⟨2, ![32, 1024]⟩
abbrev S4x32x768 : Shape := ⟨3, ![4, 32, 768]⟩
abbrev S_ : Shape := ⟨0, ![]⟩
abbrev S4x1024x768 : Shape := ⟨3, ![4, 1024, 768]⟩
abbrev S32x4x768 : Shape := ⟨3, ![32, 4, 768]⟩
abbrev S4x768x1024 : Shape := ⟨3, ![4, 768, 1024]⟩

abbrev nBuf : Space → Nat
  | .hbm => 18
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S4x32x768, .f32⟩
  | .hbm, ⟨2, _⟩ => ⟨S32x1024, .f32⟩
  | .hbm, ⟨3, _⟩ => ⟨S32x1024, .f32⟩
  | .hbm, ⟨4, _⟩ => ⟨S_, .f32⟩
  | .hbm, ⟨5, _⟩ => ⟨S32x1024, .f32⟩
  | .hbm, ⟨6, _⟩ => ⟨S32x1024, .f32⟩
  | .hbm, ⟨7, _⟩ => ⟨S_, .f32⟩
  | .hbm, ⟨8, _⟩ => ⟨S32x1024, .f32⟩
  | .hbm, ⟨9, _⟩ => ⟨S32x1024, .f32⟩
  | .hbm, ⟨10, _⟩ => ⟨S32x1024, .f32⟩
  | .hbm, ⟨11, _⟩ => ⟨S_, .f32⟩
  | .hbm, ⟨12, _⟩ => ⟨S4x1024x768, .f32⟩
  | .hbm, ⟨13, _⟩ => ⟨S32x4x768, .f32⟩
  | .hbm, ⟨14, _⟩ => ⟨S4x32x768, .f32⟩
  | .hbm, ⟨15, _⟩ => ⟨S32x4x768, .f32⟩
  | .hbm, ⟨16, _⟩ => ⟨S4x768x1024, .f32⟩
  | .hbm, ⟨17, _⟩ => ⟨S4x1024x768, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel22.lean ====
abbrev S4x2048x1024 : Shape := ⟨3, ![4, 2048, 1024]⟩
abbrev S1x1024 : Shape := ⟨2, ![1, 1024]⟩
abbrev S4x1x1024 : Shape := ⟨3, ![4, 1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S4x2048x1024, .f32⟩
  | .hbm, ⟨1, _⟩ => ⟨S1x1024, .f32⟩
  | .hbm, ⟨2, _⟩ => ⟨S4x1x1024, .f32⟩
  | .hbm, ⟨3, _⟩ => ⟨S4x1x1024, .f32⟩
  | .hbm, ⟨4, _⟩ => ⟨S4x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x512x1024, .bf16⟩
  | .local _ .vmem, ⟨8, _⟩ => ⟨S1x512x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference22Ideal.lean ====
abbrev S4x2048x1024 : Shape := ⟨3, ![4, 2048, 1024]⟩
abbrev S1x1024 : Shape := ⟨2, ![1, 1024]⟩
abbrev S4x1x1024 : Shape := ⟨3, ![4, 1, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩

abbrev nBuf : Space → Nat
  | .hbm => 28
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1x1024, .f32⟩
  | .hbm, ⟨2, _⟩ => ⟨S4x1x1024, .f32⟩
  | .hbm, ⟨3, _⟩ => ⟨S4x1x1024, .f32⟩
  | .hbm, ⟨4, _⟩ => ⟨S4x2048x1024, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x1024, .f32⟩
  | .hbm, ⟨16, _⟩ => ⟨S4x2048x1024, .f32⟩
  | .hbm, ⟨17, _⟩ => ⟨S1x1x1024, .f32⟩
  | .hbm, ⟨18, _⟩ => ⟨S4x2048x1024, .f32⟩
  | .hbm, ⟨19, _⟩ => ⟨S4x2048x1024, .f32⟩
  | .hbm, ⟨20, _⟩ => ⟨S_, .f32⟩
  | .hbm, ⟨21, _⟩ => ⟨S4x1x1024, .f32⟩
  | .hbm, ⟨22, _⟩ => ⟨S4x1x1024, .f32⟩
  | .hbm, ⟨23, _⟩ => ⟨S4x2048x1024, .f32⟩
  | .hbm, ⟨24, _⟩ => ⟨S4x2048x1024, .f32⟩
  | .hbm, ⟨25, _⟩ => ⟨S4x2048x1024, .f32⟩
  | .hbm, ⟨26, _⟩ => ⟨S4x2048x1024, .f32⟩
  | .hbm, ⟨27, _⟩ => ⟨S4x2048x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel23.lean ====
abbrev S32x1024 : Shape := ⟨2, ![32, 1024]⟩
abbrev S4x1024x768 : Shape := ⟨3, ![4, 1024, 768]⟩
abbrev S4x1x768 : Shape := ⟨3, ![4, 1, 768]⟩
abbrev S4x32x768 : Shape := ⟨3, ![4, 32, 768]⟩
abbrev S1x1024x768 : Shape := ⟨3, ![1, 1024, 768]⟩
abbrev S1x1x768 : Shape := ⟨3, ![1, 1, 768]⟩
abbrev S1x32x768 : Shape := ⟨3, ![1, 32, 768]⟩
abbrev S1024x768 : Shape := ⟨2, ![1024, 768]⟩
abbrev S32x768 : Shape := ⟨2, ![32, 768]⟩
abbrev S1x768 : Shape := ⟨2, ![1, 768]⟩

abbrev nBuf : Space → Nat
  | .hbm => 4
  | .vmem => 7
  | .smem => 0
  | _ => 0

abbrev bufTy : (tb : Table) → Fin (tcTables nBuf tb) → BufTy
  | .hbm, ⟨0, _⟩ => ⟨S32x1024, .f32⟩
  | .hbm, ⟨1, _⟩ => ⟨S4x1024x768, .f32⟩
  | .hbm, ⟨2, _⟩ => ⟨S4x1x768, .f32⟩
  | .hbm, ⟨3, _⟩ => ⟨S4x32x768, .f32⟩
  | .local _ .vmem, ⟨0, _⟩ => ⟨S32x1024, .f32⟩
  | .local _ .vmem, ⟨1, _⟩ => ⟨S1x1024x768, .f32⟩
  | .local _ .vmem, ⟨2, _⟩ => ⟨S1x1024x768, .f32⟩
  | .local _ .vmem, ⟨3, _⟩ => ⟨S1x1x768, .f32⟩
  | .local _ .vmem, ⟨4, _⟩ => ⟨S1x1x768, .f32⟩
  | .local _ .vmem, ⟨5, _⟩ => ⟨S1x32x768, .f32⟩
  | .local _ .vmem, ⟨6, _⟩ => ⟨S1x32x768, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference23Ideal.lean ====
abbrev S32x1024 : Shape := ⟨2, ![32, 1024]⟩
abbrev S4x1024x768 : Shape := ⟨3, ![4, 1024, 768]⟩
abbrev S4x1x768 : Shape := ⟨3, ![4, 1, 768]⟩
abbrev S_ : Shape := ⟨0, ![]⟩
abbrev S32x4x768 : Shape := ⟨3, ![32, 4, 768]⟩
abbrev S4x32x768 : Shape := ⟨3, ![4, 32, 768]⟩

abbrev nBuf : Space → Nat
  | .hbm => 16
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S4x1024x768, .f32⟩
  | .hbm, ⟨2, _⟩ => ⟨S4x1x768, .f32⟩
  | .hbm, ⟨3, _⟩ => ⟨S32x1024, .f32⟩
  | .hbm, ⟨4, _⟩ => ⟨S32x1024, .f32⟩
  | .hbm, ⟨5, _⟩ => ⟨S_, .f32⟩
  | .hbm, ⟨6, _⟩ => ⟨S32x1024, .f32⟩
  | .hbm, ⟨7, _⟩ => ⟨S32x1024, .f32⟩
  | .hbm, ⟨8, _⟩ => ⟨S_, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S32x4x768, .f32⟩
  | .hbm, ⟨13, _⟩ => ⟨S4x32x768, .f32⟩
  | .hbm, ⟨14, _⟩ => ⟨S4x32x768, .f32⟩
  | .hbm, ⟨15, _⟩ => ⟨S4x32x768, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel24.lean ====
abbrev S8192x6144 : Shape := ⟨2, ![8192, 6144]⟩
abbrev S512 : Shape := ⟨1, ![512]⟩
abbrev S4x128x128 : Shape := ⟨3, ![4, 128, 128]⟩
abbrev S4x128 : Shape := ⟨2, ![4, 128]⟩
abbrev S1x512 : Shape := ⟨2, ![1, 512]⟩
abbrev S128x4 : Shape := ⟨2, ![128, 4]⟩
abbrev S8192x512 : Shape := ⟨2, ![8192, 512]⟩
abbrev S512x512 : Shape := ⟨2, ![512, 512]⟩
abbrev S128x128 : Shape := ⟨2, ![128, 128]⟩
abbrev S1x128x128 : Shape := ⟨3, ![1, 128, 128]⟩
abbrev S128x512 : Shape := ⟨2, ![128, 512]⟩
abbrev S128 : Shape := ⟨1, ![128]⟩
abbrev S128x1 : Shape := ⟨2, ![128, 1]⟩

abbrev nBuf : Space → Nat
  | .hbm => 9
  | .vmem => 10
  | .smem => 0
  | _ => 0

abbrev bufTy : (tb : Table) → Fin (tcTables nBuf tb) → BufTy
  | .hbm, ⟨0, _⟩ => ⟨S8192x6144, .bf16⟩
  | .hbm, ⟨1, _⟩ => ⟨S512, .f32⟩
  | .hbm, ⟨2, _⟩ => ⟨S512, .f32⟩
  | .hbm, ⟨3, _⟩ => ⟨S4x128x128, .f32⟩
  | .hbm, ⟨4, _⟩ => ⟨S4x128, .f32⟩
  | .hbm, ⟨5, _⟩ => ⟨S1x512, .f32⟩
  | .hbm, ⟨6, _⟩ => ⟨S1x512, .f32⟩
  | .hbm, ⟨7, _⟩ => ⟨S128x4, .f32⟩
  | .hbm, ⟨8, _⟩ => ⟨S8192x512, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1x512, .f32⟩
  | .local _ .vmem, ⟨5, _⟩ => ⟨S1x512, .f32⟩
  | .local _ .vmem, ⟨6, _⟩ => ⟨S4x128x128, .f32⟩
  | .local _ .vmem, ⟨7, _⟩ => ⟨S128x4, .f32⟩
  | .local _ .vmem, ⟨8, _⟩ => ⟨S512x512, .bf16⟩
  | .local _ .vmem, ⟨9, _⟩ => ⟨S512x512, .bf16⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel24Ideal.lean ====
variable {F : FTy → Type} [FloatOps F] [Named F]
def κ : String → Option EReal := fun
  | "gelu_a" => some ((8943 / 200000 : ℝ) : EReal)
  | _ => none
-- ==== Reference24Ideal.lean ====
abbrev S8192x6144 : Shape := ⟨2, ![8192, 6144]⟩
abbrev S512 : Shape := ⟨1, ![512]⟩
abbrev S4x128x128 : Shape := ⟨3, ![4, 128, 128]⟩
abbrev S4x128 : Shape := ⟨2, ![4, 128]⟩
abbrev S4x2048x6144 : Shape := ⟨3, ![4, 2048, 6144]⟩
abbrev S4x2048x512 : Shape := ⟨3, ![4, 2048, 512]⟩
abbrev S_ : Shape := ⟨0, ![]⟩
abbrev S4x2048 : Shape := ⟨2, ![4, 2048]⟩
abbrev S4x2048x1 : Shape := ⟨3, ![4, 2048, 1]⟩
abbrev S1x1x512 : Shape := ⟨3, ![1, 1, 512]⟩
abbrev S4x16x128x4x128 : Shape := ⟨5, ![4, 16, 128, 4, 128]⟩
abbrev S128x128 : Shape := ⟨2, ![128, 128]⟩
abbrev S1x128x128 : Shape := ⟨3, ![1, 128, 128]⟩
abbrev S4x4x16x128x128 : Shape := ⟨5, ![4, 4, 16, 128, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S8192x512 : Shape := ⟨2, ![8192, 512]⟩

abbrev nBuf : Space → Nat
  | .hbm => 103
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S512, .f32⟩
  | .hbm, ⟨2, _⟩ => ⟨S512, .f32⟩
  | .hbm, ⟨3, _⟩ => ⟨S4x128x128, .f32⟩
  | .hbm, ⟨4, _⟩ => ⟨S4x128, .f32⟩
  | .hbm, ⟨5, _⟩ => ⟨S8192x6144, .f32⟩
  | .hbm, ⟨6, _⟩ => ⟨S4x2048x6144, .f32⟩
  | .hbm, ⟨7, _⟩ => ⟨S4x2048x512, .f32⟩
  | .hbm, ⟨8, _⟩ => ⟨S4x2048x512, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4x2048x512, .f32⟩
  | .hbm, ⟨13, _⟩ => ⟨S4x2048x512, .f32⟩
  | .hbm, ⟨14, _⟩ => ⟨S4x2048x512, .f32⟩
  | .hbm, ⟨15, _⟩ => ⟨S4x2048x512, .f32⟩
  | .hbm, ⟨16, _⟩ => ⟨S4x2048x512, .f32⟩
  | .hbm, ⟨17, _⟩ => ⟨S_, .f32⟩
  | .hbm, ⟨18, _⟩ => ⟨S4x2048x512, .f32⟩
  | .hbm, ⟨19, _⟩ => ⟨S4x2048x512, .f32⟩
  | .hbm, ⟨20, _⟩ => ⟨S4x2048x512, .f32⟩
  | .hbm, ⟨21, _⟩ => ⟨S_, .f32⟩
  | .hbm, ⟨22, _⟩ => ⟨S4x2048x512, .f32⟩
  | .hbm, ⟨23, _⟩ => ⟨S4x2048x512, .f32⟩
  | .hbm, ⟨24, _⟩ => ⟨S_, .f32⟩
  | .hbm, ⟨25, _⟩ => ⟨S4x2048x512, .f32⟩
  | .hbm, ⟨26, _⟩ => ⟨S4x2048x512, .f32⟩
  | .hbm, ⟨27, _⟩ => ⟨S4x2048x512, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S4x2048x512, .f32⟩
  | .hbm, ⟨32, _⟩ => ⟨S4x2048x512, .f32⟩
  | .hbm, ⟨33, _⟩ => ⟨S4x2048x512, .f32⟩
  | .hbm, ⟨34, _⟩ => ⟨S4x2048x512, .f32⟩
  | .hbm, ⟨35, _⟩ => ⟨S4x2048x512, .f32⟩
  | .hbm, ⟨36, _⟩ => ⟨S_, .f32⟩
  | .hbm, ⟨37, _⟩ => ⟨S4x2048x512, .f32⟩
  | .hbm, ⟨38, _⟩ => ⟨S4x2048x512, .f32⟩
  | .hbm, ⟨39, _⟩ => ⟨S4x2048x512, .f32⟩
  | .hbm, ⟨40, _⟩ => ⟨S_, .f32⟩
  | .hbm, ⟨41, _⟩ => ⟨S4x2048x512, .f32⟩
  | .hbm, ⟨42, _⟩ => ⟨S4x2048x512, .f32⟩
  | .hbm, ⟨43, _⟩ => ⟨S_, .f32⟩
  | .hbm, ⟨44, _⟩ => ⟨S4x2048x512, .f32⟩
  | .hbm, ⟨45, _⟩ => ⟨S4x2048x512, .f32⟩
  | .hbm, ⟨46, _⟩ => ⟨S4x2048x512, .f32⟩
  | .hbm, ⟨47, _⟩ => ⟨S_, .f32⟩
  | .hbm, ⟨48, _⟩ => ⟨S4x2048, .f32⟩
  | .hbm, ⟨49, _⟩ => ⟨S4x2048x1, .f32⟩
  | .hbm, ⟨50, _⟩ => ⟨S_, .f32⟩
  | .hbm, ⟨51, _⟩ => ⟨S4x2048x1, .f32⟩
  | .hbm, ⟨52, _⟩ => ⟨S4x2048x1, .f32⟩
  | .hbm, ⟨53, _⟩ => ⟨S4x2048x512, .f32⟩
  | .hbm, ⟨54, _⟩ => ⟨S4x2048x512, .f32⟩
  | .hbm, ⟨55, _⟩ => ⟨S4x2048x512, .f32⟩
  | .hbm, ⟨56, _⟩ => ⟨S_, .f32⟩
  | .hbm, ⟨57, _⟩ => ⟨S4x2048, .f32⟩
  | .hbm, ⟨58, _⟩ => ⟨S4x2048x1, .f32⟩
  | .hbm, ⟨59, _⟩ => ⟨S_, .f32⟩
  | .hbm, ⟨60, _⟩ => ⟨S4x2048x1, .f32⟩
  | .hbm, ⟨61, _⟩ => ⟨S4x2048x1, .f32⟩
  | .hbm, ⟨62, _⟩ => ⟨S_, .f32⟩
  | .hbm, ⟨63, _⟩ => ⟨S4x2048x1, .f32⟩
  | .hbm, ⟨64, _⟩ => ⟨S4x2048x1, .f32⟩
  | .hbm, ⟨65, _⟩ => ⟨S4x2048x1, .f32⟩
  | .hbm, ⟨66, _⟩ => ⟨S4x2048x512, .f32⟩
  | .hbm, ⟨67, _⟩ => ⟨S4x2048x512, .f32⟩
  | .hbm, ⟨68, _⟩ => ⟨S1x1x512, .f32⟩
  | .hbm, ⟨69, _⟩ => ⟨S4x2048x512, .f32⟩
  | .hbm, ⟨70, _⟩ => ⟨S4x2048x512, .f32⟩
  | .hbm, ⟨71, _⟩ => ⟨S1x1x512, .f32⟩
  | .hbm, ⟨72, _⟩ => ⟨S4x2048x512, .f32⟩
  | .hbm, ⟨73, _⟩ => ⟨S4x2048x512, .f32⟩
  | .hbm, ⟨74, _⟩ => ⟨S4x16x128x4x128, .f32⟩
  | .hbm, ⟨75, _⟩ => ⟨S_, .i1⟩
  | .hbm, ⟨76, _⟩ => ⟨S128x128, .i1⟩
  | .hbm, ⟨77, _⟩ => ⟨S128x128, .i32⟩
  | .hbm, ⟨78, _⟩ => ⟨S_, .i32⟩
  | .hbm, ⟨79, _⟩ => ⟨S128x128, .i32⟩
  | .hbm, ⟨80, _⟩ => ⟨S128x128, .i32⟩
  | .hbm, ⟨81, _⟩ => ⟨S128x128, .i32⟩
  | .hbm, ⟨82, _⟩ => ⟨S128x128, .i1⟩
  | .hbm, ⟨83, _⟩ => ⟨S_, .i1⟩
  | .hbm, ⟨84, _⟩ => ⟨S128x128, .i1⟩
  | .hbm, ⟨85, _⟩ => ⟨S128x128, .i1⟩
  | .hbm, ⟨86, _⟩ => ⟨S1x128x128, .i1⟩
  | .hbm, ⟨87, _⟩ => ⟨S_, .f32⟩
  | .hbm, ⟨88, _⟩ => ⟨S_, .f32⟩
  | .hbm, ⟨89, _⟩ => ⟨S4x128x128, .i1⟩
  | .hbm, ⟨90, _⟩ => ⟨S4x128x128, .f32⟩
  | .hbm, ⟨91, _⟩ => ⟨S4x128x128, .f32⟩
  | .hbm, ⟨92, _⟩ => ⟨S4x4x16x128x128, .f32⟩
  | .hbm, ⟨93, _⟩ => ⟨S4x16x128x4x128, .f32⟩
  | .hbm, ⟨94, _⟩ => ⟨S128x4, .f32⟩
  | .hbm, ⟨95, _⟩ => ⟨S128x4x1, .f32⟩
  | .hbm, ⟨96, _⟩ => ⟨S1x1x128x4x1, .f32⟩
  | .hbm, ⟨97, _⟩ => ⟨S4x16x128x4x128, .f32⟩
  | .hbm, ⟨98, _⟩ => ⟨S4x16x128x4x128, .f32⟩
  | .hbm, ⟨99, _⟩ => ⟨S4x2048x512, .f32⟩
  | .hbm, ⟨100, _⟩ => ⟨S4x2048x512, .f32⟩
  | .hbm, ⟨101, _⟩ => ⟨S8192x512, .f32⟩
  | .hbm, ⟨102, _⟩ => ⟨S8192x512, .bf16⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_9 : Ref sig .tc := ⟨.hbm, 47, rfl⟩
abbrev main_v32 : Ref sig .tc := ⟨.hbm, 48, rfl⟩
abbrev main_v33 : Ref sig .tc := ⟨.hbm, 49, rfl⟩
abbrev main_cst_10 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_11 : Ref sig .tc := ⟨.hbm, 56, rfl⟩
abbrev main_v39 : Ref sig .tc := ⟨.hbm, 57, rfl⟩
abbrev main_v40 : Ref sig .tc := ⟨.hbm, 58, rfl⟩
abbrev main_cst_12 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_c : Ref sig .tc := ⟨.hbm, 75, rfl⟩
abbrev main_v55 : Ref sig .tc := ⟨.hbm, 76, rfl⟩
abbrev main_call0_v0 : Ref sig .tc := ⟨.hbm, 77, rfl⟩
abbrev main_call0_c : Ref sig .tc := ⟨.hbm, 78, rfl⟩
abbrev main_call0_v1 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_call0_c_0 : Ref sig .tc := ⟨.hbm, 83, rfl⟩
abbrev main_call0_v5 : Ref sig .tc := ⟨.hbm, 84, rfl⟩
abbrev main_v56 : Ref sig .tc := ⟨.hbm, 85, rfl⟩
abbrev main_v57 : Ref sig .tc := ⟨.hbm, 86, rfl⟩
abbrev main_cst_14 : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩

abbrev nD : Nat := 1
abbrev τ : Topo := Topo.v7x

variable {F : FTy → Type} [FloatOps F]
-- ==== Kernel25.lean ====
abbrev S1x4096x768 : Shape := ⟨3, ![1, 4096, 768]⟩
abbrev S4096x768 : Shape := ⟨2, ![4096, 768]⟩
abbrev S1x512x768 : Shape := ⟨3, ![1, 512, 768]⟩
abbrev S512x768 : Shape := ⟨2, ![512, 768]⟩

abbrev nBuf : Space → Nat
  | .hbm => 8
  | .vmem => 16
  | .smem => 0
  | _ => 0

abbrev bufTy : (tb : Table) → Fin (tcTables nBuf tb) → BufTy
  | .hbm, ⟨0, _⟩ => ⟨S1x4096x768, .f32⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S4096x768, .f32⟩
  | .hbm, ⟨5, _⟩ => ⟨S4096x768, .f32⟩
  | .hbm, ⟨6, _⟩ => ⟨S4096x768, .f32⟩
  | .hbm, ⟨7, _⟩ => ⟨S4096x768, .f32⟩
  | .local _ .vmem, ⟨0, _⟩ => ⟨S1x512x768, .f32⟩
  | .local _ .vmem, ⟨1, _⟩ => ⟨S1x512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | .local _ .vmem, ⟨14, _⟩ => ⟨S512x768, .f32⟩
  | .local _ .vmem, ⟨15, _⟩ => ⟨S512x768, .f32⟩
  | _, _ => ⟨S1x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference25Ideal.lean ====
abbrev S1x4096x768 : Shape := ⟨3, ![1, 4096, 768]⟩
abbrev S4096x768 : Shape := ⟨2, ![4096, 768]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x4096x768, .f32⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S_, .f32⟩
  | .hbm, ⟨5, _⟩ => ⟨S4096x768, .f32⟩
  | .hbm, ⟨6, _⟩ => ⟨S_, .f32⟩
  | .hbm, ⟨7, _⟩ => ⟨S4096x768, .f32⟩
  | .hbm, ⟨8, _⟩ => ⟨S4096x768, .f32⟩
  | .hbm, ⟨9, _⟩ => ⟨S_, .f32⟩
  | .hbm, ⟨10, _⟩ => ⟨S4096x768, .f32⟩
  | .hbm, ⟨11, _⟩ => ⟨S4096x768, .f32⟩
  | .hbm, ⟨12, _⟩ => ⟨S4096x768, .f32⟩
  | .hbm, ⟨13, _⟩ => ⟨S_, .f32⟩
  | .hbm, ⟨14, _⟩ => ⟨S4096x768, .f32⟩
  | .hbm, ⟨15, _⟩ => ⟨S4096x768, .f32⟩
  | .hbm, ⟨16, _⟩ => ⟨S4096x768, .f32⟩
  | .hbm, ⟨17, _⟩ => ⟨S_, .f32⟩
  | .hbm, ⟨18, _⟩ => ⟨S4096x768, .f32⟩
  | .hbm, ⟨19, _⟩ => ⟨S4096x768, .f32⟩
  | .hbm, ⟨20, _⟩ => ⟨S4096x768, .f32⟩
  | .hbm, ⟨21, _⟩ => ⟨S_, .f32⟩
  | .hbm, ⟨22, _⟩ => ⟨S4096x768, .f32⟩
  | .hbm, ⟨23, _⟩ => ⟨S4096x768, .f32⟩
  | .hbm, ⟨24, _⟩ => ⟨S_, .f32⟩
  | .hbm, ⟨25, _⟩ => ⟨S4096x768, .f32⟩
  | .hbm, ⟨26, _⟩ => ⟨S4096x768, .f32⟩
  | .hbm, ⟨27, _⟩ => ⟨S4096x768, .f32⟩
  | .hbm, ⟨28, _⟩ => ⟨S_, .f32⟩
  | .hbm, ⟨29, _⟩ => ⟨S4096x768, .f32⟩
  | .hbm, ⟨30, _⟩ => ⟨S4096x768, .f32⟩
  | .hbm, ⟨31, _⟩ => ⟨S4096x768, .f32⟩
  | .hbm, ⟨32, _⟩ => ⟨S_, .f32⟩
  | .hbm, ⟨33, _⟩ => ⟨S4096x768, .f32⟩
  | .hbm, ⟨34, _⟩ => ⟨S4096x768, .f32⟩
  | .hbm, ⟨35, _⟩ => ⟨S4096x768, .f32⟩
  | .hbm, ⟨36, _⟩ => ⟨S_, .f32⟩
  | .hbm, ⟨37, _⟩ => ⟨S4096x768, .f32⟩
  | .hbm, ⟨38, _⟩ => ⟨S4096x768, .f32⟩
  | _, _ => ⟨S1x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel26.lean ====
abbrev S8x2048x128 : Shape := ⟨3, ![8, 2048, 128]⟩
abbrev S2048x128 : Shape := ⟨2, ![2048, 128]⟩
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x128, .bf16⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S2048x128, .f32⟩
  | .hbm, ⟨6, _⟩ => ⟨S2048x128, .f32⟩
  | .hbm, ⟨7, _⟩ => ⟨S2048x128, .f32⟩
  | .local _ .vmem, ⟨0, _⟩ => ⟨S8x512x128, .bf16⟩
  | .local _ .vmem, ⟨1, _⟩ => ⟨S8x512x128, .bf16⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | _, _ => ⟨S8x2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference26Ideal.lean ====
abbrev S8x2048x128 : Shape := ⟨3, ![8, 2048, 128]⟩
abbrev S2048x128 : Shape := ⟨2, ![2048, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x128, .bf16⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S8x2048x128, .f32⟩
  | .hbm, ⟨5, _⟩ => ⟨S_, .f32⟩
  | .hbm, ⟨6, _⟩ => ⟨S2048x128, .f32⟩
  | .hbm, ⟨7, _⟩ => ⟨S_, .f32⟩
  | .hbm, ⟨8, _⟩ => ⟨S2048x128, .f32⟩
  | .hbm, ⟨9, _⟩ => ⟨S2048x128, .f32⟩
  | .hbm, ⟨10, _⟩ => ⟨S_, .f32⟩
  | .hbm, ⟨11, _⟩ => ⟨S2048x128, .f32⟩
  | .hbm, ⟨12, _⟩ => ⟨S2048x128, .f32⟩
  | .hbm, ⟨13, _⟩ => ⟨S2048x128, .f32⟩
  | .hbm, ⟨14, _⟩ => ⟨S_, .f32⟩
  | .hbm, ⟨15, _⟩ => ⟨S2048x128, .f32⟩
  | .hbm, ⟨16, _⟩ => ⟨S2048x128, .f32⟩
  | .hbm, ⟨17, _⟩ => ⟨S2048x128, .f32⟩
  | .hbm, ⟨18, _⟩ => ⟨S_, .f32⟩
  | .hbm, ⟨19, _⟩ => ⟨S2048x128, .f32⟩
  | .hbm, ⟨20, _⟩ => ⟨S2048x128, .f32⟩
  | .hbm, ⟨21, _⟩ => ⟨S2048x128, .f32⟩
  | .hbm, ⟨22, _⟩ => ⟨S_, .f32⟩
  | .hbm, ⟨23, _⟩ => ⟨S2048x128, .f32⟩
  | .hbm, ⟨24, _⟩ => ⟨S2048x128, .f32⟩
  | .hbm, ⟨25, _⟩ => ⟨S_, .f32⟩
  | .hbm, ⟨26, _⟩ => ⟨S2048x128, .f32⟩
  | .hbm, ⟨27, _⟩ => ⟨S2048x128, .f32⟩
  | .hbm, ⟨28, _⟩ => ⟨S2048x128, .f32⟩
  | .hbm, ⟨29, _⟩ => ⟨S_, .f32⟩
  | .hbm, ⟨30, _⟩ => ⟨S2048x128, .f32⟩
  | .hbm, ⟨31, _⟩ => ⟨S2048x128, .f32⟩
  | .hbm, ⟨32, _⟩ => ⟨S2048x128, .f32⟩
  | .hbm, ⟨33, _⟩ => ⟨S_, .f32⟩
  | .hbm, ⟨34, _⟩ => ⟨S2048x128, .f32⟩
  | .hbm, ⟨35, _⟩ => ⟨S2048x128, .f32⟩
  | .hbm, ⟨36, _⟩ => ⟨S2048x128, .f32⟩
  | .hbm, ⟨37, _⟩ => ⟨S_, .f32⟩
  | .hbm, ⟨38, _⟩ => ⟨S2048x128, .f32⟩
  | .hbm, ⟨39, _⟩ => ⟨S2048x128, .f32⟩
  | _, _ => ⟨S8x2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Proof.Update.Step.lean ====
/-
  One element of the optimiser's step over the extended reals: the first moment, the second moment and the change of the weight, and
  the reference's arrays, element by element.
-/
module

public import Idealize.ShloMosaic.Lib.Claim
public import Idealize.ShloMosaic.Lib.Pipeline.ValueKit

@[expose] public section

noncomputable section
namespace Cert.Update
open Idealize.ShloMosaic

/-- The first moment: nine tenths of the old one and a tenth of the gradient. -/
def mom (g m : EReal) : EReal := Ideal.ofBits .f32 0x3F666666#32 * m + Ideal.ofBits .f32 0x3DCCCCCD#32 * g
/-- The second moment. -/
def vel (g v : EReal) : EReal := Ideal.ofBits .f32 0x3F7FBE77#32 * v + Ideal.ofBits .f32 0x3A83126F#32 * (g * g)
/-- The weight's change. -/
def step (g w m v : EReal) : EReal :=
  Ideal.ofBits .f32 0xBA83126F#32 * (Ideal.div (Ideal.div (mom g m) (Ideal.ofBits .f32 0x3F26BD02#32))
    (Ideal.sqrt (Ideal.div (vel g v) (Ideal.ofBits .f32 0x3C231ACC#32)) + Ideal.ofBits .f32 0x322BCC77#32) + Ideal.ofBits .f32 0x3C23D70A#32 * w)

/-- The parts' sum at a place. -/
def tot {k r n : ℕ} (x : (⟨3, ![k, r, n]⟩ : Shape).Idx → EReal) (i : (⟨2, ![r, n]⟩ : Shape).Idx) : EReal := ∑ j : Fin k, x (ix3 j (i 0) (i 1))

theorem zeros : (![0, 0] : Fin 2 → Nat) = fun _ => 0 := funext fun a => by fin_cases a <;> rfl

section Reference
variable {S : Shape} (h : (⟨0, ![]⟩ : Shape).BroadcastsInDim S ![]) (g w u v : FVec Ideal S .f32)

abbrev fill (b : BitVec 32) : FVec Ideal S .f32 := broadcastInDim S ![] h (constant ⟨0, ![]⟩ .f32 b)
/-- The reference's moments and changes, from its gradient. -/
abbrev outM : FVec Ideal S .f32 := addf (mulf (fill h 0x3F666666#32) u) (mulf (fill h 0x3DCCCCCD#32) g)
abbrev outV : FVec Ideal S .f32 := addf (mulf (fill h 0x3F7FBE77#32) v) (mulf (fill h 0x3A83126F#32) (mulf g g))
abbrev outD : FVec Ideal S .f32 :=
  mulf (fill h 0xBA83126F#32) (addf (Host.divf (Host.divf (outM h g u) (fill h 0x3F26BD02#32))
    (addf (Host.sqrt (Host.divf (outV h g v) (fill h 0x3C231ACC#32))) (fill h 0x322BCC77#32))) (mulf (fill h 0x3C23D70A#32) w))

theorem outM_apply (i : S.Idx) : outM h g u i = mom (g i) (u i) := rfl
theorem outV_apply (i : S.Idx) : outV h g v i = vel (g i) (v i) := rfl
theorem outD_apply (i : S.Idx) : outD h g w u v i = step (g i) (w i) (u i) (v i) := rfl
end Reference

end Cert.Update
end
-- ==== Proof.Update.Modulation.lean ====
/-
  The update of the modulation's weights: what every grid point stores and what the reference has at the same place. No side condition.
-/
module

public import proofs.«01_k».proof.Proof.Update.Step
public import proofs.«01_k».proof.Proof.Gen.Kernel25Ideal.Value
public import proofs.«01_k».proof.Proof.Gen.Reference25Ideal.Run

@[expose] public section
set_option maxRecDepth 16384

noncomputable section
namespace Cert.Modulation
open Idealize.ShloMosaic Idealize.ShloMosaic.TcCoe Idealize.ShloMosaic.Tactic
open Cert.Update
open Cert.Kernel25Ideal Cert.Kernel25Ideal.Gen

/-- Each part of a block. -/
theorem slice (x : Vec Ideal S1x512x768 .f32) (p : Fin 512) (n : Fin 768) : View.ld x r0_0 (ix3 0 p n) = x (ix3 0 p n) := by
  refine congrArg x (funext fun a => ?_)
  fin_cases a <;> apply Fin.ext <;> simp [Rect.unit, ix3]

section Points
variable (x0 : Vec Ideal S1x512x768 .f32) (x1 x2 x3 : Vec Ideal S512x768 .f32) (y : S512x768.Idx)
/-- The gradient a point stores, and what it stores besides. -/
theorem out_4 (p : Fin 512) (n : Fin 768) : out0_4 x0 x1 x2 x3 (ix2 p n) = tot x0 (ix2 p n) := by
  have hs := slice x0 p n
  unfold out0_4
  rw [View.canon_unit_zero zeros]
  unfold tot
  pointwise [k0_pay1]
  simp only [hs, Fin.sum_univ_one]
theorem out_5 : out0_5 x0 x1 x2 x3 y = step (out0_4 x0 x1 x2 x3 y) (x1 y) (x2 y) (x3 y) := by
  unfold out0_5
  unfold out0_4
  rw [View.canon_unit_zero zeros, View.canon_unit_zero zeros]
  simp only [View.ld_unit_zero (S := S512x768) zeros]
  rfl
theorem out_6 : out0_6 x0 x1 x2 x3 y = mom (out0_4 x0 x1 x2 x3 y) (x2 y) := by
  unfold out0_6
  unfold out0_4
  rw [View.canon_unit_zero zeros, View.canon_unit_zero zeros]
  simp only [View.ld_unit_zero (S := S512x768) zeros]
  rfl
theorem out_7 : out0_7 x0 x1 x2 x3 y = vel (out0_4 x0 x1 x2 x3 y) (x3 y) := by
  unfold out0_7
  unfold out0_4
  rw [View.canon_unit_zero zeros, View.canon_unit_zero zeros]
  simp only [View.ld_unit_zero (S := S512x768) zeros]
  rfl
end Points

variable (m : (ℓ : Loc nD τ sig) → Buf (Elt Ideal) ℓ) (c : Dev nD)

/-- The parts, the weights and the moments. -/
abbrev A : FVec Ideal S1x4096x768 .f32 := m (c.tc.loc main_arg0)
abbrev W : FVec Ideal S4096x768 .f32 := m (c.tc.loc main_arg1)
abbrev M : FVec Ideal S4096x768 .f32 := m (c.tc.loc main_arg2)
abbrev U : FVec Ideal S4096x768 .f32 := m (c.tc.loc main_arg3)

theorem index0 : ∀ t : Fin cfg0.N, win0_0.index t = ![0, t.val, 0] := by decide +kernel
theorem index1 : ∀ t : Fin cfg0.N, win0_1.index t = ![t.val, 0] := by decide +kernel
theorem index2 : ∀ t : Fin cfg0.N, win0_2.index t = ![t.val, 0] := by decide +kernel
theorem index3 : ∀ t : Fin cfg0.N, win0_3.index t = ![t.val, 0] := by decide +kernel
theorem index4 : ∀ t : Fin cfg0.N, win0_4.index t = ![t.val, 0] := by decide +kernel
theorem index5 : ∀ t : Fin cfg0.N, win0_5.index t = ![t.val, 0] := by decide +kernel
theorem index6 : ∀ t : Fin cfg0.N, win0_6.index t = ![t.val, 0] := by decide +kernel
theorem index7 : ∀ t : Fin cfg0.N, win0_7.index t = ![t.val, 0] := by decide +kernel

/-- Row `n` of 4096. -/
def row (n : ℕ) : Fin 4096 := ⟨n % 4096, Nat.mod_lt _ (by decide)⟩
theorem row_val (t : Fin cfg0.N) (p : Fin 512) : (row (512 * t.val + p.val)).val = 512 * t.val + p.val :=
  Nat.mod_eq_of_lt (by have := lt_of_lt_of_eq t.isLt (show cfg0.N = 8 from N_0); omega)

/-- A point's blocks. -/
abbrev X (t : Fin cfg0.N) : FVec Ideal S1x512x768 .f32 := iblk m c 0 t
abbrev X1 (t : Fin cfg0.N) : FVec Ideal S512x768 .f32 := iblk m c 1 t
abbrev X2 (t : Fin cfg0.N) : FVec Ideal S512x768 .f32 := iblk m c 2 t
abbrev X3 (t : Fin cfg0.N) : FVec Ideal S512x768 .f32 := iblk m c 3 t

section Blocks
variable (t : Fin cfg0.N) (p : Fin 512) (n : Fin 768)
theorem block0 (k : Fin 1) : X m c t (ix3 k p n) = A m c (ix3 k (row (512 * t.val + p.val)) n) := by
  have e := row_val t p
  blk_ext! [X, iblk, V, index0, e]
theorem block1 : X1 m c t (ix2 p n) = W m c (ix2 (row (512 * t.val + p.val)) n) := by
  have e := row_val t p
  blk_ext! [X1, iblk, V, index1, e]
theorem block2 : X2 m c t (ix2 p n) = M m c (ix2 (row (512 * t.val + p.val)) n) := by
  have e := row_val t p
  blk_ext! [X2, iblk, V, index2, e]
theorem block3 : X3 m c t (ix2 p n) = U m c (ix2 (row (512 * t.val + p.val)) n) := by
  have e := row_val t p
  blk_ext! [X3, iblk, V, index3, e]
end Blocks

/-- What the call puts at a place of its results. -/
def gAt (i : Fin 4096) (n : Fin 768) : EReal := tot (A m c) (ix2 i n)
def dAt (i : Fin 4096) (n : Fin 768) : EReal := step (gAt m c i n) (W m c (ix2 i n)) (M m c (ix2 i n)) (U m c (ix2 i n))
def mAt (i : Fin 4096) (n : Fin 768) : EReal := mom (gAt m c i n) (M m c (ix2 i n))
def vAt (i : Fin 4096) (n : Fin 768) : EReal := vel (gAt m c i n) (U m c (ix2 i n))

section Point
variable (t : Fin cfg0.N) (p : Fin 512) (n : Fin 768)
theorem point4 : out0_4 (F := Ideal) (X m c t) (X1 m c t) (X2 m c t) (X3 m c t) (ix2 p n) = gAt m c (row (512 * t.val + p.val)) n :=
  (out_4 _ _ _ _ p n).trans (Finset.sum_congr rfl fun k _ => block0 m c t p n k)
theorem point5 : out0_5 (F := Ideal) (X m c t) (X1 m c t) (X2 m c t) (X3 m c t) (ix2 p n) = dAt m c (row (512 * t.val + p.val)) n := by
  rw [out_5, point4, block1, block2, block3, dAt]
theorem point6 : out0_6 (F := Ideal) (X m c t) (X1 m c t) (X2 m c t) (X3 m c t) (ix2 p n) = mAt m c (row (512 * t.val + p.val)) n := by
  rw [out_6, point4, block2, mAt]
theorem point7 : out0_7 (F := Ideal) (X m c t) (X1 m c t) (X2 m c t) (X3 m c t) (ix2 p n) = vAt m c (row (512 * t.val + p.val)) n := by
  rw [out_7, point4, block3, vAt]
end Point

/-- The results' arrays after the run. -/
theorem array4 : ((dats m 0 c).arrAt 4 cfg0.N : FVec Ideal S4096x768 .f32) = fun i => gAt m c (i 0) (i 1) := by
  refine (dats m 0 c).arrAt_eq_of_covers 4 _ (by decide +kernel) fun t hf y => ?_
  blk_simp [index4]
  rw [after0_4]
  refine (congrArg (out0_4 (F := Ideal) (X m c t) (X1 m c t) (X2 m c t) (X3 m c t)) (eq_ix2 y)).trans ((point4 m c t (y 0) (y 1)).trans ?_)
  exact congrArg₂ (gAt m c) (Fin.ext ((row_val t (y 0)).trans (by blk_simp [index4]; exact congrArg (· + _) (Nat.mul_comm _ _)))) (Fin.ext (by blk_simp [index4]))
theorem array5 : ((dats m 0 c).arrAt 5 cfg0.N : FVec Ideal S4096x768 .f32) = fun i => dAt m c (i 0) (i 1) := by
  refine (dats m 0 c).arrAt_eq_of_covers 5 _ (by decide +kernel) fun t hf y => ?_
  blk_simp [index5]
  rw [after0_5]
  refine (congrArg (out0_5 (F := Ideal) (X m c t) (X1 m c t) (X2 m c t) (X3 m c t)) (eq_ix2 y)).trans ((point5 m c t (y 0) (y 1)).trans ?_)
  exact congrArg₂ (dAt m c) (Fin.ext ((row_val t (y 0)).trans (by blk_simp [index5]; exact congrArg (· + _) (Nat.mul_comm _ _)))) (Fin.ext (by blk_simp [index5]))
theorem array6 : ((dats m 0 c).arrAt 6 cfg0.N : FVec Ideal S4096x768 .f32) = fun i => mAt m c (i 0) (i 1) := by
  refine (dats m 0 c).arrAt_eq_of_covers 6 _ (by decide +kernel) fun t hf y => ?_
  blk_simp [index6]
  rw [after0_6]
  refine (congrArg (out0_6 (F := Ideal) (X m c t) (X1 m c t) (X2 m c t) (X3 m c t)) (eq_ix2 y)).trans ((point6 m c t (y 0) (y 1)).trans ?_)
  exact congrArg₂ (mAt m c) (Fin.ext ((row_val t (y 0)).trans (by blk_simp [index6]; exact congrArg (· + _) (Nat.mul_comm _ _)))) (Fin.ext (by blk_simp [index6]))
theorem array7 : ((dats m 0 c).arrAt 7 cfg0.N : FVec Ideal S4096x768 .f32) = fun i => vAt m c (i 0) (i 1) := by
  refine (dats m 0 c).arrAt_eq_of_covers 7 _ (by decide +kernel) fun t hf y => ?_
  blk_simp [index7]
  rw [after0_7]
  refine (congrArg (out0_7 (F := Ideal) (X m c t) (X1 m c t) (X2 m c t) (X3 m c t)) (eq_ix2 y)).trans ((point7 m c t (y 0) (y 1)).trans ?_)
  exact congrArg₂ (vAt m c) (Fin.ext ((row_val t (y 0)).trans (by blk_simp [index7]; exact congrArg (· + _) (Nat.mul_comm _ _)))) (Fin.ext (by blk_simp [index7]))

end Cert.Modulation

namespace Cert.Modulation
open Idealize.ShloMosaic Idealize.ShloMosaic.TcCoe Idealize.ShloMosaic.Tactic
open Cert.Update
open Cert.Reference25Ideal Cert.Reference25Ideal.Gen

/-- The reference's gradient. -/
abbrev outG (x : FVec Ideal S1x4096x768 .f32) : FVec Ideal S4096x768 .f32 := Host.reduceAdd x (constant S_ .f32 0x00000000#32) reducesTo_S1x4096x768_S4096x768_d0 h_S_
theorem outG_apply (x : FVec Ideal S1x4096x768 .f32) : outG x = tot x := by
  funext i
  rw [eq_ix2 i]
  unfold tot
  pointwise [outG]

/-- The call's arrays are the reference's results. -/
theorem meet (m : (ℓ : Loc Cert.Kernel25Ideal.nD Cert.Kernel25Ideal.τ Cert.Kernel25Ideal.sig) → Buf (Elt Ideal) ℓ) (c : Dev 1)
    {x : FVec Ideal S1x4096x768 .f32} {w u v : FVec Ideal S4096x768 .f32} (ex : x = A m c) (ew : w = W m c) (eu : u = M m c) (ev : v = U m c) :
    let d := Cert.Kernel25Ideal.Gen.dats m 0 c
    let N := Cert.Kernel25Ideal.cfg0.N
    outG x = d.arrAt 4 N ∧ outD bcast_S_S4096x768 (outG x) w u v = d.arrAt 5 N ∧ outM bcast_S_S4096x768 (outG x) u = d.arrAt 6 N ∧ outV bcast_S_S4096x768 (outG x) v = d.arrAt 7 N := by
  subst ex ew eu ev
  rw [outG_apply]
  refine ⟨Eq.trans (funext fun i => ?_) (array4 m c).symm, Eq.trans (funext fun i => ?_) (array5 m c).symm, Eq.trans (funext fun i => ?_) (array6 m c).symm, Eq.trans (funext fun i => ?_) (array7 m c).symm⟩ <;> rw [eq_ix2 i]
  · exact rfl
  · exact outD_apply _ _ _ _ _ _
  · exact outM_apply _ _ _ _
  · exact outV_apply _ _ _ _

end Cert.Modulation
end
-- ==== Proof.Update.Spatial.lean ====
/-
  The update of the spatial weights and of the pooling's weights, whose arrays are of the same shapes: what every grid point stores and what the reference has at the same place. No side condition.
-/
module

public import proofs.«01_k».proof.Proof.Update.Step
public import proofs.«01_k».proof.Proof.Gen.Kernel26Ideal.Value
public import proofs.«01_k».proof.Proof.Gen.Reference26Ideal.Run

@[expose] public section
set_option maxRecDepth 16384

noncomputable section
namespace Cert.Spatial
open Idealize.ShloMosaic Idealize.ShloMosaic.TcCoe Idealize.ShloMosaic.Tactic
open Cert.Update
open Cert.Kernel26Ideal Cert.Kernel26Ideal.Gen

/-- Each part of a block. -/
theorem slice (x : Vec Ideal S8x512x128 .bf16) (p : Fin 512) (n : Fin 128) : View.ld x r0_0 (ix3 0 p n) = x (ix3 0 p n) ∧ View.ld x r0_1 (ix3 0 p n) = x (ix3 1 p n) ∧ View.ld x r0_2 (ix3 0 p n) = x (ix3 2 p n) ∧ View.ld x r0_3 (ix3 0 p n) = x (ix3 3 p n) ∧ View.ld x r0_4 (ix3 0 p n) = x (ix3 4 p n) ∧ View.ld x r0_5 (ix3 0 p n) = x (ix3 5 p n) ∧ View.ld x r0_6 (ix3 0 p n) = x (ix3 6 p n) ∧ View.ld x r0_7 (ix3 0 p n) = x (ix3 7 p n) := by
  refine ⟨?_, ?_, ?_, ?_, ?_, ?_, ?_, ?_⟩ <;> refine congrArg x (funext fun a => ?_) <;> fin_cases a <;> apply Fin.ext <;> simp [Rect.unit, ix3]

section Points
variable (x0 : Vec Ideal S8x512x128 .bf16) (x1 x2 x3 : Vec Ideal S512x128 .f32) (y : S512x128.Idx)
/-- The gradient a point stores, and what it stores besides. -/
theorem out_4 (p : Fin 512) (n : Fin 128) : out0_4 x0 x1 x2 x3 (ix2 p n) = tot x0 (ix2 p n) := by
  have hs := slice x0 p n
  unfold out0_4 k0_pay5
  rw [View.canon_unit_zero zeros]
  unfold tot
  pointwise [k0_pay4]
  simp only [hs, Fin.sum_univ_eight]
theorem out_5 : out0_5 x0 x1 x2 x3 y = step (out0_4 x0 x1 x2 x3 y) (x1 y) (x2 y) (x3 y) := by
  unfold out0_5
  unfold out0_4 k0_pay5
  rw [View.canon_unit_zero zeros, View.canon_unit_zero zeros]
  simp only [View.ld_unit_zero (S := S512x128) zeros]
  rfl
theorem out_6 : out0_6 x0 x1 x2 x3 y = mom (out0_4 x0 x1 x2 x3 y) (x2 y) := by
  unfold out0_6
  unfold out0_4 k0_pay5
  rw [View.canon_unit_zero zeros, View.canon_unit_zero zeros]
  simp only [View.ld_unit_zero (S := S512x128) zeros]
  rfl
theorem out_7 : out0_7 x0 x1 x2 x3 y = vel (out0_4 x0 x1 x2 x3 y) (x3 y) := by
  unfold out0_7
  unfold out0_4 k0_pay5
  rw [View.canon_unit_zero zeros, View.canon_unit_zero zeros]
  simp only [View.ld_unit_zero (S := S512x128) zeros]
  rfl
end Points

variable (m : (ℓ : Loc nD τ sig) → Buf (Elt Ideal) ℓ) (c : Dev nD)

/-- The parts, the weights and the moments. -/
abbrev A : FVec Ideal S8x2048x128 .bf16 := m (c.tc.loc main_arg0)
abbrev W : FVec Ideal S2048x128 .f32 := m (c.tc.loc main_arg1)
abbrev M : FVec Ideal S2048x128 .f32 := m (c.tc.loc main_arg2)
abbrev U : FVec Ideal S2048x128 .f32 := m (c.tc.loc main_arg3)

theorem index0 : ∀ t : Fin cfg0.N, win0_0.index t = ![0, t.val, 0] := by decide +kernel
theorem index1 : ∀ t : Fin cfg0.N, win0_1.index t = ![t.val, 0] := by decide +kernel
theorem index2 : ∀ t : Fin cfg0.N, win0_2.index t = ![t.val, 0] := by decide +kernel
theorem index3 : ∀ t : Fin cfg0.N, win0_3.index t = ![t.val, 0] := by decide +kernel
theorem index4 : ∀ t : Fin cfg0.N, win0_4.index t = ![t.val, 0] := by decide +kernel
theorem index5 : ∀ t : Fin cfg0.N, win0_5.index t = ![t.val, 0] := by decide +kernel
theorem index6 : ∀ t : Fin cfg0.N, win0_6.index t = ![t.val, 0] := by decide +kernel
theorem index7 : ∀ t : Fin cfg0.N, win0_7.index t = ![t.val, 0] := by decide +kernel

/-- Row `n` of 2048. -/
def row (n : ℕ) : Fin 2048 := ⟨n % 2048, Nat.mod_lt _ (by decide)⟩
theorem row_val (t : Fin cfg0.N) (p : Fin 512) : (row (512 * t.val + p.val)).val = 512 * t.val + p.val :=
  Nat.mod_eq_of_lt (by have := lt_of_lt_of_eq t.isLt (show cfg0.N = 4 from N_0); omega)

/-- A point's blocks. -/
abbrev X (t : Fin cfg0.N) : FVec Ideal S8x512x128 .bf16 := iblk m c 0 t
abbrev X1 (t : Fin cfg0.N) : FVec Ideal S512x128 .f32 := iblk m c 1 t
abbrev X2 (t : Fin cfg0.N) : FVec Ideal S512x128 .f32 := iblk m c 2 t
abbrev X3 (t : Fin cfg0.N) : FVec Ideal S512x128 .f32 := iblk m c 3 t

section Blocks
variable (t : Fin cfg0.N) (p : Fin 512) (n : Fin 128)
theorem block0 (k : Fin 8) : X m c t (ix3 k p n) = A m c (ix3 k (row (512 * t.val + p.val)) n) := by
  have e := row_val t p
  blk_ext! [X, iblk, V, index0, e]
theorem block1 : X1 m c t (ix2 p n) = W m c (ix2 (row (512 * t.val + p.val)) n) := by
  have e := row_val t p
  blk_ext! [X1, iblk, V, index1, e]
theorem block2 : X2 m c t (ix2 p n) = M m c (ix2 (row (512 * t.val + p.val)) n) := by
  have e := row_val t p
  blk_ext! [X2, iblk, V, index2, e]
theorem block3 : X3 m c t (ix2 p n) = U m c (ix2 (row (512 * t.val + p.val)) n) := by
  have e := row_val t p
  blk_ext! [X3, iblk, V, index3, e]
end Blocks

/-- What the call puts at a place of its results. -/
def gAt (i : Fin 2048) (n : Fin 128) : EReal := tot (A m c) (ix2 i n)
def dAt (i : Fin 2048) (n : Fin 128) : EReal := step (gAt m c i n) (W m c (ix2 i n)) (M m c (ix2 i n)) (U m c (ix2 i n))
def mAt (i : Fin 2048) (n : Fin 128) : EReal := mom (gAt m c i n) (M m c (ix2 i n))
def vAt (i : Fin 2048) (n : Fin 128) : EReal := vel (gAt m c i n) (U m c (ix2 i n))

section Point
variable (t : Fin cfg0.N) (p : Fin 512) (n : Fin 128)
theorem point4 : out0_4 (F := Ideal) (X m c t) (X1 m c t) (X2 m c t) (X3 m c t) (ix2 p n) = gAt m c (row (512 * t.val + p.val)) n :=
  (out_4 _ _ _ _ p n).trans (Finset.sum_congr rfl fun k _ => block0 m c t p n k)
theorem point5 : out0_5 (F := Ideal) (X m c t) (X1 m c t) (X2 m c t) (X3 m c t) (ix2 p n) = dAt m c (row (512 * t.val + p.val)) n := by
  rw [out_5, point4, block1, block2, block3, dAt]
theorem point6 : out0_6 (F := Ideal) (X m c t) (X1 m c t) (X2 m c t) (X3 m c t) (ix2 p n) = mAt m c (row (512 * t.val + p.val)) n := by
  rw [out_6, point4, block2, mAt]
theorem point7 : out0_7 (F := Ideal) (X m c t) (X1 m c t) (X2 m c t) (X3 m c t) (ix2 p n) = vAt m c (row (512 * t.val + p.val)) n := by
  rw [out_7, point4, block3, vAt]
end Point

/-- The results' arrays after the run. -/
theorem array4 : ((dats m 0 c).arrAt 4 cfg0.N : FVec Ideal S2048x128 .f32) = fun i => gAt m c (i 0) (i 1) := by
  refine (dats m 0 c).arrAt_eq_of_covers 4 _ (by decide +kernel) fun t hf y => ?_
  blk_simp [index4]
  rw [after0_4]
  refine (congrArg (out0_4 (F := Ideal) (X m c t) (X1 m c t) (X2 m c t) (X3 m c t)) (eq_ix2 y)).trans ((point4 m c t (y 0) (y 1)).trans ?_)
  exact congrArg₂ (gAt m c) (Fin.ext ((row_val t (y 0)).trans (by blk_simp [index4]; exact congrArg (· + _) (Nat.mul_comm _ _)))) (Fin.ext (by blk_simp [index4]))
theorem array5 : ((dats m 0 c).arrAt 5 cfg0.N : FVec Ideal S2048x128 .f32) = fun i => dAt m c (i 0) (i 1) := by
  refine (dats m 0 c).arrAt_eq_of_covers 5 _ (by decide +kernel) fun t hf y => ?_
  blk_simp [index5]
  rw [after0_5]
  refine (congrArg (out0_5 (F := Ideal) (X m c t) (X1 m c t) (X2 m c t) (X3 m c t)) (eq_ix2 y)).trans ((point5 m c t (y 0) (y 1)).trans ?_)
  exact congrArg₂ (dAt m c) (Fin.ext ((row_val t (y 0)).trans (by blk_simp [index5]; exact congrArg (· + _) (Nat.mul_comm _ _)))) (Fin.ext (by blk_simp [index5]))
theorem array6 : ((dats m 0 c).arrAt 6 cfg0.N : FVec Ideal S2048x128 .f32) = fun i => mAt m c (i 0) (i 1) := by
  refine (dats m 0 c).arrAt_eq_of_covers 6 _ (by decide +kernel) fun t hf y => ?_
  blk_simp [index6]
  rw [after0_6]
  refine (congrArg (out0_6 (F := Ideal) (X m c t) (X1 m c t) (X2 m c t) (X3 m c t)) (eq_ix2 y)).trans ((point6 m c t (y 0) (y 1)).trans ?_)
  exact congrArg₂ (mAt m c) (Fin.ext ((row_val t (y 0)).trans (by blk_simp [index6]; exact congrArg (· + _) (Nat.mul_comm _ _)))) (Fin.ext (by blk_simp [index6]))
theorem array7 : ((dats m 0 c).arrAt 7 cfg0.N : FVec Ideal S2048x128 .f32) = fun i => vAt m c (i 0) (i 1) := by
  refine (dats m 0 c).arrAt_eq_of_covers 7 _ (by decide +kernel) fun t hf y => ?_
  blk_simp [index7]
  rw [after0_7]
  refine (congrArg (out0_7 (F := Ideal) (X m c t) (X1 m c t) (X2 m c t) (X3 m c t)) (eq_ix2 y)).trans ((point7 m c t (y 0) (y 1)).trans ?_)
  exact congrArg₂ (vAt m c) (Fin.ext ((row_val t (y 0)).trans (by blk_simp [index7]; exact congrArg (· + _) (Nat.mul_comm _ _)))) (Fin.ext (by blk_simp [index7]))

end Cert.Spatial

namespace Cert.Spatial
open Idealize.ShloMosaic Idealize.ShloMosaic.TcCoe Idealize.ShloMosaic.Tactic
open Cert.Update
open Cert.Reference26Ideal Cert.Reference26Ideal.Gen

/-- The reference's gradient. -/
abbrev outG (x : FVec Ideal S8x2048x128 .bf16) : FVec Ideal S2048x128 .f32 := Host.reduceAdd (extf .f32 x bitsLt_bf16_f32) (constant S_ .f32 0x00000000#32) reducesTo_S8x2048x128_S2048x128_d0 h_S_
theorem outG_apply (x : FVec Ideal S8x2048x128 .bf16) : outG x = tot x := by
  funext i
  rw [eq_ix2 i]
  unfold tot
  pointwise [outG]

/-- The call's arrays are the reference's results. -/
theorem meet (m : (ℓ : Loc Cert.Kernel26Ideal.nD Cert.Kernel26Ideal.τ Cert.Kernel26Ideal.sig) → Buf (Elt Ideal) ℓ) (c : Dev 1)
    {x : FVec Ideal S8x2048x128 .bf16} {w u v : FVec Ideal S2048x128 .f32} (ex : x = A m c) (ew : w = W m c) (eu : u = M m c) (ev : v = U m c) :
    let d := Cert.Kernel26Ideal.Gen.dats m 0 c
    let N := Cert.Kernel26Ideal.cfg0.N
    outG x = d.arrAt 4 N ∧ outD bcast_S_S2048x128 (outG x) w u v = d.arrAt 5 N ∧ outM bcast_S_S2048x128 (outG x) u = d.arrAt 6 N ∧ outV bcast_S_S2048x128 (outG x) v = d.arrAt 7 N := by
  subst ex ew eu ev
  rw [outG_apply]
  refine ⟨Eq.trans (funext fun i => ?_) (array4 m c).symm, Eq.trans (funext fun i => ?_) (array5 m c).symm, Eq.trans (funext fun i => ?_) (array6 m c).symm, Eq.trans (funext fun i => ?_) (array7 m c).symm⟩ <;> rw [eq_ix2 i]
  · exact rfl
  · exact outD_apply _ _ _ _ _ _
  · exact outM_apply _ _ _ _
  · exact outV_apply _ _ _ _

end Cert.Spatial
end
-- ==== Proof.Gmlp.Chunk.lean ====
/-
  What the kernel computes from one chunk of 128 rows, written once: the four chunks of a block and both cases of the body
  (first block of the grid, later block) compute the same functions of the rows that they load.
-/
module

public import proofs.«01_k».proof.Proof.Gen.KernelIdeal.Skeleton
public import Idealize.ShloMosaic.Lib.Pipeline.Value

@[expose] public section

noncomputable section

namespace Cert.Gmlp

open Idealize.ShloMosaic Cert.KernelIdeal Cert.KernelIdeal.Gen

variable {F : FTy → Type} [FloatOps F] [Named F]

/-- One number in every place of a chunk. -/
def fill (s : Shape) (w : BitVec 32) : FVec F s .f32 := broadcast s (Scalar.ofBits .f32 w)

/-- The hyperbolic tangent inside the GELU. -/
def cTanh (x : FVec F S128x512 .f32) : FVec F S128x512 .f32 :=
  tanh (mulf (fill S128x512 0x3F4C422A#32)
    (addf x (mulf (broadcast S128x512 (Named.named κ "gelu_a" 0x3D372713#32)) (mulf (mulf x x) x))))

/-- The GELU. -/
def cGelu (x : FVec F S128x512 .f32) : FVec F S128x512 .f32 :=
  mulf (mulf (fill S128x512 0x3F000000#32) x) (addf (fill S128x512 0x3F800000#32) (cTanh x))

/-- Its derivative. -/
def cSlope (x : FVec F S128x512 .f32) : FVec F S128x512 .f32 :=
  addf (mulf (fill S128x512 0x3F000000#32) (addf (fill S128x512 0x3F800000#32) (cTanh x)))
    (mulf (mulf (mulf (fill S128x512 0x3F000000#32) x) (subf (fill S128x512 0x3F800000#32) (mulf (cTanh x) (cTanh x))))
      (mulf (fill S128x512 0x3F4C422A#32)
        (addf (fill S128x512 0x3F800000#32)
          (mulf (broadcast S128x512 (Named.named κ "gelu_3a" 0x3E095D4F#32)) (mulf x x)))))

/-- The mean of each row. -/
def cMean (x : FVec F S128x512 .f32) : FVec F S128x1 .f32 :=
  divf (shapeCast S128x1 (multiReduction .add [1] S128 x 0x00000000#32 (by decide) (.inl rfl) rfl)) (fill S128x1 0x44000000#32)

/-- One number per row, repeated along the row. -/
def cAlong (x : FVec F S128x1 .f32) : FVec F S128x512 .f32 := broadcastTo S128x512 x

/-- One number per column, repeated down the column. -/
def cDown (x : FVec F S1x512 .f32) : FVec F S128x512 .f32 := broadcastTo S128x512 x

/-- The rows less their means. -/
def cCentre (x : FVec F S128x512 .f32) : FVec F S128x512 .f32 := subf x (cAlong (cMean x))

/-- One over the standard deviation of each row. -/
def cScale (x : FVec F S128x512 .f32) : FVec F S128x1 .f32 :=
  rsqrt (addf (cMean (mulf (cCentre x) (cCentre x))) (fill S128x1 0x358637BD#32))

/-- The rows at mean zero and variance one. -/
def cNorm (x : FVec F S128x512 .f32) : FVec F S128x512 .f32 := mulf (cCentre x) (cAlong (cScale x))

/-- The layer norm of the rows. -/
def cLayer (lg lb : FVec F S1x512 .f32) (x : FVec F S128x512 .f32) : FVec F S128x512 .bf16 :=
  truncf .bf16 (addf (mulf (cNorm x) (cDown (shapeCast S1x512 lg))) (cDown (shapeCast S1x512 lb))) (by decide)

/-- The lower triangle, the diagonal with it. -/
def cTril : IVec S128x128 1 := cmpi .sge (iota .tc S128x128 32 [0] (by decide)) (iota .tc S128x128 32 [1] (by decide))

/-- The spatial weights of a group, zero above the diagonal. -/
def cWeight (w : FVec F S1x128x128 .f32) : FVec F S128x128 .bf16 :=
  truncf .bf16 (select cTril (shapeCast S128x128 w) (fill S128x128 0x00000000#32)) (by decide)

/-- The columns of group `g`. -/
def cGroup {φ : FTy} (g : Fin 4) (x : FVec F S128x512 φ) : FVec F S128x128 φ :=
  extractStridedSlice S128x128 ![0, 128 * g.val] x
    ⟨rfl, by intro a; match a, g with
      | ⟨0, _⟩, g => exact Nat.le_refl 128
      | ⟨1, _⟩, ⟨g, hg⟩ => exact (by show 128 * g + 128 ≤ 512; omega)⟩

/-- The gradient in the gate's first factor, of group `g`. -/
def cDu (g : Fin 4) (w : FVec F S128x128 .bf16) (slope dout : FVec F S128x512 .f32) (vn : FVec F S128x512 .bf16)
    (b : FVec F S128x1 .f32) : FVec F S128x128 .bf16 :=
  truncf .bf16 (mulf (mulf (cGroup g dout)
    (addf (matmul dot_S128x128_S128x128_S128x128_1_0_0_1_n_n none w (cGroup g vn) (constant S128x128 .f32 0x00000000#32))
      (broadcastTo S128x128 (shapeCast S128x1 b)))) (cGroup g slope)) (by decide)

/-- The gradient at the gate, of group `g`. -/
def cDs (g : Fin 4) (u dout : FVec F S128x512 .f32) : FVec F S128x128 .bf16 :=
  truncf .bf16 (mulf (cGroup g dout) (cGroup g u)) (by decide)

/-- The spatial weights' gradient of group `g`, added to what was there. -/
def cGw (g : Fin 4) (u dout : FVec F S128x512 .f32) (vn : FVec F S128x512 .bf16) (old : FVec F S1x128x128 .f32) :
    FVec F S1x128x128 .f32 :=
  shapeCast S1x128x128 (addf (shapeCast S128x128 old) (select cTril
    (matmul dot_S128x128_S128x128_S128x128_1_1_0_0_n_n none (cDs g u dout) (cGroup g vn) (constant S128x128 .f32 0x00000000#32))
    (fill S128x128 0x00000000#32)))

/-- The spatial biases' gradient of group `g`, in every lane, added to what was there. -/
def cGb (g : Fin 4) (u dout : FVec F S128x512 .f32) (old : FVec F S1x128x128 .f32) : FVec F S1x128x128 .f32 :=
  shapeCast S1x128x128 (addf (shapeCast S128x128 old)
    (matmul dot_S128x128_S128x128_S128x128_1_0_0_1_n_n none (cDs g u dout) (broadcast S128x128 (Scalar.ofBits .bf16 0x3F80#16))
      (constant S128x128 .f32 0x00000000#32)))

/-- The gradient at the layer norm's result, of group `g`. -/
def cBack (g : Fin 4) (w : FVec F S128x128 .bf16) (u dout : FVec F S128x512 .f32) : FVec F S128x128 .f32 :=
  matmul dot_S128x128_S128x128_S128x128_0_0_1_1_n_n none w (cDs g u dout) (constant S128x128 .f32 0x00000000#32)

/-- The gradient at the layer norm's result, the four groups side by side. -/
def cDvn (w0 w1 w2 w3 : FVec F S128x128 .bf16) (u dout : FVec F S128x512 .f32) : FVec F S128x512 .f32 :=
  concatenate S128x512 1 [⟨S128x128, cBack 0 w0 u dout⟩, ⟨S128x128, cBack 1 w1 u dout⟩, ⟨S128x128, cBack 2 w2 u dout⟩,
    ⟨S128x128, cBack 3 w3 u dout⟩] (show Shape.Concatenates [S128x128, S128x128, S128x128, S128x128] S128x512 1 by decide)

/-- The column sums, as one row. -/
def cCols (x : FVec F S128x512 .f32) : FVec F S1x512 .f32 :=
  shapeCast S1x512 (multiReduction .add [0] S512 x 0x00000000#32 (by decide) (.inl rfl) rfl)

/-- The gradient of the layer norm's shift, added to what was there. -/
def cGlb (dvn : FVec F S128x512 .f32) (old : FVec F S1x512 .f32) : FVec F S1x512 .f32 :=
  addf (shapeCast S1x512 old) (cCols dvn)

/-- The gradient of the layer norm's gain, added to what was there. -/
def cGlg (xh dvn : FVec F S128x512 .f32) (old : FVec F S1x512 .f32) : FVec F S1x512 .f32 :=
  addf (shapeCast S1x512 old) (cCols (mulf dvn xh))

/-- The gradient in the gate's second factor: back through the layer norm and the GELU. -/
def cDv (lg : FVec F S1x512 .f32) (slope : FVec F S128x512 .f32) (rs : FVec F S128x1 .f32) (xh dvn : FVec F S128x512 .f32) :
    FVec F S128x512 .bf16 :=
  truncf .bf16 (mulf (mulf (cAlong rs)
    (subf (subf (mulf dvn (cDown (shapeCast S1x512 lg))) (cAlong (cMean (mulf dvn (cDown (shapeCast S1x512 lg))))))
      (mulf xh (cAlong (cMean (mulf (mulf dvn (cDown (shapeCast S1x512 lg))) xh)))))) slope) (by decide)

/-- The rows of a chunk as they are loaded, at full precision. -/
def cLoad (x : FVec F S128x512 .bf16) : FVec F S128x512 .f32 := extf .f32 x (by decide)

/-! ## One chunk of a block -/

/-- Chunk `q` of a block of 512 rows. -/
def rowsAt (q : Fin 4) (x : Vec F S512x512 .bf16) : FVec F S128x512 .bf16 :=
  View.ld x (Rect.unit (s := S512x512) ![128 * q.val, 0] ![128, 512] (by
    intro a; match a, q with
      | ⟨0, _⟩, ⟨q, hq⟩ => exact (by show 128 * q + 128 ≤ 512; omega)
      | ⟨1, _⟩, q => exact Nat.le_refl 512))

/-- The spatial weights of group `g`. -/
def weightAt (g : Fin 4) (x : Vec F S4x128x128 .f32) : FVec F S1x128x128 .f32 :=
  View.ld x (Rect.unit (s := S4x128x128) ![g.val, 0, 0] ![1, 128, 128] (by
    intro a; match a, g with
      | ⟨0, _⟩, ⟨g, hg⟩ => exact (by show g + 1 ≤ 4; omega)
      | ⟨1, _⟩, g => exact Nat.le_refl 128
      | ⟨2, _⟩, g => exact Nat.le_refl 128))

/-- The spatial biases of group `g`. -/
def biasAt (g : Fin 4) (x : Vec F S128x4 .f32) : FVec F S128x1 .f32 :=
  View.ld x (Rect.unit (s := S128x4) ![0, g.val] ![128, 1] (by
    intro a; match a, g with
      | ⟨0, _⟩, g => exact Nat.le_refl 128
      | ⟨1, _⟩, ⟨g, hg⟩ => exact (by show g + 1 ≤ 4; omega)))

variable (q g : Fin 4) (x0 x1 x2 : Vec F S512x512 .bf16) (x3 x4 : Vec F S1x512 .f32) (x5 : Vec F S4x128x128 .f32)
  (x6 : Vec F S128x4 .f32)

/-- The gate's first factor. -/
def kU : FVec F S128x512 .f32 := cGelu (cLoad (rowsAt q x0))

/-- The gate's second factor before its layer norm. -/
def kV : FVec F S128x512 .f32 := cGelu (cLoad (rowsAt q x1))

/-- Its layer norm. -/
def kVn : FVec F S128x512 .bf16 := cLayer x3 x4 (kV q x1)

/-- The gradient handed in. -/
def kOut : FVec F S128x512 .f32 := cLoad (rowsAt q x2)

/-- The gradient in the first factor's argument. -/
def kDu : FVec F S128x128 .bf16 :=
  cDu g (cWeight (weightAt g x5)) (cSlope (cLoad (rowsAt q x0))) (kOut q x2) (kVn q x1 x3 x4) (biasAt g x6)

/-- The gradient at the layer norm's result. -/
def kDvn : FVec F S128x512 .f32 :=
  cDvn (cWeight (weightAt 0 x5)) (cWeight (weightAt 1 x5)) (cWeight (weightAt 2 x5)) (cWeight (weightAt 3 x5)) (kU q x0) (kOut q x2)

/-- The gradient in the second factor's argument. -/
def kDv : FVec F S128x512 .bf16 :=
  cDv x3 (cSlope (cLoad (rowsAt q x1))) (cScale (kV q x1)) (cNorm (kV q x1)) (kDvn q x0 x2 x5)

/-- The spatial weights' gradient after chunk `q`. -/
def kGw (old : FVec F S1x128x128 .f32) : FVec F S1x128x128 .f32 := cGw g (kU q x0) (kOut q x2) (kVn q x1 x3 x4) old

/-- The spatial biases' gradient after chunk `q`. -/
def kGb (old : FVec F S1x128x128 .f32) : FVec F S1x128x128 .f32 := cGb g (kU q x0) (kOut q x2) old

/-- The gain's gradient after chunk `q`. -/
def kGlg (old : FVec F S1x512 .f32) : FVec F S1x512 .f32 := cGlg (cNorm (kV q x1)) (kDvn q x0 x2 x5) old

/-- The shift's gradient after chunk `q`. -/
def kGlb (old : FVec F S1x512 .f32) : FVec F S1x512 .f32 := cGlb (kDvn q x0 x2 x5) old

end Cert.Gmlp

end
-- ==== Proof.Gmlp.Spec.lean ====
/-
  The mathematics over the real numbers: the GELU with its slope, the layer norm of a row, and the gradient of the spatial
  gating unit on one chunk of 128 rows.
-/
module

public import Idealize.ShloMosaic.Lib.Pointwise
public import Idealize.ShloMosaic.PureOps.Ideal

@[expose] public section

noncomputable section

namespace Cert.Gmlp

open Idealize.ShloMosaic

/-! ## Scalars -/

/-- The factor inside the hyperbolic tangent, as the words spell it. -/
def rC : ℝ := 13386282 / 16777216
/-- The cubic's coefficient. -/
def rA : ℝ := 8943 / 200000
/-- What the layer norm adds to the variance, as the words spell it. -/
def rEps : ℝ := 8796093 / 8796093022208

/-- The hyperbolic tangent inside the GELU. -/
def rTanh (x : ℝ) : ℝ := Real.tanh (rC * (x + rA * (x * x * x)))
/-- The GELU. -/
def rGelu (x : ℝ) : ℝ := 1 / 2 * x * (1 + rTanh x)
/-- Its derivative. -/
def rSlope (x : ℝ) : ℝ :=
  1 / 2 * (1 + rTanh x) + 1 / 2 * x * (1 - rTanh x * rTanh x) * (rC * (1 + 26829 / 200000 * (x * x)))

/-! ## The layer norm of one row -/

/-- The mean of a row. -/
def rMean (f : Fin 512 → ℝ) : ℝ := (∑ j, f j) / 512
/-- A row less its mean. -/
def rCentre (f : Fin 512 → ℝ) (j : Fin 512) : ℝ := f j - rMean f
/-- One over the row's standard deviation. -/
def rScale (f : Fin 512 → ℝ) : ℝ := (√(rMean (fun j => rCentre f j * rCentre f j) + rEps))⁻¹
/-- The row at mean zero and variance one. -/
def rNorm (f : Fin 512 → ℝ) (j : Fin 512) : ℝ := rCentre f j * rScale f
/-- The layer norm. -/
def rLayer (lg lb f : Fin 512 → ℝ) (j : Fin 512) : ℝ := rNorm f j * lg j + lb j

theorem rVar_pos (f : Fin 512 → ℝ) : 0 < rMean (fun j => rCentre f j * rCentre f j) + rEps := by
  have h : 0 ≤ rMean (fun j => rCentre f j * rCentre f j) :=
    div_nonneg (Finset.sum_nonneg fun j _ => mul_self_nonneg _) (by norm_num)
  have e : 0 < rEps := by unfold rEps; norm_num
  linarith

/-- A layer norm's backward step on one row: the gradient at the normed row to the gradient at the row. -/
def rBack (f d : Fin 512 → ℝ) (j : Fin 512) : ℝ :=
  rScale f * (d j - rMean d - rNorm f j * rMean (fun k => d k * rNorm f k))

/-! ## One chunk -/

/-- The column of group `g` at lane `c`. -/
def col (g : Fin 4) (c : Fin 128) : Fin 512 := ⟨128 * g.val + c.val, by omega⟩
/-- The group of a column. -/
def grp (j : Fin 512) : Fin 4 := ⟨j.val / 128, by omega⟩
/-- The lane of a column. -/
def lane (j : Fin 512) : Fin 128 := ⟨j.val % 128, by omega⟩

/-- The spatial weights, zero above the diagonal. -/
def rTril (w : Fin 128 → Fin 128 → ℝ) (t s : Fin 128) : ℝ := if s ≤ t then w t s else 0

section
variable (u v o : Fin 128 → Fin 512 → ℝ) (lg lb : Fin 512 → ℝ) (w : Fin 4 → Fin 128 → Fin 128 → ℝ) (b : Fin 4 → Fin 128 → ℝ)

/-- The normed second factor. -/
def rVn (s : Fin 128) (j : Fin 512) : ℝ := rLayer lg lb (fun k => rGelu (v s k)) j
/-- The gradient in the first factor's argument. -/
def rDu (g : Fin 4) (t c : Fin 128) : ℝ :=
  o t (col g c) * (∑ s, rTril (w g) t s * rVn v lg lb s (col g c) + b g t) * rSlope (u t (col g c))
/-- The gradient at the gate. -/
def rDs (g : Fin 4) (t c : Fin 128) : ℝ := o t (col g c) * rGelu (u t (col g c))
/-- The spatial weights' gradient. -/
def rGw (g : Fin 4) (t s : Fin 128) : ℝ := if s ≤ t then ∑ c, rDs u o g t c * rVn v lg lb s (col g c) else 0
/-- The spatial biases' gradient. -/
def rGb (g : Fin 4) (t : Fin 128) : ℝ := ∑ c, rDs u o g t c
/-- The gradient at the layer norm's result. -/
def rDvn (s : Fin 128) (j : Fin 512) : ℝ := ∑ t, rTril (w (grp j)) t s * rDs u o (grp j) t (lane j)
/-- The shift's gradient. -/
def rGlb (j : Fin 512) : ℝ := ∑ s, rDvn u o w s j
/-- The gain's gradient. -/
def rGlg (j : Fin 512) : ℝ := ∑ s, rDvn u o w s j * rNorm (fun k => rGelu (v s k)) j
/-- The gradient in the second factor's argument. -/
def rDv (s : Fin 128) (j : Fin 512) : ℝ :=
  rBack (fun k => rGelu (v s k)) (fun k => rDvn u o w s k * lg k) j * rSlope (v s j)
end

/-! ## Real numbers inside the extended ones -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_coe (x y : ℝ) (h : y ≠ 0) : Ideal.div (x : EReal) (y : EReal) = ((x / y : ℝ) : EReal) := by
  unfold Ideal.div
  rw [if_neg (by exact_mod_cast h), div_eq_mul_inv, EReal.coe_mul, EReal.coe_inv]

theorem rsqrt_coe (x : ℝ) (h : 0 < x) : Ideal.rsqrt (x : EReal) = (((√x)⁻¹ : ℝ) : EReal) := by
  rw [Ideal.rsqrt_coe, if_neg (not_lt.mpr h.le), if_neg h.ne']

theorem tanh_coe (x : ℝ) : Ideal.tanh (x : EReal) = ((Real.tanh x : ℝ) : EReal) := by
  rfl

theorem word_c : Ideal.ofBits .f32 0x3F4C422A#32 = ((rC : ℝ) : EReal) := by
  unfold rC; simp [Ideal.ofBits, Ideal.ieee, -EReal.coe_mul]; norm_num
theorem word_eps : Ideal.ofBits .f32 0x358637BD#32 = ((rEps : ℝ) : EReal) := by
  unfold rEps; simp [Ideal.ofBits, Ideal.ieee, -EReal.coe_mul]; norm_num
theorem word_half : Ideal.ofBits .f32 0x3F000000#32 = ((1 / 2 : ℝ) : EReal) := by
  simp [Ideal.ofBits, Ideal.ieee, -EReal.coe_mul]; norm_num
theorem word_512 : Ideal.ofBits .f32 0x44000000#32 = ((512 : ℝ) : EReal) := by
  simp [Ideal.ofBits, Ideal.ieee, -EReal.coe_mul]; norm_num

end Cert.Gmlp

end
-- ==== Proof.Gmlp.ChunkReal.lean ====
/-
  The chunk functions on real numbers: each of them, fed with real entries, gives the real entries of Spec.lean.
-/
module

public import proofs.«01_k».proof.Proof.Gmlp.Chunk
public import proofs.«01_k».proof.Proof.Gmlp.Spec
public import Idealize.ShloMosaic.Lib.WordCmp

@[expose] public section

set_option maxRecDepth 16384

noncomputable section

namespace Cert.Gmlp

open Idealize.ShloMosaic Cert.KernelIdeal Cert.KernelIdeal.Gen

/-- A matrix of extended reals whose entries are the real numbers `f`. -/
def Rep {m n : Nat} {φ : FTy} (x : FVec Ideal ⟨2, ![m, n]⟩ φ) (f : Fin m → Fin n → ℝ) : Prop :=
  ∀ i j, x (ix2 i j) = ((f i j : ℝ) : EReal)

theorem named_a : (Named.named κ "gelu_a" 0x3D372713#32 : Ideal .f32) = ((rA : ℝ) : EReal) := by
  rw [IdealRules.named_const.ideal_named_scalar _ _ _ _ rfl]; unfold rA; rfl
theorem named_3a : (Named.named κ "gelu_3a" 0x3E095D4F#32 : Ideal .f32) = ((26829 / 200000 : ℝ) : EReal) := by
  rw [IdealRules.named_const.ideal_named_scalar _ _ _ _ rfl]

variable {x y : FVec Ideal S128x512 .f32} {f h : Fin 128 → Fin 512 → ℝ}

theorem rep_tanh (hx : Rep x f) : Rep (cTanh x) (fun i j => rTanh (f i j)) := by
  intro i j
  have e := hx i j
  pointwise [cTanh, fill, named_a]
  rw [e, word_c]
  rfl

theorem rep_gelu (hx : Rep x f) : Rep (cGelu x) (fun i j => rGelu (f i j)) := by
  intro i j
  have e := hx i j
  have t := rep_tanh hx i j
  pointwise [cGelu, fill]
  rw [e, t, word_half]
  rfl

theorem rep_slope (hx : Rep x f) : Rep (cSlope x) (fun i j => rSlope (f i j)) := by
  intro i j
  have e := hx i j
  have t := rep_tanh hx i j
  pointwise [cSlope, fill, named_3a]
  rw [e, t, word_half, word_c]
  rfl

theorem rep_mean (hx : Rep x f) : Rep (m := 128) (n := 1) (cMean x) (fun i _ => rMean (f i)) := by
  intro i j
  pointwise [cMean, fill]
  simp only [hx i _, word_512, ← coe_sum]
  rw [div_coe _ _ (by norm_num)]
  rfl

theorem rep_centre (hx : Rep x f) : Rep (cCentre x) (fun i j => rCentre (f i) j) := by
  intro i j
  have e := hx i j
  have t := rep_mean hx i 0
  pointwise [cCentre, cAlong]
  rw [e, t]
  rfl

theorem rep_scale (hx : Rep x f) : Rep (m := 128) (n := 1) (cScale x) (fun i _ => rScale (f i)) := by
  intro i j
  have c := rep_centre hx
  have sq : Rep (mulf (cCentre x) (cCentre x)) (fun i j => rCentre (f i) j * rCentre (f i) j) := by
    intro i j
    have e := c i j
    pointwise
    rw [e]
    rfl
  have t := rep_mean sq i j
  pointwise [cScale, fill]
  rw [t, word_eps, ← EReal.coe_add, rsqrt_coe _ (rVar_pos _)]
  rfl

theorem rep_norm (hx : Rep x f) : Rep (cNorm x) (fun i j => rNorm (f i) j) := by
  intro i j
  have e := rep_centre hx i j
  have t := rep_scale hx i 0
  pointwise [cNorm, cAlong]
  rw [e, t]
  rfl

variable {lg lb : FVec Ideal S1x512 .f32} {g b : Fin 512 → ℝ}

theorem rep_layer (hx : Rep x f) (hg : Rep lg fun _ => g) (hb : Rep lb fun _ => b) :
    Rep (cLayer lg lb x) (fun i j => rLayer g b (f i) j) := by
  intro i j
  have e := rep_norm hx i j
  have g := hg 0 j
  have b := hb 0 j
  pointwise [cLayer, cDown]
  rw [e, g, b]
  rfl

theorem rep_group {φ : FTy} {z : FVec Ideal S128x512 φ} (k : Fin 4) (hx : Rep z f) : Rep (cGroup k z) (fun i c => f i (col k c)) := by
  intro i j
  have e := hx i (col k j)
  pointwise [cGroup]
  exact e

/-- The comparison of row and column numbers is the lower triangle. -/
theorem tril_word {α : Type} (i j : Fin 128) (a b : α) :
    Scalar.select (IntOp.cmpi CmpIPredicate.sge (BitVec.ofNat 32 i.val) (BitVec.ofNat 32 j.val)) a b = if j ≤ i then a else b := by
  have hi := i.isLt
  have hj := j.isLt
  have e : IntOp.cmpi CmpIPredicate.sge (BitVec.ofNat 32 i.val) (BitVec.ofNat 32 j.val) = BitVec.ofBool (decide (j.val ≤ i.val)) :=
    Idealize.ShloMosaic.WordCmp.cmpi_sge_ofNat (by omega) (by omega)
  have e' : ∀ p : Bool, Scalar.select (BitVec.ofBool p) a b = if p then a else b := by intro p; cases p <;> rfl
  rw [e, e']
  by_cases h : j ≤ i
  · rw [if_pos h, if_pos (decide_eq_true (Fin.le_def.mp h))]
  · rw [if_neg h, if_neg fun hd => h (Fin.le_def.mpr (of_decide_eq_true hd))]

theorem rep_weight {w : FVec Ideal S1x128x128 .f32} {W : Fin 128 → Fin 128 → ℝ} (hw : ∀ i j, w (ix3 0 i j) = ((W i j : ℝ) : EReal)) :
    Rep (cWeight w) (rTril W) := by
  intro i j
  have e := hw i j
  pointwise [cWeight, cTril, fill]
  rw [e]
  rw [tril_word]
  unfold rTril
  split_ifs <;> rfl

variable {w0 w1 w2 w3 : FVec Ideal S128x128 .bf16} {W0 : Fin 128 → Fin 128 → ℝ} {W : Fin 4 → Fin 128 → Fin 128 → ℝ}
  {sl dout : FVec Ideal S128x512 .f32} {vn : FVec Ideal S128x512 .bf16} {sl' d n : Fin 128 → Fin 512 → ℝ}
  {bb : FVec Ideal S128x1 .f32} {B : Fin 128 → ℝ}

theorem rep_du (k : Fin 4) (hw : Rep w0 W0) (hs : Rep sl sl') (hd : Rep dout d) (hv : Rep vn n)
    (hb : Rep (m := 128) (n := 1) bb fun t _ => B t) :
    Rep (cDu k w0 sl dout vn bb) (fun t c => d t (col k c) * (∑ s, W0 t s * n s (col k c) + B t) * sl' t (col k c)) := by
  intro i j
  have e := rep_group k hd i j
  have e' := rep_group k hs i j
  have v := fun s => rep_group k hv s j
  have b := hb i 0
  pointwise [cDu, dot_S128x128_S128x128_S128x128_1_0_0_1_n_n]
  simp only [hw i _, e, e', v, b, ← EReal.coe_mul, ← coe_sum, ← EReal.coe_add]

theorem rep_ds (k : Fin 4) (hx : Rep x f) (hd : Rep dout d) : Rep (cDs k x dout) (fun t c => d t (col k c) * f t (col k c)) := by
  intro i j
  have e := rep_group k hd i j
  have e' := rep_group k hx i j
  pointwise [cDs]
  rw [e, e']
  rfl

theorem rep_gw (k : Fin 4) (hx : Rep x f) (hd : Rep dout d) (hv : Rep vn n) {old : FVec Ideal S1x128x128 .f32}
    {o : Fin 128 → Fin 128 → ℝ} (ho : ∀ i j, old (ix3 0 i j) = ((o i j : ℝ) : EReal)) (i j : Fin 128) :
    cGw k x dout vn old (ix3 0 i j)
      = ((o i j + (if j ≤ i then ∑ c, d i (col k c) * f i (col k c) * n j (col k c) else 0) : ℝ) : EReal) := by
  have e := rep_ds k hx hd
  have v := rep_group k hv
  have o := ho i j
  pointwise [cGw, cTril, fill, dot_S128x128_S128x128_S128x128_1_1_0_0_n_n]
  simp only [e i _, v j _, o, ← EReal.coe_mul, ← coe_sum, ← EReal.coe_add]
  rw [tril_word]
  split_ifs <;> rfl

theorem rep_gb (k : Fin 4) (hx : Rep x f) (hd : Rep dout d) {old : FVec Ideal S1x128x128 .f32}
    {o : Fin 128 → Fin 128 → ℝ} (ho : ∀ i j, old (ix3 0 i j) = ((o i j : ℝ) : EReal)) (i j : Fin 128) :
    cGb k x dout old (ix3 0 i j) = ((o i j + ∑ c, d i (col k c) * f i (col k c) : ℝ) : EReal) := by
  have e := rep_ds k hx hd
  have o := ho i j
  pointwise [cGb, dot_S128x128_S128x128_S128x128_1_0_0_1_n_n]
  simp only [e i _, o, ← EReal.coe_mul, ← coe_sum, ← EReal.coe_add]

theorem rep_back (k : Fin 4) (hw : Rep w0 W0) (hx : Rep x f) (hd : Rep dout d) :
    Rep (cBack k w0 x dout) (fun s c => ∑ t, W0 t s * (d t (col k c) * f t (col k c))) := by
  intro i j
  have e := rep_ds k hx hd
  pointwise [cBack, dot_S128x128_S128x128_S128x128_0_0_1_1_n_n]
  simp only [e _ j, hw _ i, ← EReal.coe_mul, ← coe_sum, ← EReal.coe_add]

/-- A column of four groups side by side lies in its group at its lane. -/
theorem four_parts {α : Type} (j : Fin 512) (p : Fin 4 → Fin 128 → α) :
    (if h : j.val < 128 then p 0 ⟨j.val, h⟩ else
      if h : j.val - 128 < 128 then p 1 ⟨j.val - 128, h⟩ else
        if h : j.val - 128 - 128 < 128 then p 2 ⟨j.val - 128 - 128, h⟩ else p 3 ⟨j.val - 128 - 128 - 128, by omega⟩)
      = p (grp j) (lane j) := by
  have key : ∀ (k : Fin 4) (c : Fin 128), j = col k c → p k c = p (grp j) (lane j) := by
    rintro k c rfl
    rw [show grp (col k c) = k from Fin.ext (by show (128 * k.val + c.val) / 128 = k.val; omega),
      show lane (col k c) = c from Fin.ext (by show (128 * k.val + c.val) % 128 = c.val; omega)]
  by_cases a0 : j.val < 128
  · rw [dif_pos a0]; exact key _ _ (Fin.ext (by show j.val = 128 * 0 + j.val; omega))
  rw [dif_neg a0]
  by_cases a1 : j.val - 128 < 128
  · rw [dif_pos a1]; exact key _ _ (Fin.ext (by show j.val = 128 * 1 + (j.val - 128); omega))
  rw [dif_neg a1]
  by_cases a2 : j.val - 128 - 128 < 128
  · rw [dif_pos a2]; exact key _ _ (Fin.ext (by show j.val = 128 * 2 + (j.val - 128 - 128); omega))
  rw [dif_neg a2]
  exact key _ _ (Fin.ext (by show j.val = 128 * 3 + (j.val - 128 - 128 - 128); omega))

theorem rep_dvn (h0 : Rep w0 (W 0)) (h1 : Rep w1 (W 1)) (h2 : Rep w2 (W 2)) (h3 : Rep w3 (W 3)) (hx : Rep x f) (hd : Rep dout d) :
    Rep (cDvn w0 w1 w2 w3 x dout) (fun s j => ∑ t, W (grp j) t s * (d t (col (grp j) (lane j)) * f t (col (grp j) (lane j)))) := by
  intro i j
  have all : ∀ k : Fin 4, Rep ((![cBack 0 w0 x dout, cBack 1 w1 x dout, cBack 2 w2 x dout, cBack 3 w3 x dout] :
      Fin 4 → FVec Ideal S128x128 .f32) k) (fun s c => ∑ t, W k t s * (d t (col k c) * f t (col k c)))
    | 0 => rep_back 0 h0 hx hd
    | 1 => rep_back 1 h1 hx hd
    | 2 => rep_back 2 h2 hx hd
    | 3 => rep_back 3 h3 hx hd
  have parts := four_parts j fun k c => ((![cBack 0 w0 x dout, cBack 1 w1 x dout, cBack 2 w2 x dout, cBack 3 w3 x dout] :
      Fin 4 → FVec Ideal S128x128 .f32) k) (ix2 i c)
  rw [all] at parts
  rw [← parts]
  pointwise [cDvn]

theorem rep_cols (hx : Rep x f) : Rep (m := 1) (n := 512) (cCols x) (fun _ j => ∑ s, f s j) := by
  intro i j
  pointwise [cCols]
  simp only [hx _ j, ← coe_sum]

theorem rep_glb (hx : Rep x f) {old : FVec Ideal S1x512 .f32} {o : Fin 512 → ℝ} (ho : Rep (m := 1) (n := 512) old fun _ => o) :
    Rep (m := 1) (n := 512) (cGlb x old) (fun _ j => o j + ∑ s, f s j) := by
  intro i j
  have e := rep_cols hx i j
  have o := ho i j
  pointwise [cGlb]
  rw [e, o]
  rfl

theorem rep_mul (hx : Rep x f) (hy : Rep y h) : Rep (mulf x y) (fun i j => f i j * h i j) := by
  intro i j
  have e := hx i j
  have e' := hy i j
  pointwise
  rw [e, e']
  rfl

theorem rep_glg (hx : Rep x f) (hy : Rep y h) {old : FVec Ideal S1x512 .f32} {o : Fin 512 → ℝ} (ho : Rep (m := 1) (n := 512) old fun _ => o) :
    Rep (m := 1) (n := 512) (cGlg y x old) (fun _ j => o j + ∑ s, f s j * h s j) :=
  rep_glb (rep_mul hx hy) ho

theorem rep_dv {z : FVec Ideal S128x512 .f32} (hg : Rep (m := 1) (n := 512) lg fun _ => g)
    (hs : Rep sl sl') (hx : Rep x f) (hz : Rep z h) :
    Rep (cDv lg sl (cScale x) (cNorm x) z) (fun s j => rBack (f s) (fun k => h s k * g k) j * sl' s j) := by
  have hd : Rep (mulf z (cDown (shapeCast S1x512 lg))) (fun i j => h i j * g j) := by
    intro i j
    have e := hz i j
    have e' := hg 0 j
    pointwise [cDown]
    rw [e, e']
    rfl
  intro i j
  have e0 := hd i j
  have e1 := rep_mean hd i 0
  have e2 := rep_norm hx i j
  have e3 := rep_mean (rep_mul hd (rep_norm hx)) i 0
  have e4 := rep_scale hx i 0
  have e5 := hs i j
  unfold cDv
  generalize mulf z (cDown (shapeCast S1x512 lg)) = q at *
  pointwise [cAlong]
  rw [e0, e1, e2, e3, e4, e5]
  rfl

/-! ## One chunk of a block -/

section
variable {x0 x1 x2 : Vec Ideal S512x512 .bf16} {x3 x4 : Vec Ideal S1x512 .f32} {x5 : Vec Ideal S4x128x128 .f32}
  {x6 : Vec Ideal S128x4 .f32} {U V O : Fin 512 → Fin 512 → ℝ} {LG LB : Fin 512 → ℝ} {WS : Fin 4 → Fin 128 → Fin 128 → ℝ}
  {BS : Fin 4 → Fin 128 → ℝ}

theorem rep_rows (q : Fin 4) {z : Vec Ideal S512x512 .bf16} {Z : Fin 512 → Fin 512 → ℝ} (hz : Rep (φ := .bf16) z Z) :
    Rep (cLoad (rowsAt q z)) (fun t => Z (col q t)) := by
  intro i j
  have e := hz (col q i) j
  pointwise [cLoad, rowsAt]
  exact e

theorem rep_weightAt (k : Fin 4) (h5 : ∀ g t s, x5 (ix3 g t s) = ((WS g t s : ℝ) : EReal)) :
    Rep (cWeight (weightAt k x5)) (rTril (WS k)) := by
  refine rep_weight fun i j => ?_
  have e := h5 k i j
  pointwise [weightAt]
  exact e

theorem rep_biasAt (k : Fin 4) (h6 : ∀ t g, x6 (ix2 t g) = ((BS g t : ℝ) : EReal)) :
    Rep (m := 128) (n := 1) (biasAt k x6) (fun t _ => BS k t) := by
  intro i j
  have e := h6 i k
  pointwise [biasAt]
  exact e

theorem rep_kU (q : Fin 4) (h0 : Rep (φ := .bf16) x0 U) : Rep (kU q x0) (fun t j => rGelu (U (col q t) j)) := rep_gelu (rep_rows q h0)
theorem rep_kVn (q : Fin 4) (h1 : Rep (φ := .bf16) x1 V) (h3 : Rep (φ := .f32) x3 fun _ => LG) (h4 : Rep (φ := .f32) x4 fun _ => LB) :
    Rep (kVn q x1 x3 x4) (rVn (fun t => V (col q t)) LG LB) := rep_layer (rep_gelu (rep_rows q h1)) h3 h4
theorem rep_kDu (q k : Fin 4) (h0 : Rep (φ := .bf16) x0 U) (h1 : Rep (φ := .bf16) x1 V) (h2 : Rep (φ := .bf16) x2 O)
    (h3 : Rep (φ := .f32) x3 fun _ => LG) (h4 : Rep (φ := .f32) x4 fun _ => LB)
    (h5 : ∀ g t s, x5 (ix3 g t s) = ((WS g t s : ℝ) : EReal)) (h6 : ∀ t g, x6 (ix2 t g) = ((BS g t : ℝ) : EReal)) :
    Rep (kDu q k x0 x1 x2 x3 x4 x5 x6)
      (rDu (fun t => U (col q t)) (fun t => V (col q t)) (fun t => O (col q t)) LG LB WS BS k) :=
  rep_du k (rep_weightAt k h5) (rep_slope (rep_rows q h0)) (rep_rows q h2) (rep_kVn q h1 h3 h4) (rep_biasAt k h6)
theorem rep_kDvn (q : Fin 4) (h0 : Rep (φ := .bf16) x0 U) (h2 : Rep (φ := .bf16) x2 O)
    (h5 : ∀ g t s, x5 (ix3 g t s) = ((WS g t s : ℝ) : EReal)) :
    Rep (kDvn q x0 x2 x5) (rDvn (fun t => U (col q t)) (fun t => O (col q t)) WS) :=
  rep_dvn (W := fun g => rTril (WS g)) (rep_weightAt 0 h5) (rep_weightAt 1 h5) (rep_weightAt 2 h5) (rep_weightAt 3 h5) (rep_kU q h0) (rep_rows q h2)
theorem rep_kDv (q : Fin 4) (h0 : Rep (φ := .bf16) x0 U) (h1 : Rep (φ := .bf16) x1 V) (h2 : Rep (φ := .bf16) x2 O)
    (h3 : Rep (φ := .f32) x3 fun _ => LG) (h5 : ∀ g t s, x5 (ix3 g t s) = ((WS g t s : ℝ) : EReal)) :
    Rep (kDv q x0 x1 x2 x3 x5)
      (rDv (fun t => U (col q t)) (fun t => V (col q t)) (fun t => O (col q t)) LG WS) :=
  rep_dv h3 (rep_slope (rep_rows q h1)) (rep_gelu (rep_rows q h1)) (rep_kDvn q h0 h2 h5)
theorem rep_kGlb (q : Fin 4) (h0 : Rep (φ := .bf16) x0 U) (h2 : Rep (φ := .bf16) x2 O)
    (h5 : ∀ g t s, x5 (ix3 g t s) = ((WS g t s : ℝ) : EReal)) {old : FVec Ideal S1x512 .f32} {o : Fin 512 → ℝ}
    (ho : Rep (m := 1) (n := 512) old fun _ => o) :
    Rep (m := 1) (n := 512) (kGlb q x0 x2 x5 old) (fun _ j => o j + rGlb (fun t => U (col q t)) (fun t => O (col q t)) WS j) :=
  rep_glb (rep_kDvn q h0 h2 h5) ho
theorem rep_kGlg (q : Fin 4) (h0 : Rep (φ := .bf16) x0 U) (h1 : Rep (φ := .bf16) x1 V) (h2 : Rep (φ := .bf16) x2 O)
    (h5 : ∀ g t s, x5 (ix3 g t s) = ((WS g t s : ℝ) : EReal)) {old : FVec Ideal S1x512 .f32} {o : Fin 512 → ℝ}
    (ho : Rep (m := 1) (n := 512) old fun _ => o) :
    Rep (m := 1) (n := 512) (kGlg q x0 x1 x2 x5 old)
      (fun _ j => o j + rGlg (fun t => U (col q t)) (fun t => V (col q t)) (fun t => O (col q t)) WS j) :=
  rep_glg (rep_kDvn q h0 h2 h5) (rep_norm (rep_gelu (rep_rows q h1))) ho
theorem rep_kGw (q k : Fin 4) (h0 : Rep (φ := .bf16) x0 U) (h1 : Rep (φ := .bf16) x1 V) (h2 : Rep (φ := .bf16) x2 O)
    (h3 : Rep (φ := .f32) x3 fun _ => LG) (h4 : Rep (φ := .f32) x4 fun _ => LB) {old : FVec Ideal S1x128x128 .f32}
    {o : Fin 128 → Fin 128 → ℝ} (ho : ∀ i j, old (ix3 0 i j) = ((o i j : ℝ) : EReal)) (i j : Fin 128) :
    kGw q k x0 x1 x2 x3 x4 old (ix3 0 i j)
      = ((o i j + rGw (fun t => U (col q t)) (fun t => V (col q t)) (fun t => O (col q t)) LG LB k i j : ℝ) : EReal) :=
  rep_gw k (rep_kU q h0) (rep_rows q h2) (rep_kVn q h1 h3 h4) ho i j
theorem rep_kGb (q k : Fin 4) (h0 : Rep (φ := .bf16) x0 U) (h2 : Rep (φ := .bf16) x2 O) {old : FVec Ideal S1x128x128 .f32}
    {o : Fin 128 → Fin 128 → ℝ} (ho : ∀ i j, old (ix3 0 i j) = ((o i j : ℝ) : EReal)) (i j : Fin 128) :
    kGb q k x0 x2 old (ix3 0 i j) = ((o i j + rGb (fun t => U (col q t)) (fun t => O (col q t)) k i : ℝ) : EReal) :=
  rep_gb k (rep_kU q h0) (rep_rows q h2) ho i j
end

end Cert.Gmlp

end
-- ==== Proof.Gmlp.Block.lean ====
/-
  One grid point's output blocks over the real numbers: the four chunks' gradients beside each other in the first block, and
  their sums added to what each accumulator held.
-/
module

public import proofs.«01_k».proof.Proof.Gmlp.ChunkReal
public import proofs.«01_k».proof.Proof.Gen.KernelIdeal.Value
public import Idealize.ShloMosaic.Lib.Pipeline.ReadBack

@[expose] public section
set_option maxRecDepth 16384

noncomputable section
namespace Cert.Gmlp
open Idealize.ShloMosaic Idealize.ShloMosaic.TcCoe Idealize.ShloMosaic.Tactic
open Cert.KernelIdeal Cert.KernelIdeal.Gen

/-! ## The block of the two factors' gradients -/

/-- Row `r` and column `j` of the block: the first 512 columns hold `D`, the others `E`, each chunk by chunk. -/
def rOut (D E : Fin 4 → Fin 128 → Fin 512 → ℝ) (r : Fin 512) (j : Fin 1024) : ℝ :=
  if h : j.val < 512 then D (grp r) (lane r) ⟨j.val, h⟩ else E (grp r) (lane r) ⟨j.val - 512, by omega⟩

theorem grp_eq (r : Fin 512) (q : Fin 4) (t : Fin 128) (h : r.val = 128 * q.val + t.val) : grp r = q :=
  Fin.ext (by show r.val / 128 = q.val; omega)
theorem lane_eq (r : Fin 512) (q : Fin 4) (t : Fin 128) (h : r.val = 128 * q.val + t.val) : lane r = t :=
  Fin.ext (by show r.val % 128 = t.val; omega)

theorem rOut_lo (D E : Fin 4 → Fin 128 → Fin 512 → ℝ) (r : Fin 512) (j : Fin 1024) (q g : Fin 4) (t c : Fin 128)
    (hr : r.val = 128 * q.val + t.val) (hj : j.val = 128 * g.val + c.val) : rOut D E r j = D q t (col g c) := by
  unfold rOut
  rw [dif_pos (by omega), grp_eq r q t hr, lane_eq r q t hr]
  exact congrArg _ (Fin.ext hj)
theorem rOut_hi (D E : Fin 4 → Fin 128 → Fin 512 → ℝ) (r : Fin 512) (j : Fin 1024) (q : Fin 4) (t : Fin 128) (c : Fin 512)
    (hr : r.val = 128 * q.val + t.val) (hj : j.val = 512 + c.val) : rOut D E r j = E q t c := by
  unfold rOut
  rw [dif_neg (by omega), grp_eq r q t hr, lane_eq r q t hr]
  exact congrArg _ (Fin.ext (by show j.val - 512 = c.val; omega))

theorem mem_rect {a b p q : ℕ} {inb} (y : S512x1024.Idx) (h0 : a ≤ (y 0).val ∧ (y 0).val < a + p)
    (h1 : b ≤ (y 1).val ∧ (y 1).val < b + q) : y ∈ (Rect.unit (s := S512x1024) ![a, b] ![p, q] inb).set :=
  Rect.mem_set_unit.mpr fun x => match x with
    | ⟨0, _⟩ => h0
    | ⟨1, _⟩ => h1

/-- What the block holds at each of its indices. -/
def block7 (D E : Fin 4 → Fin 128 → Fin 512 → ℝ) (y : S512x1024.Idx) : Ideal .bf16 := ((rOut D E (y 0) (y 1) : ℝ) : EReal)

/-- The twenty stores of the first block, read. -/
theorem canon_factors (DU : Fin 4 → Fin 4 → FVec Ideal S128x128 .bf16) (DV : Fin 4 → FVec Ideal S128x512 .bf16)
    (D E : Fin 4 → Fin 128 → Fin 512 → ℝ) (hU : ∀ q g t c, DU q g (ix2 t c) = ((D q t (col g c) : ℝ) : EReal))
    (hV : ∀ q t c, DV q (ix2 t c) = ((E q t c : ℝ) : EReal)) (y : S512x1024.Idx) :
    View.canon (Val := Elt Ideal) (s := S512x1024) (e := .bf16) [⟨Rect.unit ![384, 512] ![128, 512] inb_S512x1024_S128x512_384_512, DV 3⟩,
      ⟨Rect.unit ![384, 384] ![128, 128] inb_S512x1024_S128x128_384_384, DU 3 3⟩,
      ⟨Rect.unit ![384, 256] ![128, 128] inb_S512x1024_S128x128_384_256, DU 3 2⟩,
      ⟨Rect.unit ![384, 128] ![128, 128] inb_S512x1024_S128x128_384_128, DU 3 1⟩,
      ⟨Rect.unit ![384, 0] ![128, 128] inb_S512x1024_S128x128_384_0, DU 3 0⟩,
      ⟨Rect.unit ![256, 512] ![128, 512] inb_S512x1024_S128x512_256_512, DV 2⟩,
      ⟨Rect.unit ![256, 384] ![128, 128] inb_S512x1024_S128x128_256_384, DU 2 3⟩,
      ⟨Rect.unit ![256, 256] ![128, 128] inb_S512x1024_S128x128_256_256, DU 2 2⟩,
      ⟨Rect.unit ![256, 128] ![128, 128] inb_S512x1024_S128x128_256_128, DU 2 1⟩,
      ⟨Rect.unit ![256, 0] ![128, 128] inb_S512x1024_S128x128_256_0, DU 2 0⟩,
      ⟨Rect.unit ![128, 512] ![128, 512] inb_S512x1024_S128x512_128_512, DV 1⟩,
      ⟨Rect.unit ![128, 384] ![128, 128] inb_S512x1024_S128x128_128_384, DU 1 3⟩,
      ⟨Rect.unit ![128, 256] ![128, 128] inb_S512x1024_S128x128_128_256, DU 1 2⟩,
      ⟨Rect.unit ![128, 128] ![128, 128] inb_S512x1024_S128x128_128_128, DU 1 1⟩,
      ⟨Rect.unit ![128, 0] ![128, 128] inb_S512x1024_S128x128_128_0, DU 1 0⟩,
      ⟨Rect.unit ![0, 512] ![128, 512] inb_S512x1024_S128x512_0_512, DV 0⟩,
      ⟨Rect.unit ![0, 384] ![128, 128] inb_S512x1024_S128x128_0_384, DU 0 3⟩,
      ⟨Rect.unit ![0, 256] ![128, 128] inb_S512x1024_S128x128_0_256, DU 0 2⟩,
      ⟨Rect.unit ![0, 128] ![128, 128] inb_S512x1024_S128x128_0_128, DU 0 1⟩,
      ⟨Rect.unit ![0, 0] ![128, 128] inb_S512x1024_S128x128_0_0, DU 0 0⟩] y
      = ((rOut D E (y 0) (y 1) : ℝ) : EReal) := by
  have L0 : (y 0).val < 512 := (y 0).isLt
  have L1 : (y 1).val < 1024 := (y 1).isLt
  have hp : View.PiecesOf (Val := Elt Ideal) (s := S512x1024) (e := .bf16) (block7 D E) [⟨Rect.unit ![384, 512] ![128, 512] inb_S512x1024_S128x512_384_512, DV 3⟩,
      ⟨Rect.unit ![384, 384] ![128, 128] inb_S512x1024_S128x128_384_384, DU 3 3⟩,
      ⟨Rect.unit ![384, 256] ![128, 128] inb_S512x1024_S128x128_384_256, DU 3 2⟩,
      ⟨Rect.unit ![384, 128] ![128, 128] inb_S512x1024_S128x128_384_128, DU 3 1⟩,
      ⟨Rect.unit ![384, 0] ![128, 128] inb_S512x1024_S128x128_384_0, DU 3 0⟩,
      ⟨Rect.unit ![256, 512] ![128, 512] inb_S512x1024_S128x512_256_512, DV 2⟩,
      ⟨Rect.unit ![256, 384] ![128, 128] inb_S512x1024_S128x128_256_384, DU 2 3⟩,
      ⟨Rect.unit ![256, 256] ![128, 128] inb_S512x1024_S128x128_256_256, DU 2 2⟩,
      ⟨Rect.unit ![256, 128] ![128, 128] inb_S512x1024_S128x128_256_128, DU 2 1⟩,
      ⟨Rect.unit ![256, 0] ![128, 128] inb_S512x1024_S128x128_256_0, DU 2 0⟩,
      ⟨Rect.unit ![128, 512] ![128, 512] inb_S512x1024_S128x512_128_512, DV 1⟩,
      ⟨Rect.unit ![128, 384] ![128, 128] inb_S512x1024_S128x128_128_384, DU 1 3⟩,
      ⟨Rect.unit ![128, 256] ![128, 128] inb_S512x1024_S128x128_128_256, DU 1 2⟩,
      ⟨Rect.unit ![128, 128] ![128, 128] inb_S512x1024_S128x128_128_128, DU 1 1⟩,
      ⟨Rect.unit ![128, 0] ![128, 128] inb_S512x1024_S128x128_128_0, DU 1 0⟩,
      ⟨Rect.unit ![0, 512] ![128, 512] inb_S512x1024_S128x512_0_512, DV 0⟩,
      ⟨Rect.unit ![0, 384] ![128, 128] inb_S512x1024_S128x128_0_384, DU 0 3⟩,
      ⟨Rect.unit ![0, 256] ![128, 128] inb_S512x1024_S128x128_0_256, DU 0 2⟩,
      ⟨Rect.unit ![0, 128] ![128, 128] inb_S512x1024_S128x128_0_128, DU 0 1⟩,
      ⟨Rect.unit ![0, 0] ![128, 128] inb_S512x1024_S128x128_0_0, DU 0 0⟩] :=
    ⟨fun x => (congrArg (DV 3) (eq_ix2 x)).trans ((hV 3 (x 0) (x 1)).trans (congrArg _ (rOut_hi D E _ _ 3 (x 0) (x 1) (by show 384 + 1 * (x 0).val = 128 * 3 + (x 0).val; omega) (by show 512 + 1 * (x 1).val = 512 + (x 1).val; omega)).symm)),
      fun x => (congrArg (DU 3 3) (eq_ix2 x)).trans ((hU 3 3 (x 0) (x 1)).trans (congrArg _ (rOut_lo D E _ _ 3 3 (x 0) (x 1) (by show 384 + 1 * (x 0).val = 128 * 3 + (x 0).val; omega) (by show 384 + 1 * (x 1).val = 128 * 3 + (x 1).val; omega)).symm)),
      fun x => (congrArg (DU 3 2) (eq_ix2 x)).trans ((hU 3 2 (x 0) (x 1)).trans (congrArg _ (rOut_lo D E _ _ 3 2 (x 0) (x 1) (by show 384 + 1 * (x 0).val = 128 * 3 + (x 0).val; omega) (by show 256 + 1 * (x 1).val = 128 * 2 + (x 1).val; omega)).symm)),
      fun x => (congrArg (DU 3 1) (eq_ix2 x)).trans ((hU 3 1 (x 0) (x 1)).trans (congrArg _ (rOut_lo D E _ _ 3 1 (x 0) (x 1) (by show 384 + 1 * (x 0).val = 128 * 3 + (x 0).val; omega) (by show 128 + 1 * (x 1).val = 128 * 1 + (x 1).val; omega)).symm)),
      fun x => (congrArg (DU 3 0) (eq_ix2 x)).trans ((hU 3 0 (x 0) (x 1)).trans (congrArg _ (rOut_lo D E _ _ 3 0 (x 0) (x 1) (by show 384 + 1 * (x 0).val = 128 * 3 + (x 0).val; omega) (by show 0 + 1 * (x 1).val = 128 * 0 + (x 1).val; omega)).symm)),
      fun x => (congrArg (DV 2) (eq_ix2 x)).trans ((hV 2 (x 0) (x 1)).trans (congrArg _ (rOut_hi D E _ _ 2 (x 0) (x 1) (by show 256 + 1 * (x 0).val = 128 * 2 + (x 0).val; omega) (by show 512 + 1 * (x 1).val = 512 + (x 1).val; omega)).symm)),
      fun x => (congrArg (DU 2 3) (eq_ix2 x)).trans ((hU 2 3 (x 0) (x 1)).trans (congrArg _ (rOut_lo D E _ _ 2 3 (x 0) (x 1) (by show 256 + 1 * (x 0).val = 128 * 2 + (x 0).val; omega) (by show 384 + 1 * (x 1).val = 128 * 3 + (x 1).val; omega)).symm)),
      fun x => (congrArg (DU 2 2) (eq_ix2 x)).trans ((hU 2 2 (x 0) (x 1)).trans (congrArg _ (rOut_lo D E _ _ 2 2 (x 0) (x 1) (by show 256 + 1 * (x 0).val = 128 * 2 + (x 0).val; omega) (by show 256 + 1 * (x 1).val = 128 * 2 + (x 1).val; omega)).symm)),
      fun x => (congrArg (DU 2 1) (eq_ix2 x)).trans ((hU 2 1 (x 0) (x 1)).trans (congrArg _ (rOut_lo D E _ _ 2 1 (x 0) (x 1) (by show 256 + 1 * (x 0).val = 128 * 2 + (x 0).val; omega) (by show 128 + 1 * (x 1).val = 128 * 1 + (x 1).val; omega)).symm)),
      fun x => (congrArg (DU 2 0) (eq_ix2 x)).trans ((hU 2 0 (x 0) (x 1)).trans (congrArg _ (rOut_lo D E _ _ 2 0 (x 0) (x 1) (by show 256 + 1 * (x 0).val = 128 * 2 + (x 0).val; omega) (by show 0 + 1 * (x 1).val = 128 * 0 + (x 1).val; omega)).symm)),
      fun x => (congrArg (DV 1) (eq_ix2 x)).trans ((hV 1 (x 0) (x 1)).trans (congrArg _ (rOut_hi D E _ _ 1 (x 0) (x 1) (by show 128 + 1 * (x 0).val = 128 * 1 + (x 0).val; omega) (by show 512 + 1 * (x 1).val = 512 + (x 1).val; omega)).symm)),
      fun x => (congrArg (DU 1 3) (eq_ix2 x)).trans ((hU 1 3 (x 0) (x 1)).trans (congrArg _ (rOut_lo D E _ _ 1 3 (x 0) (x 1) (by show 128 + 1 * (x 0).val = 128 * 1 + (x 0).val; omega) (by show 384 + 1 * (x 1).val = 128 * 3 + (x 1).val; omega)).symm)),
      fun x => (congrArg (DU 1 2) (eq_ix2 x)).trans ((hU 1 2 (x 0) (x 1)).trans (congrArg _ (rOut_lo D E _ _ 1 2 (x 0) (x 1) (by show 128 + 1 * (x 0).val = 128 * 1 + (x 0).val; omega) (by show 256 + 1 * (x 1).val = 128 * 2 + (x 1).val; omega)).symm)),
      fun x => (congrArg (DU 1 1) (eq_ix2 x)).trans ((hU 1 1 (x 0) (x 1)).trans (congrArg _ (rOut_lo D E _ _ 1 1 (x 0) (x 1) (by show 128 + 1 * (x 0).val = 128 * 1 + (x 0).val; omega) (by show 128 + 1 * (x 1).val = 128 * 1 + (x 1).val; omega)).symm)),
      fun x => (congrArg (DU 1 0) (eq_ix2 x)).trans ((hU 1 0 (x 0) (x 1)).trans (congrArg _ (rOut_lo D E _ _ 1 0 (x 0) (x 1) (by show 128 + 1 * (x 0).val = 128 * 1 + (x 0).val; omega) (by show 0 + 1 * (x 1).val = 128 * 0 + (x 1).val; omega)).symm)),
      fun x => (congrArg (DV 0) (eq_ix2 x)).trans ((hV 0 (x 0) (x 1)).trans (congrArg _ (rOut_hi D E _ _ 0 (x 0) (x 1) (by show 0 + 1 * (x 0).val = 128 * 0 + (x 0).val; omega) (by show 512 + 1 * (x 1).val = 512 + (x 1).val; omega)).symm)),
      fun x => (congrArg (DU 0 3) (eq_ix2 x)).trans ((hU 0 3 (x 0) (x 1)).trans (congrArg _ (rOut_lo D E _ _ 0 3 (x 0) (x 1) (by show 0 + 1 * (x 0).val = 128 * 0 + (x 0).val; omega) (by show 384 + 1 * (x 1).val = 128 * 3 + (x 1).val; omega)).symm)),
      fun x => (congrArg (DU 0 2) (eq_ix2 x)).trans ((hU 0 2 (x 0) (x 1)).trans (congrArg _ (rOut_lo D E _ _ 0 2 (x 0) (x 1) (by show 0 + 1 * (x 0).val = 128 * 0 + (x 0).val; omega) (by show 256 + 1 * (x 1).val = 128 * 2 + (x 1).val; omega)).symm)),
      fun x => (congrArg (DU 0 1) (eq_ix2 x)).trans ((hU 0 1 (x 0) (x 1)).trans (congrArg _ (rOut_lo D E _ _ 0 1 (x 0) (x 1) (by show 0 + 1 * (x 0).val = 128 * 0 + (x 0).val; omega) (by show 128 + 1 * (x 1).val = 128 * 1 + (x 1).val; omega)).symm)),
      fun x => (congrArg (DU 0 0) (eq_ix2 x)).trans ((hU 0 0 (x 0) (x 1)).trans (congrArg _ (rOut_lo D E _ _ 0 0 (x 0) (x 1) (by show 0 + 1 * (x 0).val = 128 * 0 + (x 0).val; omega) (by show 0 + 1 * (x 1).val = 128 * 0 + (x 1).val; omega)).symm)), trivial⟩
  refine View.canon_apply_of_pieces (Val := Elt Ideal) (S := S512x1024) (e := .bf16) (block7 D E) _ hp.mem y ?_
  obtain h | h | h | h : (y 0).val < 128 ∨ (128 ≤ (y 0).val ∧ (y 0).val < 256) ∨ (256 ≤ (y 0).val ∧ (y 0).val < 384) ∨ 384 ≤ (y 0).val := by omega
  all_goals obtain h' | h' | h' | h' | h' : (y 1).val < 128 ∨ (128 ≤ (y 1).val ∧ (y 1).val < 256) ∨ (256 ≤ (y 1).val ∧ (y 1).val < 384) ∨ (384 ≤ (y 1).val ∧ (y 1).val < 512) ∨ 512 ≤ (y 1).val := by omega
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))), mem_rect (inb := inb_S512x1024_S128x128_0_0) y (by omega) (by omega)⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))), mem_rect (inb := inb_S512x1024_S128x128_0_128) y (by omega) (by omega)⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))), mem_rect (inb := inb_S512x1024_S128x128_0_256) y (by omega) (by omega)⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))), mem_rect (inb := inb_S512x1024_S128x128_0_384) y (by omega) (by omega)⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))), mem_rect (inb := inb_S512x1024_S128x512_0_512) y (by omega) (by omega)⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))), mem_rect (inb := inb_S512x1024_S128x128_128_0) y (by omega) (by omega)⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))), mem_rect (inb := inb_S512x1024_S128x128_128_128) y (by omega) (by omega)⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))), mem_rect (inb := inb_S512x1024_S128x128_128_256) y (by omega) (by omega)⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))), mem_rect (inb := inb_S512x1024_S128x128_128_384) y (by omega) (by omega)⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.head _))))))))))), mem_rect (inb := inb_S512x1024_S128x512_128_512) y (by omega) (by omega)⟩
  · exact ⟨_, (List.Mem.tail _ (List.Mem.tail _ (List.Mem.tail _ (List.Mem.tail _ (List.Mem.tail _ (List.Mem.tail _ (List.Mem.tail _ (List.Mem.tail _ (List.Mem.tail _ (List.Mem.head _)))))))))), mem_rect (inb := inb_S512x1024_S128x128_256_0) y (by omega) (by omega)⟩
  · exact ⟨_, (List.Mem.tail _ (List.Mem.tail _ (List.Mem.tail _ (List.Mem.tail _ (List.Mem.tail _ (List.Mem.tail _ (List.Mem.tail _ (List.Mem.tail _ (List.Mem.head _))))))))), mem_rect (inb := inb_S512x1024_S128x128_256_128) y (by omega) (by omega)⟩
  · exact ⟨_, (List.Mem.tail _ (List.Mem.tail _ (List.Mem.tail _ (List.Mem.tail _ (List.Mem.tail _ (List.Mem.tail _ (List.Mem.tail _ (List.Mem.head _)))))))), mem_rect (inb := inb_S512x1024_S128x128_256_256) y (by omega) (by omega)⟩
  · exact ⟨_, (List.Mem.tail _ (List.Mem.tail _ (List.Mem.tail _ (List.Mem.tail _ (List.Mem.tail _ (List.Mem.tail _ (List.Mem.head _))))))), mem_rect (inb := inb_S512x1024_S128x128_256_384) y (by omega) (by omega)⟩
  · exact ⟨_, (List.Mem.tail _ (List.Mem.tail _ (List.Mem.tail _ (List.Mem.tail _ (List.Mem.tail _ (List.Mem.head _)))))), mem_rect (inb := inb_S512x1024_S128x512_256_512) y (by omega) (by omega)⟩
  · exact ⟨_, (List.Mem.tail _ (List.Mem.tail _ (List.Mem.tail _ (List.Mem.tail _ (List.Mem.head _))))), mem_rect (inb := inb_S512x1024_S128x128_384_0) y (by omega) (by omega)⟩
  · exact ⟨_, (List.Mem.tail _ (List.Mem.tail _ (List.Mem.tail _ (List.Mem.head _)))), mem_rect (inb := inb_S512x1024_S128x128_384_128) y (by omega) (by omega)⟩
  · exact ⟨_, (List.Mem.tail _ (List.Mem.tail _ (List.Mem.head _))), mem_rect (inb := inb_S512x1024_S128x128_384_256) y (by omega) (by omega)⟩
  · exact ⟨_, (List.Mem.tail _ (List.Mem.head _)), mem_rect (inb := inb_S512x1024_S128x128_384_384) y (by omega) (by omega)⟩
  · exact ⟨_, (List.Mem.head _), mem_rect (inb := inb_S512x1024_S128x512_384_512) y (by omega) (by omega)⟩

/-! ## The four groups' accumulators -/

/-- The last stores of the four groups, read. -/
theorem canon_groups (P : Fin 4 → FVec Ideal S1x128x128 .f32) (rest : List (View.Piece (Elt Ideal) S4x128x128 .f32))
    (g : Fin 4) (i j : Fin 128) :
    View.canon (Val := Elt Ideal) (s := S4x128x128) (e := .f32)
      (⟨Rect.unit ![3, 0, 0] ![1, 128, 128] inb_S4x128x128_S1x128x128_3_0_0, P 3⟩ ::
      ⟨Rect.unit ![2, 0, 0] ![1, 128, 128] inb_S4x128x128_S1x128x128_2_0_0, P 2⟩ ::
      ⟨Rect.unit ![1, 0, 0] ![1, 128, 128] inb_S4x128x128_S1x128x128_1_0_0, P 1⟩ ::
      ⟨Rect.unit ![0, 0, 0] ![1, 128, 128] inb_S4x128x128_S1x128x128_0_0_0, P 0⟩ :: rest) (ix3 g i j)
      = P g (ix3 0 i j) := by
  have mem : ∀ (a : ℕ) (inb) (ha : g.val = a), (ix3 g i j : S4x128x128.Idx) ∈ (Rect.unit (s := S4x128x128) ![a, 0, 0] ![1, 128, 128] inb).set := by
    intro a inb ha
    refine Rect.mem_set_unit.mpr fun x => ?_
    match x with
    | ⟨0, _⟩ => show a ≤ g.val ∧ g.val < a + 1; omega
    | ⟨1, _⟩ => show 0 ≤ i.val ∧ i.val < 0 + 128; omega
    | ⟨2, _⟩ => show 0 ≤ j.val ∧ j.val < 0 + 128; omega
  have e : ∀ (k : Fin 4) (inb) (x : S1x128x128.Idx), P k x
      = (fun y : S4x128x128.Idx => P (y 0) (ix3 0 (y 1) (y 2))) ((Rect.unit (s := S4x128x128) ![k.val, 0, 0] ![1, 128, 128] inb).emb x) := by
    intro k inb x
    have hx0 : (x 0).val < 1 := (x 0).isLt
    have h0 : ((Rect.unit (s := S4x128x128) ![k.val, 0, 0] ![1, 128, 128] inb).emb x) 0 = k :=
      Fin.ext (by show k.val + 1 * (x 0).val = k.val; omega)
    have h1 : ((Rect.unit (s := S4x128x128) ![k.val, 0, 0] ![1, 128, 128] inb).emb x) 1 = x 1 :=
      Fin.ext (by show 0 + 1 * (x 1).val = (x 1).val; omega)
    have h2 : ((Rect.unit (s := S4x128x128) ![k.val, 0, 0] ![1, 128, 128] inb).emb x) 2 = x 2 :=
      Fin.ext (by show 0 + 1 * (x 2).val = (x 2).val; omega)
    show P k x = P (((Rect.unit (s := S4x128x128) ![k.val, 0, 0] ![1, 128, 128] inb).emb x) 0) (ix3 0 (((Rect.unit (s := S4x128x128) ![k.val, 0, 0] ![1, 128, 128] inb).emb x) 1) (((Rect.unit (s := S4x128x128) ![k.val, 0, 0] ![1, 128, 128] inb).emb x) 2))
    rw [h0, h1, h2]
    refine congrArg (P k) ((eq_ix3 x).trans ?_)
    rw [show x 0 = (0 : Fin 1) from Fin.ext (by show (x 0).val = 0; omega)]
  refine View.canon_append_of_piecesOf (Val := Elt Ideal) (s := S4x128x128) (e := .f32)
    (fun y => P (y 0) (ix3 0 (y 1) (y 2))) rest [⟨Rect.unit ![3, 0, 0] ![1, 128, 128] inb_S4x128x128_S1x128x128_3_0_0, P 3⟩,
      ⟨Rect.unit ![2, 0, 0] ![1, 128, 128] inb_S4x128x128_S1x128x128_2_0_0, P 2⟩,
      ⟨Rect.unit ![1, 0, 0] ![1, 128, 128] inb_S4x128x128_S1x128x128_1_0_0, P 1⟩,
      ⟨Rect.unit ![0, 0, 0] ![1, 128, 128] inb_S4x128x128_S1x128x128_0_0_0, P 0⟩] ⟨e 3 inb_S4x128x128_S1x128x128_3_0_0, e 2 inb_S4x128x128_S1x128x128_2_0_0, e 1 inb_S4x128x128_S1x128x128_1_0_0, e 0 inb_S4x128x128_S1x128x128_0_0_0, trivial⟩ (ix3 g i j) ?_
  obtain h | h | h | h : g.val = 0 ∨ g.val = 1 ∨ g.val = 2 ∨ g.val = 3 := by omega
  · exact ⟨_, (List.Mem.tail _ (List.Mem.tail _ (List.Mem.tail _ (List.Mem.head _)))), mem _ inb_S4x128x128_S1x128x128_0_0_0 h⟩
  · exact ⟨_, (List.Mem.tail _ (List.Mem.tail _ (List.Mem.head _))), mem _ inb_S4x128x128_S1x128x128_1_0_0 h⟩
  · exact ⟨_, (List.Mem.tail _ (List.Mem.head _)), mem _ inb_S4x128x128_S1x128x128_2_0_0 h⟩
  · exact ⟨_, (List.Mem.head _), mem _ inb_S4x128x128_S1x128x128_3_0_0 h⟩

/-! ## A point's operands, and its outputs -/

/-- Chunk `q` of a block of 512 rows. -/
def part (f : Fin 512 → Fin 512 → ℝ) (q : Fin 4) (t : Fin 128) : Fin 512 → ℝ := f (col q t)

/-- A point's seven operand blocks hold these real numbers. -/
structure Holds (x0 x1 x2 : FVec Ideal S512x512 .bf16) (x3 x4 : FVec Ideal S1x512 .f32) (x5 : FVec Ideal S4x128x128 .f32)
    (x6 : FVec Ideal S128x4 .f32) (U V O : Fin 512 → Fin 512 → ℝ) (LG LB : Fin 512 → ℝ) (WS : Fin 4 → Fin 128 → Fin 128 → ℝ)
    (BS : Fin 4 → Fin 128 → ℝ) : Prop where
  h0 : Rep (φ := .bf16) x0 U
  h1 : Rep (φ := .bf16) x1 V
  h2 : Rep (φ := .bf16) x2 O
  h3 : Rep (φ := .f32) x3 fun _ => LG
  h4 : Rep (φ := .f32) x4 fun _ => LB
  h5 : ∀ g t s, x5 (ix3 g t s) = ((WS g t s : ℝ) : EReal)
  h6 : ∀ t g, x6 (ix2 t g) = ((BS g t : ℝ) : EReal)

section
variable {x0 x1 x2 : FVec Ideal S512x512 .bf16} {x3 x4 : FVec Ideal S1x512 .f32} {x5 : FVec Ideal S4x128x128 .f32}
  {x6 : FVec Ideal S128x4 .f32} {U V O : Fin 512 → Fin 512 → ℝ} {LG LB : Fin 512 → ℝ} {WS : Fin 4 → Fin 128 → Fin 128 → ℝ}
  {BS : Fin 4 → Fin 128 → ℝ} (H : Holds x0 x1 x2 x3 x4 x5 x6 U V O LG LB WS BS)
include H

theorem hold_7 (y : S512x1024.Idx) :
    View.canon (Val := Elt Ideal) (s := S512x1024) (e := .bf16) [⟨Rect.unit ![384, 512] ![128, 512] inb_S512x1024_S128x512_384_512, kDv (F := Ideal) 3 x0 x1 x2 x3 x5⟩,
      ⟨Rect.unit ![384, 384] ![128, 128] inb_S512x1024_S128x128_384_384, kDu (F := Ideal) 3 3 x0 x1 x2 x3 x4 x5 x6⟩,
      ⟨Rect.unit ![384, 256] ![128, 128] inb_S512x1024_S128x128_384_256, kDu (F := Ideal) 3 2 x0 x1 x2 x3 x4 x5 x6⟩,
      ⟨Rect.unit ![384, 128] ![128, 128] inb_S512x1024_S128x128_384_128, kDu (F := Ideal) 3 1 x0 x1 x2 x3 x4 x5 x6⟩,
      ⟨Rect.unit ![384, 0] ![128, 128] inb_S512x1024_S128x128_384_0, kDu (F := Ideal) 3 0 x0 x1 x2 x3 x4 x5 x6⟩,
      ⟨Rect.unit ![256, 512] ![128, 512] inb_S512x1024_S128x512_256_512, kDv (F := Ideal) 2 x0 x1 x2 x3 x5⟩,
      ⟨Rect.unit ![256, 384] ![128, 128] inb_S512x1024_S128x128_256_384, kDu (F := Ideal) 2 3 x0 x1 x2 x3 x4 x5 x6⟩,
      ⟨Rect.unit ![256, 256] ![128, 128] inb_S512x1024_S128x128_256_256, kDu (F := Ideal) 2 2 x0 x1 x2 x3 x4 x5 x6⟩,
      ⟨Rect.unit ![256, 128] ![128, 128] inb_S512x1024_S128x128_256_128, kDu (F := Ideal) 2 1 x0 x1 x2 x3 x4 x5 x6⟩,
      ⟨Rect.unit ![256, 0] ![128, 128] inb_S512x1024_S128x128_256_0, kDu (F := Ideal) 2 0 x0 x1 x2 x3 x4 x5 x6⟩,
      ⟨Rect.unit ![128, 512] ![128, 512] inb_S512x1024_S128x512_128_512, kDv (F := Ideal) 1 x0 x1 x2 x3 x5⟩,
      ⟨Rect.unit ![128, 384] ![128, 128] inb_S512x1024_S128x128_128_384, kDu (F := Ideal) 1 3 x0 x1 x2 x3 x4 x5 x6⟩,
      ⟨Rect.unit ![128, 256] ![128, 128] inb_S512x1024_S128x128_128_256, kDu (F := Ideal) 1 2 x0 x1 x2 x3 x4 x5 x6⟩,
      ⟨Rect.unit ![128, 128] ![128, 128] inb_S512x1024_S128x128_128_128, kDu (F := Ideal) 1 1 x0 x1 x2 x3 x4 x5 x6⟩,
      ⟨Rect.unit ![128, 0] ![128, 128] inb_S512x1024_S128x128_128_0, kDu (F := Ideal) 1 0 x0 x1 x2 x3 x4 x5 x6⟩,
      ⟨Rect.unit ![0, 512] ![128, 512] inb_S512x1024_S128x512_0_512, kDv (F := Ideal) 0 x0 x1 x2 x3 x5⟩,
      ⟨Rect.unit ![0, 384] ![128, 128] inb_S512x1024_S128x128_0_384, kDu (F := Ideal) 0 3 x0 x1 x2 x3 x4 x5 x6⟩,
      ⟨Rect.unit ![0, 256] ![128, 128] inb_S512x1024_S128x128_0_256, kDu (F := Ideal) 0 2 x0 x1 x2 x3 x4 x5 x6⟩,
      ⟨Rect.unit ![0, 128] ![128, 128] inb_S512x1024_S128x128_0_128, kDu (F := Ideal) 0 1 x0 x1 x2 x3 x4 x5 x6⟩,
      ⟨Rect.unit ![0, 0] ![128, 128] inb_S512x1024_S128x128_0_0, kDu (F := Ideal) 0 0 x0 x1 x2 x3 x4 x5 x6⟩] y
      = ((rOut (fun q t j => rDu (part U q) (part V q) (part O q) LG LB WS BS (grp j) t (lane j))
          (fun q t j => rDv (part U q) (part V q) (part O q) LG WS t j) (y 0) (y 1) : ℝ) : EReal) :=
  canon_factors (fun q g => kDu q g x0 x1 x2 x3 x4 x5 x6) (fun q => kDv q x0 x1 x2 x3 x5) _ _
    (fun q g t c => by
      rw [rep_kDu q g H.h0 H.h1 H.h2 H.h3 H.h4 H.h5 H.h6 t c, grp_eq (col g c) g c rfl, lane_eq (col g c) g c rfl]; rfl)
    (fun q t c => rep_kDv q H.h0 H.h1 H.h2 H.h3 H.h5 t c) y

theorem hold_8 (I : Fin 4 → FVec Ideal S1x128x128 .f32) (rest : List (View.Piece (Elt Ideal) S4x128x128 .f32))
    {o : Fin 4 → Fin 128 → Fin 128 → ℝ} (hI : ∀ g i j, I g (ix3 0 i j) = ((o g i j : ℝ) : EReal)) (g : Fin 4) (i j : Fin 128) :
    View.canon (Val := Elt Ideal) (s := S4x128x128) (e := .f32)
      (⟨Rect.unit ![3, 0, 0] ![1, 128, 128] inb_S4x128x128_S1x128x128_3_0_0, kGw (F := Ideal) 3 3 x0 x1 x2 x3 x4 (kGw 2 3 x0 x1 x2 x3 x4 (kGw 1 3 x0 x1 x2 x3 x4 (kGw 0 3 x0 x1 x2 x3 x4 (I 3))))⟩ ::
      ⟨Rect.unit ![2, 0, 0] ![1, 128, 128] inb_S4x128x128_S1x128x128_2_0_0, kGw (F := Ideal) 3 2 x0 x1 x2 x3 x4 (kGw 2 2 x0 x1 x2 x3 x4 (kGw 1 2 x0 x1 x2 x3 x4 (kGw 0 2 x0 x1 x2 x3 x4 (I 2))))⟩ ::
      ⟨Rect.unit ![1, 0, 0] ![1, 128, 128] inb_S4x128x128_S1x128x128_1_0_0, kGw (F := Ideal) 3 1 x0 x1 x2 x3 x4 (kGw 2 1 x0 x1 x2 x3 x4 (kGw 1 1 x0 x1 x2 x3 x4 (kGw 0 1 x0 x1 x2 x3 x4 (I 1))))⟩ ::
      ⟨Rect.unit ![0, 0, 0] ![1, 128, 128] inb_S4x128x128_S1x128x128_0_0_0, kGw (F := Ideal) 3 0 x0 x1 x2 x3 x4 (kGw 2 0 x0 x1 x2 x3 x4 (kGw 1 0 x0 x1 x2 x3 x4 (kGw 0 0 x0 x1 x2 x3 x4 (I 0))))⟩ :: rest) (ix3 g i j)
      = ((o g i j + ∑ q, rGw (part U q) (part V q) (part O q) LG LB g i j : ℝ) : EReal) := by
  refine (canon_groups (fun g => kGw 3 g x0 x1 x2 x3 x4 (kGw 2 g x0 x1 x2 x3 x4 (kGw 1 g x0 x1 x2 x3 x4 (kGw 0 g x0 x1 x2 x3 x4 (I g))))) rest g i j).trans ?_
  refine (rep_kGw 3 g H.h0 H.h1 H.h2 H.h3 H.h4 (fun i j => rep_kGw 2 g H.h0 H.h1 H.h2 H.h3 H.h4 (fun i j => rep_kGw 1 g H.h0 H.h1 H.h2 H.h3 H.h4 (fun i j => rep_kGw 0 g H.h0 H.h1 H.h2 H.h3 H.h4 (hI g) i j) i j) i j) i j).trans ?_
  rw [Fin.sum_univ_four, ← add_assoc, ← add_assoc, ← add_assoc]
  rfl

theorem hold_9 (I : Fin 4 → FVec Ideal S1x128x128 .f32) (rest : List (View.Piece (Elt Ideal) S4x128x128 .f32))
    {o : Fin 4 → Fin 128 → Fin 128 → ℝ} (hI : ∀ g i j, I g (ix3 0 i j) = ((o g i j : ℝ) : EReal)) (g : Fin 4) (i j : Fin 128) :
    View.canon (Val := Elt Ideal) (s := S4x128x128) (e := .f32)
      (⟨Rect.unit ![3, 0, 0] ![1, 128, 128] inb_S4x128x128_S1x128x128_3_0_0, kGb (F := Ideal) 3 3 x0 x2 (kGb 2 3 x0 x2 (kGb 1 3 x0 x2 (kGb 0 3 x0 x2 (I 3))))⟩ ::
      ⟨Rect.unit ![2, 0, 0] ![1, 128, 128] inb_S4x128x128_S1x128x128_2_0_0, kGb (F := Ideal) 3 2 x0 x2 (kGb 2 2 x0 x2 (kGb 1 2 x0 x2 (kGb 0 2 x0 x2 (I 2))))⟩ ::
      ⟨Rect.unit ![1, 0, 0] ![1, 128, 128] inb_S4x128x128_S1x128x128_1_0_0, kGb (F := Ideal) 3 1 x0 x2 (kGb 2 1 x0 x2 (kGb 1 1 x0 x2 (kGb 0 1 x0 x2 (I 1))))⟩ ::
      ⟨Rect.unit ![0, 0, 0] ![1, 128, 128] inb_S4x128x128_S1x128x128_0_0_0, kGb (F := Ideal) 3 0 x0 x2 (kGb 2 0 x0 x2 (kGb 1 0 x0 x2 (kGb 0 0 x0 x2 (I 0))))⟩ :: rest) (ix3 g i j)
      = ((o g i j + ∑ q, rGb (part U q) (part O q) g i : ℝ) : EReal) := by
  refine (canon_groups (fun g => kGb 3 g x0 x2 (kGb 2 g x0 x2 (kGb 1 g x0 x2 (kGb 0 g x0 x2 (I g))))) rest g i j).trans ?_
  refine (rep_kGb 3 g H.h0 H.h2 (fun i j => rep_kGb 2 g H.h0 H.h2 (fun i j => rep_kGb 1 g H.h0 H.h2 (fun i j => rep_kGb 0 g H.h0 H.h2 (hI g) i j) i j) i j) i j).trans ?_
  rw [Fin.sum_univ_four, ← add_assoc, ← add_assoc, ← add_assoc]
  rfl

theorem hold_10 {I : FVec Ideal S1x512 .f32} {o : Fin 512 → ℝ} (hI : Rep (m := 1) (n := 512) I fun _ => o) :
    Rep (m := 1) (n := 512) (kGlg 3 x0 x1 x2 x5 (kGlg 2 x0 x1 x2 x5 (kGlg 1 x0 x1 x2 x5 (kGlg 0 x0 x1 x2 x5 I))))
      (fun _ j => o j + ∑ q, rGlg (part U q) (part V q) (part O q) WS j) := by
  intro i j
  refine (rep_kGlg 3 H.h0 H.h1 H.h2 H.h5 (rep_kGlg 2 H.h0 H.h1 H.h2 H.h5 (rep_kGlg 1 H.h0 H.h1 H.h2 H.h5 (rep_kGlg 0 H.h0 H.h1 H.h2 H.h5 hI))) i j).trans ?_
  dsimp only
  rw [Fin.sum_univ_four, ← add_assoc, ← add_assoc, ← add_assoc]
  rfl

theorem hold_11 {I : FVec Ideal S1x512 .f32} {o : Fin 512 → ℝ} (hI : Rep (m := 1) (n := 512) I fun _ => o) :
    Rep (m := 1) (n := 512) (kGlb 3 x0 x2 x5 (kGlb 2 x0 x2 x5 (kGlb 1 x0 x2 x5 (kGlb 0 x0 x2 x5 I))))
      (fun _ j => o j + ∑ q, rGlb (part U q) (part O q) WS j) := by
  intro i j
  refine (rep_kGlb 3 H.h0 H.h2 H.h5 (rep_kGlb 2 H.h0 H.h2 H.h5 (rep_kGlb 1 H.h0 H.h2 H.h5 (rep_kGlb 0 H.h0 H.h2 H.h5 hI))) i j).trans ?_
  dsimp only
  rw [Fin.sum_univ_four, ← add_assoc, ← add_assoc, ← add_assoc]
  rfl

end
end Cert.Gmlp

end
-- ==== Proof.Gmlp.WordsA.lean ====
module

public import proofs.«01_k».proof.Proof.Gmlp.Chunk
public import proofs.«01_k».proof.Proof.Gen.KernelIdeal.Value
public import Idealize.ShloMosaic.Lib.Pipeline.ReadBack

@[expose] public section
set_option maxRecDepth 16384
/-! What one grid point leaves in its output blocks, at the first point of a group of sixteen (the accumulators start from zero),
  in the words of the chunk functions: first each reading of an accumulator, then each block. -/

noncomputable section
namespace Cert.Gmlp
open Idealize.ShloMosaic Idealize.ShloMosaic.TcCoe Idealize.ShloMosaic.Tactic
open Cert.KernelIdeal Cert.KernelIdeal.Gen Cert.KernelIdeal.Gen.kernelRun0_A.sl
theorem hz_a : (![0, 0] : Fin 2 → Nat) = fun _ => 0 := funext fun a => by fin_cases a <;> rfl

variable {F : FTy → Type} [FloatOps F] [Named F]
set_option maxHeartbeats 4000000
variable (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S4x128x128 .f32) (harg6 : arg6.IsWhole) (arg7 : Memref sig .tc .vmem S128x4 .f32) (harg7 : arg7.IsWhole) (arg9 : Memref sig .tc .vmem S512x1024 .bf16) (harg9 : arg9.IsWhole) (arg10 : Memref sig .tc .vmem S4x128x128 .f32) (harg10 : arg10.IsWhole) (arg11 : Memref sig .tc .vmem S4x128x128 .f32) (harg11 : arg11.IsWhole) (arg12 : Memref sig .tc .vmem S1x512 .f32) (harg12 : arg12.IsWhole) (arg13 : Memref sig .tc .vmem S1x512 .f32) (harg13 : arg13.IsWhole) (hc0 : cond0_0 i) (x0 : Vec F S512x512 .bf16) (x1 : Vec F S512x512 .bf16) (x2 : Vec F S512x512 .bf16) (x3 : Vec F S1x512 .f32) (x4 : Vec F S1x512 .f32) (x5 : Vec F S4x128x128 .f32) (x6 : Vec F S128x4 .f32)
theorem load_A_8_0_0 :
    v138 (F := F) c arg10 = (fill S1x128x128 0x00000000#32) := by
  unfold v138
  unfold H8_1
  exact View.readCov_fill _ _ _ _ _ (fun a => by fin_cases a <;> rfl)
theorem load_A_8_0_1 :
    v172 (F := F) c arg1 harg1 arg2 harg2 arg3 harg3 arg4 harg4 arg5 harg5 arg10 x0 x1 x2 x3 x4 = (fill S1x128x128 0x00000000#32) := by
  unfold v172
  unfold H8_2
  rw [View.readCov_skip _ _ _ _ _ rfl]
  unfold H8_1
  exact View.readCov_fill _ _ _ _ _ (fun a => by fin_cases a <;> rfl)
theorem load_A_8_0_2 :
    v206 (F := F) c arg1 harg1 arg2 harg2 arg3 harg3 arg4 harg4 arg5 harg5 arg10 x0 x1 x2 x3 x4 = (fill S1x128x128 0x00000000#32) := by
  unfold v206
  unfold H8_3
  rw [View.readCov_skip _ _ _ _ _ rfl]
  unfold H8_2
  rw [View.readCov_skip _ _ _ _ _ rfl]
  unfold H8_1
  exact View.readCov_fill _ _ _ _ _ (fun a => by fin_cases a <;> rfl)
theorem load_A_8_0_3 :
    v240 (F := F) c arg1 harg1 arg2 harg2 arg3 harg3 arg4 harg4 arg5 harg5 arg10 x0 x1 x2 x3 x4 = (fill S1x128x128 0x00000000#32) := by
  unfold v240
  unfold H8_4
  rw [View.readCov_skip _ _ _ _ _ rfl]
  unfold H8_3
  rw [View.readCov_skip _ _ _ _ _ rfl]
  unfold H8_2
  rw [View.readCov_skip _ _ _ _ _ rfl]
  unfold H8_1
  exact View.readCov_fill _ _ _ _ _ (fun a => by fin_cases a <;> rfl)
theorem load_A_8_1_0 :
    v402 (F := F) c arg1 harg1 arg2 harg2 arg3 harg3 arg4 harg4 arg5 harg5 arg10 x0 x1 x2 x3 x4 = (kGw 0 0 x0 x1 x2 x3 x4 (fill S1x128x128 0x00000000#32)) := by
  unfold v402
  unfold H8_5
  rw [View.readCov_skip _ _ _ _ _ rfl]
  unfold H8_4
  rw [View.readCov_skip _ _ _ _ _ rfl]
  unfold H8_3
  rw [View.readCov_skip _ _ _ _ _ rfl]
  unfold H8_2
  rw [View.readCov_cons_toLoadRect]
  rw [load_A_8_0_0]
  simp only [r_7, r_5, View.readAt_eq_ld, harg1.read_unread, r_6, r_13, harg3.read_unread, r_16, r_4, harg4.read_unread, View.ld_unit_zero (S := S1x512) hz_a, r_11, harg2.read_unread, harg5.read_unread]
  rfl
theorem load_A_8_1_1 :
    v436 (F := F) c arg1 harg1 arg2 harg2 arg3 harg3 arg4 harg4 arg5 harg5 arg10 x0 x1 x2 x3 x4 = (kGw 0 1 x0 x1 x2 x3 x4 (fill S1x128x128 0x00000000#32)) := by
  unfold v436
  unfold H8_6
  rw [View.readCov_skip _ _ _ _ _ rfl]
  unfold H8_5
  rw [View.readCov_skip _ _ _ _ _ rfl]
  unfold H8_4
  rw [View.readCov_skip _ _ _ _ _ rfl]
  unfold H8_3
  rw [View.readCov_cons_toLoadRect]
  rw [load_A_8_0_1]
  simp only [r_7, r_5, View.readAt_eq_ld, harg1.read_unread, r_6, r_13, harg3.read_unread, r_16, r_4, harg4.read_unread, View.ld_unit_zero (S := S1x512) hz_a, r_11, harg2.read_unread, harg5.read_unread]
  rfl
theorem load_A_8_1_2 :
    v470 (F := F) c arg1 harg1 arg2 harg2 arg3 harg3 arg4 harg4 arg5 harg5 arg10 x0 x1 x2 x3 x4 = (kGw 0 2 x0 x1 x2 x3 x4 (fill S1x128x128 0x00000000#32)) := by
  unfold v470
  unfold H8_7
  rw [View.readCov_skip _ _ _ _ _ rfl]
  unfold H8_6
  rw [View.readCov_skip _ _ _ _ _ rfl]
  unfold H8_5
  rw [View.readCov_skip _ _ _ _ _ rfl]
  unfold H8_4
  rw [View.readCov_cons_toLoadRect]
  rw [load_A_8_0_2]
  simp only [r_7, r_5, View.readAt_eq_ld, harg1.read_unread, r_6, r_13, harg3.read_unread, r_16, r_4, harg4.read_unread, View.ld_unit_zero (S := S1x512) hz_a, r_11, harg2.read_unread, harg5.read_unread]
  rfl
theorem load_A_8_1_3 :
    v504 (F := F) c arg1 harg1 arg2 harg2 arg3 harg3 arg4 harg4 arg5 harg5 arg10 x0 x1 x2 x3 x4 = (kGw 0 3 x0 x1 x2 x3 x4 (fill S1x128x128 0x00000000#32)) := by
  unfold v504
  unfold H8_8
  rw [View.readCov_skip _ _ _ _ _ rfl]
  unfold H8_7
  rw [View.readCov_skip _ _ _ _ _ rfl]
  unfold H8_6
  rw [View.readCov_skip _ _ _ _ _ rfl]
  unfold H8_5
  rw [View.readCov_cons_toLoadRect]
  rw [load_A_8_0_3]
  simp only [r_7, r_5, View.readAt_eq_ld, harg1.read_unread, r_6, r_13, harg3.read_unread, r_16, r_4, harg4.read_unread, View.ld_unit_zero (S := S1x512) hz_a, r_11, harg2.read_unread, harg5.read_unread]
  rfl
theorem load_A_8_2_0 :
    v666 (F := F) c arg1 harg1 arg2 harg2 arg3 harg3 arg4 harg4 arg5 harg5 arg10 x0 x1 x2 x3 x4 = (kGw 1 0 x0 x1 x2 x3 x4 (kGw 0 0 x0 x1 x2 x3 x4 (fill S1x128x128 0x00000000#32))) := by
  unfold v666
  unfold H8_9
  rw [View.readCov_skip _ _ _ _ _ rfl]
  unfold H8_8
  rw [View.readCov_skip _ _ _ _ _ rfl]
  unfold H8_7
  rw [View.readCov_skip _ _ _ _ _ rfl]
  unfold H8_6
  rw [View.readCov_cons_toLoadRect]
  rw [load_A_8_1_0]
  simp only [r_29, r_27, View.readAt_eq_ld, harg1.read_unread, r_28, r_36, harg3.read_unread, r_39, r_4, harg4.read_unread, View.ld_unit_zero (S := S1x512) hz_a, r_33, harg2.read_unread, harg5.read_unread]
  rfl
theorem load_A_8_2_1 :
    v700 (F := F) c arg1 harg1 arg2 harg2 arg3 harg3 arg4 harg4 arg5 harg5 arg10 x0 x1 x2 x3 x4 = (kGw 1 1 x0 x1 x2 x3 x4 (kGw 0 1 x0 x1 x2 x3 x4 (fill S1x128x128 0x00000000#32))) := by
  unfold v700
  unfold H8_10
  rw [View.readCov_skip _ _ _ _ _ rfl]
  unfold H8_9
  rw [View.readCov_skip _ _ _ _ _ rfl]
  unfold H8_8
  rw [View.readCov_skip _ _ _ _ _ rfl]
  unfold H8_7
  rw [View.readCov_cons_toLoadRect]
  rw [load_A_8_1_1]
  simp only [r_29, r_27, View.readAt_eq_ld, harg1.read_unread, r_28, r_36, harg3.read_unread, r_39, r_4, harg4.read_unread, View.ld_unit_zero (S := S1x512) hz_a, r_33, harg2.read_unread, harg5.read_unread]
  rfl
theorem load_A_8_2_2 :
    v734 (F := F) c arg1 harg1 arg2 harg2 arg3 harg3 arg4 harg4 arg5 harg5 arg10 x0 x1 x2 x3 x4 = (kGw 1 2 x0 x1 x2 x3 x4 (kGw 0 2 x0 x1 x2 x3 x4 (fill S1x128x128 0x00000000#32))) := by
  unfold v734
  unfold H8_11
  rw [View.readCov_skip _ _ _ _ _ rfl]
  unfold H8_10
  rw [View.readCov_skip _ _ _ _ _ rfl]
  unfold H8_9
  rw [View.readCov_skip _ _ _ _ _ rfl]
  unfold H8_8
  rw [View.readCov_cons_toLoadRect]
  rw [load_A_8_1_2]
  simp only [r_29, r_27, View.readAt_eq_ld, harg1.read_unread, r_28, r_36, harg3.read_unread, r_39, r_4, harg4.read_unread, View.ld_unit_zero (S := S1x512) hz_a, r_33, harg2.read_unread, harg5.read_unread]
  rfl
theorem load_A_8_2_3 :
    v768 (F := F) c arg1 harg1 arg2 harg2 arg3 harg3 arg4 harg4 arg5 harg5 arg10 x0 x1 x2 x3 x4 = (kGw 1 3 x0 x1 x2 x3 x4 (kGw 0 3 x0 x1 x2 x3 x4 (fill S1x128x128 0x00000000#32))) := by
  unfold v768
  unfold H8_12
  rw [View.readCov_skip _ _ _ _ _ rfl]
  unfold H8_11
  rw [View.readCov_skip _ _ _ _ _ rfl]
  unfold H8_10
  rw [View.readCov_skip _ _ _ _ _ rfl]
  unfold H8_9
  rw [View.readCov_cons_toLoadRect]
  rw [load_A_8_1_3]
  simp only [r_29, r_27, View.readAt_eq_ld, harg1.read_unread, r_28, r_36, harg3.read_unread, r_39, r_4, harg4.read_unread, View.ld_unit_zero (S := S1x512) hz_a, r_33, harg2.read_unread, harg5.read_unread]
  rfl
theorem load_A_8_3_0 :
    v930 (F := F) c arg1 harg1 arg2 harg2 arg3 harg3 arg4 harg4 arg5 harg5 arg10 x0 x1 x2 x3 x4 = (kGw 2 0 x0 x1 x2 x3 x4 (kGw 1 0 x0 x1 x2 x3 x4 (kGw 0 0 x0 x1 x2 x3 x4 (fill S1x128x128 0x00000000#32)))) := by
  unfold v930
  unfold H8_13
  rw [View.readCov_skip _ _ _ _ _ rfl]
  unfold H8_12
  rw [View.readCov_skip _ _ _ _ _ rfl]
  unfold H8_11
  rw [View.readCov_skip _ _ _ _ _ rfl]
  unfold H8_10
  rw [View.readCov_cons_toLoadRect]
  rw [load_A_8_2_0]
  simp only [r_56, r_54, View.readAt_eq_ld, harg1.read_unread, r_55, r_64, harg3.read_unread, r_67, r_4, harg4.read_unread, View.ld_unit_zero (S := S1x512) hz_a, r_59, harg2.read_unread, harg5.read_unread]
  rfl
theorem load_A_8_3_1 :
    v964 (F := F) c arg1 harg1 arg2 harg2 arg3 harg3 arg4 harg4 arg5 harg5 arg10 x0 x1 x2 x3 x4 = (kGw 2 1 x0 x1 x2 x3 x4 (kGw 1 1 x0 x1 x2 x3 x4 (kGw 0 1 x0 x1 x2 x3 x4 (fill S1x128x128 0x00000000#32)))) := by
  unfold v964
  unfold H8_14
  rw [View.readCov_skip _ _ _ _ _ rfl]
  unfold H8_13
  rw [View.readCov_skip _ _ _ _ _ rfl]
  unfold H8_12
  rw [View.readCov_skip _ _ _ _ _ rfl]
  unfold H8_11
  rw [View.readCov_cons_toLoadRect]
  rw [load_A_8_2_1]
  simp only [r_56, r_54, View.readAt_eq_ld, harg1.read_unread, r_55, r_64, harg3.read_unread, r_67, r_4, harg4.read_unread, View.ld_unit_zero (S := S1x512) hz_a, r_59, harg2.read_unread, harg5.read_unread]
  rfl
theorem load_A_8_3_2 :
    v998 (F := F) c arg1 harg1 arg2 harg2 arg3 harg3 arg4 harg4 arg5 harg5 arg10 x0 x1 x2 x3 x4 = (kGw 2 2 x0 x1 x2 x3 x4 (kGw 1 2 x0 x1 x2 x3 x4 (kGw 0 2 x0 x1 x2 x3 x4 (fill S1x128x128 0x00000000#32)))) := by
  unfold v998
  unfold H8_15
  rw [View.readCov_skip _ _ _ _ _ rfl]
  unfold H8_14
  rw [View.readCov_skip _ _ _ _ _ rfl]
  unfold H8_13
  rw [View.readCov_skip _ _ _ _ _ rfl]
  unfold H8_12
  rw [View.readCov_cons_toLoadRect]
  rw [load_A_8_2_2]
  simp only [r_56, r_54, View.readAt_eq_ld, harg1.read_unread, r_55, r_64, harg3.read_unread, r_67, r_4, harg4.read_unread, View.ld_unit_zero (S := S1x512) hz_a, r_59, harg2.read_unread, harg5.read_unread]
  rfl
theorem load_A_8_3_3 :
    v1032 (F := F) c arg1 harg1 arg2 harg2 arg3 harg3 arg4 harg4 arg5 harg5 arg10 x0 x1 x2 x3 x4 = (kGw 2 3 x0 x1 x2 x3 x4 (kGw 1 3 x0 x1 x2 x3 x4 (kGw 0 3 x0 x1 x2 x3 x4 (fill S1x128x128 0x00000000#32)))) := by
  unfold v1032
  unfold H8_16
  rw [View.readCov_skip _ _ _ _ _ rfl]
  unfold H8_15
  rw [View.readCov_skip _ _ _ _ _ rfl]
  unfold H8_14
  rw [View.readCov_skip _ _ _ _ _ rfl]
  unfold H8_13
  rw [View.readCov_cons_toLoadRect]
  rw [load_A_8_2_3]
  simp only [r_56, r_54, View.readAt_eq_ld, harg1.read_unread, r_55, r_64, harg3.read_unread, r_67, r_4, harg4.read_unread, View.ld_unit_zero (S := S1x512) hz_a, r_59, harg2.read_unread, harg5.read_unread]
  rfl
/-- An accumulator block after the point. -/
theorem out_A_8 :
    ∃ rest : List (View.Piece (Elt F) S4x128x128 .f32), out0_A_8 c i arg1 harg1 arg2 harg2 arg3 harg3 arg4 harg4 arg5 harg5 arg6 harg6 arg7 harg7 arg9 harg9 arg10 harg10 arg11 harg11 arg12 harg12 arg13 harg13 hc0 x0 x1 x2 x3 x4 x5 x6 = View.canon (⟨Rect.unit ![3, 0, 0] ![1, 128, 128] inb_S4x128x128_S1x128x128_3_0_0, (kGw 3 3 x0 x1 x2 x3 x4 (kGw 2 3 x0 x1 x2 x3 x4 (kGw 1 3 x0 x1 x2 x3 x4 (kGw 0 3 x0 x1 x2 x3 x4 (fill S1x128x128 0x00000000#32)))))⟩ :: ⟨Rect.unit ![2, 0, 0] ![1, 128, 128] inb_S4x128x128_S1x128x128_2_0_0, (kGw 3 2 x0 x1 x2 x3 x4 (kGw 2 2 x0 x1 x2 x3 x4 (kGw 1 2 x0 x1 x2 x3 x4 (kGw 0 2 x0 x1 x2 x3 x4 (fill S1x128x128 0x00000000#32)))))⟩ :: ⟨Rect.unit ![1, 0, 0] ![1, 128, 128] inb_S4x128x128_S1x128x128_1_0_0, (kGw 3 1 x0 x1 x2 x3 x4 (kGw 2 1 x0 x1 x2 x3 x4 (kGw 1 1 x0 x1 x2 x3 x4 (kGw 0 1 x0 x1 x2 x3 x4 (fill S1x128x128 0x00000000#32)))))⟩ :: ⟨Rect.unit ![0, 0, 0] ![1, 128, 128] inb_S4x128x128_S1x128x128_0_0_0, (kGw 3 0 x0 x1 x2 x3 x4 (kGw 2 0 x0 x1 x2 x3 x4 (kGw 1 0 x0 x1 x2 x3 x4 (kGw 0 0 x0 x1 x2 x3 x4 (fill S1x128x128 0x00000000#32)))))⟩ :: rest) := by
  unfold out0_A_8
  rw [View.read_writes_eq_canon _ _ _ (cover0_A_8 c i arg1 harg1 arg2 harg2 arg3 harg3 arg4 harg4 arg5 harg5 arg6 harg6 arg7 harg7 arg9 harg9 arg10 harg10 arg11 harg11 arg12 harg12 arg13 harg13 hc0 x0 x1 x2 x3 x4 x5 x6)]
  unfold kernelRun0_A
  dsimp only
  unfold H8_16
  unfold H8_15
  unfold H8_14
  simp only [load_A_8_3_0, load_A_8_3_1, load_A_8_3_2, load_A_8_3_3]
  simp only [r_91, r_4, View.readAt_eq_ld, harg4.read_unread, View.ld_unit_zero (S := S1x512) hz_a, r_83, harg2.read_unread, harg5.read_unread, r_98, r_80, harg1.read_unread, r_88, harg3.read_unread, r_96, r_93, r_94]
  exact ⟨_, rfl⟩
theorem load_A_9_0_0 :
    v148 (F := F) c arg11 = (fill S1x128x128 0x00000000#32) := by
  unfold v148
  unfold H9_1
  exact View.readCov_fill _ _ _ _ _ (fun a => by fin_cases a <;> rfl)
theorem load_A_9_0_1 :
    v182 (F := F) c arg1 harg1 arg3 harg3 arg11 x0 x2 = (fill S1x128x128 0x00000000#32) := by
  unfold v182
  unfold H9_2
  rw [View.readCov_skip _ _ _ _ _ rfl]
  unfold H9_1
  exact View.readCov_fill _ _ _ _ _ (fun a => by fin_cases a <;> rfl)
theorem load_A_9_0_2 :
    v216 (F := F) c arg1 harg1 arg3 harg3 arg11 x0 x2 = (fill S1x128x128 0x00000000#32) := by
  unfold v216
  unfold H9_3
  rw [View.readCov_skip _ _ _ _ _ rfl]
  unfold H9_2
  rw [View.readCov_skip _ _ _ _ _ rfl]
  unfold H9_1
  exact View.readCov_fill _ _ _ _ _ (fun a => by fin_cases a <;> rfl)
theorem load_A_9_0_3 :
    v250 (F := F) c arg1 harg1 arg3 harg3 arg11 x0 x2 = (fill S1x128x128 0x00000000#32) := by
  unfold v250
  unfold H9_4
  rw [View.readCov_skip _ _ _ _ _ rfl]
  unfold H9_3
  rw [View.readCov_skip _ _ _ _ _ rfl]
  unfold H9_2
  rw [View.readCov_skip _ _ _ _ _ rfl]
  unfold H9_1
  exact View.readCov_fill _ _ _ _ _ (fun a => by fin_cases a <;> rfl)
theorem load_A_9_1_0 :
    v412 (F := F) c arg1 harg1 arg3 harg3 arg11 x0 x2 = (kGb 0 0 x0 x2 (fill S1x128x128 0x00000000#32)) := by
  unfold v412
  unfold H9_5
  rw [View.readCov_skip _ _ _ _ _ rfl]
  unfold H9_4
  rw [View.readCov_skip _ _ _ _ _ rfl]
  unfold H9_3
  rw [View.readCov_skip _ _ _ _ _ rfl]
  unfold H9_2
  rw [View.readCov_cons_toLoadRect]
  rw [load_A_9_0_0]
  simp only [r_7, r_5, View.readAt_eq_ld, harg1.read_unread, r_6, r_13, harg3.read_unread]
  rfl
theorem load_A_9_1_1 :
    v446 (F := F) c arg1 harg1 arg3 harg3 arg11 x0 x2 = (kGb 0 1 x0 x2 (fill S1x128x128 0x00000000#32)) := by
  unfold v446
  unfold H9_6
  rw [View.readCov_skip _ _ _ _ _ rfl]
  unfold H9_5
  rw [View.readCov_skip _ _ _ _ _ rfl]
  unfold H9_4
  rw [View.readCov_skip _ _ _ _ _ rfl]
  unfold H9_3
  rw [View.readCov_cons_toLoadRect]
  rw [load_A_9_0_1]
  simp only [r_7, r_5, View.readAt_eq_ld, harg1.read_unread, r_6, r_13, harg3.read_unread]
  rfl
theorem load_A_9_1_2 :
    v480 (F := F) c arg1 harg1 arg3 harg3 arg11 x0 x2 = (kGb 0 2 x0 x2 (fill S1x128x128 0x00000000#32)) := by
  unfold v480
  unfold H9_7
  rw [View.readCov_skip _ _ _ _ _ rfl]
  unfold H9_6
  rw [View.readCov_skip _ _ _ _ _ rfl]
  unfold H9_5
  rw [View.readCov_skip _ _ _ _ _ rfl]
  unfold H9_4
  rw [View.readCov_cons_toLoadRect]
  rw [load_A_9_0_2]
  simp only [r_7, r_5, View.readAt_eq_ld, harg1.read_unread, r_6, r_13, harg3.read_unread]
  rfl
theorem load_A_9_1_3 :
    v514 (F := F) c arg1 harg1 arg3 harg3 arg11 x0 x2 = (kGb 0 3 x0 x2 (fill S1x128x128 0x00000000#32)) := by
  unfold v514
  unfold H9_8
  rw [View.readCov_skip _ _ _ _ _ rfl]
  unfold H9_7
  rw [View.readCov_skip _ _ _ _ _ rfl]
  unfold H9_6
  rw [View.readCov_skip _ _ _ _ _ rfl]
  unfold H9_5
  rw [View.readCov_cons_toLoadRect]
  rw [load_A_9_0_3]
  simp only [r_7, r_5, View.readAt_eq_ld, harg1.read_unread, r_6, r_13, harg3.read_unread]
  rfl
theorem load_A_9_2_0 :
    v676 (F := F) c arg1 harg1 arg3 harg3 arg11 x0 x2 = (kGb 1 0 x0 x2 (kGb 0 0 x0 x2 (fill S1x128x128 0x00000000#32))) := by
  unfold v676
  unfold H9_9
  rw [View.readCov_skip _ _ _ _ _ rfl]
  unfold H9_8
  rw [View.readCov_skip _ _ _ _ _ rfl]
  unfold H9_7
  rw [View.readCov_skip _ _ _ _ _ rfl]
  unfold H9_6
  rw [View.readCov_cons_toLoadRect]
  rw [load_A_9_1_0]
  simp only [r_29, r_27, View.readAt_eq_ld, harg1.read_unread, r_28, r_36, harg3.read_unread]
  rfl
theorem load_A_9_2_1 :
    v710 (F := F) c arg1 harg1 arg3 harg3 arg11 x0 x2 = (kGb 1 1 x0 x2 (kGb 0 1 x0 x2 (fill S1x128x128 0x00000000#32))) := by
  unfold v710
  unfold H9_10
  rw [View.readCov_skip _ _ _ _ _ rfl]
  unfold H9_9
  rw [View.readCov_skip _ _ _ _ _ rfl]
  unfold H9_8
  rw [View.readCov_skip _ _ _ _ _ rfl]
  unfold H9_7
  rw [View.readCov_cons_toLoadRect]
  rw [load_A_9_1_1]
  simp only [r_29, r_27, View.readAt_eq_ld, harg1.read_unread, r_28, r_36, harg3.read_unread]
  rfl
theorem load_A_9_2_2 :
    v744 (F := F) c arg1 harg1 arg3 harg3 arg11 x0 x2 = (kGb 1 2 x0 x2 (kGb 0 2 x0 x2 (fill S1x128x128 0x00000000#32))) := by
  unfold v744
  unfold H9_11
  rw [View.readCov_skip _ _ _ _ _ rfl]
  unfold H9_10
  rw [View.readCov_skip _ _ _ _ _ rfl]
  unfold H9_9
  rw [View.readCov_skip _ _ _ _ _ rfl]
  unfold H9_8
  rw [View.readCov_cons_toLoadRect]
  rw [load_A_9_1_2]
  simp only [r_29, r_27, View.readAt_eq_ld, harg1.read_unread, r_28, r_36, harg3.read_unread]
  rfl
theorem load_A_9_2_3 :
    v778 (F := F) c arg1 harg1 arg3 harg3 arg11 x0 x2 = (kGb 1 3 x0 x2 (kGb 0 3 x0 x2 (fill S1x128x128 0x00000000#32))) := by
  unfold v778
  unfold H9_12
  rw [View.readCov_skip _ _ _ _ _ rfl]
  unfold H9_11
  rw [View.readCov_skip _ _ _ _ _ rfl]
  unfold H9_10
  rw [View.readCov_skip _ _ _ _ _ rfl]
  unfold H9_9
  rw [View.readCov_cons_toLoadRect]
  rw [load_A_9_1_3]
  simp only [r_29, r_27, View.readAt_eq_ld, harg1.read_unread, r_28, r_36, harg3.read_unread]
  rfl
theorem load_A_9_3_0 :
    v940 (F := F) c arg1 harg1 arg3 harg3 arg11 x0 x2 = (kGb 2 0 x0 x2 (kGb 1 0 x0 x2 (kGb 0 0 x0 x2 (fill S1x128x128 0x00000000#32)))) := by
  unfold v940
  unfold H9_13
  rw [View.readCov_skip _ _ _ _ _ rfl]
  unfold H9_12
  rw [View.readCov_skip _ _ _ _ _ rfl]
  unfold H9_11
  rw [View.readCov_skip _ _ _ _ _ rfl]
  unfold H9_10
  rw [View.readCov_cons_toLoadRect]
  rw [load_A_9_2_0]
  simp only [r_56, r_54, View.readAt_eq_ld, harg1.read_unread, r_55, r_64, harg3.read_unread]
  rfl
theorem load_A_9_3_1 :
    v974 (F := F) c arg1 harg1 arg3 harg3 arg11 x0 x2 = (kGb 2 1 x0 x2 (kGb 1 1 x0 x2 (kGb 0 1 x0 x2 (fill S1x128x128 0x00000000#32)))) := by
  unfold v974
  unfold H9_14
  rw [View.readCov_skip _ _ _ _ _ rfl]
  unfold H9_13
  rw [View.readCov_skip _ _ _ _ _ rfl]
  unfold H9_12
  rw [View.readCov_skip _ _ _ _ _ rfl]
  unfold H9_11
  rw [View.readCov_cons_toLoadRect]
  rw [load_A_9_2_1]
  simp only [r_56, r_54, View.readAt_eq_ld, harg1.read_unread, r_55, r_64, harg3.read_unread]
  rfl
theorem load_A_9_3_2 :
    v1008 (F := F) c arg1 harg1 arg3 harg3 arg11 x0 x2 = (kGb 2 2 x0 x2 (kGb 1 2 x0 x2 (kGb 0 2 x0 x2 (fill S1x128x128 0x00000000#32)))) := by
  unfold v1008
  unfold H9_15
  rw [View.readCov_skip _ _ _ _ _ rfl]
  unfold H9_14
  rw [View.readCov_skip _ _ _ _ _ rfl]
  unfold H9_13
  rw [View.readCov_skip _ _ _ _ _ rfl]
  unfold H9_12
  rw [View.readCov_cons_toLoadRect]
  rw [load_A_9_2_2]
  simp only [r_56, r_54, View.readAt_eq_ld, harg1.read_unread, r_55, r_64, harg3.read_unread]
  rfl
theorem load_A_9_3_3 :
    v1042 (F := F) c arg1 harg1 arg3 harg3 arg11 x0 x2 = (kGb 2 3 x0 x2 (kGb 1 3 x0 x2 (kGb 0 3 x0 x2 (fill S1x128x128 0x00000000#32)))) := by
  unfold v1042
  unfold H9_16
  rw [View.readCov_skip _ _ _ _ _ rfl]
  unfold H9_15
  rw [View.readCov_skip _ _ _ _ _ rfl]
  unfold H9_14
  rw [View.readCov_skip _ _ _ _ _ rfl]
  unfold H9_13
  rw [View.readCov_cons_toLoadRect]
  rw [load_A_9_2_3]
  simp only [r_56, r_54, View.readAt_eq_ld, harg1.read_unread, r_55, r_64, harg3.read_unread]
  rfl
/-- An accumulator block after the point. -/
theorem out_A_9 :
    ∃ rest : List (View.Piece (Elt F) S4x128x128 .f32), out0_A_9 c i arg1 harg1 arg2 harg2 arg3 harg3 arg4 harg4 arg5 harg5 arg6 harg6 arg7 harg7 arg9 harg9 arg10 harg10 arg11 harg11 arg12 harg12 arg13 harg13 hc0 x0 x1 x2 x3 x4 x5 x6 = View.canon (⟨Rect.unit ![3, 0, 0] ![1, 128, 128] inb_S4x128x128_S1x128x128_3_0_0, (kGb 3 3 x0 x2 (kGb 2 3 x0 x2 (kGb 1 3 x0 x2 (kGb 0 3 x0 x2 (fill S1x128x128 0x00000000#32)))))⟩ :: ⟨Rect.unit ![2, 0, 0] ![1, 128, 128] inb_S4x128x128_S1x128x128_2_0_0, (kGb 3 2 x0 x2 (kGb 2 2 x0 x2 (kGb 1 2 x0 x2 (kGb 0 2 x0 x2 (fill S1x128x128 0x00000000#32)))))⟩ :: ⟨Rect.unit ![1, 0, 0] ![1, 128, 128] inb_S4x128x128_S1x128x128_1_0_0, (kGb 3 1 x0 x2 (kGb 2 1 x0 x2 (kGb 1 1 x0 x2 (kGb 0 1 x0 x2 (fill S1x128x128 0x00000000#32)))))⟩ :: ⟨Rect.unit ![0, 0, 0] ![1, 128, 128] inb_S4x128x128_S1x128x128_0_0_0, (kGb 3 0 x0 x2 (kGb 2 0 x0 x2 (kGb 1 0 x0 x2 (kGb 0 0 x0 x2 (fill S1x128x128 0x00000000#32)))))⟩ :: rest) := by
  unfold out0_A_9
  rw [View.read_writes_eq_canon _ _ _ (cover0_A_9 c i arg1 harg1 arg2 harg2 arg3 harg3 arg4 harg4 arg5 harg5 arg6 harg6 arg7 harg7 arg9 harg9 arg10 harg10 arg11 harg11 arg12 harg12 arg13 harg13 hc0 x0 x1 x2 x3 x4 x5 x6)]
  unfold kernelRun0_A
  dsimp only
  unfold H9_16
  unfold H9_15
  unfold H9_14
  simp only [load_A_9_3_0, load_A_9_3_1, load_A_9_3_2, load_A_9_3_3]
  simp only [r_98, r_80, View.readAt_eq_ld, harg1.read_unread, r_88, harg3.read_unread, r_96, r_93, r_94]
  exact ⟨_, rfl⟩
theorem load_A_10_0_0 :
    v265 (F := F) c arg12 = (fill S1x512 0x00000000#32) := by
  unfold v265
  unfold H10_1
  rw [View.readCov_cons_toLoadRect]
  rfl
theorem load_A_10_1_0 :
    v529 (F := F) c arg1 harg1 arg2 harg2 arg3 harg3 arg6 harg6 arg12 x0 x1 x2 x5 = (kGlg 0 x0 x1 x2 x5 (fill S1x512 0x00000000#32)) := by
  unfold v529
  unfold H10_2
  rw [View.readCov_cons_toLoadRect]
  try simp only [load_A_10_0_0]
  simp only [r_15, r_11, View.readAt_eq_ld, harg2.read_unread, r_24, r_3, harg6.read_unread, r_7, r_5, harg1.read_unread, r_6, r_13, harg3.read_unread, r_17, r, r_19, r_1, r_21, r_2]
  try simp only [load_A_10_0_0]
  rfl
theorem load_A_10_2_0 :
    v793 (F := F) c arg1 harg1 arg2 harg2 arg3 harg3 arg6 harg6 arg12 x0 x1 x2 x5 = (kGlg 1 x0 x1 x2 x5 (kGlg 0 x0 x1 x2 x5 (fill S1x512 0x00000000#32))) := by
  unfold v793
  unfold H10_3
  rw [View.readCov_cons_toLoadRect]
  try simp only [load_A_10_1_0]
  simp only [r_38, r_33, View.readAt_eq_ld, harg2.read_unread, r_51, r_3, harg6.read_unread, r_29, r_27, harg1.read_unread, r_28, r_36, harg3.read_unread, r_42, r, r_45, r_1, r_48, r_2]
  try simp only [load_A_10_1_0]
  rfl
theorem load_A_10_3_0 :
    v1057 (F := F) c arg1 harg1 arg2 harg2 arg3 harg3 arg6 harg6 arg12 x0 x1 x2 x5 = (kGlg 2 x0 x1 x2 x5 (kGlg 1 x0 x1 x2 x5 (kGlg 0 x0 x1 x2 x5 (fill S1x512 0x00000000#32)))) := by
  unfold v1057
  unfold H10_4
  rw [View.readCov_cons_toLoadRect]
  try simp only [load_A_10_2_0]
  simp only [r_76, r_77, r_3, View.readAt_eq_ld, harg6.read_unread, r_56, r_54, harg1.read_unread, r_55, r_64, harg3.read_unread, r_66, r_59, harg2.read_unread, r_70, r, r_72, r_1, r_74, r_2]
  try simp only [load_A_10_2_0]
  rfl
/-- An accumulator block after the point. -/
theorem out_A_10 :
    out0_A_10 c i arg1 harg1 arg2 harg2 arg3 harg3 arg4 harg4 arg5 harg5 arg6 harg6 arg7 harg7 arg9 harg9 arg10 harg10 arg11 harg11 arg12 harg12 arg13 harg13 hc0 x0 x1 x2 x3 x4 x5 x6 = (kGlg 3 x0 x1 x2 x5 (kGlg 2 x0 x1 x2 x5 (kGlg 1 x0 x1 x2 x5 (kGlg 0 x0 x1 x2 x5 (fill S1x512 0x00000000#32))))) := by
  unfold out0_A_10
  rw [View.read_writes_eq_canon _ _ _ (cover0_A_10 c i arg1 harg1 arg2 harg2 arg3 harg3 arg4 harg4 arg5 harg5 arg6 harg6 arg7 harg7 arg9 harg9 arg10 harg10 arg11 harg11 arg12 harg12 arg13 harg13 hc0 x0 x1 x2 x3 x4 x5 x6)]
  unfold kernelRun0_A
  dsimp only
  rw [View.canon_cons_unit_zero hz_a]
  simp only [r_3, View.readAt_eq_ld, harg6.read_unread, r_90, r_83, harg2.read_unread, r_92, r, r_80, harg1.read_unread, r_88, harg3.read_unread, r_95, r_1, r_93, r_94, r_97, r_2, r_96, r_98]
  simp only [load_A_10_3_0]
  rfl
theorem load_A_11_0_0 :
    v259 (F := F) c arg13 = (fill S1x512 0x00000000#32) := by
  unfold v259
  unfold H11_1
  rw [View.readCov_cons_toLoadRect]
  rfl
theorem load_A_11_1_0 :
    v523 (F := F) c arg1 harg1 arg3 harg3 arg6 harg6 arg13 x0 x2 x5 = (kGlb 0 x0 x2 x5 (fill S1x512 0x00000000#32)) := by
  unfold v523
  unfold H11_2
  rw [View.readCov_cons_toLoadRect]
  try simp only [load_A_11_0_0]
  simp only [r_25, r_26, r_3, View.readAt_eq_ld, harg6.read_unread, r_7, r_5, harg1.read_unread, r_6, r_13, harg3.read_unread, r_17, r, r_19, r_1, r_21, r_2]
  try simp only [load_A_11_0_0]
  rfl
theorem load_A_11_2_0 :
    v787 (F := F) c arg1 harg1 arg3 harg3 arg6 harg6 arg13 x0 x2 x5 = (kGlb 1 x0 x2 x5 (kGlb 0 x0 x2 x5 (fill S1x512 0x00000000#32))) := by
  unfold v787
  unfold H11_3
  rw [View.readCov_cons_toLoadRect]
  try simp only [load_A_11_1_0]
  simp only [r_3, View.readAt_eq_ld, harg6.read_unread, r_29, r_27, harg1.read_unread, r_28, r_36, harg3.read_unread, r_42, r, r_45, r_1, r_48, r_2]
  try simp only [load_A_11_1_0]
  rfl
theorem load_A_11_3_0 :
    v1051 (F := F) c arg1 harg1 arg3 harg3 arg6 harg6 arg13 x0 x2 x5 = (kGlb 2 x0 x2 x5 (kGlb 1 x0 x2 x5 (kGlb 0 x0 x2 x5 (fill S1x512 0x00000000#32)))) := by
  unfold v1051
  unfold H11_4
  rw [View.readCov_cons_toLoadRect]
  try simp only [load_A_11_2_0]
  simp only [r_3, View.readAt_eq_ld, harg6.read_unread, r_56, r_54, harg1.read_unread, r_55, r_64, harg3.read_unread, r_70, r, r_72, r_1, r_74, r_2]
  try simp only [load_A_11_2_0]
  rfl
/-- An accumulator block after the point. -/
theorem out_A_11 :
    out0_A_11 c i arg1 harg1 arg2 harg2 arg3 harg3 arg4 harg4 arg5 harg5 arg6 harg6 arg7 harg7 arg9 harg9 arg10 harg10 arg11 harg11 arg12 harg12 arg13 harg13 hc0 x0 x1 x2 x3 x4 x5 x6 = (kGlb 3 x0 x2 x5 (kGlb 2 x0 x2 x5 (kGlb 1 x0 x2 x5 (kGlb 0 x0 x2 x5 (fill S1x512 0x00000000#32))))) := by
  unfold out0_A_11
  rw [View.read_writes_eq_canon _ _ _ (cover0_A_11 c i arg1 harg1 arg2 harg2 arg3 harg3 arg4 harg4 arg5 harg5 arg6 harg6 arg7 harg7 arg9 harg9 arg10 harg10 arg11 harg11 arg12 harg12 arg13 harg13 hc0 x0 x1 x2 x3 x4 x5 x6)]
  unfold kernelRun0_A
  dsimp only
  rw [View.canon_cons_unit_zero hz_a]
  simp only [r_3, View.readAt_eq_ld, harg6.read_unread, r_92, r, r_80, harg1.read_unread, r_88, harg3.read_unread, r_95, r_1, r_93, r_94, r_97, r_2, r_96, r_98]
  simp only [load_A_11_3_0]
  rfl

/-- The block of the big gradient array after the point. -/
theorem out_A_7 :
    out0_A_7 c i arg1 harg1 arg2 harg2 arg3 harg3 arg4 harg4 arg5 harg5 arg6 harg6 arg7 harg7 arg9 harg9 arg10 harg10 arg11 harg11 arg12 harg12 arg13 harg13 hc0 x0 x1 x2 x3 x4 x5 x6 = View.canon [⟨Rect.unit ![384, 512] ![128, 512] inb_S512x1024_S128x512_384_512, kDv 3 x0 x1 x2 x3 x5⟩, ⟨Rect.unit ![384, 384] ![128, 128] inb_S512x1024_S128x128_384_384, kDu 3 3 x0 x1 x2 x3 x4 x5 x6⟩, ⟨Rect.unit ![384, 256] ![128, 128] inb_S512x1024_S128x128_384_256, kDu 3 2 x0 x1 x2 x3 x4 x5 x6⟩, ⟨Rect.unit ![384, 128] ![128, 128] inb_S512x1024_S128x128_384_128, kDu 3 1 x0 x1 x2 x3 x4 x5 x6⟩, ⟨Rect.unit ![384, 0] ![128, 128] inb_S512x1024_S128x128_384_0, kDu 3 0 x0 x1 x2 x3 x4 x5 x6⟩, ⟨Rect.unit ![256, 512] ![128, 512] inb_S512x1024_S128x512_256_512, kDv 2 x0 x1 x2 x3 x5⟩, ⟨Rect.unit ![256, 384] ![128, 128] inb_S512x1024_S128x128_256_384, kDu 2 3 x0 x1 x2 x3 x4 x5 x6⟩, ⟨Rect.unit ![256, 256] ![128, 128] inb_S512x1024_S128x128_256_256, kDu 2 2 x0 x1 x2 x3 x4 x5 x6⟩, ⟨Rect.unit ![256, 128] ![128, 128] inb_S512x1024_S128x128_256_128, kDu 2 1 x0 x1 x2 x3 x4 x5 x6⟩, ⟨Rect.unit ![256, 0] ![128, 128] inb_S512x1024_S128x128_256_0, kDu 2 0 x0 x1 x2 x3 x4 x5 x6⟩, ⟨Rect.unit ![128, 512] ![128, 512] inb_S512x1024_S128x512_128_512, kDv 1 x0 x1 x2 x3 x5⟩, ⟨Rect.unit ![128, 384] ![128, 128] inb_S512x1024_S128x128_128_384, kDu 1 3 x0 x1 x2 x3 x4 x5 x6⟩, ⟨Rect.unit ![128, 256] ![128, 128] inb_S512x1024_S128x128_128_256, kDu 1 2 x0 x1 x2 x3 x4 x5 x6⟩, ⟨Rect.unit ![128, 128] ![128, 128] inb_S512x1024_S128x128_128_128, kDu 1 1 x0 x1 x2 x3 x4 x5 x6⟩, ⟨Rect.unit ![128, 0] ![128, 128] inb_S512x1024_S128x128_128_0, kDu 1 0 x0 x1 x2 x3 x4 x5 x6⟩, ⟨Rect.unit ![0, 512] ![128, 512] inb_S512x1024_S128x512_0_512, kDv 0 x0 x1 x2 x3 x5⟩, ⟨Rect.unit ![0, 384] ![128, 128] inb_S512x1024_S128x128_0_384, kDu 0 3 x0 x1 x2 x3 x4 x5 x6⟩, ⟨Rect.unit ![0, 256] ![128, 128] inb_S512x1024_S128x128_0_256, kDu 0 2 x0 x1 x2 x3 x4 x5 x6⟩, ⟨Rect.unit ![0, 128] ![128, 128] inb_S512x1024_S128x128_0_128, kDu 0 1 x0 x1 x2 x3 x4 x5 x6⟩, ⟨Rect.unit ![0, 0] ![128, 128] inb_S512x1024_S128x128_0_0, kDu 0 0 x0 x1 x2 x3 x4 x5 x6⟩] := by
  unfold out0_A_7
  rw [View.read_writes_eq_canon _ _ _ (cover0_A_7 c i arg1 harg1 arg2 harg2 arg3 harg3 arg4 harg4 arg5 harg5 arg6 harg6 arg7 harg7 arg9 harg9 arg10 harg10 arg11 harg11 arg12 harg12 arg13 harg13 hc0 x0 x1 x2 x3 x4 x5 x6)]
  unfold kernelRun0_A
  dsimp only
  simp only [r_4, View.readAt_eq_ld, harg4.read_unread, View.ld_unit_zero (S := S1x512) hz_a, r_87, r_84, harg2.read_unread, r_85, r_86, r_89, r_83, r_90, r_99, r_3, harg6.read_unread, r_92, r, r_80, harg1.read_unread, r_88, harg3.read_unread, r_95, r_1, r_93, r_94, r_97, r_2, r_96, r_98, r_82, r_78, r_79, r_81, r_91, harg5.read_unread, harg7.read_unread, r_63, r_58, r_60, r_61, r_62, r_65, r_59, r_66, r_75, r_56, r_54, r_55, r_64, r_70, r_72, r_74, r_57, r_52, r_53, r_67, r_73, r_71, r_68, r_69, r_35, r_31, r_32, r_34, r_37, r_33, r_38, r_51, r_29, r_27, r_28, r_36, r_42, r_45, r_48, r_49, r_39, r_50, r_30, r_46, r_47, r_43, r_44, r_40, r_41, r_12, r_9, r_10, r_14, r_11, r_15, r_24, r_7, r_5, r_6, r_13, r_17, r_19, r_21, r_8, r_22, r_16, r_23, r_20, r_18]
  rfl

end Cert.Gmlp

end
-- ==== Proof.Gmlp.WordsB.lean ====
module

public import proofs.«01_k».proof.Proof.Gmlp.Chunk
public import proofs.«01_k».proof.Proof.Gen.KernelIdeal.Value
public import Idealize.ShloMosaic.Lib.Pipeline.ReadBack

@[expose] public section
set_option maxRecDepth 16384
/-! What one grid point leaves in its output blocks, at a later point (the accumulators continue),
  in the words of the chunk functions: first each reading of an accumulator, then each block. -/

noncomputable section
namespace Cert.Gmlp
open Idealize.ShloMosaic Idealize.ShloMosaic.TcCoe Idealize.ShloMosaic.Tactic
open Cert.KernelIdeal Cert.KernelIdeal.Gen Cert.KernelIdeal.Gen.kernelRun0_B.sl
theorem hz_b : (![0, 0] : Fin 2 → Nat) = fun _ => 0 := funext fun a => by fin_cases a <;> rfl

variable {F : FTy → Type} [FloatOps F] [Named F]
set_option maxHeartbeats 4000000
variable (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S4x128x128 .f32) (harg6 : arg6.IsWhole) (arg7 : Memref sig .tc .vmem S128x4 .f32) (harg7 : arg7.IsWhole) (arg9 : Memref sig .tc .vmem S512x1024 .bf16) (harg9 : arg9.IsWhole) (arg10 : Memref sig .tc .vmem S4x128x128 .f32) (harg10 : arg10.IsWhole) (arg11 : Memref sig .tc .vmem S4x128x128 .f32) (harg11 : arg11.IsWhole) (arg12 : Memref sig .tc .vmem S1x512 .f32) (harg12 : arg12.IsWhole) (arg13 : Memref sig .tc .vmem S1x512 .f32) (harg13 : arg13.IsWhole) (hc0 : ¬cond0_0 i) (x0 : Vec F S512x512 .bf16) (x1 : Vec F S512x512 .bf16) (x2 : Vec F S512x512 .bf16) (x3 : Vec F S1x512 .f32) (x4 : Vec F S1x512 .f32) (x5 : Vec F S4x128x128 .f32) (x6 : Vec F S128x4 .f32) (xo8 : Vec F S4x128x128 .f32) (xo9 : Vec F S4x128x128 .f32) (xo10 : Vec F S1x512 .f32) (xo11 : Vec F S1x512 .f32)
theorem load_B_8_0_1 :
    v172 (F := F) c arg10 harg10 xo8 = (weightAt 1 xo8) := by
  unfold v172
  simp only [View.ld_unit_zero (S := S1x512) hz_b, View.readAt_eq_ld, harg10.read_unread]
  rfl
theorem load_B_8_0_2 :
    v206 (F := F) c arg10 harg10 xo8 = (weightAt 2 xo8) := by
  unfold v206
  simp only [View.ld_unit_zero (S := S1x512) hz_b, View.readAt_eq_ld, harg10.read_unread]
  rfl
theorem load_B_8_0_3 :
    v240 (F := F) c arg10 harg10 xo8 = (weightAt 3 xo8) := by
  unfold v240
  simp only [View.ld_unit_zero (S := S1x512) hz_b, View.readAt_eq_ld, harg10.read_unread]
  rfl
theorem load_B_8_1_0 :
    v402 (F := F) c arg1 harg1 arg2 harg2 arg3 harg3 arg4 harg4 arg5 harg5 arg10 harg10 x0 x1 x2 x3 x4 xo8 = (kGw 0 0 x0 x1 x2 x3 x4 (weightAt 0 xo8)) := by
  unfold v402
  unfold H8_4
  rw [View.readCov_skip _ _ _ _ _ rfl]
  rw [View.readCov_skip _ _ _ _ _ rfl]
  rw [View.readCov_skip _ _ _ _ _ rfl]
  rw [View.readCov_cons_toLoadRect]
  simp only [r_7, r_5, View.readAt_eq_ld, harg1.read_unread, r_6, r_13, harg3.read_unread, r_16, r_4, harg4.read_unread, View.ld_unit_zero (S := S1x512) hz_b, r_11, harg2.read_unread, harg5.read_unread, harg10.read_unread]
  rfl
theorem load_B_8_1_1 :
    v436 (F := F) c arg1 harg1 arg2 harg2 arg3 harg3 arg4 harg4 arg5 harg5 arg10 harg10 x0 x1 x2 x3 x4 xo8 = (kGw 0 1 x0 x1 x2 x3 x4 (weightAt 1 xo8)) := by
  unfold v436
  unfold H8_5
  rw [View.readCov_skip _ _ _ _ _ rfl]
  unfold H8_4
  rw [View.readCov_skip _ _ _ _ _ rfl]
  rw [View.readCov_skip _ _ _ _ _ rfl]
  rw [View.readCov_cons_toLoadRect]
  rw [load_B_8_0_1]
  simp only [r_7, r_5, View.readAt_eq_ld, harg1.read_unread, r_6, r_13, harg3.read_unread, r_16, r_4, harg4.read_unread, View.ld_unit_zero (S := S1x512) hz_b, r_11, harg2.read_unread, harg5.read_unread]
  rfl
theorem load_B_8_1_2 :
    v470 (F := F) c arg1 harg1 arg2 harg2 arg3 harg3 arg4 harg4 arg5 harg5 arg10 harg10 x0 x1 x2 x3 x4 xo8 = (kGw 0 2 x0 x1 x2 x3 x4 (weightAt 2 xo8)) := by
  unfold v470
  unfold H8_6
  rw [View.readCov_skip _ _ _ _ _ rfl]
  unfold H8_5
  rw [View.readCov_skip _ _ _ _ _ rfl]
  unfold H8_4
  rw [View.readCov_skip _ _ _ _ _ rfl]
  rw [View.readCov_cons_toLoadRect]
  rw [load_B_8_0_2]
  simp only [r_7, r_5, View.readAt_eq_ld, harg1.read_unread, r_6, r_13, harg3.read_unread, r_16, r_4, harg4.read_unread, View.ld_unit_zero (S := S1x512) hz_b, r_11, harg2.read_unread, harg5.read_unread]
  rfl
theorem load_B_8_1_3 :
    v504 (F := F) c arg1 harg1 arg2 harg2 arg3 harg3 arg4 harg4 arg5 harg5 arg10 harg10 x0 x1 x2 x3 x4 xo8 = (kGw 0 3 x0 x1 x2 x3 x4 (weightAt 3 xo8)) := by
  unfold v504
  unfold H8_7
  rw [View.readCov_skip _ _ _ _ _ rfl]
  unfold H8_6
  rw [View.readCov_skip _ _ _ _ _ rfl]
  unfold H8_5
  rw [View.readCov_skip _ _ _ _ _ rfl]
  unfold H8_4
  rw [View.readCov_cons_toLoadRect]
  rw [load_B_8_0_3]
  simp only [r_7, r_5, View.readAt_eq_ld, harg1.read_unread, r_6, r_13, harg3.read_unread, r_16, r_4, harg4.read_unread, View.ld_unit_zero (S := S1x512) hz_b, r_11, harg2.read_unread, harg5.read_unread]
  rfl
theorem load_B_8_2_0 :
    v666 (F := F) c arg1 harg1 arg2 harg2 arg3 harg3 arg4 harg4 arg5 harg5 arg10 harg10 x0 x1 x2 x3 x4 xo8 = (kGw 1 0 x0 x1 x2 x3 x4 (kGw 0 0 x0 x1 x2 x3 x4 (weightAt 0 xo8))) := by
  unfold v666
  unfold H8_8
  rw [View.readCov_skip _ _ _ _ _ rfl]
  unfold H8_7
  rw [View.readCov_skip _ _ _ _ _ rfl]
  unfold H8_6
  rw [View.readCov_skip _ _ _ _ _ rfl]
  unfold H8_5
  rw [View.readCov_cons_toLoadRect]
  rw [load_B_8_1_0]
  simp only [r_29, r_27, View.readAt_eq_ld, harg1.read_unread, r_28, r_36, harg3.read_unread, r_39, r_4, harg4.read_unread, View.ld_unit_zero (S := S1x512) hz_b, r_33, harg2.read_unread, harg5.read_unread]
  rfl
theorem load_B_8_2_1 :
    v700 (F := F) c arg1 harg1 arg2 harg2 arg3 harg3 arg4 harg4 arg5 harg5 arg10 harg10 x0 x1 x2 x3 x4 xo8 = (kGw 1 1 x0 x1 x2 x3 x4 (kGw 0 1 x0 x1 x2 x3 x4 (weightAt 1 xo8))) := by
  unfold v700
  unfold H8_9
  rw [View.readCov_skip _ _ _ _ _ rfl]
  unfold H8_8
  rw [View.readCov_skip _ _ _ _ _ rfl]
  unfold H8_7
  rw [View.readCov_skip _ _ _ _ _ rfl]
  unfold H8_6
  rw [View.readCov_cons_toLoadRect]
  rw [load_B_8_1_1]
  simp only [r_29, r_27, View.readAt_eq_ld, harg1.read_unread, r_28, r_36, harg3.read_unread, r_39, r_4, harg4.read_unread, View.ld_unit_zero (S := S1x512) hz_b, r_33, harg2.read_unread, harg5.read_unread]
  rfl
theorem load_B_8_2_2 :
    v734 (F := F) c arg1 harg1 arg2 harg2 arg3 harg3 arg4 harg4 arg5 harg5 arg10 harg10 x0 x1 x2 x3 x4 xo8 = (kGw 1 2 x0 x1 x2 x3 x4 (kGw 0 2 x0 x1 x2 x3 x4 (weightAt 2 xo8))) := by
  unfold v734
  unfold H8_10
  rw [View.readCov_skip _ _ _ _ _ rfl]
  unfold H8_9
  rw [View.readCov_skip _ _ _ _ _ rfl]
  unfold H8_8
  rw [View.readCov_skip _ _ _ _ _ rfl]
  unfold H8_7
  rw [View.readCov_cons_toLoadRect]
  rw [load_B_8_1_2]
  simp only [r_29, r_27, View.readAt_eq_ld, harg1.read_unread, r_28, r_36, harg3.read_unread, r_39, r_4, harg4.read_unread, View.ld_unit_zero (S := S1x512) hz_b, r_33, harg2.read_unread, harg5.read_unread]
  rfl
theorem load_B_8_2_3 :
    v768 (F := F) c arg1 harg1 arg2 harg2 arg3 harg3 arg4 harg4 arg5 harg5 arg10 harg10 x0 x1 x2 x3 x4 xo8 = (kGw 1 3 x0 x1 x2 x3 x4 (kGw 0 3 x0 x1 x2 x3 x4 (weightAt 3 xo8))) := by
  unfold v768
  unfold H8_11
  rw [View.readCov_skip _ _ _ _ _ rfl]
  unfold H8_10
  rw [View.readCov_skip _ _ _ _ _ rfl]
  unfold H8_9
  rw [View.readCov_skip _ _ _ _ _ rfl]
  unfold H8_8
  rw [View.readCov_cons_toLoadRect]
  rw [load_B_8_1_3]
  simp only [r_29, r_27, View.readAt_eq_ld, harg1.read_unread, r_28, r_36, harg3.read_unread, r_39, r_4, harg4.read_unread, View.ld_unit_zero (S := S1x512) hz_b, r_33, harg2.read_unread, harg5.read_unread]
  rfl
theorem load_B_8_3_0 :
    v930 (F := F) c arg1 harg1 arg2 harg2 arg3 harg3 arg4 harg4 arg5 harg5 arg10 harg10 x0 x1 x2 x3 x4 xo8 = (kGw 2 0 x0 x1 x2 x3 x4 (kGw 1 0 x0 x1 x2 x3 x4 (kGw 0 0 x0 x1 x2 x3 x4 (weightAt 0 xo8)))) := by
  unfold v930
  unfold H8_12
  rw [View.readCov_skip _ _ _ _ _ rfl]
  unfold H8_11
  rw [View.readCov_skip _ _ _ _ _ rfl]
  unfold H8_10
  rw [View.readCov_skip _ _ _ _ _ rfl]
  unfold H8_9
  rw [View.readCov_cons_toLoadRect]
  rw [load_B_8_2_0]
  simp only [r_56, r_54, View.readAt_eq_ld, harg1.read_unread, r_55, r_64, harg3.read_unread, r_67, r_4, harg4.read_unread, View.ld_unit_zero (S := S1x512) hz_b, r_59, harg2.read_unread, harg5.read_unread]
  rfl
theorem load_B_8_3_1 :
    v964 (F := F) c arg1 harg1 arg2 harg2 arg3 harg3 arg4 harg4 arg5 harg5 arg10 harg10 x0 x1 x2 x3 x4 xo8 = (kGw 2 1 x0 x1 x2 x3 x4 (kGw 1 1 x0 x1 x2 x3 x4 (kGw 0 1 x0 x1 x2 x3 x4 (weightAt 1 xo8)))) := by
  unfold v964
  unfold H8_13
  rw [View.readCov_skip _ _ _ _ _ rfl]
  unfold H8_12
  rw [View.readCov_skip _ _ _ _ _ rfl]
  unfold H8_11
  rw [View.readCov_skip _ _ _ _ _ rfl]
  unfold H8_10
  rw [View.readCov_cons_toLoadRect]
  rw [load_B_8_2_1]
  simp only [r_56, r_54, View.readAt_eq_ld, harg1.read_unread, r_55, r_64, harg3.read_unread, r_67, r_4, harg4.read_unread, View.ld_unit_zero (S := S1x512) hz_b, r_59, harg2.read_unread, harg5.read_unread]
  rfl
theorem load_B_8_3_2 :
    v998 (F := F) c arg1 harg1 arg2 harg2 arg3 harg3 arg4 harg4 arg5 harg5 arg10 harg10 x0 x1 x2 x3 x4 xo8 = (kGw 2 2 x0 x1 x2 x3 x4 (kGw 1 2 x0 x1 x2 x3 x4 (kGw 0 2 x0 x1 x2 x3 x4 (weightAt 2 xo8)))) := by
  unfold v998
  unfold H8_14
  rw [View.readCov_skip _ _ _ _ _ rfl]
  unfold H8_13
  rw [View.readCov_skip _ _ _ _ _ rfl]
  unfold H8_12
  rw [View.readCov_skip _ _ _ _ _ rfl]
  unfold H8_11
  rw [View.readCov_cons_toLoadRect]
  rw [load_B_8_2_2]
  simp only [r_56, r_54, View.readAt_eq_ld, harg1.read_unread, r_55, r_64, harg3.read_unread, r_67, r_4, harg4.read_unread, View.ld_unit_zero (S := S1x512) hz_b, r_59, harg2.read_unread, harg5.read_unread]
  rfl
theorem load_B_8_3_3 :
    v1032 (F := F) c arg1 harg1 arg2 harg2 arg3 harg3 arg4 harg4 arg5 harg5 arg10 harg10 x0 x1 x2 x3 x4 xo8 = (kGw 2 3 x0 x1 x2 x3 x4 (kGw 1 3 x0 x1 x2 x3 x4 (kGw 0 3 x0 x1 x2 x3 x4 (weightAt 3 xo8)))) := by
  unfold v1032
  unfold H8_15
  rw [View.readCov_skip _ _ _ _ _ rfl]
  unfold H8_14
  rw [View.readCov_skip _ _ _ _ _ rfl]
  unfold H8_13
  rw [View.readCov_skip _ _ _ _ _ rfl]
  unfold H8_12
  rw [View.readCov_cons_toLoadRect]
  rw [load_B_8_2_3]
  simp only [r_56, r_54, View.readAt_eq_ld, harg1.read_unread, r_55, r_64, harg3.read_unread, r_67, r_4, harg4.read_unread, View.ld_unit_zero (S := S1x512) hz_b, r_59, harg2.read_unread, harg5.read_unread]
  rfl
/-- An accumulator block after the point. -/
theorem out_B_8 :
    ∃ rest : List (View.Piece (Elt F) S4x128x128 .f32), out0_B_8 c i arg1 harg1 arg2 harg2 arg3 harg3 arg4 harg4 arg5 harg5 arg6 harg6 arg7 harg7 arg9 harg9 arg10 harg10 arg11 harg11 arg12 harg12 arg13 harg13 hc0 x0 x1 x2 x3 x4 x5 x6 xo8 xo9 xo10 xo11 = View.canon (⟨Rect.unit ![3, 0, 0] ![1, 128, 128] inb_S4x128x128_S1x128x128_3_0_0, (kGw 3 3 x0 x1 x2 x3 x4 (kGw 2 3 x0 x1 x2 x3 x4 (kGw 1 3 x0 x1 x2 x3 x4 (kGw 0 3 x0 x1 x2 x3 x4 (weightAt 3 xo8)))))⟩ :: ⟨Rect.unit ![2, 0, 0] ![1, 128, 128] inb_S4x128x128_S1x128x128_2_0_0, (kGw 3 2 x0 x1 x2 x3 x4 (kGw 2 2 x0 x1 x2 x3 x4 (kGw 1 2 x0 x1 x2 x3 x4 (kGw 0 2 x0 x1 x2 x3 x4 (weightAt 2 xo8)))))⟩ :: ⟨Rect.unit ![1, 0, 0] ![1, 128, 128] inb_S4x128x128_S1x128x128_1_0_0, (kGw 3 1 x0 x1 x2 x3 x4 (kGw 2 1 x0 x1 x2 x3 x4 (kGw 1 1 x0 x1 x2 x3 x4 (kGw 0 1 x0 x1 x2 x3 x4 (weightAt 1 xo8)))))⟩ :: ⟨Rect.unit ![0, 0, 0] ![1, 128, 128] inb_S4x128x128_S1x128x128_0_0_0, (kGw 3 0 x0 x1 x2 x3 x4 (kGw 2 0 x0 x1 x2 x3 x4 (kGw 1 0 x0 x1 x2 x3 x4 (kGw 0 0 x0 x1 x2 x3 x4 (weightAt 0 xo8)))))⟩ :: rest) := by
  unfold out0_B_8
  rw [View.read_writes_eq_canon _ _ _ (cover0_B_8 c i arg1 harg1 arg2 harg2 arg3 harg3 arg4 harg4 arg5 harg5 arg6 harg6 arg7 harg7 arg9 harg9 arg10 harg10 arg11 harg11 arg12 harg12 arg13 harg13 hc0 x0 x1 x2 x3 x4 x5 x6 xo8 xo9 xo10 xo11)]
  unfold kernelRun0_B
  dsimp only
  unfold H8_15
  unfold H8_14
  unfold H8_13
  simp only [load_B_8_3_0, load_B_8_3_1, load_B_8_3_2, load_B_8_3_3]
  simp only [r_91, r_4, View.readAt_eq_ld, harg4.read_unread, View.ld_unit_zero (S := S1x512) hz_b, r_83, harg2.read_unread, harg5.read_unread, r_98, r_80, harg1.read_unread, r_88, harg3.read_unread, r_96, r_93, r_94]
  exact ⟨_, rfl⟩
theorem load_B_9_0_1 :
    v182 (F := F) c arg11 harg11 xo9 = (weightAt 1 xo9) := by
  unfold v182
  simp only [View.ld_unit_zero (S := S1x512) hz_b, View.readAt_eq_ld, harg11.read_unread]
  rfl
theorem load_B_9_0_2 :
    v216 (F := F) c arg11 harg11 xo9 = (weightAt 2 xo9) := by
  unfold v216
  simp only [View.ld_unit_zero (S := S1x512) hz_b, View.readAt_eq_ld, harg11.read_unread]
  rfl
theorem load_B_9_0_3 :
    v250 (F := F) c arg11 harg11 xo9 = (weightAt 3 xo9) := by
  unfold v250
  simp only [View.ld_unit_zero (S := S1x512) hz_b, View.readAt_eq_ld, harg11.read_unread]
  rfl
theorem load_B_9_1_0 :
    v412 (F := F) c arg1 harg1 arg3 harg3 arg11 harg11 x0 x2 xo9 = (kGb 0 0 x0 x2 (weightAt 0 xo9)) := by
  unfold v412
  unfold H9_4
  rw [View.readCov_skip _ _ _ _ _ rfl]
  rw [View.readCov_skip _ _ _ _ _ rfl]
  rw [View.readCov_skip _ _ _ _ _ rfl]
  rw [View.readCov_cons_toLoadRect]
  simp only [r_7, r_5, View.readAt_eq_ld, harg1.read_unread, r_6, r_13, harg3.read_unread, harg11.read_unread]
  rfl
theorem load_B_9_1_1 :
    v446 (F := F) c arg1 harg1 arg3 harg3 arg11 harg11 x0 x2 xo9 = (kGb 0 1 x0 x2 (weightAt 1 xo9)) := by
  unfold v446
  unfold H9_5
  rw [View.readCov_skip _ _ _ _ _ rfl]
  unfold H9_4
  rw [View.readCov_skip _ _ _ _ _ rfl]
  rw [View.readCov_skip _ _ _ _ _ rfl]
  rw [View.readCov_cons_toLoadRect]
  rw [load_B_9_0_1]
  simp only [r_7, r_5, View.readAt_eq_ld, harg1.read_unread, r_6, r_13, harg3.read_unread]
  rfl
theorem load_B_9_1_2 :
    v480 (F := F) c arg1 harg1 arg3 harg3 arg11 harg11 x0 x2 xo9 = (kGb 0 2 x0 x2 (weightAt 2 xo9)) := by
  unfold v480
  unfold H9_6
  rw [View.readCov_skip _ _ _ _ _ rfl]
  unfold H9_5
  rw [View.readCov_skip _ _ _ _ _ rfl]
  unfold H9_4
  rw [View.readCov_skip _ _ _ _ _ rfl]
  rw [View.readCov_cons_toLoadRect]
  rw [load_B_9_0_2]
  simp only [r_7, r_5, View.readAt_eq_ld, harg1.read_unread, r_6, r_13, harg3.read_unread]
  rfl
theorem load_B_9_1_3 :
    v514 (F := F) c arg1 harg1 arg3 harg3 arg11 harg11 x0 x2 xo9 = (kGb 0 3 x0 x2 (weightAt 3 xo9)) := by
  unfold v514
  unfold H9_7
  rw [View.readCov_skip _ _ _ _ _ rfl]
  unfold H9_6
  rw [View.readCov_skip _ _ _ _ _ rfl]
  unfold H9_5
  rw [View.readCov_skip _ _ _ _ _ rfl]
  unfold H9_4
  rw [View.readCov_cons_toLoadRect]
  rw [load_B_9_0_3]
  simp only [r_7, r_5, View.readAt_eq_ld, harg1.read_unread, r_6, r_13, harg3.read_unread]
  rfl
theorem load_B_9_2_0 :
    v676 (F := F) c arg1 harg1 arg3 harg3 arg11 harg11 x0 x2 xo9 = (kGb 1 0 x0 x2 (kGb 0 0 x0 x2 (weightAt 0 xo9))) := by
  unfold v676
  unfold H9_8
  rw [View.readCov_skip _ _ _ _ _ rfl]
  unfold H9_7
  rw [View.readCov_skip _ _ _ _ _ rfl]
  unfold H9_6
  rw [View.readCov_skip _ _ _ _ _ rfl]
  unfold H9_5
  rw [View.readCov_cons_toLoadRect]
  rw [load_B_9_1_0]
  simp only [r_29, r_27, View.readAt_eq_ld, harg1.read_unread, r_28, r_36, harg3.read_unread]
  rfl
theorem load_B_9_2_1 :
    v710 (F := F) c arg1 harg1 arg3 harg3 arg11 harg11 x0 x2 xo9 = (kGb 1 1 x0 x2 (kGb 0 1 x0 x2 (weightAt 1 xo9))) := by
  unfold v710
  unfold H9_9
  rw [View.readCov_skip _ _ _ _ _ rfl]
  unfold H9_8
  rw [View.readCov_skip _ _ _ _ _ rfl]
  unfold H9_7
  rw [View.readCov_skip _ _ _ _ _ rfl]
  unfold H9_6
  rw [View.readCov_cons_toLoadRect]
  rw [load_B_9_1_1]
  simp only [r_29, r_27, View.readAt_eq_ld, harg1.read_unread, r_28, r_36, harg3.read_unread]
  rfl
theorem load_B_9_2_2 :
    v744 (F := F) c arg1 harg1 arg3 harg3 arg11 harg11 x0 x2 xo9 = (kGb 1 2 x0 x2 (kGb 0 2 x0 x2 (weightAt 2 xo9))) := by
  unfold v744
  unfold H9_10
  rw [View.readCov_skip _ _ _ _ _ rfl]
  unfold H9_9
  rw [View.readCov_skip _ _ _ _ _ rfl]
  unfold H9_8
  rw [View.readCov_skip _ _ _ _ _ rfl]
  unfold H9_7
  rw [View.readCov_cons_toLoadRect]
  rw [load_B_9_1_2]
  simp only [r_29, r_27, View.readAt_eq_ld, harg1.read_unread, r_28, r_36, harg3.read_unread]
  rfl
theorem load_B_9_2_3 :
    v778 (F := F) c arg1 harg1 arg3 harg3 arg11 harg11 x0 x2 xo9 = (kGb 1 3 x0 x2 (kGb 0 3 x0 x2 (weightAt 3 xo9))) := by
  unfold v778
  unfold H9_11
  rw [View.readCov_skip _ _ _ _ _ rfl]
  unfold H9_10
  rw [View.readCov_skip _ _ _ _ _ rfl]
  unfold H9_9
  rw [View.readCov_skip _ _ _ _ _ rfl]
  unfold H9_8
  rw [View.readCov_cons_toLoadRect]
  rw [load_B_9_1_3]
  simp only [r_29, r_27, View.readAt_eq_ld, harg1.read_unread, r_28, r_36, harg3.read_unread]
  rfl
theorem load_B_9_3_0 :
    v940 (F := F) c arg1 harg1 arg3 harg3 arg11 harg11 x0 x2 xo9 = (kGb 2 0 x0 x2 (kGb 1 0 x0 x2 (kGb 0 0 x0 x2 (weightAt 0 xo9)))) := by
  unfold v940
  unfold H9_12
  rw [View.readCov_skip _ _ _ _ _ rfl]
  unfold H9_11
  rw [View.readCov_skip _ _ _ _ _ rfl]
  unfold H9_10
  rw [View.readCov_skip _ _ _ _ _ rfl]
  unfold H9_9
  rw [View.readCov_cons_toLoadRect]
  rw [load_B_9_2_0]
  simp only [r_56, r_54, View.readAt_eq_ld, harg1.read_unread, r_55, r_64, harg3.read_unread]
  rfl
theorem load_B_9_3_1 :
    v974 (F := F) c arg1 harg1 arg3 harg3 arg11 harg11 x0 x2 xo9 = (kGb 2 1 x0 x2 (kGb 1 1 x0 x2 (kGb 0 1 x0 x2 (weightAt 1 xo9)))) := by
  unfold v974
  unfold H9_13
  rw [View.readCov_skip _ _ _ _ _ rfl]
  unfold H9_12
  rw [View.readCov_skip _ _ _ _ _ rfl]
  unfold H9_11
  rw [View.readCov_skip _ _ _ _ _ rfl]
  unfold H9_10
  rw [View.readCov_cons_toLoadRect]
  rw [load_B_9_2_1]
  simp only [r_56, r_54, View.readAt_eq_ld, harg1.read_unread, r_55, r_64, harg3.read_unread]
  rfl
theorem load_B_9_3_2 :
    v1008 (F := F) c arg1 harg1 arg3 harg3 arg11 harg11 x0 x2 xo9 = (kGb 2 2 x0 x2 (kGb 1 2 x0 x2 (kGb 0 2 x0 x2 (weightAt 2 xo9)))) := by
  unfold v1008
  unfold H9_14
  rw [View.readCov_skip _ _ _ _ _ rfl]
  unfold H9_13
  rw [View.readCov_skip _ _ _ _ _ rfl]
  unfold H9_12
  rw [View.readCov_skip _ _ _ _ _ rfl]
  unfold H9_11
  rw [View.readCov_cons_toLoadRect]
  rw [load_B_9_2_2]
  simp only [r_56, r_54, View.readAt_eq_ld, harg1.read_unread, r_55, r_64, harg3.read_unread]
  rfl
theorem load_B_9_3_3 :
    v1042 (F := F) c arg1 harg1 arg3 harg3 arg11 harg11 x0 x2 xo9 = (kGb 2 3 x0 x2 (kGb 1 3 x0 x2 (kGb 0 3 x0 x2 (weightAt 3 xo9)))) := by
  unfold v1042
  unfold H9_15
  rw [View.readCov_skip _ _ _ _ _ rfl]
  unfold H9_14
  rw [View.readCov_skip _ _ _ _ _ rfl]
  unfold H9_13
  rw [View.readCov_skip _ _ _ _ _ rfl]
  unfold H9_12
  rw [View.readCov_cons_toLoadRect]
  rw [load_B_9_2_3]
  simp only [r_56, r_54, View.readAt_eq_ld, harg1.read_unread, r_55, r_64, harg3.read_unread]
  rfl
/-- An accumulator block after the point. -/
theorem out_B_9 :
    ∃ rest : List (View.Piece (Elt F) S4x128x128 .f32), out0_B_9 c i arg1 harg1 arg2 harg2 arg3 harg3 arg4 harg4 arg5 harg5 arg6 harg6 arg7 harg7 arg9 harg9 arg10 harg10 arg11 harg11 arg12 harg12 arg13 harg13 hc0 x0 x1 x2 x3 x4 x5 x6 xo8 xo9 xo10 xo11 = View.canon (⟨Rect.unit ![3, 0, 0] ![1, 128, 128] inb_S4x128x128_S1x128x128_3_0_0, (kGb 3 3 x0 x2 (kGb 2 3 x0 x2 (kGb 1 3 x0 x2 (kGb 0 3 x0 x2 (weightAt 3 xo9)))))⟩ :: ⟨Rect.unit ![2, 0, 0] ![1, 128, 128] inb_S4x128x128_S1x128x128_2_0_0, (kGb 3 2 x0 x2 (kGb 2 2 x0 x2 (kGb 1 2 x0 x2 (kGb 0 2 x0 x2 (weightAt 2 xo9)))))⟩ :: ⟨Rect.unit ![1, 0, 0] ![1, 128, 128] inb_S4x128x128_S1x128x128_1_0_0, (kGb 3 1 x0 x2 (kGb 2 1 x0 x2 (kGb 1 1 x0 x2 (kGb 0 1 x0 x2 (weightAt 1 xo9)))))⟩ :: ⟨Rect.unit ![0, 0, 0] ![1, 128, 128] inb_S4x128x128_S1x128x128_0_0_0, (kGb 3 0 x0 x2 (kGb 2 0 x0 x2 (kGb 1 0 x0 x2 (kGb 0 0 x0 x2 (weightAt 0 xo9)))))⟩ :: rest) := by
  unfold out0_B_9
  rw [View.read_writes_eq_canon _ _ _ (cover0_B_9 c i arg1 harg1 arg2 harg2 arg3 harg3 arg4 harg4 arg5 harg5 arg6 harg6 arg7 harg7 arg9 harg9 arg10 harg10 arg11 harg11 arg12 harg12 arg13 harg13 hc0 x0 x1 x2 x3 x4 x5 x6 xo8 xo9 xo10 xo11)]
  unfold kernelRun0_B
  dsimp only
  unfold H9_15
  unfold H9_14
  unfold H9_13
  simp only [load_B_9_3_0, load_B_9_3_1, load_B_9_3_2, load_B_9_3_3]
  simp only [r_98, r_80, View.readAt_eq_ld, harg1.read_unread, r_88, harg3.read_unread, r_96, r_93, r_94]
  exact ⟨_, rfl⟩
theorem load_B_10_1_0 :
    v529 (F := F) c arg1 harg1 arg2 harg2 arg3 harg3 arg6 harg6 arg12 harg12 x0 x1 x2 x5 xo10 = (kGlg 0 x0 x1 x2 x5 xo10) := by
  unfold v529
  unfold H10_1
  rw [View.readCov_cons_toLoadRect]
  simp only [r_15, r_11, View.readAt_eq_ld, harg2.read_unread, r_24, r_3, harg6.read_unread, r_7, r_5, harg1.read_unread, r_6, r_13, harg3.read_unread, r_17, r, r_19, r_1, r_21, r_2, harg12.read_unread, View.ld_unit_zero (S := S1x512) hz_b]
  rfl
theorem load_B_10_2_0 :
    v793 (F := F) c arg1 harg1 arg2 harg2 arg3 harg3 arg6 harg6 arg12 harg12 x0 x1 x2 x5 xo10 = (kGlg 1 x0 x1 x2 x5 (kGlg 0 x0 x1 x2 x5 xo10)) := by
  unfold v793
  unfold H10_2
  rw [View.readCov_cons_toLoadRect]
  try simp only [load_B_10_1_0]
  simp only [r_38, r_33, View.readAt_eq_ld, harg2.read_unread, r_51, r_3, harg6.read_unread, r_29, r_27, harg1.read_unread, r_28, r_36, harg3.read_unread, r_42, r, r_45, r_1, r_48, r_2]
  try simp only [load_B_10_1_0]
  rfl
theorem load_B_10_3_0 :
    v1057 (F := F) c arg1 harg1 arg2 harg2 arg3 harg3 arg6 harg6 arg12 harg12 x0 x1 x2 x5 xo10 = (kGlg 2 x0 x1 x2 x5 (kGlg 1 x0 x1 x2 x5 (kGlg 0 x0 x1 x2 x5 xo10))) := by
  unfold v1057
  unfold H10_3
  rw [View.readCov_cons_toLoadRect]
  try simp only [load_B_10_2_0]
  simp only [r_76, r_77, r_3, View.readAt_eq_ld, harg6.read_unread, r_56, r_54, harg1.read_unread, r_55, r_64, harg3.read_unread, r_66, r_59, harg2.read_unread, r_70, r, r_72, r_1, r_74, r_2]
  try simp only [load_B_10_2_0]
  rfl
/-- An accumulator block after the point. -/
theorem out_B_10 :
    out0_B_10 c i arg1 harg1 arg2 harg2 arg3 harg3 arg4 harg4 arg5 harg5 arg6 harg6 arg7 harg7 arg9 harg9 arg10 harg10 arg11 harg11 arg12 harg12 arg13 harg13 hc0 x0 x1 x2 x3 x4 x5 x6 xo8 xo9 xo10 xo11 = (kGlg 3 x0 x1 x2 x5 (kGlg 2 x0 x1 x2 x5 (kGlg 1 x0 x1 x2 x5 (kGlg 0 x0 x1 x2 x5 xo10)))) := by
  unfold out0_B_10
  rw [View.read_writes_eq_canon _ _ _ (cover0_B_10 c i arg1 harg1 arg2 harg2 arg3 harg3 arg4 harg4 arg5 harg5 arg6 harg6 arg7 harg7 arg9 harg9 arg10 harg10 arg11 harg11 arg12 harg12 arg13 harg13 hc0 x0 x1 x2 x3 x4 x5 x6 xo8 xo9 xo10 xo11)]
  unfold kernelRun0_B
  dsimp only
  rw [View.canon_cons_unit_zero hz_b]
  simp only [r_3, View.readAt_eq_ld, harg6.read_unread, r_90, r_83, harg2.read_unread, r_92, r, r_80, harg1.read_unread, r_88, harg3.read_unread, r_95, r_1, r_93, r_94, r_97, r_2, r_96, r_98]
  simp only [load_B_10_3_0]
  rfl
theorem load_B_11_1_0 :
    v523 (F := F) c arg1 harg1 arg3 harg3 arg6 harg6 arg13 harg13 x0 x2 x5 xo11 = (kGlb 0 x0 x2 x5 xo11) := by
  unfold v523
  unfold H11_1
  rw [View.readCov_cons_toLoadRect]
  simp only [r_25, View.readAt_eq_ld, harg13.read_unread, View.ld_unit_zero (S := S1x512) hz_b, r_26, r_3, harg6.read_unread, r_7, r_5, harg1.read_unread, r_6, r_13, harg3.read_unread, r_17, r, r_19, r_1, r_21, r_2]
  rfl
theorem load_B_11_2_0 :
    v787 (F := F) c arg1 harg1 arg3 harg3 arg6 harg6 arg13 harg13 x0 x2 x5 xo11 = (kGlb 1 x0 x2 x5 (kGlb 0 x0 x2 x5 xo11)) := by
  unfold v787
  unfold H11_2
  rw [View.readCov_cons_toLoadRect]
  try simp only [load_B_11_1_0]
  simp only [r_3, View.readAt_eq_ld, harg6.read_unread, r_29, r_27, harg1.read_unread, r_28, r_36, harg3.read_unread, r_42, r, r_45, r_1, r_48, r_2]
  try simp only [load_B_11_1_0]
  rfl
theorem load_B_11_3_0 :
    v1051 (F := F) c arg1 harg1 arg3 harg3 arg6 harg6 arg13 harg13 x0 x2 x5 xo11 = (kGlb 2 x0 x2 x5 (kGlb 1 x0 x2 x5 (kGlb 0 x0 x2 x5 xo11))) := by
  unfold v1051
  unfold H11_3
  rw [View.readCov_cons_toLoadRect]
  try simp only [load_B_11_2_0]
  simp only [r_3, View.readAt_eq_ld, harg6.read_unread, r_56, r_54, harg1.read_unread, r_55, r_64, harg3.read_unread, r_70, r, r_72, r_1, r_74, r_2]
  try simp only [load_B_11_2_0]
  rfl
/-- An accumulator block after the point. -/
theorem out_B_11 :
    out0_B_11 c i arg1 harg1 arg2 harg2 arg3 harg3 arg4 harg4 arg5 harg5 arg6 harg6 arg7 harg7 arg9 harg9 arg10 harg10 arg11 harg11 arg12 harg12 arg13 harg13 hc0 x0 x1 x2 x3 x4 x5 x6 xo8 xo9 xo10 xo11 = (kGlb 3 x0 x2 x5 (kGlb 2 x0 x2 x5 (kGlb 1 x0 x2 x5 (kGlb 0 x0 x2 x5 xo11)))) := by
  unfold out0_B_11
  rw [View.read_writes_eq_canon _ _ _ (cover0_B_11 c i arg1 harg1 arg2 harg2 arg3 harg3 arg4 harg4 arg5 harg5 arg6 harg6 arg7 harg7 arg9 harg9 arg10 harg10 arg11 harg11 arg12 harg12 arg13 harg13 hc0 x0 x1 x2 x3 x4 x5 x6 xo8 xo9 xo10 xo11)]
  unfold kernelRun0_B
  dsimp only
  rw [View.canon_cons_unit_zero hz_b]
  simp only [r_3, View.readAt_eq_ld, harg6.read_unread, r_92, r, r_80, harg1.read_unread, r_88, harg3.read_unread, r_95, r_1, r_93, r_94, r_97, r_2, r_96, r_98]
  simp only [load_B_11_3_0]
  rfl

/-- The block of the big gradient array after the point. -/
theorem out_B_7 :
    out0_B_7 c i arg1 harg1 arg2 harg2 arg3 harg3 arg4 harg4 arg5 harg5 arg6 harg6 arg7 harg7 arg9 harg9 arg10 harg10 arg11 harg11 arg12 harg12 arg13 harg13 hc0 x0 x1 x2 x3 x4 x5 x6 xo8 xo9 xo10 xo11 = View.canon [⟨Rect.unit ![384, 512] ![128, 512] inb_S512x1024_S128x512_384_512, kDv 3 x0 x1 x2 x3 x5⟩, ⟨Rect.unit ![384, 384] ![128, 128] inb_S512x1024_S128x128_384_384, kDu 3 3 x0 x1 x2 x3 x4 x5 x6⟩, ⟨Rect.unit ![384, 256] ![128, 128] inb_S512x1024_S128x128_384_256, kDu 3 2 x0 x1 x2 x3 x4 x5 x6⟩, ⟨Rect.unit ![384, 128] ![128, 128] inb_S512x1024_S128x128_384_128, kDu 3 1 x0 x1 x2 x3 x4 x5 x6⟩, ⟨Rect.unit ![384, 0] ![128, 128] inb_S512x1024_S128x128_384_0, kDu 3 0 x0 x1 x2 x3 x4 x5 x6⟩, ⟨Rect.unit ![256, 512] ![128, 512] inb_S512x1024_S128x512_256_512, kDv 2 x0 x1 x2 x3 x5⟩, ⟨Rect.unit ![256, 384] ![128, 128] inb_S512x1024_S128x128_256_384, kDu 2 3 x0 x1 x2 x3 x4 x5 x6⟩, ⟨Rect.unit ![256, 256] ![128, 128] inb_S512x1024_S128x128_256_256, kDu 2 2 x0 x1 x2 x3 x4 x5 x6⟩, ⟨Rect.unit ![256, 128] ![128, 128] inb_S512x1024_S128x128_256_128, kDu 2 1 x0 x1 x2 x3 x4 x5 x6⟩, ⟨Rect.unit ![256, 0] ![128, 128] inb_S512x1024_S128x128_256_0, kDu 2 0 x0 x1 x2 x3 x4 x5 x6⟩, ⟨Rect.unit ![128, 512] ![128, 512] inb_S512x1024_S128x512_128_512, kDv 1 x0 x1 x2 x3 x5⟩, ⟨Rect.unit ![128, 384] ![128, 128] inb_S512x1024_S128x128_128_384, kDu 1 3 x0 x1 x2 x3 x4 x5 x6⟩, ⟨Rect.unit ![128, 256] ![128, 128] inb_S512x1024_S128x128_128_256, kDu 1 2 x0 x1 x2 x3 x4 x5 x6⟩, ⟨Rect.unit ![128, 128] ![128, 128] inb_S512x1024_S128x128_128_128, kDu 1 1 x0 x1 x2 x3 x4 x5 x6⟩, ⟨Rect.unit ![128, 0] ![128, 128] inb_S512x1024_S128x128_128_0, kDu 1 0 x0 x1 x2 x3 x4 x5 x6⟩, ⟨Rect.unit ![0, 512] ![128, 512] inb_S512x1024_S128x512_0_512, kDv 0 x0 x1 x2 x3 x5⟩, ⟨Rect.unit ![0, 384] ![128, 128] inb_S512x1024_S128x128_0_384, kDu 0 3 x0 x1 x2 x3 x4 x5 x6⟩, ⟨Rect.unit ![0, 256] ![128, 128] inb_S512x1024_S128x128_0_256, kDu 0 2 x0 x1 x2 x3 x4 x5 x6⟩, ⟨Rect.unit ![0, 128] ![128, 128] inb_S512x1024_S128x128_0_128, kDu 0 1 x0 x1 x2 x3 x4 x5 x6⟩, ⟨Rect.unit ![0, 0] ![128, 128] inb_S512x1024_S128x128_0_0, kDu 0 0 x0 x1 x2 x3 x4 x5 x6⟩] := by
  unfold out0_B_7
  rw [View.read_writes_eq_canon _ _ _ (cover0_B_7 c i arg1 harg1 arg2 harg2 arg3 harg3 arg4 harg4 arg5 harg5 arg6 harg6 arg7 harg7 arg9 harg9 arg10 harg10 arg11 harg11 arg12 harg12 arg13 harg13 hc0 x0 x1 x2 x3 x4 x5 x6 xo8 xo9 xo10 xo11)]
  unfold kernelRun0_B
  dsimp only
  simp only [r_4, View.readAt_eq_ld, harg4.read_unread, View.ld_unit_zero (S := S1x512) hz_b, r_87, r_84, harg2.read_unread, r_85, r_86, r_89, r_83, r_90, r_99, r_3, harg6.read_unread, r_92, r, r_80, harg1.read_unread, r_88, harg3.read_unread, r_95, r_1, r_93, r_94, r_97, r_2, r_96, r_98, r_82, r_78, r_79, r_81, r_91, harg5.read_unread, harg7.read_unread, r_63, r_58, r_60, r_61, r_62, r_65, r_59, r_66, r_75, r_56, r_54, r_55, r_64, r_70, r_72, r_74, r_57, r_52, r_53, r_67, r_73, r_71, r_68, r_69, r_35, r_31, r_32, r_34, r_37, r_33, r_38, r_51, r_29, r_27, r_28, r_36, r_42, r_45, r_48, r_49, r_39, r_50, r_30, r_46, r_47, r_43, r_44, r_40, r_41, r_12, r_9, r_10, r_14, r_11, r_15, r_24, r_7, r_5, r_6, r_13, r_17, r_19, r_21, r_8, r_22, r_16, r_23, r_20, r_18]
  rfl

end Cert.Gmlp

end
-- ==== Proof.Gmlp.Points.lean ====
/-
  The grid's five result arrays over the real numbers: what each operand block holds of the arrays, what the outputs hold after
  a point (by induction over the points), and what the arrays hold at the end.
-/
module

public import proofs.«01_k».proof.Proof.Gmlp.Block
public import proofs.«01_k».proof.Proof.Gmlp.WordsA
public import proofs.«01_k».proof.Proof.Gmlp.WordsB
public import Idealize.ShloMosaic.Lib.Claim
public import Idealize.ShloMosaic.Lib.Pipeline.ValueKit

@[expose] public section
set_option maxRecDepth 16384

noncomputable section
namespace Cert.Gmlp
open Idealize.ShloMosaic Idealize.ShloMosaic.TcCoe Idealize.ShloMosaic.Tactic
open Cert.KernelIdeal Cert.KernelIdeal.Gen

/-! ## The arrays' real numbers -/

/-- Chunk `n` of an array: its 128 rows from row `128 n` on. -/
def ch (P : ℕ → Fin 512 → ℝ) (n : ℕ) (t : Fin 128) : Fin 512 → ℝ := P (128 * n + t.val)

/-- The argument arrays hold these real numbers: the two factors, the incoming gradient, the layer norm's gain and shift, the
    spatial weights and biases. -/
structure Reals (a0 : FVec Ideal S8192x6144 .bf16) (a1 : FVec Ideal S8192x512 .bf16) (a2 a3 : FVec Ideal S512 .f32)
    (a4 : FVec Ideal S4x128x128 .f32) (a5 : FVec Ideal S4x128 .f32) (PU PV PO : ℕ → Fin 512 → ℝ) (LG LB : Fin 512 → ℝ)
    (WS : Fin 4 → Fin 128 → Fin 128 → ℝ) (BS : Fin 4 → Fin 128 → ℝ) : Prop where
  u : ∀ (r : Fin 8192) (j : Fin 512) (k : Fin 6144), k.val = j.val → a0 (ix2 r k) = ((PU r j : ℝ) : EReal)
  v : ∀ (r : Fin 8192) (j : Fin 512) (k : Fin 6144), k.val = 512 + j.val → a0 (ix2 r k) = ((PV r j : ℝ) : EReal)
  o : ∀ (r : Fin 8192) (j : Fin 512), a1 (ix2 r j) = ((PO r j : ℝ) : EReal)
  lg : ∀ j : Fin 512, a2 (ix1 j) = ((LG j : ℝ) : EReal)
  lb : ∀ j : Fin 512, a3 (ix1 j) = ((LB j : ℝ) : EReal)
  ws : ∀ (g : Fin 4) (t s : Fin 128), a4 (ix3 g t s) = ((WS g t s : ℝ) : EReal)
  bs : ∀ (g : Fin 4) (t : Fin 128), a5 (ix2 g t) = ((BS g t : ℝ) : EReal)

variable (m : (ℓ : Loc nD τ sig) → Buf (Elt Ideal) ℓ) (c : Dev nD)
variable {PU PV PO : ℕ → Fin 512 → ℝ} {LG LB : Fin 512 → ℝ} {WS : Fin 4 → Fin 128 → Fin 128 → ℝ} {BS : Fin 4 → Fin 128 → ℝ}

/-- `Reals` of the launch memory. -/
abbrev RealsAt (PU PV PO : ℕ → Fin 512 → ℝ) (LG LB : Fin 512 → ℝ) (WS : Fin 4 → Fin 128 → Fin 128 → ℝ) (BS : Fin 4 → Fin 128 → ℝ) : Prop :=
  Reals (m (c.tc.loc main_arg0)) (m (c.tc.loc main_arg1)) (m (c.tc.loc main_arg2)) (m (c.tc.loc main_arg3))
    (m (c.tc.loc main_arg4)) (m (c.tc.loc main_arg5)) PU PV PO LG LB WS BS

/-! ## The operand blocks -/

theorem index0 : ∀ t : Fin cfg0.N, win0_0.index t = ![t.val, 0] := by decide +kernel
theorem index1 : ∀ t : Fin cfg0.N, win0_1.index t = ![t.val, 1] := by decide +kernel
theorem index2 : ∀ t : Fin cfg0.N, win0_2.index t = ![t.val, 0] := by decide +kernel
theorem index3 : ∀ t : Fin cfg0.N, win0_3.index t = ![0, 0] := by decide +kernel
theorem index4 : ∀ t : Fin cfg0.N, win0_4.index t = ![0, 0] := by decide +kernel
theorem index5 : ∀ t : Fin cfg0.N, win0_5.index t = ![0, 0, 0] := by decide +kernel
theorem index6 : ∀ t : Fin cfg0.N, win0_6.index t = ![0, 0] := by decide +kernel
theorem index7 : ∀ t : Fin cfg0.N, win0_7.index t = ![t.val, 0] := by decide +kernel

theorem point_lt (t : Fin cfg0.N) : t.val < 16 := lt_of_lt_of_eq t.isLt (show cfg0.N = 16 from N_0)

theorem holds (t : Fin cfg0.N) (H : RealsAt m c PU PV PO LG LB WS BS) :
    Holds (iblk m c 0 t) (iblk m c 1 t) (iblk m c 2 t) (iblk m c 3 t) (iblk m c 4 t) (iblk m c 5 t) (iblk m c 6 t)
      (fun r => PU (512 * t.val + r.val)) (fun r => PV (512 * t.val + r.val)) (fun r => PO (512 * t.val + r.val)) LG LB WS BS := by
  have ht := point_lt t
  constructor
  · intro i j
    refine Eq.trans ?_ (H.u ⟨512 * t.val + i.val, by omega⟩ j ⟨j.val, by omega⟩ rfl)
    blk_ext! [iblk, V, index0]
  · intro i j
    refine Eq.trans ?_ (H.v ⟨512 * t.val + i.val, by omega⟩ j ⟨512 + j.val, by omega⟩ rfl)
    blk_ext! [iblk, V, index1]
  · intro i j
    refine Eq.trans ?_ (H.o ⟨512 * t.val + i.val, by omega⟩ j)
    blk_ext! [iblk, V, index2]
  · intro i j
    refine Eq.trans ?_ (H.lg j)
    blk_ext! [iblk, V, index3]
  · intro i j
    refine Eq.trans ?_ (H.lb j)
    blk_ext! [iblk, V, index4]
  · intro g i j
    refine Eq.trans ?_ (H.ws g i j)
    blk_ext! [iblk, V, index5]
  · intro i g
    refine Eq.trans ?_ (H.bs g i)
    blk_ext! [iblk, V, index6]

/-! ## After a point -/

theorem part_eq (P : ℕ → Fin 512 → ℝ) (t : ℕ) (q : Fin 4) : part (fun r => P (512 * t + r.val)) q = ch P (4 * t + q.val) := by
  funext s
  exact congrArg P (by show 512 * t + (128 * q.val + s.val) = 128 * (4 * t + q.val) + s.val; omega)

/-- Four more terms of a running sum. -/
theorem four_more (f : ℕ → ℝ) (t : ℕ) : ∑ n ∈ Finset.range (4 * t), f n + ∑ q : Fin 4, f (4 * t + q.val) = ∑ n ∈ Finset.range (4 * (t + 1)), f n := by
  rw [show 4 * (t + 1) = 4 * t + 1 + 1 + 1 + 1 by omega]
  simp only [Finset.sum_range_succ, Fin.sum_univ_four]
  simp only [Fin.val_zero, Fin.val_one, Fin.val_two, add_zero]
  rw [show ((3 : Fin 4).val) = 3 from rfl, ← add_assoc, ← add_assoc, ← add_assoc]

theorem fill_groups (g : Fin 4) (i j : Fin 128) :
    (fill (F := Ideal) S1x128x128 0x00000000#32 : FVec Ideal S1x128x128 .f32) (ix3 0 i j) = (((fun _ _ _ => 0 : Fin 4 → Fin 128 → Fin 128 → ℝ) g i j : ℝ) : EReal) := by
  pointwise [fill]
  simp
theorem fill_row : Rep (m := 1) (n := 512) (φ := .f32) (fill (F := Ideal) S1x512 0x00000000#32) fun _ _ => 0 := by
  intro i j
  pointwise [fill]
  simp
theorem weightAt_read {x : FVec Ideal S4x128x128 .f32} {f : Fin 4 → Fin 128 → Fin 128 → ℝ}
    (h : ∀ g i j, x (ix3 g i j) = ((f g i j : ℝ) : EReal)) (g : Fin 4) (i j : Fin 128) : (weightAt (F := Ideal) g x : FVec Ideal S1x128x128 .f32) (ix3 0 i j) = ((f g i j : ℝ) : EReal) := by
  have e := h g i j
  pointwise [weightAt]
  exact e

/-- One chunk's share of accumulator 8. -/
def chunk8 (PU PV PO : ℕ → Fin 512 → ℝ) (LG LB : Fin 512 → ℝ) (WS : Fin 4 → Fin 128 → Fin 128 → ℝ) (n : ℕ) : Fin 4 → Fin 128 → Fin 128 → ℝ :=
  fun g i j => rGw (ch PU n) (ch PV n) (ch PO n) LG LB g i j
/-- One chunk's share of accumulator 9. -/
def chunk9 (PU PV PO : ℕ → Fin 512 → ℝ) (LG LB : Fin 512 → ℝ) (WS : Fin 4 → Fin 128 → Fin 128 → ℝ) (n : ℕ) : Fin 4 → Fin 128 → Fin 128 → ℝ :=
  fun g i _ => rGb (ch PU n) (ch PO n) g i
/-- One chunk's share of accumulator 10. -/
def chunk10 (PU PV PO : ℕ → Fin 512 → ℝ) (LG LB : Fin 512 → ℝ) (WS : Fin 4 → Fin 128 → Fin 128 → ℝ) (n : ℕ) : Fin 512 → ℝ :=
  fun j => rGlg (ch PU n) (ch PV n) (ch PO n) WS j
/-- One chunk's share of accumulator 11. -/
def chunk11 (PU PV PO : ℕ → Fin 512 → ℝ) (LG LB : Fin 512 → ℝ) (WS : Fin 4 → Fin 128 → Fin 128 → ℝ) (n : ℕ) : Fin 512 → ℝ :=
  fun j => rGlb (ch PU n) (ch PO n) WS j

/-- Accumulator 8 after the first point of a run of sixteen. -/
theorem first_8 (t : Fin cfg0.N) (h : t.val % 16 = 0) (H : RealsAt m c PU PV PO LG LB WS BS) (g : Fin 4) (i j : Fin 128) :
    ((outsAt0 m c t.val t.isLt).2.1 : FVec Ideal S4x128x128 .f32) (ix3 g i j)
      = ((0 + ∑ q : Fin 4, chunk8 PU PV PO LG LB WS (4 * t.val + q.val) g i j : ℝ) : EReal) := by
  rw [outsAt0_A m c t h]
  dsimp only
  obtain ⟨rest, e⟩ := out_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h) (iblk m c 0 t) (iblk m c 1 t) (iblk m c 2 t) (iblk m c 3 t) (iblk m c 4 t) (iblk m c 5 t) (iblk m c 6 t)
  refine (congrFun e (ix3 g i j)).trans ?_
  refine (hold_8 (holds m c t H) (fun _ => fill S1x128x128 0x00000000#32) rest fill_groups g i j).trans ?_
  simp only [part_eq]
  rfl
/-- … and after any other point, over what it held before. -/
theorem next_8 (t : Fin cfg0.N) (h : ¬t.val % 16 = 0) (H : RealsAt m c PU PV PO LG LB WS BS) {f : Fin 4 → Fin 128 → Fin 128 → ℝ}
    (hf : ∀ g i j, ((outsAt0 m c (t.val - 1) (Nat.lt_of_le_of_lt (Nat.sub_le _ _) t.isLt)).2.1 : FVec Ideal S4x128x128 .f32) (ix3 g i j) = ((f g i j : ℝ) : EReal))
    (g : Fin 4) (i j : Fin 128) :
    ((outsAt0 m c t.val t.isLt).2.1 : FVec Ideal S4x128x128 .f32) (ix3 g i j)
      = ((f g i j + ∑ q : Fin 4, chunk8 PU PV PO LG LB WS (4 * t.val + q.val) g i j : ℝ) : EReal) := by
  rw [outsAt0_B m c t h]
  dsimp only
  obtain ⟨rest, e⟩ := out_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun k => h ((hcond0_0 t).mp k)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
  refine (congrFun e (ix3 g i j)).trans ?_
  refine (hold_8 (holds m c t H) (fun g => weightAt g (outsAt0 m c (t.val - 1) (Nat.lt_of_le_of_lt (Nat.sub_le _ _) t.isLt)).2.1) rest (weightAt_read hf) g i j).trans ?_
  simp only [part_eq]
  rfl
/-- So after every point: the sum of the chunks so far. -/
theorem after_8 (H : RealsAt m c PU PV PO LG LB WS BS) : ∀ (t : ℕ) (ht : t < cfg0.N) (g : Fin 4) (i j : Fin 128),
    ((outsAt0 m c t ht).2.1 : FVec Ideal S4x128x128 .f32) (ix3 g i j)
      = ((∑ n ∈ Finset.range (4 * (t + 1)), chunk8 PU PV PO LG LB WS n g i j : ℝ) : EReal)
  | 0, ht, g, i, j => (first_8 m c ⟨0, ht⟩ rfl H g i j).trans (congrArg _ (four_more (fun n => chunk8 PU PV PO LG LB WS n g i j) 0))
  | t + 1, ht, g, i, j => by
    have h16 := point_lt ⟨t + 1, ht⟩
    refine (next_8 m c ⟨t + 1, ht⟩ (by dsimp only at h16 ⊢; omega) H (after_8 H t _) g i j).trans ?_
    exact congrArg _ (four_more (fun n => chunk8 PU PV PO LG LB WS n g i j) (t + 1))

/-- Accumulator 9 after the first point of a run of sixteen. -/
theorem first_9 (t : Fin cfg0.N) (h : t.val % 16 = 0) (H : RealsAt m c PU PV PO LG LB WS BS) (g : Fin 4) (i j : Fin 128) :
    ((outsAt0 m c t.val t.isLt).2.2.1 : FVec Ideal S4x128x128 .f32) (ix3 g i j)
      = ((0 + ∑ q : Fin 4, chunk9 PU PV PO LG LB WS (4 * t.val + q.val) g i j : ℝ) : EReal) := by
  rw [outsAt0_A m c t h]
  dsimp only
  obtain ⟨rest, e⟩ := out_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h) (iblk m c 0 t) (iblk m c 1 t) (iblk m c 2 t) (iblk m c 3 t) (iblk m c 4 t) (iblk m c 5 t) (iblk m c 6 t)
  refine (congrFun e (ix3 g i j)).trans ?_
  refine (hold_9 (holds m c t H) (fun _ => fill S1x128x128 0x00000000#32) rest fill_groups g i j).trans ?_
  simp only [part_eq]
  rfl
/-- … and after any other point, over what it held before. -/
theorem next_9 (t : Fin cfg0.N) (h : ¬t.val % 16 = 0) (H : RealsAt m c PU PV PO LG LB WS BS) {f : Fin 4 → Fin 128 → Fin 128 → ℝ}
    (hf : ∀ g i j, ((outsAt0 m c (t.val - 1) (Nat.lt_of_le_of_lt (Nat.sub_le _ _) t.isLt)).2.2.1 : FVec Ideal S4x128x128 .f32) (ix3 g i j) = ((f g i j : ℝ) : EReal))
    (g : Fin 4) (i j : Fin 128) :
    ((outsAt0 m c t.val t.isLt).2.2.1 : FVec Ideal S4x128x128 .f32) (ix3 g i j)
      = ((f g i j + ∑ q : Fin 4, chunk9 PU PV PO LG LB WS (4 * t.val + q.val) g i j : ℝ) : EReal) := by
  rw [outsAt0_B m c t h]
  dsimp only
  obtain ⟨rest, e⟩ := out_B_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun k => h ((hcond0_0 t).mp k)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
  refine (congrFun e (ix3 g i j)).trans ?_
  refine (hold_9 (holds m c t H) (fun g => weightAt g (outsAt0 m c (t.val - 1) (Nat.lt_of_le_of_lt (Nat.sub_le _ _) t.isLt)).2.2.1) rest (weightAt_read hf) g i j).trans ?_
  simp only [part_eq]
  rfl
/-- So after every point: the sum of the chunks so far. -/
theorem after_9 (H : RealsAt m c PU PV PO LG LB WS BS) : ∀ (t : ℕ) (ht : t < cfg0.N) (g : Fin 4) (i j : Fin 128),
    ((outsAt0 m c t ht).2.2.1 : FVec Ideal S4x128x128 .f32) (ix3 g i j)
      = ((∑ n ∈ Finset.range (4 * (t + 1)), chunk9 PU PV PO LG LB WS n g i j : ℝ) : EReal)
  | 0, ht, g, i, j => (first_9 m c ⟨0, ht⟩ rfl H g i j).trans (congrArg _ (four_more (fun n => chunk9 PU PV PO LG LB WS n g i j) 0))
  | t + 1, ht, g, i, j => by
    have h16 := point_lt ⟨t + 1, ht⟩
    refine (next_9 m c ⟨t + 1, ht⟩ (by dsimp only at h16 ⊢; omega) H (after_9 H t _) g i j).trans ?_
    exact congrArg _ (four_more (fun n => chunk9 PU PV PO LG LB WS n g i j) (t + 1))

/-- Accumulator 10 after the first point of a run of sixteen. -/
theorem first_10 (t : Fin cfg0.N) (h : t.val % 16 = 0) (H : RealsAt m c PU PV PO LG LB WS BS) :
    Rep (m := 1) (n := 512) (φ := .f32) (outsAt0 m c t.val t.isLt).2.2.2.1
      (fun _ j => 0 + ∑ q : Fin 4, chunk10 PU PV PO LG LB WS (4 * t.val + q.val) j) := by
  rw [outsAt0_A m c t h]
  dsimp only
  have e := out_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h) (iblk m c 0 t) (iblk m c 1 t) (iblk m c 2 t) (iblk m c 3 t) (iblk m c 4 t) (iblk m c 5 t) (iblk m c 6 t)
  intro i j
  refine (congrFun e (ix2 i j)).trans ?_
  refine (hold_10 (holds m c t H) fill_row i j).trans ?_
  simp only [part_eq]
  rfl
/-- … and after any other point, over what it held before. -/
theorem next_10 (t : Fin cfg0.N) (h : ¬t.val % 16 = 0) (H : RealsAt m c PU PV PO LG LB WS BS) {f : Fin 512 → ℝ}
    (hf : Rep (m := 1) (n := 512) (φ := .f32) (outsAt0 m c (t.val - 1) (Nat.lt_of_le_of_lt (Nat.sub_le _ _) t.isLt)).2.2.2.1 fun _ => f) :
    Rep (m := 1) (n := 512) (φ := .f32) (outsAt0 m c t.val t.isLt).2.2.2.1
      (fun _ j => f j + ∑ q : Fin 4, chunk10 PU PV PO LG LB WS (4 * t.val + q.val) j) := by
  rw [outsAt0_B m c t h]
  dsimp only
  have e := out_B_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun k => h ((hcond0_0 t).mp k)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
  intro i j
  refine (congrFun e (ix2 i j)).trans ?_
  refine (hold_10 (holds m c t H) hf i j).trans ?_
  simp only [part_eq]
  rfl
/-- So after every point: the sum of the chunks so far. -/
theorem after_10 (H : RealsAt m c PU PV PO LG LB WS BS) : ∀ (t : ℕ) (ht : t < cfg0.N),
    Rep (m := 1) (n := 512) (φ := .f32) (outsAt0 m c t ht).2.2.2.1
      (fun _ j => ∑ n ∈ Finset.range (4 * (t + 1)), chunk10 PU PV PO LG LB WS n j)
  | 0, ht => fun i j => (first_10 m c ⟨0, ht⟩ rfl H i j).trans (congrArg _ (four_more (fun n => chunk10 PU PV PO LG LB WS n j) 0))
  | t + 1, ht => fun i j => by
    have h16 := point_lt ⟨t + 1, ht⟩
    refine (next_10 m c ⟨t + 1, ht⟩ (by dsimp only at h16 ⊢; omega) H (after_10 H t _) i j).trans ?_
    exact congrArg _ (four_more (fun n => chunk10 PU PV PO LG LB WS n j) (t + 1))

/-- Accumulator 11 after the first point of a run of sixteen. -/
theorem first_11 (t : Fin cfg0.N) (h : t.val % 16 = 0) (H : RealsAt m c PU PV PO LG LB WS BS) :
    Rep (m := 1) (n := 512) (φ := .f32) (outsAt0 m c t.val t.isLt).2.2.2.2
      (fun _ j => 0 + ∑ q : Fin 4, chunk11 PU PV PO LG LB WS (4 * t.val + q.val) j) := by
  rw [outsAt0_A m c t h]
  dsimp only
  have e := out_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h) (iblk m c 0 t) (iblk m c 1 t) (iblk m c 2 t) (iblk m c 3 t) (iblk m c 4 t) (iblk m c 5 t) (iblk m c 6 t)
  intro i j
  refine (congrFun e (ix2 i j)).trans ?_
  refine (hold_11 (holds m c t H) fill_row i j).trans ?_
  simp only [part_eq]
  rfl
/-- … and after any other point, over what it held before. -/
theorem next_11 (t : Fin cfg0.N) (h : ¬t.val % 16 = 0) (H : RealsAt m c PU PV PO LG LB WS BS) {f : Fin 512 → ℝ}
    (hf : Rep (m := 1) (n := 512) (φ := .f32) (outsAt0 m c (t.val - 1) (Nat.lt_of_le_of_lt (Nat.sub_le _ _) t.isLt)).2.2.2.2 fun _ => f) :
    Rep (m := 1) (n := 512) (φ := .f32) (outsAt0 m c t.val t.isLt).2.2.2.2
      (fun _ j => f j + ∑ q : Fin 4, chunk11 PU PV PO LG LB WS (4 * t.val + q.val) j) := by
  rw [outsAt0_B m c t h]
  dsimp only
  have e := out_B_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun k => h ((hcond0_0 t).mp k)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
  intro i j
  refine (congrFun e (ix2 i j)).trans ?_
  refine (hold_11 (holds m c t H) hf i j).trans ?_
  simp only [part_eq]
  rfl
/-- So after every point: the sum of the chunks so far. -/
theorem after_11 (H : RealsAt m c PU PV PO LG LB WS BS) : ∀ (t : ℕ) (ht : t < cfg0.N),
    Rep (m := 1) (n := 512) (φ := .f32) (outsAt0 m c t ht).2.2.2.2
      (fun _ j => ∑ n ∈ Finset.range (4 * (t + 1)), chunk11 PU PV PO LG LB WS n j)
  | 0, ht => fun i j => (first_11 m c ⟨0, ht⟩ rfl H i j).trans (congrArg _ (four_more (fun n => chunk11 PU PV PO LG LB WS n j) 0))
  | t + 1, ht => fun i j => by
    have h16 := point_lt ⟨t + 1, ht⟩
    refine (next_11 m c ⟨t + 1, ht⟩ (by dsimp only at h16 ⊢; omega) H (after_11 H t _) i j).trans ?_
    exact congrArg _ (four_more (fun n => chunk11 PU PV PO LG LB WS n j) (t + 1))

/-- The first output's block after a point. -/
theorem after_7 (t : Fin cfg0.N) (H : RealsAt m c PU PV PO LG LB WS BS) (y : S512x1024.Idx) :
    ((outsAt0 m c t.val t.isLt).1 : FVec Ideal S512x1024 .bf16) y
      = ((rOut (fun q s j => rDu (ch PU (4 * t.val + q.val)) (ch PV (4 * t.val + q.val)) (ch PO (4 * t.val + q.val)) LG LB WS BS (grp j) s (lane j))
          (fun q s j => rDv (ch PU (4 * t.val + q.val)) (ch PV (4 * t.val + q.val)) (ch PO (4 * t.val + q.val)) LG WS s j) (y 0) (y 1) : ℝ) : EReal) := by
  by_cases h : t.val % 16 = 0
  · rw [outsAt0_A m c t h]
    dsimp only
    refine (congrFun (out_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h) (iblk m c 0 t) (iblk m c 1 t) (iblk m c 2 t) (iblk m c 3 t) (iblk m c 4 t) (iblk m c 5 t) (iblk m c 6 t)) y).trans ?_
    refine (hold_7 (holds m c t H) y).trans ?_
    simp only [part_eq]
  · rw [outsAt0_B m c t h]
    dsimp only
    refine (congrFun (out_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun k => h ((hcond0_0 t).mp k)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) y).trans ?_
    refine (hold_7 (holds m c t H) y).trans ?_
    simp only [part_eq]

/-! ## The result arrays -/

theorem array_8 (H : RealsAt m c PU PV PO LG LB WS BS) (g : Fin 4) (i j : Fin 128) :
    ((dats m 0 c).arrAt 8 cfg0.N : FVec Ideal S4x128x128 .f32) (ix3 g i j)
      = ((∑ n ∈ Finset.range 64, chunk8 PU PV PO LG LB WS n g i j : ℝ) : EReal) := by
  have e : ((dats m 0 c).arrAt 8 cfg0.N : FVec Ideal S4x128x128 .f32) = (outsAt0 m c t0_15.val t0_15.isLt).2.1 := by
    refine (dats m 0 c).arrAt_eq_of_after_last 8 t0_15 (by decide +kernel) _ fun j => ?_
    blk_simp
    rw [after0_8]
  rw [e]
  exact after_8 m c H 15 t0_15.isLt g i j

theorem array_9 (H : RealsAt m c PU PV PO LG LB WS BS) (g : Fin 4) (i j : Fin 128) :
    ((dats m 0 c).arrAt 9 cfg0.N : FVec Ideal S4x128x128 .f32) (ix3 g i j)
      = ((∑ n ∈ Finset.range 64, chunk9 PU PV PO LG LB WS n g i j : ℝ) : EReal) := by
  have e : ((dats m 0 c).arrAt 9 cfg0.N : FVec Ideal S4x128x128 .f32) = (outsAt0 m c t0_15.val t0_15.isLt).2.2.1 := by
    refine (dats m 0 c).arrAt_eq_of_after_last 9 t0_15 (by decide +kernel) _ fun j => ?_
    blk_simp
    rw [after0_9]
  rw [e]
  exact after_9 m c H 15 t0_15.isLt g i j

theorem array_10 (H : RealsAt m c PU PV PO LG LB WS BS) (i : Fin 1) (j : Fin 512) :
    ((dats m 0 c).arrAt 10 cfg0.N : FVec Ideal S1x512 .f32) (ix2 i j)
      = ((∑ n ∈ Finset.range 64, chunk10 PU PV PO LG LB WS n j : ℝ) : EReal) := by
  have e : ((dats m 0 c).arrAt 10 cfg0.N : FVec Ideal S1x512 .f32) = (outsAt0 m c t0_15.val t0_15.isLt).2.2.2.1 := by
    refine (dats m 0 c).arrAt_eq_of_after_last 10 t0_15 (by decide +kernel) _ fun j => ?_
    blk_simp
    rw [after0_10]
  rw [e]
  exact after_10 m c H 15 t0_15.isLt i j

theorem array_11 (H : RealsAt m c PU PV PO LG LB WS BS) (i : Fin 1) (j : Fin 512) :
    ((dats m 0 c).arrAt 11 cfg0.N : FVec Ideal S1x512 .f32) (ix2 i j)
      = ((∑ n ∈ Finset.range 64, chunk11 PU PV PO LG LB WS n j : ℝ) : EReal) := by
  have e : ((dats m 0 c).arrAt 11 cfg0.N : FVec Ideal S1x512 .f32) = (outsAt0 m c t0_15.val t0_15.isLt).2.2.2.2 := by
    refine (dats m 0 c).arrAt_eq_of_after_last 11 t0_15 (by decide +kernel) _ fun j => ?_
    blk_simp
    rw [after0_11]
  rw [e]
  exact after_11 m c H 15 t0_15.isLt i j

/-- The first result at row `r` and column `j` of its first 1024 columns: chunk `r / 128`, row `r % 128` of it. -/
def rFactors (PU PV PO : ℕ → Fin 512 → ℝ) (LG LB : Fin 512 → ℝ) (WS : Fin 4 → Fin 128 → Fin 128 → ℝ) (BS : Fin 4 → Fin 128 → ℝ)
    (n : ℕ) (s : Fin 128) (j : ℕ) : ℝ :=
  if h : j < 512 then rDu (ch PU n) (ch PV n) (ch PO n) LG LB WS BS (grp ⟨j, h⟩) s (lane ⟨j, h⟩)
  else rDv (ch PU n) (ch PV n) (ch PO n) LG WS s ⟨(j - 512) % 512, Nat.mod_lt _ (by omega)⟩

theorem rOut_factors (t : ℕ) (r : Fin 512) (j : Fin 1024) (n : ℕ) (s : Fin 128) (k : ℕ) (hn : n = 4 * t + r.val / 128)
    (hs : s.val = r.val % 128) (hk : k = j.val) :
    rOut (fun q s j => rDu (ch PU (4 * t + q.val)) (ch PV (4 * t + q.val)) (ch PO (4 * t + q.val)) LG LB WS BS (grp j) s (lane j))
      (fun q s j => rDv (ch PU (4 * t + q.val)) (ch PV (4 * t + q.val)) (ch PO (4 * t + q.val)) LG WS s j) r j
      = rFactors PU PV PO LG LB WS BS n s k := by
  subst hn hk
  obtain rfl : lane r = s := Fin.ext hs.symm
  unfold rOut rFactors
  by_cases h : j.val < 512
  · rw [dif_pos h, dif_pos h]
    rfl
  · rw [dif_neg h, dif_neg h]
    refine congrArg _ (Fin.ext ?_)
    show j.val - 512 = (j.val - 512) % 512
    omega

theorem array_7 (H : RealsAt m c PU PV PO LG LB WS BS) (r : Fin 8192) (k : Fin 6144) :
    ((dats m 0 c).arrAt 7 cfg0.N : FVec Ideal S8192x6144 .bf16) (ix2 r k)
      = if k.val < 1024 then ((rFactors PU PV PO LG LB WS BS (r.val / 128) ⟨r.val % 128, Nat.mod_lt _ (by omega)⟩ k.val : ℝ) : EReal)
        else (m (c.tc.loc main_arg6) : FVec Ideal S8192x6144 .bf16) (ix2 r k) := by
  have e : ((dats m 0 c).arrAt 7 cfg0.N : FVec Ideal S8192x6144 .bf16) = fun i => if (i 1).val < 1024
      then ((rFactors PU PV PO LG LB WS BS ((i 0).val / 128) ⟨(i 0).val % 128, Nat.mod_lt _ (by omega)⟩ (i 1).val : ℝ) : EReal)
      else (dats m 0 c).A 7 i := by
    refine (dats m 0 c).arrAt_eq_of_coversWhere 7 _ (fun β => β 1 = 0) (by decide +kernel) (fun t hf y => ?_)
      (fun j => by blk_simp [Pipeline.Window.cell_apply]; omega)
    blk_simp [index7]
    rw [after0_7]
    have h0 : (y 0).val < 512 := (y 0).isLt
    have h1 : (y 1).val < 1024 := (y 1).isLt
    refine (after_7 m c t H y).trans (congrArg _ ?_)
    exact rOut_factors t.val (y 0) (y 1) _ _ _ (by omega) (by show (t.val * 512 + (y 0).val) % 128 = (y 0).val % 128; omega) rfl
  rw [e, A_eq]
  dsimp only
  refine if_congr Iff.rfl rfl ?_
  entry_read
  rfl

end Cert.Gmlp

end
-- ==== Proof.Gmlp.Finite.lean ====
/-
  From the precondition to real numbers: arrays whose elements are all below infinity in size hold real numbers.
-/
module

public import proofs.«01_k».proof.Defs
public import proofs.«01_k».proof.Proof.Gmlp.Points

@[expose] public section
set_option maxRecDepth 16384

noncomputable section
namespace Cert.Gmlp
open Idealize.ShloMosaic Idealize.ShloMosaic.TcCoe Idealize.ShloMosaic.Tactic Idealize.ShloMosaic.StableHlo
open Cert.KernelIdeal Cert.KernelIdeal.Gen

/-- The precondition's side conditions. -/
instance finiteFacts : Cert.Pre_finite.Facts := ⟨by decide, by decide, by decide, by decide, by decide, by decide⟩

theorem word_top16 : Ideal.ofBits .bf16 0x7F80#16 = (⊤ : EReal) := by
  simp [Ideal.ofBits, Ideal.ieee]
theorem word_top32 : Ideal.ofBits .f32 0x7F800000#32 = (⊤ : EReal) := by
  simp [Ideal.ofBits, Ideal.ieee]

/-- A number below infinity in size is real. -/
theorem real_of_lt {φ : FTy} {x : Ideal φ} {t : EReal} (ht : t = ⊤)
    (h : BitVec.ofBool (decide ((FloatOps.absf x : Ideal φ) < (t : EReal))) = 1#1) : (x : EReal) = ((EReal.toReal x : ℝ) : EReal) := by
  have h' : (FloatOps.absf x : Ideal φ) < t := by
    by_contra hn
    rw [decide_eq_false hn] at h
    exact absurd h (by decide)
  subst ht
  refine (EReal.coe_toReal (fun e => ?_) (fun e => ?_)).symm
  · subst e
    exact lt_irrefl _ ((le_max_left (⊤ : EReal) (-⊤)).trans_lt h')
  · subst e
    exact lt_irrefl _ ((le_max_right (⊥ : EReal) (-⊥)).trans_lt h')

variable (m : (ℓ : Loc nD τ sig) → Buf (Elt Ideal) ℓ) (c : Dev nD)

/-- So under the precondition the arguments hold real numbers. -/
theorem realsAt (h : Pre_KernelIdeal_finite m) : ∃ PU PV PO LG LB WS BS, RealsAt m c PU PV PO LG LB WS BS := by
  obtain ⟨h0, h1, h2, h3, h4, h5⟩ := h c
  refine ⟨fun r j => if h : r < 8192 then ((m (c.tc.loc main_arg0) : FVec Ideal S8192x6144 .bf16) (ix2 ⟨r, h⟩ ⟨j.val, by omega⟩)).toReal else 0,
    fun r j => if h : r < 8192 then ((m (c.tc.loc main_arg0) : FVec Ideal S8192x6144 .bf16) (ix2 ⟨r, h⟩ ⟨512 + j.val, by omega⟩)).toReal else 0,
    fun r j => if h : r < 8192 then ((m (c.tc.loc main_arg1) : FVec Ideal S8192x512 .bf16) (ix2 ⟨r, h⟩ j)).toReal else 0,
    fun j => ((m (c.tc.loc main_arg2) : FVec Ideal S512 .f32) (ix1 j)).toReal,
    fun j => ((m (c.tc.loc main_arg3) : FVec Ideal S512 .f32) (ix1 j)).toReal,
    fun g t s => ((m (c.tc.loc main_arg4) : FVec Ideal S4x128x128 .f32) (ix3 g t s)).toReal,
    fun g t => ((m (c.tc.loc main_arg5) : FVec Ideal S4x128 .f32) (ix2 g t)).toReal, ?_⟩
  constructor
  · intro r j k hk
    have e := congrFun h0 (ix2 r ⟨k.val, by omega⟩)
    pointwise [Cert.Pre_finite.fn, Cert.Pre_finite.fn_part1] at e
    refine (real_of_lt word_top16 e).trans ?_
    rw [dif_pos r.isLt, show (⟨j.val, by omega⟩ : Fin 6144) = k from Fin.ext hk.symm]
  · intro r j k hk
    have e := congrFun h0 (ix2 r ⟨k.val, by omega⟩)
    pointwise [Cert.Pre_finite.fn, Cert.Pre_finite.fn_part1] at e
    refine (real_of_lt word_top16 e).trans ?_
    rw [dif_pos r.isLt, show (⟨512 + j.val, by omega⟩ : Fin 6144) = k from Fin.ext hk.symm]
  · intro r j
    have e := congrFun h1 (ix2 r j)
    pointwise [Cert.Pre_finite.fn, Cert.Pre_finite.fn_part1] at e
    refine (real_of_lt word_top16 e).trans ?_
    rw [dif_pos r.isLt]
  · intro j
    have e := congrFun h2 (ix1 j)
    pointwise [Cert.Pre_finite.fn, Cert.Pre_finite.fn_part1] at e
    exact real_of_lt word_top32 e
  · intro j
    have e := congrFun h3 (ix1 j)
    pointwise [Cert.Pre_finite.fn, Cert.Pre_finite.fn_part1] at e
    exact real_of_lt word_top32 e
  · intro g t s
    have e := congrFun h4 (ix3 g t s)
    pointwise [Cert.Pre_finite.fn, Cert.Pre_finite.fn_part1] at e
    exact real_of_lt word_top32 e
  · intro g t
    have e := congrFun h5 (ix2 g t)
    pointwise [Cert.Pre_finite.fn, Cert.Pre_finite.fn_part1] at e
    exact real_of_lt word_top32 e

end Cert.Gmlp

end
-- ==== Proof.Gmlp.RefRow.lean ====
/-
  The reference's operations over the real numbers, row by row: the GELU of both factors, the layer norm of the second one, and
  the layer norm's step backwards.
-/
module

public import proofs.«01_k».proof.Proof.Gmlp.Points
public import proofs.«01_k».proof.Proof.Gen.ReferenceIdeal.Run

@[expose] public section
set_option maxRecDepth 16384

noncomputable section
namespace Cert.Gmlp
open Idealize.ShloMosaic Idealize.ShloMosaic.TcCoe Idealize.ShloMosaic.Tactic Idealize.ShloMosaic.StableHlo
open Cert.ReferenceIdeal Cert.ReferenceIdeal.Gen Cert.ReferenceIdeal.Value

/-- A sequence array (batch, row, column) holds the real numbers of the flat array's rows. -/
def Rep3 (x : FVec Ideal S4x2048x512 .f32) (f : ℕ → Fin 512 → ℝ) : Prop :=
  ∀ (b : Fin 4) (t : Fin 2048) (j : Fin 512), x (ix3 b t j) = ((f (2048 * b.val + t.val) j : ℝ) : EReal)
/-- The same, one number a row. -/
def Rep1 (x : FVec Ideal S4x2048x1 .f32) (f : ℕ → ℝ) : Prop :=
  ∀ (b : Fin 4) (t : Fin 2048) (z : Fin 1), x (ix3 b t z) = ((f (2048 * b.val + t.val) : ℝ) : EReal)

variable (V0 : Valuation τ sig (Elt Ideal))
variable {PU PV PO : ℕ → Fin 512 → ℝ} {LG LB : Fin 512 → ℝ} {WS : Fin 4 → Fin 128 → Fin 128 → ℝ} {BS : Fin 4 → Fin 128 → ℝ}

/-- The reference's arguments hold these real numbers. -/
abbrev RealsRef (PU PV PO : ℕ → Fin 512 → ℝ) (LG LB : Fin 512 → ℝ) (WS : Fin 4 → Fin 128 → Fin 128 → ℝ) (BS : Fin 4 → Fin 128 → ℝ) : Prop :=
  Reals (V0 (Proc.devRef .tc main_arg0)) (V0 (Proc.devRef .tc main_arg1)) (V0 (Proc.devRef .tc main_arg2)) (V0 (Proc.devRef .tc main_arg3))
    (V0 (Proc.devRef .tc main_arg4)) (V0 (Proc.devRef .tc main_arg5)) PU PV PO LG LB WS BS

variable (H : RealsRef V0 PU PV PO LG LB WS BS)
include H

theorem ref_v3 : Rep3 (res_main_v3 V0) PO := by
  intro b t j
  refine Eq.trans ?_ (H.o ⟨2048 * b.val + t.val, by omega⟩ j)
  pointwise [res_main_v3]
  blk_ext!
theorem ref_v4 : Rep3 (res_main_v4 V0) PU := by
  intro b t j
  refine Eq.trans ?_ (H.u ⟨2048 * b.val + t.val, by omega⟩ j ⟨j.val, by omega⟩ rfl)
  pointwise [res_main_v4, res_main_v1]
  blk_ext!
theorem ref_v5 : Rep3 (res_main_v5 V0) PV := by
  intro b t j
  refine Eq.trans ?_ (H.v ⟨2048 * b.val + t.val, by omega⟩ j ⟨512 + j.val, by omega⟩ rfl)
  pointwise [res_main_v5, res_main_v1]
  blk_ext!

omit H in
theorem word_a : Ideal.div (Ideal.ofBits .f32 0x472EAB00#32) (Ideal.ofBits .f32 0x49742400#32) = ((rA : ℝ) : EReal) := by
  rw [show Ideal.ofBits .f32 0x472EAB00#32 = ((44715 : ℝ) : EReal) by simp [Ideal.ofBits, Ideal.ieee, -EReal.coe_mul]; norm_num,
    show Ideal.ofBits .f32 0x49742400#32 = ((1000000 : ℝ) : EReal) by simp [Ideal.ofBits, Ideal.ieee, -EReal.coe_mul]; norm_num,
    div_coe _ _ (by norm_num)]
  unfold rA
  norm_num
omit H in
theorem word_3 : Ideal.ofBits .f32 0x40400000#32 = ((3 : ℝ) : EReal) := by
  simp [Ideal.ofBits, Ideal.ieee, -EReal.coe_mul]; norm_num
omit H in
theorem word_mhalf : Ideal.ofBits .f32 0xBF000000#32 = ((-(1 / 2) : ℝ) : EReal) := by
  simp [Ideal.ofBits, Ideal.ieee, -EReal.coe_mul]; norm_num

/-! ## The GELU -/

theorem ref_v17 : Rep3 (res_main_v17 V0) (fun r j => rTanh (PU r j)) := by
  intro b t j
  have e := ref_v4 V0 H b t j
  pointwise [res_main_v17, res_main_v6]
  rw [e, word_a, word_c]
  simp only [← EReal.coe_mul, ← EReal.coe_add, tanh_coe]
  rfl
theorem ref_v39 : Rep3 (res_main_v39 V0) (fun r j => rTanh (PV r j)) := by
  intro b t j
  have e := ref_v5 V0 H b t j
  pointwise [res_main_v39, res_main_v28]
  rw [e, word_a, word_c]
  simp only [← EReal.coe_mul, ← EReal.coe_add, tanh_coe]
  rfl
theorem ref_v26 : Rep3 (res_main_v26 V0) (fun r j => 1 / 2 * (1 + rTanh (PU r j))) := by
  intro b t j
  have e := ref_v17 V0 H b t j
  pointwise [res_main_v26]
  rw [e, word_half, ← EReal.coe_one]
  simp only [← EReal.coe_mul, ← EReal.coe_add]
theorem ref_v48 : Rep3 (res_main_v48 V0) (fun r j => 1 / 2 * (1 + rTanh (PV r j))) := by
  intro b t j
  have e := ref_v39 V0 H b t j
  pointwise [res_main_v48]
  rw [e, word_half, ← EReal.coe_one]
  simp only [← EReal.coe_mul, ← EReal.coe_add]
theorem ref_v27 : Rep3 (res_main_v27 V0) (fun r j => rGelu (PU r j)) := by
  intro b t j
  have e := ref_v4 V0 H b t j
  have e' := ref_v26 V0 H b t j
  pointwise [res_main_v27]
  rw [e, e', ← EReal.coe_mul]
  unfold rGelu
  congr 1
  ring
theorem ref_v49 : Rep3 (res_main_v49 V0) (fun r j => rGelu (PV r j)) := by
  intro b t j
  have e := ref_v5 V0 H b t j
  have e' := ref_v48 V0 H b t j
  pointwise [res_main_v49]
  rw [e, e', ← EReal.coe_mul]
  unfold rGelu
  congr 1
  ring

/-! ## The layer norm -/

theorem ref_v55 : Rep3 (res_main_v55 V0) (fun r j => rCentre (fun k => rGelu (PV r k)) j) := by
  intro b t j
  have e := fun j => ref_v49 V0 H b t j
  pointwise [res_main_v55]
  simp only [e, word_512, ← coe_sum]
  rw [div_coe _ _ (by norm_num), ← EReal.coe_sub]
  rfl
theorem ref_v62 : Rep1 (res_main_v62 V0)
    (fun r => rMean (fun j => rCentre (fun k => rGelu (PV r k)) j * rCentre (fun k => rGelu (PV r k)) j) + rEps) := by
  intro b t z
  have e := fun j => ref_v55 V0 H b t j
  pointwise [res_main_v62]
  simp only [e, word_512, word_eps, ← EReal.coe_mul, ← coe_sum]
  rw [div_coe _ _ (by norm_num), ← EReal.coe_add]
  rfl
theorem ref_v63 : Rep1 (res_main_v63 V0) (fun r => rScale (fun k => rGelu (PV r k))) := by
  intro b t z
  have e := ref_v62 V0 H b t z
  pointwise [res_main_v63]
  rw [e, rsqrt_coe _ (rVar_pos _)]
  rfl
theorem ref_v68 : Rep3 (res_main_v68 V0) (fun r j => rNorm (fun k => rGelu (PV r k)) j) := by
  intro b t j
  have e := ref_v55 V0 H b t j
  have e' := ref_v63 V0 H b t 0
  pointwise [res_main_v68]
  rw [e, e', ← EReal.coe_mul]
  rfl
theorem ref_v69 (x y : Fin 1) (j : Fin 512) : (res_main_v69 V0 : FVec Ideal S1x1x512 .f32) (ix3 x y j) = ((LG j : ℝ) : EReal) := by
  have e := H.lg j
  pointwise [res_main_v69]
  exact e

/-! ## The layer norm's step backwards -/

omit H in
/-- The variance's share of the gradient. -/
theorem scale_cube (f : Fin 512 → ℝ) :
    rScale f / (rMean (fun j => rCentre f j * rCentre f j) + rEps) = rScale f * rScale f * rScale f := by
  have h := rVar_pos f
  unfold rScale
  generalize rMean (fun j => rCentre f j * rCentre f j) + rEps = v at h
  have e := Real.mul_self_sqrt h.le
  calc (√v)⁻¹ / v = (√v)⁻¹ * (√v * √v)⁻¹ := by rw [e, div_eq_mul_inv]
    _ = (√v)⁻¹ * (√v)⁻¹ * (√v)⁻¹ := by rw [mul_inv, mul_assoc]
omit H in
theorem centre_sum (f : Fin 512 → ℝ) : ∑ j, rCentre f j = 0 := by
  unfold rCentre rMean
  rw [Finset.sum_sub_distrib, Finset.sum_const, Finset.card_univ, Fintype.card_fin]
  simp
  ring
omit H in
/-- The reference's three terms are the layer norm's step backwards. -/
theorem back_eq (f d : Fin 512 → ℝ) (w : ℝ)
    (hw : w = (∑ k, rCentre f k * d k) * (-(1 / 2) * (rScale f / (rMean (fun j => rCentre f j * rCentre f j) + rEps))) / 512) (j : Fin 512) :
    d j * rScale f + rCentre f j * w + w * rCentre f j
      + (∑ k, -(d k * rScale f + rCentre f k * w + w * rCentre f k)) / 512 = rBack f d j := by
  have h1 : ∑ k, -(d k * rScale f + rCentre f k * w + w * rCentre f k) = -((∑ k, d k) * rScale f) := by
    rw [Finset.sum_neg_distrib, Finset.sum_add_distrib, Finset.sum_add_distrib, ← Finset.sum_mul, ← Finset.sum_mul, ← Finset.mul_sum,
      centre_sum]
    ring
  have h2 : rMean (fun k => d k * rNorm f k) = (∑ k, rCentre f k * d k) * rScale f / 512 := by
    unfold rMean rNorm
    rw [Finset.sum_mul]
    congr 1
    exact Finset.sum_congr rfl fun k _ => by ring
  rw [h1, hw, scale_cube]
  unfold rBack
  rw [h2]
  unfold rNorm
  rw [show rMean d = (∑ k, d k) / 512 from rfl]
  ring

theorem ref_v111 {N : ℕ → Fin 512 → ℝ} (h : Rep3 (res_main_v103 V0) N) : Rep3 (res_main_v111 V0) (fun r j => N r j * LG j) := by
  intro b t j
  have e := h b t j
  have e' := ref_v69 V0 H 0 0 j
  pointwise [res_main_v111]
  rw [e, e', ← EReal.coe_mul]
theorem ref_v122 {N : ℕ → Fin 512 → ℝ} (h : Rep3 (res_main_v111 V0) N) : Rep3 (res_main_v122 V0) (fun r _ =>
    (∑ k, rCentre (fun k => rGelu (PV r k)) k * N r k) * (-(1 / 2) * (rScale (fun k => rGelu (PV r k))
      / (rMean (fun j => rCentre (fun k => rGelu (PV r k)) j * rCentre (fun k => rGelu (PV r k)) j) + rEps))) / 512) := by
  intro b t j
  have e := fun j => h b t j
  have e1 := fun j => ref_v55 V0 H b t j
  have e2 := fun z => ref_v62 V0 H b t z
  have e3 := fun z => ref_v63 V0 H b t z
  pointwise [res_main_v122]
  rw [Fin.sum_univ_one]
  simp only [e, e1, e2, e3, word_512, word_mhalf, ← EReal.coe_mul, ← coe_sum]
  rw [div_coe _ _ (rVar_pos _).ne']
  simp only [← EReal.coe_mul]
  rw [div_coe _ _ (by norm_num)]
theorem ref_v126 {N : ℕ → Fin 512 → ℝ} {W : ℕ → Fin 512 → ℝ} (h : Rep3 (res_main_v111 V0) N) (hw : Rep3 (res_main_v122 V0) W) :
    Rep3 (res_main_v126 V0) (fun r j => N r j * rScale (fun k => rGelu (PV r k)) + rCentre (fun k => rGelu (PV r k)) j * W r j
      + W r j * rCentre (fun k => rGelu (PV r k)) j) := by
  intro b t j
  have e := h b t j
  have e1 := ref_v55 V0 H b t j
  have e2 := hw b t j
  have e3 := ref_v63 V0 H b t 0
  pointwise [res_main_v126]
  simp only [e, e1, e2, e3, ← EReal.coe_mul, ← EReal.coe_add]
omit H in
theorem ref_v134_of {M : ℕ → Fin 512 → ℝ} (h : Rep3 (res_main_v126 V0) M) : Rep3 (res_main_v134 V0) (fun r j => M r j + (∑ k, -M r k) / 512) := by
  intro b t j
  have e := fun j => h b t j
  pointwise [res_main_v134]
  rw [Fin.sum_univ_one]
  simp only [e, word_512, ← EReal.coe_neg, ← coe_sum]
  rw [div_coe _ _ (by norm_num), ← EReal.coe_add]
theorem ref_v134 {N : ℕ → Fin 512 → ℝ} (h : Rep3 (res_main_v103 V0) N) :
    Rep3 (res_main_v134 V0) (fun r j => rBack (fun k => rGelu (PV r k)) (fun k => N r k * LG k) j) := by
  have h1 := ref_v111 V0 H h
  intro b t j
  refine (ref_v134_of V0 (ref_v126 V0 H h1 (ref_v122 V0 H h1)) b t j).trans (congrArg _ ?_)
  exact back_eq (fun k => rGelu (PV (2048 * b.val + t.val) k)) (fun k => N (2048 * b.val + t.val) k * LG k) _ rfl j

/-! ## The GELU's step backwards -/

omit H in
/-- The three terms by which the reference multiplies a gradient `g` by the GELU's slope at `x`. -/
theorem slope_eq (g x : ℝ) : g * (1 / 2 * (1 + rTanh x)) + rC * (1 / 2 * (x * g) * ((1 + rTanh x) * (1 - rTanh x)))
    + rA * (rC * (1 / 2 * (x * g) * ((1 + rTanh x) * (1 - rTanh x)))) * (3 * (x * x)) = g * rSlope x := by
  unfold rSlope rA
  ring

theorem ref_v141 {G : ℕ → Fin 512 → ℝ} (h : Rep3 (res_main_v134 V0) G) :
    Rep3 (res_main_v141 V0) (fun r j => rC * (1 / 2 * (PV r j * G r j) * ((1 + rTanh (PV r j)) * (1 - rTanh (PV r j))))) := by
  intro b t j
  have e := h b t j
  have e1 := ref_v5 V0 H b t j
  have e2 := ref_v39 V0 H b t j
  pointwise [res_main_v141]
  rw [e, e1, e2, word_c, word_half, ← EReal.coe_one]
  simp only [← EReal.coe_mul, ← EReal.coe_add, ← EReal.coe_sub]
theorem ref_v153 {G : ℕ → Fin 512 → ℝ} (h : Rep3 (res_main_v90 V0) G) :
    Rep3 (res_main_v153 V0) (fun r j => rC * (1 / 2 * (PU r j * G r j) * ((1 + rTanh (PU r j)) * (1 - rTanh (PU r j))))) := by
  intro b t j
  have e := h b t j
  have e1 := ref_v4 V0 H b t j
  have e2 := ref_v17 V0 H b t j
  pointwise [res_main_v153]
  rw [e, e1, e2, word_c, word_half, ← EReal.coe_one]
  simp only [← EReal.coe_mul, ← EReal.coe_add, ← EReal.coe_sub]

end Cert.Gmlp

end
-- ==== Proof.Gmlp.RefChunk.lean ====
/-
  The reference's operations over the real numbers, chunk by chunk: the spatial mixing of the 64 chunks of 128 rows, forwards and
  backwards.
-/
module

public import proofs.«01_k».proof.Proof.Gmlp.RefRow

@[expose] public section
set_option maxRecDepth 16384

noncomputable section
namespace Cert.Gmlp
open Idealize.ShloMosaic Idealize.ShloMosaic.TcCoe Idealize.ShloMosaic.Tactic Idealize.ShloMosaic.StableHlo
open Cert.ReferenceIdeal Cert.ReferenceIdeal.Gen Cert.ReferenceIdeal.Value

variable (V0 : Valuation τ sig (Elt Ideal))
variable {PU PV PO : ℕ → Fin 512 → ℝ} {LG LB : Fin 512 → ℝ} {WS : Fin 4 → Fin 128 → Fin 128 → ℝ} {BS : Fin 4 → Fin 128 → ℝ}
variable (H : RealsRef V0 PU PV PO LG LB WS BS)

/-- A chunked array (batch, chunk, row, group, lane) holds the chunks' real numbers. -/
def Rep5 (x : FVec Ideal S4x16x128x4x128 .f32) (f : ℕ → Fin 128 → Fin 512 → ℝ) : Prop :=
  ∀ (b : Fin 4) (n : Fin 16) (s : Fin 128) (g : Fin 4) (c : Fin 128),
    x (ix5 b n s g c) = ((f (16 * b.val + n.val) s (col g c) : ℝ) : EReal)

/-- The rows of the chunks. -/
def flat (f : ℕ → Fin 128 → Fin 512 → ℝ) (r : ℕ) (j : Fin 512) : ℝ := f (r / 128) ⟨r % 128, Nat.mod_lt _ (by omega)⟩ j

/-- A sequence array read at a chunk's row. -/
theorem Rep3.chunk {x : FVec Ideal S4x2048x512 .f32} {f : ℕ → Fin 512 → ℝ} (h : Rep3 x f) (b : Fin 4) (n : Fin 16) (s : Fin 128)
    (j : Fin 512) (r : Fin 2048) (k : Fin 512) (hr : r.val = n.val * 128 + s.val) (hk : k.val = j.val) :
    x (ix3 b r k) = ((ch f (16 * b.val + n.val) s j : ℝ) : EReal) := by
  obtain rfl : k = j := Fin.ext hk
  rw [h b r k]
  unfold ch
  rw [show 2048 * b.val + r.val = 128 * (16 * b.val + n.val) + s.val by omega]
/-- A chunked array read at a sequence array's index. -/
theorem Rep5.flat {x : FVec Ideal S4x16x128x4x128 .f32} {f : ℕ → Fin 128 → Fin 512 → ℝ} (h : Rep5 x f) (b : Fin 4) (n : Fin 16)
    (s : Fin 128) (g : Fin 4) (c : Fin 128) (N : ℕ) (j : Fin 512) (hN : N = 16 * b.val + n.val) (hg : g.val = j.val / 128) (hc : c.val = j.val % 128) :
    x (ix5 b n s g c) = ((f N s j : ℝ) : EReal) := by
  obtain rfl : j = col g c := Fin.ext (by show j.val = 128 * g.val + c.val; omega)
  rw [h b n s g c, hN]

include H
theorem ref_v75 : Rep5 (res_main_v75 V0) (fun n => rVn (ch PV n) LG LB) := by
  intro b n s g c
  have e := (ref_v68 V0 H).chunk b n s (col g c)
  have e1 := ref_v69 V0 H 0 0
  have e2 := H.lb
  have hj : g.val * 128 + c.val = (col g c).val := by show g.val * 128 + c.val = 128 * g.val + c.val; omega
  pointwise [res_main_v75]
  rw [e _ _ rfl hj, e1, e2]
  simp only [← EReal.coe_mul, ← EReal.coe_add]
  rw [show (⟨g.val * 128 + c.val, by omega⟩ : Fin 512) = col g c from Fin.ext hj]
  rfl
theorem ref_v91 : Rep5 (res_main_v91 V0) (fun n t j => rDs (ch PU n) (ch PO n) (grp j) t (lane j)) := by
  intro b n s g c
  have e := (ref_v27 V0 H).chunk b n s (col g c)
  have e1 := (ref_v3 V0 H).chunk b n s (col g c)
  have hj : g.val * 128 + c.val = (col g c).val := by show g.val * 128 + c.val = 128 * g.val + c.val; omega
  pointwise [res_main_v91]
  rw [e _ _ rfl hj, e1 _ _ rfl hj, ← EReal.coe_mul, grp_eq (col g c) g c rfl, lane_eq (col g c) g c rfl, mul_comm]
  rfl
omit H in
theorem ref_mask {α : Type} (g : Fin 4) (t s : Fin 128) (a b : α) :
    Scalar.select ((res_main_v79_1 V0 : IVec S4x128x128 1) (ix3 g t s)) a b = if s ≤ t then a else b := by
  have e : (res_main_v79_1 V0 : IVec S4x128x128 1) (ix3 g t s) = if s ≤ t then (1#1 : BitVec 1) else (0#1 : BitVec 1) := by
    pointwise [res_main_v79_1]
    rw [show IntOp.addi (BitVec.ofNat 32 t.val) 0#32 = BitVec.ofNat 32 t.val from BitVec.add_zero _]
    exact tril_word t s _ _
  rw [e]
  split_ifs <;> rfl
theorem ref_v79 (g : Fin 4) (t s : Fin 128) : (res_main_v79_0 V0 : FVec Ideal S4x128x128 .f32) (ix3 g t s) = ((rTril (WS g) t s : ℝ) : EReal) := by
  have e := H.ws g t s
  pointwise [res_main_v79_0]
  rw [ref_mask, e]
  unfold rTril
  split_ifs
  · rfl
  · simp [id, constant, Ideal.ofBits, Ideal.ieee]
theorem ref_v103 : Rep3 (res_main_v103 V0) (flat fun n => rDvn (ch PU n) (ch PO n) WS) := by
  intro b t j
  have e := ref_v91 V0 H
  have e1 := ref_v79 V0 H
  pointwise [res_main_v103, res_main_v98, dot_S4x4x16x128x128_S4x128x128_S4x4x16x128x128_4_1_123_2_0_0]
  simp only [e.flat b ⟨t.val / 128, by omega⟩ _ ⟨j.val / 128, by omega⟩ ⟨j.val % 128, by omega⟩ ((2048 * b.val + t.val) / 128) j (by dsimp only; omega) rfl rfl,
    e1, ← EReal.coe_mul, ← coe_sum]
  unfold flat rDvn
  simp only [show (2048 * b.val + t.val) % 128 = t.val % 128 by omega]
  refine congrArg _ (Finset.sum_congr rfl fun x _ => ?_)
  rw [mul_comm]
  rfl
theorem ref_v90 : Rep3 (res_main_v90 V0) (flat fun n t j => ch PO n t j * (∑ s, rTril (WS (grp j)) t s * rVn (ch PV n) LG LB s j + BS (grp j) t)) := by
  intro b t j
  have e := ref_v75 V0 H
  have e1 := ref_v79 V0 H
  have e2 := H.bs
  have e3 := (ref_v3 V0 H).chunk b ⟨t.val / 128, by omega⟩ ⟨t.val % 128, by omega⟩ j t j (by dsimp only; omega) rfl
  pointwise [res_main_v90, res_main_v87, dot_S4x16x128x4x128_S4x128x128_S4x4x16x128x128_2_2_014_1_3_0]
  simp only [e.flat b ⟨t.val / 128, by omega⟩ _ ⟨j.val / 128, by omega⟩ ⟨j.val % 128, by omega⟩ ((2048 * b.val + t.val) / 128) j (by dsimp only; omega) rfl rfl,
    e1, e2, e3, ← EReal.coe_mul, ← coe_sum, ← EReal.coe_add]
  unfold flat
  simp only [show (2048 * b.val + t.val) % 128 = t.val % 128 by omega, show (2048 * b.val + t.val) / 128 = 16 * b.val + t.val / 128 by omega]
  refine congrArg _ (congrArg _ (congrArg (· + _) (Finset.sum_congr rfl fun x _ => ?_)))
  rw [mul_comm]
  rfl

end Cert.Gmlp

end
-- ==== Proof.Gmlp.RefOut.lean ====
/-
  The reference's five results over the real numbers.
-/
module

public import proofs.«01_k».proof.Proof.Gmlp.RefChunk

@[expose] public section
set_option maxRecDepth 16384

noncomputable section
namespace Cert.Gmlp
open Idealize.ShloMosaic Idealize.ShloMosaic.TcCoe Idealize.ShloMosaic.Tactic Idealize.ShloMosaic.StableHlo
open Cert.ReferenceIdeal Cert.ReferenceIdeal.Gen Cert.ReferenceIdeal.Value

/-- A sum over the first two axes of three. -/
theorem sum_01 {n0 n1 n2 : ℕ} (h : (⟨3, ![n0, n1, n2]⟩ : Shape).ReducesTo [0, 1] ⟨1, ![n2]⟩) (x : (⟨3, ![n0, n1, n2]⟩ : Shape).Idx → EReal)
    (init : EReal) (j : Fin n2) : Ideal.hostReduceAdd h x init (ix1 j) = init + ∑ a : Fin n0, ∑ b : Fin n1, x (ix3 a b j) := by
  unfold Ideal.hostReduceAdd
  rw [Finset.sum_filter, sum_idx3]
  refine congrArg _ (Finset.sum_congr rfl fun a _ => Finset.sum_congr rfl fun b _ => ?_)
  have e : ∀ c : Fin n2, (h.drop (ix3 a b c) = ix1 j) = (c = j) := fun c => propext
    ⟨fun k => Fin.ext (by have := congrArg Fin.val (congrFun k 0); exact this), fun k => by
      subst k; funext q; obtain rfl : q = 0 := Subsingleton.elim _ _; exact Fin.ext rfl⟩
  simp only [e, Finset.sum_ite_eq', Finset.mem_univ, if_true]

/-- A sum over the first, second and last axes of five. -/
theorem sum_014 {n0 n1 n2 n3 n4 : ℕ} (h : (⟨5, ![n0, n1, n2, n3, n4]⟩ : Shape).ReducesTo [0, 1, 4] ⟨2, ![n2, n3]⟩)
    (x : (⟨5, ![n0, n1, n2, n3, n4]⟩ : Shape).Idx → EReal) (init : EReal) (i : Fin n2) (j : Fin n3) :
    Ideal.hostReduceAdd h x init (ix2 i j) = init + ∑ a : Fin n0, ∑ b : Fin n1, ∑ c : Fin n4, x (ix5 a b i j c) := by
  unfold Ideal.hostReduceAdd
  rw [Finset.sum_filter, sum_idx5]
  refine congrArg _ (Finset.sum_congr rfl fun a _ => Finset.sum_congr rfl fun b _ => ?_)
  have e : ∀ (p : Fin n2) (q : Fin n3) (c : Fin n4), (h.drop (ix5 a b p q c) = ix2 i j) = (p = i ∧ q = j) := fun p q c => propext
    ⟨fun k => ⟨Fin.ext (by have := congrArg Fin.val (congrFun k 0); exact this), Fin.ext (by have := congrArg Fin.val (congrFun k 1); exact this)⟩,
      fun k => by
        obtain ⟨rfl, rfl⟩ := k
        funext z
        match z with
        | ⟨0, _⟩ => exact Fin.ext rfl
        | ⟨1, _⟩ => exact Fin.ext rfl⟩
  simp only [e]
  rw [Finset.sum_eq_single i (fun p _ hp => Finset.sum_eq_zero fun q _ => Finset.sum_eq_zero fun c _ => if_neg fun k => hp k.1)
    (fun k => absurd (Finset.mem_univ _) k),
    Finset.sum_eq_single j (fun q _ hq => Finset.sum_eq_zero fun c _ => if_neg fun k => hq k.2) (fun k => absurd (Finset.mem_univ _) k)]
  exact Finset.sum_congr rfl fun c _ => if_pos ⟨rfl, rfl⟩

/-- The contraction of the spatial weights' gradient. -/
abbrev gwDot := dot_S4x4x16x128x128_S4x16x128x4x128_S4x128x128_123_014_4_2_0_3
/-- Its contraction index from batch, chunk and lane. -/
def pick (p : Fin 4 × Fin 16 × Fin 128) : gwDot.contr.Idx := fun a => match a with
  | ⟨0, _⟩ => (p.1 : Fin 4)
  | ⟨1, _⟩ => (p.2.1 : Fin 16)
  | ⟨2, _⟩ => (p.2.2 : Fin 128)
/-- Every contraction index is of this form. -/
def pickEquiv : Fin 4 × Fin 16 × Fin 128 ≃ gwDot.contr.Idx where
  toFun := pick
  invFun k := ((k ⟨0, by decide⟩ : Fin 4), (k ⟨1, by decide⟩ : Fin 16), (k ⟨2, by decide⟩ : Fin 128))
  left_inv _ := rfl
  right_inv k := by
    funext a
    match a with
    | ⟨0, _⟩ => rfl
    | ⟨1, _⟩ => rfl
    | ⟨2, _⟩ => rfl
/-- The contraction at an index: a sum over batch, chunk and lane. -/
theorem gw_apply (x : FVec Ideal S4x4x16x128x128 .f32) (y : FVec Ideal S4x16x128x4x128 .f32) (g : Fin 4) (t s : Fin 128) :
    Host.dotGeneral (φ₁ := .f32) (φ₂ := .f32) gwDot none x y (ix3 g t s)
      = ∑ b : Fin 4, ∑ n : Fin 16, ∑ c : Fin 128, x (ix5 g b n c t) * y (ix5 b n s g c) := by
  have e : Host.dotGeneral (φ₁ := .f32) (φ₂ := .f32) gwDot none x y (ix3 g t s)
      = ∑ k : gwDot.contr.Idx, x (gwDot.lhsIdx (ix3 g t s) k) * y (gwDot.rhsIdx (ix3 g t s) k) := zero_add _
  rw [e, ← Fintype.sum_equiv pickEquiv (fun p => x (ix5 g p.1 p.2.1 p.2.2 t) * y (ix5 p.1 p.2.1 s g p.2.2)) _ fun p => ?_]
  · simp only [Fintype.sum_prod_type]
  · have el : gwDot.lhsIdx (ix3 g t s) (pick p) = ix5 g p.1 p.2.1 p.2.2 t := by
      funext a
      match a with
      | ⟨0, _⟩ => rfl
      | ⟨1, _⟩ => rfl
      | ⟨2, _⟩ => rfl
      | ⟨3, _⟩ => rfl
      | ⟨4, _⟩ => rfl
    have er : gwDot.rhsIdx (ix3 g t s) (pick p) = ix5 p.1 p.2.1 s g p.2.2 := by
      funext a
      match a with
      | ⟨0, _⟩ => rfl
      | ⟨1, _⟩ => rfl
      | ⟨2, _⟩ => rfl
      | ⟨3, _⟩ => rfl
      | ⟨4, _⟩ => rfl
    show _ = x (gwDot.lhsIdx (ix3 g t s) (pick p)) * y (gwDot.rhsIdx (ix3 g t s) (pick p))
    rw [el, er]

/-- Chunk by chunk: sixteen chunks of each of four sequences. -/
theorem sum_chunks (f : ℕ → ℝ) : ∑ b : Fin 4, ∑ n : Fin 16, f (16 * b.val + n.val) = ∑ n ∈ Finset.range 64, f n := by
  rw [Finset.sum_range, Fin.sum_univ_tiles 4 16 rfl]
  exact Finset.sum_congr rfl fun b _ => Finset.sum_congr rfl fun n _ => by rw [Nat.mul_comm 16]
/-- Row by row: 2048 rows of each of four sequences, 128 in a chunk. -/
theorem sum_rows (f : ℕ → Fin 128 → ℝ) : ∑ b : Fin 4, ∑ t : Fin 2048,
    f ((2048 * b.val + t.val) / 128) ⟨(2048 * b.val + t.val) % 128, Nat.mod_lt _ (by omega)⟩ = ∑ n ∈ Finset.range 64, ∑ s, f n s := by
  rw [← sum_chunks fun n => ∑ s, f n s]
  refine Finset.sum_congr rfl fun b _ => ?_
  rw [Fin.sum_univ_tiles 16 128 rfl]
  refine Finset.sum_congr rfl fun n _ => Finset.sum_congr rfl fun s _ => ?_
  congr 1
  · dsimp only; omega
  · exact Fin.ext (by dsimp only; omega)

/-- The first result is written at the origin. -/
theorem start0 {st : Fin S8192x6144.rank → ℤ} (h0 : ∀ a, st a = 0) (h) (a : Fin S8192x6144.rank) : Host.clampedStart S8192x6144 S8192x1024 h st a = 0 := by
  unfold Host.clampedStart
  rw [h0 a]
  simp
variable (V0 : Valuation τ sig (Elt Ideal))
variable {PU PV PO : ℕ → Fin 512 → ℝ} {LG LB : Fin 512 → ℝ} {WS : Fin 4 → Fin 128 → Fin 128 → ℝ} {BS : Fin 4 → Fin 128 → ℝ}
variable (H : RealsRef V0 PU PV PO LG LB WS BS)

/-- Both factors' gradients, side by side. -/
def grads : FVec Ideal S4x2048x1024 .f32 :=
  concatenate S4x2048x1024 2 [⟨S4x2048x512, (addf (addf (mulf (res_main_v90 V0) (res_main_v26 V0)) (res_main_v153 V0)) (mulf (mulf (broadcastInDim S4x2048x512 ![] bcast_S_S4x2048x512 (res_main_v6 V0)) (res_main_v153 V0)) (mulf (broadcastInDim S4x2048x512 ![] bcast_S_S4x2048x512 (constant S_ .f32 0x40400000#32)) (mulf (res_main_v4 V0) (res_main_v4 V0)))))⟩, ⟨S4x2048x512, (addf (addf (mulf (res_main_v134 V0) (res_main_v48 V0)) (res_main_v141 V0)) (mulf (mulf (broadcastInDim S4x2048x512 ![] bcast_S_S4x2048x512 (res_main_v28 V0)) (res_main_v141 V0)) (mulf (broadcastInDim S4x2048x512 ![] bcast_S_S4x2048x512 (constant S_ .f32 0x40400000#32)) (mulf (res_main_v5 V0) (res_main_v5 V0)))))⟩] concatenates_S4x2048x512_S4x2048x512_S4x2048x1024_d2
/-- The first result: both factors' gradients, written into the last argument's first 1024 columns. -/
def out0 : FVec Ideal S8192x6144 .bf16 :=
  Host.dynamicUpdateSlice (V0 (Proc.devRef .tc main_arg6)) (truncf .bf16 (shapeCast S8192x1024 (grads V0) shapeCasts_S4x2048x1024_S8192x1024) bitsLt_bf16_f32) (fun k => (((![constantI S_ 32 0#32, constantI S_ 32 0#32] : Fin 2 → (⟨S_, .i32⟩ : BufTy).Contents (Elt Ideal))) k (Shape.Idx.first h_S_)).toInt) updateFits_S8192x6144_S8192x1024
/-- The second: the spatial weights' gradient. -/
def out1 : FVec Ideal S4x128x128 .f32 :=
  select (res_main_v79_1 V0) (Host.dotGeneral (φ₁ := .f32) (φ₂ := .f32) dot_S4x4x16x128x128_S4x16x128x4x128_S4x128x128_123_014_4_2_0_3 none (res_main_v98 V0) (res_main_v75 V0)) (broadcastInDim S4x128x128 ![] bcast_S_S4x128x128 (constant S_ .f32 0x00000000#32))
/-- The third: the spatial biases' gradient, in every column. -/
def out2 : FVec Ideal S4x128x128 .f32 :=
  broadcastInDim S4x128x128 ![0, 1, 2] bcast_S4x128x1_S4x128x128_0_1_2 (broadcastInDim S4x128x1 ![0, 1] bcast_S4x128_S4x128x1_0_1 (transpose S4x128 [1, 0] (Host.reduceAdd (broadcastInDim S128x4x1 ![0, 1] bcast_S128x4_S128x4x1_0_1 (Host.reduceAdd (shapeCast _ (Host.reduceAdd (res_main_v91 V0) (constant S_ .f32 0x00000000#32) reducesTo_S4x16x128x4x128_S128x4_d0_1_4 h_S_) shapeCasts_S128x4_S1x1x128x4x1) (constant S_ .f32 0x00000000#32) reducesTo_S1x1x128x4x1_S128x4_d0_1_4 h_S_)) (constant S_ .f32 0x00000000#32) reducesTo_S128x4x1_S128x4_d2 h_S_) transposes_S128x4_S4x128_1_0))
/-- The fourth: the gain's gradient. -/
def out3 : FVec Ideal S1x512 .f32 :=
  shapeCast _ (Host.reduceAdd (shapeCast _ (Host.reduceAdd (mulf (res_main_v68 V0) (res_main_v103 V0)) (constant S_ .f32 0x00000000#32) reducesTo_S4x2048x512_S512_d0_1 h_S_) shapeCasts_S512_S1x1x512) (constant S_ .f32 0x00000000#32) reducesTo_S1x1x512_S512_d0_1 h_S_) shapeCasts_S512_S1x512
/-- The fifth: the shift's gradient. -/
def out4 : FVec Ideal S1x512 .f32 :=
  shapeCast _ (Host.reduceAdd (shapeCast _ (Host.reduceAdd (res_main_v103 V0) (constant S_ .f32 0x00000000#32) reducesTo_S4x2048x512_S512_d0_1 h_S_) shapeCasts_S512_S1x1x512) (constant S_ .f32 0x00000000#32) reducesTo_S1x1x512_S512_d0_1 h_S_) shapeCasts_S512_S1x512

theorem res_v98 (g b : Fin 4) (n : Fin 16) (c t : Fin 128) :
    (res_main_v98 V0 : FVec Ideal S4x4x16x128x128 .f32) (ix5 g b n c t) = res_main_v91 V0 (ix5 b n t g c) := by
  pointwise [res_main_v98]

include H
theorem read_out1 (g : Fin 4) (t s : Fin 128) :
    out1 V0 (ix3 g t s) = ((∑ n ∈ Finset.range 64, chunk8 PU PV PO LG LB WS n g t s : ℝ) : EReal) := by
  unfold out1
  have e := ref_v91 V0 H
  have e1 := ref_v75 V0 H
  refine (ref_mask V0 g t s _ _).trans ?_
  rw [gw_apply]
  by_cases h : s ≤ t
  · rw [if_pos h]
    simp only [res_v98 V0, e _ _ _ _ _, e1 _ _ _ _ _, ← EReal.coe_mul, ← coe_sum]
    rw [sum_chunks fun n => ∑ c, rDs (ch PU n) (ch PO n) (grp (col g c)) t (lane (col g c)) * rVn (ch PV n) LG LB s (col g c)]
    unfold chunk8 rGw
    simp only [if_pos h, grp_eq (col g _) g _ rfl, lane_eq (col g _) g _ rfl]
  · rw [if_neg h]
    unfold chunk8 rGw
    simp only [if_neg h, Finset.sum_const_zero]
    pointwise []
    simp
theorem read_out2 (g : Fin 4) (t s : Fin 128) :
    out2 V0 (ix3 g t s) = ((∑ n ∈ Finset.range 64, chunk9 PU PV PO LG LB WS n g t s : ℝ) : EReal) := by
  pointwise [out2]
  rw [Fin.sum_univ_one, sum_014]
  pointwise []
  rw [sum_014]
  have e := ref_v91 V0 H
  simp only [Fin.sum_univ_one, zero_add, e _ _ _ _ _, ← coe_sum]
  rw [sum_chunks fun n => ∑ c, rDs (ch PU n) (ch PO n) (grp (col g c)) t (lane (col g c))]
  unfold chunk9 rGb
  simp only [grp_eq (col g _) g _ rfl, lane_eq (col g _) g _ rfl]
theorem read_out3 (z : Fin 1) (j : Fin 512) :
    out3 V0 (ix2 z j) = ((∑ n ∈ Finset.range 64, chunk10 PU PV PO LG LB WS n j : ℝ) : EReal) := by
  pointwise [out3]
  rw [sum_01]
  pointwise []
  rw [sum_01]
  have e := ref_v103 V0 H
  have e1 := ref_v68 V0 H
  pointwise []
  simp only [Fin.sum_univ_one, zero_add, e _ _ _, e1 _ _ _, ← EReal.coe_mul, ← coe_sum]
  unfold chunk10 rGlg
  rw [← sum_rows]
  refine congrArg _ (Finset.sum_congr rfl fun b _ => Finset.sum_congr rfl fun t _ => ?_)
  rw [mul_comm]
  unfold flat ch
  rw [Nat.div_add_mod]
theorem read_out4 (z : Fin 1) (j : Fin 512) :
    out4 V0 (ix2 z j) = ((∑ n ∈ Finset.range 64, chunk11 PU PV PO LG LB WS n j : ℝ) : EReal) := by
  pointwise [out4]
  rw [sum_01]
  pointwise []
  rw [sum_01]
  have e := ref_v103 V0 H
  simp only [Fin.sum_univ_one, zero_add, e _ _ _, ← coe_sum]
  unfold chunk11 rGlb
  rw [← sum_rows]
  rfl
theorem grads_lo (b : Fin 4) (t : Fin 2048) (k : Fin 1024) (j : Fin 512) (h : k.val = j.val) :
    grads V0 (ix3 b t k) = ((rFactors PU PV PO LG LB WS BS ((2048 * b.val + t.val) / 128) ⟨(2048 * b.val + t.val) % 128, Nat.mod_lt _ (by omega)⟩ k.val : ℝ) : EReal) := by
  have e := ref_v90 V0 H b t j
  have e1 := ref_v153 V0 H (ref_v90 V0 H) b t j
  have e2 := ref_v26 V0 H b t j
  have e3 := ref_v4 V0 H b t j
  have hk : (⟨k.val, by omega⟩ : Fin 512) = j := Fin.ext h
  pointwise [grads, res_main_v6]
  rw [dif_pos (by omega), hk, e, e1, e2, e3, word_a, word_3]
  simp only [← EReal.coe_mul, ← EReal.coe_add]
  rw [slope_eq]
  unfold rFactors
  rw [dif_pos (by omega), hk]
  unfold flat rDu
  rw [show col (grp j) (lane j) = j from Fin.ext (Nat.div_add_mod _ _)]
  refine congrArg _ (congrArg _ (congrArg rSlope ?_))
  unfold ch
  rw [Nat.div_add_mod]
theorem grads_hi (b : Fin 4) (t : Fin 2048) (k : Fin 1024) (j : Fin 512) (h : k.val = 512 + j.val) :
    grads V0 (ix3 b t k) = ((rFactors PU PV PO LG LB WS BS ((2048 * b.val + t.val) / 128) ⟨(2048 * b.val + t.val) % 128, Nat.mod_lt _ (by omega)⟩ k.val : ℝ) : EReal) := by
  have g := ref_v134 V0 H (ref_v103 V0 H)
  have e := g b t j
  have e1 := ref_v141 V0 H g b t j
  have e2 := ref_v48 V0 H b t j
  have e3 := ref_v5 V0 H b t j
  have hk : (⟨k.val - 512, by omega⟩ : Fin 512) = j := Fin.ext (by dsimp only; omega)
  pointwise [grads, res_main_v28]
  rw [dif_neg (by omega), hk, e, e1, e2, e3, word_a, word_3]
  simp only [← EReal.coe_mul, ← EReal.coe_add]
  rw [slope_eq]
  unfold rFactors
  rw [dif_neg (by omega)]
  rw [show (⟨(k.val - 512) % 512, Nat.mod_lt _ (by omega)⟩ : Fin 512) = j from Fin.ext (by dsimp only; omega)]
  unfold flat rDv ch
  rw [Nat.div_add_mod]
theorem read_out0 (r : Fin 8192) (k : Fin 6144) :
    out0 V0 (ix2 r k) = if k.val < 1024 then ((rFactors PU PV PO LG LB WS BS (r.val / 128) ⟨r.val % 128, Nat.mod_lt _ (by omega)⟩ k.val : ℝ) : EReal)
      else (V0 (Proc.devRef .tc main_arg6) : FVec Ideal S8192x6144 .bf16) (ix2 r k) := by
  unfold out0
  generalize hs : (fun k => (((![constantI S_ 32 0#32, constantI S_ 32 0#32] : Fin 2 → (⟨S_, .i32⟩ : BufTy).Contents (Elt Ideal))) k (Shape.Idx.first h_S_)).toInt) = st
  have h0 : ∀ a, st a = 0 := by
    subst hs
    intro a
    match a with
    | ⟨0, _⟩ => rfl
    | ⟨1, _⟩ => rfl
  pointwise []
  simp only [start0 h0]
  by_cases h : k.val < 1024
  · rw [dif_pos (by omega), if_pos h]
    simp only [Nat.sub_zero]
    have er : 2048 * (r.val / 2048) + r.val % 2048 = r.val := Nat.div_add_mod _ _
    by_cases hk : k.val < 512
    · refine (grads_lo V0 H ⟨r.val / 2048, by omega⟩ ⟨r.val % 2048, by omega⟩ ⟨k.val, by omega⟩ ⟨k.val, hk⟩ rfl).trans ?_
      simp only [er]
    · refine (grads_hi V0 H ⟨r.val / 2048, by omega⟩ ⟨r.val % 2048, by omega⟩ ⟨k.val, by omega⟩ ⟨k.val - 512, by omega⟩ (by dsimp only; omega)).trans ?_
      simp only [er]
  · rw [dif_neg (by omega), if_neg h]

end Cert.Gmlp

end
-- ==== Proof.Gmlp.Equation.lean ====
/-
  The equation: under the precondition the kernel's five arrays are the reference's five results.
-/
module

public import proofs.«01_k».proof.Proof.Gmlp.Finite
public import proofs.«01_k».proof.Proof.Gmlp.RefOut

@[expose] public section
set_option maxRecDepth 16384

noncomputable section
namespace Cert.Gmlp
open Idealize.ShloMosaic Idealize.ShloMosaic.TcCoe Idealize.ShloMosaic.Tactic Idealize.ShloMosaic.StableHlo
open Cert.KernelIdeal Cert.KernelIdeal.Gen Cert.KernelIdeal.Value

variable (m : (ℓ : Loc nD τ sig) → Buf (Elt Ideal) ℓ) (c : Dev nD)
variable (V0 : Valuation Cert.ReferenceIdeal.τ Cert.ReferenceIdeal.sig (Elt Ideal))

/-- The reference's arguments are the kernel's. -/
structure Same : Prop where
  a0 : V0 (Proc.devRef .tc Cert.ReferenceIdeal.main_arg0) = m (c.tc.loc main_arg0)
  a1 : V0 (Proc.devRef .tc Cert.ReferenceIdeal.main_arg1) = m (c.tc.loc main_arg1)
  a2 : V0 (Proc.devRef .tc Cert.ReferenceIdeal.main_arg2) = m (c.tc.loc main_arg2)
  a3 : V0 (Proc.devRef .tc Cert.ReferenceIdeal.main_arg3) = m (c.tc.loc main_arg3)
  a4 : V0 (Proc.devRef .tc Cert.ReferenceIdeal.main_arg4) = m (c.tc.loc main_arg4)
  a5 : V0 (Proc.devRef .tc Cert.ReferenceIdeal.main_arg5) = m (c.tc.loc main_arg5)
  a6 : V0 (Proc.devRef .tc Cert.ReferenceIdeal.main_arg6) = m (c.tc.loc main_arg6)

variable {m c V0} {PU PV PO : ℕ → Fin 512 → ℝ} {LG LB : Fin 512 → ℝ} {WS : Fin 4 → Fin 128 → Fin 128 → ℝ} {BS : Fin 4 → Fin 128 → ℝ}

theorem Same.reals (e : Same m c V0) (H : RealsAt m c PU PV PO LG LB WS BS) : RealsRef V0 PU PV PO LG LB WS BS := by
  constructor
  · intro r j k h; rw [e.a0]; exact H.u r j k h
  · intro r j k h; rw [e.a0]; exact H.v r j k h
  · intro r j; rw [e.a1]; exact H.o r j
  · intro j; rw [e.a2]; exact H.lg j
  · intro j; rw [e.a3]; exact H.lb j
  · intro g t s; rw [e.a4]; exact H.ws g t s
  · intro g t; rw [e.a5]; exact H.bs g t

variable (h : Pre_KernelIdeal_finite m) (e : Same m c V0)
include h e

theorem meet0 : out0 V0 = ((dats m 0 c).arrAt 7 cfg0.N : FVec Ideal S8192x6144 .bf16) := by
  obtain ⟨PU, PV, PO, LG, LB, WS, BS, H⟩ := realsAt m c h
  funext i
  rw [eq_ix2 i]
  refine (read_out0 V0 (e.reals H) _ _).trans ((array_7 m c H _ _).trans ?_).symm
  rw [e.a6]
theorem meet1 : out1 V0 = ((dats m 0 c).arrAt 8 cfg0.N : FVec Ideal S4x128x128 .f32) := by
  obtain ⟨PU, PV, PO, LG, LB, WS, BS, H⟩ := realsAt m c h
  funext i
  rw [eq_ix3 i]
  exact (read_out1 V0 (e.reals H) _ _ _).trans (array_8 m c H _ _ _).symm
theorem meet2 : out2 V0 = ((dats m 0 c).arrAt 9 cfg0.N : FVec Ideal S4x128x128 .f32) := by
  obtain ⟨PU, PV, PO, LG, LB, WS, BS, H⟩ := realsAt m c h
  funext i
  rw [eq_ix3 i]
  exact (read_out2 V0 (e.reals H) _ _ _).trans (array_9 m c H _ _ _).symm
theorem meet3 : out3 V0 = ((dats m 0 c).arrAt 10 cfg0.N : FVec Ideal S1x512 .f32) := by
  obtain ⟨PU, PV, PO, LG, LB, WS, BS, H⟩ := realsAt m c h
  funext i
  rw [eq_ix2 i]
  exact (read_out3 V0 (e.reals H) _ _).trans (array_10 m c H _ _).symm
theorem meet4 : out4 V0 = ((dats m 0 c).arrAt 11 cfg0.N : FVec Ideal S1x512 .f32) := by
  obtain ⟨PU, PV, PO, LG, LB, WS, BS, H⟩ := realsAt m c h
  funext i
  rw [eq_ix2 i]
  exact (read_out4 V0 (e.reals H) _ _).trans (array_11 m c H _ _).symm

end Cert.Gmlp

end
-- ==== Proof.Products.OutDgrad.lean ====
/-
  The gradient that the down projection passes to the gate and the up half: every point's block by the call's own formula, and
  that the product rule's two terms add up to it where all elements are real.
-/
module

public import proofs.«01_k».proof.Defs
public import proofs.«01_k».proof.Proof.Gen.Kernel2Ideal.Value
public import proofs.«01_k».proof.Proof.Gen.Reference2Ideal.Run
public import Idealize.ShloMosaic.Lib.Claim
public import Idealize.ShloMosaic.Lib.Pipeline.ValueKit

@[expose] public section
set_option maxRecDepth 16384

noncomputable section
namespace Cert.OutDgrad
open Idealize.ShloMosaic Idealize.ShloMosaic.TcCoe Idealize.ShloMosaic.Tactic
open Cert.Kernel2Ideal Cert.Kernel2Ideal.Gen

theorem zeros : (![0, 0] : Fin 2 → Nat) = fun _ => 0 := funext fun a => by fin_cases a <;> rfl

section Run
variable {F : FTy → Type} [FloatOps F]
variable (x : Vec F S1024x1024 .bf16) (y : Vec F S768x1024 .bf16) (g u : Vec F S1024x768 .bf16)

theorem out_4 : out0_4 x y g u = k0_pay5 x y g u := by
  unfold out0_4
  rw [View.canon_unit_zero zeros]
  simp only [View.ld_unit_zero (S := S1024x1024) zeros, View.ld_unit_zero (S := S768x1024) zeros, View.ld_unit_zero (S := S1024x768) zeros]

theorem out_5 : out0_5 x y g u = k0_pay6 x y g := by
  unfold out0_5
  rw [View.canon_unit_zero zeros]
  simp only [View.ld_unit_zero (S := S1024x1024) zeros, View.ld_unit_zero (S := S768x1024) zeros, View.ld_unit_zero (S := S1024x768) zeros]
end Run

/-! ## Over the extended reals -/

/-- The two gradients, from the product's element `d`, the gate `g` and the up half `u`. -/
def gate (d g u : EReal) : EReal := d * u * (Ideal.logistic g + g * Ideal.logistic g * (1 - Ideal.logistic g))
def up (d g : EReal) : EReal := d * (g * Ideal.logistic g)

theorem pay5_apply (x : Vec Ideal S1024x1024 .bf16) (y : Vec Ideal S768x1024 .bf16) (g u : Vec Ideal S1024x768 .bf16) (p : Fin 1024) (n : Fin 768) :
    k0_pay5 (F := Ideal) x y g u (ix2 p n) = gate (∑ d : Fin 1024, x (ix2 p d) * y (ix2 n d)) (g (ix2 p n)) (u (ix2 p n)) := by
  pointwise [k0_pay5, k0_pay4, k0_pay3, k0_pay2, k0_pay1, dot_S1024x1024_S768x1024_S1024x768_1_1_0_0_n_n]
  rfl

theorem pay6_apply (x : Vec Ideal S1024x1024 .bf16) (y : Vec Ideal S768x1024 .bf16) (g : Vec Ideal S1024x768 .bf16) (p : Fin 1024) (n : Fin 768) :
    k0_pay6 (F := Ideal) x y g (ix2 p n) = up (∑ d : Fin 1024, x (ix2 p d) * y (ix2 n d)) (g (ix2 p n)) := by
  pointwise [k0_pay6, k0_pay4, k0_pay3, k0_pay2, k0_pay1, dot_S1024x1024_S768x1024_S1024x768_1_1_0_0_n_n]
  rfl

/-- Row `n` of 8192, column `n` of 3072. -/
def row (n : ℕ) : Fin 8192 := ⟨n % 8192, Nat.mod_lt _ (by decide)⟩
def col (n : ℕ) : Fin 3072 := ⟨n % 3072, Nat.mod_lt _ (by decide)⟩

/-- The product's element. -/
def dot (a : FVec Ideal S8192x1024 .bf16) (w : FVec Ideal S3072x1024 .bf16) (r : Fin 8192) (n : Fin 3072) : EReal :=
  ∑ d : Fin 1024, a (ix2 r d) * w (ix2 n d)

variable (m : (ℓ : Loc nD τ sig) → Buf (Elt Ideal) ℓ) (c : Dev nD)

/-- The incoming gradient, the weights, the saved gate and the saved up half. -/
abbrev A : FVec Ideal S8192x1024 .bf16 := m (c.tc.loc main_arg0)
abbrev W : FVec Ideal S3072x1024 .bf16 := m (c.tc.loc main_arg1)
abbrev FG : FVec Ideal S8192x3072 .bf16 := m (c.tc.loc main_arg2)
abbrev FU : FVec Ideal S8192x3072 .bf16 := m (c.tc.loc main_arg3)

theorem index0 : ∀ t : Fin cfg0.N, win0_0.index t = ![t.val / 4, 0] := by decide +kernel
theorem index1 : ∀ t : Fin cfg0.N, win0_1.index t = ![t.val % 4, 0] := by decide +kernel
theorem index2 : ∀ t : Fin cfg0.N, win0_2.index t = ![t.val / 4, t.val % 4] := by decide +kernel
theorem index3 : ∀ t : Fin cfg0.N, win0_3.index t = ![t.val / 4, t.val % 4] := by decide +kernel
theorem index4 : ∀ t : Fin cfg0.N, win0_4.index t = ![t.val / 4, t.val % 4] := by decide +kernel
theorem index5 : ∀ t : Fin cfg0.N, win0_5.index t = ![t.val / 4, t.val % 4] := by decide +kernel

theorem point_lt (t : Fin cfg0.N) : t.val < 32 := lt_of_lt_of_eq t.isLt (show cfg0.N = 32 from N_0)

/-- A point's blocks of the four. -/
abbrev X (t : Fin cfg0.N) : FVec Ideal S1024x1024 .bf16 := iblk m c 0 t
abbrev Y (t : Fin cfg0.N) : FVec Ideal S768x1024 .bf16 := iblk m c 1 t
abbrev XG (t : Fin cfg0.N) : FVec Ideal S1024x768 .bf16 := iblk m c 2 t
abbrev XU (t : Fin cfg0.N) : FVec Ideal S1024x768 .bf16 := iblk m c 3 t

theorem row_val (t : Fin cfg0.N) (p : Fin 1024) : (row (1024 * (t.val / 4) + p.val)).val = 1024 * (t.val / 4) + p.val :=
  Nat.mod_eq_of_lt (by have := point_lt t; omega)
theorem col_val (t : Fin cfg0.N) (n : Fin 768) : (col (768 * (t.val % 4) + n.val)).val = 768 * (t.val % 4) + n.val :=
  Nat.mod_eq_of_lt (by omega)

theorem block0 (t : Fin cfg0.N) (p d : Fin 1024) : X m c t (ix2 p d) = A m c (ix2 (row (1024 * (t.val / 4) + p.val)) d) := by
  have e := row_val t p
  blk_ext! [X, iblk, V, index0, e]
theorem block1 (t : Fin cfg0.N) (n : Fin 768) (d : Fin 1024) : Y m c t (ix2 n d) = W m c (ix2 (col (768 * (t.val % 4) + n.val)) d) := by
  have e := col_val t n
  blk_ext! [Y, iblk, V, index1, e]
theorem block2 (t : Fin cfg0.N) (p : Fin 1024) (n : Fin 768) :
    XG m c t (ix2 p n) = FG m c (ix2 (row (1024 * (t.val / 4) + p.val)) (col (768 * (t.val % 4) + n.val))) := by
  have e := row_val t p
  have e' := col_val t n
  blk_ext! [XG, iblk, V, index2, e, e']
theorem block3 (t : Fin cfg0.N) (p : Fin 1024) (n : Fin 768) :
    XU m c t (ix2 p n) = FU m c (ix2 (row (1024 * (t.val / 4) + p.val)) (col (768 * (t.val % 4) + n.val))) := by
  have e := row_val t p
  have e' := col_val t n
  blk_ext! [XU, iblk, V, index3, e, e']

theorem product (t : Fin cfg0.N) (p : Fin 1024) (n : Fin 768) :
    ∑ d : Fin 1024, X m c t (ix2 p d) * Y m c t (ix2 n d)
      = dot (A m c) (W m c) (row (1024 * (t.val / 4) + p.val)) (col (768 * (t.val % 4) + n.val)) :=
  Finset.sum_congr rfl fun d _ => congrArg₂ (· * ·) (block0 m c t p d) (block1 m c t n d)

/-- What the call puts at a place of each result. -/
def dGate (r : Fin 8192) (n : Fin 3072) : EReal := gate (dot (A m c) (W m c) r n) (FG m c (ix2 r n)) (FU m c (ix2 r n))
def dUp (r : Fin 8192) (n : Fin 3072) : EReal := up (dot (A m c) (W m c) r n) (FG m c (ix2 r n))

theorem point4 (t : Fin cfg0.N) (p : Fin 1024) (n : Fin 768) :
    out0_4 (F := Ideal) (X m c t) (Y m c t) (XG m c t) (XU m c t) (ix2 p n)
      = dGate m c (row (1024 * (t.val / 4) + p.val)) (col (768 * (t.val % 4) + n.val)) := by
  rw [out_4, pay5_apply, product, block2, block3]
  rfl

theorem point5 (t : Fin cfg0.N) (p : Fin 1024) (n : Fin 768) :
    out0_5 (F := Ideal) (X m c t) (Y m c t) (XG m c t) (XU m c t) (ix2 p n)
      = dUp m c (row (1024 * (t.val / 4) + p.val)) (col (768 * (t.val % 4) + n.val)) := by
  rw [out_5, pay6_apply, product, block2]
  rfl

/-- The results' arrays after the run. -/
theorem array4 : ((dats m 0 c).arrAt 4 cfg0.N : FVec Ideal S8192x3072 .bf16) = fun i => dGate m c (i 0) (i 1) := by
  refine (dats m 0 c).arrAt_eq_of_covers 4 _ (by decide +kernel) fun t hf y => ?_
  blk_simp [index4]
  rw [after0_4]
  have h0 : (y 0).val < 1024 := (y 0).isLt
  have h1 : (y 1).val < 768 := (y 1).isLt
  have ht := point_lt t
  refine (congrArg (out0_4 (F := Ideal) (X m c t) (Y m c t) (XG m c t) (XU m c t)) (eq_ix2 y)).trans ((point4 m c t (y 0) (y 1)).trans ?_)
  exact congrArg₂ (dGate m c) (Fin.ext ((row_val t (y 0)).trans (by blk_simp [index4]; exact congrArg (· + _) (Nat.mul_comm _ _))))
    (Fin.ext ((col_val t (y 1)).trans (by blk_simp [index4]; exact congrArg (· + _) (Nat.mul_comm _ _))))

theorem array5 : ((dats m 0 c).arrAt 5 cfg0.N : FVec Ideal S8192x3072 .bf16) = fun i => dUp m c (i 0) (i 1) := by
  refine (dats m 0 c).arrAt_eq_of_covers 5 _ (by decide +kernel) fun t hf y => ?_
  blk_simp [index5]
  rw [after0_5]
  have h0 : (y 0).val < 1024 := (y 0).isLt
  have h1 : (y 1).val < 768 := (y 1).isLt
  have ht := point_lt t
  refine (congrArg (out0_5 (F := Ideal) (X m c t) (Y m c t) (XG m c t) (XU m c t)) (eq_ix2 y)).trans ((point5 m c t (y 0) (y 1)).trans ?_)
  exact congrArg₂ (dUp m c) (Fin.ext ((row_val t (y 0)).trans (by blk_simp [index5]; exact congrArg (· + _) (Nat.mul_comm _ _))))
    (Fin.ext ((col_val t (y 1)).trans (by blk_simp [index5]; exact congrArg (· + _) (Nat.mul_comm _ _))))

/-! ## The precondition: every element is real -/

instance finiteFacts : Cert.Pre_finite2.Facts := ⟨by decide, by decide, by decide⟩

theorem word_top : Ideal.ofBits .bf16 0x7F80#16 = (⊤ : EReal) := by
  simp [Ideal.ofBits, Ideal.ieee]

/-- A number below infinity in size is real. -/
theorem real_of_lt {φ : FTy} {x : Ideal φ} {t : EReal} (ht : t = ⊤)
    (h : BitVec.ofBool (decide ((FloatOps.absf x : Ideal φ) < (t : EReal))) = 1#1) : (x : EReal) = ((EReal.toReal x : ℝ) : EReal) := by
  have h' : (FloatOps.absf x : Ideal φ) < t := by
    by_contra hn
    rw [decide_eq_false hn] at h
    exact absurd h (by decide)
  subst ht
  refine (EReal.coe_toReal (fun e => ?_) (fun e => ?_)).symm
  · subst e
    exact lt_irrefl _ ((le_max_left (⊤ : EReal) (-⊤)).trans_lt h')
  · subst e
    exact lt_irrefl _ ((le_max_right (⊥ : EReal) (-⊥)).trans_lt h')

theorem real_A (h : Pre_Kernel2Ideal_finite2 m) (r : Fin 8192) (d : Fin 1024) : ∃ v : ℝ, A m c (ix2 r d) = (v : EReal) := by
  have e := congrFun (h c).1 (ix2 r d)
  pointwise [Cert.Pre_finite2.fn] at e
  exact ⟨_, real_of_lt word_top e⟩
theorem real_W (h : Pre_Kernel2Ideal_finite2 m) (n : Fin 3072) (d : Fin 1024) : ∃ v : ℝ, W m c (ix2 n d) = (v : EReal) := by
  have e := congrFun (h c).2.1 (ix2 n d)
  pointwise [Cert.Pre_finite2.fn] at e
  exact ⟨_, real_of_lt word_top e⟩
theorem real_FU (h : Pre_Kernel2Ideal_finite2 m) (r : Fin 8192) (n : Fin 3072) : ∃ v : ℝ, FU m c (ix2 r n) = (v : EReal) := by
  have e := congrFun (h c).2.2 (ix2 r n)
  pointwise [Cert.Pre_finite2.fn] at e
  exact ⟨_, real_of_lt word_top e⟩

theorem coe_sum (f : Fin 1024 → ℝ) : ((∑ d, f d : ℝ) : EReal) = ∑ d, (f d : EReal) :=
  Finset.induction_on (motive := fun s => ((∑ d ∈ s, f d : ℝ) : EReal) = ∑ d ∈ s, (f d : EReal)) Finset.univ (by simp)
    fun d s hd e => by rw [Finset.sum_insert hd, Finset.sum_insert hd, EReal.coe_add, e]

theorem real_dot (h : Pre_Kernel2Ideal_finite2 m) (r : Fin 8192) (n : Fin 3072) : ∃ v : ℝ, dot (A m c) (W m c) r n = (v : EReal) := by
  choose a ha using fun d => real_A m c h r d
  choose w hw using fun d => real_W m c h n d
  refine ⟨∑ d, a d * w d, ?_⟩
  unfold dot
  rw [coe_sum]
  exact Finset.sum_congr rfl fun d _ => by rw [ha, hw, EReal.coe_mul]

/-- The logistic function of a real number is real. -/
theorem real_logistic (g : ℝ) : ∃ s : ℝ, Ideal.logistic (g : EReal) = (s : EReal) := ⟨_, Ideal.logistic_coe g⟩

/-- The product rule's two terms, also at a gate that is an infinity: its factor `s (1 - s)` is then zero. -/
theorem gate_terms (d : ℝ) (g : EReal) (u : ℝ) :
    (d : EReal) * u * Ideal.logistic g + g * (d * u) * (Ideal.logistic g * (1 - Ideal.logistic g)) = gate d g u := by
  unfold gate
  induction g using EReal.rec with
  | bot => simp
  | top =>
    have z : (1 : EReal) - 1 = 0 := by rw [← EReal.coe_one, ← EReal.coe_sub, sub_self, EReal.coe_zero]
    simp [z]
  | coe g =>
    obtain ⟨s, hs⟩ := real_logistic g
    rw [hs]
    norm_cast
    ring_nf

end Cert.OutDgrad

namespace Cert.OutDgrad
open Idealize.ShloMosaic Idealize.ShloMosaic.TcCoe Idealize.ShloMosaic.Tactic
open Cert.Reference2Ideal Cert.Reference2Ideal.Gen

/-- The reference's gate `1 / (1 + e^-g)`, and its product. -/
abbrev sig (g : FVec Ideal S8192x3072 .bf16) : FVec Ideal S8192x3072 .f32 :=
  Host.divf (broadcastInDim S8192x3072 ![] bcast_S_S8192x3072 (constant S_ .f32 0x3F800000#32)) (addf (broadcastInDim S8192x3072 ![] bcast_S_S8192x3072 (constant S_ .f32 0x3F800000#32)) (Host.exp (Host.negf (extf .f32 g bitsLt_bf16_f32))))
abbrev prod (a : FVec Ideal S8192x1024 .bf16) (w : FVec Ideal S3072x1024 .bf16) : FVec Ideal S8192x3072 .f32 :=
  Host.dotGeneral (φ₁ := .f32) (φ₂ := .f32) dot_S8192x1024_S3072x1024_S8192x3072_1_1_0_0_n_n none (extf .f32 a bitsLt_bf16_f32) (extf .f32 w bitsLt_bf16_f32)

/-- The reference's results. -/
def outGate (a : FVec Ideal S8192x1024 .bf16) (w : FVec Ideal S3072x1024 .bf16) (g u : FVec Ideal S8192x3072 .bf16) : FVec Ideal S8192x3072 .bf16 :=
  truncf .bf16 (addf (mulf (mulf (prod a w) (extf .f32 u bitsLt_bf16_f32)) (sig g)) (mulf (mulf (extf .f32 g bitsLt_bf16_f32) (mulf (prod a w) (extf .f32 u bitsLt_bf16_f32))) (mulf (sig g) (subf (broadcastInDim S8192x3072 ![] bcast_S_S8192x3072 (constant S_ .f32 0x3F800000#32)) (sig g))))) bitsLt_bf16_f32
def outUp (a : FVec Ideal S8192x1024 .bf16) (w : FVec Ideal S3072x1024 .bf16) (g : FVec Ideal S8192x3072 .bf16) : FVec Ideal S8192x3072 .bf16 :=
  truncf .bf16 (mulf (mulf (extf .f32 g bitsLt_bf16_f32) (sig g)) (prod a w)) bitsLt_bf16_f32

theorem sig_apply (g : FVec Ideal S8192x3072 .bf16) (r : Fin 8192) (n : Fin 3072) : sig g (ix2 r n) = Ideal.logistic (g (ix2 r n)) := by
  unfold sig
  pointwise
  rfl
theorem prod_apply (a : FVec Ideal S8192x1024 .bf16) (w : FVec Ideal S3072x1024 .bf16) (r : Fin 8192) (n : Fin 3072) : prod a w (ix2 r n) = dot a w r n := by
  unfold prod dot
  pointwise [dot_S8192x1024_S3072x1024_S8192x3072_1_1_0_0_n_n]

theorem outGate_apply (a : FVec Ideal S8192x1024 .bf16) (w : FVec Ideal S3072x1024 .bf16) (g u : FVec Ideal S8192x3072 .bf16) (r : Fin 8192) (n : Fin 3072) :
    outGate a w g u (ix2 r n) = dot a w r n * u (ix2 r n) * Ideal.logistic (g (ix2 r n))
      + g (ix2 r n) * (dot a w r n * u (ix2 r n)) * (Ideal.logistic (g (ix2 r n)) * (1 - Ideal.logistic (g (ix2 r n)))) := by
  rw [← prod_apply, ← sig_apply]
  unfold outGate
  generalize prod a w = p
  generalize sig g = s
  pointwise
theorem outUp_apply (a : FVec Ideal S8192x1024 .bf16) (w : FVec Ideal S3072x1024 .bf16) (g : FVec Ideal S8192x3072 .bf16) (r : Fin 8192) (n : Fin 3072) :
    outUp a w g (ix2 r n) = g (ix2 r n) * Ideal.logistic (g (ix2 r n)) * dot a w r n := by
  rw [← prod_apply, ← sig_apply]
  unfold outUp
  generalize prod a w = p
  generalize sig g = s
  pointwise

variable (m : (ℓ : Loc Cert.Kernel2Ideal.nD Cert.Kernel2Ideal.τ Cert.Kernel2Ideal.sig) → Buf (Elt Ideal) ℓ) (c : Dev 1)
variable {a : FVec Ideal S8192x1024 .bf16} {w : FVec Ideal S3072x1024 .bf16} {g u : FVec Ideal S8192x3072 .bf16}

/-- The call's arrays are the reference's results. -/
theorem meetGate (h : Pre_Kernel2Ideal_finite2 m) (ea : a = A m c) (ew : w = W m c) (eg : g = FG m c) (eu : u = FU m c) :
    outGate a w g u = (Cert.Kernel2Ideal.Gen.dats m 0 c).arrAt 4 Cert.Kernel2Ideal.cfg0.N := by
  subst ea ew eg eu
  refine Eq.trans (funext fun i => ?_) (array4 m c).symm
  obtain ⟨d, hd⟩ := real_dot m c h (i 0) (i 1)
  obtain ⟨x, hx⟩ := real_FU m c h (i 0) (i 1)
  rw [eq_ix2 i]
  refine (outGate_apply _ _ _ _ _ _).trans ?_
  show _ = gate (dot (A m c) (W m c) (i 0) (i 1)) (FG m c (ix2 (i 0) (i 1))) (FU m c (ix2 (i 0) (i 1)))
  rw [hd, hx]
  exact gate_terms d _ x

theorem meetUp (ea : a = A m c) (ew : w = W m c) (eg : g = FG m c) :
    outUp a w g = (Cert.Kernel2Ideal.Gen.dats m 0 c).arrAt 5 Cert.Kernel2Ideal.cfg0.N := by
  subst ea ew eg
  refine Eq.trans (funext fun i => ?_) (array5 m c).symm
  rw [eq_ix2 i]
  exact (outUp_apply _ _ _ _ _).trans (mul_comm _ _)

end Cert.OutDgrad
end
-- ==== Proof.Products.InDgrad.lean ====
/-
  The data gradient of the feed-forward input product: over any arguments, what the call's accumulator holds after each of the
  eight points that share a block of rows — the first four read the gate's gradient, the last four the other half's —, what the
  array holds at the end, and that the reference's product with the flat weight is the same sum.
-/
module

public import proofs.«01_k».proof.Proof.Gen.Kernel3Ideal.Value
public import proofs.«01_k».proof.Proof.Gen.Reference3Ideal.Run
public import Idealize.ShloMosaic.Lib.Claim
public import Idealize.ShloMosaic.Lib.Pipeline.ValueKit

@[expose] public section
set_option maxRecDepth 16384

noncomputable section
namespace Cert.InDgrad
open Idealize.ShloMosaic Idealize.ShloMosaic.TcCoe Idealize.ShloMosaic.Tactic
open Cert.Kernel3Ideal Cert.Kernel3Ideal.Gen

theorem zeros : (![0, 0] : Fin 2 → Nat) = fun _ => 0 := funext fun a => by fin_cases a <;> rfl
theorem zeros3 : (![0, 0, 0] : Fin 3 → Nat) = fun _ => 0 := funext fun a => by fin_cases a <;> rfl

section Run
variable {F : FTy → Type} [FloatOps F]
variable (c : Dev nD) (i : grid0.Coords) (a2 : Memref sig .tc .vmem S2048x768 .bf16) (h2 : a2.IsWhole)
  (a3 : Memref sig .tc .vmem S2048x768 .bf16) (h3 : a3.IsWhole) (a4 : Memref sig .tc .vmem S1x1024x768 .bf16) (h4 : a4.IsWhole)
  (a5 : Memref sig .tc .vmem S2048x1024 .f32) (h5 : a5.IsWhole) (a6 : Memref sig .tc .vmem S2048x1024 .f32) (h6 : a6.IsWhole)
  (x : Vec F S2048x768 .bf16) (y : Vec F S2048x768 .bf16) (w : Vec F S1x1024x768 .bf16)

/-- The first point of a block of rows leaves zero and its own product. -/
theorem acc_A (c0 : cond0_0 i) (c1 : cond0_1 i) (c2 : ¬cond0_2 i) (c3 : ¬cond0_3 i) :
    sout0_A_0 c i a2 h2 a3 h3 a4 h4 a5 h5 a6 h6 c0 c1 c2 c3 x y w = k0_pay2 k0_pay1 x w := by
  unfold sout0_A_0
  rw [View.read_writes_eq_canon _ _ _ (scover0_A_0 c i a2 h2 a3 h3 a4 h4 a5 h5 a6 h6 c0 c1 c2 c3 x y w)]
  unfold kernelRun0_A
  dsimp only
  sl_unfold_words
  rw [View.canon_cons_unit_zero (S := S2048x1024) zeros, View.readCov_unit_zero (S := S2048x1024) _ zeros]
  simp only [View.readAt_eq_ld, h2.read_unread, h4.read_unread, View.ld_unit_zero (S := S2048x768) zeros, View.ld_unit_zero (S := S1x1024x768) zeros3]

/-- The next three add the product of the gate's gradient to what the accumulator held. -/
theorem acc_B (c0 : ¬cond0_0 i) (c1 : cond0_1 i) (c2 : ¬cond0_2 i) (c3 : ¬cond0_3 i) (acc : Vec F S2048x1024 .f32) :
    sout0_B_0 c i a2 h2 a3 h3 a4 h4 a5 h5 a6 h6 c0 c1 c2 c3 x y w acc = k0_pay2 acc x w := by
  unfold sout0_B_0
  rw [View.read_writes_eq_canon _ _ _ (scover0_B_0 c i a2 h2 a3 h3 a4 h4 a5 h5 a6 h6 c0 c1 c2 c3 x y w acc)]
  unfold kernelRun0_B
  dsimp only
  sl_unfold_words
  rw [View.canon_unit_zero zeros]
  simp only [View.readAt_eq_ld, h2.read_unread, h4.read_unread, h6.read_unread, View.ld_unit_zero (S := S2048x768) zeros, View.ld_unit_zero (S := S1x1024x768) zeros3, View.ld_unit_zero (S := S2048x1024) zeros]

/-- The three after them add the product of the other half's. -/
theorem acc_C (c0 : ¬cond0_0 i) (c1 : ¬cond0_1 i) (c2 : cond0_2 i) (c3 : ¬cond0_3 i) (acc : Vec F S2048x1024 .f32) :
    sout0_C_0 c i a2 h2 a3 h3 a4 h4 a5 h5 a6 h6 c0 c1 c2 c3 x y w acc = k0_pay3 acc y w := by
  unfold sout0_C_0
  rw [View.read_writes_eq_canon _ _ _ (scover0_C_0 c i a2 h2 a3 h3 a4 h4 a5 h5 a6 h6 c0 c1 c2 c3 x y w acc)]
  unfold kernelRun0_C
  dsimp only
  sl_unfold_words
  rw [View.canon_unit_zero zeros]
  simp only [View.readAt_eq_ld, h3.read_unread, h4.read_unread, h6.read_unread, View.ld_unit_zero (S := S2048x768) zeros, View.ld_unit_zero (S := S1x1024x768) zeros3, View.ld_unit_zero (S := S2048x1024) zeros]

/-- The last point writes the accumulator, with its own product, to the result's block. -/
theorem out_D (c0 : ¬cond0_0 i) (c1 : ¬cond0_1 i) (c2 : cond0_2 i) (c3 : cond0_3 i) (acc : Vec F S2048x1024 .f32) :
    out0_D_3 c i a2 h2 a3 h3 a4 h4 a5 h5 a6 h6 c0 c1 c2 c3 x y w acc = k0_pay3 acc y w := by
  unfold out0_D_3
  rw [View.read_writes_eq_canon _ _ _ (cover0_D_3 c i a2 h2 a3 h3 a4 h4 a5 h5 a6 h6 c0 c1 c2 c3 x y w acc)]
  unfold kernelRun0_D
  dsimp only
  sl_unfold_words
  rw [View.canon_unit_zero zeros, View.readCov_unit_zero (S := S2048x1024) _ zeros]
  simp only [View.readAt_eq_ld, h3.read_unread, h4.read_unread, h6.read_unread, View.ld_unit_zero (S := S2048x768) zeros, View.ld_unit_zero (S := S1x1024x768) zeros3, View.ld_unit_zero (S := S2048x1024) zeros]
end Run

/-! ## Over the extended reals -/

theorem pay1_apply (r : Fin 2048) (d : Fin 1024) : (k0_pay1 (F := Ideal)) (ix2 r d) = 0 := by
  pointwise [k0_pay1]

theorem pay2_apply (acc : Vec Ideal S2048x1024 .f32) (x : Vec Ideal S2048x768 .bf16) (w : Vec Ideal S1x1024x768 .bf16) (r : Fin 2048) (d : Fin 1024) :
    k0_pay2 (F := Ideal) acc x w (ix2 r d) = acc (ix2 r d) + ∑ n : Fin 768, x (ix2 r n) * w (ix3 0 d n) := by
  pointwise [k0_pay2, dot_S2048x768_S1024x768_S2048x1024_1_1_0_0_n_n]

theorem pay3_apply (acc : Vec Ideal S2048x1024 .f32) (x : Vec Ideal S2048x768 .bf16) (w : Vec Ideal S1x1024x768 .bf16) (r : Fin 2048) (d : Fin 1024) :
    k0_pay3 (F := Ideal) acc x w (ix2 r d) = acc (ix2 r d) + ∑ n : Fin 768, x (ix2 r n) * w (ix3 0 d n) := by
  pointwise [k0_pay3, dot_S2048x768_S1024x768_S2048x1024_1_1_0_0_n_n]

/-- Row `n` of 8192, column `n` of 3072, block `n` of 8. -/
def row (n : ℕ) : Fin 8192 := ⟨n % 8192, Nat.mod_lt _ (by decide)⟩
def col (n : ℕ) : Fin 3072 := ⟨n % 3072, Nat.mod_lt _ (by decide)⟩
def blk (n : ℕ) : Fin 8 := ⟨n % 8, Nat.mod_lt _ (by decide)⟩

/-- Element `n` of block `q` of the two gradients side by side, at row `r`. -/
def side (g u : FVec Ideal S8192x3072 .bf16) (r : Fin 8192) (q n : ℕ) : EReal :=
  if q ≤ 3 then g (ix2 r (col (768 * q + n))) else u (ix2 r (col (768 * (q - 4) + n)))

/-- The product of block `q`. -/
def tile (g u : FVec Ideal S8192x3072 .bf16) (w : FVec Ideal S8x1024x768 .bf16) (q : ℕ) (r : Fin 8192) (d : Fin 1024) : EReal :=
  ∑ n : Fin 768, side g u r q n * w (ix3 (blk q) d n)

variable (m : (ℓ : Loc nD τ sig) → Buf (Elt Ideal) ℓ) (c : Dev nD)

/-- The two gradients and the weight. -/
abbrev G : FVec Ideal S8192x3072 .bf16 := m (c.tc.loc main_arg0)
abbrev U : FVec Ideal S8192x3072 .bf16 := m (c.tc.loc main_arg1)
abbrev W : FVec Ideal S8x1024x768 .bf16 := m (c.tc.loc main_arg2)

theorem index0 : ∀ t : Fin cfg0.N, win0_0.index t = ![t.val / 8, min (t.val % 8) 3] := by decide +kernel
theorem index1 : ∀ t : Fin cfg0.N, win0_1.index t = ![t.val / 8, t.val % 8 - 4] := by decide +kernel
theorem index2 : ∀ t : Fin cfg0.N, win0_2.index t = ![t.val % 8, 0, 0] := by decide +kernel

theorem point_lt (t : Fin cfg0.N) : t.val < 32 := lt_of_lt_of_eq t.isLt (show cfg0.N = 32 from N_0)

/-- A point's blocks of the three. -/
abbrev X (t : Fin cfg0.N) : FVec Ideal S2048x768 .bf16 := iblk m c 0 t
abbrev Y (t : Fin cfg0.N) : FVec Ideal S2048x768 .bf16 := iblk m c 1 t
abbrev Z (t : Fin cfg0.N) : FVec Ideal S1x1024x768 .bf16 := iblk m c 2 t

theorem block0 (t : Fin cfg0.N) (h : t.val % 8 ≤ 3) (r : Fin 2048) (n : Fin 768) :
    X m c t (ix2 r n) = G m c (ix2 (row (2048 * (t.val / 8) + r.val)) (col (768 * (t.val % 8) + n.val))) := by
  have ht := point_lt t
  have e : (row (2048 * (t.val / 8) + r.val)).val = 2048 * (t.val / 8) + r.val := Nat.mod_eq_of_lt (by omega)
  have e' : (col (768 * (t.val % 8) + n.val)).val = 768 * (t.val % 8) + n.val := Nat.mod_eq_of_lt (by omega)
  have hm : min (t.val % 8) 3 = t.val % 8 := Nat.min_eq_left h
  blk_ext! [X, iblk, V, index0, e, e', hm]

theorem block1 (t : Fin cfg0.N) (h : ¬t.val % 8 ≤ 3) (r : Fin 2048) (n : Fin 768) :
    Y m c t (ix2 r n) = U m c (ix2 (row (2048 * (t.val / 8) + r.val)) (col (768 * (t.val % 8 - 4) + n.val))) := by
  have ht := point_lt t
  have e : (row (2048 * (t.val / 8) + r.val)).val = 2048 * (t.val / 8) + r.val := Nat.mod_eq_of_lt (by omega)
  have e' : (col (768 * (t.val % 8 - 4) + n.val)).val = 768 * (t.val % 8 - 4) + n.val := Nat.mod_eq_of_lt (by omega)
  blk_ext! [Y, iblk, V, index1, e, e']

theorem block2 (t : Fin cfg0.N) (d : Fin 1024) (n : Fin 768) :
    Z m c t (ix3 0 d n) = W m c (ix3 (blk (t.val % 8)) d n) := by
  have ht := point_lt t
  have e : (blk (t.val % 8)).val = t.val % 8 := Nat.mod_mod _ _
  blk_ext! [Z, iblk, V, index2, e]

/-- A point's product is its block's. -/
theorem product0 (t : Fin cfg0.N) (h : t.val % 8 ≤ 3) (r : Fin 2048) (d : Fin 1024) :
    ∑ n : Fin 768, X m c t (ix2 r n) * Z m c t (ix3 0 d n) = tile (G m c) (U m c) (W m c) (t.val % 8) (row (2048 * (t.val / 8) + r.val)) d :=
  Finset.sum_congr rfl fun n _ => congrArg₂ (· * ·) ((block0 m c t h r n).trans (if_pos h).symm) (block2 m c t d n)

theorem product1 (t : Fin cfg0.N) (h : ¬t.val % 8 ≤ 3) (r : Fin 2048) (d : Fin 1024) :
    ∑ n : Fin 768, Y m c t (ix2 r n) * Z m c t (ix3 0 d n) = tile (G m c) (U m c) (W m c) (t.val % 8) (row (2048 * (t.val / 8) + r.val)) d :=
  Finset.sum_congr rfl fun n _ => congrArg₂ (· * ·) ((block1 m c t h r n).trans (if_neg h).symm) (block2 m c t d n)

/-- The accumulator after point `t`. -/
abbrev acc (t : ℕ) (ht : t < cfg0.N) : FVec Ideal S2048x1024 .f32 := (outsAt0 m c t ht).2

theorem acc_first (t : ℕ) (ht : t < cfg0.N) (h0 : t % 8 = 0) :
    acc m c t ht = k0_pay2 (F := Ideal) (k0_pay1 (F := Ideal)) (X m c ⟨t, ht⟩) (Z m c ⟨t, ht⟩) := by
  unfold acc
  rw [outsAt0_A m c ⟨t, ht⟩ h0 (by show t % 8 ≤ 3; omega) (by show ¬4 ≤ t % 8; omega) (by show ¬t % 8 = 7; omega), acc_A]

theorem acc_gate (t : ℕ) (ht : t < cfg0.N) (h0 : ¬t % 8 = 0) (h1 : t % 8 ≤ 3) :
    acc m c t ht = k0_pay2 (F := Ideal) (acc m c (t - 1) (Nat.lt_of_le_of_lt (Nat.sub_le _ _) ht)) (X m c ⟨t, ht⟩) (Z m c ⟨t, ht⟩) := by
  unfold acc
  rw [outsAt0_B m c ⟨t, ht⟩ h0 h1 (by show ¬4 ≤ t % 8; omega) (by show ¬t % 8 = 7; omega), acc_B]

theorem acc_up (t : ℕ) (ht : t < cfg0.N) (h1 : ¬t % 8 ≤ 3) (h3 : ¬t % 8 = 7) :
    acc m c t ht = k0_pay3 (F := Ideal) (acc m c (t - 1) (Nat.lt_of_le_of_lt (Nat.sub_le _ _) ht)) (Y m c ⟨t, ht⟩) (Z m c ⟨t, ht⟩) := by
  unfold acc
  rw [outsAt0_C m c ⟨t, ht⟩ (by show ¬t % 8 = 0; omega) h1 (by show 4 ≤ t % 8; omega) h3, acc_C]

/-- The accumulator after each point but a block's last: the sum of the products so far. -/
theorem acc_sum (r : Fin 2048) (d : Fin 1024) : ∀ (t : ℕ) (ht : t < cfg0.N), ¬t % 8 = 7 →
    acc m c t ht (ix2 r d) = ∑ q ∈ Finset.range (t % 8 + 1), tile (G m c) (U m c) (W m c) q (row (2048 * (t / 8) + r.val)) d
  | t, ht, h3 => by
    by_cases h0 : t % 8 = 0
    · rw [acc_first m c t ht h0, pay2_apply, pay1_apply, product0 m c ⟨t, ht⟩ (by show t % 8 ≤ 3; omega), zero_add, h0]
      exact (Finset.sum_range_one (M := EReal) fun q => tile (G m c) (U m c) (W m c) q (row (2048 * (t / 8) + r.val)) d).symm
    · by_cases h1 : t % 8 ≤ 3
      · rw [acc_gate m c t ht h0 h1, pay2_apply, product0 m c ⟨t, ht⟩ h1,
          acc_sum r d (t - 1) (Nat.lt_of_le_of_lt (Nat.sub_le _ _) ht) (by omega), show (t - 1) / 8 = t / 8 by omega,
          show (t - 1) % 8 + 1 = t % 8 by omega, Finset.sum_range_succ]
      · rw [acc_up m c t ht h1 h3, pay3_apply, product1 m c ⟨t, ht⟩ h1,
          acc_sum r d (t - 1) (Nat.lt_of_le_of_lt (Nat.sub_le _ _) ht) (by omega), show (t - 1) / 8 = t / 8 by omega,
          show (t - 1) % 8 + 1 = t % 8 by omega, Finset.sum_range_succ]

/-- What a block's last point writes: the sum of the eight products. -/
theorem last (r : Fin 2048) (d : Fin 1024) (t : ℕ) (ht : t < cfg0.N) (h3 : t % 8 = 7) :
    ((outsAt0 m c t ht).1 : FVec Ideal S2048x1024 .f32) (ix2 r d) = ∑ q ∈ Finset.range 8, tile (G m c) (U m c) (W m c) q (row (2048 * (t / 8) + r.val)) d := by
  have h1 : ¬t % 8 ≤ 3 := by omega
  have e : ((outsAt0 m c t ht).1 : FVec Ideal S2048x1024 .f32)
      = k0_pay3 (F := Ideal) (acc m c (t - 1) (Nat.lt_of_le_of_lt (Nat.sub_le _ _) ht)) (Y m c ⟨t, ht⟩) (Z m c ⟨t, ht⟩) := by
    rw [outsAt0_D m c ⟨t, ht⟩ (by show ¬t % 8 = 0; omega) h1 (by show 4 ≤ t % 8; omega) h3, out_D]
  rw [e, pay3_apply, product1 m c ⟨t, ht⟩ h1, acc_sum m c r d (t - 1) (Nat.lt_of_le_of_lt (Nat.sub_le _ _) ht) (by omega),
    show (t - 1) / 8 = t / 8 by omega, show (t - 1) % 8 + 1 = 7 by omega, h3, ← Finset.sum_range_succ]

/-- The result's array after the run. -/
theorem array (r : Fin 8192) (d : Fin 1024) :
    (Cert.Kernel3Ideal.Value.G3 m c : FVec Ideal S8192x1024 .f32) (ix2 r d) = ∑ q : Fin 8, tile (G m c) (U m c) (W m c) q r d := by
  have hp : Cert.Kernel3Ideal.Value.pt3Of (ix2 r d) = 8 * (r.val / 2048) + 7 := by
    show 8 * (1 * (r.val / 2048 - 0) + 1 * (d.val / 1024 - 0)) + 7 = _
    omega
  have hl : Cert.Kernel3Ideal.Value.loc3Of (ix2 r d) = ix2 ⟨r.val % 2048, Nat.mod_lt _ (by decide)⟩ d := by
    funext a; apply Fin.ext
    match a with
    | ⟨0, _⟩ => rfl
    | ⟨1, _⟩ => exact Nat.mod_eq_of_lt d.isLt
  have hN : cfg0.N = 32 := N_0
  have hlt : 8 * (r.val / 2048) + 7 < cfg0.N := by omega
  have e : (Cert.Kernel3Ideal.Value.G3 m c : FVec Ideal S8192x1024 .f32) (ix2 r d)
      = ((outsAt0 m c (8 * (r.val / 2048) + 7) hlt).1 : FVec Ideal S2048x1024 .f32) (ix2 ⟨r.val % 2048, Nat.mod_lt _ (by decide)⟩ d) := by
    unfold Cert.Kernel3Ideal.Value.G3
    rw [dif_pos (by rw [hp]; exact hlt), hl, Cert.Kernel3Ideal.Value.fold0_congr m c _ _ (8 * (r.val / 2048) + 7) (by omega) hp,
      ← Cert.Kernel3Ideal.Value.outsAt0_sweep m c (8 * (r.val / 2048) + 7) hlt]
  have er : row (2048 * ((8 * (r.val / 2048) + 7) / 8) + r.val % 2048) = r := Fin.ext (by
    show (2048 * ((8 * (r.val / 2048) + 7) / 8) + r.val % 2048) % 8192 = r.val
    omega)
  rw [e, last m c _ d _ hlt (by omega), er, Finset.sum_range]

end Cert.InDgrad

namespace Cert.InDgrad
open Idealize.ShloMosaic Idealize.ShloMosaic.TcCoe Idealize.ShloMosaic.Tactic
open Cert.Reference3Ideal Cert.Reference3Ideal.Gen

/-- The reference's result. -/
def out (g u : FVec Ideal S8192x3072 .bf16) (w : FVec Ideal S8x1024x768 .bf16) : FVec Ideal S8192x1024 .f32 :=
  Host.dotGeneral (φ₁ := .f32) (φ₂ := .f32) dot_S8192x6144_S1024x6144_S8192x1024_1_1_0_0_n_n none
    (concatenate S8192x6144 1 [⟨S8192x3072, (extf .f32 g bitsLt_bf16_f32)⟩, ⟨S8192x3072, (extf .f32 u bitsLt_bf16_f32)⟩]
      concatenates_S8192x3072_S8192x3072_S8192x6144_d1)
    (shapeCast _ (transpose S1024x8x768 [1, 0, 2] (extf .f32 w bitsLt_bf16_f32) transposes_S8x1024x768_S1024x8x768_1_0_2)
      shapeCasts_S1024x8x768_S1024x6144)

theorem out_apply (g u : FVec Ideal S8192x3072 .bf16) (w : FVec Ideal S8x1024x768 .bf16) (r : Fin 8192) (d : Fin 1024) :
    out g u w (ix2 r d) = ∑ q : Fin 8, tile g u w q r d := by
  unfold out
  pointwise [dot_S8192x6144_S1024x6144_S8192x1024_1_1_0_0_n_n]
  refine (congrArg₂ (· + ·) (Fin.sum_univ_tiles 4 768 (by decide : 4 * 768 = 3072) _) (Fin.sum_univ_tiles 4 768 (by decide : 4 * 768 = 3072) _)).trans ?_
  refine Eq.trans ?_ (Fin.sum_univ_add (M := EReal) (a := 4) (b := 4) fun q => tile g u w q.val r d).symm
  refine congrArg₂ (· + ·) (Finset.sum_congr rfl fun q _ => Finset.sum_congr rfl fun n _ => congrArg₂ (· * ·) ?_ (congrArg w ?_))
    (Finset.sum_congr rfl fun q _ => Finset.sum_congr rfl fun n _ => congrArg₂ (· * ·) ?_ (congrArg w ?_))
  · show _ = side g u r q.val n.val
    unfold side
    rw [if_pos (by omega)]
    exact congrArg (fun k => g (ix2 r k)) (Fin.ext (by show q.val * 768 + n.val = (768 * q.val + n.val) % 3072; omega))
  · exact congrArg₂ (fun a b => (ix3 a d b : S8x1024x768.Idx)) (Fin.ext (by show (q.val * 768 + n.val) / 768 = q.val % 8; omega))
      (Fin.ext (by show (q.val * 768 + n.val) % 768 = n.val; omega))
  · show _ = side g u r (4 + q.val) n.val
    unfold side
    rw [if_neg (by omega)]
    exact congrArg (fun k => u (ix2 r k)) (Fin.ext (by show q.val * 768 + n.val = (768 * (4 + q.val - 4) + n.val) % 3072; omega))
  · exact congrArg₂ (fun a b => (ix3 a d b : S8x1024x768.Idx)) (Fin.ext (by show (3072 + (q.val * 768 + n.val)) / 768 = (4 + q.val) % 8; omega))
      (Fin.ext (by show (3072 + (q.val * 768 + n.val)) % 768 = n.val; omega))

/-- The call's array is the reference's result. -/
theorem meet (m : (ℓ : Loc Cert.Kernel3Ideal.nD Cert.Kernel3Ideal.τ Cert.Kernel3Ideal.sig) → Buf (Elt Ideal) ℓ) (c : Dev 1)
    {g u : FVec Ideal S8192x3072 .bf16} {w : FVec Ideal S8x1024x768 .bf16} (eg : g = G m c) (eu : u = U m c) (ew : w = W m c) :
    out g u w = Cert.Kernel3Ideal.Value.G3 m c := by
  funext i
  subst eg eu ew
  rw [eq_ix2 i]
  exact (out_apply _ _ _ _ _).trans (array m c _ _).symm

end Cert.InDgrad
end
-- ==== Proof.Products.InWgrad.lean ====
/-
  The weights' gradient of the feed-forward input product: over any arguments, what the call's accumulator holds after each of
  the four points that share a block of columns — the first four blocks are the gate's, the last four the other half's —, what
  the array holds at the end, and that the reference's product is the same sum.
-/
module

public import proofs.«01_k».proof.Proof.Gen.Kernel4Ideal.Frame
public import proofs.«01_k».proof.Proof.Gen.Reference4Ideal.Run
public import Idealize.ShloMosaic.Lib.Claim
public import Idealize.ShloMosaic.Lib.Pipeline.ValueKit

@[expose] public section
set_option maxRecDepth 16384

noncomputable section
namespace Cert.InWgrad
open Idealize.ShloMosaic Idealize.ShloMosaic.TcCoe Idealize.ShloMosaic.Tactic
open Cert.Kernel4Ideal Cert.Kernel4Ideal.Gen

theorem zeros : (![0, 0] : Fin 2 → Nat) = fun _ => 0 := funext fun a => by fin_cases a <;> rfl
theorem zeros3 : (![0, 0, 0] : Fin 3 → Nat) = fun _ => 0 := funext fun a => by fin_cases a <;> rfl

section Run
variable {F : FTy → Type} [FloatOps F]
variable (c : Dev nD) (i : grid0.Coords) (a2 : Memref sig .tc .vmem S2048x1024 .bf16) (h2 : a2.IsWhole)
  (a3 : Memref sig .tc .vmem S2048x768 .bf16) (h3 : a3.IsWhole) (a4 : Memref sig .tc .vmem S2048x768 .bf16) (h4 : a4.IsWhole)
  (a5 : Memref sig .tc .vmem S1x768x1024 .bf16) (h5 : a5.IsWhole) (a6 : Memref sig .tc .vmem S768x1024 .f32) (h6 : a6.IsWhole)
  (x : Vec F S2048x1024 .bf16) (g : Vec F S2048x768 .bf16) (u : Vec F S2048x768 .bf16)

/-- The first point of a gate's block leaves zero and its own product. -/
theorem acc_A (c0 : cond0_0 i) (c1 : cond0_1 i) (c2 : ¬cond0_2 i) (c3 : ¬cond0_3 i) :
    sout0_A_0 c i a2 h2 a3 h3 a4 h4 a5 h5 a6 h6 c0 c1 c2 c3 x g u = k0_pay2 k0_pay1 g x := by
  unfold sout0_A_0
  rw [View.read_writes_eq_canon _ _ _ (scover0_A_0 c i a2 h2 a3 h3 a4 h4 a5 h5 a6 h6 c0 c1 c2 c3 x g u)]
  unfold kernelRun0_A
  dsimp only
  sl_unfold_words
  rw [View.canon_cons_unit_zero (S := S768x1024) zeros, View.readCov_unit_zero (S := S768x1024) _ zeros]
  simp only [View.readAt_eq_ld, h2.read_unread, h3.read_unread, View.ld_unit_zero (S := S2048x768) zeros, View.ld_unit_zero (S := S2048x1024) zeros]

/-- A point between adds its product to what the accumulator held. -/
theorem acc_B (c0 : ¬cond0_0 i) (c1 : cond0_1 i) (c2 : ¬cond0_2 i) (c3 : ¬cond0_3 i) (acc : Vec F S768x1024 .f32) :
    sout0_B_0 c i a2 h2 a3 h3 a4 h4 a5 h5 a6 h6 c0 c1 c2 c3 x g u acc = k0_pay2 acc g x := by
  unfold sout0_B_0
  rw [View.read_writes_eq_canon _ _ _ (scover0_B_0 c i a2 h2 a3 h3 a4 h4 a5 h5 a6 h6 c0 c1 c2 c3 x g u acc)]
  unfold kernelRun0_B
  dsimp only
  sl_unfold_words
  rw [View.canon_unit_zero zeros]
  simp only [View.readAt_eq_ld, h2.read_unread, h3.read_unread, h6.read_unread, View.ld_unit_zero (S := S2048x768) zeros, View.ld_unit_zero (S := S2048x1024) zeros, View.ld_unit_zero (S := S768x1024) zeros]

/-- The last point writes the accumulator, with its own product, to the result's block. -/
theorem out_C (c0 : ¬cond0_0 i) (c1 : cond0_1 i) (c2 : ¬cond0_2 i) (c3 : cond0_3 i) (acc : Vec F S768x1024 .f32) :
    out0_C_3 c i a2 h2 a3 h3 a4 h4 a5 h5 a6 h6 c0 c1 c2 c3 x g u acc = k0_pay4 (k0_pay2 acc g x) := by
  unfold out0_C_3
  rw [View.read_writes_eq_canon _ _ _ (cover0_C_3 c i a2 h2 a3 h3 a4 h4 a5 h5 a6 h6 c0 c1 c2 c3 x g u acc)]
  unfold kernelRun0_C
  dsimp only
  sl_unfold_words
  rw [View.canon_unit_zero zeros3, View.readCov_unit_zero (S := S768x1024) _ zeros]
  simp only [View.readAt_eq_ld, h2.read_unread, h3.read_unread, h6.read_unread, View.ld_unit_zero (S := S2048x768) zeros, View.ld_unit_zero (S := S2048x1024) zeros, View.ld_unit_zero (S := S768x1024) zeros]

/-- The same three of the other half's blocks. -/
theorem acc_D (c0 : cond0_0 i) (c1 : ¬cond0_1 i) (c2 : cond0_2 i) (c3 : ¬cond0_3 i) :
    sout0_D_0 c i a2 h2 a3 h3 a4 h4 a5 h5 a6 h6 c0 c1 c2 c3 x g u = k0_pay3 k0_pay1 u x := by
  unfold sout0_D_0
  rw [View.read_writes_eq_canon _ _ _ (scover0_D_0 c i a2 h2 a3 h3 a4 h4 a5 h5 a6 h6 c0 c1 c2 c3 x g u)]
  unfold kernelRun0_D
  dsimp only
  sl_unfold_words
  rw [View.canon_cons_unit_zero (S := S768x1024) zeros, View.readCov_unit_zero (S := S768x1024) _ zeros]
  simp only [View.readAt_eq_ld, h2.read_unread, h4.read_unread, View.ld_unit_zero (S := S2048x768) zeros, View.ld_unit_zero (S := S2048x1024) zeros]

theorem acc_E (c0 : ¬cond0_0 i) (c1 : ¬cond0_1 i) (c2 : cond0_2 i) (c3 : ¬cond0_3 i) (acc : Vec F S768x1024 .f32) :
    sout0_E_0 c i a2 h2 a3 h3 a4 h4 a5 h5 a6 h6 c0 c1 c2 c3 x g u acc = k0_pay3 acc u x := by
  unfold sout0_E_0
  rw [View.read_writes_eq_canon _ _ _ (scover0_E_0 c i a2 h2 a3 h3 a4 h4 a5 h5 a6 h6 c0 c1 c2 c3 x g u acc)]
  unfold kernelRun0_E
  dsimp only
  sl_unfold_words
  rw [View.canon_unit_zero zeros]
  simp only [View.readAt_eq_ld, h2.read_unread, h4.read_unread, h6.read_unread, View.ld_unit_zero (S := S2048x768) zeros, View.ld_unit_zero (S := S2048x1024) zeros, View.ld_unit_zero (S := S768x1024) zeros]

theorem out_F (c0 : ¬cond0_0 i) (c1 : ¬cond0_1 i) (c2 : cond0_2 i) (c3 : cond0_3 i) (acc : Vec F S768x1024 .f32) :
    out0_F_3 c i a2 h2 a3 h3 a4 h4 a5 h5 a6 h6 c0 c1 c2 c3 x g u acc = k0_pay4 (k0_pay3 acc u x) := by
  unfold out0_F_3
  rw [View.read_writes_eq_canon _ _ _ (cover0_F_3 c i a2 h2 a3 h3 a4 h4 a5 h5 a6 h6 c0 c1 c2 c3 x g u acc)]
  unfold kernelRun0_F
  dsimp only
  sl_unfold_words
  rw [View.canon_unit_zero zeros3, View.readCov_unit_zero (S := S768x1024) _ zeros]
  simp only [View.readAt_eq_ld, h2.read_unread, h4.read_unread, h6.read_unread, View.ld_unit_zero (S := S2048x768) zeros, View.ld_unit_zero (S := S2048x1024) zeros, View.ld_unit_zero (S := S768x1024) zeros]

end Run

/-! ## Over the extended reals -/

theorem pay1_apply (i : Fin 768) (d : Fin 1024) : (k0_pay1 (F := Ideal)) (ix2 i d) = 0 := by
  pointwise [k0_pay1]

theorem pay2_apply (acc : Vec Ideal S768x1024 .f32) (g : Vec Ideal S2048x768 .bf16) (x : Vec Ideal S2048x1024 .bf16) (i : Fin 768) (d : Fin 1024) :
    k0_pay2 (F := Ideal) acc g x (ix2 i d) = acc (ix2 i d) + ∑ r : Fin 2048, g (ix2 r i) * x (ix2 r d) := by
  pointwise [k0_pay2, dot_S2048x768_S2048x1024_S768x1024_0_0_1_1_n_n]

theorem pay3_apply (acc : Vec Ideal S768x1024 .f32) (g : Vec Ideal S2048x768 .bf16) (x : Vec Ideal S2048x1024 .bf16) (i : Fin 768) (d : Fin 1024) :
    k0_pay3 (F := Ideal) acc g x (ix2 i d) = acc (ix2 i d) + ∑ r : Fin 2048, g (ix2 r i) * x (ix2 r d) := by
  pointwise [k0_pay3, dot_S2048x768_S2048x1024_S768x1024_0_0_1_1_n_n]

theorem pay4_apply (acc : Vec Ideal S768x1024 .f32) (i : Fin 768) (d : Fin 1024) :
    k0_pay4 (F := Ideal) acc (ix3 0 i d) = acc (ix2 i d) := by
  pointwise [k0_pay4]

/-- Row `n` of 8192, column `n` of 3072. -/
def row (n : ℕ) : Fin 8192 := ⟨n % 8192, Nat.mod_lt _ (by decide)⟩
def col (n : ℕ) : Fin 3072 := ⟨n % 3072, Nat.mod_lt _ (by decide)⟩

/-- Element `n` of block `j` of the two gradients side by side, at row `r`. -/
def side (g u : FVec Ideal S8192x3072 .bf16) (r : Fin 8192) (j n : ℕ) : EReal :=
  if j ≤ 3 then g (ix2 r (col (768 * j + n))) else u (ix2 r (col (768 * (j - 4) + n)))

/-- The product of tile `q` of 2048 rows for block `j`. -/
def tile (x : FVec Ideal S8192x1024 .bf16) (g u : FVec Ideal S8192x3072 .bf16) (j q : ℕ) (i : Fin 768) (d : Fin 1024) : EReal :=
  ∑ r : Fin 2048, side g u (row (2048 * q + r.val)) j i * x (ix2 (row (2048 * q + r.val)) d)

variable (m : (ℓ : Loc nD τ sig) → Buf (Elt Ideal) ℓ) (c : Dev nD)

/-- The saved activations and the two gradients. -/
abbrev X : FVec Ideal S8192x1024 .bf16 := m (c.tc.loc main_arg0)
abbrev G : FVec Ideal S8192x3072 .bf16 := m (c.tc.loc main_arg1)
abbrev U : FVec Ideal S8192x3072 .bf16 := m (c.tc.loc main_arg2)

theorem index0 : ∀ t : Fin cfg0.N, win0_0.index t = ![t.val % 4, 0] := by decide +kernel
theorem index1 : ∀ t : Fin cfg0.N, t.val < 16 → win0_1.index t = ![t.val % 4, t.val / 4] := by decide +kernel
theorem index2 : ∀ t : Fin cfg0.N, ¬t.val < 16 → win0_2.index t = ![t.val % 4, t.val / 4 - 4] := by decide +kernel

theorem point_lt (t : Fin cfg0.N) : t.val < 32 := lt_of_lt_of_eq t.isLt (show cfg0.N = 32 from N_0)

/-- A point's blocks of the three. -/
abbrev Xb (t : Fin cfg0.N) : FVec Ideal S2048x1024 .bf16 := iblk m c 0 t
abbrev Gb (t : Fin cfg0.N) : FVec Ideal S2048x768 .bf16 := iblk m c 1 t
abbrev Ub (t : Fin cfg0.N) : FVec Ideal S2048x768 .bf16 := iblk m c 2 t

theorem block0 (t : Fin cfg0.N) (r : Fin 2048) (d : Fin 1024) :
    Xb m c t (ix2 r d) = X m c (ix2 (row (2048 * (t.val % 4) + r.val)) d) := by
  have ht := point_lt t
  have e : (row (2048 * (t.val % 4) + r.val)).val = 2048 * (t.val % 4) + r.val := Nat.mod_eq_of_lt (by omega)
  blk_ext! [Xb, iblk, V, index0, e]

theorem block1 (t : Fin cfg0.N) (h : t.val < 16) (r : Fin 2048) (n : Fin 768) :
    Gb m c t (ix2 r n) = G m c (ix2 (row (2048 * (t.val % 4) + r.val)) (col (768 * (t.val / 4) + n.val))) := by
  have ht := point_lt t
  have e : (row (2048 * (t.val % 4) + r.val)).val = 2048 * (t.val % 4) + r.val := Nat.mod_eq_of_lt (by omega)
  have e' : (col (768 * (t.val / 4) + n.val)).val = 768 * (t.val / 4) + n.val := Nat.mod_eq_of_lt (by omega)
  have hi := index1 t h
  blk_ext! [Gb, iblk, V, hi, e, e']

theorem block2 (t : Fin cfg0.N) (h : ¬t.val < 16) (r : Fin 2048) (n : Fin 768) :
    Ub m c t (ix2 r n) = U m c (ix2 (row (2048 * (t.val % 4) + r.val)) (col (768 * (t.val / 4 - 4) + n.val))) := by
  have ht := point_lt t
  have e : (row (2048 * (t.val % 4) + r.val)).val = 2048 * (t.val % 4) + r.val := Nat.mod_eq_of_lt (by omega)
  have e' : (col (768 * (t.val / 4 - 4) + n.val)).val = 768 * (t.val / 4 - 4) + n.val := Nat.mod_eq_of_lt (by omega)
  have hi := index2 t h
  blk_ext! [Ub, iblk, V, hi, e, e']

/-- A point's product is its tile's. -/
theorem product1 (t : Fin cfg0.N) (h : t.val < 16) (i : Fin 768) (d : Fin 1024) :
    ∑ r : Fin 2048, Gb m c t (ix2 r i) * Xb m c t (ix2 r d) = tile (X m c) (G m c) (U m c) (t.val / 4) (t.val % 4) i d :=
  Finset.sum_congr rfl fun r _ => congrArg₂ (· * ·) ((block1 m c t h r i).trans (if_pos (by omega)).symm) (block0 m c t r d)

theorem product2 (t : Fin cfg0.N) (h : ¬t.val < 16) (i : Fin 768) (d : Fin 1024) :
    ∑ r : Fin 2048, Ub m c t (ix2 r i) * Xb m c t (ix2 r d) = tile (X m c) (G m c) (U m c) (t.val / 4) (t.val % 4) i d :=
  Finset.sum_congr rfl fun r _ => congrArg₂ (· * ·) ((block2 m c t h r i).trans (if_neg (by omega)).symm) (block0 m c t r d)

/-- The accumulator after point `t`. -/
abbrev acc (t : ℕ) (ht : t < cfg0.N) : FVec Ideal S768x1024 .f32 := (outsAt0 m c t ht).2

/-- The accumulator's value at a point: what it held, or zero at a block's first, and the point's product. -/
theorem acc_first (t : ℕ) (ht : t < cfg0.N) (h0 : t % 4 = 0) (i : Fin 768) (d : Fin 1024) :
    acc m c t ht (ix2 i d) = tile (X m c) (G m c) (U m c) (t / 4) (t % 4) i d := by
  by_cases h : t < 16
  · have e : acc m c t ht = k0_pay2 (F := Ideal) (k0_pay1 (F := Ideal)) (Gb m c ⟨t, ht⟩) (Xb m c ⟨t, ht⟩) := by
      unfold acc
      rw [outsAt0_A m c ⟨t, ht⟩ h0 h (by show ¬16 ≤ t; omega) (by show ¬t % 4 = 3; omega), acc_A]
    rw [e, pay2_apply, pay1_apply, product1 m c ⟨t, ht⟩ h, zero_add]
  · have e : acc m c t ht = k0_pay3 (F := Ideal) (k0_pay1 (F := Ideal)) (Ub m c ⟨t, ht⟩) (Xb m c ⟨t, ht⟩) := by
      unfold acc
      rw [outsAt0_D m c ⟨t, ht⟩ h0 h (by show 16 ≤ t; omega) (by show ¬t % 4 = 3; omega), acc_D]
    rw [e, pay3_apply, pay1_apply, product2 m c ⟨t, ht⟩ h, zero_add]

theorem acc_next (t : ℕ) (ht : t < cfg0.N) (h0 : ¬t % 4 = 0) (h3 : ¬t % 4 = 3) (i : Fin 768) (d : Fin 1024) :
    acc m c t ht (ix2 i d) = acc m c (t - 1) (Nat.lt_of_le_of_lt (Nat.sub_le _ _) ht) (ix2 i d) + tile (X m c) (G m c) (U m c) (t / 4) (t % 4) i d := by
  by_cases h : t < 16
  · have e : acc m c t ht = k0_pay2 (F := Ideal) (acc m c (t - 1) (Nat.lt_of_le_of_lt (Nat.sub_le _ _) ht)) (Gb m c ⟨t, ht⟩) (Xb m c ⟨t, ht⟩) := by
      unfold acc
      rw [outsAt0_B m c ⟨t, ht⟩ h0 h (by show ¬16 ≤ t; omega) h3, acc_B]
    rw [e, pay2_apply, product1 m c ⟨t, ht⟩ h]
  · have e : acc m c t ht = k0_pay3 (F := Ideal) (acc m c (t - 1) (Nat.lt_of_le_of_lt (Nat.sub_le _ _) ht)) (Ub m c ⟨t, ht⟩) (Xb m c ⟨t, ht⟩) := by
      unfold acc
      rw [outsAt0_E m c ⟨t, ht⟩ h0 h (by show 16 ≤ t; omega) h3, acc_E]
    rw [e, pay3_apply, product2 m c ⟨t, ht⟩ h]

/-- What a block's last point writes. -/
theorem out_last (t : ℕ) (ht : t < cfg0.N) (h3 : t % 4 = 3) (i : Fin 768) (d : Fin 1024) :
    ((outsAt0 m c t ht).1 : FVec Ideal S1x768x1024 .bf16) (ix3 0 i d)
      = acc m c (t - 1) (Nat.lt_of_le_of_lt (Nat.sub_le _ _) ht) (ix2 i d) + tile (X m c) (G m c) (U m c) (t / 4) (t % 4) i d := by
  have h0 : ¬t % 4 = 0 := by omega
  by_cases h : t < 16
  · have e : ((outsAt0 m c t ht).1 : FVec Ideal S1x768x1024 .bf16)
        = k0_pay4 (F := Ideal) (k0_pay2 (F := Ideal) (acc m c (t - 1) (Nat.lt_of_le_of_lt (Nat.sub_le _ _) ht)) (Gb m c ⟨t, ht⟩) (Xb m c ⟨t, ht⟩)) := by
      rw [outsAt0_C m c ⟨t, ht⟩ h0 h (by show ¬16 ≤ t; omega) h3, out_C]
    rw [e, pay4_apply, pay2_apply, product1 m c ⟨t, ht⟩ h]
  · have e : ((outsAt0 m c t ht).1 : FVec Ideal S1x768x1024 .bf16)
        = k0_pay4 (F := Ideal) (k0_pay3 (F := Ideal) (acc m c (t - 1) (Nat.lt_of_le_of_lt (Nat.sub_le _ _) ht)) (Ub m c ⟨t, ht⟩) (Xb m c ⟨t, ht⟩)) := by
      rw [outsAt0_F m c ⟨t, ht⟩ h0 h (by show 16 ≤ t; omega) h3, out_F]
    rw [e, pay4_apply, pay3_apply, product2 m c ⟨t, ht⟩ h]

/-- The accumulator after each point but a block's last: the sum of the block's tiles so far. -/
theorem acc_sum (i : Fin 768) (d : Fin 1024) : ∀ (t : ℕ) (ht : t < cfg0.N), ¬t % 4 = 3 →
    acc m c t ht (ix2 i d) = ∑ q ∈ Finset.range (t % 4 + 1), tile (X m c) (G m c) (U m c) (t / 4) q i d
  | t, ht, h3 => by
    by_cases h0 : t % 4 = 0
    · rw [acc_first m c t ht h0, h0]
      exact (Finset.sum_range_one (M := EReal) fun q => tile (X m c) (G m c) (U m c) (t / 4) q i d).symm
    · rw [acc_next m c t ht h0 h3, acc_sum i d (t - 1) (Nat.lt_of_le_of_lt (Nat.sub_le _ _) ht) (by omega),
        show (t - 1) / 4 = t / 4 by omega, show (t - 1) % 4 + 1 = t % 4 by omega, Finset.sum_range_succ]

/-- What a block's last point writes: the sum of its four tiles. -/
theorem last (i : Fin 768) (d : Fin 1024) (t : ℕ) (ht : t < cfg0.N) (h3 : t % 4 = 3) :
    ((outsAt0 m c t ht).1 : FVec Ideal S1x768x1024 .bf16) (ix3 0 i d) = ∑ q ∈ Finset.range 4, tile (X m c) (G m c) (U m c) (t / 4) q i d := by
  rw [out_last m c t ht h3, acc_sum m c i d (t - 1) (Nat.lt_of_le_of_lt (Nat.sub_le _ _) ht) (by omega),
    show (t - 1) / 4 = t / 4 by omega, show (t - 1) % 4 + 1 = 3 by omega, h3, ← Finset.sum_range_succ]

/-- The same at any place of the block. -/
theorem last_at (t : ℕ) (ht : t < cfg0.N) (h3 : t % 4 = 3) (y : S1x768x1024.Idx) :
    ((outsAt0 m c t ht).1 : FVec Ideal S1x768x1024 .bf16) y = ∑ q ∈ Finset.range 4, tile (X m c) (G m c) (U m c) (t / 4) q (y 1) (y 2) :=
  (congrArg ((outsAt0 m c t ht).1 : FVec Ideal S1x768x1024 .bf16) ((eq_ix3 y).trans
    (congrArg (fun z : Fin 1 => (ix3 z (y 1) (y 2) : S1x768x1024.Idx)) (show y 0 = (0 : Fin 1) from Fin.ext (by have h : (y 0).val < 1 := (y 0).isLt; show (y 0).val = 0; omega))))).trans (last m c (y 1) (y 2) t ht h3)

theorem index3 : ∀ t : Fin cfg0.N, win0_3.index t = ![t.val / 4, 0, 0] := by decide +kernel
theorem flush3 : ∀ t : Fin cfg0.N, (cfg0.win 3).flush t = true → t.val % 4 = 3 := by decide +kernel

/-- A block's four tiles are all the rows. -/
theorem tiles (j : Fin 8) (i : Fin 768) (d : Fin 1024) :
    ∑ q ∈ Finset.range 4, tile (X m c) (G m c) (U m c) j.val q i d = ∑ r : Fin 8192, side (G m c) (U m c) r j i * X m c (ix2 r d) := by
  rw [Finset.sum_range]
  refine (Finset.sum_congr (M := EReal) rfl fun q _ => Finset.sum_congr rfl fun r _ => ?_).trans
    (Fin.sum_univ_tiles 4 2048 (by decide : 4 * 2048 = 8192) fun r => side (G m c) (U m c) r j i * X m c (ix2 r d)).symm
  have er : row (2048 * q.val + r.val) = ⟨q.val * 2048 + r.val, by omega⟩ := Fin.ext (by show (2048 * q.val + r.val) % 8192 = q.val * 2048 + r.val; omega)
  rw [er]

/-- What the call puts at a place of its result. -/
def grad (j : Fin 8) (i : Fin 768) (d : Fin 1024) : EReal := ∑ r : Fin 8192, side (G m c) (U m c) r j i * X m c (ix2 r d)

/-- The result's array after the run. -/
theorem array : ((dats m 0 c).arrAt 3 cfg0.N : FVec Ideal S8x768x1024 .bf16) = fun i => grad m c (i 0) (i 1) (i 2) := by
  refine (dats m 0 c).arrAt_eq_of_covers 3 _ (by decide +kernel) fun t hf y => ?_
  have ht : t.val < 32 := lt_of_lt_of_eq t.isLt (show cfg0.N = 32 from N_0)
  blk_simp
  rw [after0_3]
  refine (last_at m c t.val t.isLt (flush3 t hf) y).trans ((tiles m c ⟨t.val / 4, by omega⟩ (y 1) (y 2)).trans ?_)
  have e0 : (⟨t.val / 4, by omega⟩ : Fin 8) = (win0_3.blk t).view.emb y 0 := Fin.ext (by
    have h0 : (y 0).val < 1 := (y 0).isLt
    blk_simp [index3])
  have e1 : (y 1 : Fin 768) = (win0_3.blk t).view.emb y 1 := Fin.ext (by blk_simp [index3])
  have e2 : (y 2 : Fin 1024) = (win0_3.blk t).view.emb y 2 := Fin.ext (by blk_simp [index3])
  rw [← e0, ← e1, ← e2]
  rfl

/-- The call's run: its result's array and its arguments. -/
theorem run (ρ : Dev nD → PrngReg) : θ_run defs (onTc (τ := τ) (main (F := Ideal))) ⟨m, fun _ => 0, ρ⟩ fun r => ∀ c : Dev nD,
    r.2.mem (c.tc.loc main_v0) = (dats m 0 c).arrAt 3 cfg0.N ∧ r.2.mem (c.tc.loc main_arg0) = m (c.tc.loc main_arg0)
      ∧ r.2.mem (c.tc.loc main_arg1) = m (c.tc.loc main_arg1) ∧ r.2.mem (c.tc.loc main_arg2) = m (c.tc.loc main_arg2) :=
  (θ_run defs _ _).mono (fun _ h c => ⟨(h c).1 3,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c)))⟩) (run_main m ρ)

end Cert.InWgrad

namespace Cert.InWgrad
open Idealize.ShloMosaic Idealize.ShloMosaic.TcCoe Idealize.ShloMosaic.Tactic
open Cert.Reference4Ideal Cert.Reference4Ideal.Gen

/-- The reference's result. -/
def out (x : FVec Ideal S8192x1024 .bf16) (g u : FVec Ideal S8192x3072 .bf16) : FVec Ideal S8x768x1024 .bf16 :=
  truncf .bf16 (shapeCast _ (transpose S6144x1024 [1, 0] (transpose S1024x6144 [1, 0]
    (Host.dotGeneral (φ₁ := .f32) (φ₂ := .f32) dot_S8192x6144_S8192x1024_S6144x1024_0_0_1_1_n_n none
      (concatenate S8192x6144 1 [⟨S8192x3072, (extf .f32 g bitsLt_bf16_f32)⟩, ⟨S8192x3072, (extf .f32 u bitsLt_bf16_f32)⟩]
        concatenates_S8192x3072_S8192x3072_S8192x6144_d1) (extf .f32 x bitsLt_bf16_f32))
      transposes_S6144x1024_S1024x6144_1_0) transposes_S1024x6144_S6144x1024_1_0) shapeCasts_S6144x1024_S8x768x1024) bitsLt_bf16_f32

theorem out_apply (x : FVec Ideal S8192x1024 .bf16) (g u : FVec Ideal S8192x3072 .bf16) (j : Fin 8) (i : Fin 768) (d : Fin 1024) :
    out x g u (ix3 j i d) = ∑ r : Fin 8192, side g u r j i * x (ix2 r d) := by
  unfold out
  pointwise [dot_S8192x6144_S8192x1024_S6144x1024_0_0_1_1_n_n]
  refine Finset.sum_congr rfl fun r _ => congrArg (· * x (ix2 r d)) ?_
  unfold side
  by_cases h : j.val ≤ 3
  · rw [if_pos h, dif_pos (by omega)]
    exact congrArg (fun k => g (ix2 r k)) (Fin.ext (by show j.val * 768 + i.val = (768 * j.val + i.val) % 3072; omega))
  · rw [if_neg h, dif_neg (by omega)]
    exact congrArg (fun k => u (ix2 r k)) (Fin.ext (by show j.val * 768 + i.val - 3072 = (768 * (j.val - 4) + i.val) % 3072; omega))

/-- The call's array is the reference's result. -/
theorem meet (m : (ℓ : Loc Cert.Kernel4Ideal.nD Cert.Kernel4Ideal.τ Cert.Kernel4Ideal.sig) → Buf (Elt Ideal) ℓ) (c : Dev 1)
    {x : FVec Ideal S8192x1024 .bf16} {g u : FVec Ideal S8192x3072 .bf16} (ex : x = X m c) (eg : g = G m c) (eu : u = U m c) :
    out x g u = (Cert.Kernel4Ideal.Gen.dats m 0 c).arrAt 3 Cert.Kernel4Ideal.cfg0.N := by
  subst ex eg eu
  refine Eq.trans (funext fun i => ?_) (array m c).symm
  rw [eq_ix3 i]
  exact out_apply _ _ _ _ _ _

end Cert.InWgrad
end
-- ==== Proof.Products.OutFwd.lean ====
/-
  The down projection: every point's block of the product and of the gated residual sum, and the reference's at the same
  place. No side condition: the two sum the same products.
-/
module

public import proofs.«01_k».proof.Proof.Gen.Kernel5Ideal.Value
public import proofs.«01_k».proof.Proof.Gen.Reference5Ideal.Run
public import Idealize.ShloMosaic.Lib.Claim
public import Idealize.ShloMosaic.Lib.Pipeline.ValueKit

@[expose] public section
set_option maxRecDepth 16384

noncomputable section
namespace Cert.OutFwd
open Idealize.ShloMosaic Idealize.ShloMosaic.TcCoe Idealize.ShloMosaic.Tactic
open Cert.Kernel5Ideal Cert.Kernel5Ideal.Gen

theorem zeros : (![0, 0] : Fin 2 → Nat) = fun _ => 0 := funext fun a => by fin_cases a <;> rfl
theorem zeros3 : (![0, 0, 0] : Fin 3 → Nat) = fun _ => 0 := funext fun a => by fin_cases a <;> rfl

section Run
variable {F : FTy → Type} [FloatOps F]
variable (x : Vec F S1024x3072 .bf16) (w : Vec F S3072x512 .bf16) (r : Vec F S1024x512 .f32) (g : Vec F S1x1x512 .f32)

theorem out_4 : out0_4 x w r g = k0_pay2 x w r g := by
  unfold out0_4
  rw [View.canon_unit_zero zeros]
  simp only [View.ld_unit_zero (S := S1024x3072) zeros, View.ld_unit_zero (S := S3072x512) zeros, View.ld_unit_zero (S := S1024x512) zeros,
    View.ld_unit_zero (S := S1x1x512) zeros3]
theorem out_5 : out0_5 x w r g = k0_pay3 x w := by
  unfold out0_5
  rw [View.canon_unit_zero zeros]
  simp only [View.ld_unit_zero (S := S1024x3072) zeros, View.ld_unit_zero (S := S3072x512) zeros]
end Run

/-! ## Over the extended reals -/

theorem pay3_apply (x : Vec Ideal S1024x3072 .bf16) (w : Vec Ideal S3072x512 .bf16) (p : Fin 1024) (n : Fin 512) :
    k0_pay3 (F := Ideal) x w (ix2 p n) = ∑ d : Fin 3072, x (ix2 p d) * w (ix2 d n) := by
  pointwise [k0_pay3, k0_pay1, dot_S1024x3072_S3072x512_S1024x512_1_0_0_1_n_n]
theorem pay2_apply (x : Vec Ideal S1024x3072 .bf16) (w : Vec Ideal S3072x512 .bf16) (r : Vec Ideal S1024x512 .f32) (g : Vec Ideal S1x1x512 .f32)
    (p : Fin 1024) (n : Fin 512) :
    k0_pay2 (F := Ideal) x w r g (ix2 p n) = r (ix2 p n) + g (ix3 0 0 n) * ∑ d : Fin 3072, x (ix2 p d) * w (ix2 d n) := by
  pointwise [k0_pay2, k0_pay1, dot_S1024x3072_S3072x512_S1024x512_1_0_0_1_n_n]

/-- Row `n` of 8192; column `n` of 1024; sequence `n` of 4. -/
def row (n : ℕ) : Fin 8192 := ⟨n % 8192, Nat.mod_lt _ (by decide)⟩
def col (n : ℕ) : Fin 1024 := ⟨n % 1024, Nat.mod_lt _ (by decide)⟩
def seq (n : ℕ) : Fin 4 := ⟨n % 4, Nat.mod_lt _ (by decide)⟩

/-- The product's element. -/
def dot (a : FVec Ideal S8192x3072 .bf16) (w : FVec Ideal S3072x1024 .bf16) (r : Fin 8192) (n : Fin 1024) : EReal :=
  ∑ d : Fin 3072, a (ix2 r d) * w (ix2 d n)

/-- The residual sum's element: a row's sequence is the row divided by 2048. -/
def res (a : FVec Ideal S8192x3072 .bf16) (w : FVec Ideal S3072x1024 .bf16) (x : FVec Ideal S8192x1024 .f32) (g : FVec Ideal S4x1x1024 .f32)
    (r : Fin 8192) (n : Fin 1024) : EReal :=
  x (ix2 r n) + g (ix3 (seq (r.val / 2048)) 0 n) * dot a w r n

variable (m : (ℓ : Loc nD τ sig) → Buf (Elt Ideal) ℓ) (c : Dev nD)

/-- The activation, the weights, the residual and the gates. -/
abbrev A : FVec Ideal S8192x3072 .bf16 := m (c.tc.loc main_arg0)
abbrev W : FVec Ideal S3072x1024 .bf16 := m (c.tc.loc main_arg1)
abbrev R : FVec Ideal S8192x1024 .f32 := m (c.tc.loc main_arg2)
abbrev G : FVec Ideal S4x1x1024 .f32 := m (c.tc.loc main_arg3)

theorem index0 : ∀ t : Fin cfg0.N, win0_0.index t = ![t.val / 2, 0] := by decide +kernel
theorem index1 : ∀ t : Fin cfg0.N, win0_1.index t = ![0, t.val % 2] := by decide +kernel
theorem index2 : ∀ t : Fin cfg0.N, win0_2.index t = ![t.val / 2, t.val % 2] := by decide +kernel
theorem index3 : ∀ t : Fin cfg0.N, win0_3.index t = ![t.val / 4, 0, t.val % 2] := by decide +kernel
theorem index4 : ∀ t : Fin cfg0.N, win0_4.index t = ![t.val / 2, t.val % 2] := by decide +kernel
theorem index5 : ∀ t : Fin cfg0.N, win0_5.index t = ![t.val / 2, t.val % 2] := by decide +kernel

theorem point_lt (t : Fin cfg0.N) : t.val < 16 := lt_of_lt_of_eq t.isLt (show cfg0.N = 16 from N_0)

/-- A point's blocks of the activation, of the weights, of the residual and of the gates. -/
abbrev X (t : Fin cfg0.N) : FVec Ideal S1024x3072 .bf16 := iblk m c 0 t
abbrev Y (t : Fin cfg0.N) : FVec Ideal S3072x512 .bf16 := iblk m c 1 t
abbrev XR (t : Fin cfg0.N) : FVec Ideal S1024x512 .f32 := iblk m c 2 t
abbrev XG (t : Fin cfg0.N) : FVec Ideal S1x1x512 .f32 := iblk m c 3 t

theorem row_val (t : Fin cfg0.N) (p : Fin 1024) : (row (1024 * (t.val / 2) + p.val)).val = 1024 * (t.val / 2) + p.val :=
  Nat.mod_eq_of_lt (by have := point_lt t; omega)
theorem col_val (t : Fin cfg0.N) (n : Fin 512) : (col (512 * (t.val % 2) + n.val)).val = 512 * (t.val % 2) + n.val :=
  Nat.mod_eq_of_lt (by omega)

theorem block0 (t : Fin cfg0.N) (p : Fin 1024) (d : Fin 3072) : X m c t (ix2 p d) = A m c (ix2 (row (1024 * (t.val / 2) + p.val)) d) := by
  have e := row_val t p
  blk_ext! [X, iblk, V, index0, e]
theorem block1 (t : Fin cfg0.N) (d : Fin 3072) (n : Fin 512) : Y m c t (ix2 d n) = W m c (ix2 d (col (512 * (t.val % 2) + n.val))) := by
  have e := col_val t n
  blk_ext! [Y, iblk, V, index1, e]
theorem block2 (t : Fin cfg0.N) (p : Fin 1024) (n : Fin 512) :
    XR m c t (ix2 p n) = R m c (ix2 (row (1024 * (t.val / 2) + p.val)) (col (512 * (t.val % 2) + n.val))) := by
  have e := row_val t p
  have e' := col_val t n
  blk_ext! [XR, iblk, V, index2, e, e']
theorem block3 (t : Fin cfg0.N) (p : Fin 1024) (n : Fin 512) :
    XG m c t (ix3 0 0 n) = G m c (ix3 (seq ((row (1024 * (t.val / 2) + p.val)).val / 2048)) 0 (col (512 * (t.val % 2) + n.val))) := by
  have e : (seq ((row (1024 * (t.val / 2) + p.val)).val / 2048)).val = t.val / 4 := by
    rw [row_val]
    have := point_lt t
    show (1024 * (t.val / 2) + p.val) / 2048 % 4 = _
    omega
  have e' := col_val t n
  blk_ext! [XG, iblk, V, index3, e, e']

theorem product (t : Fin cfg0.N) (p : Fin 1024) (n : Fin 512) :
    ∑ d : Fin 3072, X m c t (ix2 p d) * Y m c t (ix2 d n)
      = dot (A m c) (W m c) (row (1024 * (t.val / 2) + p.val)) (col (512 * (t.val % 2) + n.val)) :=
  Finset.sum_congr rfl fun d _ => congrArg₂ (· * ·) (block0 m c t p d) (block1 m c t d n)

/-- What the call puts at a place of each result. -/
def resAt (r : Fin 8192) (n : Fin 1024) : EReal := res (A m c) (W m c) (R m c) (G m c) r n
def dotAt (r : Fin 8192) (n : Fin 1024) : EReal := dot (A m c) (W m c) r n

theorem point4 (t : Fin cfg0.N) (p : Fin 1024) (n : Fin 512) :
    out0_4 (F := Ideal) (X m c t) (Y m c t) (XR m c t) (XG m c t) (ix2 p n)
      = resAt m c (row (1024 * (t.val / 2) + p.val)) (col (512 * (t.val % 2) + n.val)) := by
  rw [out_4, pay2_apply, product, block2, block3 m c t p n]
  rfl
theorem point5 (t : Fin cfg0.N) (p : Fin 1024) (n : Fin 512) :
    out0_5 (F := Ideal) (X m c t) (Y m c t) (XR m c t) (XG m c t) (ix2 p n)
      = dotAt m c (row (1024 * (t.val / 2) + p.val)) (col (512 * (t.val % 2) + n.val)) := by
  rw [out_5, pay3_apply, product, dotAt]

/-- The results' arrays after the run. -/
theorem array4 : ((dats m 0 c).arrAt 4 cfg0.N : FVec Ideal S8192x1024 .f32) = fun i => resAt m c (i 0) (i 1) := by
  refine (dats m 0 c).arrAt_eq_of_covers 4 _ (by decide +kernel) fun t hf y => ?_
  blk_simp [index4]
  rw [after0_4]
  refine (congrArg (out0_4 (F := Ideal) (X m c t) (Y m c t) (XR m c t) (XG m c t)) (eq_ix2 y)).trans ((point4 m c t (y 0) (y 1)).trans ?_)
  exact congrArg₂ (resAt m c) (Fin.ext ((row_val t (y 0)).trans (by blk_simp [index4]; exact congrArg (· + _) (Nat.mul_comm _ _))))
    (Fin.ext ((col_val t (y 1)).trans (by blk_simp [index4]; exact congrArg (· + _) (Nat.mul_comm _ _))))
theorem array5 : ((dats m 0 c).arrAt 5 cfg0.N : FVec Ideal S8192x1024 .bf16) = fun i => dotAt m c (i 0) (i 1) := by
  refine (dats m 0 c).arrAt_eq_of_covers 5 _ (by decide +kernel) fun t hf y => ?_
  blk_simp [index5]
  rw [after0_5]
  refine (congrArg (out0_5 (F := Ideal) (X m c t) (Y m c t) (XR m c t) (XG m c t)) (eq_ix2 y)).trans ((point5 m c t (y 0) (y 1)).trans ?_)
  exact congrArg₂ (dotAt m c) (Fin.ext ((row_val t (y 0)).trans (by blk_simp [index5]; exact congrArg (· + _) (Nat.mul_comm _ _))))
    (Fin.ext ((col_val t (y 1)).trans (by blk_simp [index5]; exact congrArg (· + _) (Nat.mul_comm _ _))))

end Cert.OutFwd

namespace Cert.OutFwd
open Idealize.ShloMosaic Idealize.ShloMosaic.TcCoe Idealize.ShloMosaic.Tactic
open Cert.Reference5Ideal Cert.Reference5Ideal.Gen

/-- The reference's product. -/
abbrev prod (a : FVec Ideal S8192x3072 .bf16) (w : FVec Ideal S3072x1024 .bf16) : FVec Ideal S8192x1024 .f32 :=
  Host.dotGeneral (φ₁ := .f32) (φ₂ := .f32) dot_S8192x3072_S3072x1024_S8192x1024_1_0_0_1_n_n none (extf .f32 a bitsLt_bf16_f32) (extf .f32 w bitsLt_bf16_f32)

/-- The reference's results. -/
def outRes (a : FVec Ideal S8192x3072 .bf16) (w : FVec Ideal S3072x1024 .bf16) (x : FVec Ideal S8192x1024 .f32) (g : FVec Ideal S4x1x1024 .f32) :
    FVec Ideal S8192x1024 .f32 :=
  shapeCast _ (addf (shapeCast _ x shapeCasts_S8192x1024_S4x2048x1024) (mulf (broadcastInDim S4x2048x1024 ![0, 1, 2] bcast_S4x1x1024_S4x2048x1024_0_1_2 g) (shapeCast _ (prod a w) shapeCasts_S8192x1024_S4x2048x1024))) shapeCasts_S4x2048x1024_S8192x1024
def outDot (a : FVec Ideal S8192x3072 .bf16) (w : FVec Ideal S3072x1024 .bf16) : FVec Ideal S8192x1024 .bf16 :=
  truncf .bf16 (prod a w) bitsLt_bf16_f32

theorem prod_apply (a : FVec Ideal S8192x3072 .bf16) (w : FVec Ideal S3072x1024 .bf16) (r : Fin 8192) (n : Fin 1024) :
    prod a w (ix2 r n) = dot a w r n := by
  unfold prod dot
  pointwise [dot_S8192x3072_S3072x1024_S8192x1024_1_0_0_1_n_n]

theorem outDot_apply (a : FVec Ideal S8192x3072 .bf16) (w : FVec Ideal S3072x1024 .bf16) (r : Fin 8192) (n : Fin 1024) :
    outDot a w (ix2 r n) = dot a w r n := prod_apply _ _ _ _
theorem outRes_apply (a : FVec Ideal S8192x3072 .bf16) (w : FVec Ideal S3072x1024 .bf16) (x : FVec Ideal S8192x1024 .f32) (g : FVec Ideal S4x1x1024 .f32)
    (r : Fin 8192) (n : Fin 1024) : outRes a w x g (ix2 r n) = res a w x g r n := by
  unfold res
  rw [← prod_apply]
  unfold outRes
  generalize prod a w = p
  pointwise
  have e : (⟨r.val / 2048, by omega⟩ : Fin 4) = seq (r.val / 2048) := Fin.ext (by show r.val / 2048 = r.val / 2048 % 4; omega)
  rw [e]

variable (m : (ℓ : Loc Cert.Kernel5Ideal.nD Cert.Kernel5Ideal.τ Cert.Kernel5Ideal.sig) → Buf (Elt Ideal) ℓ) (c : Dev 1)
variable {a : FVec Ideal S8192x3072 .bf16} {w : FVec Ideal S3072x1024 .bf16} {x : FVec Ideal S8192x1024 .f32} {g : FVec Ideal S4x1x1024 .f32}

/-- The call's arrays are the reference's results. -/
theorem meetRes (ea : a = A m c) (ew : w = W m c) (ex : x = R m c) (eg : g = G m c) :
    outRes a w x g = (Cert.Kernel5Ideal.Gen.dats m 0 c).arrAt 4 Cert.Kernel5Ideal.cfg0.N := by
  subst ea ew ex eg
  refine Eq.trans (funext fun i => ?_) (array4 m c).symm
  rw [eq_ix2 i]
  exact outRes_apply _ _ _ _ _ _
theorem meetDot (ea : a = A m c) (ew : w = W m c) : outDot a w = (Cert.Kernel5Ideal.Gen.dats m 0 c).arrAt 5 Cert.Kernel5Ideal.cfg0.N := by
  subst ea ew
  refine Eq.trans (funext fun i => ?_) (array5 m c).symm
  rw [eq_ix2 i]
  exact outDot_apply _ _ _ _

end Cert.OutFwd
end
-- ==== Proof.Products.ProjWgrad.lean ====
/-
  The weights' gradient of the input projection: over any arguments, what the call's accumulator holds after each of the four
  points that share a block of columns, what the array holds at the end, and that the reference's product is the same sum.
-/
module

public import proofs.«01_k».proof.Proof.Gen.Kernel6Ideal.Value
public import proofs.«01_k».proof.Proof.Gen.Reference6Ideal.Run
public import Idealize.ShloMosaic.Lib.Claim
public import Idealize.ShloMosaic.Lib.Pipeline.ValueKit

@[expose] public section
set_option maxRecDepth 16384

noncomputable section
namespace Cert.ProjWgrad
open Idealize.ShloMosaic Idealize.ShloMosaic.TcCoe Idealize.ShloMosaic.Tactic
open Cert.Kernel6Ideal Cert.Kernel6Ideal.Gen

theorem zeros : (![0, 0] : Fin 2 → Nat) = fun _ => 0 := funext fun a => by fin_cases a <;> rfl
theorem zeros3 : (![0, 0, 0] : Fin 3 → Nat) = fun _ => 0 := funext fun a => by fin_cases a <;> rfl

section Run
variable {F : FTy → Type} [FloatOps F]
variable (c : Dev nD) (i : grid0.Coords) (a3 : Memref sig .tc .vmem S2048x1024 .bf16) (h3 : a3.IsWhole)
  (a4 : Memref sig .tc .vmem S2048x768 .bf16) (h4 : a4.IsWhole) (a5 : Memref sig .tc .vmem S1x1024x768 .bf16) (h5 : a5.IsWhole)
  (a6 : Memref sig .tc .vmem S1024x768 .f32) (h6 : a6.IsWhole) (x : Vec F S2048x1024 .bf16) (y : Vec F S2048x768 .bf16)

/-- The first point of a block of columns leaves zero and its own product. -/
theorem acc_A (c0 : cond0_0 i) (c1 : ¬cond0_1 i) :
    sout0_A_0 c i a3 h3 a4 h4 a5 h5 a6 h6 c0 c1 x y = k0_pay2 k0_pay1 x y := by
  unfold sout0_A_0
  rw [View.read_writes_eq_canon _ _ _ (scover0_A_0 c i a3 h3 a4 h4 a5 h5 a6 h6 c0 c1 x y)]
  unfold kernelRun0_A
  dsimp only
  sl_unfold_words
  rw [View.canon_cons_unit_zero (S := S1024x768) zeros, View.readCov_unit_zero (S := S1024x768) _ zeros]
  simp only [View.readAt_eq_ld, h3.read_unread, h4.read_unread, View.ld_unit_zero (S := S2048x1024) zeros, View.ld_unit_zero (S := S2048x768) zeros]

/-- A point between adds its product to what the accumulator held. -/
theorem acc_B (c0 : ¬cond0_0 i) (c1 : ¬cond0_1 i) (acc : Vec F S1024x768 .f32) :
    sout0_B_0 c i a3 h3 a4 h4 a5 h5 a6 h6 c0 c1 x y acc = k0_pay2 acc x y := by
  unfold sout0_B_0
  rw [View.read_writes_eq_canon _ _ _ (scover0_B_0 c i a3 h3 a4 h4 a5 h5 a6 h6 c0 c1 x y acc)]
  unfold kernelRun0_B
  dsimp only
  sl_unfold_words
  rw [View.canon_unit_zero zeros]
  simp only [View.readAt_eq_ld, h3.read_unread, h4.read_unread, h6.read_unread, View.ld_unit_zero (S := S2048x1024) zeros, View.ld_unit_zero (S := S2048x768) zeros, View.ld_unit_zero (S := S1024x768) zeros]

/-- The last point writes the accumulator, with its own product, to the result's block. -/
theorem out_C (c0 : ¬cond0_0 i) (c1 : cond0_1 i) (acc : Vec F S1024x768 .f32) :
    out0_C_2 c i a3 h3 a4 h4 a5 h5 a6 h6 c0 c1 x y acc = k0_pay3 (k0_pay2 acc x y) := by
  unfold out0_C_2
  rw [View.read_writes_eq_canon _ _ _ (cover0_C_2 c i a3 h3 a4 h4 a5 h5 a6 h6 c0 c1 x y acc)]
  unfold kernelRun0_C
  dsimp only
  sl_unfold_words
  rw [View.canon_unit_zero zeros3, View.readCov_unit_zero (S := S1024x768) _ zeros]
  simp only [View.readAt_eq_ld, h3.read_unread, h4.read_unread, h6.read_unread, View.ld_unit_zero (S := S2048x1024) zeros, View.ld_unit_zero (S := S2048x768) zeros, View.ld_unit_zero (S := S1024x768) zeros]
end Run

/-! ## Over the extended reals -/

theorem pay1_apply (i : Fin 1024) (j : Fin 768) : (k0_pay1 (F := Ideal)) (ix2 i j) = 0 := by
  pointwise [k0_pay1]

theorem pay2_apply (acc : Vec Ideal S1024x768 .f32) (x : Vec Ideal S2048x1024 .bf16) (y : Vec Ideal S2048x768 .bf16) (i : Fin 1024) (j : Fin 768) :
    k0_pay2 (F := Ideal) acc x y (ix2 i j) = acc (ix2 i j) + ∑ r : Fin 2048, x (ix2 r i) * y (ix2 r j) := by
  pointwise [k0_pay2, dot_S2048x1024_S2048x768_S1024x768_0_0_1_1_n_n]

theorem pay3_apply (acc : Vec Ideal S1024x768 .f32) (i : Fin 1024) (j : Fin 768) :
    k0_pay3 (F := Ideal) acc (ix3 0 i j) = acc (ix2 i j) := by
  pointwise [k0_pay3]

/-- Row `n` of 8192, column `n` of 6144. -/
def row (n : ℕ) : Fin 8192 := ⟨n % 8192, Nat.mod_lt _ (by decide)⟩
def col (n : ℕ) : Fin 6144 := ⟨n % 6144, Nat.mod_lt _ (by decide)⟩

/-- The product of tile `q` of 2048 rows for block `j` of 768 columns. -/
def tile (a : FVec Ideal S8192x1024 .bf16) (g : FVec Ideal S8192x6144 .bf16) (j q : ℕ) (i : Fin 1024) (n : Fin 768) : EReal :=
  ∑ r : Fin 2048, a (ix2 (row (2048 * q + r.val)) i) * g (ix2 (row (2048 * q + r.val)) (col (768 * j + n.val)))

variable (m : (ℓ : Loc nD τ sig) → Buf (Elt Ideal) ℓ) (c : Dev nD)

/-- The saved activations and the incoming gradient. -/
abbrev A : FVec Ideal S8192x1024 .bf16 := m (c.tc.loc main_arg0)
abbrev G : FVec Ideal S8192x6144 .bf16 := m (c.tc.loc main_arg1)

theorem index0 : ∀ t : Fin cfg0.N, win0_0.index t = ![t.val % 4, 0] := by decide +kernel
theorem index1 : ∀ t : Fin cfg0.N, win0_1.index t = ![t.val % 4, t.val / 4] := by decide +kernel

theorem point_lt (t : Fin cfg0.N) : t.val < 32 := lt_of_lt_of_eq t.isLt (show cfg0.N = 32 from N_0)

/-- A point's blocks of the two, the second product's operands. -/
abbrev X (t : Fin cfg0.N) : FVec Ideal S2048x1024 .bf16 := iblk m c 0 t
abbrev Y (t : Fin cfg0.N) : FVec Ideal S2048x768 .bf16 := iblk m c 1 t

theorem block0 (t : Fin cfg0.N) (r : Fin 2048) (i : Fin 1024) :
    X m c t (ix2 r i) = A m c (ix2 (row (2048 * (t.val % 4) + r.val)) i) := by
  have ht := point_lt t
  have e : (row (2048 * (t.val % 4) + r.val)).val = 2048 * (t.val % 4) + r.val := Nat.mod_eq_of_lt (by omega)
  blk_ext! [X, iblk, V, index0, e]

theorem block1 (t : Fin cfg0.N) (r : Fin 2048) (n : Fin 768) :
    Y m c t (ix2 r n) = G m c (ix2 (row (2048 * (t.val % 4) + r.val)) (col (768 * (t.val / 4) + n.val))) := by
  have ht := point_lt t
  have e : (row (2048 * (t.val % 4) + r.val)).val = 2048 * (t.val % 4) + r.val := Nat.mod_eq_of_lt (by omega)
  have e' : (col (768 * (t.val / 4) + n.val)).val = 768 * (t.val / 4) + n.val := Nat.mod_eq_of_lt (by omega)
  blk_ext! [Y, iblk, V, index1, e, e']

/-- A point's product is its tile's. -/
theorem product (t : Fin cfg0.N) (i : Fin 1024) (n : Fin 768) :
    ∑ r : Fin 2048, X m c t (ix2 r i) * Y m c t (ix2 r n) = tile (A m c) (G m c) (t.val / 4) (t.val % 4) i n :=
  Finset.sum_congr rfl fun r _ => congrArg₂ (· * ·) (block0 m c t r i) (block1 m c t r n)

/-- The accumulator after point `t`. -/
abbrev acc (t : ℕ) (ht : t < cfg0.N) : FVec Ideal S1024x768 .f32 := (outsAt0 m c t ht).2

theorem acc_first (t : ℕ) (ht : t < cfg0.N) (h0 : t % 4 = 0) : acc m c t ht = k0_pay2 (F := Ideal) (k0_pay1 (F := Ideal)) (X m c ⟨t, ht⟩) (Y m c ⟨t, ht⟩) := by
  unfold acc
  rw [outsAt0_A m c ⟨t, ht⟩ h0 (by show ¬t % 4 = 3; omega), acc_A]

theorem acc_next (t : ℕ) (ht : t < cfg0.N) (h0 : ¬t % 4 = 0) (h3 : ¬t % 4 = 3) :
    acc m c t ht = k0_pay2 (F := Ideal) (acc m c (t - 1) (Nat.lt_of_le_of_lt (Nat.sub_le _ _) ht)) (X m c ⟨t, ht⟩) (Y m c ⟨t, ht⟩) := by
  unfold acc
  rw [outsAt0_B m c ⟨t, ht⟩ h0 h3, acc_B]

/-- The accumulator after each point but a block's last: the sum of the block's tiles so far. -/
theorem acc_sum (i : Fin 1024) (n : Fin 768) : ∀ (t : ℕ) (ht : t < cfg0.N), ¬t % 4 = 3 →
    acc m c t ht (ix2 i n) = ∑ q ∈ Finset.range (t % 4 + 1), tile (A m c) (G m c) (t / 4) q i n
  | t, ht, h3 => by
    by_cases h0 : t % 4 = 0
    · rw [acc_first m c t ht h0, pay2_apply, pay1_apply, product, zero_add, h0]
      exact (Finset.sum_range_one (M := EReal) fun q => tile (A m c) (G m c) (t / 4) q i n).symm
    · rw [acc_next m c t ht h0 h3, pay2_apply, product, acc_sum i n (t - 1) (Nat.lt_of_le_of_lt (Nat.sub_le _ _) ht) (by omega), show (t - 1) / 4 = t / 4 by omega,
        show (t - 1) % 4 + 1 = t % 4 by omega, Finset.sum_range_succ]

/-- What a block's last point writes: the sum of its four tiles. -/
theorem last (i : Fin 1024) (n : Fin 768) (t : ℕ) (ht : t < cfg0.N) (h3 : t % 4 = 3) :
    ((outsAt0 m c t ht).1 : FVec Ideal S1x1024x768 .bf16) (ix3 0 i n) = ∑ q ∈ Finset.range 4, tile (A m c) (G m c) (t / 4) q i n := by
  have e : ((outsAt0 m c t ht).1 : FVec Ideal S1x1024x768 .bf16)
      = k0_pay3 (F := Ideal) (k0_pay2 (F := Ideal) (acc m c (t - 1) (Nat.lt_of_le_of_lt (Nat.sub_le _ _) ht)) (X m c ⟨t, ht⟩) (Y m c ⟨t, ht⟩)) := by
    rw [outsAt0_C m c ⟨t, ht⟩ (by show ¬t % 4 = 0; omega) h3, out_C]
  rw [e, pay3_apply, pay2_apply, product, acc_sum m c i n (t - 1) (Nat.lt_of_le_of_lt (Nat.sub_le _ _) ht) (by omega),
    show (t - 1) / 4 = t / 4 by omega, show (t - 1) % 4 + 1 = 3 by omega, h3, ← Finset.sum_range_succ]

/-- The result's array after the run. -/
theorem array (j : Fin 8) (i : Fin 1024) (n : Fin 768) :
    (Cert.Kernel6Ideal.Value.G2 m c : FVec Ideal S8x1024x768 .bf16) (ix3 j i n)
      = ∑ r : Fin 8192, A m c (ix2 r i) * G m c (ix2 r (col (768 * j.val + n.val))) := by
  have hp : Cert.Kernel6Ideal.Value.pt2Of (ix3 j i n) = 4 * j.val + 3 := by
    show 4 * (1 * (j.val / 1 - 0) + 1 * (i.val / 1024 - 0) + 1 * (n.val / 768 - 0)) + 3 = _
    omega
  have hl : Cert.Kernel6Ideal.Value.loc2Of (ix3 j i n) = ix3 0 i n := by
    funext a; apply Fin.ext
    match a with
    | ⟨0, _⟩ => exact Nat.mod_one _
    | ⟨1, _⟩ => exact Nat.mod_eq_of_lt i.isLt
    | ⟨2, _⟩ => exact Nat.mod_eq_of_lt n.isLt
  have hN : cfg0.N = 32 := N_0
  have hlt : 4 * j.val + 3 < cfg0.N := by omega
  have e : (Cert.Kernel6Ideal.Value.G2 m c : FVec Ideal S8x1024x768 .bf16) (ix3 j i n)
      = ((outsAt0 m c (4 * j.val + 3) hlt).1 : FVec Ideal S1x1024x768 .bf16) (ix3 0 i n) := by
    unfold Cert.Kernel6Ideal.Value.G2
    rw [dif_pos (by rw [hp]; exact hlt), hl, Cert.Kernel6Ideal.Value.fold0_congr m c _ _ (4 * j.val + 3) (by omega) hp,
      ← Cert.Kernel6Ideal.Value.outsAt0_sweep m c (4 * j.val + 3) hlt]
  rw [e, last m c i n _ hlt (by omega), show (4 * j.val + 3) / 4 = j.val by omega, Finset.sum_range]
  refine (Finset.sum_congr (M := EReal) rfl fun q _ => Finset.sum_congr rfl fun r _ => ?_).trans
    (Fin.sum_univ_tiles 4 2048 (by decide : 4 * 2048 = 8192) fun r => A m c (ix2 r i) * G m c (ix2 r (col (768 * j.val + n.val)))).symm
  have er : row (2048 * q.val + r.val) = ⟨q.val * 2048 + r.val, by omega⟩ := Fin.ext (by show (2048 * q.val + r.val) % 8192 = q.val * 2048 + r.val; omega)
  rw [er]

end Cert.ProjWgrad

namespace Cert.ProjWgrad
open Idealize.ShloMosaic Idealize.ShloMosaic.TcCoe Idealize.ShloMosaic.Tactic
open Cert.Reference6Ideal Cert.Reference6Ideal.Gen

/-- The reference's result. -/
def out (a : FVec Ideal S8192x1024 .bf16) (g : FVec Ideal S8192x6144 .bf16) : FVec Ideal S8x1024x768 .bf16 :=
  truncf .bf16 (transpose S8x1024x768 [1, 0, 2] (shapeCast _ (transpose S1024x6144 [1, 0]
    (Host.dotGeneral (φ₁ := .f32) (φ₂ := .f32) dot_S8192x6144_S8192x1024_S6144x1024_0_0_1_1_n_n none
      (extf .f32 g bitsLt_bf16_f32) (extf .f32 a bitsLt_bf16_f32))
      transposes_S6144x1024_S1024x6144_1_0) shapeCasts_S1024x6144_S1024x8x768)
      transposes_S1024x8x768_S8x1024x768_1_0_2) bitsLt_bf16_f32

theorem out_apply (a : FVec Ideal S8192x1024 .bf16) (g : FVec Ideal S8192x6144 .bf16) (j : Fin 8) (i : Fin 1024) (n : Fin 768) :
    out a g (ix3 j i n) = ∑ r : Fin 8192, a (ix2 r i) * g (ix2 r (col (768 * j.val + n.val))) := by
  unfold out
  pointwise [dot_S8192x6144_S8192x1024_S6144x1024_0_0_1_1_n_n]
  have e : (⟨j.val * 768 + n.val, by omega⟩ : Fin 6144) = col (768 * j.val + n.val) :=
    Fin.ext (by show j.val * 768 + n.val = (768 * j.val + n.val) % 6144; omega)
  rw [e]
  exact Finset.sum_congr rfl fun r _ => mul_comm _ _

/-- The call's array is the reference's result. -/
theorem meet (m : (ℓ : Loc Cert.Kernel6Ideal.nD Cert.Kernel6Ideal.τ Cert.Kernel6Ideal.sig) → Buf (Elt Ideal) ℓ) (c : Dev 1)
    {a : FVec Ideal S8192x1024 .bf16} {g : FVec Ideal S8192x6144 .bf16} (ea : a = A m c) (eg : g = G m c) :
    out a g = Cert.Kernel6Ideal.Value.G2 m c := by
  funext i
  subst ea eg
  rw [eq_ix3 i]
  exact (out_apply _ _ _ _ _).trans (array m c _ _ _).symm

end Cert.ProjWgrad
end
-- ==== Proof.Products.OutWgrad.lean ====
/-
  The weights' gradient of the feed-forward output product: over any arguments, what the call's accumulator holds after each of the four
  points that share a block of rows, what the array holds at the end, and that the reference's product is the same sum.
-/
module

public import proofs.«01_k».proof.Proof.Gen.Kernel7Ideal.Value
public import proofs.«01_k».proof.Proof.Gen.Reference7Ideal.Run
public import Idealize.ShloMosaic.Lib.Claim
public import Idealize.ShloMosaic.Lib.Pipeline.ValueKit

@[expose] public section
set_option maxRecDepth 16384

noncomputable section
namespace Cert.OutWgrad
open Idealize.ShloMosaic Idealize.ShloMosaic.TcCoe Idealize.ShloMosaic.Tactic
open Cert.Kernel7Ideal Cert.Kernel7Ideal.Gen

theorem zeros : (![0, 0] : Fin 2 → Nat) = fun _ => 0 := funext fun a => by fin_cases a <;> rfl

section Run
variable {F : FTy → Type} [FloatOps F]
variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1024x1024 .bf16) (h5 : a5.IsWhole)
  (a6 : Memref sig .tc .vmem S1024x1024 .f32) (h6 : a6.IsWhole) (x : Vec F S2048x1024 .bf16) (y : Vec F S2048x1024 .bf16)

/-- The first point of a block of columns leaves zero and its own product. -/
theorem acc_A (c0 : cond0_0 i) (c1 : ¬cond0_1 i) :
    sout0_A_0 c i a3 h3 a4 h4 a5 h5 a6 h6 c0 c1 x y = k0_pay2 k0_pay1 x y := by
  unfold sout0_A_0
  rw [View.read_writes_eq_canon _ _ _ (scover0_A_0 c i a3 h3 a4 h4 a5 h5 a6 h6 c0 c1 x y)]
  unfold kernelRun0_A
  dsimp only
  sl_unfold_words
  rw [View.canon_cons_unit_zero (S := S1024x1024) zeros, View.readCov_unit_zero (S := S1024x1024) _ zeros]
  simp only [View.readAt_eq_ld, h3.read_unread, h4.read_unread, View.ld_unit_zero (S := S2048x1024) zeros]

/-- A point between adds its product to what the accumulator held. -/
theorem acc_B (c0 : ¬cond0_0 i) (c1 : ¬cond0_1 i) (acc : Vec F S1024x1024 .f32) :
    sout0_B_0 c i a3 h3 a4 h4 a5 h5 a6 h6 c0 c1 x y acc = k0_pay2 acc x y := by
  unfold sout0_B_0
  rw [View.read_writes_eq_canon _ _ _ (scover0_B_0 c i a3 h3 a4 h4 a5 h5 a6 h6 c0 c1 x y acc)]
  unfold kernelRun0_B
  dsimp only
  sl_unfold_words
  rw [View.canon_unit_zero zeros]
  simp only [View.readAt_eq_ld, h3.read_unread, h4.read_unread, h6.read_unread, View.ld_unit_zero (S := S2048x1024) zeros, View.ld_unit_zero (S := S1024x1024) zeros]

/-- The last point writes the accumulator, with its own product, to the result's block. -/
theorem out_C (c0 : ¬cond0_0 i) (c1 : cond0_1 i) (acc : Vec F S1024x1024 .f32) :
    out0_C_2 c i a3 h3 a4 h4 a5 h5 a6 h6 c0 c1 x y acc = k0_pay3 (k0_pay2 acc x y) := by
  unfold out0_C_2
  rw [View.read_writes_eq_canon _ _ _ (cover0_C_2 c i a3 h3 a4 h4 a5 h5 a6 h6 c0 c1 x y acc)]
  unfold kernelRun0_C
  dsimp only
  sl_unfold_words
  rw [View.canon_unit_zero zeros, View.readCov_unit_zero (S := S1024x1024) _ zeros]
  simp only [View.readAt_eq_ld, h3.read_unread, h4.read_unread, h6.read_unread, View.ld_unit_zero (S := S2048x1024) zeros, View.ld_unit_zero (S := S1024x1024) zeros]
end Run

/-! ## Over the extended reals -/

theorem pay1_apply (i : Fin 1024) (j : Fin 1024) : (k0_pay1 (F := Ideal)) (ix2 i j) = 0 := by
  pointwise [k0_pay1]

theorem pay2_apply (acc : Vec Ideal S1024x1024 .f32) (x : Vec Ideal S2048x1024 .bf16) (y : Vec Ideal S2048x1024 .bf16) (i : Fin 1024) (j : Fin 1024) :
    k0_pay2 (F := Ideal) acc x y (ix2 i j) = acc (ix2 i j) + ∑ r : Fin 2048, x (ix2 r i) * y (ix2 r j) := by
  pointwise [k0_pay2, dot_S2048x1024_S2048x1024_S1024x1024_0_0_1_1_n_n]

theorem pay3_apply (acc : Vec Ideal S1024x1024 .f32) (i : Fin 1024) (j : Fin 1024) :
    k0_pay3 (F := Ideal) acc (ix2 i j) = acc (ix2 i j) := by
  pointwise [k0_pay3]

/-- Row `n` of 8192, column `n` of 3072. -/
def row (n : ℕ) : Fin 8192 := ⟨n % 8192, Nat.mod_lt _ (by decide)⟩
def col (n : ℕ) : Fin 3072 := ⟨n % 3072, Nat.mod_lt _ (by decide)⟩

/-- The product of tile `q` of 2048 rows. -/
def tile (a : FVec Ideal S8192x3072 .bf16) (g : FVec Ideal S8192x1024 .bf16) (q : ℕ) (i : Fin 3072) (n : Fin 1024) : EReal :=
  ∑ r : Fin 2048, a (ix2 (row (2048 * q + r.val)) i) * g (ix2 (row (2048 * q + r.val)) n)

variable (m : (ℓ : Loc nD τ sig) → Buf (Elt Ideal) ℓ) (c : Dev nD)

/-- The saved activations and the incoming gradient. -/
abbrev A : FVec Ideal S8192x3072 .bf16 := m (c.tc.loc main_arg0)
abbrev G : FVec Ideal S8192x1024 .bf16 := m (c.tc.loc main_arg1)

theorem index0 : ∀ t : Fin cfg0.N, win0_0.index t = ![t.val % 4, t.val / 4] := by decide +kernel
theorem index1 : ∀ t : Fin cfg0.N, win0_1.index t = ![t.val % 4, 0] := by decide +kernel

theorem point_lt (t : Fin cfg0.N) : t.val < 12 := lt_of_lt_of_eq t.isLt (show cfg0.N = 12 from N_0)

/-- A point's blocks of the two, the second product's operands. -/
abbrev X (t : Fin cfg0.N) : FVec Ideal S2048x1024 .bf16 := iblk m c 0 t
abbrev Y (t : Fin cfg0.N) : FVec Ideal S2048x1024 .bf16 := iblk m c 1 t

theorem block0 (t : Fin cfg0.N) (r : Fin 2048) (i : Fin 1024) :
    X m c t (ix2 r i) = A m c (ix2 (row (2048 * (t.val % 4) + r.val)) (col (1024 * (t.val / 4) + i.val))) := by
  have ht := point_lt t
  have e : (row (2048 * (t.val % 4) + r.val)).val = 2048 * (t.val % 4) + r.val := Nat.mod_eq_of_lt (by omega)
  have e' : (col (1024 * (t.val / 4) + i.val)).val = 1024 * (t.val / 4) + i.val := Nat.mod_eq_of_lt (by omega)
  blk_ext! [X, iblk, V, index0, e, e']

theorem block1 (t : Fin cfg0.N) (r : Fin 2048) (n : Fin 1024) :
    Y m c t (ix2 r n) = G m c (ix2 (row (2048 * (t.val % 4) + r.val)) n) := by
  have ht := point_lt t
  have e : (row (2048 * (t.val % 4) + r.val)).val = 2048 * (t.val % 4) + r.val := Nat.mod_eq_of_lt (by omega)
  blk_ext! [Y, iblk, V, index1, e]

/-- A point's product is its tile's. -/
theorem product (t : Fin cfg0.N) (i : Fin 1024) (n : Fin 1024) :
    ∑ r : Fin 2048, X m c t (ix2 r i) * Y m c t (ix2 r n) = tile (A m c) (G m c) (t.val % 4) (col (1024 * (t.val / 4) + i.val)) n :=
  Finset.sum_congr rfl fun r _ => congrArg₂ (· * ·) (block0 m c t r i) (block1 m c t r n)

/-- The accumulator after point `t`. -/
abbrev acc (t : ℕ) (ht : t < cfg0.N) : FVec Ideal S1024x1024 .f32 := (outsAt0 m c t ht).2

theorem acc_first (t : ℕ) (ht : t < cfg0.N) (h0 : t % 4 = 0) : acc m c t ht = k0_pay2 (F := Ideal) (k0_pay1 (F := Ideal)) (X m c ⟨t, ht⟩) (Y m c ⟨t, ht⟩) := by
  unfold acc
  rw [outsAt0_A m c ⟨t, ht⟩ h0 (by show ¬t % 4 = 3; omega), acc_A]

theorem acc_next (t : ℕ) (ht : t < cfg0.N) (h0 : ¬t % 4 = 0) (h3 : ¬t % 4 = 3) :
    acc m c t ht = k0_pay2 (F := Ideal) (acc m c (t - 1) (Nat.lt_of_le_of_lt (Nat.sub_le _ _) ht)) (X m c ⟨t, ht⟩) (Y m c ⟨t, ht⟩) := by
  unfold acc
  rw [outsAt0_B m c ⟨t, ht⟩ h0 h3, acc_B]

/-- The accumulator after each point but a block's last: the sum of the block's tiles so far. -/
theorem acc_sum (i : Fin 1024) (n : Fin 1024) : ∀ (t : ℕ) (ht : t < cfg0.N), ¬t % 4 = 3 →
    acc m c t ht (ix2 i n) = ∑ q ∈ Finset.range (t % 4 + 1), tile (A m c) (G m c) q (col (1024 * (t / 4) + i.val)) n
  | t, ht, h3 => by
    by_cases h0 : t % 4 = 0
    · rw [acc_first m c t ht h0, pay2_apply, pay1_apply, product, zero_add, h0]
      exact (Finset.sum_range_one (M := EReal) fun q => tile (A m c) (G m c) q (col (1024 * (t / 4) + i.val)) n).symm
    · rw [acc_next m c t ht h0 h3, pay2_apply, product, acc_sum i n (t - 1) (Nat.lt_of_le_of_lt (Nat.sub_le _ _) ht) (by omega), show (t - 1) / 4 = t / 4 by omega,
        show (t - 1) % 4 + 1 = t % 4 by omega, Finset.sum_range_succ]

/-- What a block's last point writes: the sum of its four tiles. -/
theorem last (i : Fin 1024) (n : Fin 1024) (t : ℕ) (ht : t < cfg0.N) (h3 : t % 4 = 3) :
    ((outsAt0 m c t ht).1 : FVec Ideal S1024x1024 .bf16) (ix2 i n) = ∑ q ∈ Finset.range 4, tile (A m c) (G m c) q (col (1024 * (t / 4) + i.val)) n := by
  have e : ((outsAt0 m c t ht).1 : FVec Ideal S1024x1024 .bf16)
      = k0_pay3 (F := Ideal) (k0_pay2 (F := Ideal) (acc m c (t - 1) (Nat.lt_of_le_of_lt (Nat.sub_le _ _) ht)) (X m c ⟨t, ht⟩) (Y m c ⟨t, ht⟩)) := by
    rw [outsAt0_C m c ⟨t, ht⟩ (by show ¬t % 4 = 0; omega) h3, out_C]
  rw [e, pay3_apply, pay2_apply, product, acc_sum m c i n (t - 1) (Nat.lt_of_le_of_lt (Nat.sub_le _ _) ht) (by omega),
    show (t - 1) / 4 = t / 4 by omega, show (t - 1) % 4 + 1 = 3 by omega, h3, ← Finset.sum_range_succ]

/-- The result's array after the run. -/
theorem array (i : Fin 3072) (n : Fin 1024) :
    (Cert.Kernel7Ideal.Value.G2 m c : FVec Ideal S3072x1024 .bf16) (ix2 i n) = ∑ r : Fin 8192, A m c (ix2 r i) * G m c (ix2 r n) := by
  have hp : Cert.Kernel7Ideal.Value.pt2Of (ix2 i n) = 4 * (i.val / 1024) + 3 := by
    show 4 * (1 * (i.val / 1024 - 0) + 1 * (n.val / 1024 - 0)) + 3 = _
    omega
  have hl : Cert.Kernel7Ideal.Value.loc2Of (ix2 i n) = ix2 ⟨i.val % 1024, Nat.mod_lt _ (by decide)⟩ n := by
    funext a; apply Fin.ext
    match a with
    | ⟨0, _⟩ => rfl
    | ⟨1, _⟩ => exact Nat.mod_eq_of_lt n.isLt
  have hN : cfg0.N = 12 := N_0
  have hlt : 4 * (i.val / 1024) + 3 < cfg0.N := by omega
  have e : (Cert.Kernel7Ideal.Value.G2 m c : FVec Ideal S3072x1024 .bf16) (ix2 i n)
      = ((outsAt0 m c (4 * (i.val / 1024) + 3) hlt).1 : FVec Ideal S1024x1024 .bf16) (ix2 ⟨i.val % 1024, Nat.mod_lt _ (by decide)⟩ n) := by
    unfold Cert.Kernel7Ideal.Value.G2
    rw [dif_pos (by rw [hp]; exact hlt), hl, Cert.Kernel7Ideal.Value.fold0_congr m c _ _ (4 * (i.val / 1024) + 3) (by omega) hp,
      ← Cert.Kernel7Ideal.Value.outsAt0_sweep m c (4 * (i.val / 1024) + 3) hlt]
  have ei : col (1024 * ((4 * (i.val / 1024) + 3) / 4) + i.val % 1024) = i := Fin.ext (by
    show (1024 * ((4 * (i.val / 1024) + 3) / 4) + i.val % 1024) % 3072 = i.val
    omega)
  rw [e, last m c _ n _ hlt (by omega), ei, Finset.sum_range]
  refine (Finset.sum_congr (M := EReal) rfl fun q _ => Finset.sum_congr rfl fun r _ => ?_).trans
    (Fin.sum_univ_tiles 4 2048 (by decide : 4 * 2048 = 8192) fun r => A m c (ix2 r i) * G m c (ix2 r n)).symm
  have er : row (2048 * q.val + r.val) = ⟨q.val * 2048 + r.val, by omega⟩ := Fin.ext (by show (2048 * q.val + r.val) % 8192 = q.val * 2048 + r.val; omega)
  rw [er]

end Cert.OutWgrad

namespace Cert.OutWgrad
open Idealize.ShloMosaic Idealize.ShloMosaic.TcCoe Idealize.ShloMosaic.Tactic
open Cert.Reference7Ideal Cert.Reference7Ideal.Gen

/-- The reference's result. -/
def out (a : FVec Ideal S8192x3072 .bf16) (g : FVec Ideal S8192x1024 .bf16) : FVec Ideal S3072x1024 .bf16 :=
  truncf .bf16 (transpose S3072x1024 [1, 0]
    (Host.dotGeneral (φ₁ := .f32) (φ₂ := .f32) dot_S8192x1024_S8192x3072_S1024x3072_0_0_1_1_n_n none
      (extf .f32 g bitsLt_bf16_f32) (extf .f32 a bitsLt_bf16_f32))
      transposes_S1024x3072_S3072x1024_1_0) bitsLt_bf16_f32

theorem out_apply (a : FVec Ideal S8192x3072 .bf16) (g : FVec Ideal S8192x1024 .bf16) (i : Fin 3072) (n : Fin 1024) :
    out a g (ix2 i n) = ∑ r : Fin 8192, a (ix2 r i) * g (ix2 r n) := by
  unfold out
  pointwise [dot_S8192x1024_S8192x3072_S1024x3072_0_0_1_1_n_n]
  exact Finset.sum_congr rfl fun r _ => mul_comm _ _

/-- The call's array is the reference's result. -/
theorem meet (m : (ℓ : Loc Cert.Kernel7Ideal.nD Cert.Kernel7Ideal.τ Cert.Kernel7Ideal.sig) → Buf (Elt Ideal) ℓ) (c : Dev 1)
    {a : FVec Ideal S8192x3072 .bf16} {g : FVec Ideal S8192x1024 .bf16} (ea : a = A m c) (eg : g = G m c) :
    out a g = Cert.Kernel7Ideal.Value.G2 m c := by
  funext i
  subst ea eg
  rw [eq_ix2 i]
  exact (out_apply _ _ _ _).trans (array m c _ _).symm

end Cert.OutWgrad
end
-- ==== Proof.Products.InFwd.lean ====
/-
  The up projection: every point's block of the gate half, the up half and their activation, and the reference's at the same
  place. No side condition: the two sum the same products.
-/
module

public import proofs.«01_k».proof.Proof.Gen.Kernel8Ideal.Value
public import proofs.«01_k».proof.Proof.Gen.Reference8Ideal.Run
public import Idealize.ShloMosaic.Lib.Claim
public import Idealize.ShloMosaic.Lib.Pipeline.ValueKit

@[expose] public section
set_option maxRecDepth 16384

noncomputable section
namespace Cert.InFwd
open Idealize.ShloMosaic Idealize.ShloMosaic.TcCoe Idealize.ShloMosaic.Tactic
open Cert.Kernel8Ideal Cert.Kernel8Ideal.Gen

theorem zeros : (![0, 0] : Fin 2 → Nat) = fun _ => 0 := funext fun a => by fin_cases a <;> rfl
theorem zeros3 : (![0, 0, 0] : Fin 3 → Nat) = fun _ => 0 := funext fun a => by fin_cases a <;> rfl

section Run
variable {F : FTy → Type} [FloatOps F]
variable (x : Vec F S1024x1024 .bf16) (y z : Vec F S1x1024x768 .bf16)

theorem out_3 : out0_3 x y z = k0_pay3 x y := by
  unfold out0_3
  rw [View.canon_unit_zero zeros]
  simp only [View.ld_unit_zero (S := S1024x1024) zeros, View.ld_unit_zero (S := S1x1024x768) zeros3]
theorem out_4 : out0_4 x y z = k0_pay4 x z := by
  unfold out0_4
  rw [View.canon_unit_zero zeros]
  simp only [View.ld_unit_zero (S := S1024x1024) zeros, View.ld_unit_zero (S := S1x1024x768) zeros3]
theorem out_5 : out0_5 x y z = k0_pay5 x y z := by
  unfold out0_5
  rw [View.canon_unit_zero zeros]
  simp only [View.ld_unit_zero (S := S1024x1024) zeros, View.ld_unit_zero (S := S1x1024x768) zeros3]
end Run

/-! ## Over the extended reals -/

/-- The activation of a gate and an up element. -/
def act (g u : EReal) : EReal := g * Ideal.logistic g * u

theorem pay3_apply (x : Vec Ideal S1024x1024 .bf16) (y : Vec Ideal S1x1024x768 .bf16) (p : Fin 1024) (n : Fin 768) :
    k0_pay3 (F := Ideal) x y (ix2 p n) = ∑ d : Fin 1024, x (ix2 p d) * y (ix3 0 d n) := by
  pointwise [k0_pay3, k0_pay1, dot_S1024x1024_S1024x768_S1024x768_1_0_0_1_n_n]
theorem pay4_apply (x : Vec Ideal S1024x1024 .bf16) (y : Vec Ideal S1x1024x768 .bf16) (p : Fin 1024) (n : Fin 768) :
    k0_pay4 (F := Ideal) x y (ix2 p n) = ∑ d : Fin 1024, x (ix2 p d) * y (ix3 0 d n) := by
  pointwise [k0_pay4, k0_pay2, dot_S1024x1024_S1024x768_S1024x768_1_0_0_1_n_n]
theorem pay5_apply (x : Vec Ideal S1024x1024 .bf16) (y z : Vec Ideal S1x1024x768 .bf16) (p : Fin 1024) (n : Fin 768) :
    k0_pay5 (F := Ideal) x y z (ix2 p n) = act (∑ d : Fin 1024, x (ix2 p d) * y (ix3 0 d n)) (∑ d : Fin 1024, x (ix2 p d) * z (ix3 0 d n)) := by
  pointwise [k0_pay5, k0_pay1, k0_pay2, dot_S1024x1024_S1024x768_S1024x768_1_0_0_1_n_n]
  rfl

/-- Row `n` of 8192; block `k / 768` of 8 and lane `k % 768` of column `k` of 6144. -/
def row (n : ℕ) : Fin 8192 := ⟨n % 8192, Nat.mod_lt _ (by decide)⟩
def blk (k : ℕ) : Fin 8 := ⟨k / 768 % 8, Nat.mod_lt _ (by decide)⟩
def lane (k : ℕ) : Fin 768 := ⟨k % 768, Nat.mod_lt _ (by decide)⟩

/-- The product's element at row `r` and column `k` of 6144. -/
def dot (x : FVec Ideal S8192x1024 .bf16) (w : FVec Ideal S8x1024x768 .bf16) (r : Fin 8192) (k : ℕ) : EReal :=
  ∑ d : Fin 1024, x (ix2 r d) * w (ix3 (blk k) d (lane k))

variable (m : (ℓ : Loc nD τ sig) → Buf (Elt Ideal) ℓ) (c : Dev nD)

/-- The normalized activations and the gathered weights. -/
abbrev A : FVec Ideal S8192x1024 .bf16 := m (c.tc.loc main_arg0)
abbrev W : FVec Ideal S8x1024x768 .bf16 := m (c.tc.loc main_arg1)

theorem index0 : ∀ t : Fin cfg0.N, win0_0.index t = ![t.val / 4, 0] := by decide +kernel
theorem index1 : ∀ t : Fin cfg0.N, win0_1.index t = ![t.val % 4, 0, 0] := by decide +kernel
theorem index2 : ∀ t : Fin cfg0.N, win0_2.index t = ![t.val % 4 + 4, 0, 0] := by decide +kernel
theorem index3 : ∀ t : Fin cfg0.N, win0_3.index t = ![t.val / 4, t.val % 4] := by decide +kernel
theorem index4 : ∀ t : Fin cfg0.N, win0_4.index t = ![t.val / 4, t.val % 4] := by decide +kernel
theorem index5 : ∀ t : Fin cfg0.N, win0_5.index t = ![t.val / 4, t.val % 4] := by decide +kernel

theorem point_lt (t : Fin cfg0.N) : t.val < 32 := lt_of_lt_of_eq t.isLt (show cfg0.N = 32 from N_0)

/-- A point's blocks of the rows, of the gate's weights and of the up half's. -/
abbrev X (t : Fin cfg0.N) : FVec Ideal S1024x1024 .bf16 := iblk m c 0 t
abbrev Y (t : Fin cfg0.N) : FVec Ideal S1x1024x768 .bf16 := iblk m c 1 t
abbrev Z (t : Fin cfg0.N) : FVec Ideal S1x1024x768 .bf16 := iblk m c 2 t

theorem row_val (t : Fin cfg0.N) (p : Fin 1024) : (row (1024 * (t.val / 4) + p.val)).val = 1024 * (t.val / 4) + p.val :=
  Nat.mod_eq_of_lt (by have := point_lt t; omega)

/-- Column `n` of 3072. -/
def col (n : ℕ) : Fin 3072 := ⟨n % 3072, Nat.mod_lt _ (by decide)⟩
theorem col_val (t : Fin cfg0.N) (n : Fin 768) : (col (768 * (t.val % 4) + n.val)).val = 768 * (t.val % 4) + n.val :=
  Nat.mod_eq_of_lt (by omega)

theorem block0 (t : Fin cfg0.N) (p d : Fin 1024) : X m c t (ix2 p d) = A m c (ix2 (row (1024 * (t.val / 4) + p.val)) d) := by
  have e := row_val t p
  blk_ext! [X, iblk, V, index0, e]
theorem block1 (t : Fin cfg0.N) (n : Fin 768) (d : Fin 1024) :
    Y m c t (ix3 0 d n) = W m c (ix3 (blk (768 * (t.val % 4) + n.val)) d (lane (768 * (t.val % 4) + n.val))) := by
  have e : (blk (768 * (t.val % 4) + n.val)).val = t.val % 4 := by show (768 * (t.val % 4) + n.val) / 768 % 8 = _; omega
  have e' : (lane (768 * (t.val % 4) + n.val)).val = n.val := by show (768 * (t.val % 4) + n.val) % 768 = _; omega
  blk_ext! [Y, iblk, V, index1, e, e']
theorem block2 (t : Fin cfg0.N) (n : Fin 768) (d : Fin 1024) :
    Z m c t (ix3 0 d n) = W m c (ix3 (blk (3072 + (768 * (t.val % 4) + n.val))) d (lane (3072 + (768 * (t.val % 4) + n.val)))) := by
  have e : (blk (3072 + (768 * (t.val % 4) + n.val))).val = t.val % 4 + 4 := by show (3072 + (768 * (t.val % 4) + n.val)) / 768 % 8 = _; omega
  have e' : (lane (3072 + (768 * (t.val % 4) + n.val))).val = n.val := by show (3072 + (768 * (t.val % 4) + n.val)) % 768 = _; omega
  blk_ext! [Z, iblk, V, index2, e, e']

theorem productY (t : Fin cfg0.N) (p : Fin 1024) (n : Fin 768) :
    ∑ d : Fin 1024, X m c t (ix2 p d) * Y m c t (ix3 0 d n) = dot (A m c) (W m c) (row (1024 * (t.val / 4) + p.val)) (768 * (t.val % 4) + n.val) :=
  Finset.sum_congr rfl fun d _ => congrArg₂ (· * ·) (block0 m c t p d) (block1 m c t n d)
theorem productZ (t : Fin cfg0.N) (p : Fin 1024) (n : Fin 768) :
    ∑ d : Fin 1024, X m c t (ix2 p d) * Z m c t (ix3 0 d n)
      = dot (A m c) (W m c) (row (1024 * (t.val / 4) + p.val)) (3072 + (768 * (t.val % 4) + n.val)) :=
  Finset.sum_congr rfl fun d _ => congrArg₂ (· * ·) (block0 m c t p d) (block2 m c t n d)

/-- What the call puts at a place of each result. -/
def gateAt (r : Fin 8192) (n : Fin 3072) : EReal := dot (A m c) (W m c) r n.val
def upAt (r : Fin 8192) (n : Fin 3072) : EReal := dot (A m c) (W m c) r (3072 + n.val)
def actAt (r : Fin 8192) (n : Fin 3072) : EReal := act (gateAt m c r n) (upAt m c r n)

theorem point3 (t : Fin cfg0.N) (p : Fin 1024) (n : Fin 768) :
    out0_3 (F := Ideal) (X m c t) (Y m c t) (Z m c t) (ix2 p n) = gateAt m c (row (1024 * (t.val / 4) + p.val)) (col (768 * (t.val % 4) + n.val)) := by
  rw [out_3, pay3_apply, productY, gateAt, col_val]
theorem point4 (t : Fin cfg0.N) (p : Fin 1024) (n : Fin 768) :
    out0_4 (F := Ideal) (X m c t) (Y m c t) (Z m c t) (ix2 p n) = upAt m c (row (1024 * (t.val / 4) + p.val)) (col (768 * (t.val % 4) + n.val)) := by
  rw [out_4, pay4_apply, productZ, upAt, col_val]
theorem point5 (t : Fin cfg0.N) (p : Fin 1024) (n : Fin 768) :
    out0_5 (F := Ideal) (X m c t) (Y m c t) (Z m c t) (ix2 p n) = actAt m c (row (1024 * (t.val / 4) + p.val)) (col (768 * (t.val % 4) + n.val)) := by
  rw [out_5, pay5_apply, productY, productZ, actAt, gateAt, upAt, col_val]

/-- The results' arrays after the run. -/
theorem array3 : ((dats m 0 c).arrAt 3 cfg0.N : FVec Ideal S8192x3072 .bf16) = fun i => gateAt m c (i 0) (i 1) := by
  refine (dats m 0 c).arrAt_eq_of_covers 3 _ (by decide +kernel) fun t hf y => ?_
  blk_simp [index3]
  rw [after0_3]
  have h0 : (y 0).val < 1024 := (y 0).isLt
  have h1 : (y 1).val < 768 := (y 1).isLt
  have ht := point_lt t
  refine (congrArg (out0_3 (F := Ideal) (X m c t) (Y m c t) (Z m c t)) (eq_ix2 y)).trans ((point3 m c t (y 0) (y 1)).trans ?_)
  exact congrArg₂ (gateAt m c) (Fin.ext ((row_val t (y 0)).trans (by blk_simp [index3]; exact congrArg (· + _) (Nat.mul_comm _ _))))
    (Fin.ext ((col_val t (y 1)).trans (by blk_simp [index3]; exact congrArg (· + _) (Nat.mul_comm _ _))))
theorem array4 : ((dats m 0 c).arrAt 4 cfg0.N : FVec Ideal S8192x3072 .bf16) = fun i => upAt m c (i 0) (i 1) := by
  refine (dats m 0 c).arrAt_eq_of_covers 4 _ (by decide +kernel) fun t hf y => ?_
  blk_simp [index4]
  rw [after0_4]
  have h0 : (y 0).val < 1024 := (y 0).isLt
  have h1 : (y 1).val < 768 := (y 1).isLt
  have ht := point_lt t
  refine (congrArg (out0_4 (F := Ideal) (X m c t) (Y m c t) (Z m c t)) (eq_ix2 y)).trans ((point4 m c t (y 0) (y 1)).trans ?_)
  exact congrArg₂ (upAt m c) (Fin.ext ((row_val t (y 0)).trans (by blk_simp [index4]; exact congrArg (· + _) (Nat.mul_comm _ _))))
    (Fin.ext ((col_val t (y 1)).trans (by blk_simp [index4]; exact congrArg (· + _) (Nat.mul_comm _ _))))
theorem array5 : ((dats m 0 c).arrAt 5 cfg0.N : FVec Ideal S8192x3072 .bf16) = fun i => actAt m c (i 0) (i 1) := by
  refine (dats m 0 c).arrAt_eq_of_covers 5 _ (by decide +kernel) fun t hf y => ?_
  blk_simp [index5]
  rw [after0_5]
  have h0 : (y 0).val < 1024 := (y 0).isLt
  have h1 : (y 1).val < 768 := (y 1).isLt
  have ht := point_lt t
  refine (congrArg (out0_5 (F := Ideal) (X m c t) (Y m c t) (Z m c t)) (eq_ix2 y)).trans ((point5 m c t (y 0) (y 1)).trans ?_)
  exact congrArg₂ (actAt m c) (Fin.ext ((row_val t (y 0)).trans (by blk_simp [index5]; exact congrArg (· + _) (Nat.mul_comm _ _))))
    (Fin.ext ((col_val t (y 1)).trans (by blk_simp [index5]; exact congrArg (· + _) (Nat.mul_comm _ _))))

end Cert.InFwd

namespace Cert.InFwd
open Idealize.ShloMosaic Idealize.ShloMosaic.TcCoe Idealize.ShloMosaic.Tactic
open Cert.Reference8Ideal Cert.Reference8Ideal.Gen

/-- The reference's product, its two halves, and its gate `1 / (1 + e^-g)`. -/
abbrev prod (x : FVec Ideal S8192x1024 .bf16) (w : FVec Ideal S8x1024x768 .bf16) : FVec Ideal S8192x6144 .f32 :=
  Host.dotGeneral (φ₁ := .f32) (φ₂ := .f32) dot_S8192x1024_S1024x6144_S8192x6144_1_0_0_1_n_n none (extf .f32 x bitsLt_bf16_f32)
    (shapeCast _ (transpose S1024x8x768 [1, 0, 2] (extf .f32 w bitsLt_bf16_f32) transposes_S8x1024x768_S1024x8x768_1_0_2) shapeCasts_S1024x8x768_S1024x6144)
abbrev lo (p : FVec Ideal S8192x6144 .f32) : FVec Ideal S8192x3072 .f32 := extractStridedSlice S8192x3072 ![0, 0] p slices_S8192x6144_S8192x3072_0_0
abbrev hi (p : FVec Ideal S8192x6144 .f32) : FVec Ideal S8192x3072 .f32 := extractStridedSlice S8192x3072 ![0, 3072] p slices_S8192x6144_S8192x3072_0_3072
abbrev sig (g : FVec Ideal S8192x3072 .f32) : FVec Ideal S8192x3072 .f32 :=
  Host.divf (broadcastInDim S8192x3072 ![] bcast_S_S8192x3072 (constant S_ .f32 0x3F800000#32)) (addf (broadcastInDim S8192x3072 ![] bcast_S_S8192x3072 (constant S_ .f32 0x3F800000#32)) (Host.exp (Host.negf g)))

/-- The reference's results. -/
def outGate (x : FVec Ideal S8192x1024 .bf16) (w : FVec Ideal S8x1024x768 .bf16) : FVec Ideal S8192x3072 .bf16 :=
  truncf .bf16 (lo (prod x w)) bitsLt_bf16_f32
def outUp (x : FVec Ideal S8192x1024 .bf16) (w : FVec Ideal S8x1024x768 .bf16) : FVec Ideal S8192x3072 .bf16 :=
  truncf .bf16 (hi (prod x w)) bitsLt_bf16_f32
def outAct (x : FVec Ideal S8192x1024 .bf16) (w : FVec Ideal S8x1024x768 .bf16) : FVec Ideal S8192x3072 .bf16 :=
  truncf .bf16 (mulf (mulf (lo (prod x w)) (sig (lo (prod x w)))) (hi (prod x w))) bitsLt_bf16_f32

theorem sig_apply (g : FVec Ideal S8192x3072 .f32) (r : Fin 8192) (n : Fin 3072) : sig g (ix2 r n) = Ideal.logistic (g (ix2 r n)) := by
  unfold sig
  pointwise
  rfl

theorem prod_apply (x : FVec Ideal S8192x1024 .bf16) (w : FVec Ideal S8x1024x768 .bf16) (r : Fin 8192) (n : Fin 6144) :
    prod x w (ix2 r n) = dot x w r n.val := by
  unfold prod dot
  pointwise [dot_S8192x1024_S1024x6144_S8192x6144_1_0_0_1_n_n]
  refine Finset.sum_congr rfl fun d _ => congrArg (fun b => x (ix2 r d) * w (ix3 b d (lane n.val))) (Fin.ext ?_)
  have := n.isLt
  show n.val / 768 = n.val / 768 % 8
  omega

theorem lo_apply (p : FVec Ideal S8192x6144 .f32) (r : Fin 8192) (n : Fin 3072) : lo p (ix2 r n) = p (ix2 r ⟨n.val, by omega⟩) := by
  unfold lo
  pointwise
theorem hi_apply (p : FVec Ideal S8192x6144 .f32) (r : Fin 8192) (n : Fin 3072) : hi p (ix2 r n) = p (ix2 r ⟨3072 + n.val, by omega⟩) := by
  unfold hi
  pointwise

theorem outGate_apply (x : FVec Ideal S8192x1024 .bf16) (w : FVec Ideal S8x1024x768 .bf16) (r : Fin 8192) (n : Fin 3072) :
    outGate x w (ix2 r n) = dot x w r n.val := (lo_apply _ _ _).trans (prod_apply _ _ _ _)
theorem outUp_apply (x : FVec Ideal S8192x1024 .bf16) (w : FVec Ideal S8x1024x768 .bf16) (r : Fin 8192) (n : Fin 3072) :
    outUp x w (ix2 r n) = dot x w r (3072 + n.val) := (hi_apply _ _ _).trans (prod_apply _ _ _ _)
theorem outAct_apply (x : FVec Ideal S8192x1024 .bf16) (w : FVec Ideal S8x1024x768 .bf16) (r : Fin 8192) (n : Fin 3072) :
    outAct x w (ix2 r n) = act (dot x w r n.val) (dot x w r (3072 + n.val)) := by
  rw [← outGate_apply, ← outUp_apply]
  exact congrArg (fun s : EReal => outGate x w (ix2 r n) * s * outUp x w (ix2 r n)) (sig_apply _ _ _)

variable (m : (ℓ : Loc Cert.Kernel8Ideal.nD Cert.Kernel8Ideal.τ Cert.Kernel8Ideal.sig) → Buf (Elt Ideal) ℓ) (c : Dev 1)
variable {x : FVec Ideal S8192x1024 .bf16} {w : FVec Ideal S8x1024x768 .bf16}

/-- The call's arrays are the reference's results. -/
theorem meetGate (ex : x = A m c) (ew : w = W m c) : outGate x w = (Cert.Kernel8Ideal.Gen.dats m 0 c).arrAt 3 Cert.Kernel8Ideal.cfg0.N := by
  subst ex ew
  refine Eq.trans (funext fun i => ?_) (array3 m c).symm
  rw [eq_ix2 i]
  exact outGate_apply _ _ _ _
theorem meetUp (ex : x = A m c) (ew : w = W m c) : outUp x w = (Cert.Kernel8Ideal.Gen.dats m 0 c).arrAt 4 Cert.Kernel8Ideal.cfg0.N := by
  subst ex ew
  refine Eq.trans (funext fun i => ?_) (array4 m c).symm
  rw [eq_ix2 i]
  exact outUp_apply _ _ _ _
theorem meetAct (ex : x = A m c) (ew : w = W m c) : outAct x w = (Cert.Kernel8Ideal.Gen.dats m 0 c).arrAt 5 Cert.Kernel8Ideal.cfg0.N := by
  subst ex ew
  refine Eq.trans (funext fun i => ?_) (array5 m c).symm
  rw [eq_ix2 i]
  exact outAct_apply _ _ _ _

end Cert.InFwd
end
-- ==== Proof.Products.MergeFwd.lean ====
/-
  The merge: every point's blocks of the three projected branches and of their gated sum, and the reference's at the same
  place. No side condition: the two sum the same products, and the reference's sum starts from zero.
-/
module

public import proofs.«01_k».proof.Proof.Gen.Kernel9Ideal.Value
public import proofs.«01_k».proof.Proof.Gen.Reference9Ideal.Run
public import Idealize.ShloMosaic.Lib.Claim
public import Idealize.ShloMosaic.Lib.Pipeline.ValueKit

@[expose] public section
set_option maxRecDepth 16384

noncomputable section
namespace Cert.MergeFwd
open Idealize.ShloMosaic Idealize.ShloMosaic.TcCoe Idealize.ShloMosaic.Tactic
open Cert.Kernel9Ideal Cert.Kernel9Ideal.Gen

theorem zeros : (![0, 0] : Fin 2 → Nat) = fun _ => 0 := funext fun a => by fin_cases a <;> rfl

/-! ## The blocks a point stores, element by element -/

/-- A block's product with one branch's weights. -/
def part (x : S512x512.Idx → EReal) (w : FVec Ideal S3x512x512 .bf16) (b : Fin 3) (p n : Fin 512) : EReal :=
  ∑ d : Fin 512, x (ix2 p d) * w (ix3 b d n)

section Points
variable (x0 : Vec Ideal S512x512 .bf16) (x1 : Vec Ideal S512x512 .f32) (x2 : Vec Ideal S512x512 .bf16) (w : Vec Ideal S3x512x512 .bf16) (g0 g1 g2 : Vec Ideal S512x512 .bf16) (p n : Fin 512)

theorem pay3_apply (x : Vec Ideal S512x512 .bf16) (v : Vec Ideal S1x512x512 .bf16) :
    k0_pay3 (F := Ideal) x v (ix2 p n) = ∑ d : Fin 512, x (ix2 p d) * v (ix3 0 d n) := by
  pointwise [k0_pay3, k0_pay2, dot_S512x512_S512x512_S512x512_1_0_0_1_n_n]
theorem pay5_apply (x : Vec Ideal S512x512 .f32) (v : Vec Ideal S1x512x512 .bf16) :
    k0_pay5 (F := Ideal) x v (ix2 p n) = ∑ d : Fin 512, x (ix2 p d) * v (ix3 0 d n) := by
  pointwise [k0_pay5, k0_pay4, dot_S512x512_S512x512_S512x512_1_0_0_1_n_n]
theorem pay8_apply (x : Vec Ideal S512x512 .bf16) (v : Vec Ideal S1x512x512 .bf16) :
    k0_pay8 (F := Ideal) x v (ix2 p n) = ∑ d : Fin 512, x (ix2 p d) * v (ix3 0 d n) := by
  pointwise [k0_pay8, k0_pay7, dot_S512x512_S512x512_S512x512_1_0_0_1_n_n]
/-- The gated sum, before its last cast. -/
theorem pay1_apply (v0 v1 v2 : Vec Ideal S1x512x512 .bf16) :
    k0_pay1 (F := Ideal) (k0_pay6 x0 v0 g0 x1 v1 g1) (k0_pay7 x2 v2) g2 (ix2 p n)
      = Ideal.logistic (g0 (ix2 p n)) * (k0_pay3 (F := Ideal) x0 v0 (ix2 p n)) + Ideal.logistic (g1 (ix2 p n)) * (k0_pay5 (F := Ideal) x1 v1 (ix2 p n))
        + Ideal.logistic (g2 (ix2 p n)) * (k0_pay8 (F := Ideal) x2 v2 (ix2 p n)) := by
  rfl

theorem slice1 (d : Fin 512) : View.ld w r0_1 (ix3 0 d n) = w (ix3 0 d n) := by
  refine congrArg w (funext fun a => ?_)
  fin_cases a <;> apply Fin.ext <;> simp [Rect.unit, ix3]
theorem slice2 (d : Fin 512) : View.ld w r0_2 (ix3 0 d n) = w (ix3 1 d n) := by
  refine congrArg w (funext fun a => ?_)
  fin_cases a <;> apply Fin.ext <;> simp [Rect.unit, ix3]
theorem slice3 (d : Fin 512) : View.ld w r0_3 (ix3 0 d n) = w (ix3 2 d n) := by
  refine congrArg w (funext fun a => ?_)
  fin_cases a <;> apply Fin.ext <;> simp [Rect.unit, ix3]

theorem part1 : k0_pay3 (F := Ideal) x0 (View.ld w r0_1) (ix2 p n) = part x0 w 0 p n :=
  (pay3_apply p n _ _).trans (Finset.sum_congr rfl fun d _ => congrArg (x0 (ix2 p d) * ·) (slice1 w n d))
theorem part2 : k0_pay5 (F := Ideal) x1 (View.ld w r0_2) (ix2 p n) = part x1 w 1 p n :=
  (pay5_apply p n _ _).trans (Finset.sum_congr rfl fun d _ => congrArg (x1 (ix2 p d) * ·) (slice2 w n d))
theorem part3 : k0_pay8 (F := Ideal) x2 (View.ld w r0_3) (ix2 p n) = part x2 w 2 p n :=
  (pay8_apply p n _ _).trans (Finset.sum_congr rfl fun d _ => congrArg (x2 (ix2 p d) * ·) (slice3 w n d))

/-- The gated sum of three numbers. -/
def merge (a b c y0 y1 y2 : EReal) : EReal := Ideal.logistic a * y0 + Ideal.logistic b * y1 + Ideal.logistic c * y2

theorem out_7 : out0_7 (F := Ideal) x0 x1 x2 w g0 g1 g2 (ix2 p n)
    = merge (g0 (ix2 p n)) (g1 (ix2 p n)) (g2 (ix2 p n)) (part x0 w 0 p n) (part x1 w 1 p n) (part x2 w 2 p n) := by
  unfold out0_7
  rw [View.canon_unit_zero zeros]
  simp only [View.ld_unit_zero (S := S512x512) zeros]
  rw [pay1_apply, part1, part2, part3, merge]
theorem out_8 : out0_8 (F := Ideal) x0 x1 x2 w g0 g1 g2 (ix2 p n) = part x0 w 0 p n := by
  unfold out0_8
  rw [View.canon_unit_zero zeros]
  simp only [View.ld_unit_zero (S := S512x512) zeros]
  exact part1 _ _ _ _
theorem out_9 : out0_9 (F := Ideal) x0 x1 x2 w g0 g1 g2 (ix2 p n) = part x1 w 1 p n := by
  unfold out0_9
  rw [View.canon_unit_zero zeros]
  simp only [View.ld_unit_zero (S := S512x512) zeros]
  exact part2 _ _ _ _
theorem out_10 : out0_10 (F := Ideal) x0 x1 x2 w g0 g1 g2 (ix2 p n) = part x2 w 2 p n := by
  unfold out0_10
  rw [View.canon_unit_zero zeros]
  simp only [View.ld_unit_zero (S := S512x512) zeros]
  exact part3 _ _ _ _
end Points

/-! ## Where a point's blocks lie -/

/-- Row `n` of 8192; column `n` of 1024; column `n` of 6144. -/
def row (n : ℕ) : Fin 8192 := ⟨n % 8192, Nat.mod_lt _ (by decide)⟩
def col (n : ℕ) : Fin 1024 := ⟨n % 1024, Nat.mod_lt _ (by decide)⟩
def wide (n : ℕ) : Fin 6144 := ⟨n % 6144, Nat.mod_lt _ (by decide)⟩

/-- A branch's product's element, and the gated sum's: branch `b`'s gate lies `3072 + 1024 b` columns in. -/
def dot (x : S8192x512.Idx → EReal) (w : FVec Ideal S3x512x1024 .bf16) (b : Fin 3) (r : Fin 8192) (n : Fin 1024) : EReal :=
  ∑ d : Fin 512, x (ix2 r d) * w (ix3 b d n)
def merged (x0 : FVec Ideal S8192x512 .bf16) (x1 : FVec Ideal S8192x512 .f32) (x2 : FVec Ideal S8192x512 .bf16) (w : FVec Ideal S3x512x1024 .bf16) (g : FVec Ideal S8192x6144 .bf16) (r : Fin 8192) (n : Fin 1024) : EReal :=
  merge (g (ix2 r (wide (3072 + n.val)))) (g (ix2 r (wide (4096 + n.val)))) (g (ix2 r (wide (5120 + n.val)))) (dot x0 w 0 r n) (dot x1 w 1 r n) (dot x2 w 2 r n)

variable (m : (ℓ : Loc nD τ sig) → Buf (Elt Ideal) ℓ) (c : Dev nD)

/-- The three branches, their weights, and the gates' array. -/
abbrev A0 : FVec Ideal S8192x512 .bf16 := m (c.tc.loc main_arg0)
abbrev A1 : FVec Ideal S8192x512 .f32 := m (c.tc.loc main_arg1)
abbrev A2 : FVec Ideal S8192x512 .bf16 := m (c.tc.loc main_arg2)
abbrev W : FVec Ideal S3x512x1024 .bf16 := m (c.tc.loc main_arg3)
abbrev G : FVec Ideal S8192x6144 .bf16 := m (c.tc.loc main_arg4)

theorem index0 : ∀ t : Fin cfg0.N, win0_0.index t = ![t.val / 2, 0] := by decide +kernel
theorem index1 : ∀ t : Fin cfg0.N, win0_1.index t = ![t.val / 2, 0] := by decide +kernel
theorem index2 : ∀ t : Fin cfg0.N, win0_2.index t = ![t.val / 2, 0] := by decide +kernel
theorem index3 : ∀ t : Fin cfg0.N, win0_3.index t = ![0, 0, t.val % 2] := by decide +kernel
theorem index4 : ∀ t : Fin cfg0.N, win0_4.index t = ![t.val / 2, 6 + t.val % 2] := by decide +kernel
theorem index5 : ∀ t : Fin cfg0.N, win0_5.index t = ![t.val / 2, 8 + t.val % 2] := by decide +kernel
theorem index6 : ∀ t : Fin cfg0.N, win0_6.index t = ![t.val / 2, 10 + t.val % 2] := by decide +kernel
theorem index7 : ∀ t : Fin cfg0.N, win0_7.index t = ![t.val / 2, t.val % 2] := by decide +kernel
theorem index8 : ∀ t : Fin cfg0.N, win0_8.index t = ![t.val / 2, t.val % 2] := by decide +kernel
theorem index9 : ∀ t : Fin cfg0.N, win0_9.index t = ![t.val / 2, t.val % 2] := by decide +kernel
theorem index10 : ∀ t : Fin cfg0.N, win0_10.index t = ![t.val / 2, t.val % 2] := by decide +kernel

theorem point_lt (t : Fin cfg0.N) : t.val < 32 := lt_of_lt_of_eq t.isLt (show cfg0.N = 32 from N_0)

/-- A point's blocks of the branches, of the weights and of the gates. -/
abbrev X0 (t : Fin cfg0.N) : FVec Ideal S512x512 .bf16 := iblk m c 0 t
abbrev X1 (t : Fin cfg0.N) : FVec Ideal S512x512 .f32 := iblk m c 1 t
abbrev X2 (t : Fin cfg0.N) : FVec Ideal S512x512 .bf16 := iblk m c 2 t
abbrev Y (t : Fin cfg0.N) : FVec Ideal S3x512x512 .bf16 := iblk m c 3 t
abbrev XG0 (t : Fin cfg0.N) : FVec Ideal S512x512 .bf16 := iblk m c 4 t
abbrev XG1 (t : Fin cfg0.N) : FVec Ideal S512x512 .bf16 := iblk m c 5 t
abbrev XG2 (t : Fin cfg0.N) : FVec Ideal S512x512 .bf16 := iblk m c 6 t

theorem row_val (t : Fin cfg0.N) (p : Fin 512) : (row (512 * (t.val / 2) + p.val)).val = 512 * (t.val / 2) + p.val :=
  Nat.mod_eq_of_lt (by have := point_lt t; omega)
theorem col_val (t : Fin cfg0.N) (n : Fin 512) : (col (512 * (t.val % 2) + n.val)).val = 512 * (t.val % 2) + n.val :=
  Nat.mod_eq_of_lt (by omega)

theorem block0 (t : Fin cfg0.N) (p d : Fin 512) : X0 m c t (ix2 p d) = A0 m c (ix2 (row (512 * (t.val / 2) + p.val)) d) := by
  have e := row_val t p
  blk_ext! [X0, iblk, V, index0, e]
theorem block1 (t : Fin cfg0.N) (p d : Fin 512) : X1 m c t (ix2 p d) = A1 m c (ix2 (row (512 * (t.val / 2) + p.val)) d) := by
  have e := row_val t p
  blk_ext! [X1, iblk, V, index1, e]
theorem block2 (t : Fin cfg0.N) (p d : Fin 512) : X2 m c t (ix2 p d) = A2 m c (ix2 (row (512 * (t.val / 2) + p.val)) d) := by
  have e := row_val t p
  blk_ext! [X2, iblk, V, index2, e]
theorem block3 (t : Fin cfg0.N) (b : Fin 3) (d n : Fin 512) : Y m c t (ix3 b d n) = W m c (ix3 b d (col (512 * (t.val % 2) + n.val))) := by
  have e := col_val t n
  blk_ext! [Y, iblk, V, index3, e]
theorem block4 (t : Fin cfg0.N) (p n : Fin 512) : XG0 m c t (ix2 p n)
    = G m c (ix2 (row (512 * (t.val / 2) + p.val)) (wide (3072 + (col (512 * (t.val % 2) + n.val)).val))) := by
  have e := row_val t p
  have e' : (wide (3072 + (col (512 * (t.val % 2) + n.val)).val)).val = (6 + t.val % 2) * 512 + n.val := by
    rw [col_val]
    show (3072 + (512 * (t.val % 2) + n.val)) % 6144 = _
    omega
  blk_ext! [XG0, iblk, V, index4, e, e']
theorem block5 (t : Fin cfg0.N) (p n : Fin 512) : XG1 m c t (ix2 p n)
    = G m c (ix2 (row (512 * (t.val / 2) + p.val)) (wide (4096 + (col (512 * (t.val % 2) + n.val)).val))) := by
  have e := row_val t p
  have e' : (wide (4096 + (col (512 * (t.val % 2) + n.val)).val)).val = (8 + t.val % 2) * 512 + n.val := by
    rw [col_val]
    show (4096 + (512 * (t.val % 2) + n.val)) % 6144 = _
    omega
  blk_ext! [XG1, iblk, V, index5, e, e']
theorem block6 (t : Fin cfg0.N) (p n : Fin 512) : XG2 m c t (ix2 p n)
    = G m c (ix2 (row (512 * (t.val / 2) + p.val)) (wide (5120 + (col (512 * (t.val % 2) + n.val)).val))) := by
  have e := row_val t p
  have e' : (wide (5120 + (col (512 * (t.val % 2) + n.val)).val)).val = (10 + t.val % 2) * 512 + n.val := by
    rw [col_val]
    show (5120 + (512 * (t.val % 2) + n.val)) % 6144 = _
    omega
  blk_ext! [XG2, iblk, V, index6, e, e']
theorem product0 (t : Fin cfg0.N) (p n : Fin 512) : part (X0 m c t) (Y m c t) 0 p n
    = dot (A0 m c) (W m c) 0 (row (512 * (t.val / 2) + p.val)) (col (512 * (t.val % 2) + n.val)) :=
  Finset.sum_congr rfl fun d _ => congrArg₂ (· * ·) (block0 m c t p d) (block3 m c t 0 d n)
theorem product1 (t : Fin cfg0.N) (p n : Fin 512) : part (X1 m c t) (Y m c t) 1 p n
    = dot (A1 m c) (W m c) 1 (row (512 * (t.val / 2) + p.val)) (col (512 * (t.val % 2) + n.val)) :=
  Finset.sum_congr rfl fun d _ => congrArg₂ (· * ·) (block1 m c t p d) (block3 m c t 1 d n)
theorem product2 (t : Fin cfg0.N) (p n : Fin 512) : part (X2 m c t) (Y m c t) 2 p n
    = dot (A2 m c) (W m c) 2 (row (512 * (t.val / 2) + p.val)) (col (512 * (t.val % 2) + n.val)) :=
  Finset.sum_congr rfl fun d _ => congrArg₂ (· * ·) (block2 m c t p d) (block3 m c t 2 d n)

/-- What the call puts at a place of each result. -/
def mergedAt (r : Fin 8192) (n : Fin 1024) : EReal := merged (A0 m c) (A1 m c) (A2 m c) (W m c) (G m c) r n
def dotAt0 (r : Fin 8192) (n : Fin 1024) : EReal := dot (A0 m c) (W m c) 0 r n
def dotAt1 (r : Fin 8192) (n : Fin 1024) : EReal := dot (A1 m c) (W m c) 1 r n
def dotAt2 (r : Fin 8192) (n : Fin 1024) : EReal := dot (A2 m c) (W m c) 2 r n

theorem point7 (t : Fin cfg0.N) (p n : Fin 512) : out0_7 (F := Ideal) (X0 m c t) (X1 m c t) (X2 m c t) (Y m c t) (XG0 m c t) (XG1 m c t) (XG2 m c t) (ix2 p n)
    = mergedAt m c (row (512 * (t.val / 2) + p.val)) (col (512 * (t.val % 2) + n.val)) := by
  rw [out_7, product0, product1, product2, block4 m c t p n, block5 m c t p n, block6 m c t p n, mergedAt, merged]
theorem point8 (t : Fin cfg0.N) (p n : Fin 512) : out0_8 (F := Ideal) (X0 m c t) (X1 m c t) (X2 m c t) (Y m c t) (XG0 m c t) (XG1 m c t) (XG2 m c t) (ix2 p n)
    = dotAt0 m c (row (512 * (t.val / 2) + p.val)) (col (512 * (t.val % 2) + n.val)) := by
  rw [out_8, product0, dotAt0]
theorem point9 (t : Fin cfg0.N) (p n : Fin 512) : out0_9 (F := Ideal) (X0 m c t) (X1 m c t) (X2 m c t) (Y m c t) (XG0 m c t) (XG1 m c t) (XG2 m c t) (ix2 p n)
    = dotAt1 m c (row (512 * (t.val / 2) + p.val)) (col (512 * (t.val % 2) + n.val)) := by
  rw [out_9, product1, dotAt1]
theorem point10 (t : Fin cfg0.N) (p n : Fin 512) : out0_10 (F := Ideal) (X0 m c t) (X1 m c t) (X2 m c t) (Y m c t) (XG0 m c t) (XG1 m c t) (XG2 m c t) (ix2 p n)
    = dotAt2 m c (row (512 * (t.val / 2) + p.val)) (col (512 * (t.val % 2) + n.val)) := by
  rw [out_10, product2, dotAt2]

/-- The results' arrays after the run. -/
theorem array7 : ((dats m 0 c).arrAt 7 cfg0.N : FVec Ideal S8192x1024 .bf16) = fun i => mergedAt m c (i 0) (i 1) := by
  refine (dats m 0 c).arrAt_eq_of_covers 7 _ (by decide +kernel) fun t hf y => ?_
  blk_simp [index7]
  rw [after0_7]
  refine (congrArg (out0_7 (F := Ideal) (X0 m c t) (X1 m c t) (X2 m c t) (Y m c t) (XG0 m c t) (XG1 m c t) (XG2 m c t)) (eq_ix2 y)).trans ((point7 m c t (y 0) (y 1)).trans ?_)
  exact congrArg₂ (mergedAt m c) (Fin.ext ((row_val t (y 0)).trans (by blk_simp [index7]; exact congrArg (· + _) (Nat.mul_comm _ _))))
    (Fin.ext ((col_val t (y 1)).trans (by blk_simp [index7]; exact congrArg (· + _) (Nat.mul_comm _ _))))
theorem array8 : ((dats m 0 c).arrAt 8 cfg0.N : FVec Ideal S8192x1024 .bf16) = fun i => dotAt0 m c (i 0) (i 1) := by
  refine (dats m 0 c).arrAt_eq_of_covers 8 _ (by decide +kernel) fun t hf y => ?_
  blk_simp [index8]
  rw [after0_8]
  refine (congrArg (out0_8 (F := Ideal) (X0 m c t) (X1 m c t) (X2 m c t) (Y m c t) (XG0 m c t) (XG1 m c t) (XG2 m c t)) (eq_ix2 y)).trans ((point8 m c t (y 0) (y 1)).trans ?_)
  exact congrArg₂ (dotAt0 m c) (Fin.ext ((row_val t (y 0)).trans (by blk_simp [index8]; exact congrArg (· + _) (Nat.mul_comm _ _))))
    (Fin.ext ((col_val t (y 1)).trans (by blk_simp [index8]; exact congrArg (· + _) (Nat.mul_comm _ _))))
theorem array9 : ((dats m 0 c).arrAt 9 cfg0.N : FVec Ideal S8192x1024 .bf16) = fun i => dotAt1 m c (i 0) (i 1) := by
  refine (dats m 0 c).arrAt_eq_of_covers 9 _ (by decide +kernel) fun t hf y => ?_
  blk_simp [index9]
  rw [after0_9]
  refine (congrArg (out0_9 (F := Ideal) (X0 m c t) (X1 m c t) (X2 m c t) (Y m c t) (XG0 m c t) (XG1 m c t) (XG2 m c t)) (eq_ix2 y)).trans ((point9 m c t (y 0) (y 1)).trans ?_)
  exact congrArg₂ (dotAt1 m c) (Fin.ext ((row_val t (y 0)).trans (by blk_simp [index9]; exact congrArg (· + _) (Nat.mul_comm _ _))))
    (Fin.ext ((col_val t (y 1)).trans (by blk_simp [index9]; exact congrArg (· + _) (Nat.mul_comm _ _))))
theorem array10 : ((dats m 0 c).arrAt 10 cfg0.N : FVec Ideal S8192x1024 .bf16) = fun i => dotAt2 m c (i 0) (i 1) := by
  refine (dats m 0 c).arrAt_eq_of_covers 10 _ (by decide +kernel) fun t hf y => ?_
  blk_simp [index10]
  rw [after0_10]
  refine (congrArg (out0_10 (F := Ideal) (X0 m c t) (X1 m c t) (X2 m c t) (Y m c t) (XG0 m c t) (XG1 m c t) (XG2 m c t)) (eq_ix2 y)).trans ((point10 m c t (y 0) (y 1)).trans ?_)
  exact congrArg₂ (dotAt2 m c) (Fin.ext ((row_val t (y 0)).trans (by blk_simp [index10]; exact congrArg (· + _) (Nat.mul_comm _ _))))
    (Fin.ext ((col_val t (y 1)).trans (by blk_simp [index10]; exact congrArg (· + _) (Nat.mul_comm _ _))))

end Cert.MergeFwd

namespace Cert.MergeFwd
open Idealize.ShloMosaic Idealize.ShloMosaic.TcCoe Idealize.ShloMosaic.Tactic
open Cert.Reference9Ideal Cert.Reference9Ideal.Gen

/-- The reference's gates, `1 / (1 + e^-g)` of the array's second half by branch, and one branch's product. -/
abbrev sig (g : FVec Ideal S8192x6144 .bf16) : FVec Ideal S8192x3x1024 .f32 :=
  Host.divf (broadcastInDim S8192x3x1024 ![] bcast_S_S8192x3x1024 (constant S_ .f32 0x3F800000#32)) (addf (broadcastInDim S8192x3x1024 ![] bcast_S_S8192x3x1024 (constant S_ .f32 0x3F800000#32)) (Host.exp (Host.negf (shapeCast _ (extf .f32 (extractStridedSlice S8192x3072 ![0, 3072] g slices_S8192x6144_S8192x3072_0_3072) bitsLt_bf16_f32) shapeCasts_S8192x3072_S8192x3x1024))))
abbrev gate0 (s : FVec Ideal S8192x3x1024 .f32) : FVec Ideal S8192x1024 .f32 :=
  shapeCast _ (extractStridedSlice S8192x1x1024 ![0, 0, 0] s slices_S8192x3x1024_S8192x1x1024_0_0_0) shapeCasts_S8192x1x1024_S8192x1024
abbrev prod0 (x : FVec Ideal S8192x512 .bf16) (w : FVec Ideal S3x512x1024 .bf16) : FVec Ideal S8192x1024 .f32 :=
  Host.dotGeneral (φ₁ := .f32) (φ₂ := .f32) dot_S8192x512_S512x1024_S8192x1024_1_0_0_1_n_n none (extf .f32 x bitsLt_bf16_f32) (extf .f32 (shapeCast _ (extractStridedSlice S1x512x1024 ![0, 0, 0] w slices_S3x512x1024_S1x512x1024_0_0_0) shapeCasts_S1x512x1024_S512x1024) bitsLt_bf16_f32)
abbrev gate1 (s : FVec Ideal S8192x3x1024 .f32) : FVec Ideal S8192x1024 .f32 :=
  shapeCast _ (extractStridedSlice S8192x1x1024 ![0, 1, 0] s slices_S8192x3x1024_S8192x1x1024_0_1_0) shapeCasts_S8192x1x1024_S8192x1024
abbrev prod1 (x : FVec Ideal S8192x512 .f32) (w : FVec Ideal S3x512x1024 .bf16) : FVec Ideal S8192x1024 .f32 :=
  Host.dotGeneral (φ₁ := .f32) (φ₂ := .f32) dot_S8192x512_S512x1024_S8192x1024_1_0_0_1_n_n none x (extf .f32 (shapeCast _ (extractStridedSlice S1x512x1024 ![1, 0, 0] w slices_S3x512x1024_S1x512x1024_1_0_0) shapeCasts_S1x512x1024_S512x1024) bitsLt_bf16_f32)
abbrev gate2 (s : FVec Ideal S8192x3x1024 .f32) : FVec Ideal S8192x1024 .f32 :=
  shapeCast _ (extractStridedSlice S8192x1x1024 ![0, 2, 0] s slices_S8192x3x1024_S8192x1x1024_0_2_0) shapeCasts_S8192x1x1024_S8192x1024
abbrev prod2 (x : FVec Ideal S8192x512 .bf16) (w : FVec Ideal S3x512x1024 .bf16) : FVec Ideal S8192x1024 .f32 :=
  Host.dotGeneral (φ₁ := .f32) (φ₂ := .f32) dot_S8192x512_S512x1024_S8192x1024_1_0_0_1_n_n none (extf .f32 x bitsLt_bf16_f32) (extf .f32 (shapeCast _ (extractStridedSlice S1x512x1024 ![2, 0, 0] w slices_S3x512x1024_S1x512x1024_2_0_0) shapeCasts_S1x512x1024_S512x1024) bitsLt_bf16_f32)

/-- The reference's results. -/
def outMerged (x0 : FVec Ideal S8192x512 .bf16) (x1 : FVec Ideal S8192x512 .f32) (x2 : FVec Ideal S8192x512 .bf16) (w : FVec Ideal S3x512x1024 .bf16) (g : FVec Ideal S8192x6144 .bf16) : FVec Ideal S8192x1024 .bf16 :=
  truncf .bf16 (addf (addf (addf (broadcastInDim S8192x1024 ![] bcast_S_S8192x1024 (constant S_ .f32 0x00000000#32)) (mulf (gate0 (sig g)) (prod0 x0 w))) (mulf (gate1 (sig g)) (prod1 x1 w))) (mulf (gate2 (sig g)) (prod2 x2 w))) bitsLt_bf16_f32
def outDot0 (x : FVec Ideal S8192x512 .bf16) (w : FVec Ideal S3x512x1024 .bf16) : FVec Ideal S8192x1024 .bf16 := truncf .bf16 (prod0 x w) bitsLt_bf16_f32
def outDot1 (x : FVec Ideal S8192x512 .f32) (w : FVec Ideal S3x512x1024 .bf16) : FVec Ideal S8192x1024 .bf16 := truncf .bf16 (prod1 x w) bitsLt_bf16_f32
def outDot2 (x : FVec Ideal S8192x512 .bf16) (w : FVec Ideal S3x512x1024 .bf16) : FVec Ideal S8192x1024 .bf16 := truncf .bf16 (prod2 x w) bitsLt_bf16_f32

theorem sig_apply (g : FVec Ideal S8192x6144 .bf16) (r : Fin 8192) (b : Fin 3) (n : Fin 1024) :
    sig g (ix3 r b n) = Ideal.logistic (g (ix2 r (wide (3072 + 1024 * b.val + n.val)))) := by
  have e : ∀ h, (⟨3072 + (b.val * 1024 + n.val), h⟩ : Fin 6144) = wide (3072 + 1024 * b.val + n.val) := fun h =>
    Fin.ext (by show 3072 + (b.val * 1024 + n.val) = (3072 + 1024 * b.val + n.val) % 6144; omega)
  unfold sig
  pointwise
  rw [e]
  rfl
theorem gate0_apply (s : FVec Ideal S8192x3x1024 .f32) (r : Fin 8192) (n : Fin 1024) : gate0 s (ix2 r n) = s (ix3 r 0 n) := by
  unfold gate0
  pointwise
theorem prod0_apply (x : FVec Ideal S8192x512 .bf16) (w : FVec Ideal S3x512x1024 .bf16) (r : Fin 8192) (n : Fin 1024) : prod0 x w (ix2 r n) = dot x w 0 r n := by
  unfold prod0 dot
  pointwise [dot_S8192x512_S512x1024_S8192x1024_1_0_0_1_n_n]
theorem gate1_apply (s : FVec Ideal S8192x3x1024 .f32) (r : Fin 8192) (n : Fin 1024) : gate1 s (ix2 r n) = s (ix3 r 1 n) := by
  unfold gate1
  pointwise
theorem prod1_apply (x : FVec Ideal S8192x512 .f32) (w : FVec Ideal S3x512x1024 .bf16) (r : Fin 8192) (n : Fin 1024) : prod1 x w (ix2 r n) = dot x w 1 r n := by
  unfold prod1 dot
  pointwise [dot_S8192x512_S512x1024_S8192x1024_1_0_0_1_n_n]
theorem gate2_apply (s : FVec Ideal S8192x3x1024 .f32) (r : Fin 8192) (n : Fin 1024) : gate2 s (ix2 r n) = s (ix3 r 2 n) := by
  unfold gate2
  pointwise
theorem prod2_apply (x : FVec Ideal S8192x512 .bf16) (w : FVec Ideal S3x512x1024 .bf16) (r : Fin 8192) (n : Fin 1024) : prod2 x w (ix2 r n) = dot x w 2 r n := by
  unfold prod2 dot
  pointwise [dot_S8192x512_S512x1024_S8192x1024_1_0_0_1_n_n]

theorem outMerged_apply (x0 : FVec Ideal S8192x512 .bf16) (x1 : FVec Ideal S8192x512 .f32) (x2 : FVec Ideal S8192x512 .bf16) (w : FVec Ideal S3x512x1024 .bf16) (g : FVec Ideal S8192x6144 .bf16) (r : Fin 8192) (n : Fin 1024) :
    outMerged x0 x1 x2 w g (ix2 r n) = merged x0 x1 x2 w g r n := by
  have e : outMerged x0 x1 x2 w g (ix2 r n) = gate0 (sig g) (ix2 r n) * prod0 x0 w (ix2 r n) + gate1 (sig g) (ix2 r n) * prod1 x1 w (ix2 r n)
      + gate2 (sig g) (ix2 r n) * prod2 x2 w (ix2 r n) := by
    unfold outMerged
    generalize gate0 (sig g) = s0
    generalize gate1 (sig g) = s1
    generalize gate2 (sig g) = s2
    generalize prod0 x0 w = p0
    generalize prod1 x1 w = p1
    generalize prod2 x2 w = p2
    pointwise
  rw [e, gate0_apply, gate1_apply, gate2_apply, sig_apply, sig_apply, sig_apply, prod0_apply, prod1_apply, prod2_apply]
  rfl

variable (m : (ℓ : Loc Cert.Kernel9Ideal.nD Cert.Kernel9Ideal.τ Cert.Kernel9Ideal.sig) → Buf (Elt Ideal) ℓ) (c : Dev 1)
variable {x0 x2 x : FVec Ideal S8192x512 .bf16} {x1 : FVec Ideal S8192x512 .f32} {w : FVec Ideal S3x512x1024 .bf16} {g : FVec Ideal S8192x6144 .bf16}

/-- The call's arrays are the reference's results. -/
theorem meetMerged (e0 : x0 = A0 m c) (e1 : x1 = A1 m c) (e2 : x2 = A2 m c) (ew : w = W m c) (eg : g = G m c) :
    outMerged x0 x1 x2 w g = (Cert.Kernel9Ideal.Gen.dats m 0 c).arrAt 7 Cert.Kernel9Ideal.cfg0.N := by
  subst e0 e1 e2 ew eg
  refine Eq.trans (funext fun i => ?_) (array7 m c).symm
  rw [eq_ix2 i]
  exact outMerged_apply _ _ _ _ _ _ _
theorem meetDot0 (ex : x = A0 m c) (ew : w = W m c) : outDot0 x w = (Cert.Kernel9Ideal.Gen.dats m 0 c).arrAt 8 Cert.Kernel9Ideal.cfg0.N := by
  subst ex ew
  refine Eq.trans (funext fun i => ?_) (array8 m c).symm
  rw [eq_ix2 i]
  exact prod0_apply _ _ _ _
theorem meetDot1 (ex : x1 = A1 m c) (ew : w = W m c) : outDot1 x1 w = (Cert.Kernel9Ideal.Gen.dats m 0 c).arrAt 9 Cert.Kernel9Ideal.cfg0.N := by
  subst ex ew
  refine Eq.trans (funext fun i => ?_) (array9 m c).symm
  rw [eq_ix2 i]
  exact prod1_apply _ _ _ _
theorem meetDot2 (ex : x = A2 m c) (ew : w = W m c) : outDot2 x w = (Cert.Kernel9Ideal.Gen.dats m 0 c).arrAt 10 Cert.Kernel9Ideal.cfg0.N := by
  subst ex ew
  refine Eq.trans (funext fun i => ?_) (array10 m c).symm
  rw [eq_ix2 i]
  exact prod2_apply _ _ _ _

end Cert.MergeFwd
end
-- ==== Proof.Products.MergeOutDgrad.lean ====
/-
  The merged branches' output product's input's gradient: every point's block of the product with the weights transposed, and the reference's
  at the same place. No side condition: the two sum the same products.
-/
module

public import proofs.«01_k».proof.Proof.Gen.Kernel10Ideal.Value
public import proofs.«01_k».proof.Proof.Gen.Reference10Ideal.Run
public import Idealize.ShloMosaic.Lib.Claim
public import Idealize.ShloMosaic.Lib.Pipeline.ValueKit

@[expose] public section
set_option maxRecDepth 16384

noncomputable section
namespace Cert.MergeOutDgrad
open Idealize.ShloMosaic Idealize.ShloMosaic.TcCoe Idealize.ShloMosaic.Tactic
open Cert.Kernel10Ideal Cert.Kernel10Ideal.Gen

theorem zeros : (![0, 0] : Fin 2 → Nat) = fun _ => 0 := funext fun a => by fin_cases a <;> rfl
/-- What a point stores, element by element: a row of the gradient against a row of the weights. -/
theorem pay1_apply (x : Vec Ideal S2048x1024 .bf16) (y : Vec Ideal S1024x1024 .bf16) (p : Fin 2048) (n : Fin 1024) :
    k0_pay1 (F := Ideal) x y (ix2 p n) = ∑ d : Fin 1024, x (ix2 p d) * y (ix2 n d) := by
  pointwise [k0_pay1, dot_S2048x1024_S1024x1024_S2048x1024_1_1_0_0_n_n]
theorem out_2 (x : Vec Ideal S2048x1024 .bf16) (y : Vec Ideal S1024x1024 .bf16) : out0_2 x y = k0_pay1 x y := by
  unfold out0_2
  rw [View.canon_unit_zero zeros]
  simp only [View.ld_unit_zero (S := S2048x1024) zeros, View.ld_unit_zero (S := S1024x1024) zeros]

/-- Row `n` of 8192. -/
def row (n : ℕ) : Fin 8192 := ⟨n % 8192, Nat.mod_lt _ (by decide)⟩

/-- The product's element. -/
def dot (g : FVec Ideal S8192x1024 .bf16) (w : FVec Ideal S1024x1024 .bf16) (r : Fin 8192) (n : Fin 1024) : EReal :=
  ∑ d : Fin 1024, g (ix2 r d) * w (ix2 n d)

variable (m : (ℓ : Loc nD τ sig) → Buf (Elt Ideal) ℓ) (c : Dev nD)

/-- The incoming gradient and the weights. -/
abbrev G : FVec Ideal S8192x1024 .bf16 := m (c.tc.loc main_arg0)
abbrev W : FVec Ideal S1024x1024 .bf16 := m (c.tc.loc main_arg1)

theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![t.val, 0] := by decide +kernel

theorem point_lt (t : Fin cfg0.N) : t.val < 4 := lt_of_lt_of_eq t.isLt (show cfg0.N = 4 from N_0)

/-- A point's blocks of the two. -/
abbrev X (t : Fin cfg0.N) : FVec Ideal S2048x1024 .bf16 := iblk m c 0 t
abbrev Y (t : Fin cfg0.N) : FVec Ideal S1024x1024 .bf16 := iblk m c 1 t

theorem row_val (t : Fin cfg0.N) (p : Fin 2048) : (row (2048 * t.val + p.val)).val = 2048 * t.val + p.val :=
  Nat.mod_eq_of_lt (by have := point_lt t; omega)

theorem block0 (t : Fin cfg0.N) (p : Fin 2048) (d : Fin 1024) : X m c t (ix2 p d) = G m c (ix2 (row (2048 * t.val + p.val)) d) := by
  have e := row_val t p
  blk_ext! [X, iblk, V, index0, e]
theorem block1 (t : Fin cfg0.N) (n : Fin 1024) (d : Fin 1024) : Y m c t (ix2 n d) = W m c (ix2 n d) := by
  blk_ext! [Y, iblk, V, index1]

/-- What the call puts at a place of its result. -/
def dotAt (r : Fin 8192) (n : Fin 1024) : EReal := dot (G m c) (W m c) r n

theorem point2 (t : Fin cfg0.N) (p : Fin 2048) (n : Fin 1024) :
    out0_2 (F := Ideal) (X m c t) (Y m c t) (ix2 p n) = dotAt m c (row (2048 * t.val + p.val)) n := by
  rw [out_2, pay1_apply]
  exact Finset.sum_congr rfl fun d _ => congrArg₂ (· * ·) (block0 m c t p d) (block1 m c t n d)

/-- The result's array after the run. -/
theorem array2 : ((dats m 0 c).arrAt 2 cfg0.N : FVec Ideal S8192x1024 .bf16) = fun i => dotAt m c (i 0) (i 1) := by
  refine (dats m 0 c).arrAt_eq_of_covers 2 _ (by decide +kernel) fun t hf y => ?_
  blk_simp [index2]
  rw [after0_2]
  refine (congrArg (out0_2 (F := Ideal) (X m c t) (Y m c t)) (eq_ix2 y)).trans ((point2 m c t (y 0) (y 1)).trans ?_)
  exact congrArg₂ (dotAt m c) (Fin.ext ((row_val t (y 0)).trans (by blk_simp [index2]; exact congrArg (· + _) (Nat.mul_comm _ _))))
    (Fin.ext (by blk_simp [index2]))

end Cert.MergeOutDgrad

namespace Cert.MergeOutDgrad
open Idealize.ShloMosaic Idealize.ShloMosaic.TcCoe Idealize.ShloMosaic.Tactic
open Cert.Reference10Ideal Cert.Reference10Ideal.Gen

/-- The reference's result. -/
def out (g : FVec Ideal S8192x1024 .bf16) (w : FVec Ideal S1024x1024 .bf16) : FVec Ideal S8192x1024 .bf16 :=
  truncf .bf16 (Host.dotGeneral (φ₁ := .f32) (φ₂ := .f32) dot_S8192x1024_S1024x1024_S8192x1024_1_1_0_0_n_n none (extf .f32 g bitsLt_bf16_f32)
    (extf .f32 w bitsLt_bf16_f32)) bitsLt_bf16_f32

theorem out_apply (g : FVec Ideal S8192x1024 .bf16) (w : FVec Ideal S1024x1024 .bf16) (r : Fin 8192) (n : Fin 1024) : out g w (ix2 r n) = dot g w r n := by
  unfold out dot
  pointwise [dot_S8192x1024_S1024x1024_S8192x1024_1_1_0_0_n_n]

/-- The call's array is the reference's result. -/
theorem meet (m : (ℓ : Loc Cert.Kernel10Ideal.nD Cert.Kernel10Ideal.τ Cert.Kernel10Ideal.sig) → Buf (Elt Ideal) ℓ) (c : Dev 1)
    {g : FVec Ideal S8192x1024 .bf16} {w : FVec Ideal S1024x1024 .bf16} (eg : g = G m c) (ew : w = W m c) :
    out g w = (Cert.Kernel10Ideal.Gen.dats m 0 c).arrAt 2 Cert.Kernel10Ideal.cfg0.N := by
  subst eg ew
  refine Eq.trans (funext fun i => ?_) (array2 m c).symm
  rw [eq_ix2 i]
  exact out_apply _ _ _ _

end Cert.MergeOutDgrad
end
-- ==== Proof.Products.MergeOutWgrad.lean ====
/-
  The merged branches' output product's weights' gradient: over any arguments, what the call's accumulator holds after each of the
  four points, what the array holds at the end, and that the reference's product is the same sum.
-/
module

public import proofs.«01_k».proof.Proof.Gen.Kernel11Ideal.Value
public import proofs.«01_k».proof.Proof.Gen.Reference11Ideal.Run
public import Idealize.ShloMosaic.Lib.Claim
public import Idealize.ShloMosaic.Lib.Pipeline.ValueKit

@[expose] public section
set_option maxRecDepth 16384

noncomputable section
namespace Cert.MergeOutWgrad
open Idealize.ShloMosaic Idealize.ShloMosaic.TcCoe Idealize.ShloMosaic.Tactic
open Cert.Kernel11Ideal Cert.Kernel11Ideal.Gen

theorem zeros : (![0, 0] : Fin 2 → Nat) = fun _ => 0 := funext fun a => by fin_cases a <;> rfl

section Run
variable {F : FTy → Type} [FloatOps F]
variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1024x1024 .bf16) (h5 : a5.IsWhole)
  (a6 : Memref sig .tc .vmem S1024x1024 .f32) (h6 : a6.IsWhole) (x : Vec F S2048x1024 .bf16) (y : Vec F S2048x1024 .bf16)

/-- The first point of a block of columns leaves zero and its own product. -/
theorem acc_A (c0 : cond0_0 i) (c1 : ¬cond0_1 i) :
    sout0_A_0 c i a3 h3 a4 h4 a5 h5 a6 h6 c0 c1 x y = k0_pay2 k0_pay1 x y := by
  unfold sout0_A_0
  rw [View.read_writes_eq_canon _ _ _ (scover0_A_0 c i a3 h3 a4 h4 a5 h5 a6 h6 c0 c1 x y)]
  unfold kernelRun0_A
  dsimp only
  sl_unfold_words
  rw [View.canon_cons_unit_zero (S := S1024x1024) zeros, View.readCov_unit_zero (S := S1024x1024) _ zeros]
  simp only [View.readAt_eq_ld, h3.read_unread, h4.read_unread, View.ld_unit_zero (S := S2048x1024) zeros]

/-- A point between adds its product to what the accumulator held. -/
theorem acc_B (c0 : ¬cond0_0 i) (c1 : ¬cond0_1 i) (acc : Vec F S1024x1024 .f32) :
    sout0_B_0 c i a3 h3 a4 h4 a5 h5 a6 h6 c0 c1 x y acc = k0_pay2 acc x y := by
  unfold sout0_B_0
  rw [View.read_writes_eq_canon _ _ _ (scover0_B_0 c i a3 h3 a4 h4 a5 h5 a6 h6 c0 c1 x y acc)]
  unfold kernelRun0_B
  dsimp only
  sl_unfold_words
  rw [View.canon_unit_zero zeros]
  simp only [View.readAt_eq_ld, h3.read_unread, h4.read_unread, h6.read_unread, View.ld_unit_zero (S := S2048x1024) zeros, View.ld_unit_zero (S := S1024x1024) zeros]

/-- The last point writes the accumulator, with its own product, to the result's block. -/
theorem out_C (c0 : ¬cond0_0 i) (c1 : cond0_1 i) (acc : Vec F S1024x1024 .f32) :
    out0_C_2 c i a3 h3 a4 h4 a5 h5 a6 h6 c0 c1 x y acc = k0_pay3 (k0_pay2 acc x y) := by
  unfold out0_C_2
  rw [View.read_writes_eq_canon _ _ _ (cover0_C_2 c i a3 h3 a4 h4 a5 h5 a6 h6 c0 c1 x y acc)]
  unfold kernelRun0_C
  dsimp only
  sl_unfold_words
  rw [View.canon_unit_zero zeros, View.readCov_unit_zero (S := S1024x1024) _ zeros]
  simp only [View.readAt_eq_ld, h3.read_unread, h4.read_unread, h6.read_unread, View.ld_unit_zero (S := S2048x1024) zeros, View.ld_unit_zero (S := S1024x1024) zeros]
end Run

/-! ## Over the extended reals -/

theorem pay1_apply (i : Fin 1024) (j : Fin 1024) : (k0_pay1 (F := Ideal)) (ix2 i j) = 0 := by
  pointwise [k0_pay1]

theorem pay2_apply (acc : Vec Ideal S1024x1024 .f32) (x : Vec Ideal S2048x1024 .bf16) (y : Vec Ideal S2048x1024 .bf16) (i : Fin 1024) (j : Fin 1024) :
    k0_pay2 (F := Ideal) acc x y (ix2 i j) = acc (ix2 i j) + ∑ r : Fin 2048, x (ix2 r i) * y (ix2 r j) := by
  pointwise [k0_pay2, dot_S2048x1024_S2048x1024_S1024x1024_0_0_1_1_n_n]

theorem pay3_apply (acc : Vec Ideal S1024x1024 .f32) (i : Fin 1024) (j : Fin 1024) :
    k0_pay3 (F := Ideal) acc (ix2 i j) = acc (ix2 i j) := by
  pointwise [k0_pay3]

/-- Row `n` of 8192, column `n` of 1024. -/
def row (n : ℕ) : Fin 8192 := ⟨n % 8192, Nat.mod_lt _ (by decide)⟩
def col (n : ℕ) : Fin 1024 := ⟨n % 1024, Nat.mod_lt _ (by decide)⟩

/-- The product of tile `q` of 2048 rows. -/
def tile (a : FVec Ideal S8192x1024 .bf16) (g : FVec Ideal S8192x1024 .bf16) (q : ℕ) (i : Fin 1024) (n : Fin 1024) : EReal :=
  ∑ r : Fin 2048, a (ix2 (row (2048 * q + r.val)) i) * g (ix2 (row (2048 * q + r.val)) n)

variable (m : (ℓ : Loc nD τ sig) → Buf (Elt Ideal) ℓ) (c : Dev nD)

/-- The saved activations and the incoming gradient. -/
abbrev A : FVec Ideal S8192x1024 .bf16 := m (c.tc.loc main_arg0)
abbrev G : FVec Ideal S8192x1024 .bf16 := m (c.tc.loc main_arg1)

theorem index0 : ∀ t : Fin cfg0.N, win0_0.index t = ![t.val % 4, t.val / 4] := by decide +kernel
theorem index1 : ∀ t : Fin cfg0.N, win0_1.index t = ![t.val % 4, 0] := by decide +kernel

theorem point_lt (t : Fin cfg0.N) : t.val < 4 := lt_of_lt_of_eq t.isLt (show cfg0.N = 4 from N_0)

/-- A point's blocks of the two, the second product's operands. -/
abbrev X (t : Fin cfg0.N) : FVec Ideal S2048x1024 .bf16 := iblk m c 0 t
abbrev Y (t : Fin cfg0.N) : FVec Ideal S2048x1024 .bf16 := iblk m c 1 t

theorem block0 (t : Fin cfg0.N) (r : Fin 2048) (i : Fin 1024) :
    X m c t (ix2 r i) = A m c (ix2 (row (2048 * (t.val % 4) + r.val)) (col (1024 * (t.val / 4) + i.val))) := by
  have ht := point_lt t
  have e : (row (2048 * (t.val % 4) + r.val)).val = 2048 * (t.val % 4) + r.val := Nat.mod_eq_of_lt (by omega)
  have e' : (col (1024 * (t.val / 4) + i.val)).val = 1024 * (t.val / 4) + i.val := Nat.mod_eq_of_lt (by omega)
  blk_ext! [X, iblk, V, index0, e, e']

theorem block1 (t : Fin cfg0.N) (r : Fin 2048) (n : Fin 1024) :
    Y m c t (ix2 r n) = G m c (ix2 (row (2048 * (t.val % 4) + r.val)) n) := by
  have ht := point_lt t
  have e : (row (2048 * (t.val % 4) + r.val)).val = 2048 * (t.val % 4) + r.val := Nat.mod_eq_of_lt (by omega)
  blk_ext! [Y, iblk, V, index1, e]

/-- A point's product is its tile's. -/
theorem product (t : Fin cfg0.N) (i : Fin 1024) (n : Fin 1024) :
    ∑ r : Fin 2048, X m c t (ix2 r i) * Y m c t (ix2 r n) = tile (A m c) (G m c) (t.val % 4) (col (1024 * (t.val / 4) + i.val)) n :=
  Finset.sum_congr rfl fun r _ => congrArg₂ (· * ·) (block0 m c t r i) (block1 m c t r n)

/-- The accumulator after point `t`. -/
abbrev acc (t : ℕ) (ht : t < cfg0.N) : FVec Ideal S1024x1024 .f32 := (outsAt0 m c t ht).2

theorem acc_first (t : ℕ) (ht : t < cfg0.N) (h0 : t % 4 = 0) : acc m c t ht = k0_pay2 (F := Ideal) (k0_pay1 (F := Ideal)) (X m c ⟨t, ht⟩) (Y m c ⟨t, ht⟩) := by
  unfold acc
  rw [outsAt0_A m c ⟨t, ht⟩ h0 (by show ¬t % 4 = 3; omega), acc_A]

theorem acc_next (t : ℕ) (ht : t < cfg0.N) (h0 : ¬t % 4 = 0) (h3 : ¬t % 4 = 3) :
    acc m c t ht = k0_pay2 (F := Ideal) (acc m c (t - 1) (Nat.lt_of_le_of_lt (Nat.sub_le _ _) ht)) (X m c ⟨t, ht⟩) (Y m c ⟨t, ht⟩) := by
  unfold acc
  rw [outsAt0_B m c ⟨t, ht⟩ h0 h3, acc_B]

/-- The accumulator after each point but a block's last: the sum of the block's tiles so far. -/
theorem acc_sum (i : Fin 1024) (n : Fin 1024) : ∀ (t : ℕ) (ht : t < cfg0.N), ¬t % 4 = 3 →
    acc m c t ht (ix2 i n) = ∑ q ∈ Finset.range (t % 4 + 1), tile (A m c) (G m c) q (col (1024 * (t / 4) + i.val)) n
  | t, ht, h3 => by
    by_cases h0 : t % 4 = 0
    · rw [acc_first m c t ht h0, pay2_apply, pay1_apply, product, zero_add, h0]
      exact (Finset.sum_range_one (M := EReal) fun q => tile (A m c) (G m c) q (col (1024 * (t / 4) + i.val)) n).symm
    · rw [acc_next m c t ht h0 h3, pay2_apply, product, acc_sum i n (t - 1) (Nat.lt_of_le_of_lt (Nat.sub_le _ _) ht) (by omega), show (t - 1) / 4 = t / 4 by omega,
        show (t - 1) % 4 + 1 = t % 4 by omega, Finset.sum_range_succ]

/-- What a block's last point writes: the sum of its four tiles. -/
theorem last (i : Fin 1024) (n : Fin 1024) (t : ℕ) (ht : t < cfg0.N) (h3 : t % 4 = 3) :
    ((outsAt0 m c t ht).1 : FVec Ideal S1024x1024 .bf16) (ix2 i n) = ∑ q ∈ Finset.range 4, tile (A m c) (G m c) q (col (1024 * (t / 4) + i.val)) n := by
  have e : ((outsAt0 m c t ht).1 : FVec Ideal S1024x1024 .bf16)
      = k0_pay3 (F := Ideal) (k0_pay2 (F := Ideal) (acc m c (t - 1) (Nat.lt_of_le_of_lt (Nat.sub_le _ _) ht)) (X m c ⟨t, ht⟩) (Y m c ⟨t, ht⟩)) := by
    rw [outsAt0_C m c ⟨t, ht⟩ (by show ¬t % 4 = 0; omega) h3, out_C]
  rw [e, pay3_apply, pay2_apply, product, acc_sum m c i n (t - 1) (Nat.lt_of_le_of_lt (Nat.sub_le _ _) ht) (by omega),
    show (t - 1) / 4 = t / 4 by omega, show (t - 1) % 4 + 1 = 3 by omega, h3, ← Finset.sum_range_succ]

/-- The result's array after the run. -/
theorem array (i : Fin 1024) (n : Fin 1024) :
    (Cert.Kernel11Ideal.Value.G2 m c : FVec Ideal S1024x1024 .bf16) (ix2 i n) = ∑ r : Fin 8192, A m c (ix2 r i) * G m c (ix2 r n) := by
  have hp : Cert.Kernel11Ideal.Value.pt2Of (ix2 i n) = 4 * (i.val / 1024) + 3 := by
    show 4 * (1 * (i.val / 1024 - 0) + 1 * (n.val / 1024 - 0)) + 3 = _
    omega
  have hl : Cert.Kernel11Ideal.Value.loc2Of (ix2 i n) = ix2 ⟨i.val % 1024, Nat.mod_lt _ (by decide)⟩ n := by
    funext a; apply Fin.ext
    match a with
    | ⟨0, _⟩ => rfl
    | ⟨1, _⟩ => exact Nat.mod_eq_of_lt n.isLt
  have hN : cfg0.N = 4 := N_0
  have hlt : 4 * (i.val / 1024) + 3 < cfg0.N := by omega
  have e : (Cert.Kernel11Ideal.Value.G2 m c : FVec Ideal S1024x1024 .bf16) (ix2 i n)
      = ((outsAt0 m c (4 * (i.val / 1024) + 3) hlt).1 : FVec Ideal S1024x1024 .bf16) (ix2 ⟨i.val % 1024, Nat.mod_lt _ (by decide)⟩ n) := by
    unfold Cert.Kernel11Ideal.Value.G2
    rw [dif_pos (by rw [hp]; exact hlt), hl, Cert.Kernel11Ideal.Value.fold0_congr m c _ _ (4 * (i.val / 1024) + 3) (by omega) hp,
      ← Cert.Kernel11Ideal.Value.outsAt0_sweep m c (4 * (i.val / 1024) + 3) hlt]
  have ei : col (1024 * ((4 * (i.val / 1024) + 3) / 4) + i.val % 1024) = i := Fin.ext (by
    show (1024 * ((4 * (i.val / 1024) + 3) / 4) + i.val % 1024) % 1024 = i.val
    omega)
  rw [e, last m c _ n _ hlt (by omega), ei, Finset.sum_range]
  refine (Finset.sum_congr (M := EReal) rfl fun q _ => Finset.sum_congr rfl fun r _ => ?_).trans
    (Fin.sum_univ_tiles 4 2048 (by decide : 4 * 2048 = 8192) fun r => A m c (ix2 r i) * G m c (ix2 r n)).symm
  have er : row (2048 * q.val + r.val) = ⟨q.val * 2048 + r.val, by omega⟩ := Fin.ext (by show (2048 * q.val + r.val) % 8192 = q.val * 2048 + r.val; omega)
  rw [er]

end Cert.MergeOutWgrad

namespace Cert.MergeOutWgrad
open Idealize.ShloMosaic Idealize.ShloMosaic.TcCoe Idealize.ShloMosaic.Tactic
open Cert.Reference11Ideal Cert.Reference11Ideal.Gen

/-- The reference's result. -/
def out (a : FVec Ideal S8192x1024 .bf16) (g : FVec Ideal S8192x1024 .bf16) : FVec Ideal S1024x1024 .bf16 :=
  truncf .bf16 (transpose S1024x1024 [1, 0]
    (Host.dotGeneral (φ₁ := .f32) (φ₂ := .f32) dot_S8192x1024_S8192x1024_S1024x1024_0_0_1_1_n_n none
      (extf .f32 g bitsLt_bf16_f32) (extf .f32 a bitsLt_bf16_f32))
      transposes_S1024x1024_S1024x1024_1_0) bitsLt_bf16_f32

theorem out_apply (a : FVec Ideal S8192x1024 .bf16) (g : FVec Ideal S8192x1024 .bf16) (i : Fin 1024) (n : Fin 1024) :
    out a g (ix2 i n) = ∑ r : Fin 8192, a (ix2 r i) * g (ix2 r n) := by
  unfold out
  pointwise [dot_S8192x1024_S8192x1024_S1024x1024_0_0_1_1_n_n]
  exact Finset.sum_congr rfl fun r _ => mul_comm _ _

/-- The call's array is the reference's result. -/
theorem meet (m : (ℓ : Loc Cert.Kernel11Ideal.nD Cert.Kernel11Ideal.τ Cert.Kernel11Ideal.sig) → Buf (Elt Ideal) ℓ) (c : Dev 1)
    {a : FVec Ideal S8192x1024 .bf16} {g : FVec Ideal S8192x1024 .bf16} (ea : a = A m c) (eg : g = G m c) :
    out a g = Cert.Kernel11Ideal.Value.G2 m c := by
  funext i
  subst ea eg
  rw [eq_ix2 i]
  exact (out_apply _ _ _ _).trans (array m c _ _).symm

end Cert.MergeOutWgrad
end
-- ==== Proof.Products.BranchWgrad.lean ====
/-
  A branch's weights' gradient, the branch in sixteen bits: over any arguments, what the call's accumulator holds after each of the
  four points, what the array holds at the end, and that the reference's product is the same sum.
-/
module

public import proofs.«01_k».proof.Proof.Gen.Kernel12Ideal.Value
public import proofs.«01_k».proof.Proof.Gen.Reference12Ideal.Run
public import Idealize.ShloMosaic.Lib.Claim
public import Idealize.ShloMosaic.Lib.Pipeline.ValueKit

@[expose] public section
set_option maxRecDepth 16384

noncomputable section
namespace Cert.BranchWgrad
open Idealize.ShloMosaic Idealize.ShloMosaic.TcCoe Idealize.ShloMosaic.Tactic
open Cert.Kernel12Ideal Cert.Kernel12Ideal.Gen

theorem zeros : (![0, 0] : Fin 2 → Nat) = fun _ => 0 := funext fun a => by fin_cases a <;> rfl

section Run
variable {F : FTy → Type} [FloatOps F]
variable (c : Dev nD) (i : grid0.Coords) (a3 : Memref sig .tc .vmem S2048x512 .bf16) (h3 : a3.IsWhole)
  (a4 : Memref sig .tc .vmem S2048x1024 .bf16) (h4 : a4.IsWhole) (a5 : Memref sig .tc .vmem S512x1024 .bf16) (h5 : a5.IsWhole)
  (a6 : Memref sig .tc .vmem S512x1024 .f32) (h6 : a6.IsWhole) (x : Vec F S2048x512 .bf16) (y : Vec F S2048x1024 .bf16)

/-- The first point of a block of columns leaves zero and its own product. -/
theorem acc_A (c0 : cond0_0 i) (c1 : ¬cond0_1 i) :
    sout0_A_0 c i a3 h3 a4 h4 a5 h5 a6 h6 c0 c1 x y = k0_pay2 k0_pay1 x y := by
  unfold sout0_A_0
  rw [View.read_writes_eq_canon _ _ _ (scover0_A_0 c i a3 h3 a4 h4 a5 h5 a6 h6 c0 c1 x y)]
  unfold kernelRun0_A
  dsimp only
  sl_unfold_words
  rw [View.canon_cons_unit_zero (S := S512x1024) zeros, View.readCov_unit_zero (S := S512x1024) _ zeros]
  simp only [View.readAt_eq_ld, h3.read_unread, h4.read_unread, View.ld_unit_zero (S := S2048x512) zeros, View.ld_unit_zero (S := S2048x1024) zeros]

/-- A point between adds its product to what the accumulator held. -/
theorem acc_B (c0 : ¬cond0_0 i) (c1 : ¬cond0_1 i) (acc : Vec F S512x1024 .f32) :
    sout0_B_0 c i a3 h3 a4 h4 a5 h5 a6 h6 c0 c1 x y acc = k0_pay2 acc x y := by
  unfold sout0_B_0
  rw [View.read_writes_eq_canon _ _ _ (scover0_B_0 c i a3 h3 a4 h4 a5 h5 a6 h6 c0 c1 x y acc)]
  unfold kernelRun0_B
  dsimp only
  sl_unfold_words
  rw [View.canon_unit_zero zeros]
  simp only [View.readAt_eq_ld, h3.read_unread, h4.read_unread, h6.read_unread, View.ld_unit_zero (S := S2048x512) zeros, View.ld_unit_zero (S := S2048x1024) zeros, View.ld_unit_zero (S := S512x1024) zeros]

/-- The last point writes the accumulator, with its own product, to the result's block. -/
theorem out_C (c0 : ¬cond0_0 i) (c1 : cond0_1 i) (acc : Vec F S512x1024 .f32) :
    out0_C_2 c i a3 h3 a4 h4 a5 h5 a6 h6 c0 c1 x y acc = k0_pay3 (k0_pay2 acc x y) := by
  unfold out0_C_2
  rw [View.read_writes_eq_canon _ _ _ (cover0_C_2 c i a3 h3 a4 h4 a5 h5 a6 h6 c0 c1 x y acc)]
  unfold kernelRun0_C
  dsimp only
  sl_unfold_words
  rw [View.canon_unit_zero zeros, View.readCov_unit_zero (S := S512x1024) _ zeros]
  simp only [View.readAt_eq_ld, h3.read_unread, h4.read_unread, h6.read_unread, View.ld_unit_zero (S := S2048x512) zeros, View.ld_unit_zero (S := S2048x1024) zeros, View.ld_unit_zero (S := S512x1024) zeros]
end Run

/-! ## Over the extended reals -/

theorem pay1_apply (i : Fin 512) (j : Fin 1024) : (k0_pay1 (F := Ideal)) (ix2 i j) = 0 := by
  pointwise [k0_pay1]

theorem pay2_apply (acc : Vec Ideal S512x1024 .f32) (x : Vec Ideal S2048x512 .bf16) (y : Vec Ideal S2048x1024 .bf16) (i : Fin 512) (j : Fin 1024) :
    k0_pay2 (F := Ideal) acc x y (ix2 i j) = acc (ix2 i j) + ∑ r : Fin 2048, x (ix2 r i) * y (ix2 r j) := by
  pointwise [k0_pay2, dot_S2048x512_S2048x1024_S512x1024_0_0_1_1_n_n]

theorem pay3_apply (acc : Vec Ideal S512x1024 .f32) (i : Fin 512) (j : Fin 1024) :
    k0_pay3 (F := Ideal) acc (ix2 i j) = acc (ix2 i j) := by
  pointwise [k0_pay3]

/-- Row `n` of 8192, column `n` of 512. -/
def row (n : ℕ) : Fin 8192 := ⟨n % 8192, Nat.mod_lt _ (by decide)⟩
def col (n : ℕ) : Fin 512 := ⟨n % 512, Nat.mod_lt _ (by decide)⟩

/-- The product of tile `q` of 2048 rows. -/
def tile (a : FVec Ideal S8192x512 .bf16) (g : FVec Ideal S8192x1024 .bf16) (q : ℕ) (i : Fin 512) (n : Fin 1024) : EReal :=
  ∑ r : Fin 2048, a (ix2 (row (2048 * q + r.val)) i) * g (ix2 (row (2048 * q + r.val)) n)

variable (m : (ℓ : Loc nD τ sig) → Buf (Elt Ideal) ℓ) (c : Dev nD)

/-- The saved activations and the incoming gradient. -/
abbrev A : FVec Ideal S8192x512 .bf16 := m (c.tc.loc main_arg0)
abbrev G : FVec Ideal S8192x1024 .bf16 := m (c.tc.loc main_arg1)

theorem index0 : ∀ t : Fin cfg0.N, win0_0.index t = ![t.val % 4, t.val / 4] := by decide +kernel
theorem index1 : ∀ t : Fin cfg0.N, win0_1.index t = ![t.val % 4, 0] := by decide +kernel

theorem point_lt (t : Fin cfg0.N) : t.val < 4 := lt_of_lt_of_eq t.isLt (show cfg0.N = 4 from N_0)

/-- A point's blocks of the two, the second product's operands. -/
abbrev X (t : Fin cfg0.N) : FVec Ideal S2048x512 .bf16 := iblk m c 0 t
abbrev Y (t : Fin cfg0.N) : FVec Ideal S2048x1024 .bf16 := iblk m c 1 t

theorem block0 (t : Fin cfg0.N) (r : Fin 2048) (i : Fin 512) :
    X m c t (ix2 r i) = A m c (ix2 (row (2048 * (t.val % 4) + r.val)) (col (512 * (t.val / 4) + i.val))) := by
  have ht := point_lt t
  have e : (row (2048 * (t.val % 4) + r.val)).val = 2048 * (t.val % 4) + r.val := Nat.mod_eq_of_lt (by omega)
  have e' : (col (512 * (t.val / 4) + i.val)).val = 512 * (t.val / 4) + i.val := Nat.mod_eq_of_lt (by omega)
  blk_ext! [X, iblk, V, index0, e, e']

theorem block1 (t : Fin cfg0.N) (r : Fin 2048) (n : Fin 1024) :
    Y m c t (ix2 r n) = G m c (ix2 (row (2048 * (t.val % 4) + r.val)) n) := by
  have ht := point_lt t
  have e : (row (2048 * (t.val % 4) + r.val)).val = 2048 * (t.val % 4) + r.val := Nat.mod_eq_of_lt (by omega)
  blk_ext! [Y, iblk, V, index1, e]

/-- A point's product is its tile's. -/
theorem product (t : Fin cfg0.N) (i : Fin 512) (n : Fin 1024) :
    ∑ r : Fin 2048, X m c t (ix2 r i) * Y m c t (ix2 r n) = tile (A m c) (G m c) (t.val % 4) (col (512 * (t.val / 4) + i.val)) n :=
  Finset.sum_congr rfl fun r _ => congrArg₂ (· * ·) (block0 m c t r i) (block1 m c t r n)

/-- The accumulator after point `t`. -/
abbrev acc (t : ℕ) (ht : t < cfg0.N) : FVec Ideal S512x1024 .f32 := (outsAt0 m c t ht).2

theorem acc_first (t : ℕ) (ht : t < cfg0.N) (h0 : t % 4 = 0) : acc m c t ht = k0_pay2 (F := Ideal) (k0_pay1 (F := Ideal)) (X m c ⟨t, ht⟩) (Y m c ⟨t, ht⟩) := by
  unfold acc
  rw [outsAt0_A m c ⟨t, ht⟩ h0 (by show ¬t % 4 = 3; omega), acc_A]

theorem acc_next (t : ℕ) (ht : t < cfg0.N) (h0 : ¬t % 4 = 0) (h3 : ¬t % 4 = 3) :
    acc m c t ht = k0_pay2 (F := Ideal) (acc m c (t - 1) (Nat.lt_of_le_of_lt (Nat.sub_le _ _) ht)) (X m c ⟨t, ht⟩) (Y m c ⟨t, ht⟩) := by
  unfold acc
  rw [outsAt0_B m c ⟨t, ht⟩ h0 h3, acc_B]

/-- The accumulator after each point but a block's last: the sum of the block's tiles so far. -/
theorem acc_sum (i : Fin 512) (n : Fin 1024) : ∀ (t : ℕ) (ht : t < cfg0.N), ¬t % 4 = 3 →
    acc m c t ht (ix2 i n) = ∑ q ∈ Finset.range (t % 4 + 1), tile (A m c) (G m c) q (col (512 * (t / 4) + i.val)) n
  | t, ht, h3 => by
    by_cases h0 : t % 4 = 0
    · rw [acc_first m c t ht h0, pay2_apply, pay1_apply, product, zero_add, h0]
      exact (Finset.sum_range_one (M := EReal) fun q => tile (A m c) (G m c) q (col (512 * (t / 4) + i.val)) n).symm
    · rw [acc_next m c t ht h0 h3, pay2_apply, product, acc_sum i n (t - 1) (Nat.lt_of_le_of_lt (Nat.sub_le _ _) ht) (by omega), show (t - 1) / 4 = t / 4 by omega,
        show (t - 1) % 4 + 1 = t % 4 by omega, Finset.sum_range_succ]

/-- What a block's last point writes: the sum of its four tiles. -/
theorem last (i : Fin 512) (n : Fin 1024) (t : ℕ) (ht : t < cfg0.N) (h3 : t % 4 = 3) :
    ((outsAt0 m c t ht).1 : FVec Ideal S512x1024 .bf16) (ix2 i n) = ∑ q ∈ Finset.range 4, tile (A m c) (G m c) q (col (512 * (t / 4) + i.val)) n := by
  have e : ((outsAt0 m c t ht).1 : FVec Ideal S512x1024 .bf16)
      = k0_pay3 (F := Ideal) (k0_pay2 (F := Ideal) (acc m c (t - 1) (Nat.lt_of_le_of_lt (Nat.sub_le _ _) ht)) (X m c ⟨t, ht⟩) (Y m c ⟨t, ht⟩)) := by
    rw [outsAt0_C m c ⟨t, ht⟩ (by show ¬t % 4 = 0; omega) h3, out_C]
  rw [e, pay3_apply, pay2_apply, product, acc_sum m c i n (t - 1) (Nat.lt_of_le_of_lt (Nat.sub_le _ _) ht) (by omega),
    show (t - 1) / 4 = t / 4 by omega, show (t - 1) % 4 + 1 = 3 by omega, h3, ← Finset.sum_range_succ]

/-- The result's array after the run. -/
theorem array (i : Fin 512) (n : Fin 1024) :
    (Cert.Kernel12Ideal.Value.G2 m c : FVec Ideal S512x1024 .bf16) (ix2 i n) = ∑ r : Fin 8192, A m c (ix2 r i) * G m c (ix2 r n) := by
  have hp : Cert.Kernel12Ideal.Value.pt2Of (ix2 i n) = 4 * (i.val / 512) + 3 := by
    show 4 * (1 * (i.val / 512 - 0) + 1 * (n.val / 1024 - 0)) + 3 = _
    omega
  have hl : Cert.Kernel12Ideal.Value.loc2Of (ix2 i n) = ix2 ⟨i.val % 512, Nat.mod_lt _ (by decide)⟩ n := by
    funext a; apply Fin.ext
    match a with
    | ⟨0, _⟩ => rfl
    | ⟨1, _⟩ => exact Nat.mod_eq_of_lt n.isLt
  have hN : cfg0.N = 4 := N_0
  have hlt : 4 * (i.val / 512) + 3 < cfg0.N := by omega
  have e : (Cert.Kernel12Ideal.Value.G2 m c : FVec Ideal S512x1024 .bf16) (ix2 i n)
      = ((outsAt0 m c (4 * (i.val / 512) + 3) hlt).1 : FVec Ideal S512x1024 .bf16) (ix2 ⟨i.val % 512, Nat.mod_lt _ (by decide)⟩ n) := by
    unfold Cert.Kernel12Ideal.Value.G2
    rw [dif_pos (by rw [hp]; exact hlt), hl, Cert.Kernel12Ideal.Value.fold0_congr m c _ _ (4 * (i.val / 512) + 3) (by omega) hp,
      ← Cert.Kernel12Ideal.Value.outsAt0_sweep m c (4 * (i.val / 512) + 3) hlt]
  have ei : col (512 * ((4 * (i.val / 512) + 3) / 4) + i.val % 512) = i := Fin.ext (by
    show (512 * ((4 * (i.val / 512) + 3) / 4) + i.val % 512) % 512 = i.val
    omega)
  rw [e, last m c _ n _ hlt (by omega), ei, Finset.sum_range]
  refine (Finset.sum_congr (M := EReal) rfl fun q _ => Finset.sum_congr rfl fun r _ => ?_).trans
    (Fin.sum_univ_tiles 4 2048 (by decide : 4 * 2048 = 8192) fun r => A m c (ix2 r i) * G m c (ix2 r n)).symm
  have er : row (2048 * q.val + r.val) = ⟨q.val * 2048 + r.val, by omega⟩ := Fin.ext (by show (2048 * q.val + r.val) % 8192 = q.val * 2048 + r.val; omega)
  rw [er]

end Cert.BranchWgrad

namespace Cert.BranchWgrad
open Idealize.ShloMosaic Idealize.ShloMosaic.TcCoe Idealize.ShloMosaic.Tactic
open Cert.Reference12Ideal Cert.Reference12Ideal.Gen

/-- The reference's result. -/
def out (a : FVec Ideal S8192x512 .bf16) (g : FVec Ideal S8192x1024 .bf16) : FVec Ideal S512x1024 .bf16 :=
  truncf .bf16 (transpose S512x1024 [1, 0]
    (Host.dotGeneral (φ₁ := .f32) (φ₂ := .f32) dot_S8192x1024_S8192x512_S1024x512_0_0_1_1_n_n none
      (extf .f32 g bitsLt_bf16_f32) (extf .f32 a bitsLt_bf16_f32))
      transposes_S1024x512_S512x1024_1_0) bitsLt_bf16_f32

theorem out_apply (a : FVec Ideal S8192x512 .bf16) (g : FVec Ideal S8192x1024 .bf16) (i : Fin 512) (n : Fin 1024) :
    out a g (ix2 i n) = ∑ r : Fin 8192, a (ix2 r i) * g (ix2 r n) := by
  unfold out
  pointwise [dot_S8192x1024_S8192x512_S1024x512_0_0_1_1_n_n]
  exact Finset.sum_congr rfl fun r _ => mul_comm _ _

/-- The call's array is the reference's result. -/
theorem meet (m : (ℓ : Loc Cert.Kernel12Ideal.nD Cert.Kernel12Ideal.τ Cert.Kernel12Ideal.sig) → Buf (Elt Ideal) ℓ) (c : Dev 1)
    {a : FVec Ideal S8192x512 .bf16} {g : FVec Ideal S8192x1024 .bf16} (ea : a = A m c) (eg : g = G m c) :
    out a g = Cert.Kernel12Ideal.Value.G2 m c := by
  funext i
  subst ea eg
  rw [eq_ix2 i]
  exact (out_apply _ _ _ _).trans (array m c _ _).symm

end Cert.BranchWgrad
end
-- ==== Proof.Products.BranchWgradWide.lean ====
/-
  A branch's weights' gradient, the branch in thirty-two bits: over any arguments, what the call's accumulator holds after each of the
  four points, what the array holds at the end, and that the reference's product is the same sum.
-/
module

public import proofs.«01_k».proof.Proof.Gen.Kernel13Ideal.Value
public import proofs.«01_k».proof.Proof.Gen.Reference13Ideal.Run
public import Idealize.ShloMosaic.Lib.Claim
public import Idealize.ShloMosaic.Lib.Pipeline.ValueKit

@[expose] public section
set_option maxRecDepth 16384

noncomputable section
namespace Cert.BranchWgradWide
open Idealize.ShloMosaic Idealize.ShloMosaic.TcCoe Idealize.ShloMosaic.Tactic
open Cert.Kernel13Ideal Cert.Kernel13Ideal.Gen

theorem zeros : (![0, 0] : Fin 2 → Nat) = fun _ => 0 := funext fun a => by fin_cases a <;> rfl

section Run
variable {F : FTy → Type} [FloatOps F]
variable (c : Dev nD) (i : grid0.Coords) (a3 : Memref sig .tc .vmem S2048x512 .f32) (h3 : a3.IsWhole)
  (a4 : Memref sig .tc .vmem S2048x1024 .bf16) (h4 : a4.IsWhole) (a5 : Memref sig .tc .vmem S512x1024 .bf16) (h5 : a5.IsWhole)
  (a6 : Memref sig .tc .vmem S512x1024 .f32) (h6 : a6.IsWhole) (x : Vec F S2048x512 .f32) (y : Vec F S2048x1024 .bf16)

/-- The first point of a block of columns leaves zero and its own product. -/
theorem acc_A (c0 : cond0_0 i) (c1 : ¬cond0_1 i) :
    sout0_A_0 c i a3 h3 a4 h4 a5 h5 a6 h6 c0 c1 x y = k0_pay2 k0_pay1 x y := by
  unfold sout0_A_0
  rw [View.read_writes_eq_canon _ _ _ (scover0_A_0 c i a3 h3 a4 h4 a5 h5 a6 h6 c0 c1 x y)]
  unfold kernelRun0_A
  dsimp only
  sl_unfold_words
  rw [View.canon_cons_unit_zero (S := S512x1024) zeros, View.readCov_unit_zero (S := S512x1024) _ zeros]
  simp only [View.readAt_eq_ld, h3.read_unread, h4.read_unread, View.ld_unit_zero (S := S2048x512) zeros, View.ld_unit_zero (S := S2048x1024) zeros]

/-- A point between adds its product to what the accumulator held. -/
theorem acc_B (c0 : ¬cond0_0 i) (c1 : ¬cond0_1 i) (acc : Vec F S512x1024 .f32) :
    sout0_B_0 c i a3 h3 a4 h4 a5 h5 a6 h6 c0 c1 x y acc = k0_pay2 acc x y := by
  unfold sout0_B_0
  rw [View.read_writes_eq_canon _ _ _ (scover0_B_0 c i a3 h3 a4 h4 a5 h5 a6 h6 c0 c1 x y acc)]
  unfold kernelRun0_B
  dsimp only
  sl_unfold_words
  rw [View.canon_unit_zero zeros]
  simp only [View.readAt_eq_ld, h3.read_unread, h4.read_unread, h6.read_unread, View.ld_unit_zero (S := S2048x512) zeros, View.ld_unit_zero (S := S2048x1024) zeros, View.ld_unit_zero (S := S512x1024) zeros]

/-- The last point writes the accumulator, with its own product, to the result's block. -/
theorem out_C (c0 : ¬cond0_0 i) (c1 : cond0_1 i) (acc : Vec F S512x1024 .f32) :
    out0_C_2 c i a3 h3 a4 h4 a5 h5 a6 h6 c0 c1 x y acc = k0_pay3 (k0_pay2 acc x y) := by
  unfold out0_C_2
  rw [View.read_writes_eq_canon _ _ _ (cover0_C_2 c i a3 h3 a4 h4 a5 h5 a6 h6 c0 c1 x y acc)]
  unfold kernelRun0_C
  dsimp only
  sl_unfold_words
  rw [View.canon_unit_zero zeros, View.readCov_unit_zero (S := S512x1024) _ zeros]
  simp only [View.readAt_eq_ld, h3.read_unread, h4.read_unread, h6.read_unread, View.ld_unit_zero (S := S2048x512) zeros, View.ld_unit_zero (S := S2048x1024) zeros, View.ld_unit_zero (S := S512x1024) zeros]
end Run

/-! ## Over the extended reals -/

theorem pay1_apply (i : Fin 512) (j : Fin 1024) : (k0_pay1 (F := Ideal)) (ix2 i j) = 0 := by
  pointwise [k0_pay1]

theorem pay2_apply (acc : Vec Ideal S512x1024 .f32) (x : Vec Ideal S2048x512 .f32) (y : Vec Ideal S2048x1024 .bf16) (i : Fin 512) (j : Fin 1024) :
    k0_pay2 (F := Ideal) acc x y (ix2 i j) = acc (ix2 i j) + ∑ r : Fin 2048, x (ix2 r i) * y (ix2 r j) := by
  pointwise [k0_pay2, dot_S2048x512_S2048x1024_S512x1024_0_0_1_1_n_n]

theorem pay3_apply (acc : Vec Ideal S512x1024 .f32) (i : Fin 512) (j : Fin 1024) :
    k0_pay3 (F := Ideal) acc (ix2 i j) = acc (ix2 i j) := by
  pointwise [k0_pay3]

/-- Row `n` of 8192, column `n` of 512. -/
def row (n : ℕ) : Fin 8192 := ⟨n % 8192, Nat.mod_lt _ (by decide)⟩
def col (n : ℕ) : Fin 512 := ⟨n % 512, Nat.mod_lt _ (by decide)⟩

/-- The product of tile `q` of 2048 rows. -/
def tile (a : FVec Ideal S8192x512 .f32) (g : FVec Ideal S8192x1024 .bf16) (q : ℕ) (i : Fin 512) (n : Fin 1024) : EReal :=
  ∑ r : Fin 2048, a (ix2 (row (2048 * q + r.val)) i) * g (ix2 (row (2048 * q + r.val)) n)

variable (m : (ℓ : Loc nD τ sig) → Buf (Elt Ideal) ℓ) (c : Dev nD)

/-- The saved activations and the incoming gradient. -/
abbrev A : FVec Ideal S8192x512 .f32 := m (c.tc.loc main_arg0)
abbrev G : FVec Ideal S8192x1024 .bf16 := m (c.tc.loc main_arg1)

theorem index0 : ∀ t : Fin cfg0.N, win0_0.index t = ![t.val % 4, t.val / 4] := by decide +kernel
theorem index1 : ∀ t : Fin cfg0.N, win0_1.index t = ![t.val % 4, 0] := by decide +kernel

theorem point_lt (t : Fin cfg0.N) : t.val < 4 := lt_of_lt_of_eq t.isLt (show cfg0.N = 4 from N_0)

/-- A point's blocks of the two, the second product's operands. -/
abbrev X (t : Fin cfg0.N) : FVec Ideal S2048x512 .f32 := iblk m c 0 t
abbrev Y (t : Fin cfg0.N) : FVec Ideal S2048x1024 .bf16 := iblk m c 1 t

theorem block0 (t : Fin cfg0.N) (r : Fin 2048) (i : Fin 512) :
    X m c t (ix2 r i) = A m c (ix2 (row (2048 * (t.val % 4) + r.val)) (col (512 * (t.val / 4) + i.val))) := by
  have ht := point_lt t
  have e : (row (2048 * (t.val % 4) + r.val)).val = 2048 * (t.val % 4) + r.val := Nat.mod_eq_of_lt (by omega)
  have e' : (col (512 * (t.val / 4) + i.val)).val = 512 * (t.val / 4) + i.val := Nat.mod_eq_of_lt (by omega)
  blk_ext! [X, iblk, V, index0, e, e']

theorem block1 (t : Fin cfg0.N) (r : Fin 2048) (n : Fin 1024) :
    Y m c t (ix2 r n) = G m c (ix2 (row (2048 * (t.val % 4) + r.val)) n) := by
  have ht := point_lt t
  have e : (row (2048 * (t.val % 4) + r.val)).val = 2048 * (t.val % 4) + r.val := Nat.mod_eq_of_lt (by omega)
  blk_ext! [Y, iblk, V, index1, e]

/-- A point's product is its tile's. -/
theorem product (t : Fin cfg0.N) (i : Fin 512) (n : Fin 1024) :
    ∑ r : Fin 2048, X m c t (ix2 r i) * Y m c t (ix2 r n) = tile (A m c) (G m c) (t.val % 4) (col (512 * (t.val / 4) + i.val)) n :=
  Finset.sum_congr rfl fun r _ => congrArg₂ (· * ·) (block0 m c t r i) (block1 m c t r n)

/-- The accumulator after point `t`. -/
abbrev acc (t : ℕ) (ht : t < cfg0.N) : FVec Ideal S512x1024 .f32 := (outsAt0 m c t ht).2

theorem acc_first (t : ℕ) (ht : t < cfg0.N) (h0 : t % 4 = 0) : acc m c t ht = k0_pay2 (F := Ideal) (k0_pay1 (F := Ideal)) (X m c ⟨t, ht⟩) (Y m c ⟨t, ht⟩) := by
  unfold acc
  rw [outsAt0_A m c ⟨t, ht⟩ h0 (by show ¬t % 4 = 3; omega), acc_A]

theorem acc_next (t : ℕ) (ht : t < cfg0.N) (h0 : ¬t % 4 = 0) (h3 : ¬t % 4 = 3) :
    acc m c t ht = k0_pay2 (F := Ideal) (acc m c (t - 1) (Nat.lt_of_le_of_lt (Nat.sub_le _ _) ht)) (X m c ⟨t, ht⟩) (Y m c ⟨t, ht⟩) := by
  unfold acc
  rw [outsAt0_B m c ⟨t, ht⟩ h0 h3, acc_B]

/-- The accumulator after each point but a block's last: the sum of the block's tiles so far. -/
theorem acc_sum (i : Fin 512) (n : Fin 1024) : ∀ (t : ℕ) (ht : t < cfg0.N), ¬t % 4 = 3 →
    acc m c t ht (ix2 i n) = ∑ q ∈ Finset.range (t % 4 + 1), tile (A m c) (G m c) q (col (512 * (t / 4) + i.val)) n
  | t, ht, h3 => by
    by_cases h0 : t % 4 = 0
    · rw [acc_first m c t ht h0, pay2_apply, pay1_apply, product, zero_add, h0]
      exact (Finset.sum_range_one (M := EReal) fun q => tile (A m c) (G m c) q (col (512 * (t / 4) + i.val)) n).symm
    · rw [acc_next m c t ht h0 h3, pay2_apply, product, acc_sum i n (t - 1) (Nat.lt_of_le_of_lt (Nat.sub_le _ _) ht) (by omega), show (t - 1) / 4 = t / 4 by omega,
        show (t - 1) % 4 + 1 = t % 4 by omega, Finset.sum_range_succ]

/-- What a block's last point writes: the sum of its four tiles. -/
theorem last (i : Fin 512) (n : Fin 1024) (t : ℕ) (ht : t < cfg0.N) (h3 : t % 4 = 3) :
    ((outsAt0 m c t ht).1 : FVec Ideal S512x1024 .bf16) (ix2 i n) = ∑ q ∈ Finset.range 4, tile (A m c) (G m c) q (col (512 * (t / 4) + i.val)) n := by
  have e : ((outsAt0 m c t ht).1 : FVec Ideal S512x1024 .bf16)
      = k0_pay3 (F := Ideal) (k0_pay2 (F := Ideal) (acc m c (t - 1) (Nat.lt_of_le_of_lt (Nat.sub_le _ _) ht)) (X m c ⟨t, ht⟩) (Y m c ⟨t, ht⟩)) := by
    rw [outsAt0_C m c ⟨t, ht⟩ (by show ¬t % 4 = 0; omega) h3, out_C]
  rw [e, pay3_apply, pay2_apply, product, acc_sum m c i n (t - 1) (Nat.lt_of_le_of_lt (Nat.sub_le _ _) ht) (by omega),
    show (t - 1) / 4 = t / 4 by omega, show (t - 1) % 4 + 1 = 3 by omega, h3, ← Finset.sum_range_succ]

/-- The result's array after the run. -/
theorem array (i : Fin 512) (n : Fin 1024) :
    (Cert.Kernel13Ideal.Value.G2 m c : FVec Ideal S512x1024 .bf16) (ix2 i n) = ∑ r : Fin 8192, A m c (ix2 r i) * G m c (ix2 r n) := by
  have hp : Cert.Kernel13Ideal.Value.pt2Of (ix2 i n) = 4 * (i.val / 512) + 3 := by
    show 4 * (1 * (i.val / 512 - 0) + 1 * (n.val / 1024 - 0)) + 3 = _
    omega
  have hl : Cert.Kernel13Ideal.Value.loc2Of (ix2 i n) = ix2 ⟨i.val % 512, Nat.mod_lt _ (by decide)⟩ n := by
    funext a; apply Fin.ext
    match a with
    | ⟨0, _⟩ => rfl
    | ⟨1, _⟩ => exact Nat.mod_eq_of_lt n.isLt
  have hN : cfg0.N = 4 := N_0
  have hlt : 4 * (i.val / 512) + 3 < cfg0.N := by omega
  have e : (Cert.Kernel13Ideal.Value.G2 m c : FVec Ideal S512x1024 .bf16) (ix2 i n)
      = ((outsAt0 m c (4 * (i.val / 512) + 3) hlt).1 : FVec Ideal S512x1024 .bf16) (ix2 ⟨i.val % 512, Nat.mod_lt _ (by decide)⟩ n) := by
    unfold Cert.Kernel13Ideal.Value.G2
    rw [dif_pos (by rw [hp]; exact hlt), hl, Cert.Kernel13Ideal.Value.fold0_congr m c _ _ (4 * (i.val / 512) + 3) (by omega) hp,
      ← Cert.Kernel13Ideal.Value.outsAt0_sweep m c (4 * (i.val / 512) + 3) hlt]
  have ei : col (512 * ((4 * (i.val / 512) + 3) / 4) + i.val % 512) = i := Fin.ext (by
    show (512 * ((4 * (i.val / 512) + 3) / 4) + i.val % 512) % 512 = i.val
    omega)
  rw [e, last m c _ n _ hlt (by omega), ei, Finset.sum_range]
  refine (Finset.sum_congr (M := EReal) rfl fun q _ => Finset.sum_congr rfl fun r _ => ?_).trans
    (Fin.sum_univ_tiles 4 2048 (by decide : 4 * 2048 = 8192) fun r => A m c (ix2 r i) * G m c (ix2 r n)).symm
  have er : row (2048 * q.val + r.val) = ⟨q.val * 2048 + r.val, by omega⟩ := Fin.ext (by show (2048 * q.val + r.val) % 8192 = q.val * 2048 + r.val; omega)
  rw [er]

end Cert.BranchWgradWide

namespace Cert.BranchWgradWide
open Idealize.ShloMosaic Idealize.ShloMosaic.TcCoe Idealize.ShloMosaic.Tactic
open Cert.Reference13Ideal Cert.Reference13Ideal.Gen

/-- The reference's result. -/
def out (a : FVec Ideal S8192x512 .f32) (g : FVec Ideal S8192x1024 .bf16) : FVec Ideal S512x1024 .bf16 :=
  truncf .bf16 (transpose S512x1024 [1, 0]
    (Host.dotGeneral (φ₁ := .f32) (φ₂ := .f32) dot_S8192x1024_S8192x512_S1024x512_0_0_1_1_n_n none
      (extf .f32 g bitsLt_bf16_f32) a)
      transposes_S1024x512_S512x1024_1_0) bitsLt_bf16_f32

theorem out_apply (a : FVec Ideal S8192x512 .f32) (g : FVec Ideal S8192x1024 .bf16) (i : Fin 512) (n : Fin 1024) :
    out a g (ix2 i n) = ∑ r : Fin 8192, a (ix2 r i) * g (ix2 r n) := by
  unfold out
  pointwise [dot_S8192x1024_S8192x512_S1024x512_0_0_1_1_n_n]
  exact Finset.sum_congr rfl fun r _ => mul_comm _ _

/-- The call's array is the reference's result. -/
theorem meet (m : (ℓ : Loc Cert.Kernel13Ideal.nD Cert.Kernel13Ideal.τ Cert.Kernel13Ideal.sig) → Buf (Elt Ideal) ℓ) (c : Dev 1)
    {a : FVec Ideal S8192x512 .f32} {g : FVec Ideal S8192x1024 .bf16} (ea : a = A m c) (eg : g = G m c) :
    out a g = Cert.Kernel13Ideal.Value.G2 m c := by
  funext i
  subst ea eg
  rw [eq_ix2 i]
  exact (out_apply _ _ _ _).trans (array m c _ _).symm

end Cert.BranchWgradWide
end
-- ==== Proof.Products.BranchDgradA.lean ====
/-
  The gradient of the first branch: every point's block of the product with the weights transposed, and the reference's
  at the same place. No side condition: the two sum the same products.
-/
module

public import proofs.«01_k».proof.Proof.Gen.Kernel14Ideal.Value
public import proofs.«01_k».proof.Proof.Gen.Reference14Ideal.Run
public import Idealize.ShloMosaic.Lib.Claim
public import Idealize.ShloMosaic.Lib.Pipeline.ValueKit

@[expose] public section
set_option maxRecDepth 16384

noncomputable section
namespace Cert.BranchDgradA
open Idealize.ShloMosaic Idealize.ShloMosaic.TcCoe Idealize.ShloMosaic.Tactic
open Cert.Kernel14Ideal Cert.Kernel14Ideal.Gen

theorem zeros : (![0, 0] : Fin 2 → Nat) = fun _ => 0 := funext fun a => by fin_cases a <;> rfl
theorem zeros3 : (![0, 0, 0] : Fin 3 → Nat) = fun _ => 0 := funext fun a => by fin_cases a <;> rfl
/-- What a point stores, element by element: a row of the gradient against a row of the weights. -/
theorem pay1_apply (x : Vec Ideal S2048x1024 .bf16) (y : Vec Ideal S1x512x1024 .bf16) (p : Fin 2048) (n : Fin 512) :
    k0_pay1 (F := Ideal) x y (ix2 p n) = ∑ d : Fin 1024, x (ix2 p d) * y (ix3 0 n d) := by
  pointwise [k0_pay1, dot_S2048x1024_S512x1024_S2048x512_1_1_0_0_n_n]
theorem out_2 (x : Vec Ideal S2048x1024 .bf16) (y : Vec Ideal S1x512x1024 .bf16) : out0_2 x y = k0_pay1 x y := by
  unfold out0_2
  rw [View.canon_unit_zero zeros]
  simp only [View.ld_unit_zero (S := S2048x1024) zeros, View.ld_unit_zero (S := S1x512x1024) zeros3]

/-- Row `n` of 8192. -/
def row (n : ℕ) : Fin 8192 := ⟨n % 8192, Nat.mod_lt _ (by decide)⟩

/-- The product's element. -/
def dot (g : FVec Ideal S8192x1024 .bf16) (w : FVec Ideal S3x512x1024 .bf16) (r : Fin 8192) (n : Fin 512) : EReal :=
  ∑ d : Fin 1024, g (ix2 r d) * w (ix3 0 n d)

variable (m : (ℓ : Loc nD τ sig) → Buf (Elt Ideal) ℓ) (c : Dev nD)

/-- The incoming gradient and the weights. -/
abbrev G : FVec Ideal S8192x1024 .bf16 := m (c.tc.loc main_arg0)
abbrev W : FVec Ideal S3x512x1024 .bf16 := m (c.tc.loc main_arg1)

theorem index0 : ∀ t : Fin cfg0.N, win0_0.index t = ![t.val, 0] := by decide +kernel
theorem index1 : ∀ t : Fin cfg0.N, win0_1.index t = ![0, 0, 0] := by decide +kernel
theorem index2 : ∀ t : Fin cfg0.N, win0_2.index t = ![t.val, 0] := by decide +kernel

theorem point_lt (t : Fin cfg0.N) : t.val < 4 := lt_of_lt_of_eq t.isLt (show cfg0.N = 4 from N_0)

/-- A point's blocks of the two. -/
abbrev X (t : Fin cfg0.N) : FVec Ideal S2048x1024 .bf16 := iblk m c 0 t
abbrev Y (t : Fin cfg0.N) : FVec Ideal S1x512x1024 .bf16 := iblk m c 1 t

theorem row_val (t : Fin cfg0.N) (p : Fin 2048) : (row (2048 * t.val + p.val)).val = 2048 * t.val + p.val :=
  Nat.mod_eq_of_lt (by have := point_lt t; omega)

theorem block0 (t : Fin cfg0.N) (p : Fin 2048) (d : Fin 1024) : X m c t (ix2 p d) = G m c (ix2 (row (2048 * t.val + p.val)) d) := by
  have e := row_val t p
  blk_ext! [X, iblk, V, index0, e]
theorem block1 (t : Fin cfg0.N) (n : Fin 512) (d : Fin 1024) : Y m c t (ix3 0 n d) = W m c (ix3 0 n d) := by
  blk_ext! [Y, iblk, V, index1]

/-- What the call puts at a place of its result. -/
def dotAt (r : Fin 8192) (n : Fin 512) : EReal := dot (G m c) (W m c) r n

theorem point2 (t : Fin cfg0.N) (p : Fin 2048) (n : Fin 512) :
    out0_2 (F := Ideal) (X m c t) (Y m c t) (ix2 p n) = dotAt m c (row (2048 * t.val + p.val)) n := by
  rw [out_2, pay1_apply]
  exact Finset.sum_congr rfl fun d _ => congrArg₂ (· * ·) (block0 m c t p d) (block1 m c t n d)

/-- The result's array after the run. -/
theorem array2 : ((dats m 0 c).arrAt 2 cfg0.N : FVec Ideal S8192x512 .bf16) = fun i => dotAt m c (i 0) (i 1) := by
  refine (dats m 0 c).arrAt_eq_of_covers 2 _ (by decide +kernel) fun t hf y => ?_
  blk_simp [index2]
  rw [after0_2]
  refine (congrArg (out0_2 (F := Ideal) (X m c t) (Y m c t)) (eq_ix2 y)).trans ((point2 m c t (y 0) (y 1)).trans ?_)
  exact congrArg₂ (dotAt m c) (Fin.ext ((row_val t (y 0)).trans (by blk_simp [index2]; exact congrArg (· + _) (Nat.mul_comm _ _))))
    (Fin.ext (by blk_simp [index2]))

end Cert.BranchDgradA

namespace Cert.BranchDgradA
open Idealize.ShloMosaic Idealize.ShloMosaic.TcCoe Idealize.ShloMosaic.Tactic
open Cert.Reference14Ideal Cert.Reference14Ideal.Gen

/-- The reference's result. -/
def out (g : FVec Ideal S8192x1024 .bf16) (w : FVec Ideal S3x512x1024 .bf16) : FVec Ideal S8192x512 .bf16 :=
  truncf .bf16 (Host.dotGeneral (φ₁ := .f32) (φ₂ := .f32) dot_S8192x1024_S512x1024_S8192x512_1_1_0_0_n_n none (extf .f32 g bitsLt_bf16_f32)
    (extf .f32 (shapeCast _ (extractStridedSlice S1x512x1024 ![0, 0, 0] w slices_S3x512x1024_S1x512x1024_0_0_0) shapeCasts_S1x512x1024_S512x1024) bitsLt_bf16_f32)) bitsLt_bf16_f32

theorem out_apply (g : FVec Ideal S8192x1024 .bf16) (w : FVec Ideal S3x512x1024 .bf16) (r : Fin 8192) (n : Fin 512) : out g w (ix2 r n) = dot g w r n := by
  unfold out dot
  pointwise [dot_S8192x1024_S512x1024_S8192x512_1_1_0_0_n_n]

/-- The call's array is the reference's result. -/
theorem meet (m : (ℓ : Loc Cert.Kernel14Ideal.nD Cert.Kernel14Ideal.τ Cert.Kernel14Ideal.sig) → Buf (Elt Ideal) ℓ) (c : Dev 1)
    {g : FVec Ideal S8192x1024 .bf16} {w : FVec Ideal S3x512x1024 .bf16} (eg : g = G m c) (ew : w = W m c) :
    out g w = (Cert.Kernel14Ideal.Gen.dats m 0 c).arrAt 2 Cert.Kernel14Ideal.cfg0.N := by
  subst eg ew
  refine Eq.trans (funext fun i => ?_) (array2 m c).symm
  rw [eq_ix2 i]
  exact out_apply _ _ _ _

end Cert.BranchDgradA
end
-- ==== Proof.Products.BranchDgradB.lean ====
/-
  The gradient of the second branch: every point's block of the product with the weights transposed, and the reference's
  at the same place. No side condition: the two sum the same products.
-/
module

public import proofs.«01_k».proof.Proof.Gen.Kernel15Ideal.Value
public import proofs.«01_k».proof.Proof.Gen.Reference15Ideal.Run
public import Idealize.ShloMosaic.Lib.Claim
public import Idealize.ShloMosaic.Lib.Pipeline.ValueKit

@[expose] public section
set_option maxRecDepth 16384

noncomputable section
namespace Cert.BranchDgradB
open Idealize.ShloMosaic Idealize.ShloMosaic.TcCoe Idealize.ShloMosaic.Tactic
open Cert.Kernel15Ideal Cert.Kernel15Ideal.Gen

theorem zeros : (![0, 0] : Fin 2 → Nat) = fun _ => 0 := funext fun a => by fin_cases a <;> rfl
theorem zeros3 : (![0, 0, 0] : Fin 3 → Nat) = fun _ => 0 := funext fun a => by fin_cases a <;> rfl
/-- What a point stores, element by element: a row of the gradient against a row of the weights. -/
theorem pay1_apply (x : Vec Ideal S2048x1024 .bf16) (y : Vec Ideal S1x512x1024 .bf16) (p : Fin 2048) (n : Fin 512) :
    k0_pay1 (F := Ideal) x y (ix2 p n) = ∑ d : Fin 1024, x (ix2 p d) * y (ix3 0 n d) := by
  pointwise [k0_pay1, dot_S2048x1024_S512x1024_S2048x512_1_1_0_0_n_n]
theorem out_2 (x : Vec Ideal S2048x1024 .bf16) (y : Vec Ideal S1x512x1024 .bf16) : out0_2 x y = k0_pay1 x y := by
  unfold out0_2
  rw [View.canon_unit_zero zeros]
  simp only [View.ld_unit_zero (S := S2048x1024) zeros, View.ld_unit_zero (S := S1x512x1024) zeros3]

/-- Row `n` of 8192. -/
def row (n : ℕ) : Fin 8192 := ⟨n % 8192, Nat.mod_lt _ (by decide)⟩

/-- The product's element. -/
def dot (g : FVec Ideal S8192x1024 .bf16) (w : FVec Ideal S3x512x1024 .bf16) (r : Fin 8192) (n : Fin 512) : EReal :=
  ∑ d : Fin 1024, g (ix2 r d) * w (ix3 1 n d)

variable (m : (ℓ : Loc nD τ sig) → Buf (Elt Ideal) ℓ) (c : Dev nD)

/-- The incoming gradient and the weights. -/
abbrev G : FVec Ideal S8192x1024 .bf16 := m (c.tc.loc main_arg0)
abbrev W : FVec Ideal S3x512x1024 .bf16 := m (c.tc.loc main_arg1)

theorem index0 : ∀ t : Fin cfg0.N, win0_0.index t = ![t.val, 0] := by decide +kernel
theorem index1 : ∀ t : Fin cfg0.N, win0_1.index t = ![1, 0, 0] := by decide +kernel
theorem index2 : ∀ t : Fin cfg0.N, win0_2.index t = ![t.val, 0] := by decide +kernel

theorem point_lt (t : Fin cfg0.N) : t.val < 4 := lt_of_lt_of_eq t.isLt (show cfg0.N = 4 from N_0)

/-- A point's blocks of the two. -/
abbrev X (t : Fin cfg0.N) : FVec Ideal S2048x1024 .bf16 := iblk m c 0 t
abbrev Y (t : Fin cfg0.N) : FVec Ideal S1x512x1024 .bf16 := iblk m c 1 t

theorem row_val (t : Fin cfg0.N) (p : Fin 2048) : (row (2048 * t.val + p.val)).val = 2048 * t.val + p.val :=
  Nat.mod_eq_of_lt (by have := point_lt t; omega)

theorem block0 (t : Fin cfg0.N) (p : Fin 2048) (d : Fin 1024) : X m c t (ix2 p d) = G m c (ix2 (row (2048 * t.val + p.val)) d) := by
  have e := row_val t p
  blk_ext! [X, iblk, V, index0, e]
theorem block1 (t : Fin cfg0.N) (n : Fin 512) (d : Fin 1024) : Y m c t (ix3 0 n d) = W m c (ix3 1 n d) := by
  blk_ext! [Y, iblk, V, index1]

/-- What the call puts at a place of its result. -/
def dotAt (r : Fin 8192) (n : Fin 512) : EReal := dot (G m c) (W m c) r n

theorem point2 (t : Fin cfg0.N) (p : Fin 2048) (n : Fin 512) :
    out0_2 (F := Ideal) (X m c t) (Y m c t) (ix2 p n) = dotAt m c (row (2048 * t.val + p.val)) n := by
  rw [out_2, pay1_apply]
  exact Finset.sum_congr rfl fun d _ => congrArg₂ (· * ·) (block0 m c t p d) (block1 m c t n d)

/-- The result's array after the run. -/
theorem array2 : ((dats m 0 c).arrAt 2 cfg0.N : FVec Ideal S8192x512 .bf16) = fun i => dotAt m c (i 0) (i 1) := by
  refine (dats m 0 c).arrAt_eq_of_covers 2 _ (by decide +kernel) fun t hf y => ?_
  blk_simp [index2]
  rw [after0_2]
  refine (congrArg (out0_2 (F := Ideal) (X m c t) (Y m c t)) (eq_ix2 y)).trans ((point2 m c t (y 0) (y 1)).trans ?_)
  exact congrArg₂ (dotAt m c) (Fin.ext ((row_val t (y 0)).trans (by blk_simp [index2]; exact congrArg (· + _) (Nat.mul_comm _ _))))
    (Fin.ext (by blk_simp [index2]))

end Cert.BranchDgradB

namespace Cert.BranchDgradB
open Idealize.ShloMosaic Idealize.ShloMosaic.TcCoe Idealize.ShloMosaic.Tactic
open Cert.Reference15Ideal Cert.Reference15Ideal.Gen

/-- The reference's result. -/
def out (g : FVec Ideal S8192x1024 .bf16) (w : FVec Ideal S3x512x1024 .bf16) : FVec Ideal S8192x512 .bf16 :=
  truncf .bf16 (Host.dotGeneral (φ₁ := .f32) (φ₂ := .f32) dot_S8192x1024_S512x1024_S8192x512_1_1_0_0_n_n none (extf .f32 g bitsLt_bf16_f32)
    (extf .f32 (shapeCast _ (extractStridedSlice S1x512x1024 ![1, 0, 0] w slices_S3x512x1024_S1x512x1024_1_0_0) shapeCasts_S1x512x1024_S512x1024) bitsLt_bf16_f32)) bitsLt_bf16_f32

theorem out_apply (g : FVec Ideal S8192x1024 .bf16) (w : FVec Ideal S3x512x1024 .bf16) (r : Fin 8192) (n : Fin 512) : out g w (ix2 r n) = dot g w r n := by
  unfold out dot
  pointwise [dot_S8192x1024_S512x1024_S8192x512_1_1_0_0_n_n]

/-- The call's array is the reference's result. -/
theorem meet (m : (ℓ : Loc Cert.Kernel15Ideal.nD Cert.Kernel15Ideal.τ Cert.Kernel15Ideal.sig) → Buf (Elt Ideal) ℓ) (c : Dev 1)
    {g : FVec Ideal S8192x1024 .bf16} {w : FVec Ideal S3x512x1024 .bf16} (eg : g = G m c) (ew : w = W m c) :
    out g w = (Cert.Kernel15Ideal.Gen.dats m 0 c).arrAt 2 Cert.Kernel15Ideal.cfg0.N := by
  subst eg ew
  refine Eq.trans (funext fun i => ?_) (array2 m c).symm
  rw [eq_ix2 i]
  exact out_apply _ _ _ _

end Cert.BranchDgradB
end
-- ==== Proof.Products.BranchDgradC.lean ====
/-
  The gradient of the third branch: every point's block of the product with the weights transposed, and the reference's
  at the same place. No side condition: the two sum the same products.
-/
module

public import proofs.«01_k».proof.Proof.Gen.Kernel16Ideal.Value
public import proofs.«01_k».proof.Proof.Gen.Reference16Ideal.Run
public import Idealize.ShloMosaic.Lib.Claim
public import Idealize.ShloMosaic.Lib.Pipeline.ValueKit

@[expose] public section
set_option maxRecDepth 16384

noncomputable section
namespace Cert.BranchDgradC
open Idealize.ShloMosaic Idealize.ShloMosaic.TcCoe Idealize.ShloMosaic.Tactic
open Cert.Kernel16Ideal Cert.Kernel16Ideal.Gen

theorem zeros : (![0, 0] : Fin 2 → Nat) = fun _ => 0 := funext fun a => by fin_cases a <;> rfl
theorem zeros3 : (![0, 0, 0] : Fin 3 → Nat) = fun _ => 0 := funext fun a => by fin_cases a <;> rfl
/-- What a point stores, element by element: a row of the gradient against a row of the weights. -/
theorem pay1_apply (x : Vec Ideal S2048x1024 .bf16) (y : Vec Ideal S1x512x1024 .bf16) (p : Fin 2048) (n : Fin 512) :
    k0_pay1 (F := Ideal) x y (ix2 p n) = ∑ d : Fin 1024, x (ix2 p d) * y (ix3 0 n d) := by
  pointwise [k0_pay1, dot_S2048x1024_S512x1024_S2048x512_1_1_0_0_n_n]
theorem out_2 (x : Vec Ideal S2048x1024 .bf16) (y : Vec Ideal S1x512x1024 .bf16) : out0_2 x y = k0_pay1 x y := by
  unfold out0_2
  rw [View.canon_unit_zero zeros]
  simp only [View.ld_unit_zero (S := S2048x1024) zeros, View.ld_unit_zero (S := S1x512x1024) zeros3]

/-- Row `n` of 8192. -/
def row (n : ℕ) : Fin 8192 := ⟨n % 8192, Nat.mod_lt _ (by decide)⟩

/-- The product's element. -/
def dot (g : FVec Ideal S8192x1024 .bf16) (w : FVec Ideal S3x512x1024 .bf16) (r : Fin 8192) (n : Fin 512) : EReal :=
  ∑ d : Fin 1024, g (ix2 r d) * w (ix3 2 n d)

variable (m : (ℓ : Loc nD τ sig) → Buf (Elt Ideal) ℓ) (c : Dev nD)

/-- The incoming gradient and the weights. -/
abbrev G : FVec Ideal S8192x1024 .bf16 := m (c.tc.loc main_arg0)
abbrev W : FVec Ideal S3x512x1024 .bf16 := m (c.tc.loc main_arg1)

theorem index0 : ∀ t : Fin cfg0.N, win0_0.index t = ![t.val, 0] := by decide +kernel
theorem index1 : ∀ t : Fin cfg0.N, win0_1.index t = ![2, 0, 0] := by decide +kernel
theorem index2 : ∀ t : Fin cfg0.N, win0_2.index t = ![t.val, 0] := by decide +kernel

theorem point_lt (t : Fin cfg0.N) : t.val < 4 := lt_of_lt_of_eq t.isLt (show cfg0.N = 4 from N_0)

/-- A point's blocks of the two. -/
abbrev X (t : Fin cfg0.N) : FVec Ideal S2048x1024 .bf16 := iblk m c 0 t
abbrev Y (t : Fin cfg0.N) : FVec Ideal S1x512x1024 .bf16 := iblk m c 1 t

theorem row_val (t : Fin cfg0.N) (p : Fin 2048) : (row (2048 * t.val + p.val)).val = 2048 * t.val + p.val :=
  Nat.mod_eq_of_lt (by have := point_lt t; omega)

theorem block0 (t : Fin cfg0.N) (p : Fin 2048) (d : Fin 1024) : X m c t (ix2 p d) = G m c (ix2 (row (2048 * t.val + p.val)) d) := by
  have e := row_val t p
  blk_ext! [X, iblk, V, index0, e]
theorem block1 (t : Fin cfg0.N) (n : Fin 512) (d : Fin 1024) : Y m c t (ix3 0 n d) = W m c (ix3 2 n d) := by
  blk_ext! [Y, iblk, V, index1]

/-- What the call puts at a place of its result. -/
def dotAt (r : Fin 8192) (n : Fin 512) : EReal := dot (G m c) (W m c) r n

theorem point2 (t : Fin cfg0.N) (p : Fin 2048) (n : Fin 512) :
    out0_2 (F := Ideal) (X m c t) (Y m c t) (ix2 p n) = dotAt m c (row (2048 * t.val + p.val)) n := by
  rw [out_2, pay1_apply]
  exact Finset.sum_congr rfl fun d _ => congrArg₂ (· * ·) (block0 m c t p d) (block1 m c t n d)

/-- The result's array after the run. -/
theorem array2 : ((dats m 0 c).arrAt 2 cfg0.N : FVec Ideal S8192x512 .bf16) = fun i => dotAt m c (i 0) (i 1) := by
  refine (dats m 0 c).arrAt_eq_of_covers 2 _ (by decide +kernel) fun t hf y => ?_
  blk_simp [index2]
  rw [after0_2]
  refine (congrArg (out0_2 (F := Ideal) (X m c t) (Y m c t)) (eq_ix2 y)).trans ((point2 m c t (y 0) (y 1)).trans ?_)
  exact congrArg₂ (dotAt m c) (Fin.ext ((row_val t (y 0)).trans (by blk_simp [index2]; exact congrArg (· + _) (Nat.mul_comm _ _))))
    (Fin.ext (by blk_simp [index2]))

end Cert.BranchDgradC

namespace Cert.BranchDgradC
open Idealize.ShloMosaic Idealize.ShloMosaic.TcCoe Idealize.ShloMosaic.Tactic
open Cert.Reference16Ideal Cert.Reference16Ideal.Gen

/-- The reference's result. -/
def out (g : FVec Ideal S8192x1024 .bf16) (w : FVec Ideal S3x512x1024 .bf16) : FVec Ideal S8192x512 .bf16 :=
  truncf .bf16 (Host.dotGeneral (φ₁ := .f32) (φ₂ := .f32) dot_S8192x1024_S512x1024_S8192x512_1_1_0_0_n_n none (extf .f32 g bitsLt_bf16_f32)
    (extf .f32 (shapeCast _ (extractStridedSlice S1x512x1024 ![2, 0, 0] w slices_S3x512x1024_S1x512x1024_2_0_0) shapeCasts_S1x512x1024_S512x1024) bitsLt_bf16_f32)) bitsLt_bf16_f32

theorem out_apply (g : FVec Ideal S8192x1024 .bf16) (w : FVec Ideal S3x512x1024 .bf16) (r : Fin 8192) (n : Fin 512) : out g w (ix2 r n) = dot g w r n := by
  unfold out dot
  pointwise [dot_S8192x1024_S512x1024_S8192x512_1_1_0_0_n_n]

/-- The call's array is the reference's result. -/
theorem meet (m : (ℓ : Loc Cert.Kernel16Ideal.nD Cert.Kernel16Ideal.τ Cert.Kernel16Ideal.sig) → Buf (Elt Ideal) ℓ) (c : Dev 1)
    {g : FVec Ideal S8192x1024 .bf16} {w : FVec Ideal S3x512x1024 .bf16} (eg : g = G m c) (ew : w = W m c) :
    out g w = (Cert.Kernel16Ideal.Gen.dats m 0 c).arrAt 2 Cert.Kernel16Ideal.cfg0.N := by
  subst eg ew
  refine Eq.trans (funext fun i => ?_) (array2 m c).symm
  rw [eq_ix2 i]
  exact out_apply _ _ _ _

end Cert.BranchDgradC
end
-- ==== Proof.Products.MergeOutFwd.lean ====
/-
  The merged branches' output product: every point's block of the product and of the gated residual sum, and the reference's at the same
  place. No side condition: the two sum the same products.
-/
module

public import proofs.«01_k».proof.Proof.Gen.Kernel17Ideal.Value
public import proofs.«01_k».proof.Proof.Gen.Reference17Ideal.Run
public import Idealize.ShloMosaic.Lib.Claim
public import Idealize.ShloMosaic.Lib.Pipeline.ValueKit

@[expose] public section
set_option maxRecDepth 16384

noncomputable section
namespace Cert.MergeOutFwd
open Idealize.ShloMosaic Idealize.ShloMosaic.TcCoe Idealize.ShloMosaic.Tactic
open Cert.Kernel17Ideal Cert.Kernel17Ideal.Gen

theorem zeros : (![0, 0] : Fin 2 → Nat) = fun _ => 0 := funext fun a => by fin_cases a <;> rfl
theorem zeros3 : (![0, 0, 0] : Fin 3 → Nat) = fun _ => 0 := funext fun a => by fin_cases a <;> rfl

section Run
variable {F : FTy → Type} [FloatOps F]
variable (x : Vec F S1024x1024 .bf16) (w : Vec F S1024x1024 .bf16) (r : Vec F S1024x1024 .f32) (g : Vec F S1x1x1024 .f32)

theorem out_4 : out0_4 x w r g = k0_pay2 x w r g := by
  unfold out0_4
  rw [View.canon_unit_zero zeros]
  simp only [View.ld_unit_zero (S := S1024x1024) zeros,
    View.ld_unit_zero (S := S1x1x1024) zeros3]
theorem out_5 : out0_5 x w r g = k0_pay3 x w := by
  unfold out0_5
  rw [View.canon_unit_zero zeros]
  simp only [View.ld_unit_zero (S := S1024x1024) zeros]
end Run

/-! ## Over the extended reals -/

theorem pay3_apply (x : Vec Ideal S1024x1024 .bf16) (w : Vec Ideal S1024x1024 .bf16) (p : Fin 1024) (n : Fin 1024) :
    k0_pay3 (F := Ideal) x w (ix2 p n) = ∑ d : Fin 1024, x (ix2 p d) * w (ix2 d n) := by
  pointwise [k0_pay3, k0_pay1, dot_S1024x1024_S1024x1024_S1024x1024_1_0_0_1_n_n]
theorem pay2_apply (x : Vec Ideal S1024x1024 .bf16) (w : Vec Ideal S1024x1024 .bf16) (r : Vec Ideal S1024x1024 .f32) (g : Vec Ideal S1x1x1024 .f32)
    (p : Fin 1024) (n : Fin 1024) :
    k0_pay2 (F := Ideal) x w r g (ix2 p n) = r (ix2 p n) + g (ix3 0 0 n) * ∑ d : Fin 1024, x (ix2 p d) * w (ix2 d n) := by
  pointwise [k0_pay2, k0_pay1, dot_S1024x1024_S1024x1024_S1024x1024_1_0_0_1_n_n]

/-- Row `n` of 8192; sequence `n` of 4. -/
def row (n : ℕ) : Fin 8192 := ⟨n % 8192, Nat.mod_lt _ (by decide)⟩
def seq (n : ℕ) : Fin 4 := ⟨n % 4, Nat.mod_lt _ (by decide)⟩

/-- The product's element. -/
def dot (a : FVec Ideal S8192x1024 .bf16) (w : FVec Ideal S1024x1024 .bf16) (r : Fin 8192) (n : Fin 1024) : EReal :=
  ∑ d : Fin 1024, a (ix2 r d) * w (ix2 d n)

/-- The residual sum's element: a row's sequence is the row divided by 2048. -/
def res (a : FVec Ideal S8192x1024 .bf16) (w : FVec Ideal S1024x1024 .bf16) (x : FVec Ideal S8192x1024 .f32) (g : FVec Ideal S4x1x1024 .f32)
    (r : Fin 8192) (n : Fin 1024) : EReal :=
  x (ix2 r n) + g (ix3 (seq (r.val / 2048)) 0 n) * dot a w r n

variable (m : (ℓ : Loc nD τ sig) → Buf (Elt Ideal) ℓ) (c : Dev nD)

/-- The activation, the weights, the residual and the gates. -/
abbrev A : FVec Ideal S8192x1024 .bf16 := m (c.tc.loc main_arg0)
abbrev W : FVec Ideal S1024x1024 .bf16 := m (c.tc.loc main_arg1)
abbrev R : FVec Ideal S8192x1024 .f32 := m (c.tc.loc main_arg2)
abbrev G : FVec Ideal S4x1x1024 .f32 := m (c.tc.loc main_arg3)

theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![t.val, 0] := by decide +kernel
theorem index3 : ∀ t : Fin cfg0.N, win0_3.index t = ![t.val / 2, 0, 0] := by decide +kernel
theorem index4 : ∀ t : Fin cfg0.N, win0_4.index t = ![t.val, 0] := by decide +kernel
theorem index5 : ∀ t : Fin cfg0.N, win0_5.index t = ![t.val, 0] := by decide +kernel

theorem point_lt (t : Fin cfg0.N) : t.val < 8 := lt_of_lt_of_eq t.isLt (show cfg0.N = 8 from N_0)

/-- A point's blocks of the activation, of the weights, of the residual and of the gates. -/
abbrev X (t : Fin cfg0.N) : FVec Ideal S1024x1024 .bf16 := iblk m c 0 t
abbrev Y (t : Fin cfg0.N) : FVec Ideal S1024x1024 .bf16 := iblk m c 1 t
abbrev XR (t : Fin cfg0.N) : FVec Ideal S1024x1024 .f32 := iblk m c 2 t
abbrev XG (t : Fin cfg0.N) : FVec Ideal S1x1x1024 .f32 := iblk m c 3 t

theorem row_val (t : Fin cfg0.N) (p : Fin 1024) : (row (1024 * t.val + p.val)).val = 1024 * t.val + p.val :=
  Nat.mod_eq_of_lt (by have := point_lt t; omega)

theorem block0 (t : Fin cfg0.N) (p : Fin 1024) (d : Fin 1024) : X m c t (ix2 p d) = A m c (ix2 (row (1024 * t.val + p.val)) d) := by
  have e := row_val t p
  blk_ext! [X, iblk, V, index0, e]
theorem block1 (t : Fin cfg0.N) (d : Fin 1024) (n : Fin 1024) : Y m c t (ix2 d n) = W m c (ix2 d n) := by
  blk_ext! [Y, iblk, V, index1]
theorem block2 (t : Fin cfg0.N) (p : Fin 1024) (n : Fin 1024) :
    XR m c t (ix2 p n) = R m c (ix2 (row (1024 * t.val + p.val)) n) := by
  have e := row_val t p
  blk_ext! [XR, iblk, V, index2, e]
theorem block3 (t : Fin cfg0.N) (p : Fin 1024) (n : Fin 1024) :
    XG m c t (ix3 0 0 n) = G m c (ix3 (seq ((row (1024 * t.val + p.val)).val / 2048)) 0 n) := by
  have e : (seq ((row (1024 * t.val + p.val)).val / 2048)).val = t.val / 2 := by
    rw [row_val]
    have := point_lt t
    show (1024 * t.val + p.val) / 2048 % 4 = _
    omega
  blk_ext! [XG, iblk, V, index3, e]

theorem product (t : Fin cfg0.N) (p : Fin 1024) (n : Fin 1024) :
    ∑ d : Fin 1024, X m c t (ix2 p d) * Y m c t (ix2 d n)
      = dot (A m c) (W m c) (row (1024 * t.val + p.val)) n :=
  Finset.sum_congr rfl fun d _ => congrArg₂ (· * ·) (block0 m c t p d) (block1 m c t d n)

/-- What the call puts at a place of each result. -/
def resAt (r : Fin 8192) (n : Fin 1024) : EReal := res (A m c) (W m c) (R m c) (G m c) r n
def dotAt (r : Fin 8192) (n : Fin 1024) : EReal := dot (A m c) (W m c) r n

theorem point4 (t : Fin cfg0.N) (p : Fin 1024) (n : Fin 1024) :
    out0_4 (F := Ideal) (X m c t) (Y m c t) (XR m c t) (XG m c t) (ix2 p n)
      = resAt m c (row (1024 * t.val + p.val)) n := by
  rw [out_4, pay2_apply, product, block2, block3 m c t p n]
  rfl
theorem point5 (t : Fin cfg0.N) (p : Fin 1024) (n : Fin 1024) :
    out0_5 (F := Ideal) (X m c t) (Y m c t) (XR m c t) (XG m c t) (ix2 p n)
      = dotAt m c (row (1024 * t.val + p.val)) n := by
  rw [out_5, pay3_apply, product, dotAt]

/-- The results' arrays after the run. -/
theorem array4 : ((dats m 0 c).arrAt 4 cfg0.N : FVec Ideal S8192x1024 .f32) = fun i => resAt m c (i 0) (i 1) := by
  refine (dats m 0 c).arrAt_eq_of_covers 4 _ (by decide +kernel) fun t hf y => ?_
  blk_simp [index4]
  rw [after0_4]
  refine (congrArg (out0_4 (F := Ideal) (X m c t) (Y m c t) (XR m c t) (XG m c t)) (eq_ix2 y)).trans ((point4 m c t (y 0) (y 1)).trans ?_)
  exact congrArg₂ (resAt m c) (Fin.ext ((row_val t (y 0)).trans (by blk_simp [index4]; exact congrArg (· + _) (Nat.mul_comm _ _))))
    (Fin.ext (by blk_simp [index4]))
theorem array5 : ((dats m 0 c).arrAt 5 cfg0.N : FVec Ideal S8192x1024 .bf16) = fun i => dotAt m c (i 0) (i 1) := by
  refine (dats m 0 c).arrAt_eq_of_covers 5 _ (by decide +kernel) fun t hf y => ?_
  blk_simp [index5]
  rw [after0_5]
  refine (congrArg (out0_5 (F := Ideal) (X m c t) (Y m c t) (XR m c t) (XG m c t)) (eq_ix2 y)).trans ((point5 m c t (y 0) (y 1)).trans ?_)
  exact congrArg₂ (dotAt m c) (Fin.ext ((row_val t (y 0)).trans (by blk_simp [index5]; exact congrArg (· + _) (Nat.mul_comm _ _))))
    (Fin.ext (by blk_simp [index5]))

end Cert.MergeOutFwd

namespace Cert.MergeOutFwd
open Idealize.ShloMosaic Idealize.ShloMosaic.TcCoe Idealize.ShloMosaic.Tactic
open Cert.Reference17Ideal Cert.Reference17Ideal.Gen

/-- The reference's product. -/
abbrev prod (a : FVec Ideal S8192x1024 .bf16) (w : FVec Ideal S1024x1024 .bf16) : FVec Ideal S8192x1024 .f32 :=
  Host.dotGeneral (φ₁ := .f32) (φ₂ := .f32) dot_S8192x1024_S1024x1024_S8192x1024_1_0_0_1_n_n none (extf .f32 a bitsLt_bf16_f32) (extf .f32 w bitsLt_bf16_f32)

/-- The reference's results. -/
def outRes (a : FVec Ideal S8192x1024 .bf16) (w : FVec Ideal S1024x1024 .bf16) (x : FVec Ideal S8192x1024 .f32) (g : FVec Ideal S4x1x1024 .f32) :
    FVec Ideal S8192x1024 .f32 :=
  shapeCast _ (addf (shapeCast _ x shapeCasts_S8192x1024_S4x2048x1024) (mulf (broadcastInDim S4x2048x1024 ![0, 1, 2] bcast_S4x1x1024_S4x2048x1024_0_1_2 g) (shapeCast _ (prod a w) shapeCasts_S8192x1024_S4x2048x1024))) shapeCasts_S4x2048x1024_S8192x1024
def outDot (a : FVec Ideal S8192x1024 .bf16) (w : FVec Ideal S1024x1024 .bf16) : FVec Ideal S8192x1024 .bf16 :=
  truncf .bf16 (prod a w) bitsLt_bf16_f32

theorem prod_apply (a : FVec Ideal S8192x1024 .bf16) (w : FVec Ideal S1024x1024 .bf16) (r : Fin 8192) (n : Fin 1024) :
    prod a w (ix2 r n) = dot a w r n := by
  unfold prod dot
  pointwise [dot_S8192x1024_S1024x1024_S8192x1024_1_0_0_1_n_n]

theorem outDot_apply (a : FVec Ideal S8192x1024 .bf16) (w : FVec Ideal S1024x1024 .bf16) (r : Fin 8192) (n : Fin 1024) :
    outDot a w (ix2 r n) = dot a w r n := prod_apply _ _ _ _
theorem outRes_apply (a : FVec Ideal S8192x1024 .bf16) (w : FVec Ideal S1024x1024 .bf16) (x : FVec Ideal S8192x1024 .f32) (g : FVec Ideal S4x1x1024 .f32)
    (r : Fin 8192) (n : Fin 1024) : outRes a w x g (ix2 r n) = res a w x g r n := by
  unfold res
  rw [← prod_apply]
  unfold outRes
  generalize prod a w = p
  pointwise
  have e : (⟨r.val / 2048, by omega⟩ : Fin 4) = seq (r.val / 2048) := Fin.ext (by show r.val / 2048 = r.val / 2048 % 4; omega)
  rw [e]

variable (m : (ℓ : Loc Cert.Kernel17Ideal.nD Cert.Kernel17Ideal.τ Cert.Kernel17Ideal.sig) → Buf (Elt Ideal) ℓ) (c : Dev 1)
variable {a : FVec Ideal S8192x1024 .bf16} {w : FVec Ideal S1024x1024 .bf16} {x : FVec Ideal S8192x1024 .f32} {g : FVec Ideal S4x1x1024 .f32}

/-- The call's arrays are the reference's results. -/
theorem meetRes (ea : a = A m c) (ew : w = W m c) (ex : x = R m c) (eg : g = G m c) :
    outRes a w x g = (Cert.Kernel17Ideal.Gen.dats m 0 c).arrAt 4 Cert.Kernel17Ideal.cfg0.N := by
  subst ea ew ex eg
  refine Eq.trans (funext fun i => ?_) (array4 m c).symm
  rw [eq_ix2 i]
  exact outRes_apply _ _ _ _ _ _
theorem meetDot (ea : a = A m c) (ew : w = W m c) : outDot a w = (Cert.Kernel17Ideal.Gen.dats m 0 c).arrAt 5 Cert.Kernel17Ideal.cfg0.N := by
  subst ea ew
  refine Eq.trans (funext fun i => ?_) (array5 m c).symm
  rw [eq_ix2 i]
  exact outDot_apply _ _ _ _

end Cert.MergeOutFwd
end
-- ==== Proof.Rest.NormReal.lean ====
/-
  The gradient of an RMS norm's row in the two forms the programs compute, equal on infinite rows too, and sums taken tile by tile.
-/
module

public import proofs.«01_k».proof.Proof.Gmlp.Spec

@[expose] public section

noncomputable section
namespace Cert.NormReal
open Idealize.ShloMosaic Cert.Gmlp

/-! ## The row -/

/-- A row's mean square with the norm's epsilon; one over its root. -/
def spread (x : Fin 1024 → EReal) : EReal := Ideal.div (∑ d : Fin 1024, x d * x d) (Ideal.ofBits .f32 0x44800000#32) + Ideal.ofBits .f32 0x358637BD#32
def rms (x : Fin 1024 → EReal) : EReal := Ideal.rsqrt (spread x)

/-- The gradient at row `x` of incoming gradient `e`, as the call computes it. -/
def callDx (x e : Fin 1024 → EReal) (n : Fin 1024) : EReal :=
  rms x * (e n - x n * rms x * Ideal.div (∑ d : Fin 1024, e d * (x d * rms x)) (Ideal.ofBits .f32 0x44800000#32))

/-- What the reference sends back through the mean square. -/
def pull (x e : Fin 1024 → EReal) : EReal :=
  Ideal.div ((∑ d : Fin 1024, x d * e d) * (Ideal.ofBits .f32 0xBF000000#32 * Ideal.div (rms x) (spread x))) (Ideal.ofBits .f32 0x44800000#32)

/-- The gradient as the reference computes it. -/
def pullDx (x e : Fin 1024 → EReal) (n : Fin 1024) : EReal := e n * rms x + x n * pull x e + pull x e * x n

theorem word_1024 : Ideal.ofBits .f32 0x44800000#32 = ((1024 : ℝ) : EReal) := by
  simp [Ideal.ofBits, Ideal.ieee, -EReal.coe_mul]; norm_num
theorem word_neg : Ideal.ofBits .f32 0xBF000000#32 = ((-(1 / 2) : ℝ) : EReal) := by
  simp [Ideal.ofBits, Ideal.ieee, -EReal.coe_mul]; norm_num

def rSpread (x : Fin 1024 → ℝ) : ℝ := (∑ d : Fin 1024, x d * x d) / 1024 + rEps

theorem rSpread_pos (x : Fin 1024 → ℝ) : 0 < rSpread x := by
  have h : 0 ≤ (∑ d : Fin 1024, x d * x d) / 1024 := div_nonneg (Finset.sum_nonneg fun d _ => mul_self_nonneg _) (by norm_num)
  have e : 0 < rEps := by unfold rEps; norm_num
  unfold rSpread
  linarith

theorem spread_coe (x : Fin 1024 → ℝ) : spread (fun d => (x d : EReal)) = ((rSpread x : ℝ) : EReal) := by
  unfold spread rSpread
  simp only [← EReal.coe_mul, ← coe_sum, word_1024, word_eps]
  rw [div_coe _ _ (by norm_num), ← EReal.coe_add]
theorem rms_coe (x : Fin 1024 → ℝ) : rms (fun d => (x d : EReal)) = (((√(rSpread x))⁻¹ : ℝ) : EReal) := by
  unfold rms
  rw [spread_coe, rsqrt_coe _ (rSpread_pos x)]

theorem square_nonneg (x : EReal) : 0 ≤ x * x := by
  induction x with
  | bot => simp
  | top => simp
  | coe v => rw [← EReal.coe_mul]; exact_mod_cast mul_self_nonneg v

theorem div_real (x : EReal) (y : ℝ) (h : y ≠ 0) : Ideal.div x (y : EReal) = x * ((y⁻¹ : ℝ) : EReal) := by
  unfold Ideal.div
  rw [if_neg (by exact_mod_cast h), EReal.coe_inv]

/-- A row that holds an infinity has an infinite mean square. -/
theorem spread_top {x : Fin 1024 → EReal} {d : Fin 1024} (h : x d * x d = ⊤) : spread x = ⊤ := by
  have hs : (∑ d : Fin 1024, x d * x d) = ⊤ := by
    rw [← Finset.add_sum_erase Finset.univ (fun d => x d * x d) (Finset.mem_univ d), h]
    exact EReal.top_add_of_ne_bot (ne_bot_of_le_ne_bot EReal.zero_ne_bot (Finset.sum_nonneg fun d _ => square_nonneg (x d)))
  unfold spread
  rw [hs, word_1024, div_real _ _ (by norm_num), word_eps, EReal.top_mul_coe_of_pos (by norm_num)]
  exact EReal.top_add_coe _

theorem scale_sum {ι : Type} (s : Finset ι) (f : ι → EReal) (r : ℝ) (h : 0 ≤ r) : ∑ i ∈ s, (r : EReal) * f i = (r : EReal) * ∑ i ∈ s, f i := by
  classical
  induction s using Finset.induction_on with
  | empty => simp
  | insert a s ha ih =>
    rw [Finset.sum_insert ha, Finset.sum_insert ha, ih,
      EReal.left_distrib_of_nonneg_of_ne_top (by exact_mod_cast h) (EReal.coe_ne_top r)]

theorem twice (u : EReal) : u + u = u * ((2 : ℝ) : EReal) := by
  have h := EReal.left_distrib_of_nonneg (a := 1) (b := 1) (c := u) zero_le_one zero_le_one
  rw [mul_one] at h
  rw [← h, ← EReal.coe_one, ← EReal.coe_add]
  norm_num

/-- The two gradients are equal. -/
theorem dx_all (x e : Fin 1024 → EReal) (n : Fin 1024) : pullDx x e n = callDx x e n := by
  by_cases hx : ∀ d, ∃ v : ℝ, x d = (v : EReal)
  · choose x' hx using hx
    obtain rfl : x = fun d => (x' d : EReal) := funext hx
    have hp := rSpread_pos x'
    have hs : 0 < √(rSpread x') := Real.sqrt_pos.mpr hp
    have hq : √(rSpread x') * √(rSpread x') = rSpread x' := Real.mul_self_sqrt hp.le
    unfold pullDx callDx pull
    rw [rms_coe, spread_coe, word_1024, word_neg, div_coe _ _ hp.ne']
    have ha : ∑ d : Fin 1024, e d * ((x' d : EReal) * (((√(rSpread x'))⁻¹ : ℝ) : EReal)) = (((√(rSpread x'))⁻¹ : ℝ) : EReal) * ∑ d : Fin 1024, (x' d : EReal) * e d := by
      rw [← scale_sum _ _ _ (inv_nonneg.mpr hs.le)]
      exact Finset.sum_congr rfl fun d _ => by ac_rfl
    rw [ha, div_real _ _ (by norm_num), div_real _ _ (by norm_num)]
    generalize (∑ d : Fin 1024, (x' d : EReal) * e d) = s
    generalize √(rSpread x') = v at hs hq ⊢
    rw [← hq, sub_eq_add_neg, EReal.left_distrib_of_nonneg_of_ne_top (by exact_mod_cast inv_nonneg.mpr hs.le) (EReal.coe_ne_top _),
      add_assoc, mul_comm (e n)]
    congr 1
    rw [mul_comm _ ((x' n : EReal)), twice]
    have hl : (x' n : EReal) * (s * (((-(1 / 2) : ℝ) : EReal) * ((v⁻¹ / (v * v) : ℝ) : EReal)) * ((1024⁻¹ : ℝ) : EReal)) * ((2 : ℝ) : EReal)
        = s * ((x' n * (-(1 / 2) * (v⁻¹ / (v * v))) * 1024⁻¹ * 2 : ℝ) : EReal) := by
      simp only [EReal.coe_mul]; ac_rfl
    have hr : ((v⁻¹ : ℝ) : EReal) * -((x' n : EReal) * ((v⁻¹ : ℝ) : EReal) * (((v⁻¹ : ℝ) : EReal) * s * ((1024⁻¹ : ℝ) : EReal)))
        = s * ((v⁻¹ * (x' n * v⁻¹) * (v⁻¹ * 1024⁻¹) * (-1) : ℝ) : EReal) := by
      rw [← mul_one ((x' n : EReal) * _ * _), ← mul_neg, ← EReal.coe_one, ← EReal.coe_neg]
      simp only [EReal.coe_mul]; ac_rfl
    rw [hl, hr]
    congr 2
    field_simp
    try ring
  · obtain ⟨d, hd⟩ := not_forall.mp hx
    rw [not_exists] at hd
    have ht : spread x = ⊤ := spread_top (d := d) (by
      generalize x d = u at hd
      induction u with
      | bot => simp
      | top => simp
      | coe v => exact absurd rfl (hd v))
    have hr : rms x = 0 := by unfold rms; rw [ht]; rfl
    have hz : pull x e = 0 := by
      unfold pull
      rw [hr, ht, show Ideal.div 0 ⊤ = 0 from by unfold Ideal.div; simp, mul_zero, mul_zero, word_1024, div_real _ _ (by norm_num), zero_mul]
    unfold pullDx callDx
    rw [hz, hr]
    simp

/-! ## Sums by tiles -/

/-- Row `n` of 2048; sequence `n` of 4. -/
def row (n : ℕ) : Fin 2048 := ⟨n % 2048, Nat.mod_lt _ (by decide)⟩
def seq (n : ℕ) : Fin 4 := ⟨n % 4, Nat.mod_lt _ (by decide)⟩

/-- What four tiles of 512 rows sum to. -/
theorem tiles (f : Fin 2048 → EReal) : ∑ q ∈ Finset.range 4, ∑ r : Fin 512, f (row (512 * q + r.val)) = ∑ r : Fin 2048, f r := by
  rw [Finset.sum_range]
  refine (Finset.sum_congr (M := EReal) rfl fun q _ => Finset.sum_congr rfl fun r _ => ?_).trans
    (Fin.sum_univ_tiles 4 512 (by decide : 4 * 512 = 2048) f).symm
  exact congrArg f (Fin.ext (by show (512 * q.val + r.val) % 2048 = q.val * 512 + r.val; omega))

/-- An accumulator set at every fourth point and added to at the others. -/
theorem runs {N : ℕ} (a : ∀ t, t < N → EReal) (T : ℕ → ℕ → EReal)
    (first : ∀ t (ht : t < N), t % 4 = 0 → a t ht = 0 + T (t / 4) (t % 4))
    (next : ∀ t (ht : t < N), ¬t % 4 = 0 → a t ht = a (t - 1) (Nat.lt_of_le_of_lt (Nat.sub_le _ _) ht) + T (t / 4) (t % 4)) :
    ∀ (t : ℕ) (ht : t < N), a t ht = ∑ q ∈ Finset.range (t % 4 + 1), T (t / 4) q
  | t, ht => by
    by_cases h0 : t % 4 = 0
    · rw [first t ht h0, h0, zero_add]
      exact (Finset.sum_range_one (M := EReal) fun q => T (t / 4) q).symm
    · rw [next t ht h0, runs a T first next (t - 1) (Nat.lt_of_le_of_lt (Nat.sub_le _ _) ht), show (t - 1) / 4 = t / 4 by omega,
        show (t - 1) % 4 + 1 = t % 4 by omega, Finset.sum_range_succ]

/-- … holds at a run's last point the sum over all the rows. -/
theorem runs_last {N : ℕ} (a : ∀ t, t < N → EReal) (f : ℕ → Fin 2048 → EReal)
    (first : ∀ t (ht : t < N), t % 4 = 0 → a t ht = 0 + ∑ r : Fin 512, f (t / 4) (row (512 * (t % 4) + r.val)))
    (next : ∀ t (ht : t < N), ¬t % 4 = 0 → a t ht = a (t - 1) (Nat.lt_of_le_of_lt (Nat.sub_le _ _) ht) + ∑ r : Fin 512, f (t / 4) (row (512 * (t % 4) + r.val)))
    (t : ℕ) (ht : t < N) (h3 : t % 4 = 3) : a t ht = ∑ r : Fin 2048, f (t / 4) r :=
  (runs a (fun b q => ∑ r : Fin 512, f b (row (512 * q + r.val))) first next t ht).trans (by rw [h3]; exact tiles (f (t / 4)))

end Cert.NormReal
end
-- ==== Proof.Rest.NormBwd.lean ====
/-
  The gradient of the modulated RMS norm that a gate precedes: what every point leaves in its results' buffers, the sums
  they run to, the arrays they fill, and the reference's results.
-/
module

public import proofs.«01_k».proof.Defs
public import proofs.«01_k».proof.Proof.Gen.Kernel18Ideal.Value
public import proofs.«01_k».proof.Proof.Gen.Reference18Ideal.Run
public import proofs.«01_k».proof.Proof.Rest.NormReal
public import Idealize.ShloMosaic.Lib.Claim
public import Idealize.ShloMosaic.Lib.Pipeline.ValueKit

@[expose] public section
set_option maxRecDepth 16384

noncomputable section
namespace Cert.NormBwd
open Idealize.ShloMosaic Idealize.ShloMosaic.TcCoe Idealize.ShloMosaic.Tactic
open Cert.NormReal
open Cert.Kernel18Ideal Cert.Kernel18Ideal.Gen

theorem zeros : (![0, 0] : Fin 2 → Nat) = fun _ => 0 := funext fun a => by fin_cases a <;> rfl
theorem zeros3 : (![0, 0, 0] : Fin 3 → Nat) = fun _ => 0 := funext fun a => by fin_cases a <;> rfl

section Run
variable {F : FTy → Type} [FloatOps F]

/-- A tile's gradient, with the residual's. -/
abbrev grad (x0 x1 x2 : Vec F S1x512x1024 .f32) (x3 : Vec F S1x1024 .f32) (x4 : Vec F S1x1x1024 .f32) : FVec F S512x1024 .f32 :=
  k0_pay16 (k0_pay9 x1) x3 (k0_pay10 x4) (k0_pay11 x0) (k0_pay12 x0) x2

variable (c : Dev nD) (i : grid0.Coords)
  (a2 : Memref sig .tc .vmem S1x512x1024 .f32) (h2 : a2.IsWhole) (a3 : Memref sig .tc .vmem S1x512x1024 .f32) (h3 : a3.IsWhole) (a4 : Memref sig .tc .vmem S1x512x1024 .f32) (h4 : a4.IsWhole) (a5 : Memref sig .tc .vmem S1x1024 .f32) (h5 : a5.IsWhole) (a6 : Memref sig .tc .vmem S1x1x1024 .f32) (h6 : a6.IsWhole) (a7 : Memref sig .tc .vmem S1x512x1024 .bf16) (h7 : a7.IsWhole) (a8 : Memref sig .tc .vmem S1x1x1024 .f32) (h8 : a8.IsWhole) (a9 : Memref sig .tc .vmem S1x512x1024 .f32) (h9 : a9.IsWhole) (a10 : Memref sig .tc .vmem S1x1x1024 .f32) (h10 : a10.IsWhole) (a11 : Memref sig .tc .vmem S1x1x1024 .f32) (h11 : a11.IsWhole) (a12 : Memref sig .tc .vmem S1x1x1024 .f32) (h12 : a12.IsWhole) (a13 : Memref sig .tc .vmem S1x512x1024 .bf16) (h13 : a13.IsWhole) (a14 : Memref sig .tc .vmem S1x1x1024 .f32) (h14 : a14.IsWhole)
  (x0 : Vec F S1x512x1024 .f32) (x1 : Vec F S1x512x1024 .f32) (x2 : Vec F S1x512x1024 .f32) (x3 : Vec F S1x1024 .f32) (x4 : Vec F S1x1x1024 .f32) (x5 : Vec F S1x512x1024 .bf16) (x6 : Vec F S1x1x1024 .f32)
theorem out_A_7 (c0 : cond0_0 i) (c1 : cond0_1 i) : out0_A_7 c i a2 h2 a3 h3 a4 h4 a5 h5 a6 h6 a7 h7 a8 h8 a9 h9 a10 h10 a11 h11 a12 h12 a13 h13 a14 h14 c0 c1 x0 x1 x2 x3 x4 x5 x6 = k0_pay1 (grad x0 x1 x2 x3 x4) := by
  unfold out0_A_7
  rw [View.read_writes_eq_canon _ _ _ (cover0_A_7 c i a2 h2 a3 h3 a4 h4 a5 h5 a6 h6 a7 h7 a8 h8 a9 h9 a10 h10 a11 h11 a12 h12 a13 h13 a14 h14 c0 c1 x0 x1 x2 x3 x4 x5 x6)]
  unfold kernelRun0_A
  dsimp only
  sl_unfold_words
  rw [View.canon_unit_zero zeros3]
  simp only [View.readAt_eq_ld, h2.read_unread, h3.read_unread, h4.read_unread, h5.read_unread, h6.read_unread, h7.read_unread, h8.read_unread, h9.read_unread, h10.read_unread, h11.read_unread, h12.read_unread, h13.read_unread, h14.read_unread, View.ld_unit_zero (S := S1x512x1024) zeros3, View.ld_unit_zero (S := S1x1x1024) zeros3, View.ld_unit_zero (S := S1x1024) zeros]
theorem out_A_8 (c0 : cond0_0 i) (c1 : cond0_1 i) : out0_A_8 c i a2 h2 a3 h3 a4 h4 a5 h5 a6 h6 a7 h7 a8 h8 a9 h9 a10 h10 a11 h11 a12 h12 a13 h13 a14 h14 c0 c1 x0 x1 x2 x3 x4 x5 x6 = k0_pay13 x1 (k0_pay5 (F := F)) := by
  unfold out0_A_8
  rw [View.read_writes_eq_canon _ _ _ (cover0_A_8 c i a2 h2 a3 h3 a4 h4 a5 h5 a6 h6 a7 h7 a8 h8 a9 h9 a10 h10 a11 h11 a12 h12 a13 h13 a14 h14 c0 c1 x0 x1 x2 x3 x4 x5 x6)]
  unfold kernelRun0_A
  dsimp only
  sl_unfold_words
  rw [View.canon_cons_unit_zero (S := S1x1x1024) zeros3]
  simp only [View.readCov_unit_zero (S := S1x1x1024) _ zeros3]
  simp only [View.readAt_eq_ld, h2.read_unread, h3.read_unread, h4.read_unread, h5.read_unread, h6.read_unread, h7.read_unread, h8.read_unread, h9.read_unread, h10.read_unread, h11.read_unread, h12.read_unread, h13.read_unread, h14.read_unread, View.ld_unit_zero (S := S1x512x1024) zeros3, View.ld_unit_zero (S := S1x1x1024) zeros3, View.ld_unit_zero (S := S1x1024) zeros]
theorem out_A_9 (c0 : cond0_0 i) (c1 : cond0_1 i) : out0_A_9 c i a2 h2 a3 h3 a4 h4 a5 h5 a6 h6 a7 h7 a8 h8 a9 h9 a10 h10 a11 h11 a12 h12 a13 h13 a14 h14 c0 c1 x0 x1 x2 x3 x4 x5 x6 = k0_pay14 (k0_pay9 x1) x3 (k0_pay12 x0) (k0_pay6 (F := F)) := by
  unfold out0_A_9
  rw [View.read_writes_eq_canon _ _ _ (cover0_A_9 c i a2 h2 a3 h3 a4 h4 a5 h5 a6 h6 a7 h7 a8 h8 a9 h9 a10 h10 a11 h11 a12 h12 a13 h13 a14 h14 c0 c1 x0 x1 x2 x3 x4 x5 x6)]
  unfold kernelRun0_A
  dsimp only
  sl_unfold_words
  rw [View.canon_cons_unit_zero (S := S1x1x1024) zeros3]
  simp only [View.readCov_unit_zero (S := S1x1x1024) _ zeros3]
  simp only [View.readAt_eq_ld, h2.read_unread, h3.read_unread, h4.read_unread, h5.read_unread, h6.read_unread, h7.read_unread, h8.read_unread, h9.read_unread, h10.read_unread, h11.read_unread, h12.read_unread, h13.read_unread, h14.read_unread, View.ld_unit_zero (S := S1x512x1024) zeros3, View.ld_unit_zero (S := S1x1x1024) zeros3, View.ld_unit_zero (S := S1x1024) zeros]
theorem out_A_10 (c0 : cond0_0 i) (c1 : cond0_1 i) : out0_A_10 c i a2 h2 a3 h3 a4 h4 a5 h5 a6 h6 a7 h7 a8 h8 a9 h9 a10 h10 a11 h11 a12 h12 a13 h13 a14 h14 c0 c1 x0 x1 x2 x3 x4 x5 x6 = k0_pay15 (k0_pay9 x1) (k0_pay10 x4) (k0_pay12 x0) (k0_pay7 (F := F)) := by
  unfold out0_A_10
  rw [View.read_writes_eq_canon _ _ _ (cover0_A_10 c i a2 h2 a3 h3 a4 h4 a5 h5 a6 h6 a7 h7 a8 h8 a9 h9 a10 h10 a11 h11 a12 h12 a13 h13 a14 h14 c0 c1 x0 x1 x2 x3 x4 x5 x6)]
  unfold kernelRun0_A
  dsimp only
  sl_unfold_words
  rw [View.canon_cons_unit_zero (S := S1x1x1024) zeros3]
  simp only [View.readCov_unit_zero (S := S1x1x1024) _ zeros3]
  simp only [View.readAt_eq_ld, h2.read_unread, h3.read_unread, h4.read_unread, h5.read_unread, h6.read_unread, h7.read_unread, h8.read_unread, h9.read_unread, h10.read_unread, h11.read_unread, h12.read_unread, h13.read_unread, h14.read_unread, View.ld_unit_zero (S := S1x512x1024) zeros3, View.ld_unit_zero (S := S1x1x1024) zeros3, View.ld_unit_zero (S := S1x1024) zeros]
theorem out_A_12 (c0 : cond0_0 i) (c1 : cond0_1 i) : out0_A_12 c i a2 h2 a3 h3 a4 h4 a5 h5 a6 h6 a7 h7 a8 h8 a9 h9 a10 h10 a11 h11 a12 h12 a13 h13 a14 h14 c0 c1 x0 x1 x2 x3 x4 x5 x6 = k0_pay4 (grad x0 x1 x2 x3 x4) (k0_pay2 (F := F)) x5 := by
  unfold out0_A_12
  rw [View.read_writes_eq_canon _ _ _ (cover0_A_12 c i a2 h2 a3 h3 a4 h4 a5 h5 a6 h6 a7 h7 a8 h8 a9 h9 a10 h10 a11 h11 a12 h12 a13 h13 a14 h14 c0 c1 x0 x1 x2 x3 x4 x5 x6)]
  unfold kernelRun0_A
  dsimp only
  sl_unfold_words
  rw [View.canon_cons_unit_zero (S := S1x1x1024) zeros3]
  simp only [View.readCov_unit_zero (S := S1x1x1024) _ zeros3]
  simp only [View.readAt_eq_ld, h2.read_unread, h3.read_unread, h4.read_unread, h5.read_unread, h6.read_unread, h7.read_unread, h8.read_unread, h9.read_unread, h10.read_unread, h11.read_unread, h12.read_unread, h13.read_unread, h14.read_unread, View.ld_unit_zero (S := S1x512x1024) zeros3, View.ld_unit_zero (S := S1x1x1024) zeros3, View.ld_unit_zero (S := S1x1024) zeros]
theorem out_A_11 (c0 : cond0_0 i) (c1 : cond0_1 i) : out0_A_11 c i a2 h2 a3 h3 a4 h4 a5 h5 a6 h6 a7 h7 a8 h8 a9 h9 a10 h10 a11 h11 a12 h12 a13 h13 a14 h14 c0 c1 x0 x1 x2 x3 x4 x5 x6 = k0_pay3 (grad x0 x1 x2 x3 x4) x6 := by
  unfold out0_A_11
  rw [View.read_writes_eq_canon _ _ _ (cover0_A_11 c i a2 h2 a3 h3 a4 h4 a5 h5 a6 h6 a7 h7 a8 h8 a9 h9 a10 h10 a11 h11 a12 h12 a13 h13 a14 h14 c0 c1 x0 x1 x2 x3 x4 x5 x6)]
  unfold kernelRun0_A
  dsimp only
  sl_unfold_words
  rw [View.canon_unit_zero zeros3]
  simp only [View.readAt_eq_ld, h2.read_unread, h3.read_unread, h4.read_unread, h5.read_unread, h6.read_unread, h7.read_unread, h8.read_unread, h9.read_unread, h10.read_unread, h11.read_unread, h12.read_unread, h13.read_unread, h14.read_unread, View.ld_unit_zero (S := S1x512x1024) zeros3, View.ld_unit_zero (S := S1x1x1024) zeros3, View.ld_unit_zero (S := S1x1024) zeros]
theorem out_B_7 (c0 : ¬cond0_0 i) (c1 : ¬cond0_1 i) (o8 : Vec F S1x1x1024 .f32) (o9 : Vec F S1x1x1024 .f32) (o10 : Vec F S1x1x1024 .f32) (o12 : Vec F S1x1x1024 .f32) : out0_B_7 c i a2 h2 a3 h3 a4 h4 a5 h5 a6 h6 a7 h7 a8 h8 a9 h9 a10 h10 a11 h11 a12 h12 a13 h13 a14 h14 c0 c1 x0 x1 x2 x3 x4 x5 x6 o8 o9 o10 o12 = k0_pay1 (grad x0 x1 x2 x3 x4) := by
  unfold out0_B_7
  rw [View.read_writes_eq_canon _ _ _ (cover0_B_7 c i a2 h2 a3 h3 a4 h4 a5 h5 a6 h6 a7 h7 a8 h8 a9 h9 a10 h10 a11 h11 a12 h12 a13 h13 a14 h14 c0 c1 x0 x1 x2 x3 x4 x5 x6 o8 o9 o10 o12)]
  unfold kernelRun0_B
  dsimp only
  sl_unfold_words
  rw [View.canon_unit_zero zeros3]
  simp only [View.readAt_eq_ld, h2.read_unread, h3.read_unread, h4.read_unread, h5.read_unread, h6.read_unread, h7.read_unread, h8.read_unread, h9.read_unread, h10.read_unread, h11.read_unread, h12.read_unread, h13.read_unread, h14.read_unread, View.ld_unit_zero (S := S1x512x1024) zeros3, View.ld_unit_zero (S := S1x1x1024) zeros3, View.ld_unit_zero (S := S1x1024) zeros]
theorem out_B_8 (c0 : ¬cond0_0 i) (c1 : ¬cond0_1 i) (o8 : Vec F S1x1x1024 .f32) (o9 : Vec F S1x1x1024 .f32) (o10 : Vec F S1x1x1024 .f32) (o12 : Vec F S1x1x1024 .f32) : out0_B_8 c i a2 h2 a3 h3 a4 h4 a5 h5 a6 h6 a7 h7 a8 h8 a9 h9 a10 h10 a11 h11 a12 h12 a13 h13 a14 h14 c0 c1 x0 x1 x2 x3 x4 x5 x6 o8 o9 o10 o12 = k0_pay13 x1 o8 := by
  unfold out0_B_8
  rw [View.read_writes_eq_canon _ _ _ (cover0_B_8 c i a2 h2 a3 h3 a4 h4 a5 h5 a6 h6 a7 h7 a8 h8 a9 h9 a10 h10 a11 h11 a12 h12 a13 h13 a14 h14 c0 c1 x0 x1 x2 x3 x4 x5 x6 o8 o9 o10 o12)]
  unfold kernelRun0_B
  dsimp only
  sl_unfold_words
  rw [View.canon_unit_zero zeros3]
  simp only [View.readAt_eq_ld, h2.read_unread, h3.read_unread, h4.read_unread, h5.read_unread, h6.read_unread, h7.read_unread, h8.read_unread, h9.read_unread, h10.read_unread, h11.read_unread, h12.read_unread, h13.read_unread, h14.read_unread, View.ld_unit_zero (S := S1x512x1024) zeros3, View.ld_unit_zero (S := S1x1x1024) zeros3, View.ld_unit_zero (S := S1x1024) zeros]
theorem out_B_9 (c0 : ¬cond0_0 i) (c1 : ¬cond0_1 i) (o8 : Vec F S1x1x1024 .f32) (o9 : Vec F S1x1x1024 .f32) (o10 : Vec F S1x1x1024 .f32) (o12 : Vec F S1x1x1024 .f32) : out0_B_9 c i a2 h2 a3 h3 a4 h4 a5 h5 a6 h6 a7 h7 a8 h8 a9 h9 a10 h10 a11 h11 a12 h12 a13 h13 a14 h14 c0 c1 x0 x1 x2 x3 x4 x5 x6 o8 o9 o10 o12 = k0_pay14 (k0_pay9 x1) x3 (k0_pay12 x0) o9 := by
  unfold out0_B_9
  rw [View.read_writes_eq_canon _ _ _ (cover0_B_9 c i a2 h2 a3 h3 a4 h4 a5 h5 a6 h6 a7 h7 a8 h8 a9 h9 a10 h10 a11 h11 a12 h12 a13 h13 a14 h14 c0 c1 x0 x1 x2 x3 x4 x5 x6 o8 o9 o10 o12)]
  unfold kernelRun0_B
  dsimp only
  sl_unfold_words
  rw [View.canon_unit_zero zeros3]
  simp only [View.readAt_eq_ld, h2.read_unread, h3.read_unread, h4.read_unread, h5.read_unread, h6.read_unread, h7.read_unread, h8.read_unread, h9.read_unread, h10.read_unread, h11.read_unread, h12.read_unread, h13.read_unread, h14.read_unread, View.ld_unit_zero (S := S1x512x1024) zeros3, View.ld_unit_zero (S := S1x1x1024) zeros3, View.ld_unit_zero (S := S1x1024) zeros]
theorem out_B_10 (c0 : ¬cond0_0 i) (c1 : ¬cond0_1 i) (o8 : Vec F S1x1x1024 .f32) (o9 : Vec F S1x1x1024 .f32) (o10 : Vec F S1x1x1024 .f32) (o12 : Vec F S1x1x1024 .f32) : out0_B_10 c i a2 h2 a3 h3 a4 h4 a5 h5 a6 h6 a7 h7 a8 h8 a9 h9 a10 h10 a11 h11 a12 h12 a13 h13 a14 h14 c0 c1 x0 x1 x2 x3 x4 x5 x6 o8 o9 o10 o12 = k0_pay15 (k0_pay9 x1) (k0_pay10 x4) (k0_pay12 x0) o10 := by
  unfold out0_B_10
  rw [View.read_writes_eq_canon _ _ _ (cover0_B_10 c i a2 h2 a3 h3 a4 h4 a5 h5 a6 h6 a7 h7 a8 h8 a9 h9 a10 h10 a11 h11 a12 h12 a13 h13 a14 h14 c0 c1 x0 x1 x2 x3 x4 x5 x6 o8 o9 o10 o12)]
  unfold kernelRun0_B
  dsimp only
  sl_unfold_words
  rw [View.canon_unit_zero zeros3]
  simp only [View.readAt_eq_ld, h2.read_unread, h3.read_unread, h4.read_unread, h5.read_unread, h6.read_unread, h7.read_unread, h8.read_unread, h9.read_unread, h10.read_unread, h11.read_unread, h12.read_unread, h13.read_unread, h14.read_unread, View.ld_unit_zero (S := S1x512x1024) zeros3, View.ld_unit_zero (S := S1x1x1024) zeros3, View.ld_unit_zero (S := S1x1024) zeros]
theorem out_B_12 (c0 : ¬cond0_0 i) (c1 : ¬cond0_1 i) (o8 : Vec F S1x1x1024 .f32) (o9 : Vec F S1x1x1024 .f32) (o10 : Vec F S1x1x1024 .f32) (o12 : Vec F S1x1x1024 .f32) : out0_B_12 c i a2 h2 a3 h3 a4 h4 a5 h5 a6 h6 a7 h7 a8 h8 a9 h9 a10 h10 a11 h11 a12 h12 a13 h13 a14 h14 c0 c1 x0 x1 x2 x3 x4 x5 x6 o8 o9 o10 o12 = k0_pay4 (grad x0 x1 x2 x3 x4) o12 x5 := by
  unfold out0_B_12
  rw [View.read_writes_eq_canon _ _ _ (cover0_B_12 c i a2 h2 a3 h3 a4 h4 a5 h5 a6 h6 a7 h7 a8 h8 a9 h9 a10 h10 a11 h11 a12 h12 a13 h13 a14 h14 c0 c1 x0 x1 x2 x3 x4 x5 x6 o8 o9 o10 o12)]
  unfold kernelRun0_B
  dsimp only
  sl_unfold_words
  rw [View.canon_unit_zero zeros3]
  simp only [View.readAt_eq_ld, h2.read_unread, h3.read_unread, h4.read_unread, h5.read_unread, h6.read_unread, h7.read_unread, h8.read_unread, h9.read_unread, h10.read_unread, h11.read_unread, h12.read_unread, h13.read_unread, h14.read_unread, View.ld_unit_zero (S := S1x512x1024) zeros3, View.ld_unit_zero (S := S1x1x1024) zeros3, View.ld_unit_zero (S := S1x1024) zeros]
theorem out_B_11 (c0 : ¬cond0_0 i) (c1 : ¬cond0_1 i) (o8 : Vec F S1x1x1024 .f32) (o9 : Vec F S1x1x1024 .f32) (o10 : Vec F S1x1x1024 .f32) (o12 : Vec F S1x1x1024 .f32) : out0_B_11 c i a2 h2 a3 h3 a4 h4 a5 h5 a6 h6 a7 h7 a8 h8 a9 h9 a10 h10 a11 h11 a12 h12 a13 h13 a14 h14 c0 c1 x0 x1 x2 x3 x4 x5 x6 o8 o9 o10 o12 = k0_pay3 (grad x0 x1 x2 x3 x4) x6 := by
  unfold out0_B_11
  rw [View.read_writes_eq_canon _ _ _ (cover0_B_11 c i a2 h2 a3 h3 a4 h4 a5 h5 a6 h6 a7 h7 a8 h8 a9 h9 a10 h10 a11 h11 a12 h12 a13 h13 a14 h14 c0 c1 x0 x1 x2 x3 x4 x5 x6 o8 o9 o10 o12)]
  unfold kernelRun0_B
  dsimp only
  sl_unfold_words
  rw [View.canon_unit_zero zeros3]
  simp only [View.readAt_eq_ld, h2.read_unread, h3.read_unread, h4.read_unread, h5.read_unread, h6.read_unread, h7.read_unread, h8.read_unread, h9.read_unread, h10.read_unread, h11.read_unread, h12.read_unread, h13.read_unread, h14.read_unread, View.ld_unit_zero (S := S1x512x1024) zeros3, View.ld_unit_zero (S := S1x1x1024) zeros3, View.ld_unit_zero (S := S1x1024) zeros]
end Run

/-! ## Over the extended reals -/

section Apply
variable (x0 x1 x2 : Vec Ideal S1x512x1024 .f32) (x3 : Vec Ideal S1x1024 .f32) (x4 : Vec Ideal S1x1x1024 .f32) (x5 : Vec Ideal S1x512x1024 .bf16) (x6 : Vec Ideal S1x1x1024 .f32) (o : Vec Ideal S1x1x1024 .f32)

theorem norm_apply (p : Fin 512) (n : Fin 1024) : k0_pay12 (F := Ideal) x0 (ix2 p n) = x0 (ix3 0 p n) * rms (fun d => x0 (ix3 0 p d)) := by
  unfold rms spread
  pointwise [k0_pay12, k0_pay11, k0_pay8]
theorem root_apply (p : Fin 512) : k0_pay11 (F := Ideal) x0 (ix2 p 0) = rms (fun d => x0 (ix3 0 p d)) := by
  unfold rms spread
  pointwise [k0_pay11, k0_pay8]
theorem tile_apply (p : Fin 512) (n : Fin 1024) : k0_pay9 (F := Ideal) x1 (ix2 p n) = x1 (ix3 0 p n) := by
  pointwise [k0_pay9]
theorem scale_apply (n : Fin 1024) : k0_pay10 (F := Ideal) x4 (ix2 0 n) = 1 + x4 (ix3 0 0 n) := by
  pointwise [k0_pay10]
theorem grad_apply (p : Fin 512) (n : Fin 1024) :
    grad (F := Ideal) x0 x1 x2 x3 x4 (ix2 p n)
      = x2 (ix3 0 p n) + callDx (fun d => x0 (ix3 0 p d)) (fun d => x1 (ix3 0 p d) * (x3 (ix2 0 d) * (1 + x4 (ix3 0 0 d)))) n := by
  unfold callDx
  pointwise [grad, k0_pay16, norm_apply, root_apply, tile_apply, scale_apply]
theorem zero_8 (n : Fin 1024) : k0_pay5 (F := Ideal) (ix3 0 0 n) = 0 := by
  pointwise [k0_pay5]
theorem zero_9 (n : Fin 1024) : k0_pay6 (F := Ideal) (ix3 0 0 n) = 0 := by
  pointwise [k0_pay6]
theorem zero_10 (n : Fin 1024) : k0_pay7 (F := Ideal) (ix3 0 0 n) = 0 := by
  pointwise [k0_pay7]
theorem store_apply (v : FVec Ideal S512x1024 .f32) (p : Fin 512) (n : Fin 1024) : k0_pay1 (F := Ideal) v (ix3 0 p n) = v (ix2 p n) := by
  pointwise [k0_pay1]
theorem more_8 (n : Fin 1024) : k0_pay13 (F := Ideal) x1 o (ix3 0 0 n) = o (ix3 0 0 n) + ∑ p : Fin 512, x1 (ix3 0 p n) := by
  pointwise [k0_pay13, tile_apply]
theorem more_9 (n : Fin 1024) : k0_pay14 (F := Ideal) (k0_pay9 x1) x3 (k0_pay12 x0) o (ix3 0 0 n)
    = o (ix3 0 0 n) + ∑ p : Fin 512, x1 (ix3 0 p n) * (x0 (ix3 0 p n) * rms (fun d => x0 (ix3 0 p d)) * x3 (ix2 0 n)) := by
  pointwise [k0_pay14, tile_apply, norm_apply]
theorem more_10 (n : Fin 1024) : k0_pay15 (F := Ideal) (k0_pay9 x1) (k0_pay10 x4) (k0_pay12 x0) o (ix3 0 0 n)
    = o (ix3 0 0 n) + ∑ p : Fin 512, x1 (ix3 0 p n) * (1 + x4 (ix3 0 0 n)) * (x0 (ix3 0 p n) * rms (fun d => x0 (ix3 0 p d))) := by
  pointwise [k0_pay15, tile_apply, norm_apply, scale_apply]
theorem zero_12 (n : Fin 1024) : k0_pay2 (F := Ideal) (ix3 0 0 n) = 0 := by
  pointwise [k0_pay2]
theorem more_12 (v : FVec Ideal S512x1024 .f32) (n : Fin 1024) : k0_pay4 (F := Ideal) v o x5 (ix3 0 0 n)
    = o (ix3 0 0 n) + ∑ p : Fin 512, v (ix2 p n) * x5 (ix3 0 p n) := by
  pointwise [k0_pay4]
theorem gate_apply (v : FVec Ideal S512x1024 .f32) (p : Fin 512) (n : Fin 1024) : k0_pay3 (F := Ideal) v x6 (ix3 0 p n) = x6 (ix3 0 0 n) * v (ix2 p n) := by
  pointwise [k0_pay3]
end Apply

variable (m : (ℓ : Loc nD τ sig) → Buf (Elt Ideal) ℓ) (c : Dev nD)

/-- The arguments. -/
abbrev X : FVec Ideal S4x2048x1024 .f32 := m (c.tc.loc main_arg0)
abbrev DH : FVec Ideal S4x2048x1024 .f32 := m (c.tc.loc main_arg1)
abbrev DR : FVec Ideal S4x2048x1024 .f32 := m (c.tc.loc main_arg2)
abbrev GN : FVec Ideal S1x1024 .f32 := m (c.tc.loc main_arg3)
abbrev SC : FVec Ideal S4x1x1024 .f32 := m (c.tc.loc main_arg4)
abbrev Y : FVec Ideal S4x2048x1024 .bf16 := m (c.tc.loc main_arg5)
abbrev GT : FVec Ideal S4x1x1024 .f32 := m (c.tc.loc main_arg6)

theorem point_lt (t : Fin cfg0.N) : t.val < 16 := lt_of_lt_of_eq t.isLt (show cfg0.N = 16 from N_0)
theorem row_val (t : Fin cfg0.N) (p : Fin 512) : (row (512 * (t.val % 4) + p.val)).val = 512 * (t.val % 4) + p.val :=
  Nat.mod_eq_of_lt (by omega)
theorem seq_val (t : Fin cfg0.N) : (seq (t.val / 4)).val = t.val / 4 :=
  Nat.mod_eq_of_lt (by have := point_lt t; omega)

theorem index0 : ∀ t : Fin cfg0.N, win0_0.index t = ![t.val / 4, t.val % 4, 0] := by decide +kernel
theorem index1 : ∀ t : Fin cfg0.N, win0_1.index t = ![t.val / 4, t.val % 4, 0] := by decide +kernel
theorem index2 : ∀ t : Fin cfg0.N, win0_2.index t = ![t.val / 4, t.val % 4, 0] := by decide +kernel
theorem index3 : ∀ t : Fin cfg0.N, win0_3.index t = ![0, 0] := by decide +kernel
theorem index4 : ∀ t : Fin cfg0.N, win0_4.index t = ![t.val / 4, 0, 0] := by decide +kernel
theorem index5 : ∀ t : Fin cfg0.N, win0_5.index t = ![t.val / 4, t.val % 4, 0] := by decide +kernel
theorem index6 : ∀ t : Fin cfg0.N, win0_6.index t = ![t.val / 4, 0, 0] := by decide +kernel
theorem index7 : ∀ t : Fin cfg0.N, win0_7.index t = ![t.val / 4, t.val % 4, 0] := by decide +kernel
theorem index8 : ∀ t : Fin cfg0.N, win0_8.index t = ![t.val / 4, 0, 0] := by decide +kernel
theorem index9 : ∀ t : Fin cfg0.N, win0_9.index t = ![t.val / 4, 0, 0] := by decide +kernel
theorem index10 : ∀ t : Fin cfg0.N, win0_10.index t = ![t.val / 4, 0, 0] := by decide +kernel
theorem index11 : ∀ t : Fin cfg0.N, win0_11.index t = ![t.val / 4, t.val % 4, 0] := by decide +kernel
theorem index12 : ∀ t : Fin cfg0.N, win0_12.index t = ![t.val / 4, 0, 0] := by decide +kernel
theorem flush8 : ∀ t : Fin cfg0.N, (cfg0.win 8).flush t = true → t.val % 4 = 3 := by decide +kernel
theorem flush9 : ∀ t : Fin cfg0.N, (cfg0.win 9).flush t = true → t.val % 4 = 3 := by decide +kernel
theorem flush10 : ∀ t : Fin cfg0.N, (cfg0.win 10).flush t = true → t.val % 4 = 3 := by decide +kernel
theorem flush12 : ∀ t : Fin cfg0.N, (cfg0.win 12).flush t = true → t.val % 4 = 3 := by decide +kernel

/-- A point's blocks of them. -/
abbrev bX (t : Fin cfg0.N) : FVec Ideal S1x512x1024 .f32 := iblk m c 0 t
abbrev bDH (t : Fin cfg0.N) : FVec Ideal S1x512x1024 .f32 := iblk m c 1 t
abbrev bDR (t : Fin cfg0.N) : FVec Ideal S1x512x1024 .f32 := iblk m c 2 t
abbrev bGN (t : Fin cfg0.N) : FVec Ideal S1x1024 .f32 := iblk m c 3 t
abbrev bSC (t : Fin cfg0.N) : FVec Ideal S1x1x1024 .f32 := iblk m c 4 t
abbrev bY (t : Fin cfg0.N) : FVec Ideal S1x512x1024 .bf16 := iblk m c 5 t
abbrev bGT (t : Fin cfg0.N) : FVec Ideal S1x1x1024 .f32 := iblk m c 6 t

theorem block0 (t : Fin cfg0.N) (p : Fin 512) (d : Fin 1024) :
    bX m c t (ix3 0 p d) = X m c (ix3 (seq (t.val / 4)) (row (512 * (t.val % 4) + p.val)) d) := by
  have e := row_val t p
  have e' := seq_val t
  blk_ext! [bX, iblk, V, index0, e, e']
theorem block1 (t : Fin cfg0.N) (p : Fin 512) (d : Fin 1024) :
    bDH m c t (ix3 0 p d) = DH m c (ix3 (seq (t.val / 4)) (row (512 * (t.val % 4) + p.val)) d) := by
  have e := row_val t p
  have e' := seq_val t
  blk_ext! [bDH, iblk, V, index1, e, e']
theorem block2 (t : Fin cfg0.N) (p : Fin 512) (d : Fin 1024) :
    bDR m c t (ix3 0 p d) = DR m c (ix3 (seq (t.val / 4)) (row (512 * (t.val % 4) + p.val)) d) := by
  have e := row_val t p
  have e' := seq_val t
  blk_ext! [bDR, iblk, V, index2, e, e']
theorem block3 (t : Fin cfg0.N) (n : Fin 1024) : bGN m c t (ix2 0 n) = GN m c (ix2 0 n) := by
  blk_ext! [bGN, iblk, V, index3]
theorem block4 (t : Fin cfg0.N) (n : Fin 1024) : bSC m c t (ix3 0 0 n) = SC m c (ix3 (seq (t.val / 4)) 0 n) := by
  have e' := seq_val t
  blk_ext! [bSC, iblk, V, index4, e']
theorem block5 (t : Fin cfg0.N) (p : Fin 512) (d : Fin 1024) :
    bY m c t (ix3 0 p d) = Y m c (ix3 (seq (t.val / 4)) (row (512 * (t.val % 4) + p.val)) d) := by
  have e := row_val t p
  have e' := seq_val t
  blk_ext! [bY, iblk, V, index5, e, e']
theorem block6 (t : Fin cfg0.N) (n : Fin 1024) : bGT m c t (ix3 0 0 n) = GT m c (ix3 (seq (t.val / 4)) 0 n) := by
  have e' := seq_val t
  blk_ext! [bGT, iblk, V, index6, e']

/-! ## What the call puts where -/

/-- Row `r` of sequence `b`; the gradient that reaches its norm. -/
abbrev xrow (b : Fin 4) (r : Fin 2048) : Fin 1024 → EReal := fun d => X m c (ix3 b r d)
abbrev erow (b : Fin 4) (r : Fin 2048) : Fin 1024 → EReal := fun d => DH m c (ix3 b r d) * (GN m c (ix2 0 d) * (1 + SC m c (ix3 b 0 d)))

/-- The gradient at a place, and each sum's term. -/
def at7 (b : Fin 4) (r : Fin 2048) (n : Fin 1024) : EReal := DR m c (ix3 b r n) + callDx (xrow m c b r) (erow m c b r) n
def at8 (b : Fin 4) (r : Fin 2048) (n : Fin 1024) : EReal := DH m c (ix3 b r n)
def at9 (b : Fin 4) (r : Fin 2048) (n : Fin 1024) : EReal := DH m c (ix3 b r n) * (X m c (ix3 b r n) * rms (xrow m c b r) * GN m c (ix2 0 n))
def at10 (b : Fin 4) (r : Fin 2048) (n : Fin 1024) : EReal := DH m c (ix3 b r n) * (1 + SC m c (ix3 b 0 n)) * (X m c (ix3 b r n) * rms (xrow m c b r))
def at11 (b : Fin 4) (r : Fin 2048) (n : Fin 1024) : EReal := GT m c (ix3 b 0 n) * at7 m c b r n
def at12 (b : Fin 4) (r : Fin 2048) (n : Fin 1024) : EReal := at7 m c b r n * Y m c (ix3 b r n)

theorem row_block (t : Fin cfg0.N) (p : Fin 512) : (fun d => bX m c t (ix3 0 p d)) = xrow m c (seq (t.val / 4)) (row (512 * (t.val % 4) + p.val)) :=
  funext fun d => block0 m c t p d
theorem grad_point (t : Fin cfg0.N) (p : Fin 512) (n : Fin 1024) :
    grad (F := Ideal) (bX m c t) (bDH m c t) (bDR m c t) (bGN m c t) (bSC m c t) (ix2 p n) = at7 m c (seq (t.val / 4)) (row (512 * (t.val % 4) + p.val)) n := by
  rw [grad_apply, block2, row_block]
  unfold at7
  congr 2
  exact funext fun d => by rw [block1, block3, block4]
theorem term9 (t : Fin cfg0.N) (p : Fin 512) (n : Fin 1024) :
    bDH m c t (ix3 0 p n) * (bX m c t (ix3 0 p n) * rms (fun d => bX m c t (ix3 0 p d)) * bGN m c t (ix2 0 n)) = at9 m c (seq (t.val / 4)) (row (512 * (t.val % 4) + p.val)) n := by
  rw [block1, row_block, block0, block3]
  rfl
theorem term10 (t : Fin cfg0.N) (p : Fin 512) (n : Fin 1024) :
    bDH m c t (ix3 0 p n) * (1 + bSC m c t (ix3 0 0 n)) * (bX m c t (ix3 0 p n) * rms (fun d => bX m c t (ix3 0 p d))) = at10 m c (seq (t.val / 4)) (row (512 * (t.val % 4) + p.val)) n := by
  rw [block1, row_block, block0, block4]
  rfl
theorem point7 (t : Fin cfg0.N) (p : Fin 512) (n : Fin 1024) :
    ((outsAt0 m c t.val t.isLt).1 : FVec Ideal S1x512x1024 .f32) (ix3 0 p n) = at7 m c (seq (t.val / 4)) (row (512 * (t.val % 4) + p.val)) n := by
  by_cases h : t.val % 4 = 0
  · rw [outsAt0_A m c t h h]
    dsimp only
    rw [out_A_7]
    exact (store_apply _ p n).trans (grad_point m c t p n)
  · rw [outsAt0_B m c t h h]
    dsimp only
    rw [out_B_7]
    exact (store_apply _ p n).trans (grad_point m c t p n)
theorem point11 (t : Fin cfg0.N) (p : Fin 512) (n : Fin 1024) :
    ((outsAt0 m c t.val t.isLt).2.2.2.2.1 : FVec Ideal S1x512x1024 .bf16) (ix3 0 p n) = at11 m c (seq (t.val / 4)) (row (512 * (t.val % 4) + p.val)) n := by
  by_cases h : t.val % 4 = 0
  · rw [outsAt0_A m c t h h]
    dsimp only
    rw [out_A_11]
    exact (gate_apply _ _ p n).trans (congrArg₂ (· * ·) (block6 m c t n) (grad_point m c t p n))
  · rw [outsAt0_B m c t h h]
    dsimp only
    rw [out_B_11]
    exact (gate_apply _ _ p n).trans (congrArg₂ (· * ·) (block6 m c t n) (grad_point m c t p n))
/-- The accumulator of result 1 after a point. -/
abbrev acc8 (t : ℕ) (ht : t < cfg0.N) : FVec Ideal S1x1x1024 .f32 := (outsAt0 m c t ht).2.1
theorem first8 (t : Fin cfg0.N) (h : t.val % 4 = 0) (n : Fin 1024) :
    acc8 m c t.val t.isLt (ix3 0 0 n) = 0 + ∑ p : Fin 512, at8 m c (seq (t.val / 4)) (row (512 * (t.val % 4) + p.val)) n := by
  unfold acc8
  rw [outsAt0_A m c t h h]
  dsimp only
  rw [out_A_8]
  refine (more_8 _ _ n).trans (congrArg₂ (· + ·) (zero_8 n) (Finset.sum_congr rfl fun p _ => ?_))
  exact block1 m c t p n
theorem next8 (t : Fin cfg0.N) (h : ¬t.val % 4 = 0) (n : Fin 1024) :
    acc8 m c t.val t.isLt (ix3 0 0 n) = acc8 m c (t.val - 1) (Nat.lt_of_le_of_lt (Nat.sub_le _ _) t.isLt) (ix3 0 0 n)
      + ∑ p : Fin 512, at8 m c (seq (t.val / 4)) (row (512 * (t.val % 4) + p.val)) n := by
  unfold acc8
  rw [outsAt0_B m c t h h]
  dsimp only
  rw [out_B_8]
  refine (more_8 _ _ n).trans (congrArg _ (Finset.sum_congr rfl fun p _ => ?_))
  exact block1 m c t p n
theorem last8 (t : Fin cfg0.N) (h : t.val % 4 = 3) (n : Fin 1024) :
    acc8 m c t.val t.isLt (ix3 0 0 n) = ∑ r : Fin 2048, at8 m c (seq (t.val / 4)) r n :=
  runs_last (fun t ht => acc8 m c t ht (ix3 0 0 n)) (fun b r => at8 m c (seq b) r n) (fun t ht h => first8 m c ⟨t, ht⟩ h n)
    (fun t ht h => next8 m c ⟨t, ht⟩ h n) t.val t.isLt h
/-- The accumulator of result 2 after a point. -/
abbrev acc9 (t : ℕ) (ht : t < cfg0.N) : FVec Ideal S1x1x1024 .f32 := (outsAt0 m c t ht).2.2.1
theorem first9 (t : Fin cfg0.N) (h : t.val % 4 = 0) (n : Fin 1024) :
    acc9 m c t.val t.isLt (ix3 0 0 n) = 0 + ∑ p : Fin 512, at9 m c (seq (t.val / 4)) (row (512 * (t.val % 4) + p.val)) n := by
  unfold acc9
  rw [outsAt0_A m c t h h]
  dsimp only
  rw [out_A_9]
  refine (more_9 _ _ _ _ n).trans (congrArg₂ (· + ·) (zero_9 n) (Finset.sum_congr rfl fun p _ => ?_))
  exact term9 m c t p n
theorem next9 (t : Fin cfg0.N) (h : ¬t.val % 4 = 0) (n : Fin 1024) :
    acc9 m c t.val t.isLt (ix3 0 0 n) = acc9 m c (t.val - 1) (Nat.lt_of_le_of_lt (Nat.sub_le _ _) t.isLt) (ix3 0 0 n)
      + ∑ p : Fin 512, at9 m c (seq (t.val / 4)) (row (512 * (t.val % 4) + p.val)) n := by
  unfold acc9
  rw [outsAt0_B m c t h h]
  dsimp only
  rw [out_B_9]
  refine (more_9 _ _ _ _ n).trans (congrArg _ (Finset.sum_congr rfl fun p _ => ?_))
  exact term9 m c t p n
theorem last9 (t : Fin cfg0.N) (h : t.val % 4 = 3) (n : Fin 1024) :
    acc9 m c t.val t.isLt (ix3 0 0 n) = ∑ r : Fin 2048, at9 m c (seq (t.val / 4)) r n :=
  runs_last (fun t ht => acc9 m c t ht (ix3 0 0 n)) (fun b r => at9 m c (seq b) r n) (fun t ht h => first9 m c ⟨t, ht⟩ h n)
    (fun t ht h => next9 m c ⟨t, ht⟩ h n) t.val t.isLt h
/-- The accumulator of result 3 after a point. -/
abbrev acc10 (t : ℕ) (ht : t < cfg0.N) : FVec Ideal S1x1x1024 .f32 := (outsAt0 m c t ht).2.2.2.1
theorem first10 (t : Fin cfg0.N) (h : t.val % 4 = 0) (n : Fin 1024) :
    acc10 m c t.val t.isLt (ix3 0 0 n) = 0 + ∑ p : Fin 512, at10 m c (seq (t.val / 4)) (row (512 * (t.val % 4) + p.val)) n := by
  unfold acc10
  rw [outsAt0_A m c t h h]
  dsimp only
  rw [out_A_10]
  refine (more_10 _ _ _ _ n).trans (congrArg₂ (· + ·) (zero_10 n) (Finset.sum_congr rfl fun p _ => ?_))
  exact term10 m c t p n
theorem next10 (t : Fin cfg0.N) (h : ¬t.val % 4 = 0) (n : Fin 1024) :
    acc10 m c t.val t.isLt (ix3 0 0 n) = acc10 m c (t.val - 1) (Nat.lt_of_le_of_lt (Nat.sub_le _ _) t.isLt) (ix3 0 0 n)
      + ∑ p : Fin 512, at10 m c (seq (t.val / 4)) (row (512 * (t.val % 4) + p.val)) n := by
  unfold acc10
  rw [outsAt0_B m c t h h]
  dsimp only
  rw [out_B_10]
  refine (more_10 _ _ _ _ n).trans (congrArg _ (Finset.sum_congr rfl fun p _ => ?_))
  exact term10 m c t p n
theorem last10 (t : Fin cfg0.N) (h : t.val % 4 = 3) (n : Fin 1024) :
    acc10 m c t.val t.isLt (ix3 0 0 n) = ∑ r : Fin 2048, at10 m c (seq (t.val / 4)) r n :=
  runs_last (fun t ht => acc10 m c t ht (ix3 0 0 n)) (fun b r => at10 m c (seq b) r n) (fun t ht h => first10 m c ⟨t, ht⟩ h n)
    (fun t ht h => next10 m c ⟨t, ht⟩ h n) t.val t.isLt h
/-- The accumulator of result 5 after a point. -/
abbrev acc12 (t : ℕ) (ht : t < cfg0.N) : FVec Ideal S1x1x1024 .f32 := (outsAt0 m c t ht).2.2.2.2.2
theorem first12 (t : Fin cfg0.N) (h : t.val % 4 = 0) (n : Fin 1024) :
    acc12 m c t.val t.isLt (ix3 0 0 n) = 0 + ∑ p : Fin 512, at12 m c (seq (t.val / 4)) (row (512 * (t.val % 4) + p.val)) n := by
  unfold acc12
  rw [outsAt0_A m c t h h]
  dsimp only
  rw [out_A_12]
  refine (more_12 _ _ _ n).trans (congrArg₂ (· + ·) (zero_12 n) (Finset.sum_congr rfl fun p _ => ?_))
  exact congrArg₂ (· * ·) (grad_point m c t p n) (block5 m c t p n)
theorem next12 (t : Fin cfg0.N) (h : ¬t.val % 4 = 0) (n : Fin 1024) :
    acc12 m c t.val t.isLt (ix3 0 0 n) = acc12 m c (t.val - 1) (Nat.lt_of_le_of_lt (Nat.sub_le _ _) t.isLt) (ix3 0 0 n)
      + ∑ p : Fin 512, at12 m c (seq (t.val / 4)) (row (512 * (t.val % 4) + p.val)) n := by
  unfold acc12
  rw [outsAt0_B m c t h h]
  dsimp only
  rw [out_B_12]
  refine (more_12 _ _ _ n).trans (congrArg _ (Finset.sum_congr rfl fun p _ => ?_))
  exact congrArg₂ (· * ·) (grad_point m c t p n) (block5 m c t p n)
theorem last12 (t : Fin cfg0.N) (h : t.val % 4 = 3) (n : Fin 1024) :
    acc12 m c t.val t.isLt (ix3 0 0 n) = ∑ r : Fin 2048, at12 m c (seq (t.val / 4)) r n :=
  runs_last (fun t ht => acc12 m c t ht (ix3 0 0 n)) (fun b r => at12 m c (seq b) r n) (fun t ht h => first12 m c ⟨t, ht⟩ h n)
    (fun t ht h => next12 m c ⟨t, ht⟩ h n) t.val t.isLt h

/-! ## The arrays after the run -/

theorem eq_tile (y : S1x512x1024.Idx) : y = ix3 0 (y 1) (y 2) := by
  funext a
  fin_cases a
  · exact Fin.ext (Nat.lt_one_iff.mp (y 0).isLt)
  · rfl
  · rfl
theorem eq_line (y : S1x1x1024.Idx) : y = ix3 0 0 (y 2) := by
  funext a
  fin_cases a
  · exact Fin.ext (Nat.lt_one_iff.mp (y 0).isLt)
  · exact Fin.ext (Nat.lt_one_iff.mp (y 1).isLt)
  · rfl

theorem array7 : ((dats m 0 c).arrAt 7 cfg0.N : FVec Ideal S4x2048x1024 .f32) = fun i => at7 m c (i 0) (i 1) (i 2) := by
  refine (dats m 0 c).arrAt_eq_of_covers 7 _ (by decide +kernel) fun t hf y => ?_
  blk_simp [index7]
  rw [after0_7]
  refine (congrArg ((outsAt0 m c t.val t.isLt).1 : FVec Ideal S1x512x1024 .f32) (eq_tile y)).trans ((point7 m c t (y 1) (y 2)).trans ?_)
  have e0 : (y 0).val = 0 := Nat.lt_one_iff.mp (show (y 0).val < 1 from (y 0).isLt)
  congr 1
  · exact Fin.ext ((seq_val t).trans (by blk_simp [index7, e0]))
  · exact Fin.ext ((row_val t (y 1)).trans (by blk_simp [index7]; exact congrArg (· + _) (Nat.mul_comm _ _)))
  · exact Fin.ext (by blk_simp [index7])
theorem array11 : ((dats m 0 c).arrAt 11 cfg0.N : FVec Ideal S4x2048x1024 .bf16) = fun i => at11 m c (i 0) (i 1) (i 2) := by
  refine (dats m 0 c).arrAt_eq_of_covers 11 _ (by decide +kernel) fun t hf y => ?_
  blk_simp [index11]
  rw [after0_11]
  refine (congrArg ((outsAt0 m c t.val t.isLt).2.2.2.2.1 : FVec Ideal S1x512x1024 .bf16) (eq_tile y)).trans ((point11 m c t (y 1) (y 2)).trans ?_)
  have e0 : (y 0).val = 0 := Nat.lt_one_iff.mp (show (y 0).val < 1 from (y 0).isLt)
  congr 1
  · exact Fin.ext ((seq_val t).trans (by blk_simp [index11, e0]))
  · exact Fin.ext ((row_val t (y 1)).trans (by blk_simp [index11]; exact congrArg (· + _) (Nat.mul_comm _ _)))
  · exact Fin.ext (by blk_simp [index11])
theorem array8 : ((dats m 0 c).arrAt 8 cfg0.N : FVec Ideal S4x1x1024 .f32) = fun i => ∑ r : Fin 2048, at8 m c (i 0) r (i 2) := by
  refine (dats m 0 c).arrAt_eq_of_covers 8 _ (by decide +kernel) fun t hf y => ?_
  blk_simp [index8]
  rw [after0_8]
  refine (congrArg (acc8 m c t.val t.isLt) (eq_line y)).trans ((last8 m c t (flush8 t hf) (y 2)).trans ?_)
  have e0 : (y 0).val = 0 := Nat.lt_one_iff.mp (show (y 0).val < 1 from (y 0).isLt)
  refine Finset.sum_congr rfl fun r _ => ?_
  congr 1
  · exact Fin.ext ((seq_val t).trans (by blk_simp [index8, e0]))
  · exact Fin.ext (by blk_simp [index8])
theorem array9 : ((dats m 0 c).arrAt 9 cfg0.N : FVec Ideal S4x1x1024 .f32) = fun i => ∑ r : Fin 2048, at9 m c (i 0) r (i 2) := by
  refine (dats m 0 c).arrAt_eq_of_covers 9 _ (by decide +kernel) fun t hf y => ?_
  blk_simp [index9]
  rw [after0_9]
  refine (congrArg (acc9 m c t.val t.isLt) (eq_line y)).trans ((last9 m c t (flush9 t hf) (y 2)).trans ?_)
  have e0 : (y 0).val = 0 := Nat.lt_one_iff.mp (show (y 0).val < 1 from (y 0).isLt)
  refine Finset.sum_congr rfl fun r _ => ?_
  congr 1
  · exact Fin.ext ((seq_val t).trans (by blk_simp [index9, e0]))
  · exact Fin.ext (by blk_simp [index9])
theorem array10 : ((dats m 0 c).arrAt 10 cfg0.N : FVec Ideal S4x1x1024 .f32) = fun i => ∑ r : Fin 2048, at10 m c (i 0) r (i 2) := by
  refine (dats m 0 c).arrAt_eq_of_covers 10 _ (by decide +kernel) fun t hf y => ?_
  blk_simp [index10]
  rw [after0_10]
  refine (congrArg (acc10 m c t.val t.isLt) (eq_line y)).trans ((last10 m c t (flush10 t hf) (y 2)).trans ?_)
  have e0 : (y 0).val = 0 := Nat.lt_one_iff.mp (show (y 0).val < 1 from (y 0).isLt)
  refine Finset.sum_congr rfl fun r _ => ?_
  congr 1
  · exact Fin.ext ((seq_val t).trans (by blk_simp [index10, e0]))
  · exact Fin.ext (by blk_simp [index10])
theorem array12 : ((dats m 0 c).arrAt 12 cfg0.N : FVec Ideal S4x1x1024 .f32) = fun i => ∑ r : Fin 2048, at12 m c (i 0) r (i 2) := by
  refine (dats m 0 c).arrAt_eq_of_covers 12 _ (by decide +kernel) fun t hf y => ?_
  blk_simp [index12]
  rw [after0_12]
  refine (congrArg (acc12 m c t.val t.isLt) (eq_line y)).trans ((last12 m c t (flush12 t hf) (y 2)).trans ?_)
  have e0 : (y 0).val = 0 := Nat.lt_one_iff.mp (show (y 0).val < 1 from (y 0).isLt)
  refine Finset.sum_congr rfl fun r _ => ?_
  congr 1
  · exact Fin.ext ((seq_val t).trans (by blk_simp [index12, e0]))
  · exact Fin.ext (by blk_simp [index12])

end Cert.NormBwd

namespace Cert.NormBwd
open Idealize.ShloMosaic Idealize.ShloMosaic.TcCoe Idealize.ShloMosaic.Tactic
open Cert.NormReal
open Cert.Reference18Ideal Cert.Reference18Ideal.Gen

section Reference
variable (x dh dr : FVec Ideal S4x2048x1024 .f32) (gn : FVec Ideal S1x1024 .f32) (sc : FVec Ideal S4x1x1024 .f32) (y : FVec Ideal S4x2048x1024 .bf16) (gt : FVec Ideal S4x1x1024 .f32)

/-- The reference's results. -/
def out0 (x : FVec Ideal S4x2048x1024 .f32) (dh : FVec Ideal S4x2048x1024 .f32) (dr : FVec Ideal S4x2048x1024 .f32) (gn : FVec Ideal S1x1024 .f32) (sc : FVec Ideal S4x1x1024 .f32) : FVec Ideal S4x2048x1024 .f32 :=
  addf dr (addf (addf (mulf (mulf (mulf (shapeCast _ dh shapeCasts_S4x2048x1024_S4x2048x1024) (broadcastInDim S4x2048x1024 ![0, 1, 2] bcast_S4x1x1024_S4x2048x1024_0_1_2 (addf (broadcastInDim S4x1x1024 ![] bcast_S_S4x1x1024 (constant S_ .f32 0x3F800000#32)) sc))) (broadcastInDim S4x2048x1024 ![0, 1, 2] bcast_S4x1x1024_S4x2048x1024_0_1_2 (broadcastInDim S4x1x1024 ![1, 2] bcast_S1x1024_S4x1x1024_1_2 gn))) (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf x x) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (mulf x (broadcastInDim S4x2048x1024 ![0, 1] bcast_S4x2048_S4x2048x1024_0_1 (Host.reduceAdd (Host.divf (mulf (shapeCast _ (Host.reduceAdd (mulf x (mulf (mulf (shapeCast _ dh shapeCasts_S4x2048x1024_S4x2048x1024) (broadcastInDim S4x2048x1024 ![0, 1, 2] bcast_S4x1x1024_S4x2048x1024_0_1_2 (addf (broadcastInDim S4x1x1024 ![] bcast_S_S4x1x1024 (constant S_ .f32 0x3F800000#32)) sc))) (broadcastInDim S4x2048x1024 ![0, 1, 2] bcast_S4x1x1024_S4x2048x1024_0_1_2 (broadcastInDim S4x1x1024 ![1, 2] bcast_S1x1024_S4x1x1024_1_2 gn)))) (constant S_ .f32 0x00000000#32) reducesTo_S4x2048x1024_S4x2048_d2 h_S_) shapeCasts_S4x2048_S4x2048x1) (mulf (broadcastInDim S4x2048x1 ![] bcast_S_S4x2048x1 (constant S_ .f32 0xBF000000#32)) (Host.divf (Host.rsqrt (addf (Host.divf (broadcastInDim S4x2048x1 ![0, 1] bcast_S4x2048_S4x2048x1_0_1 (Host.reduceAdd (mulf x x) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))) (addf (Host.divf (broadcastInDim S4x2048x1 ![0, 1] bcast_S4x2048_S4x2048x1_0_1 (Host.reduceAdd (mulf x x) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1 ![] bcast_S_S4x2048x1 (constant S_ .f32 0x44800000#32))) (constant S_ .f32 0x00000000#32) reducesTo_S4x2048x1_S4x2048_d2 h_S_)))) (mulf (broadcastInDim S4x2048x1024 ![0, 1] bcast_S4x2048_S4x2048x1024_0_1 (Host.reduceAdd (Host.divf (mulf (shapeCast _ (Host.reduceAdd (mulf x (mulf (mulf (shapeCast _ dh shapeCasts_S4x2048x1024_S4x2048x1024) (broadcastInDim S4x2048x1024 ![0, 1, 2] bcast_S4x1x1024_S4x2048x1024_0_1_2 (addf (broadcastInDim S4x1x1024 ![] bcast_S_S4x1x1024 (constant S_ .f32 0x3F800000#32)) sc))) (broadcastInDim S4x2048x1024 ![0, 1, 2] bcast_S4x1x1024_S4x2048x1024_0_1_2 (broadcastInDim S4x1x1024 ![1, 2] bcast_S1x1024_S4x1x1024_1_2 gn)))) (constant S_ .f32 0x00000000#32) reducesTo_S4x2048x1024_S4x2048_d2 h_S_) shapeCasts_S4x2048_S4x2048x1) (mulf (broadcastInDim S4x2048x1 ![] bcast_S_S4x2048x1 (constant S_ .f32 0xBF000000#32)) (Host.divf (Host.rsqrt (addf (Host.divf (broadcastInDim S4x2048x1 ![0, 1] bcast_S4x2048_S4x2048x1_0_1 (Host.reduceAdd (mulf x x) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))) (addf (Host.divf (broadcastInDim S4x2048x1 ![0, 1] bcast_S4x2048_S4x2048x1_0_1 (Host.reduceAdd (mulf x x) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1 ![] bcast_S_S4x2048x1 (constant S_ .f32 0x44800000#32))) (constant S_ .f32 0x00000000#32) reducesTo_S4x2048x1_S4x2048_d2 h_S_)) x))
def out1 (dh : FVec Ideal S4x2048x1024 .f32) : FVec Ideal S4x1x1024 .f32 :=
  shapeCast _ (Host.reduceAdd dh (constant S_ .f32 0x00000000#32) reducesTo_S4x2048x1024_S4x1024_d1 h_S_) shapeCasts_S4x1024_S4x1x1024
def out2 (x : FVec Ideal S4x2048x1024 .f32) (dh : FVec Ideal S4x2048x1024 .f32) (gn : FVec Ideal S1x1024 .f32) : FVec Ideal S4x1x1024 .f32 :=
  shapeCast _ (Host.reduceAdd (mulf (mulf (mulf x (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf x x) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1024 ![0, 1, 2] bcast_S4x1x1024_S4x2048x1024_0_1_2 (broadcastInDim S4x1x1024 ![1, 2] bcast_S1x1024_S4x1x1024_1_2 gn))) (shapeCast _ dh shapeCasts_S4x2048x1024_S4x2048x1024)) (constant S_ .f32 0x00000000#32) reducesTo_S4x2048x1024_S4x1024_d1 h_S_) shapeCasts_S4x1024_S4x1x1024
def out3 (x : FVec Ideal S4x2048x1024 .f32) (dh : FVec Ideal S4x2048x1024 .f32) (sc : FVec Ideal S4x1x1024 .f32) : FVec Ideal S4x1x1024 .f32 :=
  shapeCast _ (Host.reduceAdd (mulf (mulf x (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf x x) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (mulf (shapeCast _ dh shapeCasts_S4x2048x1024_S4x2048x1024) (broadcastInDim S4x2048x1024 ![0, 1, 2] bcast_S4x1x1024_S4x2048x1024_0_1_2 (addf (broadcastInDim S4x1x1024 ![] bcast_S_S4x1x1024 (constant S_ .f32 0x3F800000#32)) sc)))) (constant S_ .f32 0x00000000#32) reducesTo_S4x2048x1024_S4x1024_d1 h_S_) shapeCasts_S4x1024_S4x1x1024
def out4 (x : FVec Ideal S4x2048x1024 .f32) (dh : FVec Ideal S4x2048x1024 .f32) (dr : FVec Ideal S4x2048x1024 .f32) (gn : FVec Ideal S1x1024 .f32) (sc : FVec Ideal S4x1x1024 .f32) (gt : FVec Ideal S4x1x1024 .f32) : FVec Ideal S4x2048x1024 .bf16 :=
  truncf .bf16 (mulf (broadcastInDim S4x2048x1024 ![0, 1, 2] bcast_S4x1x1024_S4x2048x1024_0_1_2 gt) (out0 x dh dr gn sc)) bitsLt_bf16_f32
def out5 (x : FVec Ideal S4x2048x1024 .f32) (dh : FVec Ideal S4x2048x1024 .f32) (dr : FVec Ideal S4x2048x1024 .f32) (gn : FVec Ideal S1x1024 .f32) (sc : FVec Ideal S4x1x1024 .f32) (y : FVec Ideal S4x2048x1024 .bf16) : FVec Ideal S4x1x1024 .f32 :=
  shapeCast _ (Host.reduceAdd (mulf (out0 x dh dr gn sc) (extf .f32 y bitsLt_bf16_f32)) (constant S_ .f32 0x00000000#32) reducesTo_S4x2048x1024_S4x1024_d1 h_S_) shapeCasts_S4x1024_S4x1x1024

theorem out0_apply (b : Fin 4) (r : Fin 2048) (n : Fin 1024) : out0 x dh dr gn sc (ix3 b r n)
    = dr (ix3 b r n) + pullDx (fun d => x (ix3 b r d)) (fun d => dh (ix3 b r d) * (1 + sc (ix3 b 0 d)) * gn (ix2 0 d)) n := by
  unfold out0 pullDx pull rms spread
  pointwise
  simp only [Fin.sum_univ_one]
theorem out1_apply (b : Fin 4) (n : Fin 1024) : out1 dh (ix3 b 0 n) = ∑ r : Fin 2048, dh (ix3 b r n) := by
  unfold out1
  pointwise
theorem out2_apply (b : Fin 4) (n : Fin 1024) : out2 x dh gn (ix3 b 0 n)
    = ∑ r : Fin 2048, x (ix3 b r n) * rms (fun d => x (ix3 b r d)) * gn (ix2 0 n) * dh (ix3 b r n) := by
  unfold out2 rms spread
  pointwise
theorem out3_apply (b : Fin 4) (n : Fin 1024) : out3 x dh sc (ix3 b 0 n)
    = ∑ r : Fin 2048, x (ix3 b r n) * rms (fun d => x (ix3 b r d)) * (dh (ix3 b r n) * (1 + sc (ix3 b 0 n))) := by
  unfold out3 rms spread
  pointwise
theorem out4_apply (b : Fin 4) (r : Fin 2048) (n : Fin 1024) : out4 x dh dr gn sc gt (ix3 b r n) = gt (ix3 b 0 n) * out0 x dh dr gn sc (ix3 b r n) := by
  unfold out4
  pointwise
theorem out5_apply (b : Fin 4) (n : Fin 1024) : out5 x dh dr gn sc y (ix3 b 0 n) = ∑ r : Fin 2048, out0 x dh dr gn sc (ix3 b r n) * y (ix3 b r n) := by
  unfold out5
  pointwise
end Reference

/-! ## The call's arrays are the reference's results -/

variable (m : (ℓ : Loc Cert.Kernel18Ideal.nD Cert.Kernel18Ideal.τ Cert.Kernel18Ideal.sig) → Buf (Elt Ideal) ℓ) (c : Dev 1)

theorem eq_line4 (y : S4x1x1024.Idx) : y = ix3 (y 0) 0 (y 2) := by
  funext a
  fin_cases a
  · rfl
  · exact Fin.ext (Nat.lt_one_iff.mp (y 1).isLt)
  · rfl

theorem dx_at (b : Fin 4) (r : Fin 2048) (n : Fin 1024) :
    out0 (X m c) (DH m c) (DR m c) (GN m c) (SC m c) (ix3 b r n) = at7 m c b r n := by
  refine (out0_apply _ _ _ _ _ b r n).trans ?_
  have e : (fun d => DH m c (ix3 b r d) * (1 + SC m c (ix3 b 0 d)) * GN m c (ix2 0 d)) = erow m c b r :=
    funext fun d => (mul_assoc (G := EReal) _ _ _).trans (congrArg _ (mul_comm (G := EReal) _ _))
  unfold at7
  rw [e]
  exact congrArg _ (dx_all _ _ n)

variable {x dh dr : FVec Ideal S4x2048x1024 .f32} {gn : FVec Ideal S1x1024 .f32} {sc : FVec Ideal S4x1x1024 .f32} {y : FVec Ideal S4x2048x1024 .bf16} {gt : FVec Ideal S4x1x1024 .f32}
theorem meet0 (ex : x = X m c) (edh : dh = DH m c) (edr : dr = DR m c) (egn : gn = GN m c) (esc : sc = SC m c) :
    out0 x dh dr gn sc = (Cert.Kernel18Ideal.Gen.dats m 0 c).arrAt 7 Cert.Kernel18Ideal.cfg0.N := by
  subst ex edh edr egn esc
  refine Eq.trans (funext fun i => ?_) (array7 m c).symm
  rw [eq_ix3 i]
  exact dx_at m c _ _ _
theorem meet1 (edh : dh = DH m c) :
    out1 dh = (Cert.Kernel18Ideal.Gen.dats m 0 c).arrAt 8 Cert.Kernel18Ideal.cfg0.N := by
  subst edh
  refine Eq.trans (funext fun i => ?_) (array8 m c).symm
  refine (congrArg _ (eq_line4 i)).trans ((out1_apply _ (i 0) (i 2)).trans (Finset.sum_congr rfl fun r _ => ?_))
  rfl
theorem meet2 (ex : x = X m c) (edh : dh = DH m c) (egn : gn = GN m c) :
    out2 x dh gn = (Cert.Kernel18Ideal.Gen.dats m 0 c).arrAt 9 Cert.Kernel18Ideal.cfg0.N := by
  subst ex edh egn
  refine Eq.trans (funext fun i => ?_) (array9 m c).symm
  refine (congrArg _ (eq_line4 i)).trans ((out2_apply _ _ _ (i 0) (i 2)).trans (Finset.sum_congr rfl fun r _ => ?_))
  exact (mul_comm (G := EReal) _ _)
theorem meet3 (ex : x = X m c) (edh : dh = DH m c) (esc : sc = SC m c) :
    out3 x dh sc = (Cert.Kernel18Ideal.Gen.dats m 0 c).arrAt 10 Cert.Kernel18Ideal.cfg0.N := by
  subst ex edh esc
  refine Eq.trans (funext fun i => ?_) (array10 m c).symm
  refine (congrArg _ (eq_line4 i)).trans ((out3_apply _ _ _ (i 0) (i 2)).trans (Finset.sum_congr rfl fun r _ => ?_))
  exact (mul_comm (G := EReal) _ _)
theorem meet4 (ex : x = X m c) (edh : dh = DH m c) (edr : dr = DR m c) (egn : gn = GN m c) (esc : sc = SC m c) (egt : gt = GT m c) :
    out4 x dh dr gn sc gt = (Cert.Kernel18Ideal.Gen.dats m 0 c).arrAt 11 Cert.Kernel18Ideal.cfg0.N := by
  subst ex edh edr egn esc egt
  refine Eq.trans (funext fun i => ?_) (array11 m c).symm
  rw [eq_ix3 i]
  exact (out4_apply _ _ _ _ _ _ _ _ _).trans (congrArg _ (dx_at m c _ _ _))
theorem meet5 (ex : x = X m c) (edh : dh = DH m c) (edr : dr = DR m c) (egn : gn = GN m c) (esc : sc = SC m c) (ey : y = Y m c) :
    out5 x dh dr gn sc y = (Cert.Kernel18Ideal.Gen.dats m 0 c).arrAt 12 Cert.Kernel18Ideal.cfg0.N := by
  subst ex edh edr egn esc ey
  refine Eq.trans (funext fun i => ?_) (array12 m c).symm
  refine (congrArg _ (eq_line4 i)).trans ((out5_apply _ _ _ _ _ _ (i 0) (i 2)).trans (Finset.sum_congr rfl fun r _ => ?_))
  exact congrArg (fun z : EReal => z * _) (dx_at m c _ _ _)

end Cert.NormBwd
end
-- ==== Proof.Rest.NormBwdPlain.lean ====
/-
  The gradient of the modulated RMS norm: what every point leaves in its results' buffers, the sums
  they run to, the arrays they fill, and the reference's results.
-/
module

public import proofs.«01_k».proof.Defs
public import proofs.«01_k».proof.Proof.Gen.Kernel19Ideal.Value
public import proofs.«01_k».proof.Proof.Gen.Reference19Ideal.Run
public import proofs.«01_k».proof.Proof.Rest.NormReal
public import Idealize.ShloMosaic.Lib.Claim
public import Idealize.ShloMosaic.Lib.Pipeline.ValueKit

@[expose] public section
set_option maxRecDepth 16384

noncomputable section
namespace Cert.NormBwdPlain
open Idealize.ShloMosaic Idealize.ShloMosaic.TcCoe Idealize.ShloMosaic.Tactic
open Cert.NormReal
open Cert.Kernel19Ideal Cert.Kernel19Ideal.Gen

theorem zeros : (![0, 0] : Fin 2 → Nat) = fun _ => 0 := funext fun a => by fin_cases a <;> rfl
theorem zeros3 : (![0, 0, 0] : Fin 3 → Nat) = fun _ => 0 := funext fun a => by fin_cases a <;> rfl

section Run
variable {F : FTy → Type} [FloatOps F]

/-- A tile's gradient, with the residual's. -/
abbrev grad (x0 x1 x2 : Vec F S1x512x1024 .f32) (x3 : Vec F S1x1024 .f32) (x4 : Vec F S1x1x1024 .f32) : FVec F S512x1024 .f32 :=
  k0_pay13 (k0_pay6 x1) x3 (k0_pay7 x4) (k0_pay8 x0) (k0_pay9 x0) x2

variable (c : Dev nD) (i : grid0.Coords)
  (a2 : Memref sig .tc .vmem S1x512x1024 .f32) (h2 : a2.IsWhole) (a3 : Memref sig .tc .vmem S1x512x1024 .f32) (h3 : a3.IsWhole) (a4 : Memref sig .tc .vmem S1x512x1024 .f32) (h4 : a4.IsWhole) (a5 : Memref sig .tc .vmem S1x1024 .f32) (h5 : a5.IsWhole) (a6 : Memref sig .tc .vmem S1x1x1024 .f32) (h6 : a6.IsWhole) (a7 : Memref sig .tc .vmem S1x512x1024 .f32) (h7 : a7.IsWhole) (a8 : Memref sig .tc .vmem S1x1x1024 .f32) (h8 : a8.IsWhole) (a9 : Memref sig .tc .vmem S1x1x1024 .f32) (h9 : a9.IsWhole) (a10 : Memref sig .tc .vmem S1x1x1024 .f32) (h10 : a10.IsWhole)
  (x0 : Vec F S1x512x1024 .f32) (x1 : Vec F S1x512x1024 .f32) (x2 : Vec F S1x512x1024 .f32) (x3 : Vec F S1x1024 .f32) (x4 : Vec F S1x1x1024 .f32)
theorem out_A_5 (c0 : cond0_0 i) : out0_A_5 c i a2 h2 a3 h3 a4 h4 a5 h5 a6 h6 a7 h7 a8 h8 a9 h9 a10 h10 c0 x0 x1 x2 x3 x4 = k0_pay1 (grad x0 x1 x2 x3 x4) := by
  unfold out0_A_5
  rw [View.read_writes_eq_canon _ _ _ (cover0_A_5 c i a2 h2 a3 h3 a4 h4 a5 h5 a6 h6 a7 h7 a8 h8 a9 h9 a10 h10 c0 x0 x1 x2 x3 x4)]
  unfold kernelRun0_A
  dsimp only
  sl_unfold_words
  rw [View.canon_unit_zero zeros3]
  simp only [View.readAt_eq_ld, h2.read_unread, h3.read_unread, h4.read_unread, h5.read_unread, h6.read_unread, h7.read_unread, h8.read_unread, h9.read_unread, h10.read_unread, View.ld_unit_zero (S := S1x512x1024) zeros3, View.ld_unit_zero (S := S1x1x1024) zeros3, View.ld_unit_zero (S := S1x1024) zeros]
theorem out_A_6 (c0 : cond0_0 i) : out0_A_6 c i a2 h2 a3 h3 a4 h4 a5 h5 a6 h6 a7 h7 a8 h8 a9 h9 a10 h10 c0 x0 x1 x2 x3 x4 = k0_pay10 x1 (k0_pay2 (F := F)) := by
  unfold out0_A_6
  rw [View.read_writes_eq_canon _ _ _ (cover0_A_6 c i a2 h2 a3 h3 a4 h4 a5 h5 a6 h6 a7 h7 a8 h8 a9 h9 a10 h10 c0 x0 x1 x2 x3 x4)]
  unfold kernelRun0_A
  dsimp only
  sl_unfold_words
  rw [View.canon_cons_unit_zero (S := S1x1x1024) zeros3]
  simp only [View.readCov_unit_zero (S := S1x1x1024) _ zeros3]
  simp only [View.readAt_eq_ld, h2.read_unread, h3.read_unread, h4.read_unread, h5.read_unread, h6.read_unread, h7.read_unread, h8.read_unread, h9.read_unread, h10.read_unread, View.ld_unit_zero (S := S1x512x1024) zeros3, View.ld_unit_zero (S := S1x1x1024) zeros3, View.ld_unit_zero (S := S1x1024) zeros]
theorem out_A_7 (c0 : cond0_0 i) : out0_A_7 c i a2 h2 a3 h3 a4 h4 a5 h5 a6 h6 a7 h7 a8 h8 a9 h9 a10 h10 c0 x0 x1 x2 x3 x4 = k0_pay11 (k0_pay6 x1) x3 (k0_pay9 x0) (k0_pay3 (F := F)) := by
  unfold out0_A_7
  rw [View.read_writes_eq_canon _ _ _ (cover0_A_7 c i a2 h2 a3 h3 a4 h4 a5 h5 a6 h6 a7 h7 a8 h8 a9 h9 a10 h10 c0 x0 x1 x2 x3 x4)]
  unfold kernelRun0_A
  dsimp only
  sl_unfold_words
  rw [View.canon_cons_unit_zero (S := S1x1x1024) zeros3]
  simp only [View.readCov_unit_zero (S := S1x1x1024) _ zeros3]
  simp only [View.readAt_eq_ld, h2.read_unread, h3.read_unread, h4.read_unread, h5.read_unread, h6.read_unread, h7.read_unread, h8.read_unread, h9.read_unread, h10.read_unread, View.ld_unit_zero (S := S1x512x1024) zeros3, View.ld_unit_zero (S := S1x1x1024) zeros3, View.ld_unit_zero (S := S1x1024) zeros]
theorem out_A_8 (c0 : cond0_0 i) : out0_A_8 c i a2 h2 a3 h3 a4 h4 a5 h5 a6 h6 a7 h7 a8 h8 a9 h9 a10 h10 c0 x0 x1 x2 x3 x4 = k0_pay12 (k0_pay6 x1) (k0_pay7 x4) (k0_pay9 x0) (k0_pay4 (F := F)) := by
  unfold out0_A_8
  rw [View.read_writes_eq_canon _ _ _ (cover0_A_8 c i a2 h2 a3 h3 a4 h4 a5 h5 a6 h6 a7 h7 a8 h8 a9 h9 a10 h10 c0 x0 x1 x2 x3 x4)]
  unfold kernelRun0_A
  dsimp only
  sl_unfold_words
  rw [View.canon_cons_unit_zero (S := S1x1x1024) zeros3]
  simp only [View.readCov_unit_zero (S := S1x1x1024) _ zeros3]
  simp only [View.readAt_eq_ld, h2.read_unread, h3.read_unread, h4.read_unread, h5.read_unread, h6.read_unread, h7.read_unread, h8.read_unread, h9.read_unread, h10.read_unread, View.ld_unit_zero (S := S1x512x1024) zeros3, View.ld_unit_zero (S := S1x1x1024) zeros3, View.ld_unit_zero (S := S1x1024) zeros]
theorem out_B_5 (c0 : ¬cond0_0 i) (o6 : Vec F S1x1x1024 .f32) (o7 : Vec F S1x1x1024 .f32) (o8 : Vec F S1x1x1024 .f32) : out0_B_5 c i a2 h2 a3 h3 a4 h4 a5 h5 a6 h6 a7 h7 a8 h8 a9 h9 a10 h10 c0 x0 x1 x2 x3 x4 o6 o7 o8 = k0_pay1 (grad x0 x1 x2 x3 x4) := by
  unfold out0_B_5
  rw [View.read_writes_eq_canon _ _ _ (cover0_B_5 c i a2 h2 a3 h3 a4 h4 a5 h5 a6 h6 a7 h7 a8 h8 a9 h9 a10 h10 c0 x0 x1 x2 x3 x4 o6 o7 o8)]
  unfold kernelRun0_B
  dsimp only
  sl_unfold_words
  rw [View.canon_unit_zero zeros3]
  simp only [View.readAt_eq_ld, h2.read_unread, h3.read_unread, h4.read_unread, h5.read_unread, h6.read_unread, h7.read_unread, h8.read_unread, h9.read_unread, h10.read_unread, View.ld_unit_zero (S := S1x512x1024) zeros3, View.ld_unit_zero (S := S1x1x1024) zeros3, View.ld_unit_zero (S := S1x1024) zeros]
theorem out_B_6 (c0 : ¬cond0_0 i) (o6 : Vec F S1x1x1024 .f32) (o7 : Vec F S1x1x1024 .f32) (o8 : Vec F S1x1x1024 .f32) : out0_B_6 c i a2 h2 a3 h3 a4 h4 a5 h5 a6 h6 a7 h7 a8 h8 a9 h9 a10 h10 c0 x0 x1 x2 x3 x4 o6 o7 o8 = k0_pay10 x1 o6 := by
  unfold out0_B_6
  rw [View.read_writes_eq_canon _ _ _ (cover0_B_6 c i a2 h2 a3 h3 a4 h4 a5 h5 a6 h6 a7 h7 a8 h8 a9 h9 a10 h10 c0 x0 x1 x2 x3 x4 o6 o7 o8)]
  unfold kernelRun0_B
  dsimp only
  sl_unfold_words
  rw [View.canon_unit_zero zeros3]
  simp only [View.readAt_eq_ld, h2.read_unread, h3.read_unread, h4.read_unread, h5.read_unread, h6.read_unread, h7.read_unread, h8.read_unread, h9.read_unread, h10.read_unread, View.ld_unit_zero (S := S1x512x1024) zeros3, View.ld_unit_zero (S := S1x1x1024) zeros3, View.ld_unit_zero (S := S1x1024) zeros]
theorem out_B_7 (c0 : ¬cond0_0 i) (o6 : Vec F S1x1x1024 .f32) (o7 : Vec F S1x1x1024 .f32) (o8 : Vec F S1x1x1024 .f32) : out0_B_7 c i a2 h2 a3 h3 a4 h4 a5 h5 a6 h6 a7 h7 a8 h8 a9 h9 a10 h10 c0 x0 x1 x2 x3 x4 o6 o7 o8 = k0_pay11 (k0_pay6 x1) x3 (k0_pay9 x0) o7 := by
  unfold out0_B_7
  rw [View.read_writes_eq_canon _ _ _ (cover0_B_7 c i a2 h2 a3 h3 a4 h4 a5 h5 a6 h6 a7 h7 a8 h8 a9 h9 a10 h10 c0 x0 x1 x2 x3 x4 o6 o7 o8)]
  unfold kernelRun0_B
  dsimp only
  sl_unfold_words
  rw [View.canon_unit_zero zeros3]
  simp only [View.readAt_eq_ld, h2.read_unread, h3.read_unread, h4.read_unread, h5.read_unread, h6.read_unread, h7.read_unread, h8.read_unread, h9.read_unread, h10.read_unread, View.ld_unit_zero (S := S1x512x1024) zeros3, View.ld_unit_zero (S := S1x1x1024) zeros3, View.ld_unit_zero (S := S1x1024) zeros]
theorem out_B_8 (c0 : ¬cond0_0 i) (o6 : Vec F S1x1x1024 .f32) (o7 : Vec F S1x1x1024 .f32) (o8 : Vec F S1x1x1024 .f32) : out0_B_8 c i a2 h2 a3 h3 a4 h4 a5 h5 a6 h6 a7 h7 a8 h8 a9 h9 a10 h10 c0 x0 x1 x2 x3 x4 o6 o7 o8 = k0_pay12 (k0_pay6 x1) (k0_pay7 x4) (k0_pay9 x0) o8 := by
  unfold out0_B_8
  rw [View.read_writes_eq_canon _ _ _ (cover0_B_8 c i a2 h2 a3 h3 a4 h4 a5 h5 a6 h6 a7 h7 a8 h8 a9 h9 a10 h10 c0 x0 x1 x2 x3 x4 o6 o7 o8)]
  unfold kernelRun0_B
  dsimp only
  sl_unfold_words
  rw [View.canon_unit_zero zeros3]
  simp only [View.readAt_eq_ld, h2.read_unread, h3.read_unread, h4.read_unread, h5.read_unread, h6.read_unread, h7.read_unread, h8.read_unread, h9.read_unread, h10.read_unread, View.ld_unit_zero (S := S1x512x1024) zeros3, View.ld_unit_zero (S := S1x1x1024) zeros3, View.ld_unit_zero (S := S1x1024) zeros]
end Run

/-! ## Over the extended reals -/

section Apply
variable (x0 x1 x2 : Vec Ideal S1x512x1024 .f32) (x3 : Vec Ideal S1x1024 .f32) (x4 : Vec Ideal S1x1x1024 .f32) (o : Vec Ideal S1x1x1024 .f32)

theorem norm_apply (p : Fin 512) (n : Fin 1024) : k0_pay9 (F := Ideal) x0 (ix2 p n) = x0 (ix3 0 p n) * rms (fun d => x0 (ix3 0 p d)) := by
  unfold rms spread
  pointwise [k0_pay9, k0_pay8, k0_pay5]
theorem root_apply (p : Fin 512) : k0_pay8 (F := Ideal) x0 (ix2 p 0) = rms (fun d => x0 (ix3 0 p d)) := by
  unfold rms spread
  pointwise [k0_pay8, k0_pay5]
theorem tile_apply (p : Fin 512) (n : Fin 1024) : k0_pay6 (F := Ideal) x1 (ix2 p n) = x1 (ix3 0 p n) := by
  pointwise [k0_pay6]
theorem scale_apply (n : Fin 1024) : k0_pay7 (F := Ideal) x4 (ix2 0 n) = 1 + x4 (ix3 0 0 n) := by
  pointwise [k0_pay7]
theorem grad_apply (p : Fin 512) (n : Fin 1024) :
    grad (F := Ideal) x0 x1 x2 x3 x4 (ix2 p n)
      = x2 (ix3 0 p n) + callDx (fun d => x0 (ix3 0 p d)) (fun d => x1 (ix3 0 p d) * (x3 (ix2 0 d) * (1 + x4 (ix3 0 0 d)))) n := by
  unfold callDx
  pointwise [grad, k0_pay13, norm_apply, root_apply, tile_apply, scale_apply]
theorem zero_6 (n : Fin 1024) : k0_pay2 (F := Ideal) (ix3 0 0 n) = 0 := by
  pointwise [k0_pay2]
theorem zero_7 (n : Fin 1024) : k0_pay3 (F := Ideal) (ix3 0 0 n) = 0 := by
  pointwise [k0_pay3]
theorem zero_8 (n : Fin 1024) : k0_pay4 (F := Ideal) (ix3 0 0 n) = 0 := by
  pointwise [k0_pay4]
theorem store_apply (v : FVec Ideal S512x1024 .f32) (p : Fin 512) (n : Fin 1024) : k0_pay1 (F := Ideal) v (ix3 0 p n) = v (ix2 p n) := by
  pointwise [k0_pay1]
theorem more_6 (n : Fin 1024) : k0_pay10 (F := Ideal) x1 o (ix3 0 0 n) = o (ix3 0 0 n) + ∑ p : Fin 512, x1 (ix3 0 p n) := by
  pointwise [k0_pay10, tile_apply]
theorem more_7 (n : Fin 1024) : k0_pay11 (F := Ideal) (k0_pay6 x1) x3 (k0_pay9 x0) o (ix3 0 0 n)
    = o (ix3 0 0 n) + ∑ p : Fin 512, x1 (ix3 0 p n) * (x0 (ix3 0 p n) * rms (fun d => x0 (ix3 0 p d)) * x3 (ix2 0 n)) := by
  pointwise [k0_pay11, tile_apply, norm_apply]
theorem more_8 (n : Fin 1024) : k0_pay12 (F := Ideal) (k0_pay6 x1) (k0_pay7 x4) (k0_pay9 x0) o (ix3 0 0 n)
    = o (ix3 0 0 n) + ∑ p : Fin 512, x1 (ix3 0 p n) * (1 + x4 (ix3 0 0 n)) * (x0 (ix3 0 p n) * rms (fun d => x0 (ix3 0 p d))) := by
  pointwise [k0_pay12, tile_apply, norm_apply, scale_apply]
end Apply

variable (m : (ℓ : Loc nD τ sig) → Buf (Elt Ideal) ℓ) (c : Dev nD)

/-- The arguments. -/
abbrev X : FVec Ideal S4x2048x1024 .f32 := m (c.tc.loc main_arg0)
abbrev DH : FVec Ideal S4x2048x1024 .f32 := m (c.tc.loc main_arg1)
abbrev DR : FVec Ideal S4x2048x1024 .f32 := m (c.tc.loc main_arg2)
abbrev GN : FVec Ideal S1x1024 .f32 := m (c.tc.loc main_arg3)
abbrev SC : FVec Ideal S4x1x1024 .f32 := m (c.tc.loc main_arg4)

theorem point_lt (t : Fin cfg0.N) : t.val < 16 := lt_of_lt_of_eq t.isLt (show cfg0.N = 16 from N_0)
theorem row_val (t : Fin cfg0.N) (p : Fin 512) : (row (512 * (t.val % 4) + p.val)).val = 512 * (t.val % 4) + p.val :=
  Nat.mod_eq_of_lt (by omega)
theorem seq_val (t : Fin cfg0.N) : (seq (t.val / 4)).val = t.val / 4 :=
  Nat.mod_eq_of_lt (by have := point_lt t; omega)

theorem index0 : ∀ t : Fin cfg0.N, win0_0.index t = ![t.val / 4, t.val % 4, 0] := by decide +kernel
theorem index1 : ∀ t : Fin cfg0.N, win0_1.index t = ![t.val / 4, t.val % 4, 0] := by decide +kernel
theorem index2 : ∀ t : Fin cfg0.N, win0_2.index t = ![t.val / 4, t.val % 4, 0] := by decide +kernel
theorem index3 : ∀ t : Fin cfg0.N, win0_3.index t = ![0, 0] := by decide +kernel
theorem index4 : ∀ t : Fin cfg0.N, win0_4.index t = ![t.val / 4, 0, 0] := by decide +kernel
theorem index5 : ∀ t : Fin cfg0.N, win0_5.index t = ![t.val / 4, t.val % 4, 0] := by decide +kernel
theorem index6 : ∀ t : Fin cfg0.N, win0_6.index t = ![t.val / 4, 0, 0] := by decide +kernel
theorem index7 : ∀ t : Fin cfg0.N, win0_7.index t = ![t.val / 4, 0, 0] := by decide +kernel
theorem index8 : ∀ t : Fin cfg0.N, win0_8.index t = ![t.val / 4, 0, 0] := by decide +kernel
theorem flush6 : ∀ t : Fin cfg0.N, (cfg0.win 6).flush t = true → t.val % 4 = 3 := by decide +kernel
theorem flush7 : ∀ t : Fin cfg0.N, (cfg0.win 7).flush t = true → t.val % 4 = 3 := by decide +kernel
theorem flush8 : ∀ t : Fin cfg0.N, (cfg0.win 8).flush t = true → t.val % 4 = 3 := by decide +kernel

/-- A point's blocks of them. -/
abbrev bX (t : Fin cfg0.N) : FVec Ideal S1x512x1024 .f32 := iblk m c 0 t
abbrev bDH (t : Fin cfg0.N) : FVec Ideal S1x512x1024 .f32 := iblk m c 1 t
abbrev bDR (t : Fin cfg0.N) : FVec Ideal S1x512x1024 .f32 := iblk m c 2 t
abbrev bGN (t : Fin cfg0.N) : FVec Ideal S1x1024 .f32 := iblk m c 3 t
abbrev bSC (t : Fin cfg0.N) : FVec Ideal S1x1x1024 .f32 := iblk m c 4 t

theorem block0 (t : Fin cfg0.N) (p : Fin 512) (d : Fin 1024) :
    bX m c t (ix3 0 p d) = X m c (ix3 (seq (t.val / 4)) (row (512 * (t.val % 4) + p.val)) d) := by
  have e := row_val t p
  have e' := seq_val t
  blk_ext! [bX, iblk, V, index0, e, e']
theorem block1 (t : Fin cfg0.N) (p : Fin 512) (d : Fin 1024) :
    bDH m c t (ix3 0 p d) = DH m c (ix3 (seq (t.val / 4)) (row (512 * (t.val % 4) + p.val)) d) := by
  have e := row_val t p
  have e' := seq_val t
  blk_ext! [bDH, iblk, V, index1, e, e']
theorem block2 (t : Fin cfg0.N) (p : Fin 512) (d : Fin 1024) :
    bDR m c t (ix3 0 p d) = DR m c (ix3 (seq (t.val / 4)) (row (512 * (t.val % 4) + p.val)) d) := by
  have e := row_val t p
  have e' := seq_val t
  blk_ext! [bDR, iblk, V, index2, e, e']
theorem block3 (t : Fin cfg0.N) (n : Fin 1024) : bGN m c t (ix2 0 n) = GN m c (ix2 0 n) := by
  blk_ext! [bGN, iblk, V, index3]
theorem block4 (t : Fin cfg0.N) (n : Fin 1024) : bSC m c t (ix3 0 0 n) = SC m c (ix3 (seq (t.val / 4)) 0 n) := by
  have e' := seq_val t
  blk_ext! [bSC, iblk, V, index4, e']

/-! ## What the call puts where -/

/-- Row `r` of sequence `b`; the gradient that reaches its norm. -/
abbrev xrow (b : Fin 4) (r : Fin 2048) : Fin 1024 → EReal := fun d => X m c (ix3 b r d)
abbrev erow (b : Fin 4) (r : Fin 2048) : Fin 1024 → EReal := fun d => DH m c (ix3 b r d) * (GN m c (ix2 0 d) * (1 + SC m c (ix3 b 0 d)))

/-- The gradient at a place, and each sum's term. -/
def at5 (b : Fin 4) (r : Fin 2048) (n : Fin 1024) : EReal := DR m c (ix3 b r n) + callDx (xrow m c b r) (erow m c b r) n
def at6 (b : Fin 4) (r : Fin 2048) (n : Fin 1024) : EReal := DH m c (ix3 b r n)
def at7 (b : Fin 4) (r : Fin 2048) (n : Fin 1024) : EReal := DH m c (ix3 b r n) * (X m c (ix3 b r n) * rms (xrow m c b r) * GN m c (ix2 0 n))
def at8 (b : Fin 4) (r : Fin 2048) (n : Fin 1024) : EReal := DH m c (ix3 b r n) * (1 + SC m c (ix3 b 0 n)) * (X m c (ix3 b r n) * rms (xrow m c b r))

theorem row_block (t : Fin cfg0.N) (p : Fin 512) : (fun d => bX m c t (ix3 0 p d)) = xrow m c (seq (t.val / 4)) (row (512 * (t.val % 4) + p.val)) :=
  funext fun d => block0 m c t p d
theorem grad_point (t : Fin cfg0.N) (p : Fin 512) (n : Fin 1024) :
    grad (F := Ideal) (bX m c t) (bDH m c t) (bDR m c t) (bGN m c t) (bSC m c t) (ix2 p n) = at5 m c (seq (t.val / 4)) (row (512 * (t.val % 4) + p.val)) n := by
  rw [grad_apply, block2, row_block]
  unfold at5
  congr 2
  exact funext fun d => by rw [block1, block3, block4]
theorem term7 (t : Fin cfg0.N) (p : Fin 512) (n : Fin 1024) :
    bDH m c t (ix3 0 p n) * (bX m c t (ix3 0 p n) * rms (fun d => bX m c t (ix3 0 p d)) * bGN m c t (ix2 0 n)) = at7 m c (seq (t.val / 4)) (row (512 * (t.val % 4) + p.val)) n := by
  rw [block1, row_block, block0, block3]
  rfl
theorem term8 (t : Fin cfg0.N) (p : Fin 512) (n : Fin 1024) :
    bDH m c t (ix3 0 p n) * (1 + bSC m c t (ix3 0 0 n)) * (bX m c t (ix3 0 p n) * rms (fun d => bX m c t (ix3 0 p d))) = at8 m c (seq (t.val / 4)) (row (512 * (t.val % 4) + p.val)) n := by
  rw [block1, row_block, block0, block4]
  rfl
theorem point5 (t : Fin cfg0.N) (p : Fin 512) (n : Fin 1024) :
    ((outsAt0 m c t.val t.isLt).1 : FVec Ideal S1x512x1024 .f32) (ix3 0 p n) = at5 m c (seq (t.val / 4)) (row (512 * (t.val % 4) + p.val)) n := by
  by_cases h : t.val % 4 = 0
  · rw [outsAt0_A m c t h]
    dsimp only
    rw [out_A_5]
    exact (store_apply _ p n).trans (grad_point m c t p n)
  · rw [outsAt0_B m c t h]
    dsimp only
    rw [out_B_5]
    exact (store_apply _ p n).trans (grad_point m c t p n)
/-- The accumulator of result 1 after a point. -/
abbrev acc6 (t : ℕ) (ht : t < cfg0.N) : FVec Ideal S1x1x1024 .f32 := (outsAt0 m c t ht).2.1
theorem first6 (t : Fin cfg0.N) (h : t.val % 4 = 0) (n : Fin 1024) :
    acc6 m c t.val t.isLt (ix3 0 0 n) = 0 + ∑ p : Fin 512, at6 m c (seq (t.val / 4)) (row (512 * (t.val % 4) + p.val)) n := by
  unfold acc6
  rw [outsAt0_A m c t h]
  dsimp only
  rw [out_A_6]
  refine (more_6 _ _ n).trans (congrArg₂ (· + ·) (zero_6 n) (Finset.sum_congr rfl fun p _ => ?_))
  exact block1 m c t p n
theorem next6 (t : Fin cfg0.N) (h : ¬t.val % 4 = 0) (n : Fin 1024) :
    acc6 m c t.val t.isLt (ix3 0 0 n) = acc6 m c (t.val - 1) (Nat.lt_of_le_of_lt (Nat.sub_le _ _) t.isLt) (ix3 0 0 n)
      + ∑ p : Fin 512, at6 m c (seq (t.val / 4)) (row (512 * (t.val % 4) + p.val)) n := by
  unfold acc6
  rw [outsAt0_B m c t h]
  dsimp only
  rw [out_B_6]
  refine (more_6 _ _ n).trans (congrArg _ (Finset.sum_congr rfl fun p _ => ?_))
  exact block1 m c t p n
theorem last6 (t : Fin cfg0.N) (h : t.val % 4 = 3) (n : Fin 1024) :
    acc6 m c t.val t.isLt (ix3 0 0 n) = ∑ r : Fin 2048, at6 m c (seq (t.val / 4)) r n :=
  runs_last (fun t ht => acc6 m c t ht (ix3 0 0 n)) (fun b r => at6 m c (seq b) r n) (fun t ht h => first6 m c ⟨t, ht⟩ h n)
    (fun t ht h => next6 m c ⟨t, ht⟩ h n) t.val t.isLt h
/-- The accumulator of result 2 after a point. -/
abbrev acc7 (t : ℕ) (ht : t < cfg0.N) : FVec Ideal S1x1x1024 .f32 := (outsAt0 m c t ht).2.2.1
theorem first7 (t : Fin cfg0.N) (h : t.val % 4 = 0) (n : Fin 1024) :
    acc7 m c t.val t.isLt (ix3 0 0 n) = 0 + ∑ p : Fin 512, at7 m c (seq (t.val / 4)) (row (512 * (t.val % 4) + p.val)) n := by
  unfold acc7
  rw [outsAt0_A m c t h]
  dsimp only
  rw [out_A_7]
  refine (more_7 _ _ _ _ n).trans (congrArg₂ (· + ·) (zero_7 n) (Finset.sum_congr rfl fun p _ => ?_))
  exact term7 m c t p n
theorem next7 (t : Fin cfg0.N) (h : ¬t.val % 4 = 0) (n : Fin 1024) :
    acc7 m c t.val t.isLt (ix3 0 0 n) = acc7 m c (t.val - 1) (Nat.lt_of_le_of_lt (Nat.sub_le _ _) t.isLt) (ix3 0 0 n)
      + ∑ p : Fin 512, at7 m c (seq (t.val / 4)) (row (512 * (t.val % 4) + p.val)) n := by
  unfold acc7
  rw [outsAt0_B m c t h]
  dsimp only
  rw [out_B_7]
  refine (more_7 _ _ _ _ n).trans (congrArg _ (Finset.sum_congr rfl fun p _ => ?_))
  exact term7 m c t p n
theorem last7 (t : Fin cfg0.N) (h : t.val % 4 = 3) (n : Fin 1024) :
    acc7 m c t.val t.isLt (ix3 0 0 n) = ∑ r : Fin 2048, at7 m c (seq (t.val / 4)) r n :=
  runs_last (fun t ht => acc7 m c t ht (ix3 0 0 n)) (fun b r => at7 m c (seq b) r n) (fun t ht h => first7 m c ⟨t, ht⟩ h n)
    (fun t ht h => next7 m c ⟨t, ht⟩ h n) t.val t.isLt h
/-- The accumulator of result 3 after a point. -/
abbrev acc8 (t : ℕ) (ht : t < cfg0.N) : FVec Ideal S1x1x1024 .f32 := (outsAt0 m c t ht).2.2.2
theorem first8 (t : Fin cfg0.N) (h : t.val % 4 = 0) (n : Fin 1024) :
    acc8 m c t.val t.isLt (ix3 0 0 n) = 0 + ∑ p : Fin 512, at8 m c (seq (t.val / 4)) (row (512 * (t.val % 4) + p.val)) n := by
  unfold acc8
  rw [outsAt0_A m c t h]
  dsimp only
  rw [out_A_8]
  refine (more_8 _ _ _ _ n).trans (congrArg₂ (· + ·) (zero_8 n) (Finset.sum_congr rfl fun p _ => ?_))
  exact term8 m c t p n
theorem next8 (t : Fin cfg0.N) (h : ¬t.val % 4 = 0) (n : Fin 1024) :
    acc8 m c t.val t.isLt (ix3 0 0 n) = acc8 m c (t.val - 1) (Nat.lt_of_le_of_lt (Nat.sub_le _ _) t.isLt) (ix3 0 0 n)
      + ∑ p : Fin 512, at8 m c (seq (t.val / 4)) (row (512 * (t.val % 4) + p.val)) n := by
  unfold acc8
  rw [outsAt0_B m c t h]
  dsimp only
  rw [out_B_8]
  refine (more_8 _ _ _ _ n).trans (congrArg _ (Finset.sum_congr rfl fun p _ => ?_))
  exact term8 m c t p n
theorem last8 (t : Fin cfg0.N) (h : t.val % 4 = 3) (n : Fin 1024) :
    acc8 m c t.val t.isLt (ix3 0 0 n) = ∑ r : Fin 2048, at8 m c (seq (t.val / 4)) r n :=
  runs_last (fun t ht => acc8 m c t ht (ix3 0 0 n)) (fun b r => at8 m c (seq b) r n) (fun t ht h => first8 m c ⟨t, ht⟩ h n)
    (fun t ht h => next8 m c ⟨t, ht⟩ h n) t.val t.isLt h

/-! ## The arrays after the run -/

theorem eq_tile (y : S1x512x1024.Idx) : y = ix3 0 (y 1) (y 2) := by
  funext a
  fin_cases a
  · exact Fin.ext (Nat.lt_one_iff.mp (y 0).isLt)
  · rfl
  · rfl
theorem eq_line (y : S1x1x1024.Idx) : y = ix3 0 0 (y 2) := by
  funext a
  fin_cases a
  · exact Fin.ext (Nat.lt_one_iff.mp (y 0).isLt)
  · exact Fin.ext (Nat.lt_one_iff.mp (y 1).isLt)
  · rfl

theorem array5 : ((dats m 0 c).arrAt 5 cfg0.N : FVec Ideal S4x2048x1024 .f32) = fun i => at5 m c (i 0) (i 1) (i 2) := by
  refine (dats m 0 c).arrAt_eq_of_covers 5 _ (by decide +kernel) fun t hf y => ?_
  blk_simp [index5]
  rw [after0_5]
  refine (congrArg ((outsAt0 m c t.val t.isLt).1 : FVec Ideal S1x512x1024 .f32) (eq_tile y)).trans ((point5 m c t (y 1) (y 2)).trans ?_)
  have e0 : (y 0).val = 0 := Nat.lt_one_iff.mp (show (y 0).val < 1 from (y 0).isLt)
  congr 1
  · exact Fin.ext ((seq_val t).trans (by blk_simp [index5, e0]))
  · exact Fin.ext ((row_val t (y 1)).trans (by blk_simp [index5]; exact congrArg (· + _) (Nat.mul_comm _ _)))
  · exact Fin.ext (by blk_simp [index5])
theorem array6 : ((dats m 0 c).arrAt 6 cfg0.N : FVec Ideal S4x1x1024 .f32) = fun i => ∑ r : Fin 2048, at6 m c (i 0) r (i 2) := by
  refine (dats m 0 c).arrAt_eq_of_covers 6 _ (by decide +kernel) fun t hf y => ?_
  blk_simp [index6]
  rw [after0_6]
  refine (congrArg (acc6 m c t.val t.isLt) (eq_line y)).trans ((last6 m c t (flush6 t hf) (y 2)).trans ?_)
  have e0 : (y 0).val = 0 := Nat.lt_one_iff.mp (show (y 0).val < 1 from (y 0).isLt)
  refine Finset.sum_congr rfl fun r _ => ?_
  congr 1
  · exact Fin.ext ((seq_val t).trans (by blk_simp [index6, e0]))
  · exact Fin.ext (by blk_simp [index6])
theorem array7 : ((dats m 0 c).arrAt 7 cfg0.N : FVec Ideal S4x1x1024 .f32) = fun i => ∑ r : Fin 2048, at7 m c (i 0) r (i 2) := by
  refine (dats m 0 c).arrAt_eq_of_covers 7 _ (by decide +kernel) fun t hf y => ?_
  blk_simp [index7]
  rw [after0_7]
  refine (congrArg (acc7 m c t.val t.isLt) (eq_line y)).trans ((last7 m c t (flush7 t hf) (y 2)).trans ?_)
  have e0 : (y 0).val = 0 := Nat.lt_one_iff.mp (show (y 0).val < 1 from (y 0).isLt)
  refine Finset.sum_congr rfl fun r _ => ?_
  congr 1
  · exact Fin.ext ((seq_val t).trans (by blk_simp [index7, e0]))
  · exact Fin.ext (by blk_simp [index7])
theorem array8 : ((dats m 0 c).arrAt 8 cfg0.N : FVec Ideal S4x1x1024 .f32) = fun i => ∑ r : Fin 2048, at8 m c (i 0) r (i 2) := by
  refine (dats m 0 c).arrAt_eq_of_covers 8 _ (by decide +kernel) fun t hf y => ?_
  blk_simp [index8]
  rw [after0_8]
  refine (congrArg (acc8 m c t.val t.isLt) (eq_line y)).trans ((last8 m c t (flush8 t hf) (y 2)).trans ?_)
  have e0 : (y 0).val = 0 := Nat.lt_one_iff.mp (show (y 0).val < 1 from (y 0).isLt)
  refine Finset.sum_congr rfl fun r _ => ?_
  congr 1
  · exact Fin.ext ((seq_val t).trans (by blk_simp [index8, e0]))
  · exact Fin.ext (by blk_simp [index8])

end Cert.NormBwdPlain

namespace Cert.NormBwdPlain
open Idealize.ShloMosaic Idealize.ShloMosaic.TcCoe Idealize.ShloMosaic.Tactic
open Cert.NormReal
open Cert.Reference19Ideal Cert.Reference19Ideal.Gen

section Reference
variable (x dh dr : FVec Ideal S4x2048x1024 .f32) (gn : FVec Ideal S1x1024 .f32) (sc : FVec Ideal S4x1x1024 .f32)

/-- The reference's results. -/
def out0 (x : FVec Ideal S4x2048x1024 .f32) (dh : FVec Ideal S4x2048x1024 .f32) (dr : FVec Ideal S4x2048x1024 .f32) (gn : FVec Ideal S1x1024 .f32) (sc : FVec Ideal S4x1x1024 .f32) : FVec Ideal S4x2048x1024 .f32 :=
  addf dr (addf (addf (mulf (mulf (mulf (shapeCast _ dh shapeCasts_S4x2048x1024_S4x2048x1024) (broadcastInDim S4x2048x1024 ![0, 1, 2] bcast_S4x1x1024_S4x2048x1024_0_1_2 (addf (broadcastInDim S4x1x1024 ![] bcast_S_S4x1x1024 (constant S_ .f32 0x3F800000#32)) sc))) (broadcastInDim S4x2048x1024 ![0, 1, 2] bcast_S4x1x1024_S4x2048x1024_0_1_2 (broadcastInDim S4x1x1024 ![1, 2] bcast_S1x1024_S4x1x1024_1_2 gn))) (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf x x) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (mulf x (broadcastInDim S4x2048x1024 ![0, 1] bcast_S4x2048_S4x2048x1024_0_1 (Host.reduceAdd (Host.divf (mulf (shapeCast _ (Host.reduceAdd (mulf x (mulf (mulf (shapeCast _ dh shapeCasts_S4x2048x1024_S4x2048x1024) (broadcastInDim S4x2048x1024 ![0, 1, 2] bcast_S4x1x1024_S4x2048x1024_0_1_2 (addf (broadcastInDim S4x1x1024 ![] bcast_S_S4x1x1024 (constant S_ .f32 0x3F800000#32)) sc))) (broadcastInDim S4x2048x1024 ![0, 1, 2] bcast_S4x1x1024_S4x2048x1024_0_1_2 (broadcastInDim S4x1x1024 ![1, 2] bcast_S1x1024_S4x1x1024_1_2 gn)))) (constant S_ .f32 0x00000000#32) reducesTo_S4x2048x1024_S4x2048_d2 h_S_) shapeCasts_S4x2048_S4x2048x1) (mulf (broadcastInDim S4x2048x1 ![] bcast_S_S4x2048x1 (constant S_ .f32 0xBF000000#32)) (Host.divf (Host.rsqrt (addf (Host.divf (broadcastInDim S4x2048x1 ![0, 1] bcast_S4x2048_S4x2048x1_0_1 (Host.reduceAdd (mulf x x) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))) (addf (Host.divf (broadcastInDim S4x2048x1 ![0, 1] bcast_S4x2048_S4x2048x1_0_1 (Host.reduceAdd (mulf x x) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1 ![] bcast_S_S4x2048x1 (constant S_ .f32 0x44800000#32))) (constant S_ .f32 0x00000000#32) reducesTo_S4x2048x1_S4x2048_d2 h_S_)))) (mulf (broadcastInDim S4x2048x1024 ![0, 1] bcast_S4x2048_S4x2048x1024_0_1 (Host.reduceAdd (Host.divf (mulf (shapeCast _ (Host.reduceAdd (mulf x (mulf (mulf (shapeCast _ dh shapeCasts_S4x2048x1024_S4x2048x1024) (broadcastInDim S4x2048x1024 ![0, 1, 2] bcast_S4x1x1024_S4x2048x1024_0_1_2 (addf (broadcastInDim S4x1x1024 ![] bcast_S_S4x1x1024 (constant S_ .f32 0x3F800000#32)) sc))) (broadcastInDim S4x2048x1024 ![0, 1, 2] bcast_S4x1x1024_S4x2048x1024_0_1_2 (broadcastInDim S4x1x1024 ![1, 2] bcast_S1x1024_S4x1x1024_1_2 gn)))) (constant S_ .f32 0x00000000#32) reducesTo_S4x2048x1024_S4x2048_d2 h_S_) shapeCasts_S4x2048_S4x2048x1) (mulf (broadcastInDim S4x2048x1 ![] bcast_S_S4x2048x1 (constant S_ .f32 0xBF000000#32)) (Host.divf (Host.rsqrt (addf (Host.divf (broadcastInDim S4x2048x1 ![0, 1] bcast_S4x2048_S4x2048x1_0_1 (Host.reduceAdd (mulf x x) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))) (addf (Host.divf (broadcastInDim S4x2048x1 ![0, 1] bcast_S4x2048_S4x2048x1_0_1 (Host.reduceAdd (mulf x x) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1 ![] bcast_S_S4x2048x1 (constant S_ .f32 0x44800000#32))) (constant S_ .f32 0x00000000#32) reducesTo_S4x2048x1_S4x2048_d2 h_S_)) x))
def out1 (dh : FVec Ideal S4x2048x1024 .f32) : FVec Ideal S4x1x1024 .f32 :=
  shapeCast _ (Host.reduceAdd dh (constant S_ .f32 0x00000000#32) reducesTo_S4x2048x1024_S4x1024_d1 h_S_) shapeCasts_S4x1024_S4x1x1024
def out2 (x : FVec Ideal S4x2048x1024 .f32) (dh : FVec Ideal S4x2048x1024 .f32) (gn : FVec Ideal S1x1024 .f32) : FVec Ideal S4x1x1024 .f32 :=
  shapeCast _ (Host.reduceAdd (mulf (mulf (mulf x (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf x x) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1024 ![0, 1, 2] bcast_S4x1x1024_S4x2048x1024_0_1_2 (broadcastInDim S4x1x1024 ![1, 2] bcast_S1x1024_S4x1x1024_1_2 gn))) (shapeCast _ dh shapeCasts_S4x2048x1024_S4x2048x1024)) (constant S_ .f32 0x00000000#32) reducesTo_S4x2048x1024_S4x1024_d1 h_S_) shapeCasts_S4x1024_S4x1x1024
def out3 (x : FVec Ideal S4x2048x1024 .f32) (dh : FVec Ideal S4x2048x1024 .f32) (sc : FVec Ideal S4x1x1024 .f32) : FVec Ideal S4x1x1024 .f32 :=
  shapeCast _ (Host.reduceAdd (mulf (mulf x (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf x x) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (mulf (shapeCast _ dh shapeCasts_S4x2048x1024_S4x2048x1024) (broadcastInDim S4x2048x1024 ![0, 1, 2] bcast_S4x1x1024_S4x2048x1024_0_1_2 (addf (broadcastInDim S4x1x1024 ![] bcast_S_S4x1x1024 (constant S_ .f32 0x3F800000#32)) sc)))) (constant S_ .f32 0x00000000#32) reducesTo_S4x2048x1024_S4x1024_d1 h_S_) shapeCasts_S4x1024_S4x1x1024

theorem out0_apply (b : Fin 4) (r : Fin 2048) (n : Fin 1024) : out0 x dh dr gn sc (ix3 b r n)
    = dr (ix3 b r n) + pullDx (fun d => x (ix3 b r d)) (fun d => dh (ix3 b r d) * (1 + sc (ix3 b 0 d)) * gn (ix2 0 d)) n := by
  unfold out0 pullDx pull rms spread
  pointwise
  simp only [Fin.sum_univ_one]
theorem out1_apply (b : Fin 4) (n : Fin 1024) : out1 dh (ix3 b 0 n) = ∑ r : Fin 2048, dh (ix3 b r n) := by
  unfold out1
  pointwise
theorem out2_apply (b : Fin 4) (n : Fin 1024) : out2 x dh gn (ix3 b 0 n)
    = ∑ r : Fin 2048, x (ix3 b r n) * rms (fun d => x (ix3 b r d)) * gn (ix2 0 n) * dh (ix3 b r n) := by
  unfold out2 rms spread
  pointwise
theorem out3_apply (b : Fin 4) (n : Fin 1024) : out3 x dh sc (ix3 b 0 n)
    = ∑ r : Fin 2048, x (ix3 b r n) * rms (fun d => x (ix3 b r d)) * (dh (ix3 b r n) * (1 + sc (ix3 b 0 n))) := by
  unfold out3 rms spread
  pointwise
end Reference

/-! ## The call's arrays are the reference's results -/

variable (m : (ℓ : Loc Cert.Kernel19Ideal.nD Cert.Kernel19Ideal.τ Cert.Kernel19Ideal.sig) → Buf (Elt Ideal) ℓ) (c : Dev 1)

theorem eq_line4 (y : S4x1x1024.Idx) : y = ix3 (y 0) 0 (y 2) := by
  funext a
  fin_cases a
  · rfl
  · exact Fin.ext (Nat.lt_one_iff.mp (y 1).isLt)
  · rfl

theorem dx_at (b : Fin 4) (r : Fin 2048) (n : Fin 1024) :
    out0 (X m c) (DH m c) (DR m c) (GN m c) (SC m c) (ix3 b r n) = at5 m c b r n := by
  refine (out0_apply _ _ _ _ _ b r n).trans ?_
  have e : (fun d => DH m c (ix3 b r d) * (1 + SC m c (ix3 b 0 d)) * GN m c (ix2 0 d)) = erow m c b r :=
    funext fun d => (mul_assoc (G := EReal) _ _ _).trans (congrArg _ (mul_comm (G := EReal) _ _))
  unfold at5
  rw [e]
  exact congrArg _ (dx_all _ _ n)

variable {x dh dr : FVec Ideal S4x2048x1024 .f32} {gn : FVec Ideal S1x1024 .f32} {sc : FVec Ideal S4x1x1024 .f32}
theorem meet0 (ex : x = X m c) (edh : dh = DH m c) (edr : dr = DR m c) (egn : gn = GN m c) (esc : sc = SC m c) :
    out0 x dh dr gn sc = (Cert.Kernel19Ideal.Gen.dats m 0 c).arrAt 5 Cert.Kernel19Ideal.cfg0.N := by
  subst ex edh edr egn esc
  refine Eq.trans (funext fun i => ?_) (array5 m c).symm
  rw [eq_ix3 i]
  exact dx_at m c _ _ _
theorem meet1 (edh : dh = DH m c) :
    out1 dh = (Cert.Kernel19Ideal.Gen.dats m 0 c).arrAt 6 Cert.Kernel19Ideal.cfg0.N := by
  subst edh
  refine Eq.trans (funext fun i => ?_) (array6 m c).symm
  refine (congrArg _ (eq_line4 i)).trans ((out1_apply _ (i 0) (i 2)).trans (Finset.sum_congr rfl fun r _ => ?_))
  rfl
theorem meet2 (ex : x = X m c) (edh : dh = DH m c) (egn : gn = GN m c) :
    out2 x dh gn = (Cert.Kernel19Ideal.Gen.dats m 0 c).arrAt 7 Cert.Kernel19Ideal.cfg0.N := by
  subst ex edh egn
  refine Eq.trans (funext fun i => ?_) (array7 m c).symm
  refine (congrArg _ (eq_line4 i)).trans ((out2_apply _ _ _ (i 0) (i 2)).trans (Finset.sum_congr rfl fun r _ => ?_))
  exact (mul_comm (G := EReal) _ _)
theorem meet3 (ex : x = X m c) (edh : dh = DH m c) (esc : sc = SC m c) :
    out3 x dh sc = (Cert.Kernel19Ideal.Gen.dats m 0 c).arrAt 8 Cert.Kernel19Ideal.cfg0.N := by
  subst ex edh esc
  refine Eq.trans (funext fun i => ?_) (array8 m c).symm
  refine (congrArg _ (eq_line4 i)).trans ((out3_apply _ _ _ (i 0) (i 2)).trans (Finset.sum_congr rfl fun r _ => ?_))
  exact (mul_comm (G := EReal) _ _)

end Cert.NormBwdPlain
end
-- ==== Proof.Rest.MergeBwd.lean ====
/-
  The merge's gradient: every point's blocks of the branches' gradients and of the gates', and the reference's at the same
  place. No side condition: the products are the same up to their order, and the reference adds zeros to the gates'.
-/
module

public import proofs.«01_k».proof.Proof.Gen.Kernel20Ideal.Frame
public import proofs.«01_k».proof.Proof.Gen.Reference20Ideal.Run
public import Idealize.ShloMosaic.Lib.Claim
public import Idealize.ShloMosaic.Lib.Pipeline.ValueKit

@[expose] public section
set_option maxRecDepth 16384

noncomputable section
namespace Cert.MergeBwd
open Idealize.ShloMosaic Idealize.ShloMosaic.TcCoe Idealize.ShloMosaic.Tactic Idealize.SL.Sem
open Cert.Kernel20Ideal Cert.Kernel20Ideal.Gen

theorem zeros : (![0, 0] : Fin 2 → Nat) = fun _ => 0 := funext fun a => by fin_cases a <;> rfl

/-! ## The blocks a point stores, element by element -/

/-- A gate's gradient, and a branch's. -/
def gateG (d y a : EReal) : EReal := d * y * Ideal.logistic a * (1 - Ideal.logistic a)
def branchG (d a : EReal) : EReal := d * Ideal.logistic a

section Points
variable (x0 x1 x2 x3 : Vec Ideal S512x1024 .bf16) (g : Vec Ideal S512x3072 .bf16) (p : Fin 512) (n : Fin 1024)

theorem pay6_apply (d a y : Vec Ideal S512x1024 .bf16) : k0_pay6 (F := Ideal) d a y (ix2 p n) = gateG (d (ix2 p n)) (y (ix2 p n)) (a (ix2 p n)) := by
  unfold gateG
  pointwise [k0_pay6, k0_pay5, k0_pay4]
theorem pay9_apply (d a y : Vec Ideal S512x1024 .bf16) : k0_pay9 (F := Ideal) d a y (ix2 p n) = gateG (d (ix2 p n)) (y (ix2 p n)) (a (ix2 p n)) := by
  unfold gateG
  pointwise [k0_pay9, k0_pay8, k0_pay4]
theorem pay2_apply (d a y : Vec Ideal S512x1024 .bf16) : k0_pay2 (F := Ideal) (k0_pay4 d) a y (ix2 p n) = gateG (d (ix2 p n)) (y (ix2 p n)) (a (ix2 p n)) := by
  unfold gateG
  pointwise [k0_pay2, k0_pay1, k0_pay4]
theorem pay7_apply (d a : Vec Ideal S512x1024 .bf16) : k0_pay7 (F := Ideal) d a (ix2 p n) = branchG (d (ix2 p n)) (a (ix2 p n)) := by
  unfold branchG
  pointwise [k0_pay7, k0_pay5, k0_pay4]
theorem pay10_apply (d a : Vec Ideal S512x1024 .bf16) : k0_pay10 (F := Ideal) d a (ix2 p n) = branchG (d (ix2 p n)) (a (ix2 p n)) := by
  unfold branchG
  pointwise [k0_pay10, k0_pay8, k0_pay4]
theorem pay3_apply (d a : Vec Ideal S512x1024 .bf16) : k0_pay3 (F := Ideal) (k0_pay4 d) a (ix2 p n) = branchG (d (ix2 p n)) (a (ix2 p n)) := by
  unfold branchG
  pointwise [k0_pay3, k0_pay1, k0_pay4]

/-- Column `n` of branch `b` among the gates. -/
def gcol (b : Fin 3) (n : Fin 1024) : Fin 3072 := ⟨1024 * b.val + n.val, by omega⟩

theorem slice1 : View.ld g r0_1 (ix2 p n) = g (ix2 p (gcol 0 n)) := by
  refine congrArg g (funext fun a => ?_)
  fin_cases a <;> apply Fin.ext <;> simp [Rect.unit, ix2, gcol]
theorem slice2 : View.ld g r0_2 (ix2 p n) = g (ix2 p (gcol 1 n)) := by
  refine congrArg g (funext fun a => ?_)
  fin_cases a <;> apply Fin.ext <;> simp [Rect.unit, ix2, gcol]
theorem slice3 : View.ld g r0_3 (ix2 p n) = g (ix2 p (gcol 2 n)) := by
  refine congrArg g (funext fun a => ?_)
  fin_cases a <;> apply Fin.ext <;> simp [Rect.unit, ix2, gcol]

theorem out_6 : out0_6 (F := Ideal) x0 x1 x2 x3 g (ix2 p n) = branchG (x0 (ix2 p n)) (g (ix2 p (gcol 0 n))) := by
  unfold out0_6
  rw [View.canon_unit_zero zeros, View.ld_unit_zero (S := S512x1024) zeros, pay7_apply, slice1]
theorem out_7 : out0_7 (F := Ideal) x0 x1 x2 x3 g (ix2 p n) = branchG (x0 (ix2 p n)) (g (ix2 p (gcol 1 n))) := by
  unfold out0_7
  rw [View.canon_unit_zero zeros, View.ld_unit_zero (S := S512x1024) zeros, pay10_apply, slice2]
theorem out_8 : out0_8 (F := Ideal) x0 x1 x2 x3 g (ix2 p n) = branchG (x0 (ix2 p n)) (g (ix2 p (gcol 2 n))) := by
  unfold out0_8 k0_pay11
  rw [View.canon_unit_zero zeros, View.ld_unit_zero (S := S512x1024) zeros, pay3_apply, slice3]

/-- One of three by its number. -/
def pick {α : Type} (a b c : α) : Fin 3 → α := ![a, b, c]

/-- The branch and the column a gate's place belongs to. -/
def bOf (q : Fin 3072) : Fin 3 := ⟨q.val / 1024, by omega⟩
def nOf (q : Fin 3072) : Fin 1024 := ⟨q.val % 1024, by omega⟩

theorem split {q : Fin 3072} {b : Fin 3} {n : Fin 1024} (h : q.val = 1024 * b.val + n.val) : bOf q = b ∧ nOf q = n :=
  ⟨Fin.ext (by show q.val / 1024 = b.val; omega), Fin.ext (by show q.val % 1024 = n.val; omega)⟩

theorem piece (b : Fin 3) (y : Vec Ideal S512x1024 .bf16) (hy : pick x1 x2 x3 b = y) (q : Fin 3072) (x : S512x1024.Idx) (h0 : p = x 0) (h1 : q.val = 1024 * b.val + (x 1).val) :
    gateG (x0 (ix2 (x 0) (x 1))) (y (ix2 (x 0) (x 1))) (g (ix2 (x 0) (gcol b (x 1)))) = gateG (x0 (ix2 p (nOf q))) (pick x1 x2 x3 (bOf q) (ix2 p (nOf q))) (g (ix2 p q)) := by
  subst hy
  have h2 : q = gcol b (x 1) := Fin.ext h1
  have hs := @split q b (x 1) h1
  rw [hs.1, hs.2, h0, h2]

theorem out_5 (q : Fin 3072) : out0_5 (F := Ideal) x0 x1 x2 x3 g (ix2 p q) = gateG (x0 (ix2 p (nOf q))) (pick x1 x2 x3 (bOf q) (ix2 p (nOf q))) (g (ix2 p q)) := by
  unfold out0_5 k0_pay11
  rw [View.ld_unit_zero (S := S512x1024) zeros, View.ld_unit_zero (S := S512x1024) zeros, View.ld_unit_zero (S := S512x1024) zeros, View.ld_unit_zero (S := S512x1024) zeros]
  refine View.canon_eq_of_allAt _ _ _ (cover0_5 _ _ _ _) ?_
  refine View.allAt_cons_unit _ _ _ _ _ (fun x hx => ?_) (View.allAt_cons_unit _ _ _ _ _ (fun x hx => ?_) (View.allAt_cons_unit _ _ _ _ _ (fun x hx => ?_) (View.allAt_nil _ _)))
  · refine (congrArg _ (eq_ix2 (show S512x1024.Idx from x))).trans ((pay2_apply (x 0) (x 1) x0 (View.ld g r0_3) x3).trans ((congrArg (gateG _ _) (slice3 g (x 0) (x 1))).trans ?_))
    exact piece x0 x1 x2 x3 g p 2 x3 rfl q x (Fin.ext ((hx 0).trans (Nat.zero_add _))) (hx 1)
  · refine (congrArg _ (eq_ix2 (show S512x1024.Idx from x))).trans ((pay9_apply (x 0) (x 1) x0 (View.ld g r0_2) x2).trans ((congrArg (gateG _ _) (slice2 g (x 0) (x 1))).trans ?_))
    exact piece x0 x1 x2 x3 g p 1 x2 rfl q x (Fin.ext ((hx 0).trans (Nat.zero_add _))) (hx 1)
  · refine (congrArg _ (eq_ix2 (show S512x1024.Idx from x))).trans ((pay6_apply (x 0) (x 1) x0 (View.ld g r0_1) x1).trans ((congrArg (gateG _ _) (slice1 g (x 0) (x 1))).trans ?_))
    exact piece x0 x1 x2 x3 g p 0 x1 rfl q x (Fin.ext ((hx 0).trans (Nat.zero_add _))) (hx 1)
end Points

/-! ## Where a point's blocks lie -/

/-- Row `n` of 8192; column `n` of 6144. -/
def row (n : ℕ) : Fin 8192 := ⟨n % 8192, Nat.mod_lt _ (by decide)⟩
def wide (n : ℕ) : Fin 6144 := ⟨n % 6144, Nat.mod_lt _ (by decide)⟩

/-- A gate's gradient's element, `3072` columns into the array; a branch's gradient's. -/
def gateOf (d y0 y1 y2 : FVec Ideal S8192x1024 .bf16) (g : FVec Ideal S8192x6144 .bf16) (r : Fin 8192) (q : Fin 3072) : EReal :=
  gateG (d (ix2 r (nOf q))) (pick y0 y1 y2 (bOf q) (ix2 r (nOf q))) (g (ix2 r (wide (3072 + q.val))))
def branchOf (d : FVec Ideal S8192x1024 .bf16) (g : FVec Ideal S8192x6144 .bf16) (b : Fin 3) (r : Fin 8192) (n : Fin 1024) : EReal :=
  branchG (d (ix2 r n)) (g (ix2 r (wide (3072 + (gcol b n).val))))

variable (m : (ℓ : Loc nD τ sig) → Buf (Elt Ideal) ℓ) (c : Dev nD)

/-- The merged branches' gradient, the three branches, and the gates' array. -/
abbrev D : FVec Ideal S8192x1024 .bf16 := m (c.tc.loc main_arg0)
abbrev Y0 : FVec Ideal S8192x1024 .bf16 := m (c.tc.loc main_arg1)
abbrev Y1 : FVec Ideal S8192x1024 .bf16 := m (c.tc.loc main_arg2)
abbrev Y2 : FVec Ideal S8192x1024 .bf16 := m (c.tc.loc main_arg3)
abbrev G : FVec Ideal S8192x6144 .bf16 := m (c.tc.loc main_arg4)

theorem index0 : ∀ t : Fin cfg0.N, win0_0.index t = ![t.val, 0] := by decide +kernel
theorem index1 : ∀ t : Fin cfg0.N, win0_1.index t = ![t.val, 0] := by decide +kernel
theorem index2 : ∀ t : Fin cfg0.N, win0_2.index t = ![t.val, 0] := by decide +kernel
theorem index3 : ∀ t : Fin cfg0.N, win0_3.index t = ![t.val, 0] := by decide +kernel
theorem index4 : ∀ t : Fin cfg0.N, win0_4.index t = ![t.val, 1] := by decide +kernel
theorem index5 : ∀ t : Fin cfg0.N, win0_5.index t = ![t.val, 1] := by decide +kernel
theorem index6 : ∀ t : Fin cfg0.N, win0_6.index t = ![t.val, 0] := by decide +kernel
theorem index7 : ∀ t : Fin cfg0.N, win0_7.index t = ![t.val, 0] := by decide +kernel
theorem index8 : ∀ t : Fin cfg0.N, win0_8.index t = ![t.val, 0] := by decide +kernel

theorem point_lt (t : Fin cfg0.N) : t.val < 16 := lt_of_lt_of_eq t.isLt (show cfg0.N = 16 from N_0)

/-- A point's blocks of the five. -/
abbrev X0 (t : Fin cfg0.N) : FVec Ideal S512x1024 .bf16 := iblk m c 0 t
abbrev X1 (t : Fin cfg0.N) : FVec Ideal S512x1024 .bf16 := iblk m c 1 t
abbrev X2 (t : Fin cfg0.N) : FVec Ideal S512x1024 .bf16 := iblk m c 2 t
abbrev X3 (t : Fin cfg0.N) : FVec Ideal S512x1024 .bf16 := iblk m c 3 t
abbrev XG (t : Fin cfg0.N) : FVec Ideal S512x3072 .bf16 := iblk m c 4 t

theorem row_val (t : Fin cfg0.N) (p : Fin 512) : (row (512 * t.val + p.val)).val = 512 * t.val + p.val :=
  Nat.mod_eq_of_lt (by have := point_lt t; omega)
theorem wide_val (q : Fin 3072) : (wide (3072 + q.val)).val = 3072 + q.val := Nat.mod_eq_of_lt (by omega)

theorem block0 (t : Fin cfg0.N) (p : Fin 512) (n : Fin 1024) : X0 m c t (ix2 p n) = D m c (ix2 (row (512 * t.val + p.val)) n) := by
  have e := row_val t p
  blk_ext! [X0, iblk, V, index0, e]
theorem block1 (t : Fin cfg0.N) (p : Fin 512) (n : Fin 1024) : X1 m c t (ix2 p n) = Y0 m c (ix2 (row (512 * t.val + p.val)) n) := by
  have e := row_val t p
  blk_ext! [X1, iblk, V, index1, e]
theorem block2 (t : Fin cfg0.N) (p : Fin 512) (n : Fin 1024) : X2 m c t (ix2 p n) = Y1 m c (ix2 (row (512 * t.val + p.val)) n) := by
  have e := row_val t p
  blk_ext! [X2, iblk, V, index2, e]
theorem block3 (t : Fin cfg0.N) (p : Fin 512) (n : Fin 1024) : X3 m c t (ix2 p n) = Y2 m c (ix2 (row (512 * t.val + p.val)) n) := by
  have e := row_val t p
  blk_ext! [X3, iblk, V, index3, e]
theorem block4 (t : Fin cfg0.N) (p : Fin 512) (q : Fin 3072) : XG m c t (ix2 p q) = G m c (ix2 (row (512 * t.val + p.val)) (wide (3072 + q.val))) := by
  have e := row_val t p
  have e' := wide_val q
  blk_ext! [XG, iblk, V, index4, e, e']

/-- What the call puts at a place of each result. -/
def gateAt (r : Fin 8192) (q : Fin 3072) : EReal := gateOf (D m c) (Y0 m c) (Y1 m c) (Y2 m c) (G m c) r q
def branchAt (b : Fin 3) (r : Fin 8192) (n : Fin 1024) : EReal := branchOf (D m c) (G m c) b r n

theorem picked (t : Fin cfg0.N) (p : Fin 512) (b : Fin 3) (n : Fin 1024) :
    pick (X1 m c t) (X2 m c t) (X3 m c t) b (ix2 p n) = pick (Y0 m c) (Y1 m c) (Y2 m c) b (ix2 (row (512 * t.val + p.val)) n) := by
  fin_cases b
  · exact block1 m c t p n
  · exact block2 m c t p n
  · exact block3 m c t p n
theorem point5 (t : Fin cfg0.N) (p : Fin 512) (q : Fin 3072) :
    out0_5 (F := Ideal) (X0 m c t) (X1 m c t) (X2 m c t) (X3 m c t) (XG m c t) (ix2 p q) = gateAt m c (row (512 * t.val + p.val)) q := by
  rw [out_5, block0, picked, block4, gateAt, gateOf]
theorem point6 (t : Fin cfg0.N) (p : Fin 512) (n : Fin 1024) :
    out0_6 (F := Ideal) (X0 m c t) (X1 m c t) (X2 m c t) (X3 m c t) (XG m c t) (ix2 p n) = branchAt m c 0 (row (512 * t.val + p.val)) n := by
  rw [out_6, block0, block4, branchAt, branchOf]
theorem point7 (t : Fin cfg0.N) (p : Fin 512) (n : Fin 1024) :
    out0_7 (F := Ideal) (X0 m c t) (X1 m c t) (X2 m c t) (X3 m c t) (XG m c t) (ix2 p n) = branchAt m c 1 (row (512 * t.val + p.val)) n := by
  rw [out_7, block0, block4, branchAt, branchOf]
theorem point8 (t : Fin cfg0.N) (p : Fin 512) (n : Fin 1024) :
    out0_8 (F := Ideal) (X0 m c t) (X1 m c t) (X2 m c t) (X3 m c t) (XG m c t) (ix2 p n) = branchAt m c 2 (row (512 * t.val + p.val)) n := by
  rw [out_8, block0, block4, branchAt, branchOf]

/-- The branches' gradients' arrays after the run. -/
theorem array6 : ((dats m 0 c).arrAt 6 cfg0.N : FVec Ideal S8192x1024 .bf16) = fun i => branchAt m c 0 (i 0) (i 1) := by
  refine (dats m 0 c).arrAt_eq_of_covers 6 _ (by decide +kernel) fun t hf y => ?_
  blk_simp [index6]
  rw [after0_6]
  refine (congrArg (out0_6 (F := Ideal) (X0 m c t) (X1 m c t) (X2 m c t) (X3 m c t) (XG m c t)) (eq_ix2 y)).trans ((point6 m c t (y 0) (y 1)).trans ?_)
  exact congrArg₂ (branchAt m c 0) (Fin.ext ((row_val t (y 0)).trans (by blk_simp [index6]; exact congrArg (· + _) (Nat.mul_comm _ _))))
    (Fin.ext (by blk_simp [index6]))
theorem array7 : ((dats m 0 c).arrAt 7 cfg0.N : FVec Ideal S8192x1024 .bf16) = fun i => branchAt m c 1 (i 0) (i 1) := by
  refine (dats m 0 c).arrAt_eq_of_covers 7 _ (by decide +kernel) fun t hf y => ?_
  blk_simp [index7]
  rw [after0_7]
  refine (congrArg (out0_7 (F := Ideal) (X0 m c t) (X1 m c t) (X2 m c t) (X3 m c t) (XG m c t)) (eq_ix2 y)).trans ((point7 m c t (y 0) (y 1)).trans ?_)
  exact congrArg₂ (branchAt m c 1) (Fin.ext ((row_val t (y 0)).trans (by blk_simp [index7]; exact congrArg (· + _) (Nat.mul_comm _ _))))
    (Fin.ext (by blk_simp [index7]))
theorem array8 : ((dats m 0 c).arrAt 8 cfg0.N : FVec Ideal S8192x1024 .bf16) = fun i => branchAt m c 2 (i 0) (i 1) := by
  refine (dats m 0 c).arrAt_eq_of_covers 8 _ (by decide +kernel) fun t hf y => ?_
  blk_simp [index8]
  rw [after0_8]
  refine (congrArg (out0_8 (F := Ideal) (X0 m c t) (X1 m c t) (X2 m c t) (X3 m c t) (XG m c t)) (eq_ix2 y)).trans ((point8 m c t (y 0) (y 1)).trans ?_)
  exact congrArg₂ (branchAt m c 2) (Fin.ext ((row_val t (y 0)).trans (by blk_simp [index8]; exact congrArg (· + _) (Nat.mul_comm _ _))))
    (Fin.ext (by blk_simp [index8]))
/-- The column of the gates' gradient a column of the whole array is. -/
def back (k : Fin 6144) : Fin 3072 := ⟨(k.val - 3072) % 3072, Nat.mod_lt _ (by decide)⟩

/-- The gates' gradients' array where the call writes it: the second half of the columns. -/
theorem array5 : ((dats m 0 c).arrAt 5 cfg0.N : FVec Ideal S8192x6144 .bf16)
    = fun i => if 1 ≤ (i 1).val / 3072 then gateAt m c (i 0) (back (i 1)) else (dats m 0 c).A 5 i := by
  refine (dats m 0 c).arrAt_eq_of_coversWhere 5 (fun i => gateAt m c (i 0) (back (i 1))) (fun β => 1 ≤ β (1 : Fin 2)) (by decide +kernel) (fun t hf y => ?_) (fun j => Iff.rfl)
  blk_simp [index5]
  rw [after0_5]
  refine (congrArg (out0_5 (F := Ideal) (X0 m c t) (X1 m c t) (X2 m c t) (X3 m c t) (XG m c t)) (eq_ix2 y)).trans ((point5 m c t (y 0) (y 1)).trans ?_)
  refine congrArg₂ (gateAt m c) (Fin.ext ((row_val t (y 0)).trans (by blk_simp [index5]; exact congrArg (· + _) (Nat.mul_comm _ _)))) (Fin.ext ?_)
  have h : (y 1).val < 3072 := (y 1).isLt
  show (y 1).val = (_ - 3072) % 3072
  blk_simp [index5]
  omega

/-- The gates' gradients, cut out of their array. -/
def gates : FVec Ideal S8192x3072 .bf16 := extractStridedSlice S8192x3072 ![0, 3072] ((dats m 0 c).arrAt 5 cfg0.N : FVec Ideal S8192x6144 .bf16) slices_S8192x6144_S8192x3072_0_3072

theorem gates_apply (r : Fin 8192) (q : Fin 3072) : gates m c (ix2 r q) = gateAt m c r q := by
  unfold gates
  rw [array5]
  pointwise
  have h : 1 ≤ (3072 + q.val) / 3072 := by omega
  first
    | rw [if_pos h]
    | skip
  refine congrArg (gateAt m c r) (Fin.ext ?_)
  show (3072 + q.val - 3072) % 3072 = q.val
  omega

/-- The call's run: the gates' gradients cut out of their array, the branches' gradients, and its arguments. -/
theorem run (ρ : Dev nD → PrngReg) : θ_run defs (onTc (τ := τ) (main (F := Ideal))) ⟨m, fun _ => 0, ρ⟩ fun r => ∀ c : Dev nD,
    r.2.mem (c.tc.loc main_v1) = gates m c ∧ r.2.mem (c.tc.loc main_v0_1) = (dats m 0 c).arrAt 6 cfg0.N
      ∧ r.2.mem (c.tc.loc main_v0_2) = (dats m 0 c).arrAt 7 cfg0.N ∧ r.2.mem (c.tc.loc main_v0_3) = (dats m 0 c).arrAt 8 cfg0.N
      ∧ r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4) :=
  (θ_run defs _ _).mono (fun _ h c => ⟨((h c).2 main_v1 (by decide)).trans (by
      unfold Pipeline.afterTail₀ gates
      simp only [List.flatten_cons, List.flatten_nil, List.append_nil]
      after_results
      exact congrArg (fun x : FVec Ideal S8192x6144 .bf16 => extractStridedSlice S8192x3072 ![0, 3072] x slices_S8192x6144_S8192x3072_0_3072)
        (Pipeline.withArrays_arr spec0 launch0.win.arr_inj c (V0 m c) (fun w => (dats m 0 c).arrAt w cfg0.N) 5)),
    (h c).1 6, (h c).1 7, (h c).1 8,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c)))⟩) (run_main m ρ)

end Cert.MergeBwd

namespace Cert.MergeBwd
open Idealize.ShloMosaic Idealize.ShloMosaic.TcCoe Idealize.ShloMosaic.Tactic
open Cert.Reference20Ideal Cert.Reference20Ideal.Gen

/-- The reference's gates, `1 / (1 + e^-g)` of the array's second half by branch. -/
abbrev sig (g : FVec Ideal S8192x6144 .bf16) : FVec Ideal S8192x3x1024 .f32 :=
  Host.divf (broadcastInDim S8192x3x1024 ![] bcast_S_S8192x3x1024 (constant S_ .f32 0x3F800000#32)) (addf (broadcastInDim S8192x3x1024 ![] bcast_S_S8192x3x1024 (constant S_ .f32 0x3F800000#32)) (Host.exp (Host.negf (shapeCast _ (extf .f32 (extractStridedSlice S8192x3072 ![0, 3072] g slices_S8192x6144_S8192x3072_0_3072) bitsLt_bf16_f32) shapeCasts_S8192x3072_S8192x3x1024))))
/-- A branch's share of the gates' gradient: its product with the merged branches' gradient, alone in its place. -/
abbrev prod (d y : FVec Ideal S8192x1024 .bf16) : FVec Ideal S8192x1x1024 .f32 :=
  broadcastInDim S8192x1x1024 ![0, 2] bcast_S8192x1024_S8192x1x1024_0_2 (mulf (extf .f32 d bitsLt_bf16_f32) (extf .f32 y bitsLt_bf16_f32))
abbrev put0 (v : FVec Ideal S8192x1x1024 .f32) : FVec Ideal S8192x3x1024 .f32 :=
  pad S8192x3x1024 ![0, 0, 0] ![0, 2, 0] ![0, 0, 0] v (constant S_ .f32 0x00000000#32) pads_S8192x1x1024_S8192x3x1024_000_020_000 h_S_
abbrev put1 (v : FVec Ideal S8192x1x1024 .f32) : FVec Ideal S8192x3x1024 .f32 :=
  pad S8192x3x1024 ![0, 1, 0] ![0, 1, 0] ![0, 0, 0] v (constant S_ .f32 0x00000000#32) pads_S8192x1x1024_S8192x3x1024_000_110_000 h_S_
abbrev put2 (v : FVec Ideal S8192x1x1024 .f32) : FVec Ideal S8192x3x1024 .f32 :=
  pad S8192x3x1024 ![0, 2, 0] ![0, 0, 0] ![0, 0, 0] v (constant S_ .f32 0x00000000#32) pads_S8192x1x1024_S8192x3x1024_000_200_000 h_S_

/-- The reference's results. -/
def outGates (d y0 y1 y2 : FVec Ideal S8192x1024 .bf16) (g : FVec Ideal S8192x6144 .bf16) : FVec Ideal S8192x3072 .bf16 :=
  truncf .bf16 (shapeCast _ (mulf (addf (addf (put2 (prod d y2)) (put1 (prod d y1))) (put0 (prod d y0))) (mulf (sig g) (subf (broadcastInDim S8192x3x1024 ![] bcast_S_S8192x3x1024 (constant S_ .f32 0x3F800000#32)) (sig g)))) shapeCasts_S8192x3x1024_S8192x3072) bitsLt_bf16_f32
def out0 (d : FVec Ideal S8192x1024 .bf16) (g : FVec Ideal S8192x6144 .bf16) : FVec Ideal S8192x1024 .bf16 :=
  truncf .bf16 (mulf (shapeCast _ (extractStridedSlice S8192x1x1024 ![0, 0, 0] (sig g) slices_S8192x3x1024_S8192x1x1024_0_0_0) shapeCasts_S8192x1x1024_S8192x1024) (extf .f32 d bitsLt_bf16_f32)) bitsLt_bf16_f32
def out1 (d : FVec Ideal S8192x1024 .bf16) (g : FVec Ideal S8192x6144 .bf16) : FVec Ideal S8192x1024 .bf16 :=
  truncf .bf16 (mulf (shapeCast _ (extractStridedSlice S8192x1x1024 ![0, 1, 0] (sig g) slices_S8192x3x1024_S8192x1x1024_0_1_0) shapeCasts_S8192x1x1024_S8192x1024) (extf .f32 d bitsLt_bf16_f32)) bitsLt_bf16_f32
def out2 (d : FVec Ideal S8192x1024 .bf16) (g : FVec Ideal S8192x6144 .bf16) : FVec Ideal S8192x1024 .bf16 :=
  truncf .bf16 (mulf (shapeCast _ (extractStridedSlice S8192x1x1024 ![0, 2, 0] (sig g) slices_S8192x3x1024_S8192x1x1024_0_2_0) shapeCasts_S8192x1x1024_S8192x1024) (extf .f32 d bitsLt_bf16_f32)) bitsLt_bf16_f32

theorem sig_apply (g : FVec Ideal S8192x6144 .bf16) (r : Fin 8192) (b : Fin 3) (n : Fin 1024) :
    sig g (ix3 r b n) = Ideal.logistic (g (ix2 r (wide (3072 + (gcol b n).val)))) := by
  have e : ∀ h, (⟨3072 + (b.val * 1024 + n.val), h⟩ : Fin 6144) = wide (3072 + (gcol b n).val) := fun h =>
    Fin.ext (by show 3072 + (b.val * 1024 + n.val) = (3072 + (1024 * b.val + n.val)) % 6144; omega)
  unfold sig
  pointwise
  rw [e]
  rfl
theorem prod_apply (d y : FVec Ideal S8192x1024 .bf16) (r : Fin 8192) (n : Fin 1024) : prod d y (ix3 r 0 n) = d (ix2 r n) * y (ix2 r n) := by
  unfold prod
  pointwise

/-- A place outside the branch's holds zero, its own place the branch's number. -/
theorem put0_apply (v : FVec Ideal S8192x1x1024 .f32) (r : Fin 8192) (b : Fin 3) (n : Fin 1024) : put0 v (ix3 r b n) = if b = 0 then v (ix3 r 0 n) else 0 := by
  unfold put0
  fin_cases b
  all_goals pointwise
  all_goals rfl
theorem put1_apply (v : FVec Ideal S8192x1x1024 .f32) (r : Fin 8192) (b : Fin 3) (n : Fin 1024) : put1 v (ix3 r b n) = if b = 1 then v (ix3 r 0 n) else 0 := by
  unfold put1
  fin_cases b
  all_goals pointwise
  all_goals rfl
theorem put2_apply (v : FVec Ideal S8192x1x1024 .f32) (r : Fin 8192) (b : Fin 3) (n : Fin 1024) : put2 v (ix3 r b n) = if b = 2 then v (ix3 r 0 n) else 0 := by
  unfold put2
  fin_cases b
  all_goals pointwise
  all_goals rfl

theorem gates_word (u0 u1 u2 s : FVec Ideal S8192x3x1024 .f32) (r : Fin 8192) (q : Fin 3072) :
    (truncf .bf16 (shapeCast S8192x3072 (mulf (addf (addf u2 u1) u0) (mulf s (subf (broadcastInDim S8192x3x1024 ![] bcast_S_S8192x3x1024 (constant S_ .f32 0x3F800000#32)) s))) shapeCasts_S8192x3x1024_S8192x3072) bitsLt_bf16_f32 : FVec Ideal S8192x3072 .bf16) (ix2 r q)
      = (u2 (ix3 r (bOf q) (nOf q)) + u1 (ix3 r (bOf q) (nOf q)) + u0 (ix3 r (bOf q) (nOf q))) * (s (ix3 r (bOf q) (nOf q)) * (1 - s (ix3 r (bOf q) (nOf q)))) := by
  pointwise
  rfl

theorem outGates_apply (d y0 y1 y2 : FVec Ideal S8192x1024 .bf16) (g : FVec Ideal S8192x6144 .bf16) (r : Fin 8192) (q : Fin 3072) :
    outGates d y0 y1 y2 g (ix2 r q) = gateOf d y0 y1 y2 g r q := by
  unfold outGates
  rw [gates_word, put0_apply, put1_apply, put2_apply, prod_apply, prod_apply, prod_apply, sig_apply]
  unfold gateOf gateG
  have e : gcol (bOf q) (nOf q) = q := Fin.ext (by show 1024 * (q.val / 1024) + q.val % 1024 = q.val; omega)
  rw [e, mul_assoc (d _ * _)]
  congr 1
  generalize bOf q = b
  fin_cases b
  · show (0 : EReal) + 0 + d _ * y0 _ = d _ * y0 _
    rw [zero_add, zero_add]
  · show (0 : EReal) + d _ * y1 _ + 0 = d _ * y1 _
    rw [zero_add, add_zero]
  · show d _ * y2 _ + (0 : EReal) + 0 = d _ * y2 _
    rw [add_zero, add_zero]

theorem out0_apply (d : FVec Ideal S8192x1024 .bf16) (g : FVec Ideal S8192x6144 .bf16) (r : Fin 8192) (n : Fin 1024) : out0 d g (ix2 r n) = branchOf d g 0 r n := by
  have e : out0 d g (ix2 r n) = sig g (ix3 r 0 n) * d (ix2 r n) := by
    unfold out0
    generalize sig g = s
    pointwise
  rw [e, sig_apply, mul_comm]
  rfl
theorem out1_apply (d : FVec Ideal S8192x1024 .bf16) (g : FVec Ideal S8192x6144 .bf16) (r : Fin 8192) (n : Fin 1024) : out1 d g (ix2 r n) = branchOf d g 1 r n := by
  have e : out1 d g (ix2 r n) = sig g (ix3 r 1 n) * d (ix2 r n) := by
    unfold out1
    generalize sig g = s
    pointwise
  rw [e, sig_apply, mul_comm]
  rfl
theorem out2_apply (d : FVec Ideal S8192x1024 .bf16) (g : FVec Ideal S8192x6144 .bf16) (r : Fin 8192) (n : Fin 1024) : out2 d g (ix2 r n) = branchOf d g 2 r n := by
  have e : out2 d g (ix2 r n) = sig g (ix3 r 2 n) * d (ix2 r n) := by
    unfold out2
    generalize sig g = s
    pointwise
  rw [e, sig_apply, mul_comm]
  rfl

variable (m : (ℓ : Loc Cert.Kernel20Ideal.nD Cert.Kernel20Ideal.τ Cert.Kernel20Ideal.sig) → Buf (Elt Ideal) ℓ) (c : Dev 1)
variable {d y0 y1 y2 : FVec Ideal S8192x1024 .bf16} {g : FVec Ideal S8192x6144 .bf16}

/-- The call's results are the reference's. -/
theorem meetGates (ed : d = D m c) (e0 : y0 = Y0 m c) (e1 : y1 = Y1 m c) (e2 : y2 = Y2 m c) (eg : g = G m c) : outGates d y0 y1 y2 g = gates m c := by
  subst ed e0 e1 e2 eg
  refine funext fun i => ?_
  rw [eq_ix2 i]
  exact (outGates_apply _ _ _ _ _ _ _).trans (gates_apply m c _ _).symm
theorem meet0 (ed : d = D m c) (eg : g = G m c) : out0 d g = (Cert.Kernel20Ideal.Gen.dats m 0 c).arrAt 6 Cert.Kernel20Ideal.cfg0.N := by
  subst ed eg
  refine Eq.trans (funext fun i => ?_) (array6 m c).symm
  rw [eq_ix2 i]
  exact out0_apply _ _ _ _
theorem meet1 (ed : d = D m c) (eg : g = G m c) : out1 d g = (Cert.Kernel20Ideal.Gen.dats m 0 c).arrAt 7 Cert.Kernel20Ideal.cfg0.N := by
  subst ed eg
  refine Eq.trans (funext fun i => ?_) (array7 m c).symm
  rw [eq_ix2 i]
  exact out1_apply _ _ _ _
theorem meet2 (ed : d = D m c) (eg : g = G m c) : out2 d g = (Cert.Kernel20Ideal.Gen.dats m 0 c).arrAt 8 Cert.Kernel20Ideal.cfg0.N := by
  subst ed eg
  refine Eq.trans (funext fun i => ?_) (array8 m c).symm
  rw [eq_ix2 i]
  exact out2_apply _ _ _ _

end Cert.MergeBwd
end
-- ==== Proof.Rest.AdaBwd.lean ====
/-
  The gradient of the modulation's weights: every point's block, one layer's product of the activated conditioning, transposed, with
  the modulation's gradient, and the reference's at the same place. No side condition: the two sum the same products.
-/
module

public import proofs.«01_k».proof.Proof.Gen.Kernel21Ideal.Value
public import proofs.«01_k».proof.Proof.Gen.Reference21Ideal.Run
public import Idealize.ShloMosaic.Lib.Claim
public import Idealize.ShloMosaic.Lib.Pipeline.ValueKit

@[expose] public section
set_option maxRecDepth 16384

noncomputable section
namespace Cert.AdaBwd
open Idealize.ShloMosaic Idealize.ShloMosaic.TcCoe Idealize.ShloMosaic.Tactic
open Cert.Kernel21Ideal Cert.Kernel21Ideal.Gen

theorem zeros : (![0, 0] : Fin 2 → Nat) = fun _ => 0 := funext fun a => by fin_cases a <;> rfl
theorem zeros3 : (![0, 0, 0] : Fin 3 → Nat) = fun _ => 0 := funext fun a => by fin_cases a <;> rfl
/-- What a point stores, element by element: a column of the activated conditioning against a column of the gradient. -/
theorem pay1_apply (x : Vec Ideal S32x1024 .f32) (y : Vec Ideal S1x32x768 .f32) (p : Fin 1024) (n : Fin 768) :
    k0_pay1 (F := Ideal) x y (ix3 0 p n) = ∑ b : Fin 32, x (ix2 b p) * Ideal.logistic (x (ix2 b p)) * y (ix3 0 b n) := by
  pointwise [k0_pay1, dot_S32x1024_S32x768_S1024x768_0_0_1_1_n_n]
theorem out_2 (x : Vec Ideal S32x1024 .f32) (y : Vec Ideal S1x32x768 .f32) : out0_2 x y = k0_pay1 x y := by
  unfold out0_2
  rw [View.canon_unit_zero zeros3]
  simp only [View.ld_unit_zero (S := S32x1024) zeros, View.ld_unit_zero (S := S1x32x768) zeros3]

/-- Layer `n` of 4. -/
def lay (n : ℕ) : Fin 4 := ⟨n % 4, Nat.mod_lt _ (by decide)⟩

/-- The product's element in layer `l`. -/
def dot (x : FVec Ideal S32x1024 .f32) (g : FVec Ideal S4x32x768 .f32) (l : Fin 4) (p : Fin 1024) (n : Fin 768) : EReal :=
  ∑ b : Fin 32, x (ix2 b p) * Ideal.logistic (x (ix2 b p)) * g (ix3 l b n)

variable (m : (ℓ : Loc nD τ sig) → Buf (Elt Ideal) ℓ) (c : Dev nD)

/-- The conditioning and the modulation's gradient. -/
abbrev C : FVec Ideal S32x1024 .f32 := m (c.tc.loc main_arg0)
abbrev G : FVec Ideal S4x32x768 .f32 := m (c.tc.loc main_arg1)

theorem index0 : ∀ t : Fin cfg0.N, win0_0.index t = ![0, 0] := by decide +kernel
theorem index1 : ∀ t : Fin cfg0.N, win0_1.index t = ![t.val, 0, 0] := by decide +kernel
theorem index2 : ∀ t : Fin cfg0.N, win0_2.index t = ![t.val, 0, 0] := by decide +kernel

theorem point_lt (t : Fin cfg0.N) : t.val < 4 := lt_of_lt_of_eq t.isLt (show cfg0.N = 4 from N_0)

/-- A point's blocks of the two. -/
abbrev X (t : Fin cfg0.N) : FVec Ideal S32x1024 .f32 := iblk m c 0 t
abbrev Y (t : Fin cfg0.N) : FVec Ideal S1x32x768 .f32 := iblk m c 1 t

theorem lay_val (t : Fin cfg0.N) : (lay t.val).val = t.val := Nat.mod_eq_of_lt (point_lt t)

theorem block0 (t : Fin cfg0.N) (p : Fin 32) (d : Fin 1024) : X m c t (ix2 p d) = C m c (ix2 p d) := by
  blk_ext! [X, iblk, V, index0]
theorem block1 (t : Fin cfg0.N) (n : Fin 32) (d : Fin 768) : Y m c t (ix3 0 n d) = G m c (ix3 (lay t.val) n d) := by
  have e := lay_val t
  blk_ext! [Y, iblk, V, index1, e]

/-- What the call puts at a place of its result. -/
def dotAt (l : Fin 4) (p : Fin 1024) (n : Fin 768) : EReal := dot (C m c) (G m c) l p n

theorem point2 (t : Fin cfg0.N) (p : Fin 1024) (n : Fin 768) :
    out0_2 (F := Ideal) (X m c t) (Y m c t) (ix3 0 p n) = dotAt m c (lay t.val) p n := by
  rw [out_2, pay1_apply]
  unfold dotAt dot
  exact Finset.sum_congr rfl fun b _ => by rw [block0, block1]

theorem eq_ix3_zero (y : S1x1024x768.Idx) : y = ix3 0 (y 1) (y 2) := by
  funext a
  fin_cases a
  · exact Fin.ext (Nat.lt_one_iff.mp (y 0).isLt)
  · rfl
  · rfl

/-- The result's array after the run. -/
theorem array2 : ((dats m 0 c).arrAt 2 cfg0.N : FVec Ideal S4x1024x768 .f32) = fun i => dotAt m c (i 0) (i 1) (i 2) := by
  refine (dats m 0 c).arrAt_eq_of_covers 2 _ (by decide +kernel) fun t hf y => ?_
  blk_simp [index2]
  rw [after0_2]
  refine (congrArg (out0_2 (F := Ideal) (X m c t) (Y m c t)) (eq_ix3_zero y)).trans ((point2 m c t (y 1) (y 2)).trans ?_)
  have e0 : (y 0).val = 0 := Nat.lt_one_iff.mp (show (y 0).val < 1 from (y 0).isLt)
  congr 1
  · exact Fin.ext ((lay_val t).trans (by blk_simp [index2, e0]))
  · exact Fin.ext (by blk_simp [index2])
  · exact Fin.ext (by blk_simp [index2])

end Cert.AdaBwd

namespace Cert.AdaBwd
open Idealize.ShloMosaic Idealize.ShloMosaic.TcCoe Idealize.ShloMosaic.Tactic
open Cert.Reference21Ideal Cert.Reference21Ideal.Gen

/-- The reference's result. -/
def out (x : FVec Ideal S32x1024 .f32) (g : FVec Ideal S4x32x768 .f32) : FVec Ideal S4x1024x768 .f32 :=
  transpose S4x1024x768 [0, 2, 1] (Host.dotGeneral (φ₁ := .f32) (φ₂ := .f32) dot_S32x4x768_S32x1024_S4x768x1024_0_0_12_1_n_n none
    (transpose S32x4x768 [1, 0, 2] g transposes_S4x32x768_S32x4x768_1_0_2)
    (mulf x (Host.divf (broadcastInDim S32x1024 ![] bcast_S_S32x1024 (constant S_ .f32 0x3F800000#32))
      (addf (broadcastInDim S32x1024 ![] bcast_S_S32x1024 (constant S_ .f32 0x3F800000#32)) (Host.exp (Host.negf x)))))) transposes_S4x768x1024_S4x1024x768_0_2_1

theorem out_apply (x : FVec Ideal S32x1024 .f32) (g : FVec Ideal S4x32x768 .f32) (l : Fin 4) (p : Fin 1024) (n : Fin 768) :
    out x g (ix3 l p n) = dot x g l p n := by
  unfold out dot
  pointwise [dot_S32x4x768_S32x1024_S4x768x1024_0_0_12_1_n_n]
  exact Finset.sum_congr rfl fun b _ => mul_comm _ _

/-- The call's array is the reference's result. -/
theorem meet (m : (ℓ : Loc Cert.Kernel21Ideal.nD Cert.Kernel21Ideal.τ Cert.Kernel21Ideal.sig) → Buf (Elt Ideal) ℓ) (c : Dev 1)
    {x : FVec Ideal S32x1024 .f32} {g : FVec Ideal S4x32x768 .f32} (ex : x = C m c) (eg : g = G m c) :
    out x g = (Cert.Kernel21Ideal.Gen.dats m 0 c).arrAt 2 Cert.Kernel21Ideal.cfg0.N := by
  subst ex eg
  refine Eq.trans (funext fun i => ?_) (array2 m c).symm
  rw [eq_ix3 i]
  exact out_apply _ _ _ _ _

end Cert.AdaBwd
end
-- ==== Proof.Rest.NormFwd.lean ====
/-
  The RMS norm and its modulation: every point's block and the reference's at the same place. No side condition: the two compute the
  same operations of the same row.
-/
module

public import proofs.«01_k».proof.Proof.Gen.Kernel22Ideal.Value
public import proofs.«01_k».proof.Proof.Gen.Reference22Ideal.Run
public import Idealize.ShloMosaic.Lib.Claim
public import Idealize.ShloMosaic.Lib.Pipeline.ValueKit

@[expose] public section
set_option maxRecDepth 16384

noncomputable section
namespace Cert.NormFwd
open Idealize.ShloMosaic Idealize.ShloMosaic.TcCoe Idealize.ShloMosaic.Tactic
open Cert.Kernel22Ideal Cert.Kernel22Ideal.Gen

theorem zeros : (![0, 0] : Fin 2 → Nat) = fun _ => 0 := funext fun a => by fin_cases a <;> rfl
theorem zeros3 : (![0, 0, 0] : Fin 3 → Nat) = fun _ => 0 := funext fun a => by fin_cases a <;> rfl

/-- One over the root mean square of a row. -/
def rms (x : Fin 1024 → EReal) : EReal := Ideal.rsqrt (Ideal.div (∑ d : Fin 1024, x d * x d) (Ideal.ofBits .f32 0x44800000#32) + Ideal.ofBits .f32 0x358637BD#32)

/-- What a point stores, element by element. -/
theorem pay1_apply (x : Vec Ideal S1x512x1024 .f32) (g : Vec Ideal S1x1024 .f32) (s : Vec Ideal S1x1x1024 .f32) (h : Vec Ideal S1x1x1024 .f32)
    (p : Fin 512) (n : Fin 1024) :
    k0_pay1 (F := Ideal) x g s h (ix3 0 p n)
      = x (ix3 0 p n) * rms (fun d => x (ix3 0 p d)) * g (ix2 0 n) * (1 + s (ix3 0 0 n)) + h (ix3 0 0 n) := by
  unfold rms
  pointwise [k0_pay1]
theorem out_4 (x : Vec Ideal S1x512x1024 .f32) (g : Vec Ideal S1x1024 .f32) (s : Vec Ideal S1x1x1024 .f32) (h : Vec Ideal S1x1x1024 .f32) :
    out0_4 x g s h = k0_pay1 x g s h := by
  unfold out0_4
  rw [View.canon_unit_zero zeros3]
  simp only [View.ld_unit_zero (S := S1x512x1024) zeros3, View.ld_unit_zero (S := S1x1024) zeros, View.ld_unit_zero (S := S1x1x1024) zeros3]

/-- Row `n` of 2048; sequence `n` of 4. -/
def row (n : ℕ) : Fin 2048 := ⟨n % 2048, Nat.mod_lt _ (by decide)⟩
def seq (n : ℕ) : Fin 4 := ⟨n % 4, Nat.mod_lt _ (by decide)⟩

/-- The modulated norm's element. -/
def modul (x : FVec Ideal S4x2048x1024 .f32) (g : FVec Ideal S1x1024 .f32) (s h : FVec Ideal S4x1x1024 .f32) (b : Fin 4) (r : Fin 2048) (n : Fin 1024) :
    EReal :=
  x (ix3 b r n) * rms (fun d => x (ix3 b r d)) * g (ix2 0 n) * (1 + s (ix3 b 0 n)) + h (ix3 b 0 n)

variable (m : (ℓ : Loc nD τ sig) → Buf (Elt Ideal) ℓ) (c : Dev nD)

/-- The rows, the gain, the scales and the shifts. -/
abbrev A : FVec Ideal S4x2048x1024 .f32 := m (c.tc.loc main_arg0)
abbrev G : FVec Ideal S1x1024 .f32 := m (c.tc.loc main_arg1)
abbrev S : FVec Ideal S4x1x1024 .f32 := m (c.tc.loc main_arg2)
abbrev H : FVec Ideal S4x1x1024 .f32 := m (c.tc.loc main_arg3)

theorem index0 : ∀ t : Fin cfg0.N, win0_0.index t = ![t.val / 4, t.val % 4, 0] := by decide +kernel
theorem index1 : ∀ t : Fin cfg0.N, win0_1.index t = ![0, 0] := by decide +kernel
theorem index2 : ∀ t : Fin cfg0.N, win0_2.index t = ![t.val / 4, 0, 0] := by decide +kernel
theorem index3 : ∀ t : Fin cfg0.N, win0_3.index t = ![t.val / 4, 0, 0] := by decide +kernel
theorem index4 : ∀ t : Fin cfg0.N, win0_4.index t = ![t.val / 4, t.val % 4, 0] := by decide +kernel

theorem point_lt (t : Fin cfg0.N) : t.val < 16 := lt_of_lt_of_eq t.isLt (show cfg0.N = 16 from N_0)

/-- A point's blocks of the four. -/
abbrev X (t : Fin cfg0.N) : FVec Ideal S1x512x1024 .f32 := iblk m c 0 t
abbrev XG (t : Fin cfg0.N) : FVec Ideal S1x1024 .f32 := iblk m c 1 t
abbrev XS (t : Fin cfg0.N) : FVec Ideal S1x1x1024 .f32 := iblk m c 2 t
abbrev XH (t : Fin cfg0.N) : FVec Ideal S1x1x1024 .f32 := iblk m c 3 t

theorem row_val (t : Fin cfg0.N) (p : Fin 512) : (row (512 * (t.val % 4) + p.val)).val = 512 * (t.val % 4) + p.val :=
  Nat.mod_eq_of_lt (by omega)
theorem seq_val (t : Fin cfg0.N) : (seq (t.val / 4)).val = t.val / 4 :=
  Nat.mod_eq_of_lt (by have := point_lt t; omega)

theorem block0 (t : Fin cfg0.N) (p : Fin 512) (d : Fin 1024) :
    X m c t (ix3 0 p d) = A m c (ix3 (seq (t.val / 4)) (row (512 * (t.val % 4) + p.val)) d) := by
  have e := row_val t p
  have e' := seq_val t
  blk_ext! [X, iblk, V, index0, e, e']
theorem block1 (t : Fin cfg0.N) (n : Fin 1024) : XG m c t (ix2 0 n) = G m c (ix2 0 n) := by
  blk_ext! [XG, iblk, V, index1]
theorem block2 (t : Fin cfg0.N) (n : Fin 1024) : XS m c t (ix3 0 0 n) = S m c (ix3 (seq (t.val / 4)) 0 n) := by
  have e' := seq_val t
  blk_ext! [XS, iblk, V, index2, e']
theorem block3 (t : Fin cfg0.N) (n : Fin 1024) : XH m c t (ix3 0 0 n) = H m c (ix3 (seq (t.val / 4)) 0 n) := by
  have e' := seq_val t
  blk_ext! [XH, iblk, V, index3, e']

/-- What the call puts at a place of its result. -/
def modulAt (b : Fin 4) (r : Fin 2048) (n : Fin 1024) : EReal := modul (A m c) (G m c) (S m c) (H m c) b r n

theorem point4 (t : Fin cfg0.N) (p : Fin 512) (n : Fin 1024) :
    out0_4 (F := Ideal) (X m c t) (XG m c t) (XS m c t) (XH m c t) (ix3 0 p n)
      = modulAt m c (seq (t.val / 4)) (row (512 * (t.val % 4) + p.val)) n := by
  rw [out_4, pay1_apply, block0, block1, block2, block3]
  unfold modulAt modul
  rw [show (fun d => X m c t (ix3 0 p d)) = fun d => A m c (ix3 (seq (t.val / 4)) (row (512 * (t.val % 4) + p.val)) d) from funext fun d => block0 m c t p d]

theorem eq_ix3_zero (y : S1x512x1024.Idx) : y = ix3 0 (y 1) (y 2) := by
  funext a
  fin_cases a
  · exact Fin.ext (Nat.lt_one_iff.mp (y 0).isLt)
  · rfl
  · rfl

/-- The result's array after the run. -/
theorem array4 : ((dats m 0 c).arrAt 4 cfg0.N : FVec Ideal S4x2048x1024 .bf16) = fun i => modulAt m c (i 0) (i 1) (i 2) := by
  refine (dats m 0 c).arrAt_eq_of_covers 4 _ (by decide +kernel) fun t hf y => ?_
  blk_simp [index4]
  rw [after0_4]
  refine (congrArg (out0_4 (F := Ideal) (X m c t) (XG m c t) (XS m c t) (XH m c t)) (eq_ix3_zero y)).trans ((point4 m c t (y 1) (y 2)).trans ?_)
  have e0 : (y 0).val = 0 := Nat.lt_one_iff.mp (show (y 0).val < 1 from (y 0).isLt)
  congr 1
  · exact Fin.ext ((seq_val t).trans (by blk_simp [index4, e0]))
  · exact Fin.ext ((row_val t (y 1)).trans (by blk_simp [index4]; exact congrArg (· + _) (Nat.mul_comm _ _)))
  · exact Fin.ext (by blk_simp [index4])

end Cert.NormFwd

namespace Cert.NormFwd
open Idealize.ShloMosaic Idealize.ShloMosaic.TcCoe Idealize.ShloMosaic.Tactic
open Cert.Reference22Ideal Cert.Reference22Ideal.Gen

/-- The reference's result. -/
def out (x : FVec Ideal S4x2048x1024 .f32) (g : FVec Ideal S1x1024 .f32) (s h : FVec Ideal S4x1x1024 .f32) : FVec Ideal S4x2048x1024 .bf16 :=
  truncf .bf16 (addf (mulf (mulf (mulf x (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf x x) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1024 ![0, 1, 2] bcast_S1x1x1024_S4x2048x1024_0_1_2 (broadcastInDim S1x1x1024 ![1, 2] bcast_S1x1024_S1x1x1024_1_2 g))) (broadcastInDim S4x2048x1024 ![0, 1, 2] bcast_S4x1x1024_S4x2048x1024_0_1_2 (addf (broadcastInDim S4x1x1024 ![] bcast_S_S4x1x1024 (constant S_ .f32 0x3F800000#32)) s))) (broadcastInDim S4x2048x1024 ![0, 1, 2] bcast_S4x1x1024_S4x2048x1024_0_1_2 h)) bitsLt_bf16_f32

theorem out_apply (x : FVec Ideal S4x2048x1024 .f32) (g : FVec Ideal S1x1024 .f32) (s h : FVec Ideal S4x1x1024 .f32) (b : Fin 4) (r : Fin 2048)
    (n : Fin 1024) : out x g s h (ix3 b r n) = modul x g s h b r n := by
  unfold out modul rms
  pointwise

/-- The call's array is the reference's result. -/
theorem meet (m : (ℓ : Loc Cert.Kernel22Ideal.nD Cert.Kernel22Ideal.τ Cert.Kernel22Ideal.sig) → Buf (Elt Ideal) ℓ) (c : Dev 1)
    {x : FVec Ideal S4x2048x1024 .f32} {g : FVec Ideal S1x1024 .f32} {s h : FVec Ideal S4x1x1024 .f32}
    (ex : x = A m c) (eg : g = G m c) (es : s = S m c) (eh : h = H m c) :
    out x g s h = (Cert.Kernel22Ideal.Gen.dats m 0 c).arrAt 4 Cert.Kernel22Ideal.cfg0.N := by
  subst ex eg es eh
  refine Eq.trans (funext fun i => ?_) (array4 m c).symm
  rw [eq_ix3 i]
  exact out_apply _ _ _ _ _ _ _

end Cert.NormFwd
end
-- ==== Proof.Rest.AdaFwd.lean ====
/-
  The modulation: every point's block, one layer's product of the activated conditioning with its weights plus the biases, and the
  reference's at the same place. No side condition: the two sum the same products.
-/
module

public import proofs.«01_k».proof.Proof.Gen.Kernel23Ideal.Value
public import proofs.«01_k».proof.Proof.Gen.Reference23Ideal.Run
public import Idealize.ShloMosaic.Lib.Claim
public import Idealize.ShloMosaic.Lib.Pipeline.ValueKit

@[expose] public section
set_option maxRecDepth 16384

noncomputable section
namespace Cert.AdaFwd
open Idealize.ShloMosaic Idealize.ShloMosaic.TcCoe Idealize.ShloMosaic.Tactic
open Cert.Kernel23Ideal Cert.Kernel23Ideal.Gen

theorem zeros : (![0, 0] : Fin 2 → Nat) = fun _ => 0 := funext fun a => by fin_cases a <;> rfl
theorem zeros3 : (![0, 0, 0] : Fin 3 → Nat) = fun _ => 0 := funext fun a => by fin_cases a <;> rfl
/-- What a point stores, element by element. -/
theorem pay1_apply (x : Vec Ideal S32x1024 .f32) (y : Vec Ideal S1x1024x768 .f32) (z : Vec Ideal S1x1x768 .f32) (p : Fin 32) (n : Fin 768) :
    k0_pay1 (F := Ideal) x y z (ix3 0 p n)
      = (∑ d : Fin 1024, x (ix2 p d) * Ideal.logistic (x (ix2 p d)) * y (ix3 0 d n)) + z (ix3 0 0 n) := by
  pointwise [k0_pay1, dot_S32x1024_S1024x768_S32x768_1_0_0_1_n_n]
theorem out_3 (x : Vec Ideal S32x1024 .f32) (y : Vec Ideal S1x1024x768 .f32) (z : Vec Ideal S1x1x768 .f32) : out0_3 x y z = k0_pay1 x y z := by
  unfold out0_3
  rw [View.canon_unit_zero zeros3]
  simp only [View.ld_unit_zero (S := S32x1024) zeros, View.ld_unit_zero (S := S1x1024x768) zeros3, View.ld_unit_zero (S := S1x1x768) zeros3]

/-- Layer `n` of 4. -/
def lay (n : ℕ) : Fin 4 := ⟨n % 4, Nat.mod_lt _ (by decide)⟩

/-- The modulation's element in layer `l`. -/
def modul (x : FVec Ideal S32x1024 .f32) (w : FVec Ideal S4x1024x768 .f32) (b : FVec Ideal S4x1x768 .f32) (l : Fin 4) (p : Fin 32) (n : Fin 768) : EReal :=
  (∑ d : Fin 1024, x (ix2 p d) * Ideal.logistic (x (ix2 p d)) * w (ix3 l d n)) + b (ix3 l 0 n)

variable (m : (ℓ : Loc nD τ sig) → Buf (Elt Ideal) ℓ) (c : Dev nD)

/-- The conditioning, the weights and the biases. -/
abbrev C : FVec Ideal S32x1024 .f32 := m (c.tc.loc main_arg0)
abbrev W : FVec Ideal S4x1024x768 .f32 := m (c.tc.loc main_arg1)
abbrev B : FVec Ideal S4x1x768 .f32 := m (c.tc.loc main_arg2)

theorem index0 : ∀ t : Fin cfg0.N, win0_0.index t = ![0, 0] := by decide +kernel
theorem index1 : ∀ t : Fin cfg0.N, win0_1.index t = ![t.val, 0, 0] := by decide +kernel
theorem index2 : ∀ t : Fin cfg0.N, win0_2.index t = ![t.val, 0, 0] := by decide +kernel
theorem index3 : ∀ t : Fin cfg0.N, win0_3.index t = ![t.val, 0, 0] := by decide +kernel

theorem point_lt (t : Fin cfg0.N) : t.val < 4 := lt_of_lt_of_eq t.isLt (show cfg0.N = 4 from N_0)

/-- A point's blocks of the three. -/
abbrev X (t : Fin cfg0.N) : FVec Ideal S32x1024 .f32 := iblk m c 0 t
abbrev Y (t : Fin cfg0.N) : FVec Ideal S1x1024x768 .f32 := iblk m c 1 t
abbrev Z (t : Fin cfg0.N) : FVec Ideal S1x1x768 .f32 := iblk m c 2 t

theorem lay_val (t : Fin cfg0.N) : (lay t.val).val = t.val := Nat.mod_eq_of_lt (point_lt t)

theorem block0 (t : Fin cfg0.N) (p : Fin 32) (d : Fin 1024) : X m c t (ix2 p d) = C m c (ix2 p d) := by
  blk_ext! [X, iblk, V, index0]
theorem block1 (t : Fin cfg0.N) (n : Fin 1024) (d : Fin 768) : Y m c t (ix3 0 n d) = W m c (ix3 (lay t.val) n d) := by
  have e := lay_val t
  blk_ext! [Y, iblk, V, index1, e]
theorem block2 (t : Fin cfg0.N) (d : Fin 768) : Z m c t (ix3 0 0 d) = B m c (ix3 (lay t.val) 0 d) := by
  have e := lay_val t
  blk_ext! [Z, iblk, V, index2, e]

/-- What the call puts at a place of its result. -/
def modulAt (l : Fin 4) (p : Fin 32) (n : Fin 768) : EReal := modul (C m c) (W m c) (B m c) l p n

theorem point3 (t : Fin cfg0.N) (p : Fin 32) (n : Fin 768) :
    out0_3 (F := Ideal) (X m c t) (Y m c t) (Z m c t) (ix3 0 p n) = modulAt m c (lay t.val) p n := by
  rw [out_3, pay1_apply]
  exact congrArg₂ (· + ·) (Finset.sum_congr rfl fun b _ => by rw [block0, block1]) (block2 m c t n)

theorem eq_ix3_zero (y : S1x32x768.Idx) : y = ix3 0 (y 1) (y 2) := by
  funext a
  fin_cases a
  · exact Fin.ext (Nat.lt_one_iff.mp (y 0).isLt)
  · rfl
  · rfl

/-- The result's array after the run. -/
theorem array3 : ((dats m 0 c).arrAt 3 cfg0.N : FVec Ideal S4x32x768 .f32) = fun i => modulAt m c (i 0) (i 1) (i 2) := by
  refine (dats m 0 c).arrAt_eq_of_covers 3 _ (by decide +kernel) fun t hf y => ?_
  blk_simp [index3]
  rw [after0_3]
  refine (congrArg (out0_3 (F := Ideal) (X m c t) (Y m c t) (Z m c t)) (eq_ix3_zero y)).trans ((point3 m c t (y 1) (y 2)).trans ?_)
  have e0 : (y 0).val = 0 := Nat.lt_one_iff.mp (show (y 0).val < 1 from (y 0).isLt)
  congr 1
  · exact Fin.ext ((lay_val t).trans (by blk_simp [index3, e0]))
  · exact Fin.ext (by blk_simp [index3])
  · exact Fin.ext (by blk_simp [index3])

end Cert.AdaFwd

namespace Cert.AdaFwd
open Idealize.ShloMosaic Idealize.ShloMosaic.TcCoe Idealize.ShloMosaic.Tactic
open Cert.Reference23Ideal Cert.Reference23Ideal.Gen

/-- The reference's result. -/
def out (x : FVec Ideal S32x1024 .f32) (w : FVec Ideal S4x1024x768 .f32) (b : FVec Ideal S4x1x768 .f32) : FVec Ideal S4x32x768 .f32 :=
  addf (transpose S4x32x768 [1, 0, 2] (Host.dotGeneral (φ₁ := .f32) (φ₂ := .f32) dot_S32x1024_S4x1024x768_S32x4x768_1_1_0_02_n_n none
    (mulf x (Host.divf (broadcastInDim S32x1024 ![] bcast_S_S32x1024 (constant S_ .f32 0x3F800000#32))
      (addf (broadcastInDim S32x1024 ![] bcast_S_S32x1024 (constant S_ .f32 0x3F800000#32)) (Host.exp (Host.negf x))))) w) transposes_S32x4x768_S4x32x768_1_0_2)
    (broadcastInDim S4x32x768 ![0, 1, 2] bcast_S4x1x768_S4x32x768_0_1_2 b)

theorem out_apply (x : FVec Ideal S32x1024 .f32) (w : FVec Ideal S4x1024x768 .f32) (b : FVec Ideal S4x1x768 .f32) (l : Fin 4) (p : Fin 32) (n : Fin 768) :
    out x w b (ix3 l p n) = modul x w b l p n := by
  unfold out modul
  pointwise [dot_S32x1024_S4x1024x768_S32x4x768_1_1_0_02_n_n]
  rfl

/-- The call's array is the reference's result. -/
theorem meet (m : (ℓ : Loc Cert.Kernel23Ideal.nD Cert.Kernel23Ideal.τ Cert.Kernel23Ideal.sig) → Buf (Elt Ideal) ℓ) (c : Dev 1)
    {x : FVec Ideal S32x1024 .f32} {w : FVec Ideal S4x1024x768 .f32} {b : FVec Ideal S4x1x768 .f32} (ex : x = C m c) (ew : w = W m c) (eb : b = B m c) :
    out x w b = (Cert.Kernel23Ideal.Gen.dats m 0 c).arrAt 3 Cert.Kernel23Ideal.cfg0.N := by
  subst ex ew eb
  refine Eq.trans (funext fun i => ?_) (array3 m c).symm
  rw [eq_ix3 i]
  exact out_apply _ _ _ _ _ _

end Cert.AdaFwd
end
-- ==== Proof.Rest.UnitFwd.lean ====
/-
  The gating unit: every point's block, sixteen squares of 128 rows of a chunk and 128 columns of a group, and the reference's at the
  same place. No side condition: the two compute the same operations, the GELU's three factors in another order.
-/
module

public import proofs.«01_k».proof.Proof.Gmlp.RefRow
public import proofs.«01_k».proof.Proof.Gen.Kernel24Ideal.Value
public import proofs.«01_k».proof.Proof.Gen.Reference24Ideal.Run
public import Idealize.ShloMosaic.Lib.Claim
public import Idealize.ShloMosaic.Lib.Pipeline.ValueKit

@[expose] public section
set_option maxRecDepth 16384

noncomputable section
namespace Cert.UnitFwd
open Idealize.ShloMosaic Idealize.ShloMosaic.TcCoe Idealize.ShloMosaic.Tactic
open Cert.Kernel24Ideal Cert.Kernel24Ideal.Gen

/-! ## The unit's element -/

def gel (x : EReal) : EReal :=
  Ideal.ofBits .f32 0x3F000000#32 * x * (1 + Ideal.tanh (Ideal.ofBits .f32 0x3F4C422A#32 * (x + ((8943 / 200000 : ℝ) : EReal) * (x * x * x))))
def mean (f : Fin 512 → EReal) : EReal := Ideal.div (∑ d, f d) (Ideal.ofBits .f32 0x44000000#32)
def centre (f : Fin 512 → EReal) (j : Fin 512) : EReal := f j - mean f
/-- The layer norm of a row. -/
def layer (f lg lb : Fin 512 → EReal) (j : Fin 512) : EReal :=
  centre f j * Ideal.rsqrt (mean (fun d => centre f d * centre f d) + Ideal.ofBits .f32 0x358637BD#32) * lg j + lb j
/-- The unit at row `p` of a chunk: its first factor, the rows of the chunk's second one, the row of the group's weights and its bias. -/
def unit (u : EReal) (v : Fin 128 → Fin 512 → EReal) (lg lb : Fin 512 → EReal) (w : Fin 128 → EReal) (b : EReal) (p : Fin 128) (j : Fin 512) : EReal :=
  gel u * ((∑ k : Fin 128, (if k ≤ p then w k else 0) * layer (fun d => gel (v k d)) lg lb j) + b)

theorem named_a : (Named.named κ "gelu_a" 0x3D372713#32 : Ideal .f32) = ((8943 / 200000 : ℝ) : EReal) := by
  rw [IdealRules.named_const.ideal_named_scalar _ _ _ _ rfl]

/-! ## A square that a point stores -/

section Squares
variable {F : FTy → Type} [FloatOps F] [Named F]

/-- Rows of a chunk, the weights and the bias of a group, and the group's columns. -/
def rowsAt (q : Fin 4) (x : Vec F S512x512 .bf16) : FVec F S128x512 .bf16 :=
  View.ld x (Rect.unit (s := S512x512) ![128 * q.val, 0] S128x512.size (by
    intro a; fin_cases a
    · exact (by show 128 * q.val + 128 ≤ 512; omega)
    · exact Nat.le_refl 512))
def weightAt (g : Fin 4) (x : Vec F S4x128x128 .f32) : FVec F S1x128x128 .f32 :=
  View.ld x (Rect.unit (s := S4x128x128) ![g.val, 0, 0] S1x128x128.size (by
    intro a; fin_cases a
    · exact (by show g.val + 1 ≤ 4; omega)
    · exact Nat.le_refl 128
    · exact Nat.le_refl 128))
def biasAt (g : Fin 4) (x : Vec F S128x4 .f32) : FVec F S128x1 .f32 :=
  View.ld x (Rect.unit (s := S128x4) ![0, g.val] S128x1.size (by
    intro a; fin_cases a
    · exact Nat.le_refl 128
    · exact (by show g.val + 1 ≤ 4; omega)))
def group {φ : FTy} (g : Fin 4) (x : FVec F S128x512 φ) : FVec F S128x128 φ :=
  extractStridedSlice S128x128 ![0, 128 * g.val] x ⟨rfl, by
    intro a; fin_cases a
    · exact Nat.le_refl 128
    · exact (by show 128 * g.val + 128 ≤ 512; omega)⟩

/-- The square of chunk `q` and group `g`, from its operands. -/
def square (g : Fin 4) (w : FVec F S128x128 .bf16) (u : FVec F S128x512 .f32) (vn : FVec F S128x512 .bf16) (b : FVec F S128x1 .f32) : FVec F S128x128 .bf16 :=
  truncf .bf16 (mulf (group g u) (addf
    (matmul dot_S128x128_S128x128_S128x128_1_0_0_1_n_n none w (group g vn) (constant S128x128 .f32 0x00000000#32))
    (broadcastTo S128x128 (shapeCast S128x1 b shapeCasts_S128x1_S128x1) broadcasts_S128x1_S128x128))) bitsLt_bf16_f32

variable (x0 x1 : Vec F S512x512 .bf16) (x2 x3 : Vec F S1x512 .f32) (x4 : Vec F S4x128x128 .f32) (x5 : Vec F S128x4 .f32)
/-- … and from the point's blocks. -/
def piece (q g : Fin 4) : FVec F S128x128 .bf16 :=
  square g (k0_pay2 (weightAt g x4)) (k0_pay16 (rowsAt q x0)) (k0_pay10 (rowsAt q x1) (View.ld x2 r0_5) (View.ld x3 r0_5)) (biasAt g x5)

theorem out_eq : out0_6 x0 x1 x2 x3 x4 x5 = View.canon [
    ⟨r0_28, piece x0 x1 x2 x3 x4 x5 3 3⟩, ⟨r0_27, piece x0 x1 x2 x3 x4 x5 3 2⟩, ⟨r0_26, piece x0 x1 x2 x3 x4 x5 3 1⟩, ⟨r0_25, piece x0 x1 x2 x3 x4 x5 3 0⟩,
    ⟨r0_23, piece x0 x1 x2 x3 x4 x5 2 3⟩, ⟨r0_22, piece x0 x1 x2 x3 x4 x5 2 2⟩, ⟨r0_21, piece x0 x1 x2 x3 x4 x5 2 1⟩, ⟨r0_20, piece x0 x1 x2 x3 x4 x5 2 0⟩,
    ⟨r0_18, piece x0 x1 x2 x3 x4 x5 1 3⟩, ⟨r0_17, piece x0 x1 x2 x3 x4 x5 1 2⟩, ⟨r0_16, piece x0 x1 x2 x3 x4 x5 1 1⟩, ⟨r0_15, piece x0 x1 x2 x3 x4 x5 1 0⟩,
    ⟨r0_13, piece x0 x1 x2 x3 x4 x5 0 3⟩, ⟨r0_11, piece x0 x1 x2 x3 x4 x5 0 2⟩, ⟨r0_9, piece x0 x1 x2 x3 x4 x5 0 1⟩, ⟨r0_7, piece x0 x1 x2 x3 x4 x5 0 0⟩] := rfl
end Squares

section Points
variable (x0 x1 : Vec Ideal S512x512 .bf16) (x2 x3 : Vec Ideal S1x512 .f32) (x4 : Vec Ideal S4x128x128 .f32) (x5 : Vec Ideal S128x4 .f32)

theorem zeros : (![0, 0] : Fin 2 → Nat) = fun _ => 0 := funext fun a => by fin_cases a <;> rfl
/-- Column `j` of group `g`; row `p` of chunk `q`. -/
def col (g : Fin 4) (j : Fin 128) : Fin 512 := ⟨128 * g.val + j.val, by omega⟩

theorem pay16_apply (x : Vec Ideal S128x512 .bf16) (p : Fin 128) (j : Fin 512) : k0_pay16 (F := Ideal) x (ix2 p j) = gel (x (ix2 p j)) := by
  unfold gel
  pointwise [k0_pay16, named_a]
theorem pay10_apply (x : Vec Ideal S128x512 .bf16) (lg lb : Vec Ideal S1x512 .f32) (p : Fin 128) (j : Fin 512) :
    k0_pay10 (F := Ideal) x lg lb (ix2 p j) = layer (fun d => gel (x (ix2 p d))) (fun d => lg (ix2 0 d)) (fun d => lb (ix2 0 d)) j := by
  have e : k0_pay10 (F := Ideal) x lg lb = k0_pay19 (k0_pay17 x) (k0_pay18 x) lg lb := rfl
  have e1 : ∀ d, k0_pay17 (F := Ideal) x (ix2 p d) = centre (fun d => gel (x (ix2 p d))) d := by
    intro d
    unfold centre mean gel
    pointwise [k0_pay17, named_a]
  have e2 : k0_pay18 (F := Ideal) x (ix2 p 0) = mean (fun d => centre (fun d => gel (x (ix2 p d))) d * centre (fun d => gel (x (ix2 p d))) d) + Ideal.ofBits .f32 0x358637BD#32 := by
    unfold mean
    pointwise [k0_pay18]
    simp only [e1]
  rw [e]
  unfold layer
  pointwise [k0_pay19]
  rw [e1, e2]
theorem pay2_apply (w : Vec Ideal S1x128x128 .f32) (p k : Fin 128) : k0_pay2 (F := Ideal) w (ix2 p k) = if k ≤ p then w (ix3 0 p k) else 0 := by
  pointwise [k0_pay2, k0_pay1]
  rw [Cert.Gmlp.tril_word]
theorem square_apply (g : Fin 4) (w : FVec Ideal S128x128 .bf16) (u : FVec Ideal S128x512 .f32) (vn : FVec Ideal S128x512 .bf16) (b : FVec Ideal S128x1 .f32)
    (p j : Fin 128) : square g w u vn b (ix2 p j) = u (ix2 p (col g j)) * ((∑ k, w (ix2 p k) * vn (ix2 k (col g j))) + b (ix2 p 0)) := by
  pointwise [square, group, col, dot_S128x128_S128x128_S128x128_1_0_0_1_n_n]
theorem rows_apply (q : Fin 4) (x : Vec Ideal S512x512 .bf16) (p : Fin 128) (j : Fin 512) : rowsAt q x (ix2 p j) = x (ix2 (col q p) j) := by
  pointwise [rowsAt, col]
theorem weight_apply (g : Fin 4) (p k : Fin 128) : weightAt g x4 (ix3 0 p k) = x4 (ix3 g p k) := by
  pointwise [weightAt]
theorem bias_apply (g : Fin 4) (p : Fin 128) : biasAt g x5 (ix2 p 0) = x5 (ix2 p g) := by
  pointwise [biasAt]

/-- The number of 128, and the place in it. -/
def hi (n : Fin 512) : Fin 4 := ⟨n.val / 128, by omega⟩
def lo (n : Fin 512) : Fin 128 := ⟨n.val % 128, by omega⟩

/-- The block's element. -/
def blockG (P C : Fin 512) : EReal :=
  unit (x0 (ix2 P C)) (fun k d => x1 (ix2 (col (hi P) k) d)) (fun d => x2 (ix2 0 d)) (fun d => x3 (ix2 0 d)) (fun k => x4 (ix3 (hi C) (lo P) k)) (x5 (ix2 (lo P) (hi C))) (lo P) C

theorem piece_ix (q g : Fin 4) (r s : Fin 128) : piece x0 x1 x2 x3 x4 x5 q g (ix2 r s) = blockG x0 x1 x2 x3 x4 x5 (col q r) (col g s) := by
  have a0 : hi (col q r) = q := Fin.ext (by show (128 * q.val + r.val) / 128 = q.val; omega)
  have a1 : lo (col q r) = r := Fin.ext (by show (128 * q.val + r.val) % 128 = r.val; omega)
  have a2 : hi (col g s) = g := Fin.ext (by show (128 * g.val + s.val) / 128 = g.val; omega)
  unfold blockG unit piece
  rw [a0, a1, a2, View.ld_unit_zero (S := S1x512) zeros, View.ld_unit_zero (S := S1x512) zeros, square_apply, pay16_apply, rows_apply, bias_apply]
  simp only [pay2_apply, pay10_apply, rows_apply, weight_apply]
theorem piece_apply (P C : Fin 512) (q g : Fin 4) (x : S128x128.Idx) (hP : P.val = 128 * q.val + (x 0).val) (hC : C.val = 128 * g.val + (x 1).val) :
    piece x0 x1 x2 x3 x4 x5 q g x = blockG x0 x1 x2 x3 x4 x5 P C := by
  obtain rfl : P = col q (x 0) := Fin.ext hP
  obtain rfl : C = col g (x 1) := Fin.ext hC
  exact (congrArg _ (eq_ix2 (show S128x128.Idx from x))).trans (piece_ix x0 x1 x2 x3 x4 x5 q g (x 0) (x 1))

theorem out_6 (P C : Fin 512) : out0_6 (F := Ideal) x0 x1 x2 x3 x4 x5 (ix2 P C) = blockG x0 x1 x2 x3 x4 x5 P C := by
  rw [out_eq]
  refine View.canon_eq_of_allAt _ _ _ (cover0_6 _ _ _ _ _ _ _ _ _ _ _ _ _ _ _ _ _) ?_
  iterate 16 refine View.allAt_cons_unit _ _ _ _ _ (fun x hx => piece_apply x0 x1 x2 x3 x4 x5 P C _ _ x (hx 0) (hx 1)) ?_
  exact View.allAt_nil _ _
end Points

/-! ## Where a point's blocks lie -/

/-- Row `n` of 8192; column `n` of 6144. -/
def row (n : ℕ) : Fin 8192 := ⟨n % 8192, Nat.mod_lt _ (by decide)⟩
def wide (n : ℕ) : Fin 6144 := ⟨n % 6144, Nat.mod_lt _ (by decide)⟩

/-- The unit's element at a row of 8192 and a column of 512. -/
def unitOf (a : FVec Ideal S8192x6144 .bf16) (lg lb : FVec Ideal S512 .f32) (w : FVec Ideal S4x128x128 .f32) (b : FVec Ideal S4x128 .f32)
    (r : Fin 8192) (C : Fin 512) : EReal :=
  unit (a (ix2 r (wide C.val))) (fun k d => a (ix2 (row (128 * (r.val / 128) + k.val)) (wide (512 + d.val)))) (fun d => lg (ix1 d)) (fun d => lb (ix1 d))
    (fun k => w (ix3 (hi C) ⟨r.val % 128, Nat.mod_lt _ (by decide)⟩ k)) (b (ix2 (hi C) ⟨r.val % 128, Nat.mod_lt _ (by decide)⟩))
    ⟨r.val % 128, Nat.mod_lt _ (by decide)⟩ C

variable (m : (ℓ : Loc nD τ sig) → Buf (Elt Ideal) ℓ) (c : Dev nD)

/-- The projection, the gain, the shift, the spatial weights and biases. -/
abbrev A : FVec Ideal S8192x6144 .bf16 := m (c.tc.loc main_arg0)
abbrev G : FVec Ideal S512 .f32 := m (c.tc.loc main_arg1)
abbrev H : FVec Ideal S512 .f32 := m (c.tc.loc main_arg2)
abbrev W : FVec Ideal S4x128x128 .f32 := m (c.tc.loc main_arg3)
abbrev B : FVec Ideal S4x128 .f32 := m (c.tc.loc main_arg4)

theorem index0 : ∀ t : Fin cfg0.N, win0_0.index t = ![t.val, 0] := by decide +kernel
theorem index1 : ∀ t : Fin cfg0.N, win0_1.index t = ![t.val, 1] := by decide +kernel
theorem index2 : ∀ t : Fin cfg0.N, win0_2.index t = ![0, 0] := by decide +kernel
theorem index3 : ∀ t : Fin cfg0.N, win0_3.index t = ![0, 0] := by decide +kernel
theorem index4 : ∀ t : Fin cfg0.N, win0_4.index t = ![0, 0, 0] := by decide +kernel
theorem index5 : ∀ t : Fin cfg0.N, win0_5.index t = ![0, 0] := by decide +kernel
theorem index6 : ∀ t : Fin cfg0.N, win0_6.index t = ![t.val, 0] := by decide +kernel

theorem point_lt (t : Fin cfg0.N) : t.val < 16 := lt_of_lt_of_eq t.isLt (show cfg0.N = 16 from N_0)

/-- A point's blocks. -/
abbrev X0 (t : Fin cfg0.N) : FVec Ideal S512x512 .bf16 := iblk m c 0 t
abbrev X1 (t : Fin cfg0.N) : FVec Ideal S512x512 .bf16 := iblk m c 1 t
abbrev X2 (t : Fin cfg0.N) : FVec Ideal S1x512 .f32 := iblk m c 2 t
abbrev X3 (t : Fin cfg0.N) : FVec Ideal S1x512 .f32 := iblk m c 3 t
abbrev X4 (t : Fin cfg0.N) : FVec Ideal S4x128x128 .f32 := iblk m c 4 t
abbrev X5 (t : Fin cfg0.N) : FVec Ideal S128x4 .f32 := iblk m c 5 t

theorem row_val (t : Fin cfg0.N) (p : Fin 512) : (row (512 * t.val + p.val)).val = 512 * t.val + p.val :=
  Nat.mod_eq_of_lt (by have := point_lt t; omega)
theorem wide_val (n : ℕ) (h : n < 1024) : (wide n).val = n := Nat.mod_eq_of_lt (by omega)

theorem block0 (t : Fin cfg0.N) (p d : Fin 512) : X0 m c t (ix2 p d) = A m c (ix2 (row (512 * t.val + p.val)) (wide d.val)) := by
  have e := row_val t p
  have e' := wide_val d.val (by omega)
  blk_ext! [X0, iblk, V, index0, e, e']
theorem block1 (t : Fin cfg0.N) (p d : Fin 512) : X1 m c t (ix2 p d) = A m c (ix2 (row (512 * t.val + p.val)) (wide (512 + d.val))) := by
  have e := row_val t p
  have e' := wide_val (512 + d.val) (by omega)
  blk_ext! [X1, iblk, V, index1, e, e']
theorem block2 (t : Fin cfg0.N) (d : Fin 512) : X2 m c t (ix2 0 d) = G m c (ix1 d) := by
  blk_ext! [X2, iblk, V, index2]
theorem block3 (t : Fin cfg0.N) (d : Fin 512) : X3 m c t (ix2 0 d) = H m c (ix1 d) := by
  blk_ext! [X3, iblk, V, index3]
theorem block4 (t : Fin cfg0.N) (g : Fin 4) (p k : Fin 128) : X4 m c t (ix3 g p k) = W m c (ix3 g p k) := by
  blk_ext! [X4, iblk, V, index4]
theorem block5 (t : Fin cfg0.N) (p : Fin 128) (g : Fin 4) : X5 m c t (ix2 p g) = B m c (ix2 g p) := by
  blk_ext! [X5, iblk, V, index5]

/-- What the call puts at a place of its result. -/
def unitAt (r : Fin 8192) (C : Fin 512) : EReal := unitOf (A m c) (G m c) (H m c) (W m c) (B m c) r C

theorem point6 (t : Fin cfg0.N) (P C : Fin 512) :
    out0_6 (F := Ideal) (X0 m c t) (X1 m c t) (X2 m c t) (X3 m c t) (X4 m c t) (X5 m c t) (ix2 P C) = unitAt m c (row (512 * t.val + P.val)) C := by
  have e := row_val t P
  have e0 : lo P = ⟨(row (512 * t.val + P.val)).val % 128, Nat.mod_lt _ (by decide)⟩ := Fin.ext (by show P.val % 128 = (row (512 * t.val + P.val)).val % 128; omega)
  have e1 : ∀ k : Fin 128, 512 * t.val + (col (hi P) k).val = 128 * ((row (512 * t.val + P.val)).val / 128) + k.val := fun k => by
    show 512 * t.val + (128 * (P.val / 128) + k.val) = _
    omega
  rw [out_6]
  unfold blockG unitAt unitOf
  simp only [block0, block1, block2, block3, block4, block5, ← e0, e1]

/-- The result's array after the run. -/
theorem array6 : ((dats m 0 c).arrAt 6 cfg0.N : FVec Ideal S8192x512 .bf16) = fun i => unitAt m c (i 0) (i 1) := by
  refine (dats m 0 c).arrAt_eq_of_covers 6 _ (by decide +kernel) fun t hf y => ?_
  blk_simp [index6]
  rw [after0_6]
  refine (congrArg (out0_6 (F := Ideal) (X0 m c t) (X1 m c t) (X2 m c t) (X3 m c t) (X4 m c t) (X5 m c t)) (eq_ix2 y)).trans ((point6 m c t (y 0) (y 1)).trans ?_)
  congr 1
  · exact Fin.ext ((row_val t (y 0)).trans (by blk_simp [index6]; exact congrArg (· + _) (Nat.mul_comm _ _)))
  · exact Fin.ext (by blk_simp [index6])

end Cert.UnitFwd

namespace Cert.UnitFwd
open Idealize.ShloMosaic Idealize.ShloMosaic.TcCoe Idealize.ShloMosaic.Tactic
open Cert.Reference24Ideal Cert.Reference24Ideal.Gen

/-! ## The reference, in parts -/

def halfU (a : FVec Ideal S8192x6144 .bf16) : FVec Ideal S4x2048x512 .f32 :=
  extractStridedSlice S4x2048x512 ![0, 0, 0] (shapeCast _ (extf .f32 a bitsLt_bf16_f32) shapeCasts_S8192x6144_S4x2048x6144) slices_S4x2048x6144_S4x2048x512_0_0_0
def halfV (a : FVec Ideal S8192x6144 .bf16) : FVec Ideal S4x2048x512 .f32 :=
  extractStridedSlice S4x2048x512 ![0, 0, 512] (shapeCast _ (extf .f32 a bitsLt_bf16_f32) shapeCasts_S8192x6144_S4x2048x6144) slices_S4x2048x6144_S4x2048x512_0_0_512
def rGel (x : FVec Ideal S4x2048x512 .f32) : FVec Ideal S4x2048x512 .f32 :=
  mulf x (mulf (broadcastInDim S4x2048x512 ![] bcast_S_S4x2048x512 (constant S_ .f32 0x3F000000#32)) (addf (broadcastInDim S4x2048x512 ![] bcast_S_S4x2048x512 (constant S_ .f32 0x3F800000#32)) (Host.tanh (mulf (broadcastInDim S4x2048x512 ![] bcast_S_S4x2048x512 (constant S_ .f32 0x3F4C422A#32)) (addf x (mulf (broadcastInDim S4x2048x512 ![] bcast_S_S4x2048x512 (Host.divf (constant S_ .f32 0x472EAB00#32) (constant S_ .f32 0x49742400#32))) (mulf (mulf x x) x)))))))
def rMean (x : FVec Ideal S4x2048x512 .f32) : FVec Ideal S4x2048x1 .f32 :=
  Host.divf (broadcastInDim S4x2048x1 ![0, 1] bcast_S4x2048_S4x2048x1_0_1 (Host.reduceAdd x (constant S_ .f32 0x00000000#32) reducesTo_S4x2048x512_S4x2048_d2 h_S_)) (broadcastInDim S4x2048x1 ![] bcast_S_S4x2048x1 (constant S_ .f32 0x44000000#32))
def rCentre (x : FVec Ideal S4x2048x512 .f32) : FVec Ideal S4x2048x512 .f32 :=
  subf x (broadcastInDim S4x2048x512 ![0, 1, 2] bcast_S4x2048x1_S4x2048x512_0_1_2 (rMean x))
def rLayer (x : FVec Ideal S4x2048x512 .f32) (lg lb : FVec Ideal S512 .f32) : FVec Ideal S4x2048x512 .f32 :=
  addf (mulf (mulf (rCentre x) (broadcastInDim S4x2048x512 ![0, 1, 2] bcast_S4x2048x1_S4x2048x512_0_1_2 (Host.rsqrt (addf (rMean (mulf (rCentre x) (rCentre x))) (broadcastInDim S4x2048x1 ![] bcast_S_S4x2048x1 (constant S_ .f32 0x358637BD#32)))))) (broadcastInDim S4x2048x512 ![0, 1, 2] bcast_S1x1x512_S4x2048x512_0_1_2 (broadcastInDim S1x1x512 ![2] bcast_S512_S1x1x512_2 lg))) (broadcastInDim S4x2048x512 ![0, 1, 2] bcast_S1x1x512_S4x2048x512_0_1_2 (broadcastInDim S1x1x512 ![2] bcast_S512_S1x1x512_2 lb))
def rTril (w : FVec Ideal S4x128x128 .f32) : FVec Ideal S4x128x128 .f32 :=
  select (broadcastInDim S4x128x128 ![0, 1, 2] bcast_S1x128x128_S4x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) w (broadcastInDim S4x128x128 ![] bcast_S_S4x128x128 (id (constant S_ .f32 0x00000000#32)))
/-- The mixing of the chunks' rows. -/
def rMix (y : FVec Ideal S4x2048x512 .f32) (w : FVec Ideal S4x128x128 .f32) (b : FVec Ideal S4x128 .f32) : FVec Ideal S4x2048x512 .f32 :=
  shapeCast _ (addf (transpose S4x16x128x4x128 [1, 2, 4, 0, 3] (Host.dotGeneral dot_S4x16x128x4x128_S4x128x128_S4x4x16x128x128_2_2_014_1_3_0 none (shapeCast _ y shapeCasts_S4x2048x512_S4x16x128x4x128) w) transposes_S4x4x16x128x128_S4x16x128x4x128_1_2_4_0_3) (broadcastInDim S4x16x128x4x128 ![0, 1, 2, 3, 4] bcast_S1x1x128x4x1_S4x16x128x4x128_0_1_2_3_4 (broadcastInDim S1x1x128x4x1 ![2, 3, 4] bcast_S128x4x1_S1x1x128x4x1_2_3_4 (broadcastInDim S128x4x1 ![0, 1] bcast_S128x4_S128x4x1_0_1 (transpose S128x4 [1, 0] b transposes_S4x128_S128x4_1_0))))) shapeCasts_S4x16x128x4x128_S4x2048x512
/-- The reference's result. -/
def out (a : FVec Ideal S8192x6144 .bf16) (lg lb : FVec Ideal S512 .f32) (w : FVec Ideal S4x128x128 .f32) (b : FVec Ideal S4x128 .f32) : FVec Ideal S8192x512 .bf16 :=
  truncf .bf16 (shapeCast _ (mulf (rGel (halfU a)) (rMix (rLayer (rGel (halfV a)) lg lb) (rTril w) b)) shapeCasts_S4x2048x512_S8192x512) bitsLt_bf16_f32

theorem word_a : Ideal.div (Ideal.ofBits .f32 0x472EAB00#32) (Ideal.ofBits .f32 0x49742400#32) = ((8943 / 200000 : ℝ) : EReal) :=
  Cert.Gmlp.word_a.trans (by unfold Cert.Gmlp.rA; norm_num)

section Parts
variable (b : Fin 4) (t : Fin 2048) (j : Fin 512)
theorem gel_apply (x : FVec Ideal S4x2048x512 .f32) : rGel x (ix3 b t j) = gel (x (ix3 b t j)) := by
  unfold gel
  pointwise [rGel]
  rw [word_a, ← mul_assoc, mul_comm (x _)]
theorem mean_apply (x : FVec Ideal S4x2048x512 .f32) : rMean x (ix3 b t 0) = mean fun d => x (ix3 b t d) := by
  unfold mean
  pointwise [rMean]
theorem centre_apply (x : FVec Ideal S4x2048x512 .f32) : rCentre x (ix3 b t j) = centre (fun d => x (ix3 b t d)) j := by
  have e := mean_apply b t x
  unfold centre
  pointwise [rCentre]
  rw [e]
theorem layer_apply (x : FVec Ideal S4x2048x512 .f32) (lg lb : FVec Ideal S512 .f32) :
    rLayer x lg lb (ix3 b t j) = layer (fun d => x (ix3 b t d)) (fun d => lg (ix1 d)) (fun d => lb (ix1 d)) j := by
  have e := mean_apply b t (mulf (rCentre x) (rCentre x))
  have e1 := fun d => centre_apply b t d x
  unfold layer
  pointwise [rLayer]
  rw [e, e1]
  congr 6
  funext d
  exact congrArg₂ (· * ·) (e1 d) (e1 d)
theorem tril_apply (w : FVec Ideal S4x128x128 .f32) (g : Fin 4) (p k : Fin 128) : rTril w (ix3 g p k) = if k ≤ p then w (ix3 g p k) else 0 := by
  pointwise [rTril]
  rw [show IntOp.addi (BitVec.ofNat 32 p.val) 0#32 = BitVec.ofNat 32 p.val from BitVec.add_zero _, Cert.Gmlp.tril_word]
  split_ifs
  · rfl
  · simp [id, constant, Ideal.ofBits, Ideal.ieee, Scalar.select]
theorem mix_apply (y : FVec Ideal S4x2048x512 .f32) (w : FVec Ideal S4x128x128 .f32) (bs : FVec Ideal S4x128 .f32) :
    rMix y w bs (ix3 b t j) = (∑ k : Fin 128, y (ix3 b ⟨t.val / 128 * 128 + k.val, by omega⟩ j) * w (ix3 (hi j) ⟨t.val % 128, Nat.mod_lt _ (by decide)⟩ k)) + bs (ix2 (hi j) ⟨t.val % 128, Nat.mod_lt _ (by decide)⟩) := by
  pointwise [rMix, hi, dot_S4x16x128x4x128_S4x128x128_S4x4x16x128x128_2_2_014_1_3_0]
theorem halfU_apply (a : FVec Ideal S8192x6144 .bf16) : halfU a (ix3 b t j) = a (ix2 ⟨2048 * b.val + t.val, by omega⟩ (wide j.val)) := by
  have e := wide_val j.val (by omega)
  pointwise [halfU]
  blk_ext! [e]
theorem halfV_apply (a : FVec Ideal S8192x6144 .bf16) : halfV a (ix3 b t j) = a (ix2 ⟨2048 * b.val + t.val, by omega⟩ (wide (512 + j.val))) := by
  have e := wide_val (512 + j.val) (by omega)
  pointwise [halfV]
  blk_ext! [e]
end Parts

theorem out_apply (a : FVec Ideal S8192x6144 .bf16) (lg lb : FVec Ideal S512 .f32) (w : FVec Ideal S4x128x128 .f32) (bs : FVec Ideal S4x128 .f32)
    (r : Fin 8192) (j : Fin 512) : out a lg lb w bs (ix2 r j) = unitOf a lg lb w bs r j := by
  have e : out a lg lb w bs (ix2 r j)
      = rGel (halfU a) (ix3 ⟨r.val / 2048, by omega⟩ ⟨r.val % 2048, Nat.mod_lt _ (by decide)⟩ j)
        * rMix (rLayer (rGel (halfV a)) lg lb) (rTril w) bs (ix3 ⟨r.val / 2048, by omega⟩ ⟨r.val % 2048, Nat.mod_lt _ (by decide)⟩ j) := by
    pointwise [out]
  rw [e, gel_apply, mix_apply, halfU_apply]
  simp only [layer_apply, gel_apply, halfV_apply, tril_apply]
  have e0 : (⟨2048 * (r.val / 2048) + r.val % 2048, by omega⟩ : Fin 8192) = r := Fin.ext (Nat.div_add_mod _ _)
  have e1 : (⟨r.val % 2048 % 128, Nat.mod_lt _ (by decide)⟩ : Fin 128) = ⟨r.val % 128, Nat.mod_lt _ (by decide)⟩ :=
    Fin.ext (by show r.val % 2048 % 128 = r.val % 128; omega)
  have e2 : ∀ k : Fin 128, (⟨2048 * (r.val / 2048) + (r.val % 2048 / 128 * 128 + k.val), by omega⟩ : Fin 8192) = row (128 * (r.val / 128) + k.val) := fun k =>
    Fin.ext (by show 2048 * (r.val / 2048) + (r.val % 2048 / 128 * 128 + k.val) = (128 * (r.val / 128) + k.val) % 8192; omega)
  unfold unitOf unit
  simp only [e0, e1, e2, mul_comm (layer _ _ _ _)]

/-- The call's array is the reference's result. -/
theorem meet (m : (ℓ : Loc Cert.Kernel24Ideal.nD Cert.Kernel24Ideal.τ Cert.Kernel24Ideal.sig) → Buf (Elt Ideal) ℓ) (c : Dev 1)
    {a : FVec Ideal S8192x6144 .bf16} {lg lb : FVec Ideal S512 .f32} {w : FVec Ideal S4x128x128 .f32} {b : FVec Ideal S4x128 .f32}
    (ea : a = A m c) (eg : lg = G m c) (eh : lb = H m c) (ew : w = W m c) (eb : b = B m c) :
    out a lg lb w b = (Cert.Kernel24Ideal.Gen.dats m 0 c).arrAt 6 Cert.Kernel24Ideal.cfg0.N := by
  subst ea eg eh ew eb
  refine Eq.trans (funext fun i => ?_) (array6 m c).symm
  rw [eq_ix2 i]
  exact out_apply _ _ _ _ _ _ _

end Cert.UnitFwd
end
-- ==== Proof.lean ====
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.Gen.Kernel6.Frame
public import proofs.«01_k».proof.Proof.Gen.Kernel6Ideal.Frame
public import proofs.«01_k».proof.Proof.Gen.Kernel7.Frame
public import proofs.«01_k».proof.Proof.Gen.Kernel7Ideal.Frame
public import proofs.«01_k».proof.Proof.Gen.Kernel8.Frame
public import proofs.«01_k».proof.Proof.Gen.Kernel8Ideal.Frame
public import proofs.«01_k».proof.Proof.Gen.Kernel9.Frame
public import proofs.«01_k».proof.Proof.Gen.Kernel9Ideal.Frame
public import proofs.«01_k».proof.Proof.Gen.Pre_finite
public import proofs.«01_k».proof.Proof.Gen.Pre_finite2
public import proofs.«01_k».proof.Proof.Gen.KernelIdeal.Value
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Reference4Ideal.Run
public import proofs.«01_k».proof.Proof.Gen.Kernel5Ideal.Value
public import proofs.«01_k».proof.Proof.Gen.Reference5Ideal.Run
public import proofs.«01_k».proof.Proof.Gen.Kernel6Ideal.Value
public import proofs.«01_k».proof.Proof.Gen.Reference6Ideal.Run
public import proofs.«01_k».proof.Proof.Gen.Kernel7Ideal.Value
public import proofs.«01_k».proof.Proof.Gen.Reference7Ideal.Run
public import proofs.«01_k».proof.Proof.Gen.Kernel8Ideal.Value
public import proofs.«01_k».proof.Proof.Gen.Reference8Ideal.Run
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Kernel20.Frame
public import proofs.«01_k».proof.Proof.Gen.Kernel20Ideal.Frame
public import proofs.«01_k».proof.Proof.Gen.Reference20Ideal.Run
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Gen.Kernel22.Frame
public import proofs.«01_k».proof.Proof.Gen.Kernel22Ideal.Frame
public import proofs.«01_k».proof.Proof.Gen.Kernel22Ideal.Value
public import proofs.«01_k».proof.Proof.Gen.Reference22Ideal.Run
public import proofs.«01_k».proof.Proof.Update.Modulation
public import proofs.«01_k».proof.Proof.Gen.Kernel25.Frame
public import proofs.«01_k».proof.Proof.Update.Spatial
public import proofs.«01_k».proof.Proof.Gen.Kernel26.Frame
public import proofs.«01_k».proof.Proof.Gen.Kernel24.Frame
public import proofs.«01_k».proof.Proof.Gen.Kernel23.Frame
public import proofs.«01_k».proof.Proof.Gen.Kernel23Ideal.Frame
public import proofs.«01_k».proof.Proof.Gen.Kernel23Ideal.Value
public import proofs.«01_k».proof.Proof.Gen.Reference23Ideal.Run
public import proofs.«01_k».proof.Proof.Gmlp.Equation
public import proofs.«01_k».proof.Proof.Products.OutDgrad
public import proofs.«01_k».proof.Proof.Products.InDgrad
public import proofs.«01_k».proof.Proof.Products.InWgrad
public import proofs.«01_k».proof.Proof.Products.OutFwd
public import proofs.«01_k».proof.Proof.Products.ProjWgrad
public import proofs.«01_k».proof.Proof.Products.OutWgrad
public import proofs.«01_k».proof.Proof.Products.InFwd
public import proofs.«01_k».proof.Proof.Products.MergeFwd
public import proofs.«01_k».proof.Proof.Products.MergeOutDgrad
public import proofs.«01_k».proof.Proof.Products.MergeOutWgrad
public import proofs.«01_k».proof.Proof.Products.BranchWgrad
public import proofs.«01_k».proof.Proof.Products.BranchWgradWide
public import proofs.«01_k».proof.Proof.Products.BranchDgradA
public import proofs.«01_k».proof.Proof.Products.BranchDgradB
public import proofs.«01_k».proof.Proof.Products.BranchDgradC
public import proofs.«01_k».proof.Proof.Products.MergeOutFwd
public import proofs.«01_k».proof.Proof.Rest.NormBwd
public import proofs.«01_k».proof.Proof.Rest.NormBwdPlain
public import proofs.«01_k».proof.Proof.Rest.MergeBwd
public import proofs.«01_k».proof.Proof.Rest.AdaBwd
public import proofs.«01_k».proof.Proof.Rest.NormFwd
public import proofs.«01_k».proof.Proof.Rest.AdaFwd
public import proofs.«01_k».proof.Proof.Rest.UnitFwd
public import Idealize.ShloMosaic.Adequacy
public import Idealize.ShloMosaic.Init

@[expose] public section

noncomputable section

namespace Cert.Proof

open Idealize.ShloMosaic Idealize.SL.Sem Cert.Kernel

/-! ## The multilayer perceptron's gradients -/

/-- The reference ends with its arguments unchanged and no counter raised. -/
theorem frame_reference : Cert.quiescent_ReferenceIdeal := fun m ρ _ => (θ_run Cert.ReferenceIdeal.defs _ _).mono
  (fun r h => ⟨fun c => (h c).2.2.2.2.2, Idealize.ShloMosaic.sem_eq_zero_of_no_sems (by decide) r.2⟩)
  (Cert.ReferenceIdeal.Value.run (F := Ideal) m ρ)

/-- The reference's launch memory holds the kernel's arguments. -/
theorem same {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} (c : Dev 1)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.Gmlp.Same m c (Idealize.ShloMosaic.StableHlo.launchContents m' c) :=
  ⟨e0, e1, e2, e3, e4, e5, e6⟩

/-- The kernel's call and the reference end with equal results. -/
theorem equal : Cert.algebraic_KernelIdeal_ReferenceIdeal_pre_finite := by
  intro m ρ m' ρ' h e
  have s : ∀ c : Dev 1, Cert.Gmlp.Same m c (Idealize.ShloMosaic.StableHlo.launchContents m' c) := fun c =>
    same c (e c).1 (e c).2.1 (e c).2.2.1 (e c).2.2.2.1 (e c).2.2.2.2.1 (e c).2.2.2.2.2.1 (e c).2.2.2.2.2.2
  refine ⟨fun c => (Cert.KernelIdeal.Gen.dats m 0 c).arrAt 7 Cert.KernelIdeal.cfg0.N,
    fun c => (Cert.KernelIdeal.Gen.dats m 0 c).arrAt 8 Cert.KernelIdeal.cfg0.N,
    fun c => (Cert.KernelIdeal.Gen.dats m 0 c).arrAt 9 Cert.KernelIdeal.cfg0.N,
    fun c => (Cert.KernelIdeal.Gen.dats m 0 c).arrAt 10 Cert.KernelIdeal.cfg0.N,
    fun c => (Cert.KernelIdeal.Gen.dats m 0 c).arrAt 11 Cert.KernelIdeal.cfg0.N,
    Cert.KernelIdeal.Value.run_blocks m ρ,
    (θ_run Cert.ReferenceIdeal.defs _ _).mono (fun r q c => ?_) (Cert.ReferenceIdeal.Value.run (F := Ideal) m' ρ')⟩
  obtain ⟨q0, q1, q2, q3, q4, q⟩ := q c
  exact ⟨q0.trans (Cert.Gmlp.meet0 h (s c)), q1.trans (Cert.Gmlp.meet1 h (s c)), q2.trans (Cert.Gmlp.meet2 h (s c)),
    q3.trans (Cert.Gmlp.meet3 h (s c)), q4.trans (Cert.Gmlp.meet4 h (s c)), q⟩

/-! ## The products: each reference's frame, then the equality -/

theorem frame_reference2 : Cert.quiescent_Reference2Ideal := fun m ρ _ => (θ_run Cert.Reference2Ideal.defs _ _).mono
  (fun r h => ⟨fun c => (h c).2.2, Idealize.ShloMosaic.sem_eq_zero_of_no_sems (by decide) r.2⟩)
  (Cert.Reference2Ideal.Value.run (F := Ideal) m ρ)
/-- The call of the feed-forward block's gated activation's gradients and its reference end with equal results. -/
theorem equal2 : Cert.algebraic_Kernel2Ideal_Reference2Ideal_pre_finite2 := by
  intro m ρ m' ρ' h e
  refine ⟨fun c => (Cert.Kernel2Ideal.Gen.dats m 0 c).arrAt 4 Cert.Kernel2Ideal.cfg0.N,
    fun c => (Cert.Kernel2Ideal.Gen.dats m 0 c).arrAt 5 Cert.Kernel2Ideal.cfg0.N,
    Cert.Kernel2Ideal.Value.run_blocks m ρ,
    (θ_run Cert.Reference2Ideal.defs _ _).mono (fun r q c => ?_) (Cert.Reference2Ideal.Value.run (F := Ideal) m' ρ')⟩
  obtain ⟨q0, q1, q⟩ := q c
  exact ⟨q0.trans (Cert.OutDgrad.meetGate m c h ((e c).1) ((e c).2.1) ((e c).2.2.1) ((e c).2.2.2)),
    q1.trans (Cert.OutDgrad.meetUp m c ((e c).1) ((e c).2.1) ((e c).2.2.1)), q⟩

theorem frame_reference3 : Cert.quiescent_Reference3Ideal := fun m ρ _ => (θ_run Cert.Reference3Ideal.defs _ _).mono
  (fun r h => ⟨fun c => (h c).2, Idealize.ShloMosaic.sem_eq_zero_of_no_sems (by decide) r.2⟩)
  (Cert.Reference3Ideal.Value.run (F := Ideal) m ρ)
/-- The call of the up projection's input's gradient and its reference end with equal results. -/
theorem equal3 : Cert.algebraic_Kernel3Ideal_Reference3Ideal := by
  intro m ρ m' ρ' h e
  refine ⟨Cert.Kernel3Ideal.Value.G3 m,
    Cert.Kernel3Ideal.Value.run m ρ,
    (θ_run Cert.Reference3Ideal.defs _ _).mono (fun r q c => ?_) (Cert.Reference3Ideal.Value.run (F := Ideal) m' ρ')⟩
  obtain ⟨q0, q⟩ := q c
  exact ⟨q0.trans (Cert.InDgrad.meet m c ((e c).1) ((e c).2.1) ((e c).2.2)), q⟩

theorem frame_reference4 : Cert.quiescent_Reference4Ideal := fun m ρ _ => (θ_run Cert.Reference4Ideal.defs _ _).mono
  (fun r h => ⟨fun c => (h c).2, Idealize.ShloMosaic.sem_eq_zero_of_no_sems (by decide) r.2⟩)
  (Cert.Reference4Ideal.Value.run (F := Ideal) m ρ)
/-- The call of the up projection's weights' gradient and its reference end with equal results. -/
theorem equal4 : Cert.algebraic_Kernel4Ideal_Reference4Ideal := by
  intro m ρ m' ρ' h e
  refine ⟨fun c => (Cert.Kernel4Ideal.Gen.dats m 0 c).arrAt 3 Cert.Kernel4Ideal.cfg0.N,
    Cert.InWgrad.run m ρ,
    (θ_run Cert.Reference4Ideal.defs _ _).mono (fun r q c => ?_) (Cert.Reference4Ideal.Value.run (F := Ideal) m' ρ')⟩
  obtain ⟨q0, q⟩ := q c
  exact ⟨q0.trans (Cert.InWgrad.meet m c ((e c).1) ((e c).2.1) ((e c).2.2)), q⟩

theorem frame_reference5 : Cert.quiescent_Reference5Ideal := fun m ρ _ => (θ_run Cert.Reference5Ideal.defs _ _).mono
  (fun r h => ⟨fun c => (h c).2.2, Idealize.ShloMosaic.sem_eq_zero_of_no_sems (by decide) r.2⟩)
  (Cert.Reference5Ideal.Value.run (F := Ideal) m ρ)
/-- The call of the down projection and its reference end with equal results. -/
theorem equal5 : Cert.algebraic_Kernel5Ideal_Reference5Ideal := by
  intro m ρ m' ρ' h e
  refine ⟨fun c => (Cert.Kernel5Ideal.Gen.dats m 0 c).arrAt 4 Cert.Kernel5Ideal.cfg0.N,
    fun c => (Cert.Kernel5Ideal.Gen.dats m 0 c).arrAt 5 Cert.Kernel5Ideal.cfg0.N,
    Cert.Kernel5Ideal.Value.run_blocks m ρ,
    (θ_run Cert.Reference5Ideal.defs _ _).mono (fun r q c => ?_) (Cert.Reference5Ideal.Value.run (F := Ideal) m' ρ')⟩
  obtain ⟨q0, q1, q⟩ := q c
  exact ⟨q0.trans (Cert.OutFwd.meetRes m c ((e c).1) ((e c).2.1) ((e c).2.2.1) ((e c).2.2.2)),
    q1.trans (Cert.OutFwd.meetDot m c ((e c).1) ((e c).2.1)), q⟩

theorem frame_reference6 : Cert.quiescent_Reference6Ideal := fun m ρ _ => (θ_run Cert.Reference6Ideal.defs _ _).mono
  (fun r h => ⟨fun c => (h c).2, Idealize.ShloMosaic.sem_eq_zero_of_no_sems (by decide) r.2⟩)
  (Cert.Reference6Ideal.Value.run (F := Ideal) m ρ)
/-- The call of the input projection's weights' gradient and its reference end with equal results. -/
theorem equal6 : Cert.algebraic_Kernel6Ideal_Reference6Ideal := by
  intro m ρ m' ρ' h e
  refine ⟨Cert.Kernel6Ideal.Value.G2 m,
    Cert.Kernel6Ideal.Value.run m ρ,
    (θ_run Cert.Reference6Ideal.defs _ _).mono (fun r q c => ?_) (Cert.Reference6Ideal.Value.run (F := Ideal) m' ρ')⟩
  obtain ⟨q0, q⟩ := q c
  exact ⟨q0.trans (Cert.ProjWgrad.meet m c ((e c).1) ((e c).2)), q⟩

theorem frame_reference7 : Cert.quiescent_Reference7Ideal := fun m ρ _ => (θ_run Cert.Reference7Ideal.defs _ _).mono
  (fun r h => ⟨fun c => (h c).2, Idealize.ShloMosaic.sem_eq_zero_of_no_sems (by decide) r.2⟩)
  (Cert.Reference7Ideal.Value.run (F := Ideal) m ρ)
/-- The call of the down projection's weights' gradient and its reference end with equal results. -/
theorem equal7 : Cert.algebraic_Kernel7Ideal_Reference7Ideal := by
  intro m ρ m' ρ' h e
  refine ⟨Cert.Kernel7Ideal.Value.G2 m,
    Cert.Kernel7Ideal.Value.run m ρ,
    (θ_run Cert.Reference7Ideal.defs _ _).mono (fun r q c => ?_) (Cert.Reference7Ideal.Value.run (F := Ideal) m' ρ')⟩
  obtain ⟨q0, q⟩ := q c
  exact ⟨q0.trans (Cert.OutWgrad.meet m c ((e c).1) ((e c).2)), q⟩

theorem frame_reference8 : Cert.quiescent_Reference8Ideal := fun m ρ _ => (θ_run Cert.Reference8Ideal.defs _ _).mono
  (fun r h => ⟨fun c => (h c).2.2.2, Idealize.ShloMosaic.sem_eq_zero_of_no_sems (by decide) r.2⟩)
  (Cert.Reference8Ideal.Value.run (F := Ideal) m ρ)
/-- The call of the up projection and its reference end with equal results. -/
theorem equal8 : Cert.algebraic_Kernel8Ideal_Reference8Ideal := by
  intro m ρ m' ρ' h e
  refine ⟨fun c => (Cert.Kernel8Ideal.Gen.dats m 0 c).arrAt 3 Cert.Kernel8Ideal.cfg0.N,
    fun c => (Cert.Kernel8Ideal.Gen.dats m 0 c).arrAt 4 Cert.Kernel8Ideal.cfg0.N,
    fun c => (Cert.Kernel8Ideal.Gen.dats m 0 c).arrAt 5 Cert.Kernel8Ideal.cfg0.N,
    Cert.Kernel8Ideal.Value.run_blocks m ρ,
    (θ_run Cert.Reference8Ideal.defs _ _).mono (fun r q c => ?_) (Cert.Reference8Ideal.Value.run (F := Ideal) m' ρ')⟩
  obtain ⟨q0, q1, q2, q⟩ := q c
  exact ⟨q0.trans (Cert.InFwd.meetGate m c ((e c).1) ((e c).2)),
    q1.trans (Cert.InFwd.meetUp m c ((e c).1) ((e c).2)),
    q2.trans (Cert.InFwd.meetAct m c ((e c).1) ((e c).2)), q⟩

theorem frame_reference9 : Cert.quiescent_Reference9Ideal := fun m ρ _ => (θ_run Cert.Reference9Ideal.defs _ _).mono
  (fun r h => ⟨fun c => (h c).2.2.2.2, Idealize.ShloMosaic.sem_eq_zero_of_no_sems (by decide) r.2⟩)
  (Cert.Reference9Ideal.Value.run (F := Ideal) m ρ)
/-- The call of the merge and its reference end with equal results. -/
theorem equal9 : Cert.algebraic_Kernel9Ideal_Reference9Ideal := by
  intro m ρ m' ρ' h e
  refine ⟨fun c => (Cert.Kernel9Ideal.Gen.dats m 0 c).arrAt 7 Cert.Kernel9Ideal.cfg0.N,
    fun c => (Cert.Kernel9Ideal.Gen.dats m 0 c).arrAt 8 Cert.Kernel9Ideal.cfg0.N,
    fun c => (Cert.Kernel9Ideal.Gen.dats m 0 c).arrAt 9 Cert.Kernel9Ideal.cfg0.N,
    fun c => (Cert.Kernel9Ideal.Gen.dats m 0 c).arrAt 10 Cert.Kernel9Ideal.cfg0.N,
    Cert.Kernel9Ideal.Value.run_blocks m ρ,
    (θ_run Cert.Reference9Ideal.defs _ _).mono (fun r q c => ?_) (Cert.Reference9Ideal.Value.run (F := Ideal) m' ρ')⟩
  obtain ⟨q0, q1, q2, q3, q⟩ := q c
  exact ⟨q0.trans (Cert.MergeFwd.meetMerged m c ((e c).1) ((e c).2.1) ((e c).2.2.1) ((e c).2.2.2.1) ((e c).2.2.2.2)),
    q1.trans (Cert.MergeFwd.meetDot0 m c ((e c).1) ((e c).2.2.2.1)),
    q2.trans (Cert.MergeFwd.meetDot1 m c ((e c).2.1) ((e c).2.2.2.1)),
    q3.trans (Cert.MergeFwd.meetDot2 m c ((e c).2.2.1) ((e c).2.2.2.1)), q⟩

theorem frame_reference10 : Cert.quiescent_Reference10Ideal := fun m ρ _ => (θ_run Cert.Reference10Ideal.defs _ _).mono
  (fun r h => ⟨fun c => (h c).2, Idealize.ShloMosaic.sem_eq_zero_of_no_sems (by decide) r.2⟩)
  (Cert.Reference10Ideal.Value.run (F := Ideal) m ρ)
/-- The call of the merged branches' product's input's gradient and its reference end with equal results. -/
theorem equal10 : Cert.algebraic_Kernel10Ideal_Reference10Ideal := by
  intro m ρ m' ρ' h e
  refine ⟨fun c => (Cert.Kernel10Ideal.Gen.dats m 0 c).arrAt 2 Cert.Kernel10Ideal.cfg0.N,
    Cert.Kernel10Ideal.Value.run_blocks m ρ,
    (θ_run Cert.Reference10Ideal.defs _ _).mono (fun r q c => ?_) (Cert.Reference10Ideal.Value.run (F := Ideal) m' ρ')⟩
  obtain ⟨q0, q⟩ := q c
  exact ⟨q0.trans (Cert.MergeOutDgrad.meet m c ((e c).1) ((e c).2)), q⟩

theorem frame_reference11 : Cert.quiescent_Reference11Ideal := fun m ρ _ => (θ_run Cert.Reference11Ideal.defs _ _).mono
  (fun r h => ⟨fun c => (h c).2, Idealize.ShloMosaic.sem_eq_zero_of_no_sems (by decide) r.2⟩)
  (Cert.Reference11Ideal.Value.run (F := Ideal) m ρ)
/-- The call of the merged branches' product's weights' gradient and its reference end with equal results. -/
theorem equal11 : Cert.algebraic_Kernel11Ideal_Reference11Ideal := by
  intro m ρ m' ρ' h e
  refine ⟨Cert.Kernel11Ideal.Value.G2 m,
    Cert.Kernel11Ideal.Value.run m ρ,
    (θ_run Cert.Reference11Ideal.defs _ _).mono (fun r q c => ?_) (Cert.Reference11Ideal.Value.run (F := Ideal) m' ρ')⟩
  obtain ⟨q0, q⟩ := q c
  exact ⟨q0.trans (Cert.MergeOutWgrad.meet m c ((e c).1) ((e c).2)), q⟩

theorem frame_reference12 : Cert.quiescent_Reference12Ideal := fun m ρ _ => (θ_run Cert.Reference12Ideal.defs _ _).mono
  (fun r h => ⟨fun c => (h c).2, Idealize.ShloMosaic.sem_eq_zero_of_no_sems (by decide) r.2⟩)
  (Cert.Reference12Ideal.Value.run (F := Ideal) m ρ)
/-- The call of a branch's weights' gradient and its reference end with equal results. -/
theorem equal12 : Cert.algebraic_Kernel12Ideal_Reference12Ideal := by
  intro m ρ m' ρ' h e
  refine ⟨Cert.Kernel12Ideal.Value.G2 m,
    Cert.Kernel12Ideal.Value.run m ρ,
    (θ_run Cert.Reference12Ideal.defs _ _).mono (fun r q c => ?_) (Cert.Reference12Ideal.Value.run (F := Ideal) m' ρ')⟩
  obtain ⟨q0, q⟩ := q c
  exact ⟨q0.trans (Cert.BranchWgrad.meet m c ((e c).1) ((e c).2)), q⟩

theorem frame_reference13 : Cert.quiescent_Reference13Ideal := fun m ρ _ => (θ_run Cert.Reference13Ideal.defs _ _).mono
  (fun r h => ⟨fun c => (h c).2, Idealize.ShloMosaic.sem_eq_zero_of_no_sems (by decide) r.2⟩)
  (Cert.Reference13Ideal.Value.run (F := Ideal) m ρ)
/-- The call of the second branch's weights' gradient and its reference end with equal results. -/
theorem equal13 : Cert.algebraic_Kernel13Ideal_Reference13Ideal := by
  intro m ρ m' ρ' h e
  refine ⟨Cert.Kernel13Ideal.Value.G2 m,
    Cert.Kernel13Ideal.Value.run m ρ,
    (θ_run Cert.Reference13Ideal.defs _ _).mono (fun r q c => ?_) (Cert.Reference13Ideal.Value.run (F := Ideal) m' ρ')⟩
  obtain ⟨q0, q⟩ := q c
  exact ⟨q0.trans (Cert.BranchWgradWide.meet m c ((e c).1) ((e c).2)), q⟩

theorem frame_reference14 : Cert.quiescent_Reference14Ideal := fun m ρ _ => (θ_run Cert.Reference14Ideal.defs _ _).mono
  (fun r h => ⟨fun c => (h c).2, Idealize.ShloMosaic.sem_eq_zero_of_no_sems (by decide) r.2⟩)
  (Cert.Reference14Ideal.Value.run (F := Ideal) m ρ)
/-- The call of the first branch's gradient and its reference end with equal results. -/
theorem equal14 : Cert.algebraic_Kernel14Ideal_Reference14Ideal := by
  intro m ρ m' ρ' h e
  refine ⟨fun c => (Cert.Kernel14Ideal.Gen.dats m 0 c).arrAt 2 Cert.Kernel14Ideal.cfg0.N,
    Cert.Kernel14Ideal.Value.run_blocks m ρ,
    (θ_run Cert.Reference14Ideal.defs _ _).mono (fun r q c => ?_) (Cert.Reference14Ideal.Value.run (F := Ideal) m' ρ')⟩
  obtain ⟨q0, q⟩ := q c
  exact ⟨q0.trans (Cert.BranchDgradA.meet m c ((e c).1) ((e c).2)), q⟩

theorem frame_reference15 : Cert.quiescent_Reference15Ideal := fun m ρ _ => (θ_run Cert.Reference15Ideal.defs _ _).mono
  (fun r h => ⟨fun c => (h c).2, Idealize.ShloMosaic.sem_eq_zero_of_no_sems (by decide) r.2⟩)
  (Cert.Reference15Ideal.Value.run (F := Ideal) m ρ)
/-- The call of the second branch's gradient and its reference end with equal results. -/
theorem equal15 : Cert.algebraic_Kernel15Ideal_Reference15Ideal := by
  intro m ρ m' ρ' h e
  refine ⟨fun c => (Cert.Kernel15Ideal.Gen.dats m 0 c).arrAt 2 Cert.Kernel15Ideal.cfg0.N,
    Cert.Kernel15Ideal.Value.run_blocks m ρ,
    (θ_run Cert.Reference15Ideal.defs _ _).mono (fun r q c => ?_) (Cert.Reference15Ideal.Value.run (F := Ideal) m' ρ')⟩
  obtain ⟨q0, q⟩ := q c
  exact ⟨q0.trans (Cert.BranchDgradB.meet m c ((e c).1) ((e c).2)), q⟩

theorem frame_reference16 : Cert.quiescent_Reference16Ideal := fun m ρ _ => (θ_run Cert.Reference16Ideal.defs _ _).mono
  (fun r h => ⟨fun c => (h c).2, Idealize.ShloMosaic.sem_eq_zero_of_no_sems (by decide) r.2⟩)
  (Cert.Reference16Ideal.Value.run (F := Ideal) m ρ)
/-- The call of the third branch's gradient and its reference end with equal results. -/
theorem equal16 : Cert.algebraic_Kernel16Ideal_Reference16Ideal := by
  intro m ρ m' ρ' h e
  refine ⟨fun c => (Cert.Kernel16Ideal.Gen.dats m 0 c).arrAt 2 Cert.Kernel16Ideal.cfg0.N,
    Cert.Kernel16Ideal.Value.run_blocks m ρ,
    (θ_run Cert.Reference16Ideal.defs _ _).mono (fun r q c => ?_) (Cert.Reference16Ideal.Value.run (F := Ideal) m' ρ')⟩
  obtain ⟨q0, q⟩ := q c
  exact ⟨q0.trans (Cert.BranchDgradC.meet m c ((e c).1) ((e c).2)), q⟩

theorem frame_reference17 : Cert.quiescent_Reference17Ideal := fun m ρ _ => (θ_run Cert.Reference17Ideal.defs _ _).mono
  (fun r h => ⟨fun c => (h c).2.2, Idealize.ShloMosaic.sem_eq_zero_of_no_sems (by decide) r.2⟩)
  (Cert.Reference17Ideal.Value.run (F := Ideal) m ρ)
/-- The call of the merged branches' product and its reference end with equal results. -/
theorem equal17 : Cert.algebraic_Kernel17Ideal_Reference17Ideal := by
  intro m ρ m' ρ' h e
  refine ⟨fun c => (Cert.Kernel17Ideal.Gen.dats m 0 c).arrAt 4 Cert.Kernel17Ideal.cfg0.N,
    fun c => (Cert.Kernel17Ideal.Gen.dats m 0 c).arrAt 5 Cert.Kernel17Ideal.cfg0.N,
    Cert.Kernel17Ideal.Value.run_blocks m ρ,
    (θ_run Cert.Reference17Ideal.defs _ _).mono (fun r q c => ?_) (Cert.Reference17Ideal.Value.run (F := Ideal) m' ρ')⟩
  obtain ⟨q0, q1, q⟩ := q c
  exact ⟨q0.trans (Cert.MergeOutFwd.meetRes m c ((e c).1) ((e c).2.1) ((e c).2.2.1) ((e c).2.2.2)),
    q1.trans (Cert.MergeOutFwd.meetDot m c ((e c).1) ((e c).2.1)), q⟩

theorem frame_reference18 : Cert.quiescent_Reference18Ideal := fun m ρ _ => (θ_run Cert.Reference18Ideal.defs _ _).mono
  (fun r h => ⟨fun c => (h c).2.2.2.2.2.2, Idealize.ShloMosaic.sem_eq_zero_of_no_sems (by decide) r.2⟩)
  (Cert.Reference18Ideal.Value.run (F := Ideal) m ρ)
/-- The call of the modulated norm's gradient with the gated branch's and its reference end with equal results. -/
theorem equal18 : Cert.algebraic_Kernel18Ideal_Reference18Ideal := by
  intro m ρ m' ρ' h e
  refine ⟨fun c => (Cert.Kernel18Ideal.Gen.dats m 0 c).arrAt 7 Cert.Kernel18Ideal.cfg0.N,
    fun c => (Cert.Kernel18Ideal.Gen.dats m 0 c).arrAt 8 Cert.Kernel18Ideal.cfg0.N,
    fun c => (Cert.Kernel18Ideal.Gen.dats m 0 c).arrAt 9 Cert.Kernel18Ideal.cfg0.N,
    fun c => (Cert.Kernel18Ideal.Gen.dats m 0 c).arrAt 10 Cert.Kernel18Ideal.cfg0.N,
    fun c => (Cert.Kernel18Ideal.Gen.dats m 0 c).arrAt 11 Cert.Kernel18Ideal.cfg0.N,
    fun c => (Cert.Kernel18Ideal.Gen.dats m 0 c).arrAt 12 Cert.Kernel18Ideal.cfg0.N,
    Cert.Kernel18Ideal.Value.run_blocks m ρ,
    (θ_run Cert.Reference18Ideal.defs _ _).mono (fun r q c => ?_) (Cert.Reference18Ideal.Value.run (F := Ideal) m' ρ')⟩
  obtain ⟨q0, q1, q2, q3, q4, q5, q⟩ := q c
  exact ⟨q0.trans (Cert.NormBwd.meet0 m c ((e c).1) ((e c).2.1) ((e c).2.2.1) ((e c).2.2.2.1) ((e c).2.2.2.2.1)),
    q1.trans (Cert.NormBwd.meet1 m c ((e c).2.1)),
    q2.trans (Cert.NormBwd.meet2 m c ((e c).1) ((e c).2.1) ((e c).2.2.2.1)),
    q3.trans (Cert.NormBwd.meet3 m c ((e c).1) ((e c).2.1) ((e c).2.2.2.2.1)),
    q4.trans (Cert.NormBwd.meet4 m c ((e c).1) ((e c).2.1) ((e c).2.2.1) ((e c).2.2.2.1) ((e c).2.2.2.2.1) ((e c).2.2.2.2.2.2)),
    q5.trans (Cert.NormBwd.meet5 m c ((e c).1) ((e c).2.1) ((e c).2.2.1) ((e c).2.2.2.1) ((e c).2.2.2.2.1) ((e c).2.2.2.2.2.1)), q⟩

theorem frame_reference19 : Cert.quiescent_Reference19Ideal := fun m ρ _ => (θ_run Cert.Reference19Ideal.defs _ _).mono
  (fun r h => ⟨fun c => (h c).2.2.2.2, Idealize.ShloMosaic.sem_eq_zero_of_no_sems (by decide) r.2⟩)
  (Cert.Reference19Ideal.Value.run (F := Ideal) m ρ)
/-- The call of the modulated norm's gradient and its reference end with equal results. -/
theorem equal19 : Cert.algebraic_Kernel19Ideal_Reference19Ideal := by
  intro m ρ m' ρ' h e
  refine ⟨fun c => (Cert.Kernel19Ideal.Gen.dats m 0 c).arrAt 5 Cert.Kernel19Ideal.cfg0.N,
    fun c => (Cert.Kernel19Ideal.Gen.dats m 0 c).arrAt 6 Cert.Kernel19Ideal.cfg0.N,
    fun c => (Cert.Kernel19Ideal.Gen.dats m 0 c).arrAt 7 Cert.Kernel19Ideal.cfg0.N,
    fun c => (Cert.Kernel19Ideal.Gen.dats m 0 c).arrAt 8 Cert.Kernel19Ideal.cfg0.N,
    Cert.Kernel19Ideal.Value.run_blocks m ρ,
    (θ_run Cert.Reference19Ideal.defs _ _).mono (fun r q c => ?_) (Cert.Reference19Ideal.Value.run (F := Ideal) m' ρ')⟩
  obtain ⟨q0, q1, q2, q3, q⟩ := q c
  exact ⟨q0.trans (Cert.NormBwdPlain.meet0 m c ((e c).1) ((e c).2.1) ((e c).2.2.1) ((e c).2.2.2.1) ((e c).2.2.2.2)),
    q1.trans (Cert.NormBwdPlain.meet1 m c ((e c).2.1)),
    q2.trans (Cert.NormBwdPlain.meet2 m c ((e c).1) ((e c).2.1) ((e c).2.2.2.1)),
    q3.trans (Cert.NormBwdPlain.meet3 m c ((e c).1) ((e c).2.1) ((e c).2.2.2.2)), q⟩

theorem frame_reference20 : Cert.quiescent_Reference20Ideal := fun m ρ _ => (θ_run Cert.Reference20Ideal.defs _ _).mono
  (fun r h => ⟨fun c => (h c).2.2.2.2, Idealize.ShloMosaic.sem_eq_zero_of_no_sems (by decide) r.2⟩)
  (Cert.Reference20Ideal.Value.run (F := Ideal) m ρ)
/-- The call of the merge's gradient and its reference end with equal results. -/
theorem equal20 : Cert.algebraic_Kernel20Ideal_Reference20Ideal := by
  intro m ρ m' ρ' h e
  refine ⟨fun c => Cert.MergeBwd.gates m c,
    fun c => (Cert.Kernel20Ideal.Gen.dats m 0 c).arrAt 6 Cert.Kernel20Ideal.cfg0.N,
    fun c => (Cert.Kernel20Ideal.Gen.dats m 0 c).arrAt 7 Cert.Kernel20Ideal.cfg0.N,
    fun c => (Cert.Kernel20Ideal.Gen.dats m 0 c).arrAt 8 Cert.Kernel20Ideal.cfg0.N,
    Cert.MergeBwd.run m ρ,
    (θ_run Cert.Reference20Ideal.defs _ _).mono (fun r q c => ?_) (Cert.Reference20Ideal.Value.run (F := Ideal) m' ρ')⟩
  obtain ⟨q0, q1, q2, q3, q⟩ := q c
  exact ⟨q0.trans (Cert.MergeBwd.meetGates m c ((e c).1) ((e c).2.1) ((e c).2.2.1) ((e c).2.2.2.1) ((e c).2.2.2.2)),
    q1.trans (Cert.MergeBwd.meet0 m c ((e c).1) ((e c).2.2.2.2)),
    q2.trans (Cert.MergeBwd.meet1 m c ((e c).1) ((e c).2.2.2.2)),
    q3.trans (Cert.MergeBwd.meet2 m c ((e c).1) ((e c).2.2.2.2)), q⟩

theorem frame_reference21 : Cert.quiescent_Reference21Ideal := fun m ρ _ => (θ_run Cert.Reference21Ideal.defs _ _).mono
  (fun r h => ⟨fun c => (h c).2, Idealize.ShloMosaic.sem_eq_zero_of_no_sems (by decide) r.2⟩)
  (Cert.Reference21Ideal.Value.run (F := Ideal) m ρ)
/-- The call of the modulation's weights' gradient and its reference end with equal results. -/
theorem equal21 : Cert.algebraic_Kernel21Ideal_Reference21Ideal := by
  intro m ρ m' ρ' h e
  refine ⟨fun c => (Cert.Kernel21Ideal.Gen.dats m 0 c).arrAt 2 Cert.Kernel21Ideal.cfg0.N,
    Cert.Kernel21Ideal.Value.run_blocks m ρ,
    (θ_run Cert.Reference21Ideal.defs _ _).mono (fun r q c => ?_) (Cert.Reference21Ideal.Value.run (F := Ideal) m' ρ')⟩
  obtain ⟨q0, q⟩ := q c
  exact ⟨q0.trans (Cert.AdaBwd.meet m c ((e c).1) ((e c).2)), q⟩

theorem frame_reference22 : Cert.quiescent_Reference22Ideal := fun m ρ _ => (θ_run Cert.Reference22Ideal.defs _ _).mono
  (fun r h => ⟨fun c => (h c).2, Idealize.ShloMosaic.sem_eq_zero_of_no_sems (by decide) r.2⟩)
  (Cert.Reference22Ideal.Value.run (F := Ideal) m ρ)
/-- The call of the modulated norm and its reference end with equal results. -/
theorem equal22 : Cert.algebraic_Kernel22Ideal_Reference22Ideal := by
  intro m ρ m' ρ' h e
  refine ⟨fun c => (Cert.Kernel22Ideal.Gen.dats m 0 c).arrAt 4 Cert.Kernel22Ideal.cfg0.N,
    Cert.Kernel22Ideal.Value.run_blocks m ρ,
    (θ_run Cert.Reference22Ideal.defs _ _).mono (fun r q c => ?_) (Cert.Reference22Ideal.Value.run (F := Ideal) m' ρ')⟩
  obtain ⟨q0, q⟩ := q c
  exact ⟨q0.trans (Cert.NormFwd.meet m c ((e c).1) ((e c).2.1) ((e c).2.2.1) ((e c).2.2.2)), q⟩

theorem frame_reference23 : Cert.quiescent_Reference23Ideal := fun m ρ _ => (θ_run Cert.Reference23Ideal.defs _ _).mono
  (fun r h => ⟨fun c => (h c).2, Idealize.ShloMosaic.sem_eq_zero_of_no_sems (by decide) r.2⟩)
  (Cert.Reference23Ideal.Value.run (F := Ideal) m ρ)
/-- The call of the modulation and its reference end with equal results. -/
theorem equal23 : Cert.algebraic_Kernel23Ideal_Reference23Ideal := by
  intro m ρ m' ρ' h e
  refine ⟨fun c => (Cert.Kernel23Ideal.Gen.dats m 0 c).arrAt 3 Cert.Kernel23Ideal.cfg0.N,
    Cert.Kernel23Ideal.Value.run_blocks m ρ,
    (θ_run Cert.Reference23Ideal.defs _ _).mono (fun r q c => ?_) (Cert.Reference23Ideal.Value.run (F := Ideal) m' ρ')⟩
  obtain ⟨q0, q⟩ := q c
  exact ⟨q0.trans (Cert.AdaFwd.meet m c ((e c).1) ((e c).2.1) ((e c).2.2)), q⟩

theorem frame_reference24 : Cert.quiescent_Reference24Ideal := fun m ρ _ => (θ_run Cert.Reference24Ideal.defs _ _).mono
  (fun r h => ⟨fun c => (h c).2, Idealize.ShloMosaic.sem_eq_zero_of_no_sems (by decide) r.2⟩)
  (Cert.Reference24Ideal.Value.run (F := Ideal) m ρ)
/-- The call of the gating unit and its reference end with equal results. -/
theorem equal24 : Cert.algebraic_Kernel24Ideal_Reference24Ideal := by
  intro m ρ m' ρ' h e
  refine ⟨fun c => (Cert.Kernel24Ideal.Gen.dats m 0 c).arrAt 6 Cert.Kernel24Ideal.cfg0.N,
    Cert.Kernel24Ideal.Value.run_blocks m ρ,
    (θ_run Cert.Reference24Ideal.defs _ _).mono (fun r q c => ?_) (Cert.Reference24Ideal.Value.run (F := Ideal) m' ρ')⟩
  obtain ⟨q0, q⟩ := q c
  exact ⟨q0.trans (Cert.UnitFwd.meet m c ((e c).1) ((e c).2.1) ((e c).2.2.1) ((e c).2.2.2.1) ((e c).2.2.2.2)), q⟩

theorem frame_reference25 : Cert.quiescent_Reference25Ideal := fun m ρ _ => (θ_run Cert.Reference25Ideal.defs _ _).mono
  (fun r h => ⟨fun c => (h c).2.2.2.2, Idealize.ShloMosaic.sem_eq_zero_of_no_sems (by decide) r.2⟩)
  (Cert.Reference25Ideal.Value.run (F := Ideal) m ρ)
/-- The call of the modulation's weights' update and its reference end with equal results. -/
theorem equal25 : Cert.algebraic_Kernel25Ideal_Reference25Ideal := by
  intro m ρ m' ρ' h e
  refine ⟨fun c => (Cert.Kernel25Ideal.Gen.dats m 0 c).arrAt 4 Cert.Kernel25Ideal.cfg0.N, fun c => (Cert.Kernel25Ideal.Gen.dats m 0 c).arrAt 5 Cert.Kernel25Ideal.cfg0.N,
    fun c => (Cert.Kernel25Ideal.Gen.dats m 0 c).arrAt 6 Cert.Kernel25Ideal.cfg0.N, fun c => (Cert.Kernel25Ideal.Gen.dats m 0 c).arrAt 7 Cert.Kernel25Ideal.cfg0.N,
    Cert.Kernel25Ideal.Value.run_blocks m ρ,
    (θ_run Cert.Reference25Ideal.defs _ _).mono (fun r q c => ?_) (Cert.Reference25Ideal.Value.run (F := Ideal) m' ρ')⟩
  obtain ⟨q0, q1, q2, q3, q⟩ := q c
  obtain ⟨g, d, u, v⟩ := Cert.Modulation.meet m c (e c).1 (e c).2.1 (e c).2.2.1 (e c).2.2.2
  exact ⟨q0.trans g, q1.trans d, q2.trans u, q3.trans v, q⟩

theorem frame_reference26 : Cert.quiescent_Reference26Ideal := fun m ρ _ => (θ_run Cert.Reference26Ideal.defs _ _).mono
  (fun r h => ⟨fun c => (h c).2.2.2.2, Idealize.ShloMosaic.sem_eq_zero_of_no_sems (by decide) r.2⟩)
  (Cert.Reference26Ideal.Value.run (F := Ideal) m ρ)
/-- The call of the spatial weights' update and its reference end with equal results. -/
theorem equal26 : Cert.algebraic_Kernel26Ideal_Reference26Ideal := by
  intro m ρ m' ρ' h e
  refine ⟨fun c => (Cert.Kernel26Ideal.Gen.dats m 0 c).arrAt 4 Cert.Kernel26Ideal.cfg0.N, fun c => (Cert.Kernel26Ideal.Gen.dats m 0 c).arrAt 5 Cert.Kernel26Ideal.cfg0.N,
    fun c => (Cert.Kernel26Ideal.Gen.dats m 0 c).arrAt 6 Cert.Kernel26Ideal.cfg0.N, fun c => (Cert.Kernel26Ideal.Gen.dats m 0 c).arrAt 7 Cert.Kernel26Ideal.cfg0.N,
    Cert.Kernel26Ideal.Value.run_blocks m ρ,
    (θ_run Cert.Reference26Ideal.defs _ _).mono (fun r q c => ?_) (Cert.Reference26Ideal.Value.run (F := Ideal) m' ρ')⟩
  obtain ⟨q0, q1, q2, q3, q⟩ := q c
  obtain ⟨g, d, u, v⟩ := Cert.Spatial.meet m c (e c).1 (e c).2.1 (e c).2.2.1 (e c).2.2.2
  exact ⟨q0.trans g, q1.trans d, q2.trans u, q3.trans v, q⟩

/-- All claims: the runs end with their arguments unchanged and no counter raised, the idealization names two literals of the
    first program, one of the last one and nothing else, and the results are equal. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Gmlp.finiteFacts, Cert.OutDgrad.finiteFacts,
    fun m ρ _ => Cert.Kernel.Gen.frame m ρ, fun m ρ _ => Cert.KernelIdeal.Gen.frame m ρ, fun m ρ _ => Cert.KernelIdeal.Gen.frame m ρ, frame_reference, fun m ρ _ => frame_reference m ρ trivial,
    fun m ρ _ => Cert.Kernel2.Gen.frame m ρ, fun m ρ _ => Cert.Kernel2Ideal.Gen.frame m ρ, fun m ρ _ => Cert.Kernel2Ideal.Gen.frame m ρ, frame_reference2, fun m ρ _ => frame_reference2 m ρ trivial,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ, frame_reference7,
    fun m ρ _ => Cert.Kernel8.Gen.frame m ρ, fun m ρ _ => Cert.Kernel8Ideal.Gen.frame m ρ, frame_reference8,
    fun m ρ _ => Cert.Kernel9.Gen.frame m ρ, fun m ρ _ => Cert.Kernel9Ideal.Gen.frame m ρ, frame_reference9,
    fun m ρ _ => Cert.Kernel10.Gen.frame m ρ, fun m ρ _ => Cert.Kernel10Ideal.Gen.frame m ρ, frame_reference10,
    fun m ρ _ => Cert.Kernel11.Gen.frame m ρ, fun m ρ _ => Cert.Kernel11Ideal.Gen.frame m ρ, frame_reference11,
    fun m ρ _ => Cert.Kernel12.Gen.frame m ρ, fun m ρ _ => Cert.Kernel12Ideal.Gen.frame m ρ, frame_reference12,
    fun m ρ _ => Cert.Kernel13.Gen.frame m ρ, fun m ρ _ => Cert.Kernel13Ideal.Gen.frame m ρ, frame_reference13,
    fun m ρ _ => Cert.Kernel14.Gen.frame m ρ, fun m ρ _ => Cert.Kernel14Ideal.Gen.frame m ρ, frame_reference14,
    fun m ρ _ => Cert.Kernel15.Gen.frame m ρ, fun m ρ _ => Cert.Kernel15Ideal.Gen.frame m ρ, frame_reference15,
    fun m ρ _ => Cert.Kernel16.Gen.frame m ρ, fun m ρ _ => Cert.Kernel16Ideal.Gen.frame m ρ, frame_reference16,
    fun m ρ _ => Cert.Kernel17.Gen.frame m ρ, fun m ρ _ => Cert.Kernel17Ideal.Gen.frame m ρ, frame_reference17,
    fun m ρ _ => Cert.Kernel18.Gen.frame m ρ, fun m ρ _ => Cert.Kernel18Ideal.Gen.frame m ρ, frame_reference18,
    fun m ρ _ => Cert.Kernel19.Gen.frame m ρ, fun m ρ _ => Cert.Kernel19Ideal.Gen.frame m ρ, frame_reference19,
    fun m ρ _ => Cert.Kernel20.Gen.frame m ρ, fun m ρ _ => Cert.Kernel20Ideal.Gen.frame m ρ, frame_reference20,
    fun m ρ _ => Cert.Kernel21.Gen.frame m ρ, fun m ρ _ => Cert.Kernel21Ideal.Gen.frame m ρ, frame_reference21,
    fun m ρ _ => Cert.Kernel22.Gen.frame m ρ, fun m ρ _ => Cert.Kernel22Ideal.Gen.frame m ρ, frame_reference22,
    fun m ρ _ => Cert.Kernel23.Gen.frame m ρ, fun m ρ _ => Cert.Kernel23Ideal.Gen.frame m ρ, frame_reference23,
    fun m ρ _ => Cert.Kernel24.Gen.frame m ρ, fun m ρ _ => Cert.Kernel24Ideal.Gen.frame m ρ, frame_reference24,
    fun m ρ _ => Cert.Kernel25.Gen.frame m ρ, fun m ρ _ => Cert.Kernel25Ideal.Gen.frame m ρ, frame_reference25,
    fun m ρ _ => Cert.Kernel26.Gen.frame m ρ, fun m ρ _ => Cert.Kernel26Ideal.Gen.frame m ρ, frame_reference26,
    ⟨IdealRules.named_const.statement Cert.KernelIdeal.κ "gelu_a" .f32 0x3D372713#32 _ rfl,
     IdealRules.named_const.statement Cert.KernelIdeal.κ "gelu_3a" .f32 0x3E095D4F#32 _ rfl⟩,
    equal, trivial, equal2, trivial, equal3, trivial, equal4, trivial, equal5, trivial, equal6, trivial, equal7, trivial, equal8, trivial, equal9, trivial, equal10, trivial, equal11, trivial, equal12, trivial, equal13, trivial, equal14, trivial, equal15, trivial, equal16, trivial, equal17, trivial, equal18, trivial, equal19, trivial, equal20, trivial, equal21, trivial, equal22, trivial, equal23,
    IdealRules.named_const.statement Cert.Kernel24Ideal.κ "gelu_a" .f32 0x3D372713#32 _ rfl, equal24, trivial, equal25, trivial, equal26⟩

end Cert.Proof

end
